-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptRefIdeal (m : (ℓ : Loc Cert.PromptRefIdeal.nD Cert.PromptRefIdeal.τ Cert.PromptRefIdeal.sig) → Buf (Elt Ideal) ℓ) : Prop :=
  True

def Pre_PromptFfn (m : (ℓ : Loc Cert.PromptFfn.nD Cert.PromptFfn.τ Cert.PromptFfn.sig) → Buf (Elt Bits) ℓ) : Prop :=
  True

def Pre_PromptFfnIdeal (m : (ℓ : Loc Cert.PromptFfnIdeal.nD Cert.PromptFfnIdeal.τ Cert.PromptFfnIdeal.sig) → Buf (Elt Ideal) ℓ) : Prop :=
  True

def Pre_PromptFfnRefIdeal (m : (ℓ : Loc Cert.PromptFfnRefIdeal.nD Cert.PromptFfnRefIdeal.τ Cert.PromptFfnRefIdeal.sig) → Buf (Elt Ideal) ℓ) : Prop :=
  True

def Pre_Disc (m : (ℓ : Loc Cert.Disc.nD Cert.Disc.τ Cert.Disc.sig) → Buf (Elt Bits) ℓ) : Prop :=
  True

def Pre_DiscIdeal (m : (ℓ : Loc Cert.DiscIdeal.nD Cert.DiscIdeal.τ Cert.DiscIdeal.sig) → Buf (Elt Ideal) ℓ) : Prop :=
  True

def Pre_DiscRefIdeal (m : (ℓ : Loc Cert.DiscRefIdeal.nD Cert.DiscRefIdeal.τ Cert.DiscRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_RopeSample (m : (ℓ : Loc Cert.RopeSample.nD Cert.RopeSample.τ Cert.RopeSample.sig) → Buf (Elt Bits) ℓ) : Prop :=
  True

def Pre_RopeSampleIdeal (m : (ℓ : Loc Cert.RopeSampleIdeal.nD Cert.RopeSampleIdeal.τ Cert.RopeSampleIdeal.sig) → Buf (Elt Ideal) ℓ) : Prop :=
  True

def Pre_RopeSampleRefIdeal (m : (ℓ : Loc Cert.RopeSampleRefIdeal.nD Cert.RopeSampleRefIdeal.τ Cert.RopeSampleRefIdeal.sig) → Buf (Elt Ideal) ℓ) : Prop :=
  True

def Pre_Carry (m : (ℓ : Loc Cert.Carry.nD Cert.Carry.τ Cert.Carry.sig) → Buf (Elt Bits) ℓ) : Prop :=
  True

def Pre_CarryIdeal (m : (ℓ : Loc Cert.CarryIdeal.nD Cert.CarryIdeal.τ Cert.CarryIdeal.sig) → Buf (Elt Ideal) ℓ) : Prop :=
  True

def Pre_CarryRefIdeal (m : (ℓ : Loc Cert.CarryRefIdeal.nD Cert.CarryRefIdeal.τ Cert.CarryRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5)
      ∧ r.2.mem ((c.tc : Thread Cert.Prompt.nD Cert.Prompt.τ).loc Cert.Prompt.main_arg6) = m ((c.tc : Thread Cert.Prompt.nD Cert.Prompt.τ).loc Cert.Prompt.main_arg6)
      ∧ r.2.mem ((c.tc : Thread Cert.Prompt.nD Cert.Prompt.τ).loc Cert.Prompt.main_arg7) = m ((c.tc : Thread Cert.Prompt.nD Cert.Prompt.τ).loc Cert.Prompt.main_arg7))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
      ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7))
      ∧ r.2.sem = fun _ => 0)

def quiescent_PromptRefIdeal [hPromptRefIdeal : Cert.PromptRefIdeal.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1)
      ∧ r.2.mem ((c.tc : Thread Cert.PromptRefIdeal.nD Cert.PromptRefIdeal.τ).loc Cert.PromptRefIdeal.main_arg2) = m ((c.tc : Thread Cert.PromptRefIdeal.nD Cert.PromptRefIdeal.τ).loc Cert.PromptRefIdeal.main_arg2)
      ∧ r.2.mem ((c.tc : Thread Cert.PromptRefIdeal.nD Cert.PromptRefIdeal.τ).loc Cert.PromptRefIdeal.main_arg3) = m ((c.tc : Thread Cert.PromptRefIdeal.nD Cert.PromptRefIdeal.τ).loc Cert.PromptRefIdeal.main_arg3)
      ∧ r.2.mem ((c.tc : Thread Cert.PromptRefIdeal.nD Cert.PromptRefIdeal.τ).loc Cert.PromptRefIdeal.main_arg4) = m ((c.tc : Thread Cert.PromptRefIdeal.nD Cert.PromptRefIdeal.τ).loc Cert.PromptRefIdeal.main_arg4)
      ∧ r.2.mem ((c.tc : Thread Cert.PromptRefIdeal.nD Cert.PromptRefIdeal.τ).loc Cert.PromptRefIdeal.main_arg5) = m ((c.tc : Thread Cert.PromptRefIdeal.nD Cert.PromptRefIdeal.τ).loc Cert.PromptRefIdeal.main_arg5)
      ∧ r.2.mem ((c.tc : Thread Cert.PromptRefIdeal.nD Cert.PromptRefIdeal.τ).loc Cert.PromptRefIdeal.main_arg6) = m ((c.tc : Thread Cert.PromptRefIdeal.nD Cert.PromptRefIdeal.τ).loc Cert.PromptRefIdeal.main_arg6)
      ∧ r.2.mem ((c.tc : Thread Cert.PromptRefIdeal.nD Cert.PromptRefIdeal.τ).loc Cert.PromptRefIdeal.main_arg7) = m ((c.tc : Thread Cert.PromptRefIdeal.nD Cert.PromptRefIdeal.τ).loc Cert.PromptRefIdeal.main_arg7))
      ∧ r.2.sem = fun _ => 0)

def quiescent_PromptFfn [hPromptFfn : Cert.PromptFfn.Facts] : Prop :=
  ∀ (m : (ℓ : Loc Cert.PromptFfn.nD Cert.PromptFfn.τ Cert.PromptFfn.sig) → Buf (Elt Bits) ℓ) (g : Dev Cert.PromptFfn.nD → PrngReg), Pre_PromptFfn m →
    θ_run (Cert.PromptFfn.defs (F := Bits)) (onTc (τ := Cert.PromptFfn.τ) (Cert.PromptFfn.main (F := Bits))) ⟨m, fun _ => 0, g⟩ (fun r => (∀ c : Dev Cert.PromptFfn.nD,
      r.2.mem ((c.tc : Thread Cert.PromptFfn.nD Cert.PromptFfn.τ).loc Cert.PromptFfn.main_arg0) = m ((c.tc : Thread Cert.PromptFfn.nD Cert.PromptFfn.τ).loc Cert.PromptFfn.main_arg0)
      ∧ r.2.mem ((c.tc : Thread Cert.PromptFfn.nD Cert.PromptFfn.τ).loc Cert.PromptFfn.main_arg1) = m ((c.tc : Thread Cert.PromptFfn.nD Cert.PromptFfn.τ).loc Cert.PromptFfn.main_arg1)
      ∧ r.2.mem ((c.tc : Thread Cert.PromptFfn.nD Cert.PromptFfn.τ).loc Cert.PromptFfn.main_arg2) = m ((c.tc : Thread Cert.PromptFfn.nD Cert.PromptFfn.τ).loc Cert.PromptFfn.main_arg2)
      ∧ r.2.mem ((c.tc : Thread Cert.PromptFfn.nD Cert.PromptFfn.τ).loc Cert.PromptFfn.main_arg3) = m ((c.tc : Thread Cert.PromptFfn.nD Cert.PromptFfn.τ).loc Cert.PromptFfn.main_arg3)
      ∧ r.2.mem ((c.tc : Thread Cert.PromptFfn.nD Cert.PromptFfn.τ).loc Cert.PromptFfn.main_arg4) = m ((c.tc : Thread Cert.PromptFfn.nD Cert.PromptFfn.τ).loc Cert.PromptFfn.main_arg4)
      ∧ r.2.mem ((c.tc : Thread Cert.PromptFfn.nD Cert.PromptFfn.τ).loc Cert.PromptFfn.main_arg5) = m ((c.tc : Thread Cert.PromptFfn.nD Cert.PromptFfn.τ).loc Cert.PromptFfn.main_arg5)
      ∧ r.2.mem ((c.tc : Thread Cert.PromptFfn.nD Cert.PromptFfn.τ).loc Cert.PromptFfn.main_arg6) = m ((c.tc : Thread Cert.PromptFfn.nD Cert.PromptFfn.τ).loc Cert.PromptFfn.main_arg6)
      ∧ r.2.mem ((c.tc : Thread Cert.PromptFfn.nD Cert.PromptFfn.τ).loc Cert.PromptFfn.main_arg7) = m ((c.tc : Thread Cert.PromptFfn.nD Cert.PromptFfn.τ).loc Cert.PromptFfn.main_arg7))
      ∧ r.2.sem = fun _ => 0)

def quiescent_PromptFfnIdeal [hPromptFfnIdeal : Cert.PromptFfnIdeal.Facts] : Prop :=
  ∀ (m : (ℓ : Loc Cert.PromptFfnIdeal.nD Cert.PromptFfnIdeal.τ Cert.PromptFfnIdeal.sig) → Buf (Elt Ideal) ℓ) (g : Dev Cert.PromptFfnIdeal.nD → PrngReg), Pre_PromptFfnIdeal m →
    θ_run (Cert.PromptFfnIdeal.defs (F := Ideal)) (onTc (τ := Cert.PromptFfnIdeal.τ) (Cert.PromptFfnIdeal.main (F := Ideal))) ⟨m, fun _ => 0, g⟩ (fun r => (∀ c : Dev Cert.PromptFfnIdeal.nD,
      r.2.mem ((c.tc : Thread Cert.PromptFfnIdeal.nD Cert.PromptFfnIdeal.τ).loc Cert.PromptFfnIdeal.main_arg0) = m ((c.tc : Thread Cert.PromptFfnIdeal.nD Cert.PromptFfnIdeal.τ).loc Cert.PromptFfnIdeal.main_arg0)
      ∧ r.2.mem ((c.tc : Thread Cert.PromptFfnIdeal.nD Cert.PromptFfnIdeal.τ).loc Cert.PromptFfnIdeal.main_arg1) = m ((c.tc : Thread Cert.PromptFfnIdeal.nD Cert.PromptFfnIdeal.τ).loc Cert.PromptFfnIdeal.main_arg1)
      ∧ r.2.mem ((c.tc : Thread Cert.PromptFfnIdeal.nD Cert.PromptFfnIdeal.τ).loc Cert.PromptFfnIdeal.main_arg2) = m ((c.tc : Thread Cert.PromptFfnIdeal.nD Cert.PromptFfnIdeal.τ).loc Cert.PromptFfnIdeal.main_arg2)
      ∧ r.2.mem ((c.tc : Thread Cert.PromptFfnIdeal.nD Cert.PromptFfnIdeal.τ).loc Cert.PromptFfnIdeal.main_arg3) = m ((c.tc : Thread Cert.PromptFfnIdeal.nD Cert.PromptFfnIdeal.τ).loc Cert.PromptFfnIdeal.main_arg3)
      ∧ r.2.mem ((c.tc : Thread Cert.PromptFfnIdeal.nD Cert.PromptFfnIdeal.τ).loc Cert.PromptFfnIdeal.main_arg4) = m ((c.tc : Thread Cert.PromptFfnIdeal.nD Cert.PromptFfnIdeal.τ).loc Cert.PromptFfnIdeal.main_arg4)
      ∧ r.2.mem ((c.tc : Thread Cert.PromptFfnIdeal.nD Cert.PromptFfnIdeal.τ).loc Cert.PromptFfnIdeal.main_arg5) = m ((c.tc : Thread Cert.PromptFfnIdeal.nD Cert.PromptFfnIdeal.τ).loc Cert.PromptFfnIdeal.main_arg5)
      ∧ r.2.mem ((c.tc : Thread Cert.PromptFfnIdeal.nD Cert.PromptFfnIdeal.τ).loc Cert.PromptFfnIdeal.main_arg6) = m ((c.tc : Thread Cert.PromptFfnIdeal.nD Cert.PromptFfnIdeal.τ).loc Cert.PromptFfnIdeal.main_arg6)
      ∧ r.2.mem ((c.tc : Thread Cert.PromptFfnIdeal.nD Cert.PromptFfnIdeal.τ).loc Cert.PromptFfnIdeal.main_arg7) = m ((c.tc : Thread Cert.PromptFfnIdeal.nD Cert.PromptFfnIdeal.τ).loc Cert.PromptFfnIdeal.main_arg7))
      ∧ r.2.sem = fun _ => 0)

def quiescent_PromptFfnRefIdeal [hPromptFfnRefIdeal : Cert.PromptFfnRefIdeal.Facts] : Prop :=
  ∀ (m : (ℓ : Loc Cert.PromptFfnRefIdeal.nD Cert.PromptFfnRefIdeal.τ Cert.PromptFfnRefIdeal.sig) → Buf (Elt Ideal) ℓ) (g : Dev Cert.PromptFfnRefIdeal.nD → PrngReg), Pre_PromptFfnRefIdeal m →
    θ_run (Cert.PromptFfnRefIdeal.defs (F := Ideal)) (onTc (τ := Cert.PromptFfnRefIdeal.τ) (Cert.PromptFfnRefIdeal.main (F := Ideal))) ⟨m, fun _ => 0, g⟩ (fun r => (∀ c : Dev Cert.PromptFfnRefIdeal.nD,
      r.2.mem ((c.tc : Thread Cert.PromptFfnRefIdeal.nD Cert.PromptFfnRefIdeal.τ).loc Cert.PromptFfnRefIdeal.main_arg0) = m ((c.tc : Thread Cert.PromptFfnRefIdeal.nD Cert.PromptFfnRefIdeal.τ).loc Cert.PromptFfnRefIdeal.main_arg0)
      ∧ r.2.mem ((c.tc : Thread Cert.PromptFfnRefIdeal.nD Cert.PromptFfnRefIdeal.τ).loc Cert.PromptFfnRefIdeal.main_arg1) = m ((c.tc : Thread Cert.PromptFfnRefIdeal.nD Cert.PromptFfnRefIdeal.τ).loc Cert.PromptFfnRefIdeal.main_arg1)
      ∧ r.2.mem ((c.tc : Thread Cert.PromptFfnRefIdeal.nD Cert.PromptFfnRefIdeal.τ).loc Cert.PromptFfnRefIdeal.main_arg2) = m ((c.tc : Thread Cert.PromptFfnRefIdeal.nD Cert.PromptFfnRefIdeal.τ).loc Cert.PromptFfnRefIdeal.main_arg2)
      ∧ r.2.mem ((c.tc : Thread Cert.PromptFfnRefIdeal.nD Cert.PromptFfnRefIdeal.τ).loc Cert.PromptFfnRefIdeal.main_arg3) = m ((c.tc : Thread Cert.PromptFfnRefIdeal.nD Cert.PromptFfnRefIdeal.τ).loc Cert.PromptFfnRefIdeal.main_arg3)
      ∧ r.2.mem ((c.tc : Thread Cert.PromptFfnRefIdeal.nD Cert.PromptFfnRefIdeal.τ).loc Cert.PromptFfnRefIdeal.main_arg4) = m ((c.tc : Thread Cert.PromptFfnRefIdeal.nD Cert.PromptFfnRefIdeal.τ).loc Cert.PromptFfnRefIdeal.main_arg4)
      ∧ r.2.mem ((c.tc : Thread Cert.PromptFfnRefIdeal.nD Cert.PromptFfnRefIdeal.τ).loc Cert.PromptFfnRefIdeal.main_arg5) = m ((c.tc : Thread Cert.PromptFfnRefIdeal.nD Cert.PromptFfnRefIdeal.τ).loc Cert.PromptFfnRefIdeal.main_arg5)
      ∧ r.2.mem ((c.tc : Thread Cert.PromptFfnRefIdeal.nD Cert.PromptFfnRefIdeal.τ).loc Cert.PromptFfnRefIdeal.main_arg6) = m ((c.tc : Thread Cert.PromptFfnRefIdeal.nD Cert.PromptFfnRefIdeal.τ).loc Cert.PromptFfnRefIdeal.main_arg6)
      ∧ r.2.mem ((c.tc : Thread Cert.PromptFfnRefIdeal.nD Cert.PromptFfnRefIdeal.τ).loc Cert.PromptFfnRefIdeal.main_arg7) = m ((c.tc : Thread Cert.PromptFfnRefIdeal.nD Cert.PromptFfnRefIdeal.τ).loc Cert.PromptFfnRefIdeal.main_arg7))
      ∧ r.2.sem = fun _ => 0)

def quiescent_Disc [hDisc : Cert.Disc.Facts] : Prop :=
  ∀ (m : (ℓ : Loc Cert.Disc.nD Cert.Disc.τ Cert.Disc.sig) → Buf (Elt Bits) ℓ) (g : Dev Cert.Disc.nD → PrngReg), Pre_Disc m →
    θ_run (Cert.Disc.defs (F := Bits)) (onTc (τ := Cert.Disc.τ) (Cert.Disc.main (F := Bits))) ⟨m, fun _ => 0, g⟩ (fun r => (∀ c : Dev Cert.Disc.nD,
      r.2.mem ((c.tc : Thread Cert.Disc.nD Cert.Disc.τ).loc Cert.Disc.main_arg0) = m ((c.tc : Thread Cert.Disc.nD Cert.Disc.τ).loc Cert.Disc.main_arg0)
      ∧ r.2.mem ((c.tc : Thread Cert.Disc.nD Cert.Disc.τ).loc Cert.Disc.main_arg1) = m ((c.tc : Thread Cert.Disc.nD Cert.Disc.τ).loc Cert.Disc.main_arg1)
      ∧ r.2.mem ((c.tc : Thread Cert.Disc.nD Cert.Disc.τ).loc Cert.Disc.main_arg2) = m ((c.tc : Thread Cert.Disc.nD Cert.Disc.τ).loc Cert.Disc.main_arg2)
      ∧ r.2.mem ((c.tc : Thread Cert.Disc.nD Cert.Disc.τ).loc Cert.Disc.main_arg3) = m ((c.tc : Thread Cert.Disc.nD Cert.Disc.τ).loc Cert.Disc.main_arg3))
      ∧ r.2.sem = fun _ => 0)

def quiescent_DiscIdeal [hDiscIdeal : Cert.DiscIdeal.Facts] : Prop :=
  ∀ (m : (ℓ : Loc Cert.DiscIdeal.nD Cert.DiscIdeal.τ Cert.DiscIdeal.sig) → Buf (Elt Ideal) ℓ) (g : Dev Cert.DiscIdeal.nD → PrngReg), Pre_DiscIdeal m →
    θ_run (Cert.DiscIdeal.defs (F := Ideal)) (onTc (τ := Cert.DiscIdeal.τ) (Cert.DiscIdeal.main (F := Ideal))) ⟨m, fun _ => 0, g⟩ (fun r => (∀ c : Dev Cert.DiscIdeal.nD,
      r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
      ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
      ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2)
      ∧ r.2.mem ((c.tc : Thread Cert.DiscIdeal.nD Cert.DiscIdeal.τ).loc Cert.DiscIdeal.main_arg3) = m ((c.tc : Thread Cert.DiscIdeal.nD Cert.DiscIdeal.τ).loc Cert.DiscIdeal.main_arg3))
      ∧ r.2.sem = fun _ => 0)

def quiescent_DiscRefIdeal [hDiscRefIdeal : Cert.DiscRefIdeal.Facts] : Prop :=
  ∀ (m : (ℓ : Loc Cert.DiscRefIdeal.nD Cert.DiscRefIdeal.τ Cert.DiscRefIdeal.sig) → Buf (Elt Ideal) ℓ) (g : Dev Cert.DiscRefIdeal.nD → PrngReg), Pre_DiscRefIdeal m →
    θ_run (Cert.DiscRefIdeal.defs (F := Ideal)) (onTc (τ := Cert.DiscRefIdeal.τ) (Cert.DiscRefIdeal.main (F := Ideal))) ⟨m, fun _ => 0, g⟩ (fun r => (∀ c : Dev Cert.DiscRefIdeal.nD,
      r.2.mem ((c.tc : Thread Cert.DiscRefIdeal.nD Cert.DiscRefIdeal.τ).loc Cert.DiscRefIdeal.main_arg0) = m ((c.tc : Thread Cert.DiscRefIdeal.nD Cert.DiscRefIdeal.τ).loc Cert.DiscRefIdeal.main_arg0)
      ∧ r.2.mem ((c.tc : Thread Cert.DiscRefIdeal.nD Cert.DiscRefIdeal.τ).loc Cert.DiscRefIdeal.main_arg1) = m ((c.tc : Thread Cert.DiscRefIdeal.nD Cert.DiscRefIdeal.τ).loc Cert.DiscRefIdeal.main_arg1)
      ∧ r.2.mem ((c.tc : Thread Cert.DiscRefIdeal.nD Cert.DiscRefIdeal.τ).loc Cert.DiscRefIdeal.main_arg2) = m ((c.tc : Thread Cert.DiscRefIdeal.nD Cert.DiscRefIdeal.τ).loc Cert.DiscRefIdeal.main_arg2)
      ∧ r.2.mem ((c.tc : Thread Cert.DiscRefIdeal.nD Cert.DiscRefIdeal.τ).loc Cert.DiscRefIdeal.main_arg3) = m ((c.tc : Thread Cert.DiscRefIdeal.nD Cert.DiscRefIdeal.τ).loc Cert.DiscRefIdeal.main_arg3))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      True)
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      True)
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      True)
      ∧ r.2.sem = fun _ => 0)

def quiescent_RopeSample [hRopeSample : Cert.RopeSample.Facts] : Prop :=
  ∀ (m : (ℓ : Loc Cert.RopeSample.nD Cert.RopeSample.τ Cert.RopeSample.sig) → Buf (Elt Bits) ℓ) (g : Dev Cert.RopeSample.nD → PrngReg), Pre_RopeSample m →
    θ_run (Cert.RopeSample.defs (F := Bits)) (onTc (τ := Cert.RopeSample.τ) (Cert.RopeSample.main (F := Bits))) ⟨m, fun _ => 0, g⟩ (fun r => (∀ c : Dev Cert.RopeSample.nD,
      True)
      ∧ r.2.sem = fun _ => 0)

def quiescent_RopeSampleIdeal [hRopeSampleIdeal : Cert.RopeSampleIdeal.Facts] : Prop :=
  ∀ (m : (ℓ : Loc Cert.RopeSampleIdeal.nD Cert.RopeSampleIdeal.τ Cert.RopeSampleIdeal.sig) → Buf (Elt Ideal) ℓ) (g : Dev Cert.RopeSampleIdeal.nD → PrngReg), Pre_RopeSampleIdeal m →
    θ_run (Cert.RopeSampleIdeal.defs (F := Ideal)) (onTc (τ := Cert.RopeSampleIdeal.τ) (Cert.RopeSampleIdeal.main (F := Ideal))) ⟨m, fun _ => 0, g⟩ (fun r => (∀ c : Dev Cert.RopeSampleIdeal.nD,
      True)
      ∧ r.2.sem = fun _ => 0)

def quiescent_RopeSampleRefIdeal [hRopeSampleRefIdeal : Cert.RopeSampleRefIdeal.Facts] : Prop :=
  ∀ (m : (ℓ : Loc Cert.RopeSampleRefIdeal.nD Cert.RopeSampleRefIdeal.τ Cert.RopeSampleRefIdeal.sig) → Buf (Elt Ideal) ℓ) (g : Dev Cert.RopeSampleRefIdeal.nD → PrngReg), Pre_RopeSampleRefIdeal m →
    θ_run (Cert.RopeSampleRefIdeal.defs (F := Ideal)) (onTc (τ := Cert.RopeSampleRefIdeal.τ) (Cert.RopeSampleRefIdeal.main (F := Ideal))) ⟨m, fun _ => 0, g⟩ (fun r => (∀ c : Dev Cert.RopeSampleRefIdeal.nD,
      True)
      ∧ r.2.sem = fun _ => 0)

def quiescent_Carry [hCarry : Cert.Carry.Facts] : Prop :=
  ∀ (m : (ℓ : Loc Cert.Carry.nD Cert.Carry.τ Cert.Carry.sig) → Buf (Elt Bits) ℓ) (g : Dev Cert.Carry.nD → PrngReg), Pre_Carry m →
    θ_run (Cert.Carry.defs (F := Bits)) (onTc (τ := Cert.Carry.τ) (Cert.Carry.main (F := Bits))) ⟨m, fun _ => 0, g⟩ (fun r => (∀ c : Dev Cert.Carry.nD,
      r.2.mem ((c.tc : Thread Cert.Carry.nD Cert.Carry.τ).loc Cert.Carry.main_arg0) = m ((c.tc : Thread Cert.Carry.nD Cert.Carry.τ).loc Cert.Carry.main_arg0)
      ∧ r.2.mem ((c.tc : Thread Cert.Carry.nD Cert.Carry.τ).loc Cert.Carry.main_arg1) = m ((c.tc : Thread Cert.Carry.nD Cert.Carry.τ).loc Cert.Carry.main_arg1)
      ∧ r.2.mem ((c.tc : Thread Cert.Carry.nD Cert.Carry.τ).loc Cert.Carry.main_arg2) = m ((c.tc : Thread Cert.Carry.nD Cert.Carry.τ).loc Cert.Carry.main_arg2)
      ∧ r.2.mem ((c.tc : Thread Cert.Carry.nD Cert.Carry.τ).loc Cert.Carry.main_arg3) = m ((c.tc : Thread Cert.Carry.nD Cert.Carry.τ).loc Cert.Carry.main_arg3)
      ∧ r.2.mem ((c.tc : Thread Cert.Carry.nD Cert.Carry.τ).loc Cert.Carry.main_arg4) = m ((c.tc : Thread Cert.Carry.nD Cert.Carry.τ).loc Cert.Carry.main_arg4)
      ∧ r.2.mem ((c.tc : Thread Cert.Carry.nD Cert.Carry.τ).loc Cert.Carry.main_arg5) = m ((c.tc : Thread Cert.Carry.nD Cert.Carry.τ).loc Cert.Carry.main_arg5)
      ∧ r.2.mem ((c.tc : Thread Cert.Carry.nD Cert.Carry.τ).loc Cert.Carry.main_arg6) = m ((c.tc : Thread Cert.Carry.nD Cert.Carry.τ).loc Cert.Carry.main_arg6)
      ∧ r.2.mem ((c.tc : Thread Cert.Carry.nD Cert.Carry.τ).loc Cert.Carry.main_arg7) = m ((c.tc : Thread Cert.Carry.nD Cert.Carry.τ).loc Cert.Carry.main_arg7)
      ∧ r.2.mem ((c.tc : Thread Cert.Carry.nD Cert.Carry.τ).loc Cert.Carry.main_arg8) = m ((c.tc : Thread Cert.Carry.nD Cert.Carry.τ).loc Cert.Carry.main_arg8)
      ∧ r.2.mem ((c.tc : Thread Cert.Carry.nD Cert.Carry.τ).loc Cert.Carry.main_arg9) = m ((c.tc : Thread Cert.Carry.nD Cert.Carry.τ).loc Cert.Carry.main_arg9)
      ∧ r.2.mem ((c.tc : Thread Cert.Carry.nD Cert.Carry.τ).loc Cert.Carry.main_arg10) = m ((c.tc : Thread Cert.Carry.nD Cert.Carry.τ).loc Cert.Carry.main_arg10)
      ∧ r.2.mem ((c.tc : Thread Cert.Carry.nD Cert.Carry.τ).loc Cert.Carry.main_arg11) = m ((c.tc : Thread Cert.Carry.nD Cert.Carry.τ).loc Cert.Carry.main_arg11)
      ∧ r.2.mem ((c.tc : Thread Cert.Carry.nD Cert.Carry.τ).loc Cert.Carry.main_arg12) = m ((c.tc : Thread Cert.Carry.nD Cert.Carry.τ).loc Cert.Carry.main_arg12)
      ∧ r.2.mem ((c.tc : Thread Cert.Carry.nD Cert.Carry.τ).loc Cert.Carry.main_arg13) = m ((c.tc : Thread Cert.Carry.nD Cert.Carry.τ).loc Cert.Carry.main_arg13)
      ∧ r.2.mem ((c.tc : Thread Cert.Carry.nD Cert.Carry.τ).loc Cert.Carry.main_arg14) = m ((c.tc : Thread Cert.Carry.nD Cert.Carry.τ).loc Cert.Carry.main_arg14)
      ∧ r.2.mem ((c.tc : Thread Cert.Carry.nD Cert.Carry.τ).loc Cert.Carry.main_arg15) = m ((c.tc : Thread Cert.Carry.nD Cert.Carry.τ).loc Cert.Carry.main_arg15)
      ∧ r.2.mem ((c.tc : Thread Cert.Carry.nD Cert.Carry.τ).loc Cert.Carry.main_arg16) = m ((c.tc : Thread Cert.Carry.nD Cert.Carry.τ).loc Cert.Carry.main_arg16)
      ∧ r.2.mem ((c.tc : Thread Cert.Carry.nD Cert.Carry.τ).loc Cert.Carry.main_arg17) = m ((c.tc : Thread Cert.Carry.nD Cert.Carry.τ).loc Cert.Carry.main_arg17)
      ∧ r.2.mem ((c.tc : Thread Cert.Carry.nD Cert.Carry.τ).loc Cert.Carry.main_arg18) = m ((c.tc : Thread Cert.Carry.nD Cert.Carry.τ).loc Cert.Carry.main_arg18)
      ∧ r.2.mem ((c.tc : Thread Cert.Carry.nD Cert.Carry.τ).loc Cert.Carry.main_arg19) = m ((c.tc : Thread Cert.Carry.nD Cert.Carry.τ).loc Cert.Carry.main_arg19)
      ∧ r.2.mem ((c.tc : Thread Cert.Carry.nD Cert.Carry.τ).loc Cert.Carry.main_arg20) = m ((c.tc : Thread Cert.Carry.nD Cert.Carry.τ).loc Cert.Carry.main_arg20)
      ∧ r.2.mem ((c.tc : Thread Cert.Carry.nD Cert.Carry.τ).loc Cert.Carry.main_arg21) = m ((c.tc : Thread Cert.Carry.nD Cert.Carry.τ).loc Cert.Carry.main_arg21)
      ∧ r.2.mem ((c.tc : Thread Cert.Carry.nD Cert.Carry.τ).loc Cert.Carry.main_arg22) = m ((c.tc : Thread Cert.Carry.nD Cert.Carry.τ).loc Cert.Carry.main_arg22)
      ∧ r.2.mem ((c.tc : Thread Cert.Carry.nD Cert.Carry.τ).loc Cert.Carry.main_arg23) = m ((c.tc : Thread Cert.Carry.nD Cert.Carry.τ).loc Cert.Carry.main_arg23)
      ∧ r.2.mem ((c.tc : Thread Cert.Carry.nD Cert.Carry.τ).loc Cert.Carry.main_arg24) = m ((c.tc : Thread Cert.Carry.nD Cert.Carry.τ).loc Cert.Carry.main_arg24)
      ∧ r.2.mem ((c.tc : Thread Cert.Carry.nD Cert.Carry.τ).loc Cert.Carry.main_arg25) = m ((c.tc : Thread Cert.Carry.nD Cert.Carry.τ).loc Cert.Carry.main_arg25))
      ∧ r.2.sem = fun _ => 0)

def quiescent_CarryIdeal [hCarryIdeal : Cert.CarryIdeal.Facts] : Prop :=
  ∀ (m : (ℓ : Loc Cert.CarryIdeal.nD Cert.CarryIdeal.τ Cert.CarryIdeal.sig) → Buf (Elt Ideal) ℓ) (g : Dev Cert.CarryIdeal.nD → PrngReg), Pre_CarryIdeal m →
    θ_run (Cert.CarryIdeal.defs (F := Ideal)) (onTc (τ := Cert.CarryIdeal.τ) (Cert.CarryIdeal.main (F := Ideal))) ⟨m, fun _ => 0, g⟩ (fun r => (∀ c : Dev Cert.CarryIdeal.nD,
      r.2.mem ((c.tc : Thread Cert.CarryIdeal.nD Cert.CarryIdeal.τ).loc Cert.CarryIdeal.main_arg0) = m ((c.tc : Thread Cert.CarryIdeal.nD Cert.CarryIdeal.τ).loc Cert.CarryIdeal.main_arg0)
      ∧ r.2.mem ((c.tc : Thread Cert.CarryIdeal.nD Cert.CarryIdeal.τ).loc Cert.CarryIdeal.main_arg1) = m ((c.tc : Thread Cert.CarryIdeal.nD Cert.CarryIdeal.τ).loc Cert.CarryIdeal.main_arg1)
      ∧ r.2.mem ((c.tc : Thread Cert.CarryIdeal.nD Cert.CarryIdeal.τ).loc Cert.CarryIdeal.main_arg2) = m ((c.tc : Thread Cert.CarryIdeal.nD Cert.CarryIdeal.τ).loc Cert.CarryIdeal.main_arg2)
      ∧ r.2.mem ((c.tc : Thread Cert.CarryIdeal.nD Cert.CarryIdeal.τ).loc Cert.CarryIdeal.main_arg3) = m ((c.tc : Thread Cert.CarryIdeal.nD Cert.CarryIdeal.τ).loc Cert.CarryIdeal.main_arg3)
      ∧ r.2.mem ((c.tc : Thread Cert.CarryIdeal.nD Cert.CarryIdeal.τ).loc Cert.CarryIdeal.main_arg4) = m ((c.tc : Thread Cert.CarryIdeal.nD Cert.CarryIdeal.τ).loc Cert.CarryIdeal.main_arg4)
      ∧ r.2.mem ((c.tc : Thread Cert.CarryIdeal.nD Cert.CarryIdeal.τ).loc Cert.CarryIdeal.main_arg5) = m ((c.tc : Thread Cert.CarryIdeal.nD Cert.CarryIdeal.τ).loc Cert.CarryIdeal.main_arg5)
      ∧ r.2.mem ((c.tc : Thread Cert.CarryIdeal.nD Cert.CarryIdeal.τ).loc Cert.CarryIdeal.main_arg6) = m ((c.tc : Thread Cert.CarryIdeal.nD Cert.CarryIdeal.τ).loc Cert.CarryIdeal.main_arg6)
      ∧ r.2.mem ((c.tc : Thread Cert.CarryIdeal.nD Cert.CarryIdeal.τ).loc Cert.CarryIdeal.main_arg7) = m ((c.tc : Thread Cert.CarryIdeal.nD Cert.CarryIdeal.τ).loc Cert.CarryIdeal.main_arg7)
      ∧ r.2.mem ((c.tc : Thread Cert.CarryIdeal.nD Cert.CarryIdeal.τ).loc Cert.CarryIdeal.main_arg8) = m ((c.tc : Thread Cert.CarryIdeal.nD Cert.CarryIdeal.τ).loc Cert.CarryIdeal.main_arg8)
      ∧ r.2.mem ((c.tc : Thread Cert.CarryIdeal.nD Cert.CarryIdeal.τ).loc Cert.CarryIdeal.main_arg9) = m ((c.tc : Thread Cert.CarryIdeal.nD Cert.CarryIdeal.τ).loc Cert.CarryIdeal.main_arg9)
      ∧ r.2.mem ((c.tc : Thread Cert.CarryIdeal.nD Cert.CarryIdeal.τ).loc Cert.CarryIdeal.main_arg10) = m ((c.tc : Thread Cert.CarryIdeal.nD Cert.CarryIdeal.τ).loc Cert.CarryIdeal.main_arg10)
      ∧ r.2.mem ((c.tc : Thread Cert.CarryIdeal.nD Cert.CarryIdeal.τ).loc Cert.CarryIdeal.main_arg11) = m ((c.tc : Thread Cert.CarryIdeal.nD Cert.CarryIdeal.τ).loc Cert.CarryIdeal.main_arg11)
      ∧ r.2.mem ((c.tc : Thread Cert.CarryIdeal.nD Cert.CarryIdeal.τ).loc Cert.CarryIdeal.main_arg12) = m ((c.tc : Thread Cert.CarryIdeal.nD Cert.CarryIdeal.τ).loc Cert.CarryIdeal.main_arg12)
      ∧ r.2.mem ((c.tc : Thread Cert.CarryIdeal.nD Cert.CarryIdeal.τ).loc Cert.CarryIdeal.main_arg13) = m ((c.tc : Thread Cert.CarryIdeal.nD Cert.CarryIdeal.τ).loc Cert.CarryIdeal.main_arg13)
      ∧ r.2.mem ((c.tc : Thread Cert.CarryIdeal.nD Cert.CarryIdeal.τ).loc Cert.CarryIdeal.main_arg14) = m ((c.tc : Thread Cert.CarryIdeal.nD Cert.CarryIdeal.τ).loc Cert.CarryIdeal.main_arg14)
      ∧ r.2.mem ((c.tc : Thread Cert.CarryIdeal.nD Cert.CarryIdeal.τ).loc Cert.CarryIdeal.main_arg15) = m ((c.tc : Thread Cert.CarryIdeal.nD Cert.CarryIdeal.τ).loc Cert.CarryIdeal.main_arg15)
      ∧ r.2.mem ((c.tc : Thread Cert.CarryIdeal.nD Cert.CarryIdeal.τ).loc Cert.CarryIdeal.main_arg16) = m ((c.tc : Thread Cert.CarryIdeal.nD Cert.CarryIdeal.τ).loc Cert.CarryIdeal.main_arg16)
      ∧ r.2.mem ((c.tc : Thread Cert.CarryIdeal.nD Cert.CarryIdeal.τ).loc Cert.CarryIdeal.main_arg17) = m ((c.tc : Thread Cert.CarryIdeal.nD Cert.CarryIdeal.τ).loc Cert.CarryIdeal.main_arg17)
      ∧ r.2.mem ((c.tc : Thread Cert.CarryIdeal.nD Cert.CarryIdeal.τ).loc Cert.CarryIdeal.main_arg18) = m ((c.tc : Thread Cert.CarryIdeal.nD Cert.CarryIdeal.τ).loc Cert.CarryIdeal.main_arg18)
      ∧ r.2.mem ((c.tc : Thread Cert.CarryIdeal.nD Cert.CarryIdeal.τ).loc Cert.CarryIdeal.main_arg19) = m ((c.tc : Thread Cert.CarryIdeal.nD Cert.CarryIdeal.τ).loc Cert.CarryIdeal.main_arg19)
      ∧ r.2.mem ((c.tc : Thread Cert.CarryIdeal.nD Cert.CarryIdeal.τ).loc Cert.CarryIdeal.main_arg20) = m ((c.tc : Thread Cert.CarryIdeal.nD Cert.CarryIdeal.τ).loc Cert.CarryIdeal.main_arg20)
      ∧ r.2.mem ((c.tc : Thread Cert.CarryIdeal.nD Cert.CarryIdeal.τ).loc Cert.CarryIdeal.main_arg21) = m ((c.tc : Thread Cert.CarryIdeal.nD Cert.CarryIdeal.τ).loc Cert.CarryIdeal.main_arg21)
      ∧ r.2.mem ((c.tc : Thread Cert.CarryIdeal.nD Cert.CarryIdeal.τ).loc Cert.CarryIdeal.main_arg22) = m ((c.tc : Thread Cert.CarryIdeal.nD Cert.CarryIdeal.τ).loc Cert.CarryIdeal.main_arg22)
      ∧ r.2.mem ((c.tc : Thread Cert.CarryIdeal.nD Cert.CarryIdeal.τ).loc Cert.CarryIdeal.main_arg23) = m ((c.tc : Thread Cert.CarryIdeal.nD Cert.CarryIdeal.τ).loc Cert.CarryIdeal.main_arg23)
      ∧ r.2.mem ((c.tc : Thread Cert.CarryIdeal.nD Cert.CarryIdeal.τ).loc Cert.CarryIdeal.main_arg24) = m ((c.tc : Thread Cert.CarryIdeal.nD Cert.CarryIdeal.τ).loc Cert.CarryIdeal.main_arg24)
      ∧ r.2.mem ((c.tc : Thread Cert.CarryIdeal.nD Cert.CarryIdeal.τ).loc Cert.CarryIdeal.main_arg25) = m ((c.tc : Thread Cert.CarryIdeal.nD Cert.CarryIdeal.τ).loc Cert.CarryIdeal.main_arg25))
      ∧ r.2.sem = fun _ => 0)

def quiescent_CarryRefIdeal [hCarryRefIdeal : Cert.CarryRefIdeal.Facts] : Prop :=
  ∀ (m : (ℓ : Loc Cert.CarryRefIdeal.nD Cert.CarryRefIdeal.τ Cert.CarryRefIdeal.sig) → Buf (Elt Ideal) ℓ) (g : Dev Cert.CarryRefIdeal.nD → PrngReg), Pre_CarryRefIdeal m →
    θ_run (Cert.CarryRefIdeal.defs (F := Ideal)) (onTc (τ := Cert.CarryRefIdeal.τ) (Cert.CarryRefIdeal.main (F := Ideal))) ⟨m, fun _ => 0, g⟩ (fun r => (∀ c : Dev Cert.CarryRefIdeal.nD,
      r.2.mem ((c.tc : Thread Cert.CarryRefIdeal.nD Cert.CarryRefIdeal.τ).loc Cert.CarryRefIdeal.main_arg0) = m ((c.tc : Thread Cert.CarryRefIdeal.nD Cert.CarryRefIdeal.τ).loc Cert.CarryRefIdeal.main_arg0)
      ∧ r.2.mem ((c.tc : Thread Cert.CarryRefIdeal.nD Cert.CarryRefIdeal.τ).loc Cert.CarryRefIdeal.main_arg1) = m ((c.tc : Thread Cert.CarryRefIdeal.nD Cert.CarryRefIdeal.τ).loc Cert.CarryRefIdeal.main_arg1)
      ∧ r.2.mem ((c.tc : Thread Cert.CarryRefIdeal.nD Cert.CarryRefIdeal.τ).loc Cert.CarryRefIdeal.main_arg2) = m ((c.tc : Thread Cert.CarryRefIdeal.nD Cert.CarryRefIdeal.τ).loc Cert.CarryRefIdeal.main_arg2)
      ∧ r.2.mem ((c.tc : Thread Cert.CarryRefIdeal.nD Cert.CarryRefIdeal.τ).loc Cert.CarryRefIdeal.main_arg3) = m ((c.tc : Thread Cert.CarryRefIdeal.nD Cert.CarryRefIdeal.τ).loc Cert.CarryRefIdeal.main_arg3)
      ∧ r.2.mem ((c.tc : Thread Cert.CarryRefIdeal.nD Cert.CarryRefIdeal.τ).loc Cert.CarryRefIdeal.main_arg4) = m ((c.tc : Thread Cert.CarryRefIdeal.nD Cert.CarryRefIdeal.τ).loc Cert.CarryRefIdeal.main_arg4)
      ∧ r.2.mem ((c.tc : Thread Cert.CarryRefIdeal.nD Cert.CarryRefIdeal.τ).loc Cert.CarryRefIdeal.main_arg5) = m ((c.tc : Thread Cert.CarryRefIdeal.nD Cert.CarryRefIdeal.τ).loc Cert.CarryRefIdeal.main_arg5)
      ∧ r.2.mem ((c.tc : Thread Cert.CarryRefIdeal.nD Cert.CarryRefIdeal.τ).loc Cert.CarryRefIdeal.main_arg6) = m ((c.tc : Thread Cert.CarryRefIdeal.nD Cert.CarryRefIdeal.τ).loc Cert.CarryRefIdeal.main_arg6)
      ∧ r.2.mem ((c.tc : Thread Cert.CarryRefIdeal.nD Cert.CarryRefIdeal.τ).loc Cert.CarryRefIdeal.main_arg7) = m ((c.tc : Thread Cert.CarryRefIdeal.nD Cert.CarryRefIdeal.τ).loc Cert.CarryRefIdeal.main_arg7)
      ∧ r.2.mem ((c.tc : Thread Cert.CarryRefIdeal.nD Cert.CarryRefIdeal.τ).loc Cert.CarryRefIdeal.main_arg8) = m ((c.tc : Thread Cert.CarryRefIdeal.nD Cert.CarryRefIdeal.τ).loc Cert.CarryRefIdeal.main_arg8)
      ∧ r.2.mem ((c.tc : Thread Cert.CarryRefIdeal.nD Cert.CarryRefIdeal.τ).loc Cert.CarryRefIdeal.main_arg9) = m ((c.tc : Thread Cert.CarryRefIdeal.nD Cert.CarryRefIdeal.τ).loc Cert.CarryRefIdeal.main_arg9)
      ∧ r.2.mem ((c.tc : Thread Cert.CarryRefIdeal.nD Cert.CarryRefIdeal.τ).loc Cert.CarryRefIdeal.main_arg10) = m ((c.tc : Thread Cert.CarryRefIdeal.nD Cert.CarryRefIdeal.τ).loc Cert.CarryRefIdeal.main_arg10)
      ∧ r.2.mem ((c.tc : Thread Cert.CarryRefIdeal.nD Cert.CarryRefIdeal.τ).loc Cert.CarryRefIdeal.main_arg11) = m ((c.tc : Thread Cert.CarryRefIdeal.nD Cert.CarryRefIdeal.τ).loc Cert.CarryRefIdeal.main_arg11)
      ∧ r.2.mem ((c.tc : Thread Cert.CarryRefIdeal.nD Cert.CarryRefIdeal.τ).loc Cert.CarryRefIdeal.main_arg12) = m ((c.tc : Thread Cert.CarryRefIdeal.nD Cert.CarryRefIdeal.τ).loc Cert.CarryRefIdeal.main_arg12)
      ∧ r.2.mem ((c.tc : Thread Cert.CarryRefIdeal.nD Cert.CarryRefIdeal.τ).loc Cert.CarryRefIdeal.main_arg13) = m ((c.tc : Thread Cert.CarryRefIdeal.nD Cert.CarryRefIdeal.τ).loc Cert.CarryRefIdeal.main_arg13)
      ∧ r.2.mem ((c.tc : Thread Cert.CarryRefIdeal.nD Cert.CarryRefIdeal.τ).loc Cert.CarryRefIdeal.main_arg14) = m ((c.tc : Thread Cert.CarryRefIdeal.nD Cert.CarryRefIdeal.τ).loc Cert.CarryRefIdeal.main_arg14)
      ∧ r.2.mem ((c.tc : Thread Cert.CarryRefIdeal.nD Cert.CarryRefIdeal.τ).loc Cert.CarryRefIdeal.main_arg15) = m ((c.tc : Thread Cert.CarryRefIdeal.nD Cert.CarryRefIdeal.τ).loc Cert.CarryRefIdeal.main_arg15)
      ∧ r.2.mem ((c.tc : Thread Cert.CarryRefIdeal.nD Cert.CarryRefIdeal.τ).loc Cert.CarryRefIdeal.main_arg16) = m ((c.tc : Thread Cert.CarryRefIdeal.nD Cert.CarryRefIdeal.τ).loc Cert.CarryRefIdeal.main_arg16)
      ∧ r.2.mem ((c.tc : Thread Cert.CarryRefIdeal.nD Cert.CarryRefIdeal.τ).loc Cert.CarryRefIdeal.main_arg17) = m ((c.tc : Thread Cert.CarryRefIdeal.nD Cert.CarryRefIdeal.τ).loc Cert.CarryRefIdeal.main_arg17)
      ∧ r.2.mem ((c.tc : Thread Cert.CarryRefIdeal.nD Cert.CarryRefIdeal.τ).loc Cert.CarryRefIdeal.main_arg18) = m ((c.tc : Thread Cert.CarryRefIdeal.nD Cert.CarryRefIdeal.τ).loc Cert.CarryRefIdeal.main_arg18)
      ∧ r.2.mem ((c.tc : Thread Cert.CarryRefIdeal.nD Cert.CarryRefIdeal.τ).loc Cert.CarryRefIdeal.main_arg19) = m ((c.tc : Thread Cert.CarryRefIdeal.nD Cert.CarryRefIdeal.τ).loc Cert.CarryRefIdeal.main_arg19)
      ∧ r.2.mem ((c.tc : Thread Cert.CarryRefIdeal.nD Cert.CarryRefIdeal.τ).loc Cert.CarryRefIdeal.main_arg20) = m ((c.tc : Thread Cert.CarryRefIdeal.nD Cert.CarryRefIdeal.τ).loc Cert.CarryRefIdeal.main_arg20)
      ∧ r.2.mem ((c.tc : Thread Cert.CarryRefIdeal.nD Cert.CarryRefIdeal.τ).loc Cert.CarryRefIdeal.main_arg21) = m ((c.tc : Thread Cert.CarryRefIdeal.nD Cert.CarryRefIdeal.τ).loc Cert.CarryRefIdeal.main_arg21)
      ∧ r.2.mem ((c.tc : Thread Cert.CarryRefIdeal.nD Cert.CarryRefIdeal.τ).loc Cert.CarryRefIdeal.main_arg22) = m ((c.tc : Thread Cert.CarryRefIdeal.nD Cert.CarryRefIdeal.τ).loc Cert.CarryRefIdeal.main_arg22)
      ∧ r.2.mem ((c.tc : Thread Cert.CarryRefIdeal.nD Cert.CarryRefIdeal.τ).loc Cert.CarryRefIdeal.main_arg23) = m ((c.tc : Thread Cert.CarryRefIdeal.nD Cert.CarryRefIdeal.τ).loc Cert.CarryRefIdeal.main_arg23)
      ∧ r.2.mem ((c.tc : Thread Cert.CarryRefIdeal.nD Cert.CarryRefIdeal.τ).loc Cert.CarryRefIdeal.main_arg24) = m ((c.tc : Thread Cert.CarryRefIdeal.nD Cert.CarryRefIdeal.τ).loc Cert.CarryRefIdeal.main_arg24)
      ∧ r.2.mem ((c.tc : Thread Cert.CarryRefIdeal.nD Cert.CarryRefIdeal.τ).loc Cert.CarryRefIdeal.main_arg25) = m ((c.tc : Thread Cert.CarryRefIdeal.nD Cert.CarryRefIdeal.τ).loc Cert.CarryRefIdeal.main_arg25))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v8_0)) (v1 : (c : Dev Cert.FfnIdeal.nD) → Buf (Elt Ideal) ((c.tc : Thread Cert.FfnIdeal.nD Cert.FfnIdeal.τ).loc Cert.FfnIdeal.main_v8_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8_0) = v0 c
          ∧ r.2.mem ((c.tc : Thread Cert.FfnIdeal.nD Cert.FfnIdeal.τ).loc Cert.FfnIdeal.main_v8_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v62) = v0 c
          ∧ r.2.mem ((c.tc : Thread Cert.FfnRefIdeal.nD Cert.FfnRefIdeal.τ).loc Cert.FfnRefIdeal.main_v65) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)
      ∧ m' ((c.tc : Thread Cert.LastRefIdeal.nD Cert.LastRefIdeal.τ).loc Cert.LastRefIdeal.main_arg7) = m ((c.tc : Thread Cert.LastIdeal.nD Cert.LastIdeal.τ).loc Cert.LastIdeal.main_arg7)) →
    ∃ (v0 : (c : Dev Cert.LastIdeal.nD) → Buf (Elt Ideal) ((c.tc : Thread Cert.LastIdeal.nD Cert.LastIdeal.τ).loc Cert.LastIdeal.main_v8_0)) (v1 : (c : Dev Cert.LastIdeal.nD) → Buf (Elt Ideal) ((c.tc : Thread Cert.LastIdeal.nD Cert.LastIdeal.τ).loc Cert.LastIdeal.main_v8_1)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v8_0) = v0 c
          ∧ r.2.mem ((c.tc : Thread Cert.LastIdeal.nD Cert.LastIdeal.τ).loc Cert.LastIdeal.main_v8_1) = v1 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v72) = v0 c
          ∧ r.2.mem ((c.tc : Thread Cert.LastRefIdeal.nD Cert.LastRefIdeal.τ).loc Cert.LastRefIdeal.main_v75) = v1 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6)
          ∧ r.2.mem ((c.tc : Thread Cert.LastRefIdeal.nD Cert.LastRefIdeal.τ).loc Cert.LastRefIdeal.main_arg7) = m' ((c.tc : Thread Cert.LastRefIdeal.nD Cert.LastRefIdeal.τ).loc Cert.LastRefIdeal.main_arg7))

def preserves_Prompt_PromptIdeal : Prop :=
  True

def algebraic_PromptIdeal_PromptRefIdeal [hPromptIdeal : Cert.PromptIdeal.Facts] [hPromptRefIdeal : Cert.PromptRefIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptRefIdeal.nD Cert.PromptRefIdeal.τ Cert.PromptRefIdeal.sig) → Buf (Elt Ideal) ℓ) (g' : Dev Cert.PromptRefIdeal.nD → PrngReg), Pre_PromptIdeal m →
    (∀ c : Dev Cert.PromptIdeal.nD,
      m' ((c.tc : Thread Cert.PromptRefIdeal.nD Cert.PromptRefIdeal.τ).loc Cert.PromptRefIdeal.main_arg0) = m ((c.tc : Thread Cert.PromptIdeal.nD Cert.PromptIdeal.τ).loc Cert.PromptIdeal.main_arg0)
      ∧ m' ((c.tc : Thread Cert.PromptRefIdeal.nD Cert.PromptRefIdeal.τ).loc Cert.PromptRefIdeal.main_arg1) = m ((c.tc : Thread Cert.PromptIdeal.nD Cert.PromptIdeal.τ).loc Cert.PromptIdeal.main_arg1)
      ∧ m' ((c.tc : Thread Cert.PromptRefIdeal.nD Cert.PromptRefIdeal.τ).loc Cert.PromptRefIdeal.main_arg2) = m ((c.tc : Thread Cert.PromptIdeal.nD Cert.PromptIdeal.τ).loc Cert.PromptIdeal.main_arg2)
      ∧ m' ((c.tc : Thread Cert.PromptRefIdeal.nD Cert.PromptRefIdeal.τ).loc Cert.PromptRefIdeal.main_arg3) = m ((c.tc : Thread Cert.PromptIdeal.nD Cert.PromptIdeal.τ).loc Cert.PromptIdeal.main_arg3)
      ∧ m' ((c.tc : Thread Cert.PromptRefIdeal.nD Cert.PromptRefIdeal.τ).loc Cert.PromptRefIdeal.main_arg4) = m ((c.tc : Thread Cert.PromptIdeal.nD Cert.PromptIdeal.τ).loc Cert.PromptIdeal.main_arg4)
      ∧ m' ((c.tc : Thread Cert.PromptRefIdeal.nD Cert.PromptRefIdeal.τ).loc Cert.PromptRefIdeal.main_arg5) = m ((c.tc : Thread Cert.PromptIdeal.nD Cert.PromptIdeal.τ).loc Cert.PromptIdeal.main_arg5)
      ∧ m' ((c.tc : Thread Cert.PromptRefIdeal.nD Cert.PromptRefIdeal.τ).loc Cert.PromptRefIdeal.main_arg6) = m ((c.tc : Thread Cert.PromptIdeal.nD Cert.PromptIdeal.τ).loc Cert.PromptIdeal.main_arg6)
      ∧ m' ((c.tc : Thread Cert.PromptRefIdeal.nD Cert.PromptRefIdeal.τ).loc Cert.PromptRefIdeal.main_arg7) = m ((c.tc : Thread Cert.PromptIdeal.nD Cert.PromptIdeal.τ).loc Cert.PromptIdeal.main_arg7)) →
    ∃ (v0 : (c : Dev Cert.PromptIdeal.nD) → Buf (Elt Ideal) ((c.tc : Thread Cert.PromptIdeal.nD Cert.PromptIdeal.τ).loc Cert.PromptIdeal.main_v8_0)) (v1 : (c : Dev Cert.PromptIdeal.nD) → Buf (Elt Ideal) ((c.tc : Thread Cert.PromptIdeal.nD Cert.PromptIdeal.τ).loc Cert.PromptIdeal.main_v8_1)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v8_0) = v0 c
          ∧ r.2.mem ((c.tc : Thread Cert.PromptIdeal.nD Cert.PromptIdeal.τ).loc Cert.PromptIdeal.main_v8_1) = v1 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
          ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
          ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
          ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7))
      ∧ θ_run (Cert.PromptRefIdeal.defs (F := Ideal)) (onTc (τ := Cert.PromptRefIdeal.τ) (Cert.PromptRefIdeal.main (F := Ideal))) ⟨m', fun _ => 0, g'⟩ (fun r => ∀ c : Dev Cert.PromptRefIdeal.nD,
          r.2.mem ((c.tc : Thread Cert.PromptRefIdeal.nD Cert.PromptRefIdeal.τ).loc Cert.PromptRefIdeal.main_v72) = v0 c
          ∧ r.2.mem ((c.tc : Thread Cert.PromptRefIdeal.nD Cert.PromptRefIdeal.τ).loc Cert.PromptRefIdeal.main_v75) = v1 c
          ∧ r.2.mem ((c.tc : Thread Cert.PromptRefIdeal.nD Cert.PromptRefIdeal.τ).loc Cert.PromptRefIdeal.main_arg0) = m' ((c.tc : Thread Cert.PromptRefIdeal.nD Cert.PromptRefIdeal.τ).loc Cert.PromptRefIdeal.main_arg0)
          ∧ r.2.mem ((c.tc : Thread Cert.PromptRefIdeal.nD Cert.PromptRefIdeal.τ).loc Cert.PromptRefIdeal.main_arg1) = m' ((c.tc : Thread Cert.PromptRefIdeal.nD Cert.PromptRefIdeal.τ).loc Cert.PromptRefIdeal.main_arg1)
          ∧ r.2.mem ((c.tc : Thread Cert.PromptRefIdeal.nD Cert.PromptRefIdeal.τ).loc Cert.PromptRefIdeal.main_arg2) = m' ((c.tc : Thread Cert.PromptRefIdeal.nD Cert.PromptRefIdeal.τ).loc Cert.PromptRefIdeal.main_arg2)
          ∧ r.2.mem ((c.tc : Thread Cert.PromptRefIdeal.nD Cert.PromptRefIdeal.τ).loc Cert.PromptRefIdeal.main_arg3) = m' ((c.tc : Thread Cert.PromptRefIdeal.nD Cert.PromptRefIdeal.τ).loc Cert.PromptRefIdeal.main_arg3)
          ∧ r.2.mem ((c.tc : Thread Cert.PromptRefIdeal.nD Cert.PromptRefIdeal.τ).loc Cert.PromptRefIdeal.main_arg4) = m' ((c.tc : Thread Cert.PromptRefIdeal.nD Cert.PromptRefIdeal.τ).loc Cert.PromptRefIdeal.main_arg4)
          ∧ r.2.mem ((c.tc : Thread Cert.PromptRefIdeal.nD Cert.PromptRefIdeal.τ).loc Cert.PromptRefIdeal.main_arg5) = m' ((c.tc : Thread Cert.PromptRefIdeal.nD Cert.PromptRefIdeal.τ).loc Cert.PromptRefIdeal.main_arg5)
          ∧ r.2.mem ((c.tc : Thread Cert.PromptRefIdeal.nD Cert.PromptRefIdeal.τ).loc Cert.PromptRefIdeal.main_arg6) = m' ((c.tc : Thread Cert.PromptRefIdeal.nD Cert.PromptRefIdeal.τ).loc Cert.PromptRefIdeal.main_arg6)
          ∧ r.2.mem ((c.tc : Thread Cert.PromptRefIdeal.nD Cert.PromptRefIdeal.τ).loc Cert.PromptRefIdeal.main_arg7) = m' ((c.tc : Thread Cert.PromptRefIdeal.nD Cert.PromptRefIdeal.τ).loc Cert.PromptRefIdeal.main_arg7))

def preserves_PromptFfn_PromptFfnIdeal : Prop :=
  True

def algebraic_PromptFfnIdeal_PromptFfnRefIdeal [hPromptFfnIdeal : Cert.PromptFfnIdeal.Facts] [hPromptFfnRefIdeal : Cert.PromptFfnRefIdeal.Facts] : Prop :=
  ∀ (m : (ℓ : Loc Cert.PromptFfnIdeal.nD Cert.PromptFfnIdeal.τ Cert.PromptFfnIdeal.sig) → Buf (Elt Ideal) ℓ) (g : Dev Cert.PromptFfnIdeal.nD → PrngReg)
    (m' : (ℓ : Loc Cert.PromptFfnRefIdeal.nD Cert.PromptFfnRefIdeal.τ Cert.PromptFfnRefIdeal.sig) → Buf (Elt Ideal) ℓ) (g' : Dev Cert.PromptFfnRefIdeal.nD → PrngReg), Pre_PromptFfnIdeal m →
    (∀ c : Dev Cert.PromptFfnIdeal.nD,
      m' ((c.tc : Thread Cert.PromptFfnRefIdeal.nD Cert.PromptFfnRefIdeal.τ).loc Cert.PromptFfnRefIdeal.main_arg0) = m ((c.tc : Thread Cert.PromptFfnIdeal.nD Cert.PromptFfnIdeal.τ).loc Cert.PromptFfnIdeal.main_arg0)
      ∧ m' ((c.tc : Thread Cert.PromptFfnRefIdeal.nD Cert.PromptFfnRefIdeal.τ).loc Cert.PromptFfnRefIdeal.main_arg1) = m ((c.tc : Thread Cert.PromptFfnIdeal.nD Cert.PromptFfnIdeal.τ).loc Cert.PromptFfnIdeal.main_arg1)
      ∧ m' ((c.tc : Thread Cert.PromptFfnRefIdeal.nD Cert.PromptFfnRefIdeal.τ).loc Cert.PromptFfnRefIdeal.main_arg2) = m ((c.tc : Thread Cert.PromptFfnIdeal.nD Cert.PromptFfnIdeal.τ).loc Cert.PromptFfnIdeal.main_arg2)
      ∧ m' ((c.tc : Thread Cert.PromptFfnRefIdeal.nD Cert.PromptFfnRefIdeal.τ).loc Cert.PromptFfnRefIdeal.main_arg3) = m ((c.tc : Thread Cert.PromptFfnIdeal.nD Cert.PromptFfnIdeal.τ).loc Cert.PromptFfnIdeal.main_arg3)
      ∧ m' ((c.tc : Thread Cert.PromptFfnRefIdeal.nD Cert.PromptFfnRefIdeal.τ).loc Cert.PromptFfnRefIdeal.main_arg4) = m ((c.tc : Thread Cert.PromptFfnIdeal.nD Cert.PromptFfnIdeal.τ).loc Cert.PromptFfnIdeal.main_arg4)
      ∧ m' ((c.tc : Thread Cert.PromptFfnRefIdeal.nD Cert.PromptFfnRefIdeal.τ).loc Cert.PromptFfnRefIdeal.main_arg5) = m ((c.tc : Thread Cert.PromptFfnIdeal.nD Cert.PromptFfnIdeal.τ).loc Cert.PromptFfnIdeal.main_arg5)
      ∧ m' ((c.tc : Thread Cert.PromptFfnRefIdeal.nD Cert.PromptFfnRefIdeal.τ).loc Cert.PromptFfnRefIdeal.main_arg6) = m ((c.tc : Thread Cert.PromptFfnIdeal.nD Cert.PromptFfnIdeal.τ).loc Cert.PromptFfnIdeal.main_arg6)
      ∧ m' ((c.tc : Thread Cert.PromptFfnRefIdeal.nD Cert.PromptFfnRefIdeal.τ).loc Cert.PromptFfnRefIdeal.main_arg7) = m ((c.tc : Thread Cert.PromptFfnIdeal.nD Cert.PromptFfnIdeal.τ).loc Cert.PromptFfnIdeal.main_arg7)) →
    ∃ (v0 : (c : Dev Cert.PromptFfnIdeal.nD) → Buf (Elt Ideal) ((c.tc : Thread Cert.PromptFfnIdeal.nD Cert.PromptFfnIdeal.τ).loc Cert.PromptFfnIdeal.main_v8_0)) (v1 : (c : Dev Cert.PromptFfnIdeal.nD) → Buf (Elt Ideal) ((c.tc : Thread Cert.PromptFfnIdeal.nD Cert.PromptFfnIdeal.τ).loc Cert.PromptFfnIdeal.main_v8_1)),
      θ_run (Cert.PromptFfnIdeal.defs (F := Ideal)) (onTc (τ := Cert.PromptFfnIdeal.τ) (Cert.PromptFfnIdeal.main (F := Ideal))) ⟨m, fun _ => 0, g⟩ (fun r => ∀ c : Dev Cert.PromptFfnIdeal.nD,
          r.2.mem ((c.tc : Thread Cert.PromptFfnIdeal.nD Cert.PromptFfnIdeal.τ).loc Cert.PromptFfnIdeal.main_v8_0) = v0 c
          ∧ r.2.mem ((c.tc : Thread Cert.PromptFfnIdeal.nD Cert.PromptFfnIdeal.τ).loc Cert.PromptFfnIdeal.main_v8_1) = v1 c
          ∧ r.2.mem ((c.tc : Thread Cert.PromptFfnIdeal.nD Cert.PromptFfnIdeal.τ).loc Cert.PromptFfnIdeal.main_arg0) = m ((c.tc : Thread Cert.PromptFfnIdeal.nD Cert.PromptFfnIdeal.τ).loc Cert.PromptFfnIdeal.main_arg0)
          ∧ r.2.mem ((c.tc : Thread Cert.PromptFfnIdeal.nD Cert.PromptFfnIdeal.τ).loc Cert.PromptFfnIdeal.main_arg1) = m ((c.tc : Thread Cert.PromptFfnIdeal.nD Cert.PromptFfnIdeal.τ).loc Cert.PromptFfnIdeal.main_arg1)
          ∧ r.2.mem ((c.tc : Thread Cert.PromptFfnIdeal.nD Cert.PromptFfnIdeal.τ).loc Cert.PromptFfnIdeal.main_arg2) = m ((c.tc : Thread Cert.PromptFfnIdeal.nD Cert.PromptFfnIdeal.τ).loc Cert.PromptFfnIdeal.main_arg2)
          ∧ r.2.mem ((c.tc : Thread Cert.PromptFfnIdeal.nD Cert.PromptFfnIdeal.τ).loc Cert.PromptFfnIdeal.main_arg3) = m ((c.tc : Thread Cert.PromptFfnIdeal.nD Cert.PromptFfnIdeal.τ).loc Cert.PromptFfnIdeal.main_arg3)
          ∧ r.2.mem ((c.tc : Thread Cert.PromptFfnIdeal.nD Cert.PromptFfnIdeal.τ).loc Cert.PromptFfnIdeal.main_arg4) = m ((c.tc : Thread Cert.PromptFfnIdeal.nD Cert.PromptFfnIdeal.τ).loc Cert.PromptFfnIdeal.main_arg4)
          ∧ r.2.mem ((c.tc : Thread Cert.PromptFfnIdeal.nD Cert.PromptFfnIdeal.τ).loc Cert.PromptFfnIdeal.main_arg5) = m ((c.tc : Thread Cert.PromptFfnIdeal.nD Cert.PromptFfnIdeal.τ).loc Cert.PromptFfnIdeal.main_arg5)
          ∧ r.2.mem ((c.tc : Thread Cert.PromptFfnIdeal.nD Cert.PromptFfnIdeal.τ).loc Cert.PromptFfnIdeal.main_arg6) = m ((c.tc : Thread Cert.PromptFfnIdeal.nD Cert.PromptFfnIdeal.τ).loc Cert.PromptFfnIdeal.main_arg6)
          ∧ r.2.mem ((c.tc : Thread Cert.PromptFfnIdeal.nD Cert.PromptFfnIdeal.τ).loc Cert.PromptFfnIdeal.main_arg7) = m ((c.tc : Thread Cert.PromptFfnIdeal.nD Cert.PromptFfnIdeal.τ).loc Cert.PromptFfnIdeal.main_arg7))
      ∧ θ_run (Cert.PromptFfnRefIdeal.defs (F := Ideal)) (onTc (τ := Cert.PromptFfnRefIdeal.τ) (Cert.PromptFfnRefIdeal.main (F := Ideal))) ⟨m', fun _ => 0, g'⟩ (fun r => ∀ c : Dev Cert.PromptFfnRefIdeal.nD,
          r.2.mem ((c.tc : Thread Cert.PromptFfnRefIdeal.nD Cert.PromptFfnRefIdeal.τ).loc Cert.PromptFfnRefIdeal.main_v62) = v0 c
          ∧ r.2.mem ((c.tc : Thread Cert.PromptFfnRefIdeal.nD Cert.PromptFfnRefIdeal.τ).loc Cert.PromptFfnRefIdeal.main_v65) = v1 c
          ∧ r.2.mem ((c.tc : Thread Cert.PromptFfnRefIdeal.nD Cert.PromptFfnRefIdeal.τ).loc Cert.PromptFfnRefIdeal.main_arg0) = m' ((c.tc : Thread Cert.PromptFfnRefIdeal.nD Cert.PromptFfnRefIdeal.τ).loc Cert.PromptFfnRefIdeal.main_arg0)
          ∧ r.2.mem ((c.tc : Thread Cert.PromptFfnRefIdeal.nD Cert.PromptFfnRefIdeal.τ).loc Cert.PromptFfnRefIdeal.main_arg1) = m' ((c.tc : Thread Cert.PromptFfnRefIdeal.nD Cert.PromptFfnRefIdeal.τ).loc Cert.PromptFfnRefIdeal.main_arg1)
          ∧ r.2.mem ((c.tc : Thread Cert.PromptFfnRefIdeal.nD Cert.PromptFfnRefIdeal.τ).loc Cert.PromptFfnRefIdeal.main_arg2) = m' ((c.tc : Thread Cert.PromptFfnRefIdeal.nD Cert.PromptFfnRefIdeal.τ).loc Cert.PromptFfnRefIdeal.main_arg2)
          ∧ r.2.mem ((c.tc : Thread Cert.PromptFfnRefIdeal.nD Cert.PromptFfnRefIdeal.τ).loc Cert.PromptFfnRefIdeal.main_arg3) = m' ((c.tc : Thread Cert.PromptFfnRefIdeal.nD Cert.PromptFfnRefIdeal.τ).loc Cert.PromptFfnRefIdeal.main_arg3)
          ∧ r.2.mem ((c.tc : Thread Cert.PromptFfnRefIdeal.nD Cert.PromptFfnRefIdeal.τ).loc Cert.PromptFfnRefIdeal.main_arg4) = m' ((c.tc : Thread Cert.PromptFfnRefIdeal.nD Cert.PromptFfnRefIdeal.τ).loc Cert.PromptFfnRefIdeal.main_arg4)
          ∧ r.2.mem ((c.tc : Thread Cert.PromptFfnRefIdeal.nD Cert.PromptFfnRefIdeal.τ).loc Cert.PromptFfnRefIdeal.main_arg5) = m' ((c.tc : Thread Cert.PromptFfnRefIdeal.nD Cert.PromptFfnRefIdeal.τ).loc Cert.PromptFfnRefIdeal.main_arg5)
          ∧ r.2.mem ((c.tc : Thread Cert.PromptFfnRefIdeal.nD Cert.PromptFfnRefIdeal.τ).loc Cert.PromptFfnRefIdeal.main_arg6) = m' ((c.tc : Thread Cert.PromptFfnRefIdeal.nD Cert.PromptFfnRefIdeal.τ).loc Cert.PromptFfnRefIdeal.main_arg6)
          ∧ r.2.mem ((c.tc : Thread Cert.PromptFfnRefIdeal.nD Cert.PromptFfnRefIdeal.τ).loc Cert.PromptFfnRefIdeal.main_arg7) = m' ((c.tc : Thread Cert.PromptFfnRefIdeal.nD Cert.PromptFfnRefIdeal.τ).loc Cert.PromptFfnRefIdeal.main_arg7))

def preserves_Disc_DiscIdeal : Prop :=
  True

def algebraic_DiscIdeal_DiscRefIdeal [hDiscIdeal : Cert.DiscIdeal.Facts] [hDiscRefIdeal : Cert.DiscRefIdeal.Facts] : Prop :=
  ∀ (m : (ℓ : Loc Cert.DiscIdeal.nD Cert.DiscIdeal.τ Cert.DiscIdeal.sig) → Buf (Elt Ideal) ℓ) (g : Dev Cert.DiscIdeal.nD → PrngReg)
    (m' : (ℓ : Loc Cert.DiscRefIdeal.nD Cert.DiscRefIdeal.τ Cert.DiscRefIdeal.sig) → Buf (Elt Ideal) ℓ) (g' : Dev Cert.DiscRefIdeal.nD → PrngReg), Pre_DiscIdeal m →
    (∀ c : Dev Cert.DiscIdeal.nD,
      m' ((c.tc : Thread Cert.DiscRefIdeal.nD Cert.DiscRefIdeal.τ).loc Cert.DiscRefIdeal.main_arg0) = m ((c.tc : Thread Cert.DiscIdeal.nD Cert.DiscIdeal.τ).loc Cert.DiscIdeal.main_arg0)
      ∧ m' ((c.tc : Thread Cert.DiscRefIdeal.nD Cert.DiscRefIdeal.τ).loc Cert.DiscRefIdeal.main_arg1) = m ((c.tc : Thread Cert.DiscIdeal.nD Cert.DiscIdeal.τ).loc Cert.DiscIdeal.main_arg1)
      ∧ m' ((c.tc : Thread Cert.DiscRefIdeal.nD Cert.DiscRefIdeal.τ).loc Cert.DiscRefIdeal.main_arg2) = m ((c.tc : Thread Cert.DiscIdeal.nD Cert.DiscIdeal.τ).loc Cert.DiscIdeal.main_arg2)
      ∧ m' ((c.tc : Thread Cert.DiscRefIdeal.nD Cert.DiscRefIdeal.τ).loc Cert.DiscRefIdeal.main_arg3) = m ((c.tc : Thread Cert.DiscIdeal.nD Cert.DiscIdeal.τ).loc Cert.DiscIdeal.main_arg3)) →
    ∃ (v0 : (c : Dev Cert.DiscIdeal.nD) → Buf (Elt Ideal) ((c.tc : Thread Cert.DiscIdeal.nD Cert.DiscIdeal.τ).loc Cert.DiscIdeal.main_v11_0)) (v1 : (c : Dev Cert.DiscIdeal.nD) → Buf (Elt Ideal) ((c.tc : Thread Cert.DiscIdeal.nD Cert.DiscIdeal.τ).loc Cert.DiscIdeal.main_v11_1)) (v2 : (c : Dev Cert.DiscIdeal.nD) → Buf (Elt Ideal) ((c.tc : Thread Cert.DiscIdeal.nD Cert.DiscIdeal.τ).loc Cert.DiscIdeal.main_v11_2)),
      θ_run (Cert.DiscIdeal.defs (F := Ideal)) (onTc (τ := Cert.DiscIdeal.τ) (Cert.DiscIdeal.main (F := Ideal))) ⟨m, fun _ => 0, g⟩ (fun r => ∀ c : Dev Cert.DiscIdeal.nD,
          r.2.mem ((c.tc : Thread Cert.DiscIdeal.nD Cert.DiscIdeal.τ).loc Cert.DiscIdeal.main_v11_0) = v0 c
          ∧ r.2.mem ((c.tc : Thread Cert.DiscIdeal.nD Cert.DiscIdeal.τ).loc Cert.DiscIdeal.main_v11_1) = v1 c
          ∧ r.2.mem ((c.tc : Thread Cert.DiscIdeal.nD Cert.DiscIdeal.τ).loc Cert.DiscIdeal.main_v11_2) = v2 c
          ∧ r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
          ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
          ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2)
          ∧ r.2.mem ((c.tc : Thread Cert.DiscIdeal.nD Cert.DiscIdeal.τ).loc Cert.DiscIdeal.main_arg3) = m ((c.tc : Thread Cert.DiscIdeal.nD Cert.DiscIdeal.τ).loc Cert.DiscIdeal.main_arg3))
      ∧ θ_run (Cert.DiscRefIdeal.defs (F := Ideal)) (onTc (τ := Cert.DiscRefIdeal.τ) (Cert.DiscRefIdeal.main (F := Ideal))) ⟨m', fun _ => 0, g'⟩ (fun r => ∀ c : Dev Cert.DiscRefIdeal.nD,
          r.2.mem ((c.tc : Thread Cert.DiscRefIdeal.nD Cert.DiscRefIdeal.τ).loc Cert.DiscRefIdeal.main_v44) = v0 c
          ∧ r.2.mem ((c.tc : Thread Cert.DiscRefIdeal.nD Cert.DiscRefIdeal.τ).loc Cert.DiscRefIdeal.main_v46) = v1 c
          ∧ r.2.mem ((c.tc : Thread Cert.DiscRefIdeal.nD Cert.DiscRefIdeal.τ).loc Cert.DiscRefIdeal.main_v48) = v2 c
          ∧ r.2.mem ((c.tc : Thread Cert.DiscRefIdeal.nD Cert.DiscRefIdeal.τ).loc Cert.DiscRefIdeal.main_arg0) = m' ((c.tc : Thread Cert.DiscRefIdeal.nD Cert.DiscRefIdeal.τ).loc Cert.DiscRefIdeal.main_arg0)
          ∧ r.2.mem ((c.tc : Thread Cert.DiscRefIdeal.nD Cert.DiscRefIdeal.τ).loc Cert.DiscRefIdeal.main_arg1) = m' ((c.tc : Thread Cert.DiscRefIdeal.nD Cert.DiscRefIdeal.τ).loc Cert.DiscRefIdeal.main_arg1)
          ∧ r.2.mem ((c.tc : Thread Cert.DiscRefIdeal.nD Cert.DiscRefIdeal.τ).loc Cert.DiscRefIdeal.main_arg2) = m' ((c.tc : Thread Cert.DiscRefIdeal.nD Cert.DiscRefIdeal.τ).loc Cert.DiscRefIdeal.main_arg2)
          ∧ r.2.mem ((c.tc : Thread Cert.DiscRefIdeal.nD Cert.DiscRefIdeal.τ).loc Cert.DiscRefIdeal.main_arg3) = m' ((c.tc : Thread Cert.DiscRefIdeal.nD Cert.DiscRefIdeal.τ).loc Cert.DiscRefIdeal.main_arg3))

def preserves_Rope_RopeIdeal : Prop :=
  IdealRules.named_const.Statement Cert.RopeIdeal.κ "rope_step" .f32 0xBE135D8E#32 (((-(Real.log 10000)) * 64⁻¹ : ℝ) : EReal)

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      True) →
    ∃ (v0 : (c : Dev Cert.RopeIdeal.nD) → Buf (Elt Ideal) ((c.tc : Thread Cert.RopeIdeal.nD Cert.RopeIdeal.τ).loc Cert.RopeIdeal.main_v0_0)) (v1 : (c : Dev Cert.RopeIdeal.nD) → Buf (Elt Ideal) ((c.tc : Thread Cert.RopeIdeal.nD Cert.RopeIdeal.τ).loc Cert.RopeIdeal.main_v0_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v0_0) = v0 c
          ∧ r.2.mem ((c.tc : Thread Cert.RopeIdeal.nD Cert.RopeIdeal.τ).loc Cert.RopeIdeal.main_v0_1) = v1 c)
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v15) = v0 c
          ∧ r.2.mem ((c.tc : Thread Cert.RopeRefIdeal.nD Cert.RopeRefIdeal.τ).loc Cert.RopeRefIdeal.main_v17) = v1 c)

def preserves_RopeSample_RopeSampleIdeal : Prop :=
  IdealRules.named_const.Statement Cert.RopeSampleIdeal.κ "rope_step" .f32 0xBE135D8E#32 (((-(Real.log 10000)) * 64⁻¹ : ℝ) : EReal)

def algebraic_RopeSampleIdeal_RopeSampleRefIdeal [hRopeSampleIdeal : Cert.RopeSampleIdeal.Facts] [hRopeSampleRefIdeal : Cert.RopeSampleRefIdeal.Facts] : Prop :=
  ∀ (m : (ℓ : Loc Cert.RopeSampleIdeal.nD Cert.RopeSampleIdeal.τ Cert.RopeSampleIdeal.sig) → Buf (Elt Ideal) ℓ) (g : Dev Cert.RopeSampleIdeal.nD → PrngReg)
    (m' : (ℓ : Loc Cert.RopeSampleRefIdeal.nD Cert.RopeSampleRefIdeal.τ Cert.RopeSampleRefIdeal.sig) → Buf (Elt Ideal) ℓ) (g' : Dev Cert.RopeSampleRefIdeal.nD → PrngReg), Pre_RopeSampleIdeal m →
    (∀ c : Dev Cert.RopeSampleIdeal.nD,
      True) →
    ∃ (v0 : (c : Dev Cert.RopeSampleIdeal.nD) → Buf (Elt Ideal) ((c.tc : Thread Cert.RopeSampleIdeal.nD Cert.RopeSampleIdeal.τ).loc Cert.RopeSampleIdeal.main_v0_0)) (v1 : (c : Dev Cert.RopeSampleIdeal.nD) → Buf (Elt Ideal) ((c.tc : Thread Cert.RopeSampleIdeal.nD Cert.RopeSampleIdeal.τ).loc Cert.RopeSampleIdeal.main_v0_1)),
      θ_run (Cert.RopeSampleIdeal.defs (F := Ideal)) (onTc (τ := Cert.RopeSampleIdeal.τ) (Cert.RopeSampleIdeal.main (F := Ideal))) ⟨m, fun _ => 0, g⟩ (fun r => ∀ c : Dev Cert.RopeSampleIdeal.nD,
          r.2.mem ((c.tc : Thread Cert.RopeSampleIdeal.nD Cert.RopeSampleIdeal.τ).loc Cert.RopeSampleIdeal.main_v0_0) = v0 c
          ∧ r.2.mem ((c.tc : Thread Cert.RopeSampleIdeal.nD Cert.RopeSampleIdeal.τ).loc Cert.RopeSampleIdeal.main_v0_1) = v1 c)
      ∧ θ_run (Cert.RopeSampleRefIdeal.defs (F := Ideal)) (onTc (τ := Cert.RopeSampleRefIdeal.τ) (Cert.RopeSampleRefIdeal.main (F := Ideal))) ⟨m', fun _ => 0, g'⟩ (fun r => ∀ c : Dev Cert.RopeSampleRefIdeal.nD,
          r.2.mem ((c.tc : Thread Cert.RopeSampleRefIdeal.nD Cert.RopeSampleRefIdeal.τ).loc Cert.RopeSampleRefIdeal.main_v17) = v0 c
          ∧ r.2.mem ((c.tc : Thread Cert.RopeSampleRefIdeal.nD Cert.RopeSampleRefIdeal.τ).loc Cert.RopeSampleRefIdeal.main_v19) = v1 c)

def preserves_Carry_CarryIdeal : Prop :=
  True

def algebraic_CarryIdeal_CarryRefIdeal [hCarryIdeal : Cert.CarryIdeal.Facts] [hCarryRefIdeal : Cert.CarryRefIdeal.Facts] : Prop :=
  ∀ (m : (ℓ : Loc Cert.CarryIdeal.nD Cert.CarryIdeal.τ Cert.CarryIdeal.sig) → Buf (Elt Ideal) ℓ) (g : Dev Cert.CarryIdeal.nD → PrngReg)
    (m' : (ℓ : Loc Cert.CarryRefIdeal.nD Cert.CarryRefIdeal.τ Cert.CarryRefIdeal.sig) → Buf (Elt Ideal) ℓ) (g' : Dev Cert.CarryRefIdeal.nD → PrngReg), Pre_CarryIdeal m →
    (∀ c : Dev Cert.CarryIdeal.nD,
      m' ((c.tc : Thread Cert.CarryRefIdeal.nD Cert.CarryRefIdeal.τ).loc Cert.CarryRefIdeal.main_arg0) = m ((c.tc : Thread Cert.CarryIdeal.nD Cert.CarryIdeal.τ).loc Cert.CarryIdeal.main_arg0)
      ∧ m' ((c.tc : Thread Cert.CarryRefIdeal.nD Cert.CarryRefIdeal.τ).loc Cert.CarryRefIdeal.main_arg1) = m ((c.tc : Thread Cert.CarryIdeal.nD Cert.CarryIdeal.τ).loc Cert.CarryIdeal.main_arg1)
      ∧ m' ((c.tc : Thread Cert.CarryRefIdeal.nD Cert.CarryRefIdeal.τ).loc Cert.CarryRefIdeal.main_arg2) = m ((c.tc : Thread Cert.CarryIdeal.nD Cert.CarryIdeal.τ).loc Cert.CarryIdeal.main_arg2)
      ∧ m' ((c.tc : Thread Cert.CarryRefIdeal.nD Cert.CarryRefIdeal.τ).loc Cert.CarryRefIdeal.main_arg3) = m ((c.tc : Thread Cert.CarryIdeal.nD Cert.CarryIdeal.τ).loc Cert.CarryIdeal.main_arg3)
      ∧ m' ((c.tc : Thread Cert.CarryRefIdeal.nD Cert.CarryRefIdeal.τ).loc Cert.CarryRefIdeal.main_arg4) = m ((c.tc : Thread Cert.CarryIdeal.nD Cert.CarryIdeal.τ).loc Cert.CarryIdeal.main_arg4)
      ∧ m' ((c.tc : Thread Cert.CarryRefIdeal.nD Cert.CarryRefIdeal.τ).loc Cert.CarryRefIdeal.main_arg5) = m ((c.tc : Thread Cert.CarryIdeal.nD Cert.CarryIdeal.τ).loc Cert.CarryIdeal.main_arg5)
      ∧ m' ((c.tc : Thread Cert.CarryRefIdeal.nD Cert.CarryRefIdeal.τ).loc Cert.CarryRefIdeal.main_arg6) = m ((c.tc : Thread Cert.CarryIdeal.nD Cert.CarryIdeal.τ).loc Cert.CarryIdeal.main_arg6)
      ∧ m' ((c.tc : Thread Cert.CarryRefIdeal.nD Cert.CarryRefIdeal.τ).loc Cert.CarryRefIdeal.main_arg7) = m ((c.tc : Thread Cert.CarryIdeal.nD Cert.CarryIdeal.τ).loc Cert.CarryIdeal.main_arg7)
      ∧ m' ((c.tc : Thread Cert.CarryRefIdeal.nD Cert.CarryRefIdeal.τ).loc Cert.CarryRefIdeal.main_arg8) = m ((c.tc : Thread Cert.CarryIdeal.nD Cert.CarryIdeal.τ).loc Cert.CarryIdeal.main_arg8)
      ∧ m' ((c.tc : Thread Cert.CarryRefIdeal.nD Cert.CarryRefIdeal.τ).loc Cert.CarryRefIdeal.main_arg9) = m ((c.tc : Thread Cert.CarryIdeal.nD Cert.CarryIdeal.τ).loc Cert.CarryIdeal.main_arg9)
      ∧ m' ((c.tc : Thread Cert.CarryRefIdeal.nD Cert.CarryRefIdeal.τ).loc Cert.CarryRefIdeal.main_arg10) = m ((c.tc : Thread Cert.CarryIdeal.nD Cert.CarryIdeal.τ).loc Cert.CarryIdeal.main_arg10)
      ∧ m' ((c.tc : Thread Cert.CarryRefIdeal.nD Cert.CarryRefIdeal.τ).loc Cert.CarryRefIdeal.main_arg11) = m ((c.tc : Thread Cert.CarryIdeal.nD Cert.CarryIdeal.τ).loc Cert.CarryIdeal.main_arg11)
      ∧ m' ((c.tc : Thread Cert.CarryRefIdeal.nD Cert.CarryRefIdeal.τ).loc Cert.CarryRefIdeal.main_arg12) = m ((c.tc : Thread Cert.CarryIdeal.nD Cert.CarryIdeal.τ).loc Cert.CarryIdeal.main_arg12)
      ∧ m' ((c.tc : Thread Cert.CarryRefIdeal.nD Cert.CarryRefIdeal.τ).loc Cert.CarryRefIdeal.main_arg13) = m ((c.tc : Thread Cert.CarryIdeal.nD Cert.CarryIdeal.τ).loc Cert.CarryIdeal.main_arg13)
      ∧ m' ((c.tc : Thread Cert.CarryRefIdeal.nD Cert.CarryRefIdeal.τ).loc Cert.CarryRefIdeal.main_arg14) = m ((c.tc : Thread Cert.CarryIdeal.nD Cert.CarryIdeal.τ).loc Cert.CarryIdeal.main_arg14)
      ∧ m' ((c.tc : Thread Cert.CarryRefIdeal.nD Cert.CarryRefIdeal.τ).loc Cert.CarryRefIdeal.main_arg15) = m ((c.tc : Thread Cert.CarryIdeal.nD Cert.CarryIdeal.τ).loc Cert.CarryIdeal.main_arg15)
      ∧ m' ((c.tc : Thread Cert.CarryRefIdeal.nD Cert.CarryRefIdeal.τ).loc Cert.CarryRefIdeal.main_arg16) = m ((c.tc : Thread Cert.CarryIdeal.nD Cert.CarryIdeal.τ).loc Cert.CarryIdeal.main_arg16)
      ∧ m' ((c.tc : Thread Cert.CarryRefIdeal.nD Cert.CarryRefIdeal.τ).loc Cert.CarryRefIdeal.main_arg17) = m ((c.tc : Thread Cert.CarryIdeal.nD Cert.CarryIdeal.τ).loc Cert.CarryIdeal.main_arg17)
      ∧ m' ((c.tc : Thread Cert.CarryRefIdeal.nD Cert.CarryRefIdeal.τ).loc Cert.CarryRefIdeal.main_arg18) = m ((c.tc : Thread Cert.CarryIdeal.nD Cert.CarryIdeal.τ).loc Cert.CarryIdeal.main_arg18)
      ∧ m' ((c.tc : Thread Cert.CarryRefIdeal.nD Cert.CarryRefIdeal.τ).loc Cert.CarryRefIdeal.main_arg19) = m ((c.tc : Thread Cert.CarryIdeal.nD Cert.CarryIdeal.τ).loc Cert.CarryIdeal.main_arg19)
      ∧ m' ((c.tc : Thread Cert.CarryRefIdeal.nD Cert.CarryRefIdeal.τ).loc Cert.CarryRefIdeal.main_arg20) = m ((c.tc : Thread Cert.CarryIdeal.nD Cert.CarryIdeal.τ).loc Cert.CarryIdeal.main_arg20)
      ∧ m' ((c.tc : Thread Cert.CarryRefIdeal.nD Cert.CarryRefIdeal.τ).loc Cert.CarryRefIdeal.main_arg21) = m ((c.tc : Thread Cert.CarryIdeal.nD Cert.CarryIdeal.τ).loc Cert.CarryIdeal.main_arg21)
      ∧ m' ((c.tc : Thread Cert.CarryRefIdeal.nD Cert.CarryRefIdeal.τ).loc Cert.CarryRefIdeal.main_arg22) = m ((c.tc : Thread Cert.CarryIdeal.nD Cert.CarryIdeal.τ).loc Cert.CarryIdeal.main_arg22)
      ∧ m' ((c.tc : Thread Cert.CarryRefIdeal.nD Cert.CarryRefIdeal.τ).loc Cert.CarryRefIdeal.main_arg23) = m ((c.tc : Thread Cert.CarryIdeal.nD Cert.CarryIdeal.τ).loc Cert.CarryIdeal.main_arg23)
      ∧ m' ((c.tc : Thread Cert.CarryRefIdeal.nD Cert.CarryRefIdeal.τ).loc Cert.CarryRefIdeal.main_arg24) = m ((c.tc : Thread Cert.CarryIdeal.nD Cert.CarryIdeal.τ).loc Cert.CarryIdeal.main_arg24)
      ∧ m' ((c.tc : Thread Cert.CarryRefIdeal.nD Cert.CarryRefIdeal.τ).loc Cert.CarryRefIdeal.main_arg25) = m ((c.tc : Thread Cert.CarryIdeal.nD Cert.CarryIdeal.τ).loc Cert.CarryIdeal.main_arg25)) →
    ∃ (v0 : (c : Dev Cert.CarryIdeal.nD) → Buf (Elt Ideal) ((c.tc : Thread Cert.CarryIdeal.nD Cert.CarryIdeal.τ).loc Cert.CarryIdeal.main_v5_3)),
      θ_run (Cert.CarryIdeal.defs (F := Ideal)) (onTc (τ := Cert.CarryIdeal.τ) (Cert.CarryIdeal.main (F := Ideal))) ⟨m, fun _ => 0, g⟩ (fun r => ∀ c : Dev Cert.CarryIdeal.nD,
          r.2.mem ((c.tc : Thread Cert.CarryIdeal.nD Cert.CarryIdeal.τ).loc Cert.CarryIdeal.main_v5_3) = v0 c
          ∧ r.2.mem ((c.tc : Thread Cert.CarryIdeal.nD Cert.CarryIdeal.τ).loc Cert.CarryIdeal.main_arg0) = m ((c.tc : Thread Cert.CarryIdeal.nD Cert.CarryIdeal.τ).loc Cert.CarryIdeal.main_arg0)
          ∧ r.2.mem ((c.tc : Thread Cert.CarryIdeal.nD Cert.CarryIdeal.τ).loc Cert.CarryIdeal.main_arg1) = m ((c.tc : Thread Cert.CarryIdeal.nD Cert.CarryIdeal.τ).loc Cert.CarryIdeal.main_arg1)
          ∧ r.2.mem ((c.tc : Thread Cert.CarryIdeal.nD Cert.CarryIdeal.τ).loc Cert.CarryIdeal.main_arg2) = m ((c.tc : Thread Cert.CarryIdeal.nD Cert.CarryIdeal.τ).loc Cert.CarryIdeal.main_arg2)
          ∧ r.2.mem ((c.tc : Thread Cert.CarryIdeal.nD Cert.CarryIdeal.τ).loc Cert.CarryIdeal.main_arg3) = m ((c.tc : Thread Cert.CarryIdeal.nD Cert.CarryIdeal.τ).loc Cert.CarryIdeal.main_arg3)
          ∧ r.2.mem ((c.tc : Thread Cert.CarryIdeal.nD Cert.CarryIdeal.τ).loc Cert.CarryIdeal.main_arg4) = m ((c.tc : Thread Cert.CarryIdeal.nD Cert.CarryIdeal.τ).loc Cert.CarryIdeal.main_arg4)
          ∧ r.2.mem ((c.tc : Thread Cert.CarryIdeal.nD Cert.CarryIdeal.τ).loc Cert.CarryIdeal.main_arg5) = m ((c.tc : Thread Cert.CarryIdeal.nD Cert.CarryIdeal.τ).loc Cert.CarryIdeal.main_arg5)
          ∧ r.2.mem ((c.tc : Thread Cert.CarryIdeal.nD Cert.CarryIdeal.τ).loc Cert.CarryIdeal.main_arg6) = m ((c.tc : Thread Cert.CarryIdeal.nD Cert.CarryIdeal.τ).loc Cert.CarryIdeal.main_arg6)
          ∧ r.2.mem ((c.tc : Thread Cert.CarryIdeal.nD Cert.CarryIdeal.τ).loc Cert.CarryIdeal.main_arg7) = m ((c.tc : Thread Cert.CarryIdeal.nD Cert.CarryIdeal.τ).loc Cert.CarryIdeal.main_arg7)
          ∧ r.2.mem ((c.tc : Thread Cert.CarryIdeal.nD Cert.CarryIdeal.τ).loc Cert.CarryIdeal.main_arg8) = m ((c.tc : Thread Cert.CarryIdeal.nD Cert.CarryIdeal.τ).loc Cert.CarryIdeal.main_arg8)
          ∧ r.2.mem ((c.tc : Thread Cert.CarryIdeal.nD Cert.CarryIdeal.τ).loc Cert.CarryIdeal.main_arg9) = m ((c.tc : Thread Cert.CarryIdeal.nD Cert.CarryIdeal.τ).loc Cert.CarryIdeal.main_arg9)
          ∧ r.2.mem ((c.tc : Thread Cert.CarryIdeal.nD Cert.CarryIdeal.τ).loc Cert.CarryIdeal.main_arg10) = m ((c.tc : Thread Cert.CarryIdeal.nD Cert.CarryIdeal.τ).loc Cert.CarryIdeal.main_arg10)
          ∧ r.2.mem ((c.tc : Thread Cert.CarryIdeal.nD Cert.CarryIdeal.τ).loc Cert.CarryIdeal.main_arg11) = m ((c.tc : Thread Cert.CarryIdeal.nD Cert.CarryIdeal.τ).loc Cert.CarryIdeal.main_arg11)
          ∧ r.2.mem ((c.tc : Thread Cert.CarryIdeal.nD Cert.CarryIdeal.τ).loc Cert.CarryIdeal.main_arg12) = m ((c.tc : Thread Cert.CarryIdeal.nD Cert.CarryIdeal.τ).loc Cert.CarryIdeal.main_arg12)
          ∧ r.2.mem ((c.tc : Thread Cert.CarryIdeal.nD Cert.CarryIdeal.τ).loc Cert.CarryIdeal.main_arg13) = m ((c.tc : Thread Cert.CarryIdeal.nD Cert.CarryIdeal.τ).loc Cert.CarryIdeal.main_arg13)
          ∧ r.2.mem ((c.tc : Thread Cert.CarryIdeal.nD Cert.CarryIdeal.τ).loc Cert.CarryIdeal.main_arg14) = m ((c.tc : Thread Cert.CarryIdeal.nD Cert.CarryIdeal.τ).loc Cert.CarryIdeal.main_arg14)
          ∧ r.2.mem ((c.tc : Thread Cert.CarryIdeal.nD Cert.CarryIdeal.τ).loc Cert.CarryIdeal.main_arg15) = m ((c.tc : Thread Cert.CarryIdeal.nD Cert.CarryIdeal.τ).loc Cert.CarryIdeal.main_arg15)
          ∧ r.2.mem ((c.tc : Thread Cert.CarryIdeal.nD Cert.CarryIdeal.τ).loc Cert.CarryIdeal.main_arg16) = m ((c.tc : Thread Cert.CarryIdeal.nD Cert.CarryIdeal.τ).loc Cert.CarryIdeal.main_arg16)
          ∧ r.2.mem ((c.tc : Thread Cert.CarryIdeal.nD Cert.CarryIdeal.τ).loc Cert.CarryIdeal.main_arg17) = m ((c.tc : Thread Cert.CarryIdeal.nD Cert.CarryIdeal.τ).loc Cert.CarryIdeal.main_arg17)
          ∧ r.2.mem ((c.tc : Thread Cert.CarryIdeal.nD Cert.CarryIdeal.τ).loc Cert.CarryIdeal.main_arg18) = m ((c.tc : Thread Cert.CarryIdeal.nD Cert.CarryIdeal.τ).loc Cert.CarryIdeal.main_arg18)
          ∧ r.2.mem ((c.tc : Thread Cert.CarryIdeal.nD Cert.CarryIdeal.τ).loc Cert.CarryIdeal.main_arg19) = m ((c.tc : Thread Cert.CarryIdeal.nD Cert.CarryIdeal.τ).loc Cert.CarryIdeal.main_arg19)
          ∧ r.2.mem ((c.tc : Thread Cert.CarryIdeal.nD Cert.CarryIdeal.τ).loc Cert.CarryIdeal.main_arg20) = m ((c.tc : Thread Cert.CarryIdeal.nD Cert.CarryIdeal.τ).loc Cert.CarryIdeal.main_arg20)
          ∧ r.2.mem ((c.tc : Thread Cert.CarryIdeal.nD Cert.CarryIdeal.τ).loc Cert.CarryIdeal.main_arg21) = m ((c.tc : Thread Cert.CarryIdeal.nD Cert.CarryIdeal.τ).loc Cert.CarryIdeal.main_arg21)
          ∧ r.2.mem ((c.tc : Thread Cert.CarryIdeal.nD Cert.CarryIdeal.τ).loc Cert.CarryIdeal.main_arg22) = m ((c.tc : Thread Cert.CarryIdeal.nD Cert.CarryIdeal.τ).loc Cert.CarryIdeal.main_arg22)
          ∧ r.2.mem ((c.tc : Thread Cert.CarryIdeal.nD Cert.CarryIdeal.τ).loc Cert.CarryIdeal.main_arg23) = m ((c.tc : Thread Cert.CarryIdeal.nD Cert.CarryIdeal.τ).loc Cert.CarryIdeal.main_arg23)
          ∧ r.2.mem ((c.tc : Thread Cert.CarryIdeal.nD Cert.CarryIdeal.τ).loc Cert.CarryIdeal.main_arg24) = m ((c.tc : Thread Cert.CarryIdeal.nD Cert.CarryIdeal.τ).loc Cert.CarryIdeal.main_arg24)
          ∧ r.2.mem ((c.tc : Thread Cert.CarryIdeal.nD Cert.CarryIdeal.τ).loc Cert.CarryIdeal.main_arg25) = m ((c.tc : Thread Cert.CarryIdeal.nD Cert.CarryIdeal.τ).loc Cert.CarryIdeal.main_arg25))
      ∧ θ_run (Cert.CarryRefIdeal.defs (F := Ideal)) (onTc (τ := Cert.CarryRefIdeal.τ) (Cert.CarryRefIdeal.main (F := Ideal))) ⟨m', fun _ => 0, g'⟩ (fun r => ∀ c : Dev Cert.CarryRefIdeal.nD,
          r.2.mem ((c.tc : Thread Cert.CarryRefIdeal.nD Cert.CarryRefIdeal.τ).loc Cert.CarryRefIdeal.main_v28) = v0 c
          ∧ r.2.mem ((c.tc : Thread Cert.CarryRefIdeal.nD Cert.CarryRefIdeal.τ).loc Cert.CarryRefIdeal.main_arg0) = m' ((c.tc : Thread Cert.CarryRefIdeal.nD Cert.CarryRefIdeal.τ).loc Cert.CarryRefIdeal.main_arg0)
          ∧ r.2.mem ((c.tc : Thread Cert.CarryRefIdeal.nD Cert.CarryRefIdeal.τ).loc Cert.CarryRefIdeal.main_arg1) = m' ((c.tc : Thread Cert.CarryRefIdeal.nD Cert.CarryRefIdeal.τ).loc Cert.CarryRefIdeal.main_arg1)
          ∧ r.2.mem ((c.tc : Thread Cert.CarryRefIdeal.nD Cert.CarryRefIdeal.τ).loc Cert.CarryRefIdeal.main_arg2) = m' ((c.tc : Thread Cert.CarryRefIdeal.nD Cert.CarryRefIdeal.τ).loc Cert.CarryRefIdeal.main_arg2)
          ∧ r.2.mem ((c.tc : Thread Cert.CarryRefIdeal.nD Cert.CarryRefIdeal.τ).loc Cert.CarryRefIdeal.main_arg3) = m' ((c.tc : Thread Cert.CarryRefIdeal.nD Cert.CarryRefIdeal.τ).loc Cert.CarryRefIdeal.main_arg3)
          ∧ r.2.mem ((c.tc : Thread Cert.CarryRefIdeal.nD Cert.CarryRefIdeal.τ).loc Cert.CarryRefIdeal.main_arg4) = m' ((c.tc : Thread Cert.CarryRefIdeal.nD Cert.CarryRefIdeal.τ).loc Cert.CarryRefIdeal.main_arg4)
          ∧ r.2.mem ((c.tc : Thread Cert.CarryRefIdeal.nD Cert.CarryRefIdeal.τ).loc Cert.CarryRefIdeal.main_arg5) = m' ((c.tc : Thread Cert.CarryRefIdeal.nD Cert.CarryRefIdeal.τ).loc Cert.CarryRefIdeal.main_arg5)
          ∧ r.2.mem ((c.tc : Thread Cert.CarryRefIdeal.nD Cert.CarryRefIdeal.τ).loc Cert.CarryRefIdeal.main_arg6) = m' ((c.tc : Thread Cert.CarryRefIdeal.nD Cert.CarryRefIdeal.τ).loc Cert.CarryRefIdeal.main_arg6)
          ∧ r.2.mem ((c.tc : Thread Cert.CarryRefIdeal.nD Cert.CarryRefIdeal.τ).loc Cert.CarryRefIdeal.main_arg7) = m' ((c.tc : Thread Cert.CarryRefIdeal.nD Cert.CarryRefIdeal.τ).loc Cert.CarryRefIdeal.main_arg7)
          ∧ r.2.mem ((c.tc : Thread Cert.CarryRefIdeal.nD Cert.CarryRefIdeal.τ).loc Cert.CarryRefIdeal.main_arg8) = m' ((c.tc : Thread Cert.CarryRefIdeal.nD Cert.CarryRefIdeal.τ).loc Cert.CarryRefIdeal.main_arg8)
          ∧ r.2.mem ((c.tc : Thread Cert.CarryRefIdeal.nD Cert.CarryRefIdeal.τ).loc Cert.CarryRefIdeal.main_arg9) = m' ((c.tc : Thread Cert.CarryRefIdeal.nD Cert.CarryRefIdeal.τ).loc Cert.CarryRefIdeal.main_arg9)
          ∧ r.2.mem ((c.tc : Thread Cert.CarryRefIdeal.nD Cert.CarryRefIdeal.τ).loc Cert.CarryRefIdeal.main_arg10) = m' ((c.tc : Thread Cert.CarryRefIdeal.nD Cert.CarryRefIdeal.τ).loc Cert.CarryRefIdeal.main_arg10)
          ∧ r.2.mem ((c.tc : Thread Cert.CarryRefIdeal.nD Cert.CarryRefIdeal.τ).loc Cert.CarryRefIdeal.main_arg11) = m' ((c.tc : Thread Cert.CarryRefIdeal.nD Cert.CarryRefIdeal.τ).loc Cert.CarryRefIdeal.main_arg11)
          ∧ r.2.mem ((c.tc : Thread Cert.CarryRefIdeal.nD Cert.CarryRefIdeal.τ).loc Cert.CarryRefIdeal.main_arg12) = m' ((c.tc : Thread Cert.CarryRefIdeal.nD Cert.CarryRefIdeal.τ).loc Cert.CarryRefIdeal.main_arg12)
          ∧ r.2.mem ((c.tc : Thread Cert.CarryRefIdeal.nD Cert.CarryRefIdeal.τ).loc Cert.CarryRefIdeal.main_arg13) = m' ((c.tc : Thread Cert.CarryRefIdeal.nD Cert.CarryRefIdeal.τ).loc Cert.CarryRefIdeal.main_arg13)
          ∧ r.2.mem ((c.tc : Thread Cert.CarryRefIdeal.nD Cert.CarryRefIdeal.τ).loc Cert.CarryRefIdeal.main_arg14) = m' ((c.tc : Thread Cert.CarryRefIdeal.nD Cert.CarryRefIdeal.τ).loc Cert.CarryRefIdeal.main_arg14)
          ∧ r.2.mem ((c.tc : Thread Cert.CarryRefIdeal.nD Cert.CarryRefIdeal.τ).loc Cert.CarryRefIdeal.main_arg15) = m' ((c.tc : Thread Cert.CarryRefIdeal.nD Cert.CarryRefIdeal.τ).loc Cert.CarryRefIdeal.main_arg15)
          ∧ r.2.mem ((c.tc : Thread Cert.CarryRefIdeal.nD Cert.CarryRefIdeal.τ).loc Cert.CarryRefIdeal.main_arg16) = m' ((c.tc : Thread Cert.CarryRefIdeal.nD Cert.CarryRefIdeal.τ).loc Cert.CarryRefIdeal.main_arg16)
          ∧ r.2.mem ((c.tc : Thread Cert.CarryRefIdeal.nD Cert.CarryRefIdeal.τ).loc Cert.CarryRefIdeal.main_arg17) = m' ((c.tc : Thread Cert.CarryRefIdeal.nD Cert.CarryRefIdeal.τ).loc Cert.CarryRefIdeal.main_arg17)
          ∧ r.2.mem ((c.tc : Thread Cert.CarryRefIdeal.nD Cert.CarryRefIdeal.τ).loc Cert.CarryRefIdeal.main_arg18) = m' ((c.tc : Thread Cert.CarryRefIdeal.nD Cert.CarryRefIdeal.τ).loc Cert.CarryRefIdeal.main_arg18)
          ∧ r.2.mem ((c.tc : Thread Cert.CarryRefIdeal.nD Cert.CarryRefIdeal.τ).loc Cert.CarryRefIdeal.main_arg19) = m' ((c.tc : Thread Cert.CarryRefIdeal.nD Cert.CarryRefIdeal.τ).loc Cert.CarryRefIdeal.main_arg19)
          ∧ r.2.mem ((c.tc : Thread Cert.CarryRefIdeal.nD Cert.CarryRefIdeal.τ).loc Cert.CarryRefIdeal.main_arg20) = m' ((c.tc : Thread Cert.CarryRefIdeal.nD Cert.CarryRefIdeal.τ).loc Cert.CarryRefIdeal.main_arg20)
          ∧ r.2.mem ((c.tc : Thread Cert.CarryRefIdeal.nD Cert.CarryRefIdeal.τ).loc Cert.CarryRefIdeal.main_arg21) = m' ((c.tc : Thread Cert.CarryRefIdeal.nD Cert.CarryRefIdeal.τ).loc Cert.CarryRefIdeal.main_arg21)
          ∧ r.2.mem ((c.tc : Thread Cert.CarryRefIdeal.nD Cert.CarryRefIdeal.τ).loc Cert.CarryRefIdeal.main_arg22) = m' ((c.tc : Thread Cert.CarryRefIdeal.nD Cert.CarryRefIdeal.τ).loc Cert.CarryRefIdeal.main_arg22)
          ∧ r.2.mem ((c.tc : Thread Cert.CarryRefIdeal.nD Cert.CarryRefIdeal.τ).loc Cert.CarryRefIdeal.main_arg23) = m' ((c.tc : Thread Cert.CarryRefIdeal.nD Cert.CarryRefIdeal.τ).loc Cert.CarryRefIdeal.main_arg23)
          ∧ r.2.mem ((c.tc : Thread Cert.CarryRefIdeal.nD Cert.CarryRefIdeal.τ).loc Cert.CarryRefIdeal.main_arg24) = m' ((c.tc : Thread Cert.CarryRefIdeal.nD Cert.CarryRefIdeal.τ).loc Cert.CarryRefIdeal.main_arg24)
          ∧ r.2.mem ((c.tc : Thread Cert.CarryRefIdeal.nD Cert.CarryRefIdeal.τ).loc Cert.CarryRefIdeal.main_arg25) = m' ((c.tc : Thread Cert.CarryRefIdeal.nD Cert.CarryRefIdeal.τ).loc Cert.CarryRefIdeal.main_arg25))

def Claim : Prop :=
  ∃ (hFfn : Cert.Ffn.Facts) (hFfnIdeal : Cert.FfnIdeal.Facts) (hFfnRefIdeal : Cert.FfnRefIdeal.Facts) (hLast : Cert.Last.Facts) (hLastIdeal : Cert.LastIdeal.Facts) (hLastRefIdeal : Cert.LastRefIdeal.Facts) (hPrompt : Cert.Prompt.Facts) (hPromptIdeal : Cert.PromptIdeal.Facts) (hPromptRefIdeal : Cert.PromptRefIdeal.Facts) (hPromptFfn : Cert.PromptFfn.Facts) (hPromptFfnIdeal : Cert.PromptFfnIdeal.Facts) (hPromptFfnRefIdeal : Cert.PromptFfnRefIdeal.Facts) (hDisc : Cert.Disc.Facts) (hDiscIdeal : Cert.DiscIdeal.Facts) (hDiscRefIdeal : Cert.DiscRefIdeal.Facts) (hRope : Cert.Rope.Facts) (hRopeIdeal : Cert.RopeIdeal.Facts) (hRopeRefIdeal : Cert.RopeRefIdeal.Facts) (hRopeSample : Cert.RopeSample.Facts) (hRopeSampleIdeal : Cert.RopeSampleIdeal.Facts) (hRopeSampleRefIdeal : Cert.RopeSampleRefIdeal.Facts) (hCarry : Cert.Carry.Facts) (hCarryIdeal : Cert.CarryIdeal.Facts) (hCarryRefIdeal : Cert.CarryRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Last (hLast := hLast)
    ∧ quiescent_LastIdeal (hLastIdeal := hLastIdeal)
    ∧ quiescent_LastRefIdeal (hLastRefIdeal := hLastRefIdeal)
    ∧ quiescent_Prompt (hPrompt := hPrompt)
    ∧ quiescent_PromptIdeal (hPromptIdeal := hPromptIdeal)
    ∧ quiescent_PromptRefIdeal (hPromptRefIdeal := hPromptRefIdeal)
    ∧ quiescent_PromptFfn (hPromptFfn := hPromptFfn)
    ∧ quiescent_PromptFfnIdeal (hPromptFfnIdeal := hPromptFfnIdeal)
    ∧ quiescent_PromptFfnRefIdeal (hPromptFfnRefIdeal := hPromptFfnRefIdeal)
    ∧ quiescent_Disc (hDisc := hDisc)
    ∧ quiescent_DiscIdeal (hDiscIdeal := hDiscIdeal)
    ∧ quiescent_DiscRefIdeal (hDiscRefIdeal := hDiscRefIdeal)
    ∧ quiescent_Rope (hRope := hRope)
    ∧ quiescent_RopeIdeal (hRopeIdeal := hRopeIdeal)
    ∧ quiescent_RopeRefIdeal (hRopeRefIdeal := hRopeRefIdeal)
    ∧ quiescent_RopeSample (hRopeSample := hRopeSample)
    ∧ quiescent_RopeSampleIdeal (hRopeSampleIdeal := hRopeSampleIdeal)
    ∧ quiescent_RopeSampleRefIdeal (hRopeSampleRefIdeal := hRopeSampleRefIdeal)
    ∧ quiescent_Carry (hCarry := hCarry)
    ∧ quiescent_CarryIdeal (hCarryIdeal := hCarryIdeal)
    ∧ quiescent_CarryRefIdeal (hCarryRefIdeal := hCarryRefIdeal)
    ∧ preserves_Ffn_FfnIdeal
    ∧ algebraic_FfnIdeal_FfnRefIdeal (hFfnIdeal := hFfnIdeal) (hFfnRefIdeal := hFfnRefIdeal)
    ∧ preserves_Last_LastIdeal
    ∧ algebraic_LastIdeal_LastRefIdeal (hLastIdeal := hLastIdeal) (hLastRefIdeal := hLastRefIdeal)
    ∧ preserves_Prompt_PromptIdeal
    ∧ algebraic_PromptIdeal_PromptRefIdeal (hPromptIdeal := hPromptIdeal) (hPromptRefIdeal := hPromptRefIdeal)
    ∧ preserves_PromptFfn_PromptFfnIdeal
    ∧ algebraic_PromptFfnIdeal_PromptFfnRefIdeal (hPromptFfnIdeal := hPromptFfnIdeal) (hPromptFfnRefIdeal := hPromptFfnRefIdeal)
    ∧ preserves_Disc_DiscIdeal
    ∧ algebraic_DiscIdeal_DiscRefIdeal (hDiscIdeal := hDiscIdeal) (hDiscRefIdeal := hDiscRefIdeal)
    ∧ preserves_Rope_RopeIdeal
    ∧ algebraic_RopeIdeal_RopeRefIdeal (hRopeIdeal := hRopeIdeal) (hRopeRefIdeal := hRopeRefIdeal)
    ∧ preserves_RopeSample_RopeSampleIdeal
    ∧ algebraic_RopeSampleIdeal_RopeSampleRefIdeal (hRopeSampleIdeal := hRopeSampleIdeal) (hRopeSampleRefIdeal := hRopeSampleRefIdeal)
    ∧ preserves_Carry_CarryIdeal
    ∧ algebraic_CarryIdeal_CarryRefIdeal (hCarryIdeal := hCarryIdeal) (hCarryRefIdeal := hCarryRefIdeal)
-- ==== Ffn.lean ====
abbrev S4x512x1024 : Shape := ⟨3, ![4, 512, 1024]⟩
abbrev S2x32x2x5632 : Shape := ⟨4, ![2, 32, 2, 5632]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1024 : Shape := ⟨1, ![1024]⟩
abbrev S2x4x8x2x5632 : Shape := ⟨5, ![2, 4, 8, 2, 5632]⟩
abbrev S2x4x2x8x5632 : Shape := ⟨5, ![2, 4, 2, 8, 5632]⟩
abbrev S2x4x16x5632 : Shape := ⟨4, ![2, 4, 16, 5632]⟩
abbrev S2x1x1024 : Shape := ⟨3, ![2, 1, 1024]⟩
abbrev S2x1x5632 : Shape := ⟨3, ![2, 1, 5632]⟩
abbrev S1x1024 : Shape := ⟨2, ![1, 1024]⟩
abbrev S4x16x5632 : Shape := ⟨3, ![4, 16, 5632]⟩
abbrev S1x512x1024 : Shape := ⟨3, ![1, 512, 1024]⟩
abbrev S1x1x16x5632 : Shape := ⟨4, ![1, 1, 16, 5632]⟩
abbrev S1x1x1024 : Shape := ⟨3, ![1, 1, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S1x16x5632 : Shape := ⟨3, ![1, 16, 5632]⟩
abbrev S512x1024 : Shape := ⟨2, ![512, 1024]⟩
abbrev S528x1024 : Shape := ⟨2, ![528, 1024]⟩
abbrev S16x5632 : Shape := ⟨2, ![16, 5632]⟩
abbrev S512 : Shape := ⟨1, ![512]⟩
abbrev S512x1 : Shape := ⟨2, ![512, 1]⟩
abbrev S1x16x1024 : Shape := ⟨3, ![1, 16, 1024]⟩
abbrev S16x1024 : Shape := ⟨2, ![16, 1024]⟩
abbrev S1x1024x1024 : Shape := ⟨3, ![1, 1024, 1024]⟩
abbrev S1024x1024 : Shape := ⟨2, ![1024, 1024]⟩
abbrev S256x1024 : Shape := ⟨2, ![256, 1024]⟩
abbrev S1x16x768 : Shape := ⟨3, ![1, 16, 768]⟩
abbrev S16x768 : Shape := ⟨2, ![16, 768]⟩
abbrev S1x1024x768 : Shape := ⟨3, ![1, 1024, 768]⟩
abbrev S1024x768 : Shape := ⟨2, ![1024, 768]⟩
abbrev S512x768 : Shape := ⟨2, ![512, 768]⟩
abbrev S1x1x768 : Shape := ⟨3, ![1, 1, 768]⟩
abbrev S1x768 : Shape := ⟨2, ![1, 768]⟩
abbrev S256x768 : Shape := ⟨2, ![256, 768]⟩
abbrev S1x768x1024 : Shape := ⟨3, ![1, 768, 1024]⟩
abbrev S768x1024 : Shape := ⟨2, ![768, 1024]⟩

abbrev nBuf : Space → Nat
  | .hbm => 18
  | .vmem => 17
  | .smem => 0
  | _ => 0

abbrev bufTy : (tb : Table) → Fin (tcTables nBuf tb) → BufTy
  | .hbm, ⟨0, _⟩ => ⟨S4x512x1024, .f32⟩
  | .hbm, ⟨1, _⟩ => ⟨S2x32x2x5632, .f32⟩
  | .hbm, ⟨2, _⟩ => ⟨S2x1024, .f32⟩
  | .hbm, ⟨3, _⟩ => ⟨S2x1024x5632, .f32⟩
  | .hbm, ⟨4, _⟩ => ⟨S2x3x5632, .f32⟩
  | .hbm, ⟨5, _⟩ => ⟨S2x5632, .f32⟩
  | .hbm, ⟨6, _⟩ => ⟨S2x2816x1024, .f32⟩
  | .hbm, ⟨7, _⟩ => ⟨S1024, .f32⟩
  | .hbm, ⟨8, _⟩ => ⟨S2x4x8x2x5632, .f32⟩
  | .hbm, ⟨9, _⟩ => ⟨S2x4x2x8x5632, .f32⟩
  | .hbm, ⟨10, _⟩ => ⟨S2x4x16x5632, .f32⟩
  | .hbm, ⟨11, _⟩ => ⟨S2x1x1024, .f32⟩
  | .hbm, ⟨12, _⟩ => ⟨S2x1024x5632, .bf16⟩
  | .hbm, ⟨13, _⟩ => ⟨S2x1x5632, .f32⟩
  | .hbm, ⟨14, _⟩ => ⟨S2x2816x1024, .bf16⟩
  | .hbm, ⟨15, _⟩ => ⟨S1x1024, .f32⟩
  | .hbm, ⟨16, _⟩ => ⟨S4x512x1024, .f32⟩
  | .hbm, ⟨17, _⟩ => ⟨S4x16x5632, .f32⟩
  | .local _ .vmem, ⟨0, _⟩ => ⟨S1x512x1024, .f32⟩
  | .local _ .vmem, ⟨1, _⟩ => ⟨S1x512x1024, .f32⟩
  | .local _ .vmem, ⟨2, _⟩ => ⟨S1x1x16x5632, .f32⟩
  | .local _ .vmem, ⟨3, _⟩ => ⟨S1x1x16x5632, .f32⟩
  | .local _ .vmem, ⟨4, _⟩ => ⟨S1x1x1024, .f32⟩
  | .local _ .vmem, ⟨5, _⟩ => ⟨S1x1024x5632, .bf16⟩
  | .local _ .vmem, ⟨6, _⟩ => ⟨S1x3x5632, .f32⟩
  | .local _ .vmem, ⟨7, _⟩ => ⟨S1x1x5632, .f32⟩
  | .local _ .vmem, ⟨8, _⟩ => ⟨S1x2816x1024, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x16x5632, .f32⟩
  | .local _ .vmem, ⟨13, _⟩ => ⟨S1x16x5632, .f32⟩
  | .local _ .vmem, ⟨14, _⟩ => ⟨S512x1024, .bf16⟩
  | .local _ .vmem, ⟨15, _⟩ => ⟨S528x1024, .f32⟩
  | .local _ .vmem, ⟨16, _⟩ => ⟨S528x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnIdeal.lean ====
abbrev S4x512x1024 : Shape := ⟨3, ![4, 512, 1024]⟩
abbrev S2x32x2x5632 : Shape := ⟨4, ![2, 32, 2, 5632]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1024 : Shape := ⟨1, ![1024]⟩
abbrev S2x4x8x2x5632 : Shape := ⟨5, ![2, 4, 8, 2, 5632]⟩
abbrev S2x4x2x8x5632 : Shape := ⟨5, ![2, 4, 2, 8, 5632]⟩
abbrev S2x4x16x5632 : Shape := ⟨4, ![2, 4, 16, 5632]⟩
abbrev S2x1x1024 : Shape := ⟨3, ![2, 1, 1024]⟩
abbrev S2x1x5632 : Shape := ⟨3, ![2, 1, 5632]⟩
abbrev S1x1024 : Shape := ⟨2, ![1, 1024]⟩
abbrev S4x16x5632 : Shape := ⟨3, ![4, 16, 5632]⟩
abbrev S1x512x1024 : Shape := ⟨3, ![1, 512, 1024]⟩
abbrev S1x1x16x5632 : Shape := ⟨4, ![1, 1, 16, 5632]⟩
abbrev S1x1x1024 : Shape := ⟨3, ![1, 1, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S1x16x5632 : Shape := ⟨3, ![1, 16, 5632]⟩
abbrev S512x1024 : Shape := ⟨2, ![512, 1024]⟩
abbrev S528x1024 : Shape := ⟨2, ![528, 1024]⟩
abbrev S16x5632 : Shape := ⟨2, ![16, 5632]⟩
abbrev S512 : Shape := ⟨1, ![512]⟩
abbrev S512x1 : Shape := ⟨2, ![512, 1]⟩
abbrev S1x16x1024 : Shape := ⟨3, ![1, 16, 1024]⟩
abbrev S16x1024 : Shape := ⟨2, ![16, 1024]⟩
abbrev S1x1024x1024 : Shape := ⟨3, ![1, 1024, 1024]⟩
abbrev S1024x1024 : Shape := ⟨2, ![1024, 1024]⟩
abbrev S256x1024 : Shape := ⟨2, ![256, 1024]⟩
abbrev S1x16x768 : Shape := ⟨3, ![1, 16, 768]⟩
abbrev S16x768 : Shape := ⟨2, ![16, 768]⟩
abbrev S1x1024x768 : Shape := ⟨3, ![1, 1024, 768]⟩
abbrev S1024x768 : Shape := ⟨2, ![1024, 768]⟩
abbrev S512x768 : Shape := ⟨2, ![512, 768]⟩
abbrev S1x1x768 : Shape := ⟨3, ![1, 1, 768]⟩
abbrev S1x768 : Shape := ⟨2, ![1, 768]⟩
abbrev S256x768 : Shape := ⟨2, ![256, 768]⟩
abbrev S1x768x1024 : Shape := ⟨3, ![1, 768, 1024]⟩
abbrev S768x1024 : Shape := ⟨2, ![768, 1024]⟩

abbrev nBuf : Space → Nat
  | .hbm => 18
  | .vmem => 17
  | .smem => 0
  | _ => 0

abbrev bufTy : (tb : Table) → Fin (tcTables nBuf tb) → BufTy
  | .hbm, ⟨0, _⟩ => ⟨S4x512x1024, .f32⟩
  | .hbm, ⟨1, _⟩ => ⟨S2x32x2x5632, .f32⟩
  | .hbm, ⟨2, _⟩ => ⟨S2x1024, .f32⟩
  | .hbm, ⟨3, _⟩ => ⟨S2x1024x5632, .f32⟩
  | .hbm, ⟨4, _⟩ => ⟨S2x3x5632, .f32⟩
  | .hbm, ⟨5, _⟩ => ⟨S2x5632, .f32⟩
  | .hbm, ⟨6, _⟩ => ⟨S2x2816x1024, .f32⟩
  | .hbm, ⟨7, _⟩ => ⟨S1024, .f32⟩
  | .hbm, ⟨8, _⟩ => ⟨S2x4x8x2x5632, .f32⟩
  | .hbm, ⟨9, _⟩ => ⟨S2x4x2x8x5632, .f32⟩
  | .hbm, ⟨10, _⟩ => ⟨S2x4x16x5632, .f32⟩
  | .hbm, ⟨11, _⟩ => ⟨S2x1x1024, .f32⟩
  | .hbm, ⟨12, _⟩ => ⟨S2x1024x5632, .bf16⟩
  | .hbm, ⟨13, _⟩ => ⟨S2x1x5632, .f32⟩
  | .hbm, ⟨14, _⟩ => ⟨S2x2816x1024, .bf16⟩
  | .hbm, ⟨15, _⟩ => ⟨S1x1024, .f32⟩
  | .hbm, ⟨16, _⟩ => ⟨S4x512x1024, .f32⟩
  | .hbm, ⟨17, _⟩ => ⟨S4x16x5632, .f32⟩
  | .local _ .vmem, ⟨0, _⟩ => ⟨S1x512x1024, .f32⟩
  | .local _ .vmem, ⟨1, _⟩ => ⟨S1x512x1024, .f32⟩
  | .local _ .vmem, ⟨2, _⟩ => ⟨S1x1x16x5632, .f32⟩
  | .local _ .vmem, ⟨3, _⟩ => ⟨S1x1x16x5632, .f32⟩
  | .local _ .vmem, ⟨4, _⟩ => ⟨S1x1x1024, .f32⟩
  | .local _ .vmem, ⟨5, _⟩ => ⟨S1x1024x5632, .bf16⟩
  | .local _ .vmem, ⟨6, _⟩ => ⟨S1x3x5632, .f32⟩
  | .local _ .vmem, ⟨7, _⟩ => ⟨S1x1x5632, .f32⟩
  | .local _ .vmem, ⟨8, _⟩ => ⟨S1x2816x1024, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x16x5632, .f32⟩
  | .local _ .vmem, ⟨13, _⟩ => ⟨S1x16x5632, .f32⟩
  | .local _ .vmem, ⟨14, _⟩ => ⟨S512x1024, .bf16⟩
  | .local _ .vmem, ⟨15, _⟩ => ⟨S528x1024, .f32⟩
  | .local _ .vmem, ⟨16, _⟩ => ⟨S528x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnRefIdeal.lean ====
abbrev S4x512x1024 : Shape := ⟨3, ![4, 512, 1024]⟩
abbrev S2x32x2x5632 : Shape := ⟨4, ![2, 32, 2, 5632]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1024 : Shape := ⟨1, ![1024]⟩
abbrev S4x64x8x1024 : Shape := ⟨4, ![4, 64, 8, 1024]⟩
abbrev S4x8x64x1024 : Shape := ⟨4, ![4, 8, 64, 1024]⟩
abbrev S32x64x1024 : Shape := ⟨3, ![32, 64, 1024]⟩
abbrev S1x1024 : Shape := ⟨2, ![1, 1024]⟩
abbrev S_ : Shape := ⟨0, ![]⟩
abbrev S32x64 : Shape := ⟨2, ![32, 64]⟩
abbrev S32x64x1 : Shape := ⟨3, ![32, 64, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S32x64x5632 : Shape := ⟨3, ![32, 64, 5632]⟩
abbrev S1x32x2x5632 : Shape := ⟨4, ![1, 32, 2, 5632]⟩
abbrev S32x2x5632 : Shape := ⟨3, ![32, 2, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S32x66x5632 : Shape := ⟨3, ![32, 66, 5632]⟩
abbrev S1x1x5632 : Shape := ⟨3, ![1, 1, 5632]⟩
abbrev S32x64x2816 : Shape := ⟨3, ![32, 64, 2816]⟩
abbrev S1x2816x1024 : Shape := ⟨3, ![1, 2816, 1024]⟩
abbrev S2816x1024 : Shape := ⟨2, ![2816, 1024]⟩
abbrev S4x8x2x5632 : Shape := ⟨4, ![4, 8, 2, 5632]⟩
abbrev S4x2x8x5632 : Shape := ⟨4, ![4, 2, 8, 5632]⟩
abbrev S4x16x5632 : Shape := ⟨3, ![4, 16, 5632]⟩

abbrev nBuf : Space → Nat
  | .hbm => 85
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S2x32x2x5632, .f32⟩
  | .hbm, ⟨2, _⟩ => ⟨S2x1024, .f32⟩
  | .hbm, ⟨3, _⟩ => ⟨S2x1024x5632, .f32⟩
  | .hbm, ⟨4, _⟩ => ⟨S2x3x5632, .f32⟩
  | .hbm, ⟨5, _⟩ => ⟨S2x5632, .f32⟩
  | .hbm, ⟨6, _⟩ => ⟨S2x2816x1024, .f32⟩
  | .hbm, ⟨7, _⟩ => ⟨S1024, .f32⟩
  | .hbm, ⟨8, _⟩ => ⟨S4x64x8x1024, .f32⟩
  | .hbm, ⟨9, _⟩ => ⟨S4x8x64x1024, .f32⟩
  | .hbm, ⟨10, _⟩ => ⟨S32x64x1024, .f32⟩
  | .hbm, ⟨11, _⟩ => ⟨S1x1024, .f32⟩
  | .hbm, ⟨12, _⟩ => ⟨S1024, .f32⟩
  | .hbm, ⟨13, _⟩ => ⟨S32x64x1024, .f32⟩
  | .hbm, ⟨14, _⟩ => ⟨S_, .f32⟩
  | .hbm, ⟨15, _⟩ => ⟨S32x64, .f32⟩
  | .hbm, ⟨16, _⟩ => ⟨S32x64x1, .f32⟩
  | .hbm, ⟨17, _⟩ => ⟨S_, .f32⟩
  | .hbm, ⟨18, _⟩ => ⟨S32x64x1, .f32⟩
  | .hbm, ⟨19, _⟩ => ⟨S32x64x1, .f32⟩
  | .hbm, ⟨20, _⟩ => ⟨S_, .f32⟩
  | .hbm, ⟨21, _⟩ => ⟨S32x64x1, .f32⟩
  | .hbm, ⟨22, _⟩ => ⟨S32x64x1, .f32⟩
  | .hbm, ⟨23, _⟩ => ⟨S32x64x1, .f32⟩
  | .hbm, ⟨24, _⟩ => ⟨S32x64x1024, .f32⟩
  | .hbm, ⟨25, _⟩ => ⟨S32x64x1024, .f32⟩
  | .hbm, ⟨26, _⟩ => ⟨S1x1x1024, .f32⟩
  | .hbm, ⟨27, _⟩ => ⟨S32x64x1024, .f32⟩
  | .hbm, ⟨28, _⟩ => ⟨S32x64x1024, .f32⟩
  | .hbm, ⟨29, _⟩ => ⟨S1x1024x5632, .f32⟩
  | .hbm, ⟨30, _⟩ => ⟨S1024x5632, .f32⟩
  | .hbm, ⟨31, _⟩ => ⟨S32x64x5632, .f32⟩
  | .hbm, ⟨32, _⟩ => ⟨S1x32x2x5632, .f32⟩
  | .hbm, ⟨33, _⟩ => ⟨S32x2x5632, .f32⟩
  | .hbm, ⟨34, _⟩ => ⟨S1x3x5632, .f32⟩
  | .hbm, ⟨35, _⟩ => ⟨S3x5632, .f32⟩
  | .hbm, ⟨36, _⟩ => ⟨S1x5632, .f32⟩
  | .hbm, ⟨37, _⟩ => ⟨S5632, .f32⟩
  | .hbm, ⟨38, _⟩ => ⟨S32x66x5632, .f32⟩
  | .hbm, ⟨39, _⟩ => ⟨S1x5632, .f32⟩
  | .hbm, ⟨40, _⟩ => ⟨S5632, .f32⟩
  | .hbm, ⟨41, _⟩ => ⟨S32x64x5632, .f32⟩
  | .hbm, ⟨42, _⟩ => ⟨S1x1x5632, .f32⟩
  | .hbm, ⟨43, _⟩ => ⟨S32x64x5632, .f32⟩
  | .hbm, ⟨44, _⟩ => ⟨S32x64x5632, .f32⟩
  | .hbm, ⟨45, _⟩ => ⟨S1x5632, .f32⟩
  | .hbm, ⟨46, _⟩ => ⟨S5632, .f32⟩
  | .hbm, ⟨47, _⟩ => ⟨S32x64x5632, .f32⟩
  | .hbm, ⟨48, _⟩ => ⟨S1x1x5632, .f32⟩
  | .hbm, ⟨49, _⟩ => ⟨S32x64x5632, .f32⟩
  | .hbm, ⟨50, _⟩ => ⟨S32x64x5632, .f32⟩
  | .hbm, ⟨51, _⟩ => ⟨S32x64x5632, .f32⟩
  | .hbm, ⟨52, _⟩ => ⟨S1x5632, .f32⟩
  | .hbm, ⟨53, _⟩ => ⟨S5632, .f32⟩
  | .hbm, ⟨54, _⟩ => ⟨S32x64x5632, .f32⟩
  | .hbm, ⟨55, _⟩ => ⟨S1x1x5632, .f32⟩
  | .hbm, ⟨56, _⟩ => ⟨S32x64x5632, .f32⟩
  | .hbm, ⟨57, _⟩ => ⟨S32x64x5632, .f32⟩
  | .hbm, ⟨58, _⟩ => ⟨S32x64x5632, .f32⟩
  | .hbm, ⟨59, _⟩ => ⟨S1x1x5632, .f32⟩
  | .hbm, ⟨60, _⟩ => ⟨S32x64x5632, .f32⟩
  | .hbm, ⟨61, _⟩ => ⟨S32x64x5632, .f32⟩
  | .hbm, ⟨62, _⟩ => ⟨S32x2x5632, .f32⟩
  | .hbm, ⟨63, _⟩ => ⟨S32x64x2816, .f32⟩
  | .hbm, ⟨64, _⟩ => ⟨S32x64x2816, .f32⟩
  | .hbm, ⟨65, _⟩ => ⟨S32x64x2816, .f32⟩
  | .hbm, ⟨66, _⟩ => ⟨S32x64x2816, .f32⟩
  | .hbm, ⟨67, _⟩ => ⟨S_, .f32⟩
  | .hbm, ⟨68, _⟩ => ⟨S32x64x2816, .f32⟩
  | .hbm, ⟨69, _⟩ => ⟨S32x64x2816, .f32⟩
  | .hbm, ⟨70, _⟩ => ⟨S_, .f32⟩
  | .hbm, ⟨71, _⟩ => ⟨S32x64x2816, .f32⟩
  | .hbm, ⟨72, _⟩ => ⟨S32x64x2816, .f32⟩
  | .hbm, ⟨73, _⟩ => ⟨S32x64x2816, .f32⟩
  | .hbm, ⟨74, _⟩ => ⟨S32x64x2816, .f32⟩
  | .hbm, ⟨75, _⟩ => ⟨S1x2816x1024, .f32⟩
  | .hbm, ⟨76, _⟩ => ⟨S2816x1024, .f32⟩
  | .hbm, ⟨77, _⟩ => ⟨S32x64x1024, .f32⟩
  | .hbm, ⟨78, _⟩ => ⟨S32x64x1024, .f32⟩
  | .hbm, ⟨79, _⟩ => ⟨S4x8x64x1024, .f32⟩
  | .hbm, ⟨80, _⟩ => ⟨S4x64x8x1024, .f32⟩
  | .hbm, ⟨81, _⟩ => ⟨S4x512x1024, .f32⟩
  | .hbm, ⟨82, _⟩ => ⟨S4x8x2x5632, .f32⟩
  | .hbm, ⟨83, _⟩ => ⟨S4x2x8x5632, .f32⟩
  | .hbm, ⟨84, _⟩ => ⟨S4x16x5632, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== Last.lean ====
abbrev S4x512x1024 : Shape := ⟨3, ![4, 512, 1024]⟩
abbrev S2x32x2x5632 : Shape := ⟨4, ![2, 32, 2, 5632]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1024 : Shape := ⟨1, ![1024]⟩
abbrev S2x4x8x2x5632 : Shape := ⟨5, ![2, 4, 8, 2, 5632]⟩
abbrev S2x4x2x8x5632 : Shape := ⟨5, ![2, 4, 2, 8, 5632]⟩
abbrev S2x4x16x5632 : Shape := ⟨4, ![2, 4, 16, 5632]⟩
abbrev S2x1x1024 : Shape := ⟨3, ![2, 1, 1024]⟩
abbrev S2x1x5632 : Shape := ⟨3, ![2, 1, 5632]⟩
abbrev S1x1024 : Shape := ⟨2, ![1, 1024]⟩
abbrev S32x64x1024 : Shape := ⟨3, ![32, 64, 1024]⟩
abbrev S4x16x5632 : Shape := ⟨3, ![4, 16, 5632]⟩
abbrev S1x512x1024 : Shape := ⟨3, ![1, 512, 1024]⟩
abbrev S1x1x16x5632 : Shape := ⟨4, ![1, 1, 16, 5632]⟩
abbrev S1x1x1024 : Shape := ⟨3, ![1, 1, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S8x64x1024 : Shape := ⟨3, ![8, 64, 1024]⟩
abbrev S1x16x5632 : Shape := ⟨3, ![1, 16, 5632]⟩
abbrev S512x1024 : Shape := ⟨2, ![512, 1024]⟩
abbrev S528x1024 : Shape := ⟨2, ![528, 1024]⟩
abbrev S8x512x128 : Shape := ⟨3, ![8, 512, 128]⟩
abbrev S16x5632 : Shape := ⟨2, ![16, 5632]⟩
abbrev S512 : Shape := ⟨1, ![512]⟩
abbrev S512x1 : Shape := ⟨2, ![512, 1]⟩
abbrev S1x16x1024 : Shape := ⟨3, ![1, 16, 1024]⟩
abbrev S16x1024 : Shape := ⟨2, ![16, 1024]⟩
abbrev S1x1024x1024 : Shape := ⟨3, ![1, 1024, 1024]⟩
abbrev S1024x1024 : Shape := ⟨2, ![1024, 1024]⟩
abbrev S256x1024 : Shape := ⟨2, ![256, 1024]⟩
abbrev S1x16x768 : Shape := ⟨3, ![1, 16, 768]⟩
abbrev S16x768 : Shape := ⟨2, ![16, 768]⟩
abbrev S1x1024x768 : Shape := ⟨3, ![1, 1024, 768]⟩
abbrev S1024x768 : Shape := ⟨2, ![1024, 768]⟩
abbrev S512x768 : Shape := ⟨2, ![512, 768]⟩
abbrev S1x1x768 : Shape := ⟨3, ![1, 1, 768]⟩
abbrev S1x768 : Shape := ⟨2, ![1, 768]⟩
abbrev S256x768 : Shape := ⟨2, ![256, 768]⟩
abbrev S1x768x1024 : Shape := ⟨3, ![1, 768, 1024]⟩
abbrev S768x1024 : Shape := ⟨2, ![768, 1024]⟩
abbrev S512x128 : Shape := ⟨2, ![512, 128]⟩
abbrev S1x512x128 : Shape := ⟨3, ![1, 512, 128]⟩
abbrev S1x64x128 : Shape := ⟨3, ![1, 64, 128]⟩
abbrev S64x128 : Shape := ⟨2, ![64, 128]⟩

abbrev nBuf : Space → Nat
  | .hbm => 18
  | .vmem => 18
  | .smem => 0
  | _ => 0

abbrev bufTy : (tb : Table) → Fin (tcTables nBuf tb) → BufTy
  | .hbm, ⟨0, _⟩ => ⟨S4x512x1024, .f32⟩
  | .hbm, ⟨1, _⟩ => ⟨S2x32x2x5632, .f32⟩
  | .hbm, ⟨2, _⟩ => ⟨S2x1024, .f32⟩
  | .hbm, ⟨3, _⟩ => ⟨S2x1024x5632, .f32⟩
  | .hbm, ⟨4, _⟩ => ⟨S2x3x5632, .f32⟩
  | .hbm, ⟨5, _⟩ => ⟨S2x5632, .f32⟩
  | .hbm, ⟨6, _⟩ => ⟨S2x2816x1024, .f32⟩
  | .hbm, ⟨7, _⟩ => ⟨S1024, .f32⟩
  | .hbm, ⟨8, _⟩ => ⟨S2x4x8x2x5632, .f32⟩
  | .hbm, ⟨9, _⟩ => ⟨S2x4x2x8x5632, .f32⟩
  | .hbm, ⟨10, _⟩ => ⟨S2x4x16x5632, .f32⟩
  | .hbm, ⟨11, _⟩ => ⟨S2x1x1024, .f32⟩
  | .hbm, ⟨12, _⟩ => ⟨S2x1024x5632, .bf16⟩
  | .hbm, ⟨13, _⟩ => ⟨S2x1x5632, .f32⟩
  | .hbm, ⟨14, _⟩ => ⟨S2x2816x1024, .bf16⟩
  | .hbm, ⟨15, _⟩ => ⟨S1x1024, .f32⟩
  | .hbm, ⟨16, _⟩ => ⟨S32x64x1024, .f32⟩
  | .hbm, ⟨17, _⟩ => ⟨S4x16x5632, .f32⟩
  | .local _ .vmem, ⟨0, _⟩ => ⟨S1x512x1024, .f32⟩
  | .local _ .vmem, ⟨1, _⟩ => ⟨S1x512x1024, .f32⟩
  | .local _ .vmem, ⟨2, _⟩ => ⟨S1x1x16x5632, .f32⟩
  | .local _ .vmem, ⟨3, _⟩ => ⟨S1x1x16x5632, .f32⟩
  | .local _ .vmem, ⟨4, _⟩ => ⟨S1x1x1024, .f32⟩
  | .local _ .vmem, ⟨5, _⟩ => ⟨S1x1024x5632, .bf16⟩
  | .local _ .vmem, ⟨6, _⟩ => ⟨S1x3x5632, .f32⟩
  | .local _ .vmem, ⟨7, _⟩ => ⟨S1x1x5632, .f32⟩
  | .local _ .vmem, ⟨8, _⟩ => ⟨S1x2816x1024, .bf16⟩
  | .local _ .vmem, ⟨9, _⟩ => ⟨S1x1024, .f32⟩
  | .local _ .vmem, ⟨10, _⟩ => ⟨S8x64x1024, .f32⟩
  | .local _ .vmem, ⟨11, _⟩ => ⟨S8x64x1024, .f32⟩
  | .local _ .vmem, ⟨12, _⟩ => ⟨S1x16x5632, .f32⟩
  | .local _ .vmem, ⟨13, _⟩ => ⟨S1x16x5632, .f32⟩
  | .local _ .vmem, ⟨14, _⟩ => ⟨S512x1024, .bf16⟩
  | .local _ .vmem, ⟨15, _⟩ => ⟨S528x1024, .f32⟩
  | .local _ .vmem, ⟨16, _⟩ => ⟨S528x1024, .f32⟩
  | .local _ .vmem, ⟨17, _⟩ => ⟨S8x512x128, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== LastIdeal.lean ====
abbrev S4x512x1024 : Shape := ⟨3, ![4, 512, 1024]⟩
abbrev S2x32x2x5632 : Shape := ⟨4, ![2, 32, 2, 5632]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1024 : Shape := ⟨1, ![1024]⟩
abbrev S2x4x8x2x5632 : Shape := ⟨5, ![2, 4, 8, 2, 5632]⟩
abbrev S2x4x2x8x5632 : Shape := ⟨5, ![2, 4, 2, 8, 5632]⟩
abbrev S2x4x16x5632 : Shape := ⟨4, ![2, 4, 16, 5632]⟩
abbrev S2x1x1024 : Shape := ⟨3, ![2, 1, 1024]⟩
abbrev S2x1x5632 : Shape := ⟨3, ![2, 1, 5632]⟩
abbrev S1x1024 : Shape := ⟨2, ![1, 1024]⟩
abbrev S32x64x1024 : Shape := ⟨3, ![32, 64, 1024]⟩
abbrev S4x16x5632 : Shape := ⟨3, ![4, 16, 5632]⟩
abbrev S1x512x1024 : Shape := ⟨3, ![1, 512, 1024]⟩
abbrev S1x1x16x5632 : Shape := ⟨4, ![1, 1, 16, 5632]⟩
abbrev S1x1x1024 : Shape := ⟨3, ![1, 1, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S8x64x1024 : Shape := ⟨3, ![8, 64, 1024]⟩
abbrev S1x16x5632 : Shape := ⟨3, ![1, 16, 5632]⟩
abbrev S512x1024 : Shape := ⟨2, ![512, 1024]⟩
abbrev S528x1024 : Shape := ⟨2, ![528, 1024]⟩
abbrev S8x512x128 : Shape := ⟨3, ![8, 512, 128]⟩
abbrev S16x5632 : Shape := ⟨2, ![16, 5632]⟩
abbrev S512 : Shape := ⟨1, ![512]⟩
abbrev S512x1 : Shape := ⟨2, ![512, 1]⟩
abbrev S1x16x1024 : Shape := ⟨3, ![1, 16, 1024]⟩
abbrev S16x1024 : Shape := ⟨2, ![16, 1024]⟩
abbrev S1x1024x1024 : Shape := ⟨3, ![1, 1024, 1024]⟩
abbrev S1024x1024 : Shape := ⟨2, ![1024, 1024]⟩
abbrev S256x1024 : Shape := ⟨2, ![256, 1024]⟩
abbrev S1x16x768 : Shape := ⟨3, ![1, 16, 768]⟩
abbrev S16x768 : Shape := ⟨2, ![16, 768]⟩
abbrev S1x1024x768 : Shape := ⟨3, ![1, 1024, 768]⟩
abbrev S1024x768 : Shape := ⟨2, ![1024, 768]⟩
abbrev S512x768 : Shape := ⟨2, ![512, 768]⟩
abbrev S1x1x768 : Shape := ⟨3, ![1, 1, 768]⟩
abbrev S1x768 : Shape := ⟨2, ![1, 768]⟩
abbrev S256x768 : Shape := ⟨2, ![256, 768]⟩
abbrev S1x768x1024 : Shape := ⟨3, ![1, 768, 1024]⟩
abbrev S768x1024 : Shape := ⟨2, ![768, 1024]⟩
abbrev S512x128 : Shape := ⟨2, ![512, 128]⟩
abbrev S1x512x128 : Shape := ⟨3, ![1, 512, 128]⟩
abbrev S1x64x128 : Shape := ⟨3, ![1, 64, 128]⟩
abbrev S64x128 : Shape := ⟨2, ![64, 128]⟩

abbrev nBuf : Space → Nat
  | .hbm => 18
  | .vmem => 18
  | .smem => 0
  | _ => 0

abbrev bufTy : (tb : Table) → Fin (tcTables nBuf tb) → BufTy
  | .hbm, ⟨0, _⟩ => ⟨S4x512x1024, .f32⟩
  | .hbm, ⟨1, _⟩ => ⟨S2x32x2x5632, .f32⟩
  | .hbm, ⟨2, _⟩ => ⟨S2x1024, .f32⟩
  | .hbm, ⟨3, _⟩ => ⟨S2x1024x5632, .f32⟩
  | .hbm, ⟨4, _⟩ => ⟨S2x3x5632, .f32⟩
  | .hbm, ⟨5, _⟩ => ⟨S2x5632, .f32⟩
  | .hbm, ⟨6, _⟩ => ⟨S2x2816x1024, .f32⟩
  | .hbm, ⟨7, _⟩ => ⟨S1024, .f32⟩
  | .hbm, ⟨8, _⟩ => ⟨S2x4x8x2x5632, .f32⟩
  | .hbm, ⟨9, _⟩ => ⟨S2x4x2x8x5632, .f32⟩
  | .hbm, ⟨10, _⟩ => ⟨S2x4x16x5632, .f32⟩
  | .hbm, ⟨11, _⟩ => ⟨S2x1x1024, .f32⟩
  | .hbm, ⟨12, _⟩ => ⟨S2x1024x5632, .bf16⟩
  | .hbm, ⟨13, _⟩ => ⟨S2x1x5632, .f32⟩
  | .hbm, ⟨14, _⟩ => ⟨S2x2816x1024, .bf16⟩
  | .hbm, ⟨15, _⟩ => ⟨S1x1024, .f32⟩
  | .hbm, ⟨16, _⟩ => ⟨S32x64x1024, .f32⟩
  | .hbm, ⟨17, _⟩ => ⟨S4x16x5632, .f32⟩
  | .local _ .vmem, ⟨0, _⟩ => ⟨S1x512x1024, .f32⟩
  | .local _ .vmem, ⟨1, _⟩ => ⟨S1x512x1024, .f32⟩
  | .local _ .vmem, ⟨2, _⟩ => ⟨S1x1x16x5632, .f32⟩
  | .local _ .vmem, ⟨3, _⟩ => ⟨S1x1x16x5632, .f32⟩
  | .local _ .vmem, ⟨4, _⟩ => ⟨S1x1x1024, .f32⟩
  | .local _ .vmem, ⟨5, _⟩ => ⟨S1x1024x5632, .bf16⟩
  | .local _ .vmem, ⟨6, _⟩ => ⟨S1x3x5632, .f32⟩
  | .local _ .vmem, ⟨7, _⟩ => ⟨S1x1x5632, .f32⟩
  | .local _ .vmem, ⟨8, _⟩ => ⟨S1x2816x1024, .bf16⟩
  | .local _ .vmem, ⟨9, _⟩ => ⟨S1x1024, .f32⟩
  | .local _ .vmem, ⟨10, _⟩ => ⟨S8x64x1024, .f32⟩
  | .local _ .vmem, ⟨11, _⟩ => ⟨S8x64x1024, .f32⟩
  | .local _ .vmem, ⟨12, _⟩ => ⟨S1x16x5632, .f32⟩
  | .local _ .vmem, ⟨13, _⟩ => ⟨S1x16x5632, .f32⟩
  | .local _ .vmem, ⟨14, _⟩ => ⟨S512x1024, .bf16⟩
  | .local _ .vmem, ⟨15, _⟩ => ⟨S528x1024, .f32⟩
  | .local _ .vmem, ⟨16, _⟩ => ⟨S528x1024, .f32⟩
  | .local _ .vmem, ⟨17, _⟩ => ⟨S8x512x128, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== LastRefIdeal.lean ====
abbrev S4x512x1024 : Shape := ⟨3, ![4, 512, 1024]⟩
abbrev S2x32x2x5632 : Shape := ⟨4, ![2, 32, 2, 5632]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1024 : Shape := ⟨1, ![1024]⟩
abbrev S4x64x8x1024 : Shape := ⟨4, ![4, 64, 8, 1024]⟩
abbrev S4x8x64x1024 : Shape := ⟨4, ![4, 8, 64, 1024]⟩
abbrev S32x64x1024 : Shape := ⟨3, ![32, 64, 1024]⟩
abbrev S1x1024 : Shape := ⟨2, ![1, 1024]⟩
abbrev S_ : Shape := ⟨0, ![]⟩
abbrev S32x64 : Shape := ⟨2, ![32, 64]⟩
abbrev S32x64x1 : Shape := ⟨3, ![32, 64, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S32x64x5632 : Shape := ⟨3, ![32, 64, 5632]⟩
abbrev S1x32x2x5632 : Shape := ⟨4, ![1, 32, 2, 5632]⟩
abbrev S32x2x5632 : Shape := ⟨3, ![32, 2, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S32x66x5632 : Shape := ⟨3, ![32, 66, 5632]⟩
abbrev S1x1x5632 : Shape := ⟨3, ![1, 1, 5632]⟩
abbrev S32x64x2816 : Shape := ⟨3, ![32, 64, 2816]⟩
abbrev S1x2816x1024 : Shape := ⟨3, ![1, 2816, 1024]⟩
abbrev S2816x1024 : Shape := ⟨2, ![2816, 1024]⟩
abbrev S4x8x2x5632 : Shape := ⟨4, ![4, 8, 2, 5632]⟩
abbrev S4x2x8x5632 : Shape := ⟨4, ![4, 2, 8, 5632]⟩
abbrev S4x16x5632 : Shape := ⟨3, ![4, 16, 5632]⟩

abbrev nBuf : Space → Nat
  | .hbm => 98
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S2x32x2x5632, .f32⟩
  | .hbm, ⟨2, _⟩ => ⟨S2x1024, .f32⟩
  | .hbm, ⟨3, _⟩ => ⟨S2x1024x5632, .f32⟩
  | .hbm, ⟨4, _⟩ => ⟨S2x3x5632, .f32⟩
  | .hbm, ⟨5, _⟩ => ⟨S2x5632, .f32⟩
  | .hbm, ⟨6, _⟩ => ⟨S2x2816x1024, .f32⟩
  | .hbm, ⟨7, _⟩ => ⟨S1024, .f32⟩
  | .hbm, ⟨8, _⟩ => ⟨S4x64x8x1024, .f32⟩
  | .hbm, ⟨9, _⟩ => ⟨S4x8x64x1024, .f32⟩
  | .hbm, ⟨10, _⟩ => ⟨S32x64x1024, .f32⟩
  | .hbm, ⟨11, _⟩ => ⟨S1x1024, .f32⟩
  | .hbm, ⟨12, _⟩ => ⟨S1024, .f32⟩
  | .hbm, ⟨13, _⟩ => ⟨S32x64x1024, .f32⟩
  | .hbm, ⟨14, _⟩ => ⟨S_, .f32⟩
  | .hbm, ⟨15, _⟩ => ⟨S32x64, .f32⟩
  | .hbm, ⟨16, _⟩ => ⟨S32x64x1, .f32⟩
  | .hbm, ⟨17, _⟩ => ⟨S_, .f32⟩
  | .hbm, ⟨18, _⟩ => ⟨S32x64x1, .f32⟩
  | .hbm, ⟨19, _⟩ => ⟨S32x64x1, .f32⟩
  | .hbm, ⟨20, _⟩ => ⟨S_, .f32⟩
  | .hbm, ⟨21, _⟩ => ⟨S32x64x1, .f32⟩
  | .hbm, ⟨22, _⟩ => ⟨S32x64x1, .f32⟩
  | .hbm, ⟨23, _⟩ => ⟨S32x64x1, .f32⟩
  | .hbm, ⟨24, _⟩ => ⟨S32x64x1024, .f32⟩
  | .hbm, ⟨25, _⟩ => ⟨S32x64x1024, .f32⟩
  | .hbm, ⟨26, _⟩ => ⟨S1x1x1024, .f32⟩
  | .hbm, ⟨27, _⟩ => ⟨S32x64x1024, .f32⟩
  | .hbm, ⟨28, _⟩ => ⟨S32x64x1024, .f32⟩
  | .hbm, ⟨29, _⟩ => ⟨S1x1024x5632, .f32⟩
  | .hbm, ⟨30, _⟩ => ⟨S1024x5632, .f32⟩
  | .hbm, ⟨31, _⟩ => ⟨S32x64x5632, .f32⟩
  | .hbm, ⟨32, _⟩ => ⟨S1x32x2x5632, .f32⟩
  | .hbm, ⟨33, _⟩ => ⟨S32x2x5632, .f32⟩
  | .hbm, ⟨34, _⟩ => ⟨S1x3x5632, .f32⟩
  | .hbm, ⟨35, _⟩ => ⟨S3x5632, .f32⟩
  | .hbm, ⟨36, _⟩ => ⟨S1x5632, .f32⟩
  | .hbm, ⟨37, _⟩ => ⟨S5632, .f32⟩
  | .hbm, ⟨38, _⟩ => ⟨S32x66x5632, .f32⟩
  | .hbm, ⟨39, _⟩ => ⟨S1x5632, .f32⟩
  | .hbm, ⟨40, _⟩ => ⟨S5632, .f32⟩
  | .hbm, ⟨41, _⟩ => ⟨S32x64x5632, .f32⟩
  | .hbm, ⟨42, _⟩ => ⟨S1x1x5632, .f32⟩
  | .hbm, ⟨43, _⟩ => ⟨S32x64x5632, .f32⟩
  | .hbm, ⟨44, _⟩ => ⟨S32x64x5632, .f32⟩
  | .hbm, ⟨45, _⟩ => ⟨S1x5632, .f32⟩
  | .hbm, ⟨46, _⟩ => ⟨S5632, .f32⟩
  | .hbm, ⟨47, _⟩ => ⟨S32x64x5632, .f32⟩
  | .hbm, ⟨48, _⟩ => ⟨S1x1x5632, .f32⟩
  | .hbm, ⟨49, _⟩ => ⟨S32x64x5632, .f32⟩
  | .hbm, ⟨50, _⟩ => ⟨S32x64x5632, .f32⟩
  | .hbm, ⟨51, _⟩ => ⟨S32x64x5632, .f32⟩
  | .hbm, ⟨52, _⟩ => ⟨S1x5632, .f32⟩
  | .hbm, ⟨53, _⟩ => ⟨S5632, .f32⟩
  | .hbm, ⟨54, _⟩ => ⟨S32x64x5632, .f32⟩
  | .hbm, ⟨55, _⟩ => ⟨S1x1x5632, .f32⟩
  | .hbm, ⟨56, _⟩ => ⟨S32x64x5632, .f32⟩
  | .hbm, ⟨57, _⟩ => ⟨S32x64x5632, .f32⟩
  | .hbm, ⟨58, _⟩ => ⟨S32x64x5632, .f32⟩
  | .hbm, ⟨59, _⟩ => ⟨S1x1x5632, .f32⟩
  | .hbm, ⟨60, _⟩ => ⟨S32x64x5632, .f32⟩
  | .hbm, ⟨61, _⟩ => ⟨S32x64x5632, .f32⟩
  | .hbm, ⟨62, _⟩ => ⟨S32x2x5632, .f32⟩
  | .hbm, ⟨63, _⟩ => ⟨S32x64x2816, .f32⟩
  | .hbm, ⟨64, _⟩ => ⟨S32x64x2816, .f32⟩
  | .hbm, ⟨65, _⟩ => ⟨S32x64x2816, .f32⟩
  | .hbm, ⟨66, _⟩ => ⟨S32x64x2816, .f32⟩
  | .hbm, ⟨67, _⟩ => ⟨S_, .f32⟩
  | .hbm, ⟨68, _⟩ => ⟨S32x64x2816, .f32⟩
  | .hbm, ⟨69, _⟩ => ⟨S32x64x2816, .f32⟩
  | .hbm, ⟨70, _⟩ => ⟨S_, .f32⟩
  | .hbm, ⟨71, _⟩ => ⟨S32x64x2816, .f32⟩
  | .hbm, ⟨72, _⟩ => ⟨S32x64x2816, .f32⟩
  | .hbm, ⟨73, _⟩ => ⟨S32x64x2816, .f32⟩
  | .hbm, ⟨74, _⟩ => ⟨S32x64x2816, .f32⟩
  | .hbm, ⟨75, _⟩ => ⟨S1x2816x1024, .f32⟩
  | .hbm, ⟨76, _⟩ => ⟨S2816x1024, .f32⟩
  | .hbm, ⟨77, _⟩ => ⟨S32x64x1024, .f32⟩
  | .hbm, ⟨78, _⟩ => ⟨S32x64x1024, .f32⟩
  | .hbm, ⟨79, _⟩ => ⟨S32x64x1024, .f32⟩
  | .hbm, ⟨80, _⟩ => ⟨S_, .f32⟩
  | .hbm, ⟨81, _⟩ => ⟨S32x64, .f32⟩
  | .hbm, ⟨82, _⟩ => ⟨S32x64x1, .f32⟩
  | .hbm, ⟨83, _⟩ => ⟨S_, .f32⟩
  | .hbm, ⟨84, _⟩ => ⟨S32x64x1, .f32⟩
  | .hbm, ⟨85, _⟩ => ⟨S32x64x1, .f32⟩
  | .hbm, ⟨86, _⟩ => ⟨S_, .f32⟩
  | .hbm, ⟨87, _⟩ => ⟨S32x64x1, .f32⟩
  | .hbm, ⟨88, _⟩ => ⟨S32x64x1, .f32⟩
  | .hbm, ⟨89, _⟩ => ⟨S32x64x1, .f32⟩
  | .hbm, ⟨90, _⟩ => ⟨S32x64x1024, .f32⟩
  | .hbm, ⟨91, _⟩ => ⟨S32x64x1024, .f32⟩
  | .hbm, ⟨92, _⟩ => ⟨S1x1x1024, .f32⟩
  | .hbm, ⟨93, _⟩ => ⟨S32x64x1024, .f32⟩
  | .hbm, ⟨94, _⟩ => ⟨S32x64x1024, .f32⟩
  | .hbm, ⟨95, _⟩ => ⟨S4x8x2x5632, .f32⟩
  | .hbm, ⟨96, _⟩ => ⟨S4x2x8x5632, .f32⟩
  | .hbm, ⟨97, _⟩ => ⟨S4x16x5632, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_2 : Ref sig .tc := ⟨.hbm, 80, rfl⟩
abbrev main_v61 : Ref sig .tc := ⟨.hbm, 81, rfl⟩
abbrev main_v62 : Ref sig .tc := ⟨.hbm, 82, rfl⟩
abbrev main_cst_3 : Ref sig .tc := ⟨.hbm, 83, rfl⟩
abbrev main_v63 : Ref sig .tc := ⟨.hbm, 84, rfl⟩
abbrev main_v64 : Ref sig .tc := ⟨.hbm, 85, rfl⟩
abbrev main_cst_4 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩

abbrev nD : Nat := 1
abbrev τ : Topo := Topo.v7x

variable {F : FTy → Type} [FloatOps F]
-- ==== Prompt.lean ====
abbrev S4x16384x1024 : Shape := ⟨3, ![4, 16384, 1024]⟩
abbrev S2x32x2x5632 : Shape := ⟨4, ![2, 32, 2, 5632]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1024 : Shape := ⟨1, ![1024]⟩
abbrev S2x4x8x2x5632 : Shape := ⟨5, ![2, 4, 8, 2, 5632]⟩
abbrev S2x4x2x8x5632 : Shape := ⟨5, ![2, 4, 2, 8, 5632]⟩
abbrev S2x4x16x5632 : Shape := ⟨4, ![2, 4, 16, 5632]⟩
abbrev S2x1x1024 : Shape := ⟨3, ![2, 1, 1024]⟩
abbrev S2x1x5632 : Shape := ⟨3, ![2, 1, 5632]⟩
abbrev S1x1024 : Shape := ⟨2, ![1, 1024]⟩
abbrev S32x2048x1024 : Shape := ⟨3, ![32, 2048, 1024]⟩
abbrev S4x16x5632 : Shape := ⟨3, ![4, 16, 5632]⟩
abbrev S1x1024x1024 : Shape := ⟨3, ![1, 1024, 1024]⟩
abbrev S1x1x16x5632 : Shape := ⟨4, ![1, 1, 16, 5632]⟩
abbrev S1x1x1024 : Shape := ⟨3, ![1, 1, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S8x128x1024 : Shape := ⟨3, ![8, 128, 1024]⟩
abbrev S1x16x5632 : Shape := ⟨3, ![1, 16, 5632]⟩
abbrev S1024x1024 : Shape := ⟨2, ![1024, 1024]⟩
abbrev S1040x1024 : Shape := ⟨2, ![1040, 1024]⟩
abbrev S8x1024x128 : Shape := ⟨3, ![8, 1024, 128]⟩
abbrev S16x5632 : Shape := ⟨2, ![16, 5632]⟩
abbrev S1024x1 : Shape := ⟨2, ![1024, 1]⟩
abbrev S1x16x1024 : Shape := ⟨3, ![1, 16, 1024]⟩
abbrev S16x1024 : Shape := ⟨2, ![16, 1024]⟩
abbrev S512x1024 : Shape := ⟨2, ![512, 1024]⟩
abbrev S1x16x768 : Shape := ⟨3, ![1, 16, 768]⟩
abbrev S16x768 : Shape := ⟨2, ![16, 768]⟩
abbrev S1x1024x768 : Shape := ⟨3, ![1, 1024, 768]⟩
abbrev S1024x768 : Shape := ⟨2, ![1024, 768]⟩
abbrev S1x1x768 : Shape := ⟨3, ![1, 1, 768]⟩
abbrev S1x768 : Shape := ⟨2, ![1, 768]⟩
abbrev S512x768 : Shape := ⟨2, ![512, 768]⟩
abbrev S1x768x1024 : Shape := ⟨3, ![1, 768, 1024]⟩
abbrev S768x1024 : Shape := ⟨2, ![768, 1024]⟩
abbrev S1024x128 : Shape := ⟨2, ![1024, 128]⟩
abbrev S1x1024x128 : Shape := ⟨3, ![1, 1024, 128]⟩
abbrev S1x128x128 : Shape := ⟨3, ![1, 128, 128]⟩
abbrev S128x128 : Shape := ⟨2, ![128, 128]⟩

abbrev nBuf : Space → Nat
  | .hbm => 18
  | .vmem => 18
  | .smem => 0
  | _ => 0

abbrev bufTy : (tb : Table) → Fin (tcTables nBuf tb) → BufTy
  | .hbm, ⟨0, _⟩ => ⟨S4x16384x1024, .f32⟩
  | .hbm, ⟨1, _⟩ => ⟨S2x32x2x5632, .f32⟩
  | .hbm, ⟨2, _⟩ => ⟨S2x1024, .f32⟩
  | .hbm, ⟨3, _⟩ => ⟨S2x1024x5632, .f32⟩
  | .hbm, ⟨4, _⟩ => ⟨S2x3x5632, .f32⟩
  | .hbm, ⟨5, _⟩ => ⟨S2x5632, .f32⟩
  | .hbm, ⟨6, _⟩ => ⟨S2x2816x1024, .f32⟩
  | .hbm, ⟨7, _⟩ => ⟨S1024, .f32⟩
  | .hbm, ⟨8, _⟩ => ⟨S2x4x8x2x5632, .f32⟩
  | .hbm, ⟨9, _⟩ => ⟨S2x4x2x8x5632, .f32⟩
  | .hbm, ⟨10, _⟩ => ⟨S2x4x16x5632, .f32⟩
  | .hbm, ⟨11, _⟩ => ⟨S2x1x1024, .f32⟩
  | .hbm, ⟨12, _⟩ => ⟨S2x1024x5632, .bf16⟩
  | .hbm, ⟨13, _⟩ => ⟨S2x1x5632, .f32⟩
  | .hbm, ⟨14, _⟩ => ⟨S2x2816x1024, .bf16⟩
  | .hbm, ⟨15, _⟩ => ⟨S1x1024, .f32⟩
  | .hbm, ⟨16, _⟩ => ⟨S32x2048x1024, .f32⟩
  | .hbm, ⟨17, _⟩ => ⟨S4x16x5632, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x16x5632, .f32⟩
  | .local _ .vmem, ⟨3, _⟩ => ⟨S1x1x16x5632, .f32⟩
  | .local _ .vmem, ⟨4, _⟩ => ⟨S1x1x1024, .f32⟩
  | .local _ .vmem, ⟨5, _⟩ => ⟨S1x1024x5632, .bf16⟩
  | .local _ .vmem, ⟨6, _⟩ => ⟨S1x3x5632, .f32⟩
  | .local _ .vmem, ⟨7, _⟩ => ⟨S1x1x5632, .f32⟩
  | .local _ .vmem, ⟨8, _⟩ => ⟨S1x2816x1024, .bf16⟩
  | .local _ .vmem, ⟨9, _⟩ => ⟨S1x1024, .f32⟩
  | .local _ .vmem, ⟨10, _⟩ => ⟨S8x128x1024, .f32⟩
  | .local _ .vmem, ⟨11, _⟩ => ⟨S8x128x1024, .f32⟩
  | .local _ .vmem, ⟨12, _⟩ => ⟨S1x16x5632, .f32⟩
  | .local _ .vmem, ⟨13, _⟩ => ⟨S1x16x5632, .f32⟩
  | .local _ .vmem, ⟨14, _⟩ => ⟨S1024x1024, .bf16⟩
  | .local _ .vmem, ⟨15, _⟩ => ⟨S1040x1024, .f32⟩
  | .local _ .vmem, ⟨16, _⟩ => ⟨S1040x1024, .f32⟩
  | .local _ .vmem, ⟨17, _⟩ => ⟨S8x1024x128, .f32⟩
  | _, _ => ⟨S4x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== PromptRefIdeal.lean ====
abbrev S4x16384x1024 : Shape := ⟨3, ![4, 16384, 1024]⟩
abbrev S2x32x2x5632 : Shape := ⟨4, ![2, 32, 2, 5632]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1024 : Shape := ⟨1, ![1024]⟩
abbrev S4x2048x8x1024 : Shape := ⟨4, ![4, 2048, 8, 1024]⟩
abbrev S4x8x2048x1024 : Shape := ⟨4, ![4, 8, 2048, 1024]⟩
abbrev S32x2048x1024 : Shape := ⟨3, ![32, 2048, 1024]⟩
abbrev S1x1024 : Shape := ⟨2, ![1, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S32x2048x5632 : Shape := ⟨3, ![32, 2048, 5632]⟩
abbrev S1x32x2x5632 : Shape := ⟨4, ![1, 32, 2, 5632]⟩
abbrev S32x2x5632 : Shape := ⟨3, ![32, 2, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S32x2050x5632 : Shape := ⟨3, ![32, 2050, 5632]⟩
abbrev S1x1x5632 : Shape := ⟨3, ![1, 1, 5632]⟩
abbrev S32x2048x2816 : Shape := ⟨3, ![32, 2048, 2816]⟩
abbrev S1x2816x1024 : Shape := ⟨3, ![1, 2816, 1024]⟩
abbrev S2816x1024 : Shape := ⟨2, ![2816, 1024]⟩
abbrev S4x8x2x5632 : Shape := ⟨4, ![4, 8, 2, 5632]⟩
abbrev S4x2x8x5632 : Shape := ⟨4, ![4, 2, 8, 5632]⟩
abbrev S4x16x5632 : Shape := ⟨3, ![4, 16, 5632]⟩

abbrev nBuf : Space → Nat
  | .hbm => 98
  | .vmem => 0
  | .smem => 0
  | _ => 0

abbrev bufTy : (tb : Table) → Fin (tcTables nBuf tb) → BufTy
  | .hbm, ⟨0, _⟩ => ⟨S4x16384x1024, .f32⟩
  | .hbm, ⟨1, _⟩ => ⟨S2x32x2x5632, .f32⟩
  | .hbm, ⟨2, _⟩ => ⟨S2x1024, .f32⟩
  | .hbm, ⟨3, _⟩ => ⟨S2x1024x5632, .f32⟩
  | .hbm, ⟨4, _⟩ => ⟨S2x3x5632, .f32⟩
  | .hbm, ⟨5, _⟩ => ⟨S2x5632, .f32⟩
  | .hbm, ⟨6, _⟩ => ⟨S2x2816x1024, .f32⟩
  | .hbm, ⟨7, _⟩ => ⟨S1024, .f32⟩
  | .hbm, ⟨8, _⟩ => ⟨S4x2048x8x1024, .f32⟩
  | .hbm, ⟨9, _⟩ => ⟨S4x8x2048x1024, .f32⟩
  | .hbm, ⟨10, _⟩ => ⟨S32x2048x1024, .f32⟩
  | .hbm, ⟨11, _⟩ => ⟨S1x1024, .f32⟩
  | .hbm, ⟨12, _⟩ => ⟨S1024, .f32⟩
  | .hbm, ⟨13, _⟩ => ⟨S32x2048x1024, .f32⟩
  | .hbm, ⟨14, _⟩ => ⟨S_, .f32⟩
  | .hbm, ⟨15, _⟩ => ⟨S32x2048, .f32⟩
  | .hbm, ⟨16, _⟩ => ⟨S32x2048x1, .f32⟩
  | .hbm, ⟨17, _⟩ => ⟨S_, .f32⟩
  | .hbm, ⟨18, _⟩ => ⟨S32x2048x1, .f32⟩
  | .hbm, ⟨19, _⟩ => ⟨S32x2048x1, .f32⟩
  | .hbm, ⟨20, _⟩ => ⟨S_, .f32⟩
  | .hbm, ⟨21, _⟩ => ⟨S32x2048x1, .f32⟩
  | .hbm, ⟨22, _⟩ => ⟨S32x2048x1, .f32⟩
  | .hbm, ⟨23, _⟩ => ⟨S32x2048x1, .f32⟩
  | .hbm, ⟨24, _⟩ => ⟨S32x2048x1024, .f32⟩
  | .hbm, ⟨25, _⟩ => ⟨S32x2048x1024, .f32⟩
  | .hbm, ⟨26, _⟩ => ⟨S1x1x1024, .f32⟩
  | .hbm, ⟨27, _⟩ => ⟨S32x2048x1024, .f32⟩
  | .hbm, ⟨28, _⟩ => ⟨S32x2048x1024, .f32⟩
  | .hbm, ⟨29, _⟩ => ⟨S1x1024x5632, .f32⟩
  | .hbm, ⟨30, _⟩ => ⟨S1024x5632, .f32⟩
  | .hbm, ⟨31, _⟩ => ⟨S32x2048x5632, .f32⟩
  | .hbm, ⟨32, _⟩ => ⟨S1x32x2x5632, .f32⟩
  | .hbm, ⟨33, _⟩ => ⟨S32x2x5632, .f32⟩
  | .hbm, ⟨34, _⟩ => ⟨S1x3x5632, .f32⟩
  | .hbm, ⟨35, _⟩ => ⟨S3x5632, .f32⟩
  | .hbm, ⟨36, _⟩ => ⟨S1x5632, .f32⟩
  | .hbm, ⟨37, _⟩ => ⟨S5632, .f32⟩
  | .hbm, ⟨38, _⟩ => ⟨S32x2050x5632, .f32⟩
  | .hbm, ⟨39, _⟩ => ⟨S1x5632, .f32⟩
  | .hbm, ⟨40, _⟩ => ⟨S5632, .f32⟩
  | .hbm, ⟨41, _⟩ => ⟨S32x2048x5632, .f32⟩
  | .hbm, ⟨42, _⟩ => ⟨S1x1x5632, .f32⟩
  | .hbm, ⟨43, _⟩ => ⟨S32x2048x5632, .f32⟩
  | .hbm, ⟨44, _⟩ => ⟨S32x2048x5632, .f32⟩
  | .hbm, ⟨45, _⟩ => ⟨S1x5632, .f32⟩
  | .hbm, ⟨46, _⟩ => ⟨S5632, .f32⟩
  | .hbm, ⟨47, _⟩ => ⟨S32x2048x5632, .f32⟩
  | .hbm, ⟨48, _⟩ => ⟨S1x1x5632, .f32⟩
  | .hbm, ⟨49, _⟩ => ⟨S32x2048x5632, .f32⟩
  | .hbm, ⟨50, _⟩ => ⟨S32x2048x5632, .f32⟩
  | .hbm, ⟨51, _⟩ => ⟨S32x2048x5632, .f32⟩
  | .hbm, ⟨52, _⟩ => ⟨S1x5632, .f32⟩
  | .hbm, ⟨53, _⟩ => ⟨S5632, .f32⟩
  | .hbm, ⟨54, _⟩ => ⟨S32x2048x5632, .f32⟩
  | .hbm, ⟨55, _⟩ => ⟨S1x1x5632, .f32⟩
  | .hbm, ⟨56, _⟩ => ⟨S32x2048x5632, .f32⟩
  | .hbm, ⟨57, _⟩ => ⟨S32x2048x5632, .f32⟩
  | .hbm, ⟨58, _⟩ => ⟨S32x2048x5632, .f32⟩
  | .hbm, ⟨59, _⟩ => ⟨S1x1x5632, .f32⟩
  | .hbm, ⟨60, _⟩ => ⟨S32x2048x5632, .f32⟩
  | .hbm, ⟨61, _⟩ => ⟨S32x2048x5632, .f32⟩
  | .hbm, ⟨62, _⟩ => ⟨S32x2x5632, .f32⟩
  | .hbm, ⟨63, _⟩ => ⟨S32x2048x2816, .f32⟩
  | .hbm, ⟨64, _⟩ => ⟨S32x2048x2816, .f32⟩
  | .hbm, ⟨65, _⟩ => ⟨S32x2048x2816, .f32⟩
  | .hbm, ⟨66, _⟩ => ⟨S32x2048x2816, .f32⟩
  | .hbm, ⟨67, _⟩ => ⟨S_, .f32⟩
  | .hbm, ⟨68, _⟩ => ⟨S32x2048x2816, .f32⟩
  | .hbm, ⟨69, _⟩ => ⟨S32x2048x2816, .f32⟩
  | .hbm, ⟨70, _⟩ => ⟨S_, .f32⟩
  | .hbm, ⟨71, _⟩ => ⟨S32x2048x2816, .f32⟩
  | .hbm, ⟨72, _⟩ => ⟨S32x2048x2816, .f32⟩
  | .hbm, ⟨73, _⟩ => ⟨S32x2048x2816, .f32⟩
  | .hbm, ⟨74, _⟩ => ⟨S32x2048x2816, .f32⟩
  | .hbm, ⟨75, _⟩ => ⟨S1x2816x1024, .f32⟩
  | .hbm, ⟨76, _⟩ => ⟨S2816x1024, .f32⟩
  | .hbm, ⟨77, _⟩ => ⟨S32x2048x1024, .f32⟩
  | .hbm, ⟨78, _⟩ => ⟨S32x2048x1024, .f32⟩
  | .hbm, ⟨79, _⟩ => ⟨S32x2048x1024, .f32⟩
  | .hbm, ⟨80, _⟩ => ⟨S_, .f32⟩
  | .hbm, ⟨81, _⟩ => ⟨S32x2048, .f32⟩
  | .hbm, ⟨82, _⟩ => ⟨S32x2048x1, .f32⟩
  | .hbm, ⟨83, _⟩ => ⟨S_, .f32⟩
  | .hbm, ⟨84, _⟩ => ⟨S32x2048x1, .f32⟩
  | .hbm, ⟨85, _⟩ => ⟨S32x2048x1, .f32⟩
  | .hbm, ⟨86, _⟩ => ⟨S_, .f32⟩
  | .hbm, ⟨87, _⟩ => ⟨S32x2048x1, .f32⟩
  | .hbm, ⟨88, _⟩ => ⟨S32x2048x1, .f32⟩
  | .hbm, ⟨89, _⟩ => ⟨S32x2048x1, .f32⟩
  | .hbm, ⟨90, _⟩ => ⟨S32x2048x1024, .f32⟩
  | .hbm, ⟨91, _⟩ => ⟨S32x2048x1024, .f32⟩
  | .hbm, ⟨92, _⟩ => ⟨S1x1x1024, .f32⟩
  | .hbm, ⟨93, _⟩ => ⟨S32x2048x1024, .f32⟩
  | .hbm, ⟨94, _⟩ => ⟨S32x2048x1024, .f32⟩
  | .hbm, ⟨95, _⟩ => ⟨S4x8x2x5632, .f32⟩
  | .hbm, ⟨96, _⟩ => ⟨S4x2x8x5632, .f32⟩
  | .hbm, ⟨97, _⟩ => ⟨S4x16x5632, .f32⟩
  | _, _ => ⟨S4x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_2 : Ref sig .tc := ⟨.hbm, 80, rfl⟩
abbrev main_v61 : Ref sig .tc := ⟨.hbm, 81, rfl⟩
abbrev main_v62 : Ref sig .tc := ⟨.hbm, 82, rfl⟩
abbrev main_cst_3 : Ref sig .tc := ⟨.hbm, 83, rfl⟩
abbrev main_v63 : Ref sig .tc := ⟨.hbm, 84, rfl⟩
abbrev main_v64 : Ref sig .tc := ⟨.hbm, 85, rfl⟩
abbrev main_cst_4 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩

abbrev nD : Nat := 1
abbrev τ : Topo := Topo.v7x

variable {F : FTy → Type} [FloatOps F]
-- ==== PromptFfn.lean ====
abbrev S4x16384x1024 : Shape := ⟨3, ![4, 16384, 1024]⟩
abbrev S2x32x2x5632 : Shape := ⟨4, ![2, 32, 2, 5632]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1024 : Shape := ⟨1, ![1024]⟩
abbrev S2x4x8x2x5632 : Shape := ⟨5, ![2, 4, 8, 2, 5632]⟩
abbrev S2x4x2x8x5632 : Shape := ⟨5, ![2, 4, 2, 8, 5632]⟩
abbrev S2x4x16x5632 : Shape := ⟨4, ![2, 4, 16, 5632]⟩
abbrev S2x1x1024 : Shape := ⟨3, ![2, 1, 1024]⟩
abbrev S2x1x5632 : Shape := ⟨3, ![2, 1, 5632]⟩
abbrev S1x1024 : Shape := ⟨2, ![1, 1024]⟩
abbrev S4x16x5632 : Shape := ⟨3, ![4, 16, 5632]⟩
abbrev S1x1024x1024 : Shape := ⟨3, ![1, 1024, 1024]⟩
abbrev S1x1x16x5632 : Shape := ⟨4, ![1, 1, 16, 5632]⟩
abbrev S1x1x1024 : Shape := ⟨3, ![1, 1, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S1x16x5632 : Shape := ⟨3, ![1, 16, 5632]⟩
abbrev S1024x1024 : Shape := ⟨2, ![1024, 1024]⟩
abbrev S1040x1024 : Shape := ⟨2, ![1040, 1024]⟩
abbrev S16x5632 : Shape := ⟨2, ![16, 5632]⟩
abbrev S1024x1 : Shape := ⟨2, ![1024, 1]⟩
abbrev S1x16x1024 : Shape := ⟨3, ![1, 16, 1024]⟩
abbrev S16x1024 : Shape := ⟨2, ![16, 1024]⟩
abbrev S512x1024 : Shape := ⟨2, ![512, 1024]⟩
abbrev S1x16x768 : Shape := ⟨3, ![1, 16, 768]⟩
abbrev S16x768 : Shape := ⟨2, ![16, 768]⟩
abbrev S1x1024x768 : Shape := ⟨3, ![1, 1024, 768]⟩
abbrev S1024x768 : Shape := ⟨2, ![1024, 768]⟩
abbrev S1x1x768 : Shape := ⟨3, ![1, 1, 768]⟩
abbrev S1x768 : Shape := ⟨2, ![1, 768]⟩
abbrev S512x768 : Shape := ⟨2, ![512, 768]⟩
abbrev S1x768x1024 : Shape := ⟨3, ![1, 768, 1024]⟩
abbrev S768x1024 : Shape := ⟨2, ![768, 1024]⟩

abbrev nBuf : Space → Nat
  | .hbm => 18
  | .vmem => 17
  | .smem => 0
  | _ => 0

abbrev bufTy : (tb : Table) → Fin (tcTables nBuf tb) → BufTy
  | .hbm, ⟨0, _⟩ => ⟨S4x16384x1024, .f32⟩
  | .hbm, ⟨1, _⟩ => ⟨S2x32x2x5632, .f32⟩
  | .hbm, ⟨2, _⟩ => ⟨S2x1024, .f32⟩
  | .hbm, ⟨3, _⟩ => ⟨S2x1024x5632, .f32⟩
  | .hbm, ⟨4, _⟩ => ⟨S2x3x5632, .f32⟩
  | .hbm, ⟨5, _⟩ => ⟨S2x5632, .f32⟩
  | .hbm, ⟨6, _⟩ => ⟨S2x2816x1024, .f32⟩
  | .hbm, ⟨7, _⟩ => ⟨S1024, .f32⟩
  | .hbm, ⟨8, _⟩ => ⟨S2x4x8x2x5632, .f32⟩
  | .hbm, ⟨9, _⟩ => ⟨S2x4x2x8x5632, .f32⟩
  | .hbm, ⟨10, _⟩ => ⟨S2x4x16x5632, .f32⟩
  | .hbm, ⟨11, _⟩ => ⟨S2x1x1024, .f32⟩
  | .hbm, ⟨12, _⟩ => ⟨S2x1024x5632, .bf16⟩
  | .hbm, ⟨13, _⟩ => ⟨S2x1x5632, .f32⟩
  | .hbm, ⟨14, _⟩ => ⟨S2x2816x1024, .bf16⟩
  | .hbm, ⟨15, _⟩ => ⟨S1x1024, .f32⟩
  | .hbm, ⟨16, _⟩ => ⟨S4x16384x1024, .f32⟩
  | .hbm, ⟨17, _⟩ => ⟨S4x16x5632, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x16x5632, .f32⟩
  | .local _ .vmem, ⟨3, _⟩ => ⟨S1x1x16x5632, .f32⟩
  | .local _ .vmem, ⟨4, _⟩ => ⟨S1x1x1024, .f32⟩
  | .local _ .vmem, ⟨5, _⟩ => ⟨S1x1024x5632, .bf16⟩
  | .local _ .vmem, ⟨6, _⟩ => ⟨S1x3x5632, .f32⟩
  | .local _ .vmem, ⟨7, _⟩ => ⟨S1x1x5632, .f32⟩
  | .local _ .vmem, ⟨8, _⟩ => ⟨S1x2816x1024, .bf16⟩
  | .local _ .vmem, ⟨9, _⟩ => ⟨S1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x16x5632, .f32⟩
  | .local _ .vmem, ⟨13, _⟩ => ⟨S1x16x5632, .f32⟩
  | .local _ .vmem, ⟨14, _⟩ => ⟨S1024x1024, .bf16⟩
  | .local _ .vmem, ⟨15, _⟩ => ⟨S1040x1024, .f32⟩
  | .local _ .vmem, ⟨16, _⟩ => ⟨S1040x1024, .f32⟩
  | _, _ => ⟨S4x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== PromptFfnRefIdeal.lean ====
abbrev S4x16384x1024 : Shape := ⟨3, ![4, 16384, 1024]⟩
abbrev S2x32x2x5632 : Shape := ⟨4, ![2, 32, 2, 5632]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1024 : Shape := ⟨1, ![1024]⟩
abbrev S4x2048x8x1024 : Shape := ⟨4, ![4, 2048, 8, 1024]⟩
abbrev S4x8x2048x1024 : Shape := ⟨4, ![4, 8, 2048, 1024]⟩
abbrev S32x2048x1024 : Shape := ⟨3, ![32, 2048, 1024]⟩
abbrev S1x1024 : Shape := ⟨2, ![1, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S32x2048x5632 : Shape := ⟨3, ![32, 2048, 5632]⟩
abbrev S1x32x2x5632 : Shape := ⟨4, ![1, 32, 2, 5632]⟩
abbrev S32x2x5632 : Shape := ⟨3, ![32, 2, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S32x2050x5632 : Shape := ⟨3, ![32, 2050, 5632]⟩
abbrev S1x1x5632 : Shape := ⟨3, ![1, 1, 5632]⟩
abbrev S32x2048x2816 : Shape := ⟨3, ![32, 2048, 2816]⟩
abbrev S1x2816x1024 : Shape := ⟨3, ![1, 2816, 1024]⟩
abbrev S2816x1024 : Shape := ⟨2, ![2816, 1024]⟩
abbrev S4x8x2x5632 : Shape := ⟨4, ![4, 8, 2, 5632]⟩
abbrev S4x2x8x5632 : Shape := ⟨4, ![4, 2, 8, 5632]⟩
abbrev S4x16x5632 : Shape := ⟨3, ![4, 16, 5632]⟩

abbrev nBuf : Space → Nat
  | .hbm => 85
  | .vmem => 0
  | .smem => 0
  | _ => 0

abbrev bufTy : (tb : Table) → Fin (tcTables nBuf tb) → BufTy
  | .hbm, ⟨0, _⟩ => ⟨S4x16384x1024, .f32⟩
  | .hbm, ⟨1, _⟩ => ⟨S2x32x2x5632, .f32⟩
  | .hbm, ⟨2, _⟩ => ⟨S2x1024, .f32⟩
  | .hbm, ⟨3, _⟩ => ⟨S2x1024x5632, .f32⟩
  | .hbm, ⟨4, _⟩ => ⟨S2x3x5632, .f32⟩
  | .hbm, ⟨5, _⟩ => ⟨S2x5632, .f32⟩
  | .hbm, ⟨6, _⟩ => ⟨S2x2816x1024, .f32⟩
  | .hbm, ⟨7, _⟩ => ⟨S1024, .f32⟩
  | .hbm, ⟨8, _⟩ => ⟨S4x2048x8x1024, .f32⟩
  | .hbm, ⟨9, _⟩ => ⟨S4x8x2048x1024, .f32⟩
  | .hbm, ⟨10, _⟩ => ⟨S32x2048x1024, .f32⟩
  | .hbm, ⟨11, _⟩ => ⟨S1x1024, .f32⟩
  | .hbm, ⟨12, _⟩ => ⟨S1024, .f32⟩
  | .hbm, ⟨13, _⟩ => ⟨S32x2048x1024, .f32⟩
  | .hbm, ⟨14, _⟩ => ⟨S_, .f32⟩
  | .hbm, ⟨15, _⟩ => ⟨S32x2048, .f32⟩
  | .hbm, ⟨16, _⟩ => ⟨S32x2048x1, .f32⟩
  | .hbm, ⟨17, _⟩ => ⟨S_, .f32⟩
  | .hbm, ⟨18, _⟩ => ⟨S32x2048x1, .f32⟩
  | .hbm, ⟨19, _⟩ => ⟨S32x2048x1, .f32⟩
  | .hbm, ⟨20, _⟩ => ⟨S_, .f32⟩
  | .hbm, ⟨21, _⟩ => ⟨S32x2048x1, .f32⟩
  | .hbm, ⟨22, _⟩ => ⟨S32x2048x1, .f32⟩
  | .hbm, ⟨23, _⟩ => ⟨S32x2048x1, .f32⟩
  | .hbm, ⟨24, _⟩ => ⟨S32x2048x1024, .f32⟩
  | .hbm, ⟨25, _⟩ => ⟨S32x2048x1024, .f32⟩
  | .hbm, ⟨26, _⟩ => ⟨S1x1x1024, .f32⟩
  | .hbm, ⟨27, _⟩ => ⟨S32x2048x1024, .f32⟩
  | .hbm, ⟨28, _⟩ => ⟨S32x2048x1024, .f32⟩
  | .hbm, ⟨29, _⟩ => ⟨S1x1024x5632, .f32⟩
  | .hbm, ⟨30, _⟩ => ⟨S1024x5632, .f32⟩
  | .hbm, ⟨31, _⟩ => ⟨S32x2048x5632, .f32⟩
  | .hbm, ⟨32, _⟩ => ⟨S1x32x2x5632, .f32⟩
  | .hbm, ⟨33, _⟩ => ⟨S32x2x5632, .f32⟩
  | .hbm, ⟨34, _⟩ => ⟨S1x3x5632, .f32⟩
  | .hbm, ⟨35, _⟩ => ⟨S3x5632, .f32⟩
  | .hbm, ⟨36, _⟩ => ⟨S1x5632, .f32⟩
  | .hbm, ⟨37, _⟩ => ⟨S5632, .f32⟩
  | .hbm, ⟨38, _⟩ => ⟨S32x2050x5632, .f32⟩
  | .hbm, ⟨39, _⟩ => ⟨S1x5632, .f32⟩
  | .hbm, ⟨40, _⟩ => ⟨S5632, .f32⟩
  | .hbm, ⟨41, _⟩ => ⟨S32x2048x5632, .f32⟩
  | .hbm, ⟨42, _⟩ => ⟨S1x1x5632, .f32⟩
  | .hbm, ⟨43, _⟩ => ⟨S32x2048x5632, .f32⟩
  | .hbm, ⟨44, _⟩ => ⟨S32x2048x5632, .f32⟩
  | .hbm, ⟨45, _⟩ => ⟨S1x5632, .f32⟩
  | .hbm, ⟨46, _⟩ => ⟨S5632, .f32⟩
  | .hbm, ⟨47, _⟩ => ⟨S32x2048x5632, .f32⟩
  | .hbm, ⟨48, _⟩ => ⟨S1x1x5632, .f32⟩
  | .hbm, ⟨49, _⟩ => ⟨S32x2048x5632, .f32⟩
  | .hbm, ⟨50, _⟩ => ⟨S32x2048x5632, .f32⟩
  | .hbm, ⟨51, _⟩ => ⟨S32x2048x5632, .f32⟩
  | .hbm, ⟨52, _⟩ => ⟨S1x5632, .f32⟩
  | .hbm, ⟨53, _⟩ => ⟨S5632, .f32⟩
  | .hbm, ⟨54, _⟩ => ⟨S32x2048x5632, .f32⟩
  | .hbm, ⟨55, _⟩ => ⟨S1x1x5632, .f32⟩
  | .hbm, ⟨56, _⟩ => ⟨S32x2048x5632, .f32⟩
  | .hbm, ⟨57, _⟩ => ⟨S32x2048x5632, .f32⟩
  | .hbm, ⟨58, _⟩ => ⟨S32x2048x5632, .f32⟩
  | .hbm, ⟨59, _⟩ => ⟨S1x1x5632, .f32⟩
  | .hbm, ⟨60, _⟩ => ⟨S32x2048x5632, .f32⟩
  | .hbm, ⟨61, _⟩ => ⟨S32x2048x5632, .f32⟩
  | .hbm, ⟨62, _⟩ => ⟨S32x2x5632, .f32⟩
  | .hbm, ⟨63, _⟩ => ⟨S32x2048x2816, .f32⟩
  | .hbm, ⟨64, _⟩ => ⟨S32x2048x2816, .f32⟩
  | .hbm, ⟨65, _⟩ => ⟨S32x2048x2816, .f32⟩
  | .hbm, ⟨66, _⟩ => ⟨S32x2048x2816, .f32⟩
  | .hbm, ⟨67, _⟩ => ⟨S_, .f32⟩
  | .hbm, ⟨68, _⟩ => ⟨S32x2048x2816, .f32⟩
  | .hbm, ⟨69, _⟩ => ⟨S32x2048x2816, .f32⟩
  | .hbm, ⟨70, _⟩ => ⟨S_, .f32⟩
  | .hbm, ⟨71, _⟩ => ⟨S32x2048x2816, .f32⟩
  | .hbm, ⟨72, _⟩ => ⟨S32x2048x2816, .f32⟩
  | .hbm, ⟨73, _⟩ => ⟨S32x2048x2816, .f32⟩
  | .hbm, ⟨74, _⟩ => ⟨S32x2048x2816, .f32⟩
  | .hbm, ⟨75, _⟩ => ⟨S1x2816x1024, .f32⟩
  | .hbm, ⟨76, _⟩ => ⟨S2816x1024, .f32⟩
  | .hbm, ⟨77, _⟩ => ⟨S32x2048x1024, .f32⟩
  | .hbm, ⟨78, _⟩ => ⟨S32x2048x1024, .f32⟩
  | .hbm, ⟨79, _⟩ => ⟨S4x8x2048x1024, .f32⟩
  | .hbm, ⟨80, _⟩ => ⟨S4x2048x8x1024, .f32⟩
  | .hbm, ⟨81, _⟩ => ⟨S4x16384x1024, .f32⟩
  | .hbm, ⟨82, _⟩ => ⟨S4x8x2x5632, .f32⟩
  | .hbm, ⟨83, _⟩ => ⟨S4x2x8x5632, .f32⟩
  | .hbm, ⟨84, _⟩ => ⟨S4x16x5632, .f32⟩
  | _, _ => ⟨S4x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== Disc.lean ====
abbrev S2x16x64 : Shape := ⟨3, ![2, 16, 64]⟩
abbrev S2x16 : Shape := ⟨2, ![2, 16]⟩
abbrev S2x16x64x16x2 : Shape := ⟨5, ![2, 16, 64, 16, 2]⟩
abbrev S2x1x1024 : Shape := ⟨3, ![2, 1, 1024]⟩
abbrev S2x16x1 : Shape := ⟨3, ![2, 16, 1]⟩
abbrev S2x16x16x64x2 : Shape := ⟨5, ![2, 16, 16, 64, 2]⟩
abbrev S2x16x1024x2 : Shape := ⟨4, ![2, 16, 1024, 2]⟩
abbrev S2x16x1024x1 : Shape := ⟨4, ![2, 16, 1024, 1]⟩
abbrev S2x16x1024 : Shape := ⟨3, ![2, 16, 1024]⟩
abbrev S2x2x1024 : Shape := ⟨3, ![2, 2, 1024]⟩
abbrev S1x1x1024 : Shape := ⟨3, ![1, 1, 1024]⟩
abbrev S1x16x1024 : Shape := ⟨3, ![1, 16, 1024]⟩
abbrev S1x2x1024 : Shape := ⟨3, ![1, 2, 1024]⟩
abbrev S1x1024 : Shape := ⟨2, ![1, 1024]⟩
abbrev S16x1024 : Shape := ⟨2, ![16, 1024]⟩

abbrev nBuf : Space → Nat
  | .hbm => 18
  | .vmem => 16
  | .smem => 0
  | _ => 0

abbrev bufTy : (tb : Table) → Fin (tcTables nBuf tb) → BufTy
  | .hbm, ⟨0, _⟩ => ⟨S2x16x64, .f32⟩
  | .hbm, ⟨1, _⟩ => ⟨S2x16x64, .f32⟩
  | .hbm, ⟨2, _⟩ => ⟨S2x16, .f32⟩
  | .hbm, ⟨3, _⟩ => ⟨S2x16x64x16x2, .f32⟩
  | .hbm, ⟨4, _⟩ => ⟨S2x1x1024, .f32⟩
  | .hbm, ⟨5, _⟩ => ⟨S2x1x1024, .f32⟩
  | .hbm, ⟨6, _⟩ => ⟨S2x16x1, .f32⟩
  | .hbm, ⟨7, _⟩ => ⟨S2x16x64, .f32⟩
  | .hbm, ⟨8, _⟩ => ⟨S2x1x1024, .f32⟩
  | .hbm, ⟨9, _⟩ => ⟨S2x16x16x64x2, .f32⟩
  | .hbm, ⟨10, _⟩ => ⟨S2x16x1024x2, .f32⟩
  | .hbm, ⟨11, _⟩ => ⟨S2x16x1024x1, .f32⟩
  | .hbm, ⟨12, _⟩ => ⟨S2x16x1024, .f32⟩
  | .hbm, ⟨13, _⟩ => ⟨S2x16x1024x1, .f32⟩
  | .hbm, ⟨14, _⟩ => ⟨S2x16x1024, .f32⟩
  | .hbm, ⟨15, _⟩ => ⟨S2x2x1024, .f32⟩
  | .hbm, ⟨16, _⟩ => ⟨S2x16x1024, .f32⟩
  | .hbm, ⟨17, _⟩ => ⟨S2x16x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x16x1024, .f32⟩
  | .local _ .vmem, ⟨7, _⟩ => ⟨S1x16x1024, .f32⟩
  | .local _ .vmem, ⟨8, _⟩ => ⟨S1x16x1024, .f32⟩
  | .local _ .vmem, ⟨9, _⟩ => ⟨S1x16x1024, .f32⟩
  | .local _ .vmem, ⟨10, _⟩ => ⟨S1x2x1024, .f32⟩
  | .local _ .vmem, ⟨11, _⟩ => ⟨S1x2x1024, .f32⟩
  | .local _ .vmem, ⟨12, _⟩ => ⟨S1x16x1024, .f32⟩
  | .local _ .vmem, ⟨13, _⟩ => ⟨S1x16x1024, .f32⟩
  | .local _ .vmem, ⟨14, _⟩ => ⟨S1x16x1024, .f32⟩
  | .local _ .vmem, ⟨15, _⟩ => ⟨S1x16x1024, .f32⟩
  | _, _ => ⟨S2x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DiscRefIdeal.lean ====
abbrev S2x16x64 : Shape := ⟨3, ![2, 16, 64]⟩
abbrev S2x16 : Shape := ⟨2, ![2, 16]⟩
abbrev S2x16x64x16x2 : Shape := ⟨5, ![2, 16, 64, 16, 2]⟩
abbrev S2x16x1 : Shape := ⟨3, ![2, 16, 1]⟩
abbrev S_ : Shape := ⟨0, ![]⟩
abbrev S2x16x64x16x1 : Shape := ⟨5, ![2, 16, 64, 16, 1]⟩
abbrev S2x16x64x16 : Shape := ⟨4, ![2, 16, 64, 16]⟩
abbrev S2x16x64x1 : Shape := ⟨4, ![2, 16, 64, 1]⟩
abbrev S2x1x1024 : Shape := ⟨3, ![2, 1, 1024]⟩
abbrev S2x2x1024 : Shape := ⟨3, ![2, 2, 1024]⟩
abbrev S2x16x16x64 : Shape := ⟨4, ![2, 16, 16, 64]⟩
abbrev S2x16x1024 : Shape := ⟨3, ![2, 16, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2x16x64, .f32⟩
  | .hbm, ⟨1, _⟩ => ⟨S2x16x64, .f32⟩
  | .hbm, ⟨2, _⟩ => ⟨S2x16, .f32⟩
  | .hbm, ⟨3, _⟩ => ⟨S2x16x64x16x2, .f32⟩
  | .hbm, ⟨4, _⟩ => ⟨S2x16, .f32⟩
  | .hbm, ⟨5, _⟩ => ⟨S2x16x1, .f32⟩
  | .hbm, ⟨6, _⟩ => ⟨S2x16x64, .f32⟩
  | .hbm, ⟨7, _⟩ => ⟨S2x16x64, .f32⟩
  | .hbm, ⟨8, _⟩ => ⟨S2x16x64, .f32⟩
  | .hbm, ⟨9, _⟩ => ⟨S2x16x64, .f32⟩
  | .hbm, ⟨10, _⟩ => ⟨S2x16x64, .f32⟩
  | .hbm, ⟨11, _⟩ => ⟨S2x16x64, .f32⟩
  | .hbm, ⟨12, _⟩ => ⟨S2x16x64, .f32⟩
  | .hbm, ⟨13, _⟩ => ⟨S2x16x64, .f32⟩
  | .hbm, ⟨14, _⟩ => ⟨S2x16x64, .f32⟩
  | .hbm, ⟨15, _⟩ => ⟨S2x16x64, .f32⟩
  | .hbm, ⟨16, _⟩ => ⟨S2x16x64, .f32⟩
  | .hbm, ⟨17, _⟩ => ⟨S2x16x64, .f32⟩
  | .hbm, ⟨18, _⟩ => ⟨S_, .f32⟩
  | .hbm, ⟨19, _⟩ => ⟨S2x16x64, .f32⟩
  | .hbm, ⟨20, _⟩ => ⟨S2x16x64, .f32⟩
  | .hbm, ⟨21, _⟩ => ⟨S2x16x64, .f32⟩
  | .hbm, ⟨22, _⟩ => ⟨S2x16x64, .f32⟩
  | .hbm, ⟨23, _⟩ => ⟨S2x16x64, .f32⟩
  | .hbm, ⟨24, _⟩ => ⟨S2x16x64, .f32⟩
  | .hbm, ⟨25, _⟩ => ⟨S2x16x64, .f32⟩
  | .hbm, ⟨26, _⟩ => ⟨S2x16x64, .f32⟩
  | .hbm, ⟨27, _⟩ => ⟨S2x16x64, .f32⟩
  | .hbm, ⟨28, _⟩ => ⟨S2x16x64, .f32⟩
  | .hbm, ⟨29, _⟩ => ⟨S2x16x64x16x1, .f32⟩
  | .hbm, ⟨30, _⟩ => ⟨S2x16x64x16, .f32⟩
  | .hbm, ⟨31, _⟩ => ⟨S2x16x64x16x1, .f32⟩
  | .hbm, ⟨32, _⟩ => ⟨S2x16x64x16, .f32⟩
  | .hbm, ⟨33, _⟩ => ⟨S2x16x64x1, .f32⟩
  | .hbm, ⟨34, _⟩ => ⟨S2x16x64x16, .f32⟩
  | .hbm, ⟨35, _⟩ => ⟨S2x16x64x16, .f32⟩
  | .hbm, ⟨36, _⟩ => ⟨S2x16x64x1, .f32⟩
  | .hbm, ⟨37, _⟩ => ⟨S2x16x64x16, .f32⟩
  | .hbm, ⟨38, _⟩ => ⟨S2x16x64x16, .f32⟩
  | .hbm, ⟨39, _⟩ => ⟨S2x16x64x16, .f32⟩
  | .hbm, ⟨40, _⟩ => ⟨S2x16x64x1, .f32⟩
  | .hbm, ⟨41, _⟩ => ⟨S2x16x64x16, .f32⟩
  | .hbm, ⟨42, _⟩ => ⟨S2x16x64x16, .f32⟩
  | .hbm, ⟨43, _⟩ => ⟨S2x16x64x1, .f32⟩
  | .hbm, ⟨44, _⟩ => ⟨S2x16x64x16, .f32⟩
  | .hbm, ⟨45, _⟩ => ⟨S2x16x64x16, .f32⟩
  | .hbm, ⟨46, _⟩ => ⟨S2x16x64x16, .f32⟩
  | .hbm, ⟨47, _⟩ => ⟨S2x1x1024, .f32⟩
  | .hbm, ⟨48, _⟩ => ⟨S2x1x1024, .f32⟩
  | .hbm, ⟨49, _⟩ => ⟨S2x2x1024, .f32⟩
  | .hbm, ⟨50, _⟩ => ⟨S2x16x16x64, .f32⟩
  | .hbm, ⟨51, _⟩ => ⟨S2x16x1024, .f32⟩
  | .hbm, ⟨52, _⟩ => ⟨S2x16x16x64, .f32⟩
  | .hbm, ⟨53, _⟩ => ⟨S2x16x1024, .f32⟩
  | _, _ => ⟨S2x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩

abbrev nD : Nat := 1
abbrev τ : Topo := Topo.v7x

variable {F : FTy → Type} [FloatOps F]
-- ==== Rope.lean ====
abbrev S2048x128 : Shape := ⟨2, ![2048, 128]⟩
abbrev S256x128 : Shape := ⟨2, ![256, 128]⟩

abbrev nBuf : Space → Nat
  | .hbm => 2
  | .vmem => 4
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_v0_0 : Ref sig .tc := ⟨.hbm, 0, rfl⟩
abbrev main_v0_1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RopeIdeal.lean ====
variable {F : FTy → Type} [FloatOps F] [Named F]
def κ : String → Option EReal := fun
  | "rope_step" => some (((-(Real.log 10000)) * 64⁻¹ : ℝ) : EReal)
  | _ => none
-- ==== RopeRefIdeal.lean ====
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩

abbrev nBuf : Space → Nat
  | .hbm => 20
  | .vmem => 0
  | .smem => 0
  | _ => 0

abbrev bufTy : (tb : Table) → Fin (tcTables nBuf tb) → BufTy
  | .hbm, ⟨0, _⟩ => ⟨S2048, .i32⟩
  | .hbm, ⟨1, _⟩ => ⟨S64, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S2048, .f32⟩
  | .hbm, ⟨10, _⟩ => ⟨S2048x1, .f32⟩
  | .hbm, ⟨11, _⟩ => ⟨S1x64, .f32⟩
  | .hbm, ⟨12, _⟩ => ⟨S2048x64, .f32⟩
  | .hbm, ⟨13, _⟩ => ⟨S2048x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x128, .f32⟩
  | .hbm, ⟨18, _⟩ => ⟨S2048x64, .f32⟩
  | .hbm, ⟨19, _⟩ => ⟨S2048x128, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_v0 : Ref sig .tc := ⟨.hbm, 0, rfl⟩
abbrev main_v1 : Ref sig .tc := ⟨.hbm, 1, rfl⟩
abbrev main_v2 : Ref sig .tc := ⟨.hbm, 2, rfl⟩
abbrev main_cst : Ref sig .tc := ⟨.hbm, 3, rfl⟩
abbrev main_v3 : Ref sig .tc := ⟨.hbm, 4, rfl⟩
abbrev main_v4 : Ref sig .tc := ⟨.hbm, 5, rfl⟩
abbrev main_cst_0 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]
-- ==== RopeSample.lean ====
abbrev S64x128 : Shape := ⟨2, ![64, 128]⟩

abbrev nBuf : Space → Nat
  | .hbm => 2
  | .vmem => 2
  | .smem => 0
  | _ => 0

abbrev bufTy : (tb : Table) → Fin (tcTables nBuf tb) → BufTy
  | .hbm, ⟨0, _⟩ => ⟨S64x128, .f32⟩
  | .hbm, ⟨1, _⟩ => ⟨S64x128, .f32⟩
  | .local _ .vmem, ⟨0, _⟩ => ⟨S64x128, .f32⟩
  | .local _ .vmem, ⟨1, _⟩ => ⟨S64x128, .f32⟩
  | _, _ => ⟨S64x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_v0_0 : Ref sig .tc := ⟨.hbm, 0, rfl⟩
abbrev main_v0_1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== RopeSampleIdeal.lean ====
variable {F : FTy → Type} [FloatOps F] [Named F]
def κ : String → Option EReal := fun
  | "rope_step" => some (((-(Real.log 10000)) * 64⁻¹ : ℝ) : EReal)
  | _ => none
-- ==== RopeSampleRefIdeal.lean ====
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S64x128 : Shape := ⟨2, ![64, 128]⟩

abbrev nBuf : Space → Nat
  | .hbm => 23
  | .vmem => 0
  | .smem => 0
  | _ => 0

abbrev bufTy : (tb : Table) → Fin (tcTables nBuf tb) → BufTy
  | .hbm, ⟨0, _⟩ => ⟨S64, .i32⟩
  | .hbm, ⟨1, _⟩ => ⟨S_, .i32⟩
  | .hbm, ⟨2, _⟩ => ⟨S64, .i32⟩
  | .hbm, ⟨3, _⟩ => ⟨S64, .i32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64x1, .f32⟩
  | .hbm, ⟨14, _⟩ => ⟨S1x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x128, .f32⟩
  | .hbm, ⟨21, _⟩ => ⟨S64x64, .f32⟩
  | .hbm, ⟨22, _⟩ => ⟨S64x128, .f32⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_v0 : Ref sig .tc := ⟨.hbm, 0, rfl⟩
abbrev main_c : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== Carry.lean ====
abbrev S4x512x1024 : Shape := ⟨3, ![4, 512, 1024]⟩
abbrev S64x128 : Shape := ⟨2, ![64, 128]⟩
abbrev S2x4x8x4x128x128 : Shape := ⟨6, ![2, 4, 8, 4, 128, 128]⟩
abbrev S2x4x8x256 : Shape := ⟨4, ![2, 4, 8, 256]⟩
abbrev S2x32x3x256 : Shape := ⟨4, ![2, 32, 3, 256]⟩
abbrev S2x4x8x2048 : Shape := ⟨4, ![2, 4, 8, 2048]⟩
abbrev S512x512 : Shape := ⟨2, ![512, 512]⟩
abbrev S4x512x128 : Shape := ⟨3, ![4, 512, 128]⟩
abbrev S2x1024 : Shape := ⟨2, ![2, 1024]⟩
abbrev S2x1024x2816 : Shape := ⟨3, ![2, 1024, 2816]⟩
abbrev S2x1x1024 : Shape := ⟨3, ![2, 1, 1024]⟩
abbrev S2x4x256 : Shape := ⟨3, ![2, 4, 256]⟩
abbrev S2x1x256 : Shape := ⟨3, ![2, 1, 256]⟩
abbrev S2x256x512 : Shape := ⟨3, ![2, 256, 512]⟩
abbrev S2x1x512 : Shape := ⟨3, ![2, 1, 512]⟩
abbrev S2x2x1024 : Shape := ⟨3, ![2, 2, 1024]⟩
abbrev S2x256x2048 : Shape := ⟨3, ![2, 256, 2048]⟩
abbrev S2x1024x256 : Shape := ⟨3, ![2, 1024, 256]⟩
abbrev S2x256x256 : Shape := ⟨3, ![2, 256, 256]⟩
abbrev S2x1024x1024 : Shape := ⟨3, ![2, 1024, 1024]⟩
abbrev S2x4x8x3x256 : Shape := ⟨5, ![2, 4, 8, 3, 256]⟩
abbrev S2x4x3x8x256 : Shape := ⟨5, ![2, 4, 3, 8, 256]⟩
abbrev S2x4x24x256 : Shape := ⟨4, ![2, 4, 24, 256]⟩
abbrev S4x8x4x128x128 : Shape := ⟨5, ![4, 8, 4, 128, 128]⟩
abbrev S4x8x256 : Shape := ⟨3, ![4, 8, 256]⟩
abbrev S4x24x256 : Shape := ⟨3, ![4, 24, 256]⟩
abbrev S4x8x2048 : Shape := ⟨3, ![4, 8, 2048]⟩
abbrev S1x512x1024 : Shape := ⟨3, ![1, 512, 1024]⟩
abbrev S1x1x8x4x128x128 : Shape := ⟨6, ![1, 1, 8, 4, 128, 128]⟩
abbrev S1x1x8x256 : Shape := ⟨4, ![1, 1, 8, 256]⟩
abbrev S1x1x24x256 : Shape := ⟨4, ![1, 1, 24, 256]⟩
abbrev S1x1x8x2048 : Shape := ⟨4, ![1, 1, 8, 2048]⟩
abbrev S1x1x1024 : Shape := ⟨3, ![1, 1, 1024]⟩
abbrev S1x1024x2816 : Shape := ⟨3, ![1, 1024, 2816]⟩
abbrev S1x4x256 : Shape := ⟨3, ![1, 4, 256]⟩
abbrev S1x1x256 : Shape := ⟨3, ![1, 1, 256]⟩
abbrev S1x256x512 : Shape := ⟨3, ![1, 256, 512]⟩
abbrev S1x1x512 : Shape := ⟨3, ![1, 1, 512]⟩
abbrev S1x2x1024 : Shape := ⟨3, ![1, 2, 1024]⟩
abbrev S1x256x2048 : Shape := ⟨3, ![1, 256, 2048]⟩
abbrev S1x1024x256 : Shape := ⟨3, ![1, 1024, 256]⟩
abbrev S1x256x256 : Shape := ⟨3, ![1, 256, 256]⟩
abbrev S1x1024x1024 : Shape := ⟨3, ![1, 1024, 1024]⟩
abbrev S1x8x4x128x128 : Shape := ⟨5, ![1, 8, 4, 128, 128]⟩
abbrev S1x8x256 : Shape := ⟨3, ![1, 8, 256]⟩
abbrev S1x24x256 : Shape := ⟨3, ![1, 24, 256]⟩
abbrev S1x8x2048 : Shape := ⟨3, ![1, 8, 2048]⟩
abbrev S512x1024 : Shape := ⟨2, ![512, 1024]⟩
abbrev S4x128x1024 : Shape := ⟨3, ![4, 128, 1024]⟩
abbrev S536x256 : Shape := ⟨2, ![536, 256]⟩
abbrev S512x256 : Shape := ⟨2, ![512, 256]⟩
abbrev S512x2048 : Shape := ⟨2, ![512, 2048]⟩
abbrev S1x1x1x1x128x128 : Shape := ⟨6, ![1, 1, 1, 1, 128, 128]⟩
abbrev S128x128 : Shape := ⟨2, ![128, 128]⟩
abbrev S1x128x128 : Shape := ⟨3, ![1, 128, 128]⟩
abbrev S8x256 : Shape := ⟨2, ![8, 256]⟩
abbrev S24x256 : Shape := ⟨2, ![24, 256]⟩
abbrev S8x2048 : Shape := ⟨2, ![8, 2048]⟩
abbrev S1x1024 : Shape := ⟨2, ![1, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S1024x256 : Shape := ⟨2, ![1024, 256]⟩
abbrev S512x128 : Shape := ⟨2, ![512, 128]⟩
abbrev S1x512x128 : Shape := ⟨3, ![1, 512, 128]⟩
abbrev S256x2048 : Shape := ⟨2, ![256, 2048]⟩
abbrev S1x256 : Shape := ⟨2, ![1, 256]⟩
abbrev S256x512 : Shape := ⟨2, ![256, 512]⟩
abbrev S1x512 : Shape := ⟨2, ![1, 512]⟩
abbrev S8x1024 : Shape := ⟨2, ![8, 1024]⟩
abbrev S1x8x1024 : Shape := ⟨3, ![1, 8, 1024]⟩
abbrev S64x1x128 : Shape := ⟨3, ![64, 1, 128]⟩
abbrev S64x8x128 : Shape := ⟨3, ![64, 8, 128]⟩
abbrev S256x128 : Shape := ⟨2, ![256, 128]⟩
abbrev S256x256 : Shape := ⟨2, ![256, 256]⟩
abbrev S1x64x128 : Shape := ⟨3, ![1, 64, 128]⟩
abbrev S1x128 : Shape := ⟨2, ![1, 128]⟩
abbrev S1x256x1024 : Shape := ⟨3, ![1, 256, 1024]⟩
abbrev S256x1024 : Shape := ⟨2, ![256, 1024]⟩
abbrev S1x1x1x128x128 : Shape := ⟨5, ![1, 1, 1, 128, 128]⟩

abbrev nBuf : Space → Nat
  | .hbm => 36
  | .vmem => 56
  | .smem => 0
  | _ => 0

abbrev bufTy : (tb : Table) → Fin (tcTables nBuf tb) → BufTy
  | .hbm, ⟨0, _⟩ => ⟨S4x512x1024, .f32⟩
  | .hbm, ⟨1, _⟩ => ⟨S64x128, .f32⟩
  | .hbm, ⟨2, _⟩ => ⟨S64x128, .f32⟩
  | .hbm, ⟨3, _⟩ => ⟨S2x4x8x4x128x128, .f32⟩
  | .hbm, ⟨4, _⟩ => ⟨S2x4x8x256, .f32⟩
  | .hbm, ⟨5, _⟩ => ⟨S2x32x3x256, .f32⟩
  | .hbm, ⟨6, _⟩ => ⟨S2x4x8x2048, .f32⟩
  | .hbm, ⟨7, _⟩ => ⟨S512x512, .f32⟩
  | .hbm, ⟨8, _⟩ => ⟨S4x512x128, .f32⟩
  | .hbm, ⟨9, _⟩ => ⟨S4x512x128, .f32⟩
  | .hbm, ⟨10, _⟩ => ⟨S2x1024, .f32⟩
  | .hbm, ⟨11, _⟩ => ⟨S2x1024x2816, .f32⟩
  | .hbm, ⟨12, _⟩ => ⟨S2x1x1024, .f32⟩
  | .hbm, ⟨13, _⟩ => ⟨S2x4x256, .f32⟩
  | .hbm, ⟨14, _⟩ => ⟨S2x1x256, .f32⟩
  | .hbm, ⟨15, _⟩ => ⟨S2x256x512, .bf16⟩
  | .hbm, ⟨16, _⟩ => ⟨S2x1x512, .f32⟩
  | .hbm, ⟨17, _⟩ => ⟨S2x1x256, .f32⟩
  | .hbm, ⟨18, _⟩ => ⟨S2x2x1024, .f32⟩
  | .hbm, ⟨19, _⟩ => ⟨S2x256x2048, .bf16⟩
  | .hbm, ⟨20, _⟩ => ⟨S2x1024x256, .bf16⟩
  | .hbm, ⟨21, _⟩ => ⟨S2x1024x256, .bf16⟩
  | .hbm, ⟨22, _⟩ => ⟨S2x1x256, .f32⟩
  | .hbm, ⟨23, _⟩ => ⟨S2x256x256, .bf16⟩
  | .hbm, ⟨24, _⟩ => ⟨S2x1x256, .f32⟩
  | .hbm, ⟨25, _⟩ => ⟨S2x1024x1024, .bf16⟩
  | .hbm, ⟨26, _⟩ => ⟨S2x4x8x3x256, .f32⟩
  | .hbm, ⟨27, _⟩ => ⟨S2x4x3x8x256, .f32⟩
  | .hbm, ⟨28, _⟩ => ⟨S2x4x24x256, .f32⟩
  | .hbm, ⟨29, _⟩ => ⟨S2x1x1024, .f32⟩
  | .hbm, ⟨30, _⟩ => ⟨S2x1024x2816, .bf16⟩
  | .hbm, ⟨31, _⟩ => ⟨S4x512x1024, .f32⟩
  | .hbm, ⟨32, _⟩ => ⟨S4x8x4x128x128, .f32⟩
  | .hbm, ⟨33, _⟩ => ⟨S4x8x256, .f32⟩
  | .hbm, ⟨34, _⟩ => ⟨S4x24x256, .f32⟩
  | .hbm, ⟨35, _⟩ => ⟨S4x8x2048, .f32⟩
  | .local _ .vmem, ⟨0, _⟩ => ⟨S1x512x1024, .f32⟩
  | .local _ .vmem, ⟨1, _⟩ => ⟨S1x512x1024, .f32⟩
  | .local _ .vmem, ⟨2, _⟩ => ⟨S64x128, .f32⟩
  | .local _ .vmem, ⟨3, _⟩ => ⟨S64x128, .f32⟩
  | .local _ .vmem, ⟨4, _⟩ => ⟨S1x1x8x4x128x128, .f32⟩
  | .local _ .vmem, ⟨5, _⟩ => ⟨S1x1x8x4x128x128, .f32⟩
  | .local _ .vmem, ⟨6, _⟩ => ⟨S1x1x8x256, .f32⟩
  | .local _ .vmem, ⟨7, _⟩ => ⟨S1x1x8x256, .f32⟩
  | .local _ .vmem, ⟨8, _⟩ => ⟨S1x1x24x256, .f32⟩
  | .local _ .vmem, ⟨9, _⟩ => ⟨S1x1x24x256, .f32⟩
  | .local _ .vmem, ⟨10, _⟩ => ⟨S1x1x8x2048, .f32⟩
  | .local _ .vmem, ⟨11, _⟩ => ⟨S1x1x8x2048, .f32⟩
  | .local _ .vmem, ⟨12, _⟩ => ⟨S512x512, .f32⟩
  | .local _ .vmem, ⟨13, _⟩ => ⟨S4x512x128, .f32⟩
  | .local _ .vmem, ⟨14, _⟩ => ⟨S4x512x128, .f32⟩
  | .local _ .vmem, ⟨15, _⟩ => ⟨S1x1x1024, .f32⟩
  | .local _ .vmem, ⟨16, _⟩ => ⟨S1x1024x2816, .bf16⟩
  | .local _ .vmem, ⟨17, _⟩ => ⟨S1x1x1024, .f32⟩
  | .local _ .vmem, ⟨18, _⟩ => ⟨S1x4x256, .f32⟩
  | .local _ .vmem, ⟨19, _⟩ => ⟨S1x1x256, .f32⟩
  | .local _ .vmem, ⟨20, _⟩ => ⟨S1x256x512, .bf16⟩
  | .local _ .vmem, ⟨21, _⟩ => ⟨S1x1x512, .f32⟩
  | .local _ .vmem, ⟨22, _⟩ => ⟨S1x1x256, .f32⟩
  | .local _ .vmem, ⟨23, _⟩ => ⟨S1x2x1024, .f32⟩
  | .local _ .vmem, ⟨24, _⟩ => ⟨S1x256x2048, .bf16⟩
  | .local _ .vmem, ⟨25, _⟩ => ⟨S1x1024x256, .bf16⟩
  | .local _ .vmem, ⟨26, _⟩ => ⟨S1x1024x256, .bf16⟩
  | .local _ .vmem, ⟨27, _⟩ => ⟨S1x1x256, .f32⟩
  | .local _ .vmem, ⟨28, _⟩ => ⟨S1x256x256, .bf16⟩
  | .local _ .vmem, ⟨29, _⟩ => ⟨S1x1x256, .f32⟩
  | .local _ .vmem, ⟨30, _⟩ => ⟨S1x1024x1024, .bf16⟩
  | .local _ .vmem, ⟨31, _⟩ => ⟨S1x512x1024, .f32⟩
  | .local _ .vmem, ⟨32, _⟩ => ⟨S1x512x1024, .f32⟩
  | .local _ .vmem, ⟨33, _⟩ => ⟨S1x8x4x128x128, .f32⟩
  | .local _ .vmem, ⟨34, _⟩ => ⟨S1x8x4x128x128, .f32⟩
  | .local _ .vmem, ⟨35, _⟩ => ⟨S1x8x256, .f32⟩
  | .local _ .vmem, ⟨36, _⟩ => ⟨S1x8x256, .f32⟩
  | .local _ .vmem, ⟨37, _⟩ => ⟨S1x24x256, .f32⟩
  | .local _ .vmem, ⟨38, _⟩ => ⟨S1x24x256, .f32⟩
  | .local _ .vmem, ⟨39, _⟩ => ⟨S1x8x2048, .f32⟩
  | .local _ .vmem, ⟨40, _⟩ => ⟨S1x8x2048, .f32⟩
  | .local _ .vmem, ⟨41, _⟩ => ⟨S512x1024, .bf16⟩
  | .local _ .vmem, ⟨42, _⟩ => ⟨S4x512x128, .f32⟩
  | .local _ .vmem, ⟨43, _⟩ => ⟨S4x512x128, .f32⟩
  | .local _ .vmem, ⟨44, _⟩ => ⟨S4x512x128, .f32⟩
  | .local _ .vmem, ⟨45, _⟩ => ⟨S4x512x128, .f32⟩
  | .local _ .vmem, ⟨46, _⟩ => ⟨S4x128x1024, .f32⟩
  | .local _ .vmem, ⟨47, _⟩ => ⟨S512x512, .f32⟩
  | .local _ .vmem, ⟨48, _⟩ => ⟨S536x256, .f32⟩
  | .local _ .vmem, ⟨49, _⟩ => ⟨S512x256, .f32⟩
  | .local _ .vmem, ⟨50, _⟩ => ⟨S512x256, .f32⟩
  | .local _ .vmem, ⟨51, _⟩ => ⟨S512x256, .f32⟩
  | .local _ .vmem, ⟨52, _⟩ => ⟨S512x256, .f32⟩
  | .local _ .vmem, ⟨53, _⟩ => ⟨S512x2048, .f32⟩
  | .local _ .vmem, ⟨54, _⟩ => ⟨S512x256, .f32⟩
  | .local _ .vmem, ⟨55, _⟩ => ⟨S512x1024, .bf16⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5_0 : Ref sig .tc := ⟨.hbm, 31, rfl⟩
abbrev main_v5_1 : Ref sig .tc := ⟨.hbm, 32, rfl⟩
abbrev main_v5_2 : Ref sig .tc := ⟨.hbm, 33, rfl⟩
abbrev main_v5_3 : Ref sig .tc := ⟨.hbm, 34, rfl⟩
abbrev main_v5_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg22_0 : Ref sig .tc := ⟨.vmem, 27, rfl⟩
abbrev cc0_stg23_0 : Ref sig .tc := ⟨.vmem, 28, rfl⟩
abbrev cc0_stg24_0 : Ref sig .tc := ⟨.vmem, 29, rfl⟩
abbrev cc0_stg25_0 : Ref sig .tc := ⟨.vmem, 30, rfl⟩
abbrev cc0_stg26_0 : Ref sig .tc := ⟨.vmem, 31, rfl⟩
abbrev cc0_stg26_1 : Ref sig .tc := ⟨.vmem, 32, rfl⟩
abbrev cc0_stg27_0 : Ref sig .tc := ⟨.vmem, 33, rfl⟩
abbrev cc0_stg27_1 : Ref sig .tc := ⟨.vmem, 34, rfl⟩
abbrev cc0_stg28_0 : Ref sig .tc := ⟨.vmem, 35, rfl⟩
abbrev cc0_stg28_1 : Ref sig .tc := ⟨.vmem, 36, rfl⟩
abbrev cc0_stg29_0 : Ref sig .tc := ⟨.vmem, 37, rfl⟩
abbrev cc0_stg29_1 : Ref sig .tc := ⟨.vmem, 38, rfl⟩
abbrev cc0_stg30_0 : Ref sig .tc := ⟨.vmem, 39, rfl⟩
abbrev cc0_stg30_1 : Ref sig .tc := ⟨.vmem, 40, rfl⟩
abbrev cc0_scratch0 : Ref sig .tc := ⟨.vmem, 41, rfl⟩
abbrev cc0_scratch1 : Ref sig .tc := ⟨.vmem, 42, rfl⟩
abbrev cc0_scratch2 : Ref sig .tc := ⟨.vmem, 43, rfl⟩
abbrev cc0_scratch3 : Ref sig .tc := ⟨.vmem, 44, rfl⟩
abbrev cc0_scratch4 : Ref sig .tc := ⟨.vmem, 45, rfl⟩
abbrev cc0_scratch5 : Ref sig .tc := ⟨.vmem, 46, rfl⟩
abbrev cc0_scratch6 : Ref sig .tc := ⟨.vmem, 47, rfl⟩
abbrev cc0_scratch7 : Ref sig .tc := ⟨.vmem, 48, rfl⟩
abbrev cc0_scratch8 : Ref sig .tc := ⟨.vmem, 49, rfl⟩
abbrev cc0_scratch9 : Ref sig .tc := ⟨.vmem, 50, rfl⟩
abbrev cc0_scratch10 : Ref sig .tc := ⟨.vmem, 51, rfl⟩
abbrev cc0_scratch11 : Ref sig .tc := ⟨.vmem, 52, rfl⟩
abbrev cc0_scratch12 : Ref sig .tc := ⟨.vmem, 53, rfl⟩
abbrev cc0_scratch13 : Ref sig .tc := ⟨.vmem, 54, rfl⟩
abbrev cc0_scratch14 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem21_0 : DmaSem sig := 26
abbrev cc0_sem22_0 : DmaSem sig := 27
abbrev cc0_sem23_0 : DmaSem sig := 28
abbrev cc0_sem24_0 : DmaSem sig := 29
abbrev cc0_sem25_0 : DmaSem sig := 30
abbrev cc0_sem26_0 : DmaSem sig := 31
abbrev cc0_sem26_1 : DmaSem sig := 32
abbrev cc0_sem27_0 : DmaSem sig := 33
abbrev cc0_sem27_1 : DmaSem sig := 34
abbrev cc0_sem28_0 : DmaSem sig := 35
abbrev cc0_sem28_1 : DmaSem sig := 36
abbrev cc0_sem29_0 : DmaSem sig := 37
abbrev cc0_sem29_1 : DmaSem sig := 38
abbrev cc0_sem30_0 : DmaSem sig := 39
abbrev cc0_sem30_1 : DmaSem sig := 40

abbrev nD : Nat := 1
abbrev τ : Topo := Topo.v7x

variable {F : FTy → Type} [FloatOps F]

abbrev grid0 : Pipeline.Grid := ⟨2, ![4, 1], ![false, false]⟩

def k0_mult1 (i : grid0.Coords) : BitVec 32 :=
  let arg1 : BitVec 32 := BitVec.ofNat 32 (i 1).val
  let c64_i32 : BitVec 32 := 64#32
  let v1726 : BitVec 32 := Scalar.muli arg1 c64_i32
  v1726
def k0_off1 (i : grid0.Coords) : Fin 2 → Nat :=
  let arg1 : BitVec 32 := BitVec.ofNat 32 (i 1).val
  let c64_i32 : BitVec 32 := 64#32
  let v1726 : BitVec 32 := Scalar.muli arg1 c64_i32
  let v1727 : BitVec 32 := v1726
  let v1728 : Index := Scalar.indexCast v1727
  let c0_1013 : Index := 0#32
  ![v1728.toNat, 0]
def k0_cond2 (i : grid0.Coords) : BitVec 1 :=
  let arg1 : BitVec 32 := BitVec.ofNat 32 (i 1).val
  let c0_i32_1913 : BitVec 32 := 0#32
  let v2839 : BitVec 1 := Scalar.cmpi .eq arg1 c0_i32_1913
  let v2840 : BitVec 32 := Scalar.extui v2839
  let c0_i32_1914 : BitVec 32 := 0#32
  let v2841 : BitVec 1 := Scalar.cmpi .ne v2840 c0_i32_1914
  v2841

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 6 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c1_i32.toNat, arg0.toNat, c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_24 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_25 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_27 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_28 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_29 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_30 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x8x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x24x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x4x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x256x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x2x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x256x2048 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x1024x256 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x1024x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1x256x256 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S1x1x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S1x1024x1024 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 2 → Memref sig .tc .vmem S1x512x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x8x4x128x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, false]

abbrev stage0_28 : Fin 2 → Memref sig .tc .vmem S1x8x256 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, false]

abbrev stage0_29 : Fin 2 → Memref sig .tc .vmem S1x24x256 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, false]

abbrev stage0_30 : Fin 2 → Memref sig .tc .vmem S1x8x2048 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, false]
-- ==== CarryRefIdeal.lean ====
abbrev S4x512x1024 : Shape := ⟨3, ![4, 512, 1024]⟩
abbrev S64x128 : Shape := ⟨2, ![64, 128]⟩
abbrev S2x4x8x4x128x128 : Shape := ⟨6, ![2, 4, 8, 4, 128, 128]⟩
abbrev S2x4x8x256 : Shape := ⟨4, ![2, 4, 8, 256]⟩
abbrev S2x32x3x256 : Shape := ⟨4, ![2, 32, 3, 256]⟩
abbrev S2x4x8x2048 : Shape := ⟨4, ![2, 4, 8, 2048]⟩
abbrev S512x512 : Shape := ⟨2, ![512, 512]⟩
abbrev S4x512x128 : Shape := ⟨3, ![4, 512, 128]⟩
abbrev S2x1024 : Shape := ⟨2, ![2, 1024]⟩
abbrev S2x1024x2816 : Shape := ⟨3, ![2, 1024, 2816]⟩
abbrev S2x1x1024 : Shape := ⟨3, ![2, 1, 1024]⟩
abbrev S2x4x256 : Shape := ⟨3, ![2, 4, 256]⟩
abbrev S2x1x256 : Shape := ⟨3, ![2, 1, 256]⟩
abbrev S2x256x512 : Shape := ⟨3, ![2, 256, 512]⟩
abbrev S2x1x512 : Shape := ⟨3, ![2, 1, 512]⟩
abbrev S2x2x1024 : Shape := ⟨3, ![2, 2, 1024]⟩
abbrev S2x256x2048 : Shape := ⟨3, ![2, 256, 2048]⟩
abbrev S2x1024x256 : Shape := ⟨3, ![2, 1024, 256]⟩
abbrev S2x256x256 : Shape := ⟨3, ![2, 256, 256]⟩
abbrev S2x1024x1024 : Shape := ⟨3, ![2, 1024, 1024]⟩
abbrev S4x64x8x1024 : Shape := ⟨4, ![4, 64, 8, 1024]⟩
abbrev S4x8x64x1024 : Shape := ⟨4, ![4, 8, 64, 1024]⟩
abbrev S32x64x1024 : Shape := ⟨3, ![32, 64, 1024]⟩
abbrev S1x1024 : Shape := ⟨2, ![1, 1024]⟩
abbrev S1024 : Shape := ⟨1, ![1024]⟩
abbrev S_ : Shape := ⟨0, ![]⟩
abbrev S32x64 : Shape := ⟨2, ![32, 64]⟩
abbrev S32x64x1 : Shape := ⟨3, ![32, 64, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S32x64x2816 : Shape := ⟨3, ![32, 64, 2816]⟩
abbrev S32x64x256 : Shape := ⟨3, ![32, 64, 256]⟩
abbrev S1x32x3x256 : Shape := ⟨4, ![1, 32, 3, 256]⟩
abbrev S32x3x256 : Shape := ⟨3, ![32, 3, 256]⟩
abbrev S32x67x256 : Shape := ⟨3, ![32, 67, 256]⟩
abbrev S4x8x3x256 : Shape := ⟨4, ![4, 8, 3, 256]⟩
abbrev S4x3x8x256 : Shape := ⟨4, ![4, 3, 8, 256]⟩
abbrev S4x24x256 : Shape := ⟨3, ![4, 24, 256]⟩

abbrev nBuf : Space → Nat
  | .hbm => 58
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S64x128, .f32⟩
  | .hbm, ⟨2, _⟩ => ⟨S64x128, .f32⟩
  | .hbm, ⟨3, _⟩ => ⟨S2x4x8x4x128x128, .f32⟩
  | .hbm, ⟨4, _⟩ => ⟨S2x4x8x256, .f32⟩
  | .hbm, ⟨5, _⟩ => ⟨S2x32x3x256, .f32⟩
  | .hbm, ⟨6, _⟩ => ⟨S2x4x8x2048, .f32⟩
  | .hbm, ⟨7, _⟩ => ⟨S512x512, .f32⟩
  | .hbm, ⟨8, _⟩ => ⟨S4x512x128, .f32⟩
  | .hbm, ⟨9, _⟩ => ⟨S4x512x128, .f32⟩
  | .hbm, ⟨10, _⟩ => ⟨S2x1024, .f32⟩
  | .hbm, ⟨11, _⟩ => ⟨S2x1024x2816, .f32⟩
  | .hbm, ⟨12, _⟩ => ⟨S2x1x1024, .f32⟩
  | .hbm, ⟨13, _⟩ => ⟨S2x4x256, .f32⟩
  | .hbm, ⟨14, _⟩ => ⟨S2x1x256, .f32⟩
  | .hbm, ⟨15, _⟩ => ⟨S2x256x512, .bf16⟩
  | .hbm, ⟨16, _⟩ => ⟨S2x1x512, .f32⟩
  | .hbm, ⟨17, _⟩ => ⟨S2x1x256, .f32⟩
  | .hbm, ⟨18, _⟩ => ⟨S2x2x1024, .f32⟩
  | .hbm, ⟨19, _⟩ => ⟨S2x256x2048, .bf16⟩
  | .hbm, ⟨20, _⟩ => ⟨S2x1024x256, .bf16⟩
  | .hbm, ⟨21, _⟩ => ⟨S2x1024x256, .bf16⟩
  | .hbm, ⟨22, _⟩ => ⟨S2x1x256, .f32⟩
  | .hbm, ⟨23, _⟩ => ⟨S2x256x256, .bf16⟩
  | .hbm, ⟨24, _⟩ => ⟨S2x1x256, .f32⟩
  | .hbm, ⟨25, _⟩ => ⟨S2x1024x1024, .bf16⟩
  | .hbm, ⟨26, _⟩ => ⟨S4x64x8x1024, .f32⟩
  | .hbm, ⟨27, _⟩ => ⟨S4x8x64x1024, .f32⟩
  | .hbm, ⟨28, _⟩ => ⟨S32x64x1024, .f32⟩
  | .hbm, ⟨29, _⟩ => ⟨S1x1024, .f32⟩
  | .hbm, ⟨30, _⟩ => ⟨S1024, .f32⟩
  | .hbm, ⟨31, _⟩ => ⟨S32x64x1024, .f32⟩
  | .hbm, ⟨32, _⟩ => ⟨S_, .f32⟩
  | .hbm, ⟨33, _⟩ => ⟨S32x64, .f32⟩
  | .hbm, ⟨34, _⟩ => ⟨S32x64x1, .f32⟩
  | .hbm, ⟨35, _⟩ => ⟨S_, .f32⟩
  | .hbm, ⟨36, _⟩ => ⟨S32x64x1, .f32⟩
  | .hbm, ⟨37, _⟩ => ⟨S32x64x1, .f32⟩
  | .hbm, ⟨38, _⟩ => ⟨S_, .f32⟩
  | .hbm, ⟨39, _⟩ => ⟨S32x64x1, .f32⟩
  | .hbm, ⟨40, _⟩ => ⟨S32x64x1, .f32⟩
  | .hbm, ⟨41, _⟩ => ⟨S32x64x1, .f32⟩
  | .hbm, ⟨42, _⟩ => ⟨S32x64x1024, .f32⟩
  | .hbm, ⟨43, _⟩ => ⟨S32x64x1024, .f32⟩
  | .hbm, ⟨44, _⟩ => ⟨S1x1x1024, .f32⟩
  | .hbm, ⟨45, _⟩ => ⟨S32x64x1024, .f32⟩
  | .hbm, ⟨46, _⟩ => ⟨S32x64x1024, .f32⟩
  | .hbm, ⟨47, _⟩ => ⟨S1x1024x2816, .f32⟩
  | .hbm, ⟨48, _⟩ => ⟨S1024x2816, .f32⟩
  | .hbm, ⟨49, _⟩ => ⟨S32x64x2816, .f32⟩
  | .hbm, ⟨50, _⟩ => ⟨S32x64x256, .f32⟩
  | .hbm, ⟨51, _⟩ => ⟨S1x32x3x256, .f32⟩
  | .hbm, ⟨52, _⟩ => ⟨S32x3x256, .f32⟩
  | .hbm, ⟨53, _⟩ => ⟨S32x67x256, .f32⟩
  | .hbm, ⟨54, _⟩ => ⟨S32x3x256, .f32⟩
  | .hbm, ⟨55, _⟩ => ⟨S4x8x3x256, .f32⟩
  | .hbm, ⟨56, _⟩ => ⟨S4x3x8x256, .f32⟩
  | .hbm, ⟨57, _⟩ => ⟨S4x24x256, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_cst : Ref sig .tc := ⟨.hbm, 32, rfl⟩
abbrev main_v6 : Ref sig .tc := ⟨.hbm, 33, rfl⟩
abbrev main_v7 : Ref sig .tc := ⟨.hbm, 34, rfl⟩
abbrev main_cst_0 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩

abbrev nD : Nat := 1
abbrev τ : Topo := Topo.v7x

variable {F : FTy → Type} [FloatOps F]
-- ==== Proof.RopeIdealFrame.lean ====
/- The run of the call that computes the rotary tables
   of the prompt batch, over the extended reals. It reads no array: each step of its grid writes its own blocks
   of the two results. -/
module

public import proofs.«01_k».proof.Proof.Gen.RopeIdeal.Launch
public import proofs.«01_k».proof.Proof.Gen.RopeIdeal.Skeleton
public import proofs.«01_k».proof.Proof.Gen.RopeIdeal.Points
public import Idealize.ShloMosaic.Lib.Pipeline.FrameBody
public import Idealize.ShloMosaic.Lib.Claim
public import Idealize.ShloMosaic.Lib.Tactic

@[expose] public section

set_option maxRecDepth 16384

noncomputable section

namespace Cert.RopeIdeal.Body

open Cert.RopeIdeal Cert.RopeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The buffers at the start of the region: as launched. -/
abbrev V (c : Dev nD) (b : Ref sig .tc) : Buf (Elt F) ((c : Thread nD τ).loc b) := m ((c : Thread nD τ).loc b)

set_option maxHeartbeats 800000 in
/-- The program is its region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A run of the region is a run of the program; it has no arguments to leave unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      True) :=
  (θ_run defs _ _).mono (fun _ _ _ => trivial) h

abbrev r0_0 : Rect S256x128 := Rect.unit (s := S256x128) ![0, 0] S256x128.size inb_S256x128_S256x128_0_0

/-- What the body leaves in the block of the first result. -/
def out0_0 (i : grid0.Coords)  : Vec F S256x128 .f32 :=
  View.canon [⟨r0_0, k0_pay2 (F := F) i⟩]

/-- The store fills the block. -/
theorem cover0_0 (p0 : Vec F S256x128 .f32) (y : S256x128.Idx) :
    ∃ pc ∈ ([⟨r0_0, p0⟩] : List (View.Piece (Elt F) S256x128 .f32)), y ∈ pc.1.set :=
  View.cover_of_tiled [⟨r0_0, p0⟩] S256x128.size (by rfl) y

/-- What the body leaves in the block of the second result. -/
def out0_1 (i : grid0.Coords)  : Vec F S256x128 .f32 :=
  View.canon [⟨r0_0, k0_pay3 (F := F) i⟩]

/-- The store fills the block. -/
theorem cover0_1 (p0 : Vec F S256x128 .f32) (y : S256x128.Idx) :
    ∃ pc ∈ ([⟨r0_0, p0⟩] : List (View.Piece (Elt F) S256x128 .f32)), y ∈ pc.1.set :=
  View.cover_of_tiled [⟨r0_0, p0⟩] S256x128.size (by rfl) y

set_option maxHeartbeats 1000000 in
/-- The body, on any two whole blocks, runs to its end and leaves its values there. -/
theorem sound_kernel (c : Dev nD) (E : Set ℕ) (i : grid0.Coords) (arg1 : Memref sig .tc .vmem S256x128 .f32) (harg1 : arg1.IsWhole) (arg2 : Memref sig .tc .vmem S256x128 .f32) (harg2 : arg2.IsWhole)
     (K : PUnit → sProp 𝕄) :
    iprop((∃ d, owns (c : Thread nD τ) arg1 fullShare d) ∗ (∃ d, owns (c : Thread nD τ) arg2 fullShare d)
        ∗ (iprop(owns (c : Thread nD τ) arg1 fullShare (out0_0 i ) ∗ owns (c : Thread nD τ) arg2 fullShare (out0_1 i )) -∗ K ⟨⟩))
      ⊢ wp frame (wpE (defs₀ (F := F)) Variants.none c none) E (cc0_rope_tables i arg1 harg1 arg2 harg2) K := by
  simp only [cc0_rope_tables_eq_skeleton]; unfold cc0_rope_tables_skel
  unfold owns
  iintro ⟨⟨%d0, %f0, -, H0⟩, ⟨%d1, %f1, -, H1⟩, Hk⟩
  sl_exec
  sl_step
  iapply Hk
  isplitl [H0]
  · iexists _; isplitr
    swap; · iexact H0
    ipureintro
    exact View.read_writes_eq_canon _ _ _ (cover0_0 _)
  iexists _; isplitr
  swap; · iexact H1
  ipureintro
  exact View.read_writes_eq_canon _ _ _ (cover0_1 _)

/-- What the pipeline keeps: the arrays as found, and after each step the two blocks written. -/
def dats (_ : Fin 1) (c : Dev nD) : Dat τ (Elt F) Unit ℕ (UR sig nD τ) ℕ cfg0 c where
  A w := V m c (Pipeline.arrRef spec0 w)
  after w t := match w with
    | ⟨0, _⟩ => out0_0 (grid0.coords t)
    | ⟨1, _⟩ => out0_1 (grid0.coords t)
  Φ _ := Pipeline.ΦA spec0 c
  q _ := fullShare
  owed _ := 0

/-- The arrays are those at the start of the region. -/
theorem A_eq (c : Dev nD) (w : Fin cfg0.W) : (dats m 0 c).A w = V m c (Pipeline.arrRef spec0 w) := by
  dsimp only [dats]

/-- What each step leaves in the blocks. -/
theorem after0_0 (c : Dev nD) (t : Fin cfg0.N) : (dats m 0 c).after 0 t = out0_0 (grid0.coords t)  := by dsimp only [dats]
theorem after0_1 (c : Dev nD) (t : Fin cfg0.N) : (dats m 0 c).after 1 t = out0_1 (grid0.coords t)  := by dsimp only [dats]

/-- What the body is called with at a step. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _  _)
  isplitl [H0]; · iexists _; iexact H0
  isplitl [H1]; · iexists _; iexact H1
  iintro ⟨H0, H1⟩
  isplitl [HΦ]; · iexact HΦ
  isplitl [Ho]; · iexact Ho
  isplitl [H0]; · iexact H0
  iexact H1

/-- The body the pipeline calls is the body above. -/
theorem defs₀_row (t : Fin cfg0.N) :
    defs₀ (F := F) .tc cfg0.body (cfg0.bodyArgs t (cfg0.slots t)) = bodyAt0 t := by
  unfold defs₀; rw [Defs.onTc_tc]

/-- So every step meets the pipeline's condition. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The whole run, with the counters at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole run: each result array ends as its blocks written one after another. -/
theorem run_main : θ_run defs (onTc (τ := τ) (main (F := F))) (s₀ m ρ) (Pipeline.FramePost cfgs (dats m) 0 (V m)) :=
  (θ_run defs _ _).mono (fun _ h => h.1) (run_main_quiescent m ρ)

/-- The run ends without fault, with the counters at zero. -/
theorem frame : θ_run defs (onTc (τ := τ) (main (F := F))) ⟨m, fun _ => 0, ρ⟩ (fun r => (∀ c : Dev nD,
      True)
      ∧ r.2.sem = fun _ => 0) :=
  θ_run_and (frame_of m ρ (dats m) (A_eq m) (run_main m ρ)) ((θ_run defs _ _).mono (fun _ h => h.2) (run_main_quiescent m ρ))

end Cert.RopeIdeal.Body

end
-- ==== Proof.RopeSampleIdealFrame.lean ====
/- The run of the call that computes the rotary tables
   of the sample batch, over the extended reals. It reads no array: each step of its grid writes its own blocks
   of the two results. -/
module

public import proofs.«01_k».proof.Proof.Gen.RopeSampleIdeal.Launch
public import proofs.«01_k».proof.Proof.Gen.RopeSampleIdeal.Skeleton
public import proofs.«01_k».proof.Proof.Gen.RopeSampleIdeal.Points
public import Idealize.ShloMosaic.Lib.Pipeline.FrameBody
public import Idealize.ShloMosaic.Lib.Claim
public import Idealize.ShloMosaic.Lib.Tactic

@[expose] public section

set_option maxRecDepth 16384

noncomputable section

namespace Cert.RopeSampleIdeal.Body

open Cert.RopeSampleIdeal Cert.RopeSampleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The buffers at the start of the region: as launched. -/
abbrev V (c : Dev nD) (b : Ref sig .tc) : Buf (Elt F) ((c : Thread nD τ).loc b) := m ((c : Thread nD τ).loc b)

set_option maxHeartbeats 800000 in
/-- The program is its region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A run of the region is a run of the program; it has no arguments to leave unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      True) :=
  (θ_run defs _ _).mono (fun _ _ _ => trivial) h

abbrev r0_0 : Rect S64x128 := Rect.unit (s := S64x128) ![0, 0] S64x128.size inb_S64x128_S64x128_0_0

/-- What the body leaves in the block of the first result. -/
def out0_0 (i : grid0.Coords)  : Vec F S64x128 .f32 :=
  View.canon [⟨r0_0, k0_pay2 (F := F) i⟩]

/-- The store fills the block. -/
theorem cover0_0 (p0 : Vec F S64x128 .f32) (y : S64x128.Idx) :
    ∃ pc ∈ ([⟨r0_0, p0⟩] : List (View.Piece (Elt F) S64x128 .f32)), y ∈ pc.1.set :=
  View.cover_of_tiled [⟨r0_0, p0⟩] S64x128.size (by rfl) y

/-- What the body leaves in the block of the second result. -/
def out0_1 (i : grid0.Coords)  : Vec F S64x128 .f32 :=
  View.canon [⟨r0_0, k0_pay3 (F := F) i⟩]

/-- The store fills the block. -/
theorem cover0_1 (p0 : Vec F S64x128 .f32) (y : S64x128.Idx) :
    ∃ pc ∈ ([⟨r0_0, p0⟩] : List (View.Piece (Elt F) S64x128 .f32)), y ∈ pc.1.set :=
  View.cover_of_tiled [⟨r0_0, p0⟩] S64x128.size (by rfl) y

set_option maxHeartbeats 1000000 in
/-- The body, on any two whole blocks, runs to its end and leaves its values there. -/
theorem sound_kernel (c : Dev nD) (E : Set ℕ) (i : grid0.Coords) (arg1 : Memref sig .tc .vmem S64x128 .f32) (harg1 : arg1.IsWhole) (arg2 : Memref sig .tc .vmem S64x128 .f32) (harg2 : arg2.IsWhole)
     (K : PUnit → sProp 𝕄) :
    iprop((∃ d, owns (c : Thread nD τ) arg1 fullShare d) ∗ (∃ d, owns (c : Thread nD τ) arg2 fullShare d)
        ∗ (iprop(owns (c : Thread nD τ) arg1 fullShare (out0_0 i ) ∗ owns (c : Thread nD τ) arg2 fullShare (out0_1 i )) -∗ K ⟨⟩))
      ⊢ wp frame (wpE (defs₀ (F := F)) Variants.none c none) E (cc0_rope_tables i arg1 harg1 arg2 harg2) K := by
  simp only [cc0_rope_tables_eq_skeleton]; unfold cc0_rope_tables_skel
  unfold owns
  iintro ⟨⟨%d0, %f0, -, H0⟩, ⟨%d1, %f1, -, H1⟩, Hk⟩
  sl_exec
  sl_step
  iapply Hk
  isplitl [H0]
  · iexists _; isplitr
    swap; · iexact H0
    ipureintro
    exact View.read_writes_eq_canon _ _ _ (cover0_0 _)
  iexists _; isplitr
  swap; · iexact H1
  ipureintro
  exact View.read_writes_eq_canon _ _ _ (cover0_1 _)

/-- What the pipeline keeps: the arrays as found, and after each step the two blocks written. -/
def dats (_ : Fin 1) (c : Dev nD) : Dat τ (Elt F) Unit ℕ (UR sig nD τ) ℕ cfg0 c where
  A w := V m c (Pipeline.arrRef spec0 w)
  after w t := match w with
    | ⟨0, _⟩ => out0_0 (grid0.coords t)
    | ⟨1, _⟩ => out0_1 (grid0.coords t)
  Φ _ := Pipeline.ΦA spec0 c
  q _ := fullShare
  owed _ := 0

/-- The arrays are those at the start of the region. -/
theorem A_eq (c : Dev nD) (w : Fin cfg0.W) : (dats m 0 c).A w = V m c (Pipeline.arrRef spec0 w) := by
  dsimp only [dats]

/-- What each step leaves in the blocks. -/
theorem after0_0 (c : Dev nD) (t : Fin cfg0.N) : (dats m 0 c).after 0 t = out0_0 (grid0.coords t)  := by dsimp only [dats]
theorem after0_1 (c : Dev nD) (t : Fin cfg0.N) : (dats m 0 c).after 1 t = out0_1 (grid0.coords t)  := by dsimp only [dats]

/-- What the body is called with at a step. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _  _)
  isplitl [H0]; · iexists _; iexact H0
  isplitl [H1]; · iexists _; iexact H1
  iintro ⟨H0, H1⟩
  isplitl [HΦ]; · iexact HΦ
  isplitl [Ho]; · iexact Ho
  isplitl [H0]; · iexact H0
  iexact H1

/-- The body the pipeline calls is the body above. -/
theorem defs₀_row (t : Fin cfg0.N) :
    defs₀ (F := F) .tc cfg0.body (cfg0.bodyArgs t (cfg0.slots t)) = bodyAt0 t := by
  unfold defs₀; rw [Defs.onTc_tc]

/-- So every step meets the pipeline's condition. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The whole run, with the counters at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole run: each result array ends as its blocks written one after another. -/
theorem run_main : θ_run defs (onTc (τ := τ) (main (F := F))) (s₀ m ρ) (Pipeline.FramePost cfgs (dats m) 0 (V m)) :=
  (θ_run defs _ _).mono (fun _ h => h.1) (run_main_quiescent m ρ)

/-- The run ends without fault, with the counters at zero. -/
theorem frame : θ_run defs (onTc (τ := τ) (main (F := F))) ⟨m, fun _ => 0, ρ⟩ (fun r => (∀ c : Dev nD,
      True)
      ∧ r.2.sem = fun _ => 0) :=
  θ_run_and (frame_of m ρ (dats m) (A_eq m) (run_main m ρ)) ((θ_run defs _ _).mono (fun _ h => h.2) (run_main_quiescent m ρ))

end Cert.RopeSampleIdeal.Body

end
-- ==== Proof.CarryIdealFrame.lean ====
/- The mixer's body run once at each grid point, and the call's run: the generated certificate of the program, which
   Lean does not close within its step limit, stated here at the grid points only and with the limit raised. -/
module

public import proofs.«01_k».proof.Proof.Gen.CarryIdeal.Frame.RunA
public import Idealize.ShloMosaic.Lib.Claim

@[expose] public section

set_option maxRecDepth 16384

noncomputable section

namespace Cert.CarryIdeal.Body
open Cert.CarryIdeal Cert.CarryIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run of the body at grid point `t`: the pieces it stores in each output, and that it runs. -/
abbrev run (c : Dev nD) (t : Fin cfg0.N) := kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)

/-- The pieces of each output tile its block, and the block is what they leave there. -/
theorem cover26 (c : Dev nD) (t : Fin cfg0.N) (y : S1x512x1024.Idx) : ∃ pc ∈ (run m c t).1, y ∈ pc.1.set :=
  View.cover_of_tiledL (run m c t).1 S1x512x1024.size (by sl_kernel_rfl) y
def out26 (c : Dev nD) (t : Fin cfg0.N) : Vec F S1x512x1024 .f32 := VO0_26.read (Elt F) (VO0_26.writes (Elt F) VO0_26.junk (run m c t).1)
theorem cover27 (c : Dev nD) (t : Fin cfg0.N) (y : S1x8x4x128x128.Idx) : ∃ pc ∈ (run m c t).2.1, y ∈ pc.1.set :=
  View.cover_of_tiledL (run m c t).2.1 S1x1x1x128x128.size (by sl_kernel_rfl) y
def out27 (c : Dev nD) (t : Fin cfg0.N) : Vec F S1x8x4x128x128 .f32 := VO0_27.read (Elt F) (VO0_27.writes (Elt F) VO0_27.junk (run m c t).2.1)
theorem cover28 (c : Dev nD) (t : Fin cfg0.N) (y : S1x8x256.Idx) : ∃ pc ∈ (run m c t).2.2.1, y ∈ pc.1.set :=
  View.cover_of_tiledL (run m c t).2.2.1 S1x8x256.size (by sl_kernel_rfl) y
def out28 (c : Dev nD) (t : Fin cfg0.N) : Vec F S1x8x256 .f32 := VO0_28.read (Elt F) (VO0_28.writes (Elt F) VO0_28.junk (run m c t).2.2.1)
theorem cover29 (c : Dev nD) (t : Fin cfg0.N) (y : S1x24x256.Idx) : ∃ pc ∈ (run m c t).2.2.2.1, y ∈ pc.1.set :=
  View.cover_of_tiledL (run m c t).2.2.2.1 S1x24x256.size (by sl_kernel_rfl) y
def out29 (c : Dev nD) (t : Fin cfg0.N) : Vec F S1x24x256 .f32 := VO0_29.read (Elt F) (VO0_29.writes (Elt F) VO0_29.junk (run m c t).2.2.2.1)
theorem cover30 (c : Dev nD) (t : Fin cfg0.N) (y : S1x8x2048.Idx) : ∃ pc ∈ (run m c t).2.2.2.2.1, y ∈ pc.1.set :=
  View.cover_of_tiledBy (run m c t).2.2.2.2.1 ![1, 8, 1024] (by sl_kernel_rfl) y
def out30 (c : Dev nD) (t : Fin cfg0.N) : Vec F S1x8x2048 .f32 := VO0_30.read (Elt F) (VO0_30.writes (Elt F) VO0_30.junk (run m c t).2.2.2.2.1)

/-- The arrays as the call finds them; after the body each input at its block, each output at what the run leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => out26 m c t
    | ⟨27, _⟩ => out27 m c t
    | ⟨28, _⟩ => out28 m c t
    | ⟨29, _⟩ => out29 m c t
    | ⟨30, _⟩ => out30 m c t
    | ⟨_ + 31, h⟩ => absurd h (Nat.not_lt.2 (Nat.le_add_left _ _))
  Φ _ := Pipeline.ΦA spec0 c
  q _ := fullShare
  owed _ := 0

/-- The arrays are those the call finds. -/
theorem A_eq (c : Dev nD) (w : Fin cfg0.W) : (dats m 0 c).A w = V m c (Pipeline.arrRef spec0 w) := by
  dsimp only [dats]

/-- Window `w`'s buffer before the body at point `t`. -/
abbrev pre (c : Dev nD) (t : Fin cfg0.N) (w : Fin cfg0.W) (r : Memref sig .tc .vmem (cfg0.win w).block (cfg0.win w).elt) : sProp 𝕄 :=
  iprop(∃ d, owns (c : Thread nD τ) r fullShare ((dats m 0 c).before w t d))
/-- Window `w`'s buffer after it. -/
abbrev post (c : Dev nD) (t : Fin cfg0.N) (w : Fin cfg0.W) : sProp 𝕄 := (dats m 0 c).leavesExact w t

/-- What the body leaves in a window that is not idle. -/
theorem leaves (c : Dev nD) (t : Fin cfg0.N) (w : Fin cfg0.W) (h : cfg0.idle w (grid0.coords t) = false) : post m c t w
    = owns (c : Thread nD τ) ((cfg0.win w).stage (cfg0.slots t w)) fullShare ((dats m 0 c).after w t) := by
  unfold post Dat.leavesExact; rw [h]

/-- What the body at point `t` is called with, and what it returns. -/
def bodyPre (c : Dev nD) (t : Fin cfg0.N) : sProp 𝕄 :=
  iprop((dats m 0 c).Φ t.castSucc ∗ (dats m 0 c).owesAt () t.castSucc ∗ pre m c t 0 (ms0_0 t) ∗ pre m c t 1 (ms0_1 t) ∗ pre m c t 2 (ms0_2 t) ∗ pre m c t 3 (ms0_3 t) ∗ pre m c t 4 (ms0_4 t) ∗ pre m c t 5 (ms0_5 t) ∗ pre m c t 6 (ms0_6 t) ∗ pre m c t 7 (ms0_7 t) ∗ pre m c t 8 (ms0_8 t) ∗ pre m c t 9 (ms0_9 t) ∗ pre m c t 10 (ms0_10 t) ∗ pre m c t 11 (ms0_11 t) ∗ pre m c t 12 (ms0_12 t) ∗ pre m c t 13 (ms0_13 t) ∗ pre m c t 14 (ms0_14 t) ∗ pre m c t 15 (ms0_15 t) ∗ pre m c t 16 (ms0_16 t) ∗ pre m c t 17 (ms0_17 t) ∗ pre m c t 18 (ms0_18 t) ∗ pre m c t 19 (ms0_19 t) ∗ pre m c t 20 (ms0_20 t) ∗ pre m c t 21 (ms0_21 t) ∗ pre m c t 22 (ms0_22 t) ∗ pre m c t 23 (ms0_23 t) ∗ pre m c t 24 (ms0_24 t) ∗ pre m c t 25 (ms0_25 t) ∗ pre m c t 26 (ms0_26 t) ∗ pre m c t 27 (ms0_27 t) ∗ pre m c t 28 (ms0_28 t) ∗ pre m c t 29 (ms0_29 t) ∗ pre m c t 30 (ms0_30 t))

def bodyPost (c : Dev nD) (t : Fin cfg0.N) : sProp 𝕄 :=
  iprop((dats m 0 c).Φ t.succ ∗ (dats m 0 c).owesAt () t.succ ∗ post m c t 0 ∗ post m c t 1 ∗ post m c t 2 ∗ post m c t 3 ∗ post m c t 4 ∗ post m c t 5 ∗ post m c t 6 ∗ post m c t 7 ∗ post m c t 8 ∗ post m c t 9 ∗ post m c t 10 ∗ post m c t 11 ∗ post m c t 12 ∗ post m c t 13 ∗ post m c t 14 ∗ post m c t 15 ∗ post m c t 16 ∗ post m c t 17 ∗ post m c t 18 ∗ post m c t 19 ∗ post m c t 20 ∗ post m c t 21 ∗ post m c t 22 ∗ post m c t 23 ∗ post m c t 24 ∗ post m c t 25 ∗ post m c t 26 ∗ post m c t 27 ∗ post m c t 28 ∗ post m c t 29 ∗ post m c t 30)

set_option maxHeartbeats 4400000 in
/-- The body at any point: the inputs hold their blocks, so the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [pre, before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl), before0_4_of m (dats m 0 c) (A_eq m c 4) (fun _ => rfl), before0_5_of m (dats m 0 c) (A_eq m c 5) (fun _ => rfl), before0_6_of m (dats m 0 c) (A_eq m c 6) (fun _ => rfl), before0_7_of m (dats m 0 c) (A_eq m c 7) (fun _ => rfl), before0_8_of m (dats m 0 c) (A_eq m c 8) (fun _ => rfl), before0_9_of m (dats m 0 c) (A_eq m c 9) (fun _ => rfl), before0_10_of m (dats m 0 c) (A_eq m c 10) (fun _ => rfl), before0_11_of m (dats m 0 c) (A_eq m c 11) (fun _ => rfl), before0_12_of m (dats m 0 c) (A_eq m c 12) (fun _ => rfl), before0_13_of m (dats m 0 c) (A_eq m c 13) (fun _ => rfl), before0_14_of m (dats m 0 c) (A_eq m c 14) (fun _ => rfl), before0_15_of m (dats m 0 c) (A_eq m c 15) (fun _ => rfl), before0_16_of m (dats m 0 c) (A_eq m c 16) (fun _ => rfl), before0_17_of m (dats m 0 c) (A_eq m c 17) (fun _ => rfl), before0_18_of m (dats m 0 c) (A_eq m c 18) (fun _ => rfl), before0_19_of m (dats m 0 c) (A_eq m c 19) (fun _ => rfl), before0_20_of m (dats m 0 c) (A_eq m c 20) (fun _ => rfl), before0_21_of m (dats m 0 c) (A_eq m c 21) (fun _ => rfl), before0_22_of m (dats m 0 c) (A_eq m c 22) (fun _ => rfl), before0_23_of m (dats m 0 c) (A_eq m c 23) (fun _ => rfl), before0_24_of m (dats m 0 c) (A_eq m c 24) (fun _ => rfl), before0_25_of m (dats m 0 c) (A_eq m c 25) (fun _ => rfl)]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [leaves m c t 0 (liveAt0_0 t), leaves m c t 1 (liveAt0_1 t), leaves m c t 2 (liveAt0_2 t), leaves m c t 3 (liveAt0_3 t), leaves m c t 4 (liveAt0_4 t), leaves m c t 5 (liveAt0_5 t), leaves m c t 6 (liveAt0_6 t), leaves m c t 7 (liveAt0_7 t), leaves m c t 8 (liveAt0_8 t), leaves m c t 9 (liveAt0_9 t), leaves m c t 10 (liveAt0_10 t), leaves m c t 11 (liveAt0_11 t), leaves m c t 12 (liveAt0_12 t), leaves m c t 13 (liveAt0_13 t), leaves m c t 14 (liveAt0_14 t), leaves m c t 15 (liveAt0_15 t), leaves m c t 16 (liveAt0_16 t), leaves m c t 17 (liveAt0_17 t), leaves m c t 18 (liveAt0_18 t), leaves m c t 19 (liveAt0_19 t), leaves m c t 20 (liveAt0_20 t), leaves m c t 21 (liveAt0_21 t), leaves m c t 22 (liveAt0_22 t), leaves m c t 23 (liveAt0_23 t), leaves m c t 24 (liveAt0_24 t), leaves m c t 25 (liveAt0_25 t), leaves m c t 26 (liveAt0_26 t), leaves m c t 27 (liveAt0_27_A t (hcond0_0 t) (hcond0_1 t)), leaves m c t 28 (liveAt0_28 t), leaves m c t 29 (liveAt0_29 t), leaves m c t 30 (liveAt0_30 t)]
  dsimp only [dats]
  unfold out26 out27 out28 out29 out30
  iintro ⟨⟨⟨HS0, HS1, HS2, HS3, HS4, HS5, HS6, HS7, HS8, HS9, HS10, HS11, HS12, HS13, HS14⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  iapply ((run m c t).2.2.2.2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  isplitl [H27]; · iexists _; iexact H27
  isplitl [H28]; · iexists _; iexact H28
  isplitl [H29]; · iexists _; iexact H29
  isplitl [H30]; · iexists _; iexact H30
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  iintro ⟨H0, H1, H2, H3, H4, H5, H6, H7, H8, H9, H10, H11, H12, H13, H14, H15, H16, H17, H18, H19, H20, H21, H22, H23, H24, H25, ⟨%e26, H26⟩, ⟨%e27, H27⟩, ⟨%e28, H28⟩, ⟨%e29, H29⟩, ⟨%e30, H30⟩, ⟨%fT0, HS0⟩, ⟨%fT1, HS1⟩, ⟨%fT2, HS2⟩, ⟨%fT3, HS3⟩, HS4, ⟨%fT5, HS5⟩, ⟨%fT6, HS6⟩, ⟨%fT7, HS7⟩, ⟨%fT8, HS8⟩, ⟨%fT9, HS9⟩, ⟨%fT10, HS10⟩, ⟨%fT11, HS11⟩, ⟨%fT12, HS12⟩, ⟨%fT13, HS13⟩, ⟨%fT14, HS14⟩⟩
  isplitl [HS0 HS1 HS2 HS3 HS4 HS5 HS6 HS7 HS8 HS9 HS10 HS11 HS12 HS13 HS14 Hg]
  · isplitl [HS0 HS1 HS2 HS3 HS4 HS5 HS6 HS7 HS8 HS9 HS10 HS11 HS12 HS13 HS14]
    · isplitl [HS0]
      · iexists _; unfold owns; iexists _; isplitr; swap; · iexact HS0
        ipureintro; rfl
      isplitl [HS1]
      · iexists _; unfold owns; iexists _; isplitr; swap; · iexact HS1
        ipureintro; rfl
      isplitl [HS2]
      · iexists _; unfold owns; iexists _; isplitr; swap; · iexact HS2
        ipureintro; rfl
      isplitl [HS3]
      · iexists _; unfold owns; iexists _; isplitr; swap; · iexact HS3
        ipureintro; rfl
      isplitl [HS4]; · iexact HS4
      isplitl [HS5]
      · iexists _; unfold owns; iexists _; isplitr; swap; · iexact HS5
        ipureintro; rfl
      isplitl [HS6]
      · iexists _; unfold owns; iexists _; isplitr; swap; · iexact HS6
        ipureintro; rfl
      isplitl [HS7]
      · iexists _; unfold owns; iexists _; isplitr; swap; · iexact HS7
        ipureintro; rfl
      isplitl [HS8]
      · iexists _; unfold owns; iexists _; isplitr; swap; · iexact HS8
        ipureintro; rfl
      isplitl [HS9]
      · iexists _; unfold owns; iexists _; isplitr; swap; · iexact HS9
        ipureintro; rfl
      isplitl [HS10]
      · iexists _; unfold owns; iexists _; isplitr; swap; · iexact HS10
        ipureintro; rfl
      isplitl [HS11]
      · iexists _; unfold owns; iexists _; isplitr; swap; · iexact HS11
        ipureintro; rfl
      isplitl [HS12]
      · iexists _; unfold owns; iexists _; isplitr; swap; · iexact HS12
        ipureintro; rfl
      isplitl [HS13]
      · iexists _; unfold owns; iexists _; isplitr; swap; · iexact HS13
        ipureintro; rfl
      iexists _; unfold owns; iexists _; isplitr
      swap; · iexact HS14
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]
  · unfold owns; iexists _; isplitr
    swap; · iexact H26
    ipureintro; exact View.read_writes_of_cover _ _ _ _ _ (cover26 m c t)
  isplitl [H27]
  · unfold owns; iexists _; isplitr
    swap; · iexact H27
    ipureintro; exact View.read_writes_of_cover _ _ _ _ _ (cover27 m c t)
  isplitl [H28]
  · unfold owns; iexists _; isplitr
    swap; · iexact H28
    ipureintro; exact View.read_writes_of_cover _ _ _ _ _ (cover28 m c t)
  isplitl [H29]
  · unfold owns; iexists _; isplitr
    swap; · iexact H29
    ipureintro; exact View.read_writes_of_cover _ _ _ _ _ (cover29 m c t)
  unfold owns; iexists _; isplitr
  swap; · iexact H30
  ipureintro; exact View.read_writes_of_cover _ _ _ _ _ (cover30 m c t)

/-- The body the call runs at point `t`. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The call's obligation: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
set_option backward.isDefEq.respectTransparency.types false in
/-- The call's run, with the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The call's run. -/
theorem run_main : θ_run defs (onTc (τ := τ) (main (F := F))) (s₀ m ρ) (Pipeline.FramePost cfgs (dats m) 0 (V m)) :=
  (θ_run defs _ _).mono (fun _ h => h.1) (run_main_quiescent m ρ)

/-- Every run ends with the argument arrays unchanged and the counters at zero. -/
abbrev frame := θ_run_and (frame_of m ρ (dats m) (A_eq m) (run_main m ρ))
  ((θ_run defs _ _).mono (fun _ h => h.2) (run_main_quiescent m ρ))

end Cert.CarryIdeal.Body
-- ==== Proof.FfnSpec.lean ====
/- What the convolutional feed-forward sublayer computes, entry by entry, over the extended reals: no program appears
   here.  Rows of a group of eight streams are time-major: row `8 * t + i` is position `t` of stream `i` of the group. -/
module

public import Idealize.ShloMosaic.Lib.Pipeline.ValueKit
public import Idealize.ShloMosaic.Lib.Pointwise

@[expose] public section
noncomputable section
open Idealize.ShloMosaic

namespace Cert.FfnSpec

/-- The operands of the sublayer: the tokens, the convolution's carried rows, the norm's gain, the up-projection, the
    convolution's taps and bias, the down-projection, each for both layers; the final norm's gain. -/
structure Args where
  x : FVec Ideal ⟨3, ![4, 512, 1024]⟩ .f32
  st : FVec Ideal ⟨4, ![2, 32, 2, 5632]⟩ .f32
  nw : FVec Ideal ⟨2, ![2, 1024]⟩ .f32
  u : FVec Ideal ⟨3, ![2, 1024, 5632]⟩ .f32
  cw : FVec Ideal ⟨3, ![2, 3, 5632]⟩ .f32
  cb : FVec Ideal ⟨2, ![2, 5632]⟩ .f32
  dn : FVec Ideal ⟨3, ![2, 2816, 1024]⟩ .f32
  fw : FVec Ideal ⟨1, ![1024]⟩ .f32

variable (l : Fin 2) (A : Args)

/-- The normalised token: entry `d` of row `r` of group `g`, divided by the root of the row's mean square, times the gain. -/
def hn (g : Fin 4) (r : Fin 512) (d : Fin 1024) : EReal :=
  A.x (ix3 g r d)
      * Ideal.rsqrt (Ideal.div (∑ k : Fin 1024, A.x (ix3 g r k) * A.x (ix3 g r k)) (Ideal.ofBits .f32 0x44800000#32)
          + Ideal.ofBits .f32 0x358637BD#32)
    * A.nw (ix2 l d)

/-- The up-projection of the normalised row. -/
def up (g : Fin 4) (r : Fin 512) (c : Fin 5632) : EReal := ∑ d : Fin 1024, hn l A g r d * A.u (ix3 l d c)

/-- The rows the convolution runs over: the sixteen carried ones (two positions of eight streams), then the projected ones. -/
def ext (g : Fin 4) (r : Fin 528) (c : Fin 5632) : EReal :=
  if h : r.val < 16 then A.st (ix4 l ⟨g.val * 8 + r.val % 8, by omega⟩ ⟨r.val / 8, by omega⟩ c)
  else up l A g ⟨r.val - 16, by omega⟩ c

/-- The causal convolution of three taps along time, with its bias. -/
def conv (g : Fin 4) (r : Fin 512) (c : Fin 5632) : EReal :=
  A.cb (ix2 l c) + A.cw (ix3 l 0 c) * ext l A g ⟨r.val, by omega⟩ c + A.cw (ix3 l 1 c) * ext l A g ⟨r.val + 8, by omega⟩ c
    + A.cw (ix3 l 2 c) * ext l A g ⟨r.val + 16, by omega⟩ c

/-- The gated activation: the first half of the channels through `z * logistic z`, times the second half. -/
def act (g : Fin 4) (r : Fin 512) (c : Fin 2816) : EReal :=
  conv l A g r ⟨c.val, by omega⟩ * Ideal.logistic (conv l A g r ⟨c.val, by omega⟩) * conv l A g r ⟨c.val + 2816, by omega⟩

/-- The first result: the token plus the down-projection of its activation. -/
def out (g : Fin 4) (r : Fin 512) (e : Fin 1024) : EReal :=
  A.x (ix3 g r e) + ∑ c : Fin 2816, act l A g r c * A.dn (ix3 l c e)

/-- The second result: the rows the convolution carries on, the last sixteen. -/
def carry (g : Fin 4) (r : Fin 16) (c : Fin 5632) : EReal := ext l A g ⟨r.val + 512, by omega⟩ c

/-- The model's output: the first result through the final norm. -/
def last (g : Fin 4) (r : Fin 512) (e : Fin 1024) : EReal :=
  out l A g r e
      * Ideal.rsqrt (Ideal.div (∑ k : Fin 1024, out l A g r k * out l A g r k) (Ideal.ofBits .f32 0x44800000#32)
          + Ideal.ofBits .f32 0x358637BD#32)
    * A.fw (ix1 e)

end Cert.FfnSpec
-- ==== Proof.FfnRef.lean ====
/- The reference of the feed-forward sublayer, read entry by entry: each stage of the plain program is the
   corresponding function of `Cert.FfnSpec`, and so are its two results. -/
module

public import proofs.«01_k».proof.Proof.Gen.FfnRefIdeal.Run
public import proofs.«01_k».proof.Proof.Gen.FfnRefIdeal.Read
public import proofs.«01_k».proof.Proof.FfnSpec

@[expose] public section
set_option maxRecDepth 16384
noncomputable section
open Idealize.ShloMosaic Idealize.ShloMosaic.TcCoe Idealize.SL.Sem

namespace Cert.FfnRefIdeal.Read
open Cert.FfnSpec

variable (A : Args)

/-- Stream `i` of group `g` among all thirty-two. -/
abbrev sq (g : Fin 4) (i : Fin 8) : Fin 32 := ⟨g.val * 8 + i.val, by omega⟩
/-- The row of position `t` of stream `i` in its group. -/
abbrev rw8 (t : Fin 64) (i : Fin 8) : Fin 512 := ⟨t.val * 8 + i.val, by omega⟩

/-- The tokens of one stream, taken out of their group. -/
theorem streams_at (g : Fin 4) (i : Fin 8) (t : Fin 64) (d : Fin 1024) :
    val_main_v2 (F := Ideal) A.x (ix3 (sq g i) t d) = A.x (ix3 g (rw8 t i) d) := by
  pointwise [val_main_v2, val_main_v1, val_main_v0]
  congr 2 <;> apply Fin.ext <;> simp <;> omega

/-- The norm's output is `hn`. -/
theorem norm_at (g : Fin 4) (i : Fin 8) (t : Fin 64) (d : Fin 1024) :
    val_main_v17 (F := Ideal) A.x A.nw (ix3 (sq g i) t d) = hn 0 A g (rw8 t i) d := by
  have hs := streams_at A g i t
  pointwise [val_main_v17, val_main_v16, val_main_v15, val_main_v14, val_main_v13, val_main_v12, val_main_v11,
    val_main_v10, val_main_v9, val_main_v8, val_main_v7, val_main_v6, val_main_v5, val_main_v4, val_main_v3,
    val_main_cst, val_main_cst_0, val_main_cst_1]
  simp only [hs, hn]

/-- The up-projection is `up`. -/
theorem up_at (g : Fin 4) (i : Fin 8) (t : Fin 64) (c : Fin 5632) :
    val_main_v20 (F := Ideal) A.x A.nw A.u (ix3 (sq g i) t c) = up 0 A g (rw8 t i) c := by
  have hs := norm_at A g i t
  pointwise [val_main_v20, val_main_v19, val_main_v18]
  simp only [hs, up]

/-- The carried rows followed by the projected ones are `ext`. -/
theorem ext_at (g : Fin 4) (i : Fin 8) (s : Fin 66) (c : Fin 5632) :
    val_main_v27 (F := Ideal) A.x A.st A.nw A.u (ix3 (sq g i) s c) = ext 0 A g ⟨s.val * 8 + i.val, by omega⟩ c := by
  have hu := up_at A g i
  pointwise [val_main_v27, val_main_v22, val_main_v21]
  simp only [ext]
  by_cases h : s.val < 2
  · rw [dif_pos h, dif_pos (by omega)]
    congr 2 <;> apply Fin.ext <;> simp <;> omega
  · rw [dif_neg h, dif_neg (by omega), hu]
    congr 1; apply Fin.ext; simp; omega

theorem conv_at (g : Fin 4) (i : Fin 8) (t : Fin 64) (c : Fin 5632) :
    val_main_v50 (F := Ideal) A.x A.st A.nw A.u A.cw A.cb (ix3 (sq g i) t c) = conv 0 A g (rw8 t i) c := by
  have hs := ext_at A g i
  pointwise [val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v26, val_main_v25, val_main_v24, val_main_v23]
  simp only [hs, conv]
  have e1 : (1 + t.val) * 8 + i.val = t.val * 8 + i.val + 8 := by omega
  have e2 : (2 + t.val) * 8 + i.val = t.val * 8 + i.val + 16 := by omega
  simp only [e1, e2]
  rw [add_comm, ← add_assoc, ← add_assoc]

theorem act_at (g : Fin 4) (i : Fin 8) (t : Fin 64) (c : Fin 2816) :
    val_main_v55 (F := Ideal) A.x A.st A.nw A.u A.cw A.cb (ix3 (sq g i) t c) = act 0 A g (rw8 t i) c := by
  have hs := conv_at A g i t
  pointwise [val_main_v55, val_main_v54, val_main_v53, val_main_v52, val_main_call0_v0, val_main_call0_v1, val_main_call0_v2, val_main_call0_v3, val_main_call0_v4, val_main_call0_v5, val_main_call0_cst, val_main_call0_cst_0]
  simp only [hs, act, Ideal.logistic, Nat.add_comm 2816]

theorem out_at (g : Fin 4) (i : Fin 8) (t : Fin 64) (c : Fin 1024) :
    val_main_v59 (F := Ideal) A.x A.st A.nw A.u A.cw A.cb A.dn (ix3 (sq g i) t c) = out 0 A g (rw8 t i) c := by
  have hs := act_at A g i t
  have h2 := streams_at A g i t
  pointwise [val_main_v59, val_main_v58, val_main_v57, val_main_v56]
  simp only [hs, h2, out]

theorem res1_at (g : Fin 4) (r : Fin 512) (c : Fin 1024) :
    val_main_v62 (F := Ideal) A.x A.st A.nw A.u A.cw A.cb A.dn (ix3 g r c) = out 0 A g r c := by
  have hs := out_at A g ⟨r.val % 8, by omega⟩ ⟨r.val / 8, by omega⟩ c
  pointwise [val_main_v62, val_main_v61, val_main_v60]
  refine Eq.trans hs ?_
  congr 1; apply Fin.ext; simp; omega

theorem res2_at (g : Fin 4) (r : Fin 16) (c : Fin 5632) :
    val_main_v65 (F := Ideal) A.x A.st A.nw A.u  (ix3 g r c) = carry 0 A g r c := by
  have hs := ext_at A g ⟨r.val % 8, by omega⟩ ⟨64 + r.val / 8, by omega⟩ c
  pointwise [val_main_v65, val_main_v64, val_main_v63, val_main_v51]
  refine Eq.trans hs ?_
  rw [carry]
  congr 1; apply Fin.ext; simp; omega

end Cert.FfnRefIdeal.Read
-- ==== Proof.Stores.lean ====
/- Reading a buffer written piece by piece: what a load finds, from the list of the stores made before it, the last
   one first.  A store whose box holds the index decides; a store whose box misses it is passed over. -/
module

public import Idealize.ShloMosaic.Lib.Pipeline.ValueKit
public import Idealize.ShloMosaic.Lib.Pointwise

@[expose] public section
noncomputable section
open Idealize.ShloMosaic

namespace Cert.Stores

variable {Val : EltTy → Type} [∀ e, Nonempty (Val e)] {e : EltTy}

/-- The last store decides an index in its box: the payload's entry there. -/
theorem hit {s : Shape} {off size : Fin s.rank → ℕ} (inb : ∀ a, off a + size a ≤ s.size a)
    (w : (Rect.unit off size inb).shape.Idx → Val e) (L : List (View.Piece Val s e)) (y : s.Idx)
    (x : (Rect.unit off size inb).shape.Idx) (h : ∀ a, (y a).val = off a + (x a).val) :
    View.canon (⟨Rect.unit off size inb, w⟩ :: L) y = w x := by
  have : y = (Rect.unit off size inb).emb x := by
    funext a; apply Fin.ext; rw [Rect.emb_apply, h a]; simp
  rw [this, View.canon_cons_emb]

/-- A store whose box misses the index leaves it as it was. -/
theorem miss {s : Shape} {off size : Fin s.rank → ℕ} (inb : ∀ a, off a + size a ≤ s.size a)
    (w : (Rect.unit off size inb).shape.Idx → Val e) (L : List (View.Piece Val s e)) (y : s.Idx) (a : Fin s.rank)
    (h : (y a).val < off a ∨ off a + size a ≤ (y a).val) :
    View.canon (⟨Rect.unit off size inb, w⟩ :: L) y = View.canon L y := by
  refine View.canon_cons_of_not_mem _ _ fun hy => ?_
  obtain ⟨x, rfl⟩ := (Rect.unit off size inb).exists_idx_of_mem hy
  have hx : (x a).val < size a := (x a).isLt
  have he : ((Rect.unit off size inb).idx x a).val = off a + (x a).val := by
    show off a + 1 * (x a).val = _; omega
  rw [he] at h
  omega

/-- A load through a box finds, at an index of the box, what the stores left at the array's index. -/
theorem load {sig : RefSig} {κ : Kind} {sp : Space} {s : Shape} (v : View sig κ sp s e) (L : List (View.Piece Val s e))
    {off size : Fin s.rank → ℕ} (inb : ∀ a, off a + size a ≤ s.size a) (x : (Rect.unit off size inb).shape.Idx) (y : s.Idx)
    (h : ∀ a, (y a).val = off a + (x a).val) :
    v.readCov L (Rect.unit off size inb).toLoadRect x = View.canon L y := by
  rw [View.readCov_eq_canon']
  have : y = (Rect.unit off size inb).emb x := by
    funext a; apply Fin.ext; rw [Rect.emb_apply, h a]; simp
  subst this; rfl

section Two
variable {N K n k o p : ℕ}

theorem hit2 (inb : ∀ a, (![o, p] : Fin 2 → ℕ) a + (![n, k] : Fin 2 → ℕ) a ≤ (⟨2, ![N, K]⟩ : Shape).size a)
    (w : (⟨2, ![n, k]⟩ : Shape).Idx → Val e) (L : List (View.Piece Val ⟨2, ![N, K]⟩ e)) (r : Fin N) (c : Fin K)
    (i : Fin n) (j : Fin k) (hr : r.val = o + i.val) (hc : c.val = p + j.val) :
    View.canon ((⟨Rect.unit (s := ⟨2, ![N, K]⟩) ![o, p] ![n, k] inb, w⟩ : View.Piece Val ⟨2, ![N, K]⟩ e) :: L) (ix2 r c) = w (ix2 i j) :=
  hit inb w L _ (ix2 i j) (Fin.forall_fin_two.2 ⟨hr, hc⟩)

theorem miss2 (inb : ∀ a, (![o, p] : Fin 2 → ℕ) a + (![n, k] : Fin 2 → ℕ) a ≤ (⟨2, ![N, K]⟩ : Shape).size a)
    (w : (⟨2, ![n, k]⟩ : Shape).Idx → Val e) (L : List (View.Piece Val ⟨2, ![N, K]⟩ e)) (r : Fin N) (c : Fin K)
    (h : (r.val < o ∨ o + n ≤ r.val) ∨ (c.val < p ∨ p + k ≤ c.val)) :
    View.canon ((⟨Rect.unit (s := ⟨2, ![N, K]⟩) ![o, p] ![n, k] inb, w⟩ : View.Piece Val ⟨2, ![N, K]⟩ e) :: L) (ix2 r c)
      = View.canon L (ix2 r c) := by
  rcases h with h | h
  · exact miss inb w L (ix2 r c) (0 : Fin 2) h
  · exact miss inb w L (ix2 r c) (1 : Fin 2) h

theorem load2 {sig : RefSig} {κ : Kind} {sp : Space} (v : View sig κ sp ⟨2, ![N, K]⟩ e)
    (L : List (View.Piece Val ⟨2, ![N, K]⟩ e))
    (inb : ∀ a, (![o, p] : Fin 2 → ℕ) a + (![n, k] : Fin 2 → ℕ) a ≤ (⟨2, ![N, K]⟩ : Shape).size a)
    (i : Fin n) (j : Fin k) (r : Fin N) (c : Fin K) (hr : r.val = o + i.val) (hc : c.val = p + j.val) :
    v.readCov L (Rect.unit (s := ⟨2, ![N, K]⟩) ![o, p] ![n, k] inb).toLoadRect (ix2 i j) = View.canon L (ix2 r c) :=
  load v L inb _ (ix2 r c) (Fin.forall_fin_two.2 ⟨hr, hc⟩)

end Two

section Three
variable {M N K m n k q o p : ℕ}

theorem hit3 (inb : ∀ a, (![q, o, p] : Fin 3 → ℕ) a + (![m, n, k] : Fin 3 → ℕ) a ≤ (⟨3, ![M, N, K]⟩ : Shape).size a)
    (w : (⟨3, ![m, n, k]⟩ : Shape).Idx → Val e) (L : List (View.Piece Val ⟨3, ![M, N, K]⟩ e)) (b : Fin M) (r : Fin N) (c : Fin K)
    (h : Fin m) (i : Fin n) (j : Fin k) (hb : b.val = q + h.val) (hr : r.val = o + i.val) (hc : c.val = p + j.val) :
    View.canon ((⟨Rect.unit (s := ⟨3, ![M, N, K]⟩) ![q, o, p] ![m, n, k] inb, w⟩ : View.Piece Val ⟨3, ![M, N, K]⟩ e) :: L) (ix3 b r c)
      = w (ix3 h i j) :=
  hit inb w L _ (ix3 h i j) (Fin.forall_fin_succ.2 ⟨hb, Fin.forall_fin_two.2 ⟨hr, hc⟩⟩)

theorem miss3 (inb : ∀ a, (![q, o, p] : Fin 3 → ℕ) a + (![m, n, k] : Fin 3 → ℕ) a ≤ (⟨3, ![M, N, K]⟩ : Shape).size a)
    (w : (⟨3, ![m, n, k]⟩ : Shape).Idx → Val e) (L : List (View.Piece Val ⟨3, ![M, N, K]⟩ e)) (b : Fin M) (r : Fin N) (c : Fin K)
    (h : (b.val < q ∨ q + m ≤ b.val) ∨ (r.val < o ∨ o + n ≤ r.val) ∨ (c.val < p ∨ p + k ≤ c.val)) :
    View.canon ((⟨Rect.unit (s := ⟨3, ![M, N, K]⟩) ![q, o, p] ![m, n, k] inb, w⟩ : View.Piece Val ⟨3, ![M, N, K]⟩ e) :: L) (ix3 b r c)
      = View.canon L (ix3 b r c) := by
  rcases h with h | h | h
  · exact miss inb w L (ix3 b r c) (0 : Fin 3) h
  · exact miss inb w L (ix3 b r c) (1 : Fin 3) h
  · exact miss inb w L (ix3 b r c) (2 : Fin 3) h

theorem load3 {sig : RefSig} {κ : Kind} {sp : Space} (v : View sig κ sp ⟨3, ![M, N, K]⟩ e)
    (L : List (View.Piece Val ⟨3, ![M, N, K]⟩ e))
    (inb : ∀ a, (![q, o, p] : Fin 3 → ℕ) a + (![m, n, k] : Fin 3 → ℕ) a ≤ (⟨3, ![M, N, K]⟩ : Shape).size a)
    (h : Fin m) (i : Fin n) (j : Fin k) (b : Fin M) (r : Fin N) (c : Fin K) (hb : b.val = q + h.val)
    (hr : r.val = o + i.val) (hc : c.val = p + j.val) :
    v.readCov L (Rect.unit (s := ⟨3, ![M, N, K]⟩) ![q, o, p] ![m, n, k] inb).toLoadRect (ix3 h i j) = View.canon L (ix3 b r c) :=
  load v L inb _ (ix3 b r c) (Fin.forall_fin_succ.2 ⟨hb, Fin.forall_fin_two.2 ⟨hr, hc⟩⟩)

end Three

/-- A buffer stored plane by plane: the last store of the index's plane decides. -/
theorem plane {N K M q : ℕ} (inb : ∀ a, (![q, 0, 0] : Fin 3 → ℕ) a + (![1, N, K] : Fin 3 → ℕ) a ≤ (⟨3, ![M, N, K]⟩ : Shape).size a)
    (w : (⟨3, ![1, N, K]⟩ : Shape).Idx → Val e) (L : List (View.Piece Val ⟨3, ![M, N, K]⟩ e)) (b : Fin M) (r : Fin N) (c : Fin K) :
    View.canon ((⟨Rect.unit (s := ⟨3, ![M, N, K]⟩) ![q, 0, 0] ![1, N, K] inb, w⟩ : View.Piece Val ⟨3, ![M, N, K]⟩ e) :: L) (ix3 b r c)
      = if b.val = q then w (ix3 0 r c) else View.canon L (ix3 b r c) := by
  split
  · next h => exact hit3 inb w L b r c 0 r c (by simpa using h) (by simp) (by simp)
  · next h => exact miss3 inb w L b r c (Or.inl (by omega))

/-- One of the stores that put a group's rows, kept column tile by column tile, into the result's block stream by
    stream: the rows of stream `b` in column tile `j`, loaded eight rows apart, are the rows of `G` the store's box names. -/
theorem stream {T N : ℕ} {sig : RefSig} {κ : Kind} {sp : Space} {v : View sig κ sp ⟨3, ![8, N, 128]⟩ e}
    {L : List (View.Piece Val ⟨3, ![8, N, 128]⟩ e)} {G : Fin N → Fin 1024 → Val e}
    (hL : ∀ (j : Fin 8) (q : Fin N) (c : Fin 128), View.canon L (ix3 j q c) = G q ⟨j.val * 128 + c.val, by omega⟩)
    {b j p : ℕ} (hb : b < 8) (hj : j < 8) (hp : p = j * 128)
    {inb : ∀ a, (![b, 0, p] : Fin 3 → ℕ) a + (![1, T, 128] : Fin 3 → ℕ) a ≤ (⟨3, ![8, T, 1024]⟩ : Shape).size a}
    {inb' : ∀ a, (![1, T, 128] : Fin 3 → ℕ) a = 0
      ∨ (![j, b, 0] : Fin 3 → ℕ) a + (![1, 8, 1] : Fin 3 → ℕ) a * ((![1, T, 128] : Fin 3 → ℕ) a - 1) < (⟨3, ![8, N, 128]⟩ : Shape).size a}
    {w : (⟨3, ![1, T, 128]⟩ : Shape).Idx → Val e}
    (hw : w = v.readCov L (⟨![j, b, 0], ![1, T, 128], ![1, 8, 1], inb'⟩ : LoadRect ⟨3, ![8, N, 128]⟩))
    (x : (⟨3, ![1, T, 128]⟩ : Shape).Idx) (hN : N = T * 8 := by rfl) :
    w x = (fun i : (⟨3, ![8, T, 1024]⟩ : Shape).Idx => G ⟨(i 1).val * 8 + (i 0).val, by have := (i 0).isLt; have := (i 1).isLt; simp at *; omega⟩ (i 2))
      ((Rect.unit (s := ⟨3, ![8, T, 1024]⟩) ![b, 0, p] ![1, T, 128] inb).emb x) := by
  have h0 : (x 0).val < 1 := (x 0).isLt
  have h1 : (x 1).val < T := (x 1).isLt
  have h2 : (x 2).val < 128 := (x 2).isLt
  rw [hw, View.readCov_eq_canon']
  have hi : (⟨![j, b, 0], ![1, T, 128], ![1, 8, 1], inb'⟩ : LoadRect ⟨3, ![8, N, 128]⟩).idx x
      = ix3 ⟨j, hj⟩ ⟨b + 8 * (x 1).val, by omega⟩ ⟨(x 2).val, h2⟩ := by
    funext a
    apply Fin.ext
    match a with
    | ⟨0, _⟩ => show j + 1 * (x 0).val = j; omega
    | ⟨1, _⟩ => show b + 8 * (x 1).val = b + 8 * (x 1).val; rfl
    | ⟨2, _⟩ => show 0 + 1 * (x 2).val = (x 2).val; omega
  show View.canon L _ = _
  rw [hi, hL]
  have e0 : ((Rect.unit (s := ⟨3, ![8, T, 1024]⟩) ![b, 0, p] ![1, T, 128] inb).emb x 0).val = b + 1 * (x 0).val := rfl
  have e1 : ((Rect.unit (s := ⟨3, ![8, T, 1024]⟩) ![b, 0, p] ![1, T, 128] inb).emb x 1).val = 0 + 1 * (x 1).val := rfl
  have e2 : ((Rect.unit (s := ⟨3, ![8, T, 1024]⟩) ![b, 0, p] ![1, T, 128] inb).emb x 2).val = p + 1 * (x 2).val := rfl
  refine congrArg₂ G (Fin.ext ?_) (Fin.ext ?_)
  · show b + 8 * (x 1).val = ((Rect.unit (s := ⟨3, ![8, T, 1024]⟩) ![b, 0, p] ![1, T, 128] inb).emb x 1).val * 8 + ((Rect.unit (s := ⟨3, ![8, T, 1024]⟩) ![b, 0, p] ![1, T, 128] inb).emb x 0).val
    omega
  · show j * 128 + (x 2).val = ((Rect.unit (s := ⟨3, ![8, T, 1024]⟩) ![b, 0, p] ![1, T, 128] inb).emb x 2).val
    omega

end Cert.Stores
-- ==== Proof.FfnStages.lean ====
/- The feed-forward kernel's run at one group of streams, read stage by stage: the normalised rows, the rows its two
   scratch buffers hold for each tile of channels, the gated activations, and the rows it carries on.  Every stage is
   the corresponding function of `Cert.FfnSpec`. -/
module

public import proofs.«01_k».proof.Proof.Gen.FfnIdeal.Frame
public import proofs.«01_k».proof.Proof.FfnSpec
public import proofs.«01_k».proof.Proof.Stores

@[expose] public section
set_option maxRecDepth 16384
noncomputable section
open Idealize.ShloMosaic Idealize.ShloMosaic.TcCoe Idealize.SL.Sem

namespace Cert.FfnIdeal
open Cert.FfnIdeal.Gen Cert.FfnSpec

/-- One run of the body: the buffers it is handed and the input blocks they hold. -/
structure Run where
  c : Dev nD
  arg2 : Memref sig .tc .vmem S1x512x1024 .f32
  harg2 : arg2.IsWhole
  arg3 : Memref sig .tc .vmem S1x1x16x5632 .f32
  harg3 : arg3.IsWhole
  arg4 : Memref sig .tc .vmem S1x1x1024 .f32
  harg4 : arg4.IsWhole
  arg5 : Memref sig .tc .vmem S1x1024x5632 .bf16
  harg5 : arg5.IsWhole
  arg6 : Memref sig .tc .vmem S1x3x5632 .f32
  harg6 : arg6.IsWhole
  arg7 : Memref sig .tc .vmem S1x1x5632 .f32
  harg7 : arg7.IsWhole
  arg8 : Memref sig .tc .vmem S1x2816x1024 .bf16
  harg8 : arg8.IsWhole
  arg11 : Memref sig .tc .vmem S1x16x5632 .f32
  arg12 : Memref sig .tc .vmem S512x1024 .bf16
  arg13 : Memref sig .tc .vmem S528x1024 .f32
  arg14 : Memref sig .tc .vmem S528x1024 .f32
  x0 : Vec Ideal S1x512x1024 .f32
  x1 : Vec Ideal S1x1x16x5632 .f32
  x2 : Vec Ideal S1x1x1024 .f32
  x3 : Vec Ideal S1x1024x5632 .bf16
  x4 : Vec Ideal S1x3x5632 .f32
  x5 : Vec Ideal S1x1x5632 .f32
  x6 : Vec Ideal S1x2816x1024 .bf16

/-- The run's input blocks are those of group `g` of the operands `A`. -/
structure Holds (A : Args) (g : Fin 4) (R : Run) : Prop where
  x0 : ∀ r d, R.x0 (ix3 0 r d) = A.x (ix3 g r d)
  x1 : ∀ (r : Fin 16) (c : Fin 5632), R.x1 (ix4 0 0 r c) = ext 0 A g ⟨r.val, by omega⟩ c
  x2 : ∀ d, R.x2 (ix3 0 0 d) = A.nw (ix2 0 d)
  x3 : ∀ d c, R.x3 (ix3 0 d c) = A.u (ix3 0 d c)
  x4 : ∀ k c, R.x4 (ix3 0 k c) = A.cw (ix3 0 k c)
  x5 : ∀ c, R.x5 (ix3 0 0 c) = A.cb (ix2 0 c)
  x6 : ∀ c e, R.x6 (ix3 0 c e) = A.dn (ix3 0 c e)

namespace Run
variable (R : Run)

abbrev v30 := kernelRun0_A.sl.v30 (F := Ideal) R.c R.arg2 R.harg2 R.arg4 R.harg4 R.arg12 R.x0 R.x2
abbrev HS1_2 := kernelRun0_A.sl.HS1_2 (F := Ideal) R.c R.arg2 R.harg2 R.arg3 R.harg3 R.arg4 R.harg4 R.arg5 R.harg5 R.arg11 R.arg12 R.x0 R.x1 R.x2 R.x3
abbrev HS1_4 := kernelRun0_A.sl.HS1_4 (F := Ideal) R.c R.arg2 R.harg2 R.arg3 R.harg3 R.arg4 R.harg4 R.arg5 R.harg5 R.arg11 R.arg12 R.arg13 R.arg14 R.x0 R.x1 R.x2 R.x3
abbrev HS1_6 := kernelRun0_A.sl.HS1_6 (F := Ideal) R.c R.arg2 R.harg2 R.arg3 R.harg3 R.arg4 R.harg4 R.arg5 R.harg5 R.arg11 R.arg12 R.arg13 R.arg14 R.x0 R.x1 R.x2 R.x3
abbrev HS2_2 := kernelRun0_A.sl.HS2_2 (F := Ideal) R.c R.arg2 R.harg2 R.arg3 R.harg3 R.arg4 R.harg4 R.arg5 R.harg5 R.arg11 R.arg12 R.arg13 R.x0 R.x1 R.x2 R.x3
abbrev HS2_4 := kernelRun0_A.sl.HS2_4 (F := Ideal) R.c R.arg2 R.harg2 R.arg3 R.harg3 R.arg4 R.harg4 R.arg5 R.harg5 R.arg11 R.arg12 R.arg13 R.arg14 R.x0 R.x1 R.x2 R.x3
abbrev HS2_5 := kernelRun0_A.sl.HS2_5 (F := Ideal) R.c R.arg2 R.harg2 R.arg3 R.harg3 R.arg4 R.harg4 R.arg5 R.harg5 R.arg11 R.arg12 R.arg13 R.arg14 R.x0 R.x1 R.x2 R.x3
abbrev HS2_6 := kernelRun0_A.sl.HS2_6 (F := Ideal) R.c R.arg2 R.harg2 R.arg3 R.harg3 R.arg4 R.harg4 R.arg5 R.harg5 R.arg11 R.arg12 R.arg13 R.arg14 R.x0 R.x1 R.x2 R.x3
abbrev H9_1 := kernelRun0_A.sl.H9_1 (F := Ideal) R.c R.arg3 R.harg3 R.x1
abbrev H9_2 := kernelRun0_A.sl.H9_2 (F := Ideal) R.c R.arg2 R.harg2 R.arg3 R.harg3 R.arg4 R.harg4 R.arg5 R.harg5 R.arg11 R.arg12 R.arg13 R.x0 R.x1 R.x2 R.x3
abbrev H9_3 := kernelRun0_A.sl.H9_3 (F := Ideal) R.c R.arg2 R.harg2 R.arg3 R.harg3 R.arg4 R.harg4 R.arg5 R.harg5 R.arg11 R.arg12 R.arg13 R.arg14 R.x0 R.x1 R.x2 R.x3
abbrev H9_4 := kernelRun0_A.sl.H9_4 (F := Ideal) R.c R.arg2 R.harg2 R.arg3 R.harg3 R.arg4 R.harg4 R.arg5 R.harg5 R.arg11 R.arg12 R.arg13 R.arg14 R.x0 R.x1 R.x2 R.x3
abbrev H9_5 := kernelRun0_A.sl.H9_5 (F := Ideal) R.c R.arg2 R.harg2 R.arg3 R.harg3 R.arg4 R.harg4 R.arg5 R.harg5 R.arg11 R.arg12 R.arg13 R.arg14 R.x0 R.x1 R.x2 R.x3
abbrev H9_6 := kernelRun0_A.sl.H9_6 (F := Ideal) R.c R.arg2 R.harg2 R.arg3 R.harg3 R.arg4 R.harg4 R.arg5 R.harg5 R.arg11 R.arg12 R.arg13 R.arg14 R.x0 R.x1 R.x2 R.x3
abbrev r := kernelRun0_A.sl.r (F := Ideal) R.c R.arg2 R.harg2 R.x0
abbrev r_4 := kernelRun0_A.sl.r_4 (F := Ideal) R.c R.arg2 R.harg2 R.arg3 R.harg3 R.arg4 R.harg4 R.arg5 R.harg5 R.arg6 R.harg6 R.arg7 R.harg7 R.arg11 R.arg12 R.arg13 R.arg14 R.x0 R.x1 R.x2 R.x3 R.x4 R.x5
abbrev r_5 := kernelRun0_A.sl.r_5 (F := Ideal) R.c R.arg2 R.harg2 R.arg3 R.harg3 R.arg4 R.harg4 R.arg5 R.harg5 R.arg6 R.harg6 R.arg7 R.harg7 R.arg11 R.arg12 R.arg13 R.x0 R.x1 R.x2 R.x3 R.x4 R.x5
abbrev r_6 := kernelRun0_A.sl.r_6 (F := Ideal) R.c R.arg2 R.harg2 R.arg3 R.harg3 R.arg4 R.harg4 R.arg5 R.harg5 R.arg6 R.harg6 R.arg7 R.harg7 R.arg8 R.harg8 R.arg11 R.arg12 R.arg13 R.arg14 R.x0 R.x1 R.x2 R.x3 R.x4 R.x5 R.x6
abbrev r_11 := kernelRun0_A.sl.r_11 (F := Ideal) R.c R.arg2 R.harg2 R.arg3 R.harg3 R.arg4 R.harg4 R.arg5 R.harg5 R.arg6 R.harg6 R.arg7 R.harg7 R.arg11 R.arg12 R.arg13 R.arg14 R.x0 R.x1 R.x2 R.x3 R.x4 R.x5
abbrev r_12 := kernelRun0_A.sl.r_12 (F := Ideal) R.c R.arg2 R.harg2 R.arg3 R.harg3 R.arg4 R.harg4 R.arg5 R.harg5 R.arg6 R.harg6 R.arg7 R.harg7 R.arg11 R.arg12 R.arg13 R.arg14 R.x0 R.x1 R.x2 R.x3 R.x4 R.x5
abbrev r_14 := kernelRun0_A.sl.r_14 (F := Ideal) R.c R.arg2 R.harg2 R.arg3 R.harg3 R.arg4 R.harg4 R.arg5 R.harg5 R.arg6 R.harg6 R.arg7 R.harg7 R.arg8 R.harg8 R.arg11 R.arg12 R.arg13 R.arg14 R.x0 R.x1 R.x2 R.x3 R.x4 R.x5 R.x6
abbrev r_15 := kernelRun0_A.sl.r_15 (F := Ideal) R.c R.arg2 R.harg2 R.arg4 R.harg4 R.arg5 R.harg5 R.arg12 R.x0 R.x2 R.x3
abbrev r_18 := kernelRun0_A.sl.r_18 (F := Ideal) R.c R.arg2 R.harg2 R.arg3 R.harg3 R.arg4 R.harg4 R.arg5 R.harg5 R.arg6 R.harg6 R.arg7 R.harg7 R.arg11 R.arg12 R.arg13 R.arg14 R.x0 R.x1 R.x2 R.x3 R.x4 R.x5
abbrev r_19 := kernelRun0_A.sl.r_19 (F := Ideal) R.c R.arg2 R.harg2 R.arg3 R.harg3 R.arg4 R.harg4 R.arg5 R.harg5 R.arg6 R.harg6 R.arg7 R.harg7 R.arg11 R.arg12 R.arg13 R.arg14 R.x0 R.x1 R.x2 R.x3 R.x4 R.x5
abbrev v311 := kernelRun0_A.sl.v311 (F := Ideal) R.c R.arg2 R.harg2 R.arg3 R.harg3 R.arg4 R.harg4 R.arg5 R.harg5 R.arg11 R.arg12 R.arg13 R.arg14 R.x0 R.x1 R.x2 R.x3
abbrev r_21 := kernelRun0_A.sl.r_21 (F := Ideal) R.c R.arg2 R.harg2 R.arg3 R.harg3 R.arg4 R.harg4 R.arg5 R.harg5 R.arg6 R.harg6 R.arg7 R.harg7 R.arg11 R.arg12 R.arg13 R.arg14 R.x0 R.x1 R.x2 R.x3 R.x4 R.x5

end Run

variable {A : Args} {g : Fin 4} {R : Run} (H : Holds A g R)
include H

/-- The normalised rows, as the up-projections load them. -/
theorem h_at (r : Fin 512) (d : Fin 1024) : R.v30 (ix2 r d) = hn 0 A g r d := by
  simp (disch := decide) only [Run.v30, kernelRun0_A.sl.v30, kernelRun0_A.sl.HS0_1, View.readCov_unit_lit', View.readAt_eq_ld,
    Memref.IsWhole.read_unread]
  pointwise [k0_pay3]
  simp only [H.x0, H.x2, hn]

/-- The first store into the carried rows' buffer: the rows carried in. -/
theorem carry1 (r : Fin 16) (c : Fin 5632) : View.canon R.H9_1 (ix3 0 r c) = ext 0 A g ⟨r.val, by omega⟩ c := by
  simp (disch := decide) only [Run.H9_1, kernelRun0_A.sl.H9_1, View.canon_cons_unit_lit', View.readAt_eq_ld,
    Memref.IsWhole.read_unread]
  pointwise [k0_pay2]
  simp only [H.x1]

omit H in
/-- A scratch buffer filled for one tile of channels: sixteen carried rows over the rows projected onto the tile. -/
theorem buf {k : ℕ} (hk : k ≤ 1024) (col : Fin k → Fin 5632)
    (inbP : ∀ a, (![16, 0] : Fin 2 → ℕ) a + (![512, k] : Fin 2 → ℕ) a ≤ S528x1024.size a)
    (inbQ : ∀ a, (![0, 0] : Fin 2 → ℕ) a + (![16, k] : Fin 2 → ℕ) a ≤ S528x1024.size a)
    (P : (⟨2, ![512, k]⟩ : Shape).Idx → Elt Ideal .f32) (Q : (⟨2, ![16, k]⟩ : Shape).Idx → Elt Ideal .f32)
    (L : List (View.Piece (Elt Ideal) S528x1024 .f32))
    (hP : ∀ (r : Fin 512) (j : Fin k), P (ix2 r j) = up 0 A g r (col j))
    (hQ : ∀ (r : Fin 16) (j : Fin k), Q (ix2 r j) = ext 0 A g ⟨r.val, by omega⟩ (col j)) (r : Fin 528) (j : Fin k) :
    View.canon ((⟨Rect.unit (s := S528x1024) ![16, 0] ![512, k] inbP, P⟩ : View.Piece (Elt Ideal) S528x1024 .f32)
      :: (⟨Rect.unit (s := S528x1024) ![0, 0] ![16, k] inbQ, Q⟩ : View.Piece (Elt Ideal) S528x1024 .f32) :: L)
      (ix2 r ⟨j.val, by omega⟩) = ext 0 A g r (col j) := by
  by_cases h : r.val < 16
  · rw [Stores.miss2 inbP P _ r _ (by omega), Stores.hit2 inbQ Q L r _ ⟨r.val, h⟩ j (by simp) (by simp), hQ]
  · rw [Stores.hit2 inbP P _ r _ ⟨r.val - 16, by omega⟩ j (by simp; omega) (by simp), hP, ext, dif_neg h]

/-- The first buffer at the first tile: channels `0` to `1023`. -/
theorem buf_a1 (r : Fin 528) (j : Fin 1024) :
    View.canon R.HS1_2 (ix2 r j) = ext 0 A g r ⟨j.val, by omega⟩ := by
  have hh := h_at H
  have hc := carry1 H
  simp (disch := decide) only [Run.HS1_2, kernelRun0_A.sl.HS1_2, View.readAt_eq_ld, Memref.IsWhole.read_unread]
  refine buf (by omega) (fun j => ⟨j.val, by omega⟩) _ _ _ _ _ (fun r j => ?_) (fun r j => ?_) r j
  · pointwise [k0_pay6]
    simp only [hh, H.x3, up]
  · pointwise [k0_pay5]
    rw [kernelRun0_A.sl.v25, Stores.load3 _ _ _ _ _ _ 0 r ⟨j.val, by omega⟩ (by simp) (by simp) (by simp)]
    exact hc _ _

/-- The second tile onward still holds the rows carried in. -/
theorem carry2 (r : Fin 16) (c : Fin 5632) (h : 1024 ≤ c.val) : View.canon R.H9_2 (ix3 0 r c) = ext 0 A g ⟨r.val, by omega⟩ c := by
  rw [Run.H9_2, kernelRun0_A.sl.H9_2, Stores.miss3 _ _ _ _ _ _ (by omega)]
  exact carry1 H r c

/-- The second buffer at the first tile: channels `2816` to `3839`. -/
theorem buf_b1 (r : Fin 528) (j : Fin 1024) :
    View.canon R.HS2_2 (ix2 r ⟨j.val, by omega⟩) = ext 0 A g r ⟨2816 + j.val, by omega⟩ := by
  have hh := h_at H
  simp (disch := decide) only [Run.HS2_2, kernelRun0_A.sl.HS2_2, View.readAt_eq_ld, Memref.IsWhole.read_unread]
  refine buf (by omega) (fun j => ⟨2816 + j.val, by omega⟩) _ _ _ _ _ (fun r j => ?_) (fun r j => ?_) r j
  · pointwise [k0_pay9]
    simp only [hh, H.x3, up]
  · pointwise [k0_pay8]
    rw [kernelRun0_A.sl.v41, Stores.load3 _ _ _ _ _ _ 0 r ⟨2816 + j.val, by omega⟩ (by simp) (by simp) (by simp)]
    exact carry2 H _ _ (by simp; omega)

/-- So do the channels not yet stored after two stores. -/
theorem carry3 (r : Fin 16) (c : Fin 5632) (h : 1024 ≤ c.val ∧ (c.val < 2816 ∨ 3840 ≤ c.val)) : View.canon R.H9_3 (ix3 0 r c) = ext 0 A g ⟨r.val, by omega⟩ c := by
  rw [Run.H9_3, kernelRun0_A.sl.H9_3, Stores.miss3 _ _ _ _ _ _ (by omega)]
  exact carry2 H r c (by omega)

/-- The first buffer at the second tile: channels `1024` to `2047`. -/
theorem buf_a2 (r : Fin 528) (j : Fin 1024) :
    View.canon R.HS1_4 (ix2 r ⟨j.val, by omega⟩) = ext 0 A g r ⟨1024 + j.val, by omega⟩ := by
  have hh := h_at H
  simp (disch := decide) only [Run.HS1_4, kernelRun0_A.sl.HS1_4, View.readAt_eq_ld, Memref.IsWhole.read_unread]
  refine buf (by omega) (fun j => ⟨1024 + j.val, by omega⟩) _ _ _ _ _ (fun r j => ?_) (fun r j => ?_) r j
  · pointwise [k0_pay19]
    simp only [hh, H.x3, up]
  · pointwise [k0_pay18, kernelRun0_A.sl.r_7, k0_pay17]
    rw [kernelRun0_A.sl.v154, Stores.load3 _ _ _ _ _ _ 0 r ⟨1024 + j.val, by omega⟩ (by simp) (by simp) (by simp)]
    exact carry3 H _ _ (by simp; omega)

/-- So do the channels not yet stored after three stores. -/
theorem carry4 (r : Fin 16) (c : Fin 5632) (h : 2048 ≤ c.val ∧ (c.val < 2816 ∨ 3840 ≤ c.val)) : View.canon R.H9_4 (ix3 0 r c) = ext 0 A g ⟨r.val, by omega⟩ c := by
  rw [Run.H9_4, kernelRun0_A.sl.H9_4, Stores.miss3 _ _ _ _ _ _ (by omega)]
  exact carry3 H r c (by omega)

/-- The second buffer at the second tile: channels `3840` to `4863`. -/
theorem buf_b2 (r : Fin 528) (j : Fin 1024) :
    View.canon R.HS2_4 (ix2 r ⟨j.val, by omega⟩) = ext 0 A g r ⟨3840 + j.val, by omega⟩ := by
  have hh := h_at H
  simp (disch := decide) only [Run.HS2_4, kernelRun0_A.sl.HS2_4, View.readAt_eq_ld, Memref.IsWhole.read_unread]
  refine buf (by omega) (fun j => ⟨3840 + j.val, by omega⟩) _ _ _ _ _ (fun r j => ?_) (fun r j => ?_) r j
  · pointwise [k0_pay22]
    simp only [hh, H.x3, up]
  · pointwise [k0_pay21]
    rw [kernelRun0_A.sl.v170, Stores.load3 _ _ _ _ _ _ 0 r ⟨3840 + j.val, by omega⟩ (by simp) (by simp) (by simp)]
    exact carry4 H _ _ (by simp; omega)

/-- So do the channels not yet stored after four stores. -/
theorem carry5 (r : Fin 16) (c : Fin 5632) (h : 2048 ≤ c.val ∧ (c.val < 2816 ∨ 4864 ≤ c.val)) : View.canon R.H9_5 (ix3 0 r c) = ext 0 A g ⟨r.val, by omega⟩ c := by
  rw [Run.H9_5, kernelRun0_A.sl.H9_5, Stores.miss3 _ _ _ _ _ _ (by omega)]
  exact carry4 H r c (by omega)

/-- The first buffer at the third tile: channels `2048` to `2815`. -/
theorem buf_a3 (r : Fin 528) (j : Fin 768) :
    View.canon R.HS1_6 (ix2 r ⟨j.val, by omega⟩) = ext 0 A g r ⟨2048 + j.val, by omega⟩ := by
  have hh := h_at H
  simp (disch := decide) only [Run.HS1_6, kernelRun0_A.sl.HS1_6, View.readAt_eq_ld, Memref.IsWhole.read_unread]
  refine buf (by omega) (fun j => ⟨2048 + j.val, by omega⟩) _ _ _ _ _ (fun r j => ?_) (fun r j => ?_) r j
  · pointwise [k0_pay31]
    simp only [hh, H.x3, up]
  · pointwise [k0_pay30]
    rw [kernelRun0_A.sl.v283, Stores.load3 _ _ _ _ _ _ 0 r ⟨2048 + j.val, by omega⟩ (by simp) (by simp) (by simp)]
    exact carry5 H _ _ (by simp; omega)

/-- So do the channels not yet stored after five stores. -/
theorem carry6 (r : Fin 16) (c : Fin 5632) (h : 4864 ≤ c.val) : View.canon R.H9_6 (ix3 0 r c) = ext 0 A g ⟨r.val, by omega⟩ c := by
  rw [Run.H9_6, kernelRun0_A.sl.H9_6, Stores.miss3 _ _ _ _ _ _ (by omega)]
  exact carry5 H r c (by omega)

/-- The second buffer at the third tile: channels `4864` to `5631`. -/
theorem buf_b3 (r : Fin 528) (j : Fin 768) :
    View.canon R.HS2_6 (ix2 r ⟨j.val, by omega⟩) = ext 0 A g r ⟨4864 + j.val, by omega⟩ := by
  have hh := h_at H
  simp (disch := decide) only [Run.HS2_6, kernelRun0_A.sl.HS2_6, kernelRun0_A.sl.HS2_5, View.readAt_eq_ld, Memref.IsWhole.read_unread]
  refine buf (by omega) (fun j => ⟨4864 + j.val, by omega⟩) _ _ _ _ _ (fun r j => ?_) (fun r j => ?_) r j
  · simp only [kernelRun0_A.sl.r_15, View.readAt_eq_ld, Memref.IsWhole.read_unread]
    pointwise [k0_pay35, k0_pay34]
    simp only [hh, H.x3, up]
  · pointwise [k0_pay33]
    rw [kernelRun0_A.sl.v299, Stores.load3 _ _ _ _ _ _ 0 r ⟨4864 + j.val, by omega⟩ (by simp) (by simp) (by simp)]
    exact carry6 H _ _ (by simp)

omit H in
/-- Row `512 + r` of the extended projection is carried row `r`. -/
theorem carry_of {a : ℕ} {r : Fin 16} (c : Fin 5632) (h : a ≤ c.val) (h1 : 512 + r.val < 528) (h2 : a + (c.val - a) < 5632) :
    ext 0 A g ⟨512 + r.val, h1⟩ ⟨a + (c.val - a), h2⟩ = carry 0 A g r c := by
  have e : a + (c.val - a) = c.val := by omega
  simp only [carry, e, Nat.add_comm 512]

/-- The carried rows at the end of the run: each tile's last sixteen rows, stored tile by tile. -/
theorem carry_at (inb : ∀ a, (![0, 0, 4864] : Fin 3 → ℕ) a + S1x16x768.size a ≤ S1x16x5632.size a) (r : Fin 16) (c : Fin 5632) :
    View.canon ((⟨Rect.unit (s := S1x16x5632) ![0, 0, 4864] S1x16x768.size inb, k0_pay36 R.v311⟩
      : View.Piece (Elt Ideal) S1x16x5632 .f32) :: R.H9_6) (ix3 0 r c) = carry 0 A g r c := by
  by_cases h6 : 4864 ≤ c.val
  · rw [Stores.hit3 _ _ _ _ _ _ 0 r ⟨c.val - 4864, by omega⟩ (by simp) (by simp) (by simp; omega)]
    pointwise [k0_pay36]
    rw [Run.v311, kernelRun0_A.sl.v311, Stores.load2 _ _ _ _ _ ⟨512 + r.val, by omega⟩ ⟨c.val - 4864, by omega⟩ (by simp) (by simp)]
    exact (buf_b3 H _ ⟨c.val - 4864, by omega⟩).trans (carry_of c h6 _ _)
  rw [Stores.miss3 _ _ _ _ _ _ (by omega), Run.H9_6, kernelRun0_A.sl.H9_6]
  by_cases h5 : 2048 ≤ c.val ∧ c.val < 2816
  · rw [Stores.hit3 _ _ _ _ _ _ 0 r ⟨c.val - 2048, by omega⟩ (by simp) (by simp) (by simp; omega)]
    pointwise [k0_pay32]
    rw [kernelRun0_A.sl.v295, Stores.load2 _ _ _ _ _ ⟨512 + r.val, by omega⟩ ⟨c.val - 2048, by omega⟩ (by simp) (by simp)]
    exact (buf_a3 H _ ⟨c.val - 2048, by omega⟩).trans (carry_of c h5.1 _ _)
  rw [Stores.miss3 _ _ _ _ _ _ (by omega), kernelRun0_A.sl.H9_5]
  by_cases h4 : 3840 ≤ c.val
  · rw [Stores.hit3 _ _ _ _ _ _ 0 r ⟨c.val - 3840, by omega⟩ (by simp) (by simp) (by simp; omega)]
    pointwise [k0_pay23]
    rw [kernelRun0_A.sl.v182, Stores.load2 _ _ _ _ _ ⟨512 + r.val, by omega⟩ ⟨c.val - 3840, by omega⟩ (by simp) (by simp)]
    exact (buf_b2 H _ ⟨c.val - 3840, by omega⟩).trans (carry_of c h4 _ _)
  rw [Stores.miss3 _ _ _ _ _ _ (by omega), kernelRun0_A.sl.H9_4]
  by_cases h3 : 1024 ≤ c.val ∧ c.val < 2048
  · rw [Stores.hit3 _ _ _ _ _ _ 0 r ⟨c.val - 1024, by omega⟩ (by simp) (by simp) (by simp; omega)]
    pointwise [k0_pay20]
    rw [kernelRun0_A.sl.v166, Stores.load2 _ _ _ _ _ ⟨512 + r.val, by omega⟩ ⟨c.val - 1024, by omega⟩ (by simp) (by simp)]
    exact (buf_a2 H _ ⟨c.val - 1024, by omega⟩).trans (carry_of c h3.1 _ _)
  rw [Stores.miss3 _ _ _ _ _ _ (by omega), kernelRun0_A.sl.H9_3]
  by_cases h2 : 2816 ≤ c.val
  · rw [Stores.hit3 _ _ _ _ _ _ 0 r ⟨c.val - 2816, by omega⟩ (by simp) (by simp) (by simp; omega)]
    pointwise [k0_pay10]
    rw [kernelRun0_A.sl.v53, Stores.load2 _ _ _ _ _ ⟨512 + r.val, by omega⟩ ⟨c.val - 2816, by omega⟩ (by simp) (by simp)]
    exact (buf_b1 H _ ⟨c.val - 2816, by omega⟩).trans (carry_of c h2 _ _)
  rw [Stores.miss3 _ _ _ _ _ _ (by omega), kernelRun0_A.sl.H9_2]
  rw [Stores.hit3 _ _ _ _ _ _ 0 r ⟨c.val, by omega⟩ (by simp) (by simp) (by simp)]
  pointwise [k0_pay7]
  rw [kernelRun0_A.sl.v37, Stores.load2 _ _ _ _ _ ⟨512 + r.val, by omega⟩ ⟨c.val, by omega⟩ (by simp) (by simp)]
  refine (buf_a1 H _ ⟨c.val, by omega⟩).trans ?_
  rw [carry]; congr 1 <;> apply Fin.ext <;> simp <;> omega

omit H in
/-- A load of whole rows of a scratch buffer filled for one tile of channels. -/
theorem rows {k n : ℕ} (hk : k ≤ 1024) (v : View sig .tc .vmem S528x1024 .f32) (L : List (View.Piece (Elt Ideal) S528x1024 .f32))
    (col : Fin k → Fin 5632) (hL : ∀ (r : Fin 528) (j : Fin k), View.canon L (ix2 r ⟨j.val, by omega⟩) = ext 0 A g r (col j))
    (o : ℕ) (inb : ∀ a, (![o, 0] : Fin 2 → ℕ) a + (![n, k] : Fin 2 → ℕ) a ≤ S528x1024.size a) (r : Fin n) (j : Fin k) :
    v.readCov L (Rect.unit (s := S528x1024) ![o, 0] ![n, k] inb).toLoadRect (ix2 r j)
      = ext 0 A g ⟨o + r.val, by have h : o + n ≤ 528 := inb 0; omega⟩ (col j) := by
  have h : o + n ≤ 528 := inb 0
  rw [Stores.load2 v L inb r j ⟨o + r.val, by omega⟩ ⟨j.val, by omega⟩ rfl (by simp), hL]

/-- The activation of the first half of the rows at the first tile. -/
theorem act_lo1 (r : Fin 256) (j : Fin 1024) : R.r_4 (ix2 r j) = act 0 A g ⟨r.val, by omega⟩ ⟨j.val, by omega⟩ := by
  have ha := rows (A := A) (g := g) (n := 256) (by omega) R.arg13.view _ (fun j : Fin 1024 => ⟨j.val, by omega⟩) (buf_a1 H)
  have hb := rows (A := A) (g := g) (n := 256) (by omega) R.arg14.view _ (fun j : Fin 1024 => ⟨2816 + j.val, by omega⟩) (buf_b1 H)
  simp only [Run.r_4, kernelRun0_A.sl.r_4, kernelRun0_A.sl.r_1, kernelRun0_A.sl.r_2, kernelRun0_A.sl.r_3, View.readAt_eq_ld,
    Memref.IsWhole.read_unread]
  pointwise [k0_pay14, k0_pay11, k0_pay12, k0_pay13]
  simp only [kernelRun0_A.sl.v61, kernelRun0_A.sl.v68, kernelRun0_A.sl.v74, kernelRun0_A.sl.v82, kernelRun0_A.sl.v89, kernelRun0_A.sl.v95, ha, hb, H.x4, H.x5, act, conv]
  have e : 2816 + j.val = j.val + 2816 := by omega
  simp only [Nat.zero_add, Nat.add_comm 8, Nat.add_comm 16, e]

/-- The activation of the first half of the rows at the second tile. -/
theorem act_lo2 (r : Fin 256) (j : Fin 1024) : R.r_11 (ix2 r j) = act 0 A g ⟨r.val, by omega⟩ ⟨1024 + j.val, by omega⟩ := by
  have ha := rows (A := A) (g := g) (n := 256) (by omega) R.arg13.view _ (fun j : Fin 1024 => ⟨1024 + j.val, by omega⟩) (buf_a2 H)
  have hb := rows (A := A) (g := g) (n := 256) (by omega) R.arg14.view _ (fun j : Fin 1024 => ⟨3840 + j.val, by omega⟩) (buf_b2 H)
  simp only [Run.r_11, kernelRun0_A.sl.r_11, kernelRun0_A.sl.r_8, kernelRun0_A.sl.r_9, kernelRun0_A.sl.r_10, View.readAt_eq_ld,
    Memref.IsWhole.read_unread]
  pointwise [k0_pay27, k0_pay24, k0_pay25, k0_pay26]
  simp only [kernelRun0_A.sl.v190, kernelRun0_A.sl.v197, kernelRun0_A.sl.v203, kernelRun0_A.sl.v211, kernelRun0_A.sl.v218, kernelRun0_A.sl.v224, ha, hb, H.x4, H.x5, act, conv]
  have e : 3840 + j.val = 1024 + j.val + 2816 := by omega
  simp only [Nat.zero_add, Nat.add_comm 8, Nat.add_comm 16, e]

/-- The activation of the first half of the rows at the third tile. -/
theorem act_lo3 (r : Fin 256) (j : Fin 768) : R.r_18 (ix2 r j) = act 0 A g ⟨r.val, by omega⟩ ⟨2048 + j.val, by omega⟩ := by
  have ha := rows (A := A) (g := g) (n := 256) (by omega) R.arg13.view _ (fun j : Fin 768 => ⟨2048 + j.val, by omega⟩) (buf_a3 H)
  have hb := rows (A := A) (g := g) (n := 256) (by omega) R.arg14.view _ (fun j : Fin 768 => ⟨4864 + j.val, by omega⟩) (buf_b3 H)
  simp only [Run.r_18, kernelRun0_A.sl.r_18, kernelRun0_A.sl.r_16, kernelRun0_A.sl.r_17, View.readAt_eq_ld,
    Memref.IsWhole.read_unread]
  pointwise [k0_pay39, k0_pay37, k0_pay38]
  simp only [kernelRun0_A.sl.v319, kernelRun0_A.sl.v326, kernelRun0_A.sl.v332, kernelRun0_A.sl.v340, kernelRun0_A.sl.v347, kernelRun0_A.sl.v353, ha, hb, H.x4, H.x5, act, conv]
  have e : 4864 + j.val = 2048 + j.val + 2816 := by omega
  simp only [Nat.zero_add, Nat.add_comm 8, Nat.add_comm 16, e]

/-- The input plus the first tile's share of the output product. -/
theorem acc1 (r : Fin 512) (d : Fin 1024) :
    R.r_6 (ix2 r d) = A.x (ix3 g r d) + ∑ j : Fin 1024, act 0 A g r ⟨j.val, by omega⟩ * A.dn (ix3 0 ⟨j.val, by omega⟩ d) := by
  have ha := rows (A := A) (g := g) (n := 256) (by omega) R.arg13.view _ (fun j : Fin 1024 => ⟨j.val, by omega⟩) (buf_a1 H)
  have hb := rows (A := A) (g := g) (n := 256) (by omega) R.arg14.view _ (fun j : Fin 1024 => ⟨2816 + j.val, by omega⟩) (buf_b1 H)
  have hl := act_lo1 H
  simp only [Run.r_4] at hl
  simp only [Run.r_6, kernelRun0_A.sl.r_6, kernelRun0_A.sl.r_5, kernelRun0_A.sl.r, View.readAt_eq_ld, Memref.IsWhole.read_unread]
  pointwise [k0_pay16, k0_pay15, k0_pay4]
  rw [H.x0]
  refine congrArg _ (Finset.sum_congr rfl fun j _ => ?_)
  rw [H.x6]
  refine congrArg (· * _) ?_
  split
  · rw [hl]
  · have e0 : 256 + (r.val - 256) = r.val := by omega
    have e8 : 264 + (r.val - 256) = r.val + 8 := by omega
    have e16 : 272 + (r.val - 256) = r.val + 16 := by omega
    have e : 2816 + j.val = j.val + 2816 := by omega
    simp only [kernelRun0_A.sl.v107, kernelRun0_A.sl.v114, kernelRun0_A.sl.v120, kernelRun0_A.sl.v128, kernelRun0_A.sl.v135, kernelRun0_A.sl.v141, ha, hb, H.x4, H.x5, act, conv, e0, e8, e16, e]

/-- The sum after the second tile. -/
theorem acc2 (r : Fin 512) (d : Fin 1024) :
    R.r_14 (ix2 r d) = A.x (ix3 g r d) + ∑ j : Fin 1024, act 0 A g r ⟨j.val, by omega⟩ * A.dn (ix3 0 ⟨j.val, by omega⟩ d)
      + ∑ j : Fin 1024, act 0 A g r ⟨1024 + j.val, by omega⟩ * A.dn (ix3 0 ⟨1024 + j.val, by omega⟩ d) := by
  have h1 := acc1 H
  simp only [Run.r_6] at h1
  have ha := rows (A := A) (g := g) (n := 256) (by omega) R.arg13.view _ (fun j : Fin 1024 => ⟨1024 + j.val, by omega⟩) (buf_a2 H)
  have hb := rows (A := A) (g := g) (n := 256) (by omega) R.arg14.view _ (fun j : Fin 1024 => ⟨3840 + j.val, by omega⟩) (buf_b2 H)
  have hl := act_lo2 H
  simp only [Run.r_11] at hl
  simp only [Run.r_14, kernelRun0_A.sl.r_14, kernelRun0_A.sl.r_12, kernelRun0_A.sl.r_13, View.readAt_eq_ld, Memref.IsWhole.read_unread]
  pointwise [k0_pay29, k0_pay28]
  rw [h1]
  refine congrArg _ (Finset.sum_congr rfl fun j _ => ?_)
  rw [H.x6]
  refine congrArg (· * _) ?_
  split
  · rw [hl]
  · have e0 : 256 + (r.val - 256) = r.val := by omega
    have e8 : 264 + (r.val - 256) = r.val + 8 := by omega
    have e16 : 272 + (r.val - 256) = r.val + 16 := by omega
    have e : 3840 + j.val = 1024 + j.val + 2816 := by omega
    simp only [kernelRun0_A.sl.v236, kernelRun0_A.sl.v243, kernelRun0_A.sl.v249, kernelRun0_A.sl.v257, kernelRun0_A.sl.v264, kernelRun0_A.sl.v270, ha, hb, H.x4, H.x5, act, conv, e0, e8, e16, e]

/-- The activation at the third tile. -/
theorem act3 (r : Fin 512) (j : Fin 768) : R.r_21 (ix2 r j) = act 0 A g r ⟨2048 + j.val, by omega⟩ := by
  have ha := rows (A := A) (g := g) (n := 256) (by omega) R.arg13.view _ (fun j : Fin 768 => ⟨2048 + j.val, by omega⟩) (buf_a3 H)
  have hb := rows (A := A) (g := g) (n := 256) (by omega) R.arg14.view _ (fun j : Fin 768 => ⟨4864 + j.val, by omega⟩) (buf_b3 H)
  have hl := act_lo3 H
  simp only [Run.r_18] at hl
  simp only [Run.r_21, kernelRun0_A.sl.r_21, kernelRun0_A.sl.r_19, kernelRun0_A.sl.r_20, View.readAt_eq_ld, Memref.IsWhole.read_unread]
  pointwise [k0_pay42, k0_pay41, k0_pay40]
  split
  · rw [hl]
  · have e0 : 256 + (r.val - 256) = r.val := by omega
    have e8 : 264 + (r.val - 256) = r.val + 8 := by omega
    have e16 : 272 + (r.val - 256) = r.val + 16 := by omega
    have e : 4864 + j.val = 2048 + j.val + 2816 := by omega
    simp only [kernelRun0_A.sl.v365, kernelRun0_A.sl.v372, kernelRun0_A.sl.v378, kernelRun0_A.sl.v386, kernelRun0_A.sl.v393, kernelRun0_A.sl.v399, ha, hb, H.x4, H.x5, act, conv, e0, e8, e16, e]

omit H in
/-- A sum over the channels is the sum of the three tiles' sums. -/
theorem sum_tiles (f : Fin 2816 → EReal) :
    ∑ c, f c = ∑ j : Fin 1024, f ⟨j.val, by omega⟩ + ∑ j : Fin 1024, f ⟨1024 + j.val, by omega⟩
      + ∑ j : Fin 768, f ⟨2048 + j.val, by omega⟩ := by
  refine (Fin.sum_univ_add (a := 2048) (b := 768) f).trans (congrArg (· + _) ?_)
  exact Fin.sum_univ_add (a := 1024) (b := 1024) fun j => f ⟨j.val, by omega⟩

/-- The stored block is the sublayer's output. -/
theorem out_at (r : Fin 512) (d : Fin 1024) :
    k0_pay1 R.r_14 R.r_21 (View.readAt (Elt Ideal) R.arg8.view (Rect.unit (s := S1x2816x1024) ![0, 2048, 0] ![1, 768, 1024] inb_S1x2816x1024_S1x768x1024_0_2048_0).toLoadRect (R.harg8.unread R.x6)) (ix3 0 r d) = out 0 A g r d := by
  have h2 := acc2 H
  have h3 := act3 H
  simp only [View.readAt_eq_ld, Memref.IsWhole.read_unread]
  pointwise [k0_pay1]
  simp only [h2, h3, H.x6, out, sum_tiles, ← add_assoc]

end Cert.FfnIdeal
-- ==== Proof.FfnValue.lean ====
/- From one run of the feed-forward kernel's body to its two result arrays: at every grid point the input blocks are
   those of one group of streams, so what the point stores is the sublayer's output and carried rows of that group, and
   the four points' blocks make up the arrays. -/
module

public import proofs.«01_k».proof.Proof.Gen.FfnIdeal.Value
public import proofs.«01_k».proof.Proof.FfnStages

@[expose] public section
set_option maxRecDepth 16384
noncomputable section
open Idealize.ShloMosaic Idealize.ShloMosaic.TcCoe Idealize.SL.Sem
open Idealize.ShloMosaic.Pipeline (Dat)

namespace Cert.FfnIdeal.Arrays
open Cert.FfnIdeal Cert.FfnIdeal.Gen Cert.FfnSpec

variable (m : (ℓ : Loc nD τ sig) → Buf (Elt Ideal) ℓ)

/-- The sublayer's operands, as device `c` is launched with them. -/
def args (c : Dev nD) : Args where
  x := m ((c : Thread nD τ).loc main_arg0)
  st := m ((c : Thread nD τ).loc main_arg1)
  nw := m ((c : Thread nD τ).loc main_arg2)
  u := m ((c : Thread nD τ).loc main_arg3)
  cw := m ((c : Thread nD τ).loc main_arg4)
  cb := m ((c : Thread nD τ).loc main_arg5)
  dn := m ((c : Thread nD τ).loc main_arg6)
  fw := m ((c : Thread nD τ).loc main_arg7)

/-- The run of the body at grid point `t`. -/
def runAt (c : Dev nD) (t : Fin cfg0.N) : Run where
  c := c
  arg2 := ms0_0 t
  harg2 := hs0_0 t
  arg3 := ms0_1 t
  harg3 := hs0_1 t
  arg4 := ms0_2 t
  harg4 := hs0_2 t
  arg5 := ms0_3 t
  harg5 := hs0_3 t
  arg6 := ms0_4 t
  harg6 := hs0_4 t
  arg7 := ms0_5 t
  harg7 := hs0_5 t
  arg8 := ms0_6 t
  harg8 := hs0_6 t
  arg11 := ms0_9 t
  arg12 := scM0_0
  arg13 := scM0_1
  arg14 := scM0_2
  x0 := iblk m c 0 t
  x1 := iblk m c 1 t
  x2 := iblk m c 2 t
  x3 := iblk m c 3 t
  x4 := iblk m c 4 t
  x5 := iblk m c 5 t
  x6 := iblk m c 6 t

/-- Where the blocks of point `t` lie: tokens, carried rows and results at group `t`, everything else at the layer. -/
theorem idx : ∀ t : Fin cfg0.N, win0_0.index t = ![t.val, 0, 0] ∧ win0_1.index t = ![0, t.val, 0, 0]
    ∧ win0_2.index t = ![0, 0, 0] ∧ win0_3.index t = ![0, 0, 0] ∧ win0_4.index t = ![0, 0, 0]
    ∧ win0_5.index t = ![0, 0, 0] ∧ win0_6.index t = ![0, 0, 0]
    ∧ win0_8.index t = ![t.val, 0, 0] ∧ win0_9.index t = ![t.val, 0, 0] :=
  (by decide +kernel : ∀ t : Fin grid0.N, _)

/-- The group a grid point works on. -/
abbrev grp (t : Fin cfg0.N) : Fin 4 := ⟨t.val, t.isLt⟩

/-- Block `t` of the regrouped carried rows: row `r` is position `r / 8` of stream `r % 8` of the group. -/
theorem carried (c : Dev nD) (t : Fin cfg0.N) (r : Fin 16) (k : Fin 5632) :
    iblk m c 1 t (ix4 0 0 r k) = ext 0 (args m c) (grp t) ⟨r.val, by omega⟩ k := by
  have h : iblk m c 1 t (ix4 0 0 r k) = V m c main_v2 (ix4 0 (grp t) r k) := by blk_ext [iblk, idx t]
  refine h.trans ?_
  entry_read
  pointwise
  rw [ext, dif_pos r.isLt]
  rfl

set_option maxHeartbeats 1600000 in
/-- The body's input blocks at point `t` are group `t`'s operands. -/
theorem holds (c : Dev nD) (t : Fin cfg0.N) : Holds (args m c) (grp t) (runAt m c t) where
  x0 r d := by
    show iblk m c 0 t (ix3 0 r d) = (m ((c : Thread nD τ).loc main_arg0)) (ix3 (grp t) r d)
    blk_point [iblk, V, idx t]
  x1 r k := carried m c t r k
  x2 d := by
    show iblk m c 2 t (ix3 0 0 d) = (m ((c : Thread nD τ).loc main_arg2)) (ix2 0 d)
    blk_point [iblk, V, idx t]
  x3 d k := by
    show iblk m c 3 t (ix3 0 d k) = (m ((c : Thread nD τ).loc main_arg3)) (ix3 0 d k)
    blk_point [iblk, V, idx t]
  x4 k j := by
    show iblk m c 4 t (ix3 0 k j) = (m ((c : Thread nD τ).loc main_arg4)) (ix3 0 k j)
    blk_point [iblk, V, idx t]
  x5 j := by
    show iblk m c 5 t (ix3 0 0 j) = (m ((c : Thread nD τ).loc main_arg5)) (ix2 0 j)
    blk_point [iblk, V, idx t]
  x6 j e := by
    show iblk m c 6 t (ix3 0 j e) = (m ((c : Thread nD τ).loc main_arg6)) (ix3 0 j e)
    blk_point [iblk, V, idx t]

/-- What point `t` stores in the first result's block. -/
theorem stored8 (c : Dev nD) (t : Fin cfg0.N) (r : Fin 512) (d : Fin 1024) :
    (outsAt0 m c t).1 (ix3 0 r d) = out 0 (args m c) (grp t) r d := by
  refine Eq.trans ?_ (out_at (holds m c t) r d)
  simp only [outsAt0, out0_A_8, View.read_writes_junk_eq_canon]
  rw [kernelRun0_A]
  simp (disch := decide) only [View.canon_cons_unit_lit']
  rfl

/-- What point `t` stores in the second result's block. -/
theorem stored9 (c : Dev nD) (t : Fin cfg0.N) (r : Fin 16) (k : Fin 5632) :
    (outsAt0 m c t).2 (ix3 0 r k) = carry 0 (args m c) (grp t) r k := by
  refine Eq.trans ?_ (carry_at (holds m c t) inb_S1x16x5632_S1x16x768_0_0_4864 r k)
  simp only [outsAt0, out0_A_9, View.read_writes_junk_eq_canon]
  rw [kernelRun0_A]
  rfl

/-- The first result array is the sublayer's output. -/
theorem final8 (c : Dev nD) : (dats m 0 c).arrAt 8 cfg0.N
    = (fun i => out 0 (args m c) (i 0) (i 1) (i 2) : FVec Ideal S4x512x1024 .f32) := by
  refine (dats m 0 c).arrAt_eq_of_covers 8 _ (by decide +kernel) fun t _ y => ?_
  blk_simp
  rw [after0_8]
  have e : y = ix3 0 (y 1) (y 2) := by blk_ext
  refine Eq.trans (congrArg _ e) ((stored8 m c t (y 1) (y 2)).trans ?_)
  have h0 : (win0_8.blk t).view.emb y 0 = grp t := by
    apply Fin.ext
    blk_simp [idx t]
  have h1 : (win0_8.blk t).view.emb y 1 = y 1 := by
    apply Fin.ext
    blk_simp [idx t]
  have h2 : (win0_8.blk t).view.emb y 2 = y 2 := by
    apply Fin.ext
    blk_simp [idx t]
  rw [h0, h1, h2]

/-- The second result array is the rows carried on. -/
theorem final9 (c : Dev nD) : (dats m 0 c).arrAt 9 cfg0.N
    = (fun i => carry 0 (args m c) (i 0) (i 1) (i 2) : FVec Ideal S4x16x5632 .f32) := by
  refine (dats m 0 c).arrAt_eq_of_covers 9 _ (by decide +kernel) fun t _ y => ?_
  blk_simp
  rw [after0_9]
  have e : y = ix3 0 (y 1) (y 2) := by blk_ext
  refine Eq.trans (congrArg _ e) ((stored9 m c t (y 1) (y 2)).trans ?_)
  have h0 : (win0_9.blk t).view.emb y 0 = grp t := by
    apply Fin.ext
    blk_simp [idx t]
  have h1 : (win0_9.blk t).view.emb y 1 = y 1 := by
    apply Fin.ext
    blk_simp [idx t]
  have h2 : (win0_9.blk t).view.emb y 2 = y 2 := by
    apply Fin.ext
    blk_simp [idx t]
  rw [h0, h1, h2]

end Cert.FfnIdeal.Arrays
-- ==== Proof.FfnClaim.lean ====
/- The feed-forward sublayer's two value facts joined: the kernel's result arrays and the reference's results are the
   same functions of the same operands. -/
module

public import proofs.«01_k».proof.Defs
public import proofs.«01_k».proof.Proof.FfnRef
public import proofs.«01_k».proof.Proof.FfnValue
public import Idealize.ShloMosaic.Lib.Claim

@[expose] public section
set_option maxRecDepth 16384
noncomputable section
open Idealize.ShloMosaic Idealize.ShloMosaic.TcCoe Idealize.SL.Sem

namespace Cert.FfnClaim
open Cert.FfnSpec

/-- A tensor is known by its entries. -/
theorem ext3 {a b c : ℕ} {f h : (⟨3, ![a, b, c]⟩ : Shape).Idx → EReal} (e : ∀ i j k, f (ix3 i j k) = h (ix3 i j k)) : f = h := by
  funext i
  rw [eq_ix3 i]
  exact e _ _ _

/-- The reference's first result, whole. -/
theorem ref1 (A : Args) : Cert.FfnRefIdeal.Read.val_main_v62 (F := Ideal) A.x A.st A.nw A.u A.cw A.cb A.dn
    = (fun i => out 0 A (i 0) (i 1) (i 2) : FVec Ideal ⟨3, ![4, 512, 1024]⟩ .f32) :=
  ext3 fun g r c => Cert.FfnRefIdeal.Read.res1_at A g r c

/-- The reference's second result, whole. -/
theorem ref2 (A : Args) : Cert.FfnRefIdeal.Read.val_main_v65 (F := Ideal) A.x A.st A.nw A.u
    = (fun i => carry 0 A (i 0) (i 1) (i 2) : FVec Ideal ⟨3, ![4, 16, 5632]⟩ .f32) :=
  ext3 fun g r c => Cert.FfnRefIdeal.Read.res2_at A g r c

/-- The claim: both programs run, end with equal results, and leave their arguments as they were. -/
theorem algebraic : Cert.algebraic_FfnIdeal_FfnRefIdeal := by
  pair_intro
  · run_from Cert.FfnIdeal.Gen.run_main m g
  · run_from Cert.FfnRefIdeal.Value.run m' g'
    · obtain ⟨h0, h1, h2, h3, h4, h5, h6, -⟩ := hagree c
      rw [Cert.FfnRefIdeal.Read.val_main_v62_eq, h0, h1, h2, h3, h4, h5, h6]
      exact (ref1 (Cert.FfnIdeal.Arrays.args m c)).trans (Cert.FfnIdeal.Arrays.final8 m c).symm
    · exact (ref2 (Cert.FfnIdeal.Arrays.args m c)).trans (Cert.FfnIdeal.Arrays.final9 m c).symm

/-- The reference runs to the end and leaves its arguments as they were. -/
theorem ref_frame : Cert.quiescent_FfnRefIdeal := by
  intro m ρ _
  exact (θ_run Cert.FfnRefIdeal.defs _ _).mono (fun r h => ⟨fun c => (h c).2.2, sem_eq_zero_of_no_sems (by decide) r.2⟩)
    (Cert.FfnRefIdeal.Value.run m ρ)

end Cert.FfnClaim
-- ==== Proof.LastRef.lean ====
/- The reference of the last layer's feed-forward sublayer with the final norm, read entry by entry: each stage of the plain program is the
   corresponding function of `Cert.FfnSpec`, and so are its two results. -/
module

public import proofs.«01_k».proof.Proof.Gen.LastRefIdeal.Run
public import proofs.«01_k».proof.Proof.Gen.LastRefIdeal.Read
public import proofs.«01_k».proof.Proof.FfnSpec

@[expose] public section
set_option maxRecDepth 16384
noncomputable section
open Idealize.ShloMosaic Idealize.ShloMosaic.TcCoe Idealize.SL.Sem

namespace Cert.LastRefIdeal.Read
open Cert.FfnSpec

variable (A : Args)

/-- Stream `i` of group `g` among all thirty-two. -/
abbrev sq (g : Fin 4) (i : Fin 8) : Fin 32 := ⟨g.val * 8 + i.val, by omega⟩
/-- The row of position `t` of stream `i` in its group. -/
abbrev rw8 (t : Fin 64) (i : Fin 8) : Fin 512 := ⟨t.val * 8 + i.val, by omega⟩

/-- The tokens of one stream, taken out of their group. -/
theorem streams_at (g : Fin 4) (i : Fin 8) (t : Fin 64) (d : Fin 1024) :
    val_main_v2 (F := Ideal) A.x (ix3 (sq g i) t d) = A.x (ix3 g (rw8 t i) d) := by
  pointwise [val_main_v2, val_main_v1, val_main_v0]
  congr 2 <;> apply Fin.ext <;> simp <;> omega

/-- The norm's output is `hn`. -/
theorem norm_at (g : Fin 4) (i : Fin 8) (t : Fin 64) (d : Fin 1024) :
    val_main_v17 (F := Ideal) A.x A.nw (ix3 (sq g i) t d) = hn 1 A g (rw8 t i) d := by
  have hs := streams_at A g i t
  pointwise [val_main_v17, val_main_v16, val_main_v15, val_main_v14, val_main_v13, val_main_v12, val_main_v11,
    val_main_v10, val_main_v9, val_main_v8, val_main_v7, val_main_v6, val_main_v5, val_main_v4, val_main_v3,
    val_main_cst, val_main_cst_0, val_main_cst_1]
  simp only [hs, hn]

/-- The up-projection is `up`. -/
theorem up_at (g : Fin 4) (i : Fin 8) (t : Fin 64) (c : Fin 5632) :
    val_main_v20 (F := Ideal) A.x A.nw A.u (ix3 (sq g i) t c) = up 1 A g (rw8 t i) c := by
  have hs := norm_at A g i t
  pointwise [val_main_v20, val_main_v19, val_main_v18]
  simp only [hs, up]

/-- The carried rows followed by the projected ones are `ext`. -/
theorem ext_at (g : Fin 4) (i : Fin 8) (s : Fin 66) (c : Fin 5632) :
    val_main_v27 (F := Ideal) A.x A.st A.nw A.u (ix3 (sq g i) s c) = ext 1 A g ⟨s.val * 8 + i.val, by omega⟩ c := by
  have hu := up_at A g i
  pointwise [val_main_v27, val_main_v22, val_main_v21]
  simp only [ext]
  by_cases h : s.val < 2
  · rw [dif_pos h, dif_pos (by omega)]
    congr 2 <;> apply Fin.ext <;> simp <;> omega
  · rw [dif_neg h, dif_neg (by omega), hu]
    congr 1; apply Fin.ext; simp; omega

theorem conv_at (g : Fin 4) (i : Fin 8) (t : Fin 64) (c : Fin 5632) :
    val_main_v50 (F := Ideal) A.x A.st A.nw A.u A.cw A.cb (ix3 (sq g i) t c) = conv 1 A g (rw8 t i) c := by
  have hs := ext_at A g i
  pointwise [val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v26, val_main_v25, val_main_v24, val_main_v23]
  simp only [hs, conv]
  have e1 : (1 + t.val) * 8 + i.val = t.val * 8 + i.val + 8 := by omega
  have e2 : (2 + t.val) * 8 + i.val = t.val * 8 + i.val + 16 := by omega
  simp only [e1, e2]
  rw [add_comm, ← add_assoc, ← add_assoc]

theorem act_at (g : Fin 4) (i : Fin 8) (t : Fin 64) (c : Fin 2816) :
    val_main_v55 (F := Ideal) A.x A.st A.nw A.u A.cw A.cb (ix3 (sq g i) t c) = act 1 A g (rw8 t i) c := by
  have hs := conv_at A g i t
  pointwise [val_main_v55, val_main_v54, val_main_v53, val_main_v52, val_main_call0_v0, val_main_call0_v1, val_main_call0_v2, val_main_call0_v3, val_main_call0_v4, val_main_call0_v5, val_main_call0_cst, val_main_call0_cst_0]
  simp only [hs, act, Ideal.logistic, Nat.add_comm 2816]

theorem out_at (g : Fin 4) (i : Fin 8) (t : Fin 64) (c : Fin 1024) :
    val_main_v59 (F := Ideal) A.x A.st A.nw A.u A.cw A.cb A.dn (ix3 (sq g i) t c) = out 1 A g (rw8 t i) c := by
  have hs := act_at A g i t
  have h2 := streams_at A g i t
  pointwise [val_main_v59, val_main_v58, val_main_v57, val_main_v56]
  simp only [hs, h2, out]

/-- The first result: the residual sum through the final norm. -/
theorem res1_at (g : Fin 4) (i : Fin 8) (t : Fin 64) (c : Fin 1024) :
    val_main_v72 (F := Ideal) A.x A.st A.nw A.u A.cw A.cb A.dn A.fw (ix3 (sq g i) t c) = last 1 A g (rw8 t i) c := by
  have hs := out_at A g i t
  pointwise [val_main_v72, val_main_v71, val_main_v70, val_main_v69, val_main_v68, val_main_v67, val_main_v66, val_main_v65,
    val_main_v64, val_main_v63, val_main_v62, val_main_v61, val_main_v60, val_main_cst_2, val_main_cst_3, val_main_cst_4]
  simp only [hs, last]

theorem res2_at (g : Fin 4) (r : Fin 16) (c : Fin 5632) :
    val_main_v75 (F := Ideal) A.x A.st A.nw A.u  (ix3 g r c) = carry 1 A g r c := by
  have hs := ext_at A g ⟨r.val % 8, by omega⟩ ⟨64 + r.val / 8, by omega⟩ c
  pointwise [val_main_v75, val_main_v74, val_main_v73, val_main_v51]
  refine Eq.trans hs ?_
  rw [carry]
  congr 1; apply Fin.ext; simp; omega

end Cert.LastRefIdeal.Read
-- ==== Proof.LastStages.lean ====
/- The feed-forward kernel's run at one group of streams, read stage by stage: the normalised rows, the rows its two
   scratch buffers hold for each tile of channels, the gated activations, and the rows it carries on.  Every stage is
   the corresponding function of `Cert.FfnSpec`. -/
module

public import proofs.«01_k».proof.Proof.Gen.LastIdeal.Frame
public import proofs.«01_k».proof.Proof.FfnSpec
public import proofs.«01_k».proof.Proof.Stores

@[expose] public section
set_option maxRecDepth 16384
noncomputable section
open Idealize.ShloMosaic Idealize.ShloMosaic.TcCoe Idealize.SL.Sem

namespace Cert.LastIdeal
open Cert.LastIdeal.Gen Cert.FfnSpec

/-- One run of the body: the buffers it is handed and the input blocks they hold. -/
structure Run where
  c : Dev nD
  arg2 : Memref sig .tc .vmem S1x512x1024 .f32
  harg2 : arg2.IsWhole
  arg3 : Memref sig .tc .vmem S1x1x16x5632 .f32
  harg3 : arg3.IsWhole
  arg4 : Memref sig .tc .vmem S1x1x1024 .f32
  harg4 : arg4.IsWhole
  arg5 : Memref sig .tc .vmem S1x1024x5632 .bf16
  harg5 : arg5.IsWhole
  arg6 : Memref sig .tc .vmem S1x3x5632 .f32
  harg6 : arg6.IsWhole
  arg7 : Memref sig .tc .vmem S1x1x5632 .f32
  harg7 : arg7.IsWhole
  arg8 : Memref sig .tc .vmem S1x2816x1024 .bf16
  harg8 : arg8.IsWhole
  arg9 : Memref sig .tc .vmem S1x1024 .f32
  harg9 : arg9.IsWhole
  arg11 : Memref sig .tc .vmem S1x16x5632 .f32
  arg12 : Memref sig .tc .vmem S512x1024 .bf16
  arg13 : Memref sig .tc .vmem S528x1024 .f32
  arg14 : Memref sig .tc .vmem S528x1024 .f32
  arg15 : Memref sig .tc .vmem S8x512x128 .f32
  x0 : Vec Ideal S1x512x1024 .f32
  x1 : Vec Ideal S1x1x16x5632 .f32
  x2 : Vec Ideal S1x1x1024 .f32
  x3 : Vec Ideal S1x1024x5632 .bf16
  x4 : Vec Ideal S1x3x5632 .f32
  x5 : Vec Ideal S1x1x5632 .f32
  x6 : Vec Ideal S1x2816x1024 .bf16
  x7 : Vec Ideal S1x1024 .f32

/-- The run's input blocks are those of group `g` of the operands `A`. -/
structure Holds (A : Args) (g : Fin 4) (R : Run) : Prop where
  x0 : ∀ r d, R.x0 (ix3 0 r d) = A.x (ix3 g r d)
  x1 : ∀ (r : Fin 16) (c : Fin 5632), R.x1 (ix4 0 0 r c) = ext 1 A g ⟨r.val, by omega⟩ c
  x2 : ∀ d, R.x2 (ix3 0 0 d) = A.nw (ix2 1 d)
  x3 : ∀ d c, R.x3 (ix3 0 d c) = A.u (ix3 1 d c)
  x4 : ∀ k c, R.x4 (ix3 0 k c) = A.cw (ix3 1 k c)
  x5 : ∀ c, R.x5 (ix3 0 0 c) = A.cb (ix2 1 c)
  x6 : ∀ c e, R.x6 (ix3 0 c e) = A.dn (ix3 1 c e)
  x7 : ∀ e, R.x7 (ix2 0 e) = A.fw (ix1 e)

namespace Run
variable (R : Run)

abbrev v30 := kernelRun0_A.sl.v30 (F := Ideal) R.c R.arg2 R.harg2 R.arg4 R.harg4 R.arg12 R.x0 R.x2
abbrev HS1_2 := kernelRun0_A.sl.HS1_2 (F := Ideal) R.c R.arg2 R.harg2 R.arg3 R.harg3 R.arg4 R.harg4 R.arg5 R.harg5 R.arg11 R.arg12 R.x0 R.x1 R.x2 R.x3
abbrev HS1_4 := kernelRun0_A.sl.HS1_4 (F := Ideal) R.c R.arg2 R.harg2 R.arg3 R.harg3 R.arg4 R.harg4 R.arg5 R.harg5 R.arg11 R.arg12 R.arg13 R.arg14 R.x0 R.x1 R.x2 R.x3
abbrev HS1_6 := kernelRun0_A.sl.HS1_6 (F := Ideal) R.c R.arg2 R.harg2 R.arg3 R.harg3 R.arg4 R.harg4 R.arg5 R.harg5 R.arg11 R.arg12 R.arg13 R.arg14 R.x0 R.x1 R.x2 R.x3
abbrev HS2_2 := kernelRun0_A.sl.HS2_2 (F := Ideal) R.c R.arg2 R.harg2 R.arg3 R.harg3 R.arg4 R.harg4 R.arg5 R.harg5 R.arg11 R.arg12 R.arg13 R.x0 R.x1 R.x2 R.x3
abbrev HS2_4 := kernelRun0_A.sl.HS2_4 (F := Ideal) R.c R.arg2 R.harg2 R.arg3 R.harg3 R.arg4 R.harg4 R.arg5 R.harg5 R.arg11 R.arg12 R.arg13 R.arg14 R.x0 R.x1 R.x2 R.x3
abbrev HS2_5 := kernelRun0_A.sl.HS2_5 (F := Ideal) R.c R.arg2 R.harg2 R.arg3 R.harg3 R.arg4 R.harg4 R.arg5 R.harg5 R.arg11 R.arg12 R.arg13 R.arg14 R.x0 R.x1 R.x2 R.x3
abbrev HS2_6 := kernelRun0_A.sl.HS2_6 (F := Ideal) R.c R.arg2 R.harg2 R.arg3 R.harg3 R.arg4 R.harg4 R.arg5 R.harg5 R.arg11 R.arg12 R.arg13 R.arg14 R.x0 R.x1 R.x2 R.x3
abbrev H9_1 := kernelRun0_A.sl.H9_1 (F := Ideal) R.c R.arg3 R.harg3 R.x1
abbrev H9_2 := kernelRun0_A.sl.H9_2 (F := Ideal) R.c R.arg2 R.harg2 R.arg3 R.harg3 R.arg4 R.harg4 R.arg5 R.harg5 R.arg11 R.arg12 R.arg13 R.x0 R.x1 R.x2 R.x3
abbrev H9_3 := kernelRun0_A.sl.H9_3 (F := Ideal) R.c R.arg2 R.harg2 R.arg3 R.harg3 R.arg4 R.harg4 R.arg5 R.harg5 R.arg11 R.arg12 R.arg13 R.arg14 R.x0 R.x1 R.x2 R.x3
abbrev H9_4 := kernelRun0_A.sl.H9_4 (F := Ideal) R.c R.arg2 R.harg2 R.arg3 R.harg3 R.arg4 R.harg4 R.arg5 R.harg5 R.arg11 R.arg12 R.arg13 R.arg14 R.x0 R.x1 R.x2 R.x3
abbrev H9_5 := kernelRun0_A.sl.H9_5 (F := Ideal) R.c R.arg2 R.harg2 R.arg3 R.harg3 R.arg4 R.harg4 R.arg5 R.harg5 R.arg11 R.arg12 R.arg13 R.arg14 R.x0 R.x1 R.x2 R.x3
abbrev H9_6 := kernelRun0_A.sl.H9_6 (F := Ideal) R.c R.arg2 R.harg2 R.arg3 R.harg3 R.arg4 R.harg4 R.arg5 R.harg5 R.arg11 R.arg12 R.arg13 R.arg14 R.x0 R.x1 R.x2 R.x3
abbrev r := kernelRun0_A.sl.r (F := Ideal) R.c R.arg2 R.harg2 R.x0
abbrev r_4 := kernelRun0_A.sl.r_4 (F := Ideal) R.c R.arg2 R.harg2 R.arg3 R.harg3 R.arg4 R.harg4 R.arg5 R.harg5 R.arg6 R.harg6 R.arg7 R.harg7 R.arg11 R.arg12 R.arg13 R.arg14 R.x0 R.x1 R.x2 R.x3 R.x4 R.x5
abbrev r_5 := kernelRun0_A.sl.r_5 (F := Ideal) R.c R.arg2 R.harg2 R.arg3 R.harg3 R.arg4 R.harg4 R.arg5 R.harg5 R.arg6 R.harg6 R.arg7 R.harg7 R.arg11 R.arg12 R.arg13 R.x0 R.x1 R.x2 R.x3 R.x4 R.x5
abbrev r_6 := kernelRun0_A.sl.r_6 (F := Ideal) R.c R.arg2 R.harg2 R.arg3 R.harg3 R.arg4 R.harg4 R.arg5 R.harg5 R.arg6 R.harg6 R.arg7 R.harg7 R.arg8 R.harg8 R.arg11 R.arg12 R.arg13 R.arg14 R.x0 R.x1 R.x2 R.x3 R.x4 R.x5 R.x6
abbrev r_11 := kernelRun0_A.sl.r_11 (F := Ideal) R.c R.arg2 R.harg2 R.arg3 R.harg3 R.arg4 R.harg4 R.arg5 R.harg5 R.arg6 R.harg6 R.arg7 R.harg7 R.arg11 R.arg12 R.arg13 R.arg14 R.x0 R.x1 R.x2 R.x3 R.x4 R.x5
abbrev r_12 := kernelRun0_A.sl.r_12 (F := Ideal) R.c R.arg2 R.harg2 R.arg3 R.harg3 R.arg4 R.harg4 R.arg5 R.harg5 R.arg6 R.harg6 R.arg7 R.harg7 R.arg11 R.arg12 R.arg13 R.arg14 R.x0 R.x1 R.x2 R.x3 R.x4 R.x5
abbrev r_14 := kernelRun0_A.sl.r_14 (F := Ideal) R.c R.arg2 R.harg2 R.arg3 R.harg3 R.arg4 R.harg4 R.arg5 R.harg5 R.arg6 R.harg6 R.arg7 R.harg7 R.arg8 R.harg8 R.arg11 R.arg12 R.arg13 R.arg14 R.x0 R.x1 R.x2 R.x3 R.x4 R.x5 R.x6
abbrev r_15 := kernelRun0_A.sl.r_15 (F := Ideal) R.c R.arg2 R.harg2 R.arg4 R.harg4 R.arg5 R.harg5 R.arg12 R.x0 R.x2 R.x3
abbrev r_18 := kernelRun0_A.sl.r_18 (F := Ideal) R.c R.arg2 R.harg2 R.arg3 R.harg3 R.arg4 R.harg4 R.arg5 R.harg5 R.arg6 R.harg6 R.arg7 R.harg7 R.arg11 R.arg12 R.arg13 R.arg14 R.x0 R.x1 R.x2 R.x3 R.x4 R.x5
abbrev r_19 := kernelRun0_A.sl.r_19 (F := Ideal) R.c R.arg2 R.harg2 R.arg3 R.harg3 R.arg4 R.harg4 R.arg5 R.harg5 R.arg6 R.harg6 R.arg7 R.harg7 R.arg11 R.arg12 R.arg13 R.arg14 R.x0 R.x1 R.x2 R.x3 R.x4 R.x5
abbrev v311 := kernelRun0_A.sl.v311 (F := Ideal) R.c R.arg2 R.harg2 R.arg3 R.harg3 R.arg4 R.harg4 R.arg5 R.harg5 R.arg11 R.arg12 R.arg13 R.arg14 R.x0 R.x1 R.x2 R.x3
abbrev r_21 := kernelRun0_A.sl.r_21 (F := Ideal) R.c R.arg2 R.harg2 R.arg3 R.harg3 R.arg4 R.harg4 R.arg5 R.harg5 R.arg6 R.harg6 R.arg7 R.harg7 R.arg11 R.arg12 R.arg13 R.arg14 R.x0 R.x1 R.x2 R.x3 R.x4 R.x5
abbrev r_22 := kernelRun0_A.sl.r_22 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.x0 R.x1 R.x2 R.x3 R.x4 R.x5 R.x6 R.x7
abbrev r_23 := kernelRun0_A.sl.r_23 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.x0 R.x1 R.x2 R.x3 R.x4 R.x5 R.x6 R.x7
abbrev HS3_8 := kernelRun0_A.sl.HS3_8 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.x0 R.x1 R.x2 R.x3 R.x4 R.x5 R.x6 R.x7

end Run

variable {A : Args} {g : Fin 4} {R : Run} (H : Holds A g R)
include H

/-- The normalised rows, as the up-projections load them. -/
theorem h_at (r : Fin 512) (d : Fin 1024) : R.v30 (ix2 r d) = hn 1 A g r d := by
  simp (disch := decide) only [Run.v30, kernelRun0_A.sl.v30, kernelRun0_A.sl.HS0_1, View.readCov_unit_lit', View.readAt_eq_ld,
    Memref.IsWhole.read_unread]
  pointwise [k0_pay4]
  simp only [H.x0, H.x2, hn]

/-- The first store into the carried rows' buffer: the rows carried in. -/
theorem carry1 (r : Fin 16) (c : Fin 5632) : View.canon R.H9_1 (ix3 0 r c) = ext 1 A g ⟨r.val, by omega⟩ c := by
  simp (disch := decide) only [Run.H9_1, kernelRun0_A.sl.H9_1, View.canon_cons_unit_lit', View.readAt_eq_ld,
    Memref.IsWhole.read_unread]
  pointwise [k0_pay3]
  simp only [H.x1]

omit H in
/-- A scratch buffer filled for one tile of channels: sixteen carried rows over the rows projected onto the tile. -/
theorem buf {k : ℕ} (hk : k ≤ 1024) (col : Fin k → Fin 5632)
    (inbP : ∀ a, (![16, 0] : Fin 2 → ℕ) a + (![512, k] : Fin 2 → ℕ) a ≤ S528x1024.size a)
    (inbQ : ∀ a, (![0, 0] : Fin 2 → ℕ) a + (![16, k] : Fin 2 → ℕ) a ≤ S528x1024.size a)
    (P : (⟨2, ![512, k]⟩ : Shape).Idx → Elt Ideal .f32) (Q : (⟨2, ![16, k]⟩ : Shape).Idx → Elt Ideal .f32)
    (L : List (View.Piece (Elt Ideal) S528x1024 .f32))
    (hP : ∀ (r : Fin 512) (j : Fin k), P (ix2 r j) = up 1 A g r (col j))
    (hQ : ∀ (r : Fin 16) (j : Fin k), Q (ix2 r j) = ext 1 A g ⟨r.val, by omega⟩ (col j)) (r : Fin 528) (j : Fin k) :
    View.canon ((⟨Rect.unit (s := S528x1024) ![16, 0] ![512, k] inbP, P⟩ : View.Piece (Elt Ideal) S528x1024 .f32)
      :: (⟨Rect.unit (s := S528x1024) ![0, 0] ![16, k] inbQ, Q⟩ : View.Piece (Elt Ideal) S528x1024 .f32) :: L)
      (ix2 r ⟨j.val, by omega⟩) = ext 1 A g r (col j) := by
  by_cases h : r.val < 16
  · rw [Stores.miss2 inbP P _ r _ (by omega), Stores.hit2 inbQ Q L r _ ⟨r.val, h⟩ j (by simp) (by simp), hQ]
  · rw [Stores.hit2 inbP P _ r _ ⟨r.val - 16, by omega⟩ j (by simp; omega) (by simp), hP, ext, dif_neg h]

/-- The first buffer at the first tile: channels `0` to `1023`. -/
theorem buf_a1 (r : Fin 528) (j : Fin 1024) :
    View.canon R.HS1_2 (ix2 r j) = ext 1 A g r ⟨j.val, by omega⟩ := by
  have hh := h_at H
  have hc := carry1 H
  simp (disch := decide) only [Run.HS1_2, kernelRun0_A.sl.HS1_2, View.readAt_eq_ld, Memref.IsWhole.read_unread]
  refine buf (by omega) (fun j => ⟨j.val, by omega⟩) _ _ _ _ _ (fun r j => ?_) (fun r j => ?_) r j
  · pointwise [k0_pay7]
    simp only [hh, H.x3, up]
  · pointwise [k0_pay6]
    rw [kernelRun0_A.sl.v25, Stores.load3 _ _ _ _ _ _ 0 r ⟨j.val, by omega⟩ (by simp) (by simp) (by simp)]
    exact hc _ _

/-- The second tile onward still holds the rows carried in. -/
theorem carry2 (r : Fin 16) (c : Fin 5632) (h : 1024 ≤ c.val) : View.canon R.H9_2 (ix3 0 r c) = ext 1 A g ⟨r.val, by omega⟩ c := by
  rw [Run.H9_2, kernelRun0_A.sl.H9_2, Stores.miss3 _ _ _ _ _ _ (by omega)]
  exact carry1 H r c

/-- The second buffer at the first tile: channels `2816` to `3839`. -/
theorem buf_b1 (r : Fin 528) (j : Fin 1024) :
    View.canon R.HS2_2 (ix2 r ⟨j.val, by omega⟩) = ext 1 A g r ⟨2816 + j.val, by omega⟩ := by
  have hh := h_at H
  simp (disch := decide) only [Run.HS2_2, kernelRun0_A.sl.HS2_2, View.readAt_eq_ld, Memref.IsWhole.read_unread]
  refine buf (by omega) (fun j => ⟨2816 + j.val, by omega⟩) _ _ _ _ _ (fun r j => ?_) (fun r j => ?_) r j
  · pointwise [k0_pay10]
    simp only [hh, H.x3, up]
  · pointwise [k0_pay9]
    rw [kernelRun0_A.sl.v41, Stores.load3 _ _ _ _ _ _ 0 r ⟨2816 + j.val, by omega⟩ (by simp) (by simp) (by simp)]
    exact carry2 H _ _ (by simp; omega)

/-- So do the channels not yet stored after two stores. -/
theorem carry3 (r : Fin 16) (c : Fin 5632) (h : 1024 ≤ c.val ∧ (c.val < 2816 ∨ 3840 ≤ c.val)) : View.canon R.H9_3 (ix3 0 r c) = ext 1 A g ⟨r.val, by omega⟩ c := by
  rw [Run.H9_3, kernelRun0_A.sl.H9_3, Stores.miss3 _ _ _ _ _ _ (by omega)]
  exact carry2 H r c (by omega)

/-- The first buffer at the second tile: channels `1024` to `2047`. -/
theorem buf_a2 (r : Fin 528) (j : Fin 1024) :
    View.canon R.HS1_4 (ix2 r ⟨j.val, by omega⟩) = ext 1 A g r ⟨1024 + j.val, by omega⟩ := by
  have hh := h_at H
  simp (disch := decide) only [Run.HS1_4, kernelRun0_A.sl.HS1_4, View.readAt_eq_ld, Memref.IsWhole.read_unread]
  refine buf (by omega) (fun j => ⟨1024 + j.val, by omega⟩) _ _ _ _ _ (fun r j => ?_) (fun r j => ?_) r j
  · pointwise [k0_pay20]
    simp only [hh, H.x3, up]
  · pointwise [k0_pay19, kernelRun0_A.sl.r_7, k0_pay18]
    rw [kernelRun0_A.sl.v154, Stores.load3 _ _ _ _ _ _ 0 r ⟨1024 + j.val, by omega⟩ (by simp) (by simp) (by simp)]
    exact carry3 H _ _ (by simp; omega)

/-- So do the channels not yet stored after three stores. -/
theorem carry4 (r : Fin 16) (c : Fin 5632) (h : 2048 ≤ c.val ∧ (c.val < 2816 ∨ 3840 ≤ c.val)) : View.canon R.H9_4 (ix3 0 r c) = ext 1 A g ⟨r.val, by omega⟩ c := by
  rw [Run.H9_4, kernelRun0_A.sl.H9_4, Stores.miss3 _ _ _ _ _ _ (by omega)]
  exact carry3 H r c (by omega)

/-- The second buffer at the second tile: channels `3840` to `4863`. -/
theorem buf_b2 (r : Fin 528) (j : Fin 1024) :
    View.canon R.HS2_4 (ix2 r ⟨j.val, by omega⟩) = ext 1 A g r ⟨3840 + j.val, by omega⟩ := by
  have hh := h_at H
  simp (disch := decide) only [Run.HS2_4, kernelRun0_A.sl.HS2_4, View.readAt_eq_ld, Memref.IsWhole.read_unread]
  refine buf (by omega) (fun j => ⟨3840 + j.val, by omega⟩) _ _ _ _ _ (fun r j => ?_) (fun r j => ?_) r j
  · pointwise [k0_pay23]
    simp only [hh, H.x3, up]
  · pointwise [k0_pay22]
    rw [kernelRun0_A.sl.v170, Stores.load3 _ _ _ _ _ _ 0 r ⟨3840 + j.val, by omega⟩ (by simp) (by simp) (by simp)]
    exact carry4 H _ _ (by simp; omega)

/-- So do the channels not yet stored after four stores. -/
theorem carry5 (r : Fin 16) (c : Fin 5632) (h : 2048 ≤ c.val ∧ (c.val < 2816 ∨ 4864 ≤ c.val)) : View.canon R.H9_5 (ix3 0 r c) = ext 1 A g ⟨r.val, by omega⟩ c := by
  rw [Run.H9_5, kernelRun0_A.sl.H9_5, Stores.miss3 _ _ _ _ _ _ (by omega)]
  exact carry4 H r c (by omega)

/-- The first buffer at the third tile: channels `2048` to `2815`. -/
theorem buf_a3 (r : Fin 528) (j : Fin 768) :
    View.canon R.HS1_6 (ix2 r ⟨j.val, by omega⟩) = ext 1 A g r ⟨2048 + j.val, by omega⟩ := by
  have hh := h_at H
  simp (disch := decide) only [Run.HS1_6, kernelRun0_A.sl.HS1_6, View.readAt_eq_ld, Memref.IsWhole.read_unread]
  refine buf (by omega) (fun j => ⟨2048 + j.val, by omega⟩) _ _ _ _ _ (fun r j => ?_) (fun r j => ?_) r j
  · pointwise [k0_pay32]
    simp only [hh, H.x3, up]
  · pointwise [k0_pay31]
    rw [kernelRun0_A.sl.v283, Stores.load3 _ _ _ _ _ _ 0 r ⟨2048 + j.val, by omega⟩ (by simp) (by simp) (by simp)]
    exact carry5 H _ _ (by simp; omega)

/-- So do the channels not yet stored after five stores. -/
theorem carry6 (r : Fin 16) (c : Fin 5632) (h : 4864 ≤ c.val) : View.canon R.H9_6 (ix3 0 r c) = ext 1 A g ⟨r.val, by omega⟩ c := by
  rw [Run.H9_6, kernelRun0_A.sl.H9_6, Stores.miss3 _ _ _ _ _ _ (by omega)]
  exact carry5 H r c (by omega)

/-- The second buffer at the third tile: channels `4864` to `5631`. -/
theorem buf_b3 (r : Fin 528) (j : Fin 768) :
    View.canon R.HS2_6 (ix2 r ⟨j.val, by omega⟩) = ext 1 A g r ⟨4864 + j.val, by omega⟩ := by
  have hh := h_at H
  simp (disch := decide) only [Run.HS2_6, kernelRun0_A.sl.HS2_6, kernelRun0_A.sl.HS2_5, View.readAt_eq_ld, Memref.IsWhole.read_unread]
  refine buf (by omega) (fun j => ⟨4864 + j.val, by omega⟩) _ _ _ _ _ (fun r j => ?_) (fun r j => ?_) r j
  · simp only [kernelRun0_A.sl.r_15, View.readAt_eq_ld, Memref.IsWhole.read_unread]
    pointwise [k0_pay36, k0_pay35]
    simp only [hh, H.x3, up]
  · pointwise [k0_pay34]
    rw [kernelRun0_A.sl.v299, Stores.load3 _ _ _ _ _ _ 0 r ⟨4864 + j.val, by omega⟩ (by simp) (by simp) (by simp)]
    exact carry6 H _ _ (by simp)

omit H in
/-- Row `512 + r` of the extended projection is carried row `r`. -/
theorem carry_of {a : ℕ} {r : Fin 16} (c : Fin 5632) (h : a ≤ c.val) (h1 : 512 + r.val < 528) (h2 : a + (c.val - a) < 5632) :
    ext 1 A g ⟨512 + r.val, h1⟩ ⟨a + (c.val - a), h2⟩ = carry 1 A g r c := by
  have e : a + (c.val - a) = c.val := by omega
  simp only [carry, e, Nat.add_comm 512]

/-- The carried rows at the end of the run: each tile's last sixteen rows, stored tile by tile. -/
theorem carry_at (inb : ∀ a, (![0, 0, 4864] : Fin 3 → ℕ) a + S1x16x768.size a ≤ S1x16x5632.size a) (r : Fin 16) (c : Fin 5632) :
    View.canon ((⟨Rect.unit (s := S1x16x5632) ![0, 0, 4864] S1x16x768.size inb, k0_pay37 R.v311⟩
      : View.Piece (Elt Ideal) S1x16x5632 .f32) :: R.H9_6) (ix3 0 r c) = carry 1 A g r c := by
  by_cases h6 : 4864 ≤ c.val
  · rw [Stores.hit3 _ _ _ _ _ _ 0 r ⟨c.val - 4864, by omega⟩ (by simp) (by simp) (by simp; omega)]
    pointwise [k0_pay37]
    rw [Run.v311, kernelRun0_A.sl.v311, Stores.load2 _ _ _ _ _ ⟨512 + r.val, by omega⟩ ⟨c.val - 4864, by omega⟩ (by simp) (by simp)]
    exact (buf_b3 H _ ⟨c.val - 4864, by omega⟩).trans (carry_of c h6 _ _)
  rw [Stores.miss3 _ _ _ _ _ _ (by omega), Run.H9_6, kernelRun0_A.sl.H9_6]
  by_cases h5 : 2048 ≤ c.val ∧ c.val < 2816
  · rw [Stores.hit3 _ _ _ _ _ _ 0 r ⟨c.val - 2048, by omega⟩ (by simp) (by simp) (by simp; omega)]
    pointwise [k0_pay33]
    rw [kernelRun0_A.sl.v295, Stores.load2 _ _ _ _ _ ⟨512 + r.val, by omega⟩ ⟨c.val - 2048, by omega⟩ (by simp) (by simp)]
    exact (buf_a3 H _ ⟨c.val - 2048, by omega⟩).trans (carry_of c h5.1 _ _)
  rw [Stores.miss3 _ _ _ _ _ _ (by omega), kernelRun0_A.sl.H9_5]
  by_cases h4 : 3840 ≤ c.val
  · rw [Stores.hit3 _ _ _ _ _ _ 0 r ⟨c.val - 3840, by omega⟩ (by simp) (by simp) (by simp; omega)]
    pointwise [k0_pay24]
    rw [kernelRun0_A.sl.v182, Stores.load2 _ _ _ _ _ ⟨512 + r.val, by omega⟩ ⟨c.val - 3840, by omega⟩ (by simp) (by simp)]
    exact (buf_b2 H _ ⟨c.val - 3840, by omega⟩).trans (carry_of c h4 _ _)
  rw [Stores.miss3 _ _ _ _ _ _ (by omega), kernelRun0_A.sl.H9_4]
  by_cases h3 : 1024 ≤ c.val ∧ c.val < 2048
  · rw [Stores.hit3 _ _ _ _ _ _ 0 r ⟨c.val - 1024, by omega⟩ (by simp) (by simp) (by simp; omega)]
    pointwise [k0_pay21]
    rw [kernelRun0_A.sl.v166, Stores.load2 _ _ _ _ _ ⟨512 + r.val, by omega⟩ ⟨c.val - 1024, by omega⟩ (by simp) (by simp)]
    exact (buf_a2 H _ ⟨c.val - 1024, by omega⟩).trans (carry_of c h3.1 _ _)
  rw [Stores.miss3 _ _ _ _ _ _ (by omega), kernelRun0_A.sl.H9_3]
  by_cases h2 : 2816 ≤ c.val
  · rw [Stores.hit3 _ _ _ _ _ _ 0 r ⟨c.val - 2816, by omega⟩ (by simp) (by simp) (by simp; omega)]
    pointwise [k0_pay11]
    rw [kernelRun0_A.sl.v53, Stores.load2 _ _ _ _ _ ⟨512 + r.val, by omega⟩ ⟨c.val - 2816, by omega⟩ (by simp) (by simp)]
    exact (buf_b1 H _ ⟨c.val - 2816, by omega⟩).trans (carry_of c h2 _ _)
  rw [Stores.miss3 _ _ _ _ _ _ (by omega), kernelRun0_A.sl.H9_2]
  rw [Stores.hit3 _ _ _ _ _ _ 0 r ⟨c.val, by omega⟩ (by simp) (by simp) (by simp)]
  pointwise [k0_pay8]
  rw [kernelRun0_A.sl.v37, Stores.load2 _ _ _ _ _ ⟨512 + r.val, by omega⟩ ⟨c.val, by omega⟩ (by simp) (by simp)]
  refine (buf_a1 H _ ⟨c.val, by omega⟩).trans ?_
  rw [carry]; congr 1 <;> apply Fin.ext <;> simp <;> omega

omit H in
/-- A load of whole rows of a scratch buffer filled for one tile of channels. -/
theorem rows {k n : ℕ} (hk : k ≤ 1024) (v : View sig .tc .vmem S528x1024 .f32) (L : List (View.Piece (Elt Ideal) S528x1024 .f32))
    (col : Fin k → Fin 5632) (hL : ∀ (r : Fin 528) (j : Fin k), View.canon L (ix2 r ⟨j.val, by omega⟩) = ext 1 A g r (col j))
    (o : ℕ) (inb : ∀ a, (![o, 0] : Fin 2 → ℕ) a + (![n, k] : Fin 2 → ℕ) a ≤ S528x1024.size a) (r : Fin n) (j : Fin k) :
    v.readCov L (Rect.unit (s := S528x1024) ![o, 0] ![n, k] inb).toLoadRect (ix2 r j)
      = ext 1 A g ⟨o + r.val, by have h : o + n ≤ 528 := inb 0; omega⟩ (col j) := by
  have h : o + n ≤ 528 := inb 0
  rw [Stores.load2 v L inb r j ⟨o + r.val, by omega⟩ ⟨j.val, by omega⟩ rfl (by simp), hL]

/-- The activation of the first half of the rows at the first tile. -/
theorem act_lo1 (r : Fin 256) (j : Fin 1024) : R.r_4 (ix2 r j) = act 1 A g ⟨r.val, by omega⟩ ⟨j.val, by omega⟩ := by
  have ha := rows (A := A) (g := g) (n := 256) (by omega) R.arg13.view _ (fun j : Fin 1024 => ⟨j.val, by omega⟩) (buf_a1 H)
  have hb := rows (A := A) (g := g) (n := 256) (by omega) R.arg14.view _ (fun j : Fin 1024 => ⟨2816 + j.val, by omega⟩) (buf_b1 H)
  simp only [Run.r_4, kernelRun0_A.sl.r_4, kernelRun0_A.sl.r_1, kernelRun0_A.sl.r_2, kernelRun0_A.sl.r_3, View.readAt_eq_ld,
    Memref.IsWhole.read_unread]
  pointwise [k0_pay15, k0_pay12, k0_pay13, k0_pay14]
  simp only [kernelRun0_A.sl.v61, kernelRun0_A.sl.v68, kernelRun0_A.sl.v74, kernelRun0_A.sl.v82, kernelRun0_A.sl.v89, kernelRun0_A.sl.v95, ha, hb, H.x4, H.x5, act, conv]
  have e : 2816 + j.val = j.val + 2816 := by omega
  simp only [Nat.zero_add, Nat.add_comm 8, Nat.add_comm 16, e]

/-- The activation of the first half of the rows at the second tile. -/
theorem act_lo2 (r : Fin 256) (j : Fin 1024) : R.r_11 (ix2 r j) = act 1 A g ⟨r.val, by omega⟩ ⟨1024 + j.val, by omega⟩ := by
  have ha := rows (A := A) (g := g) (n := 256) (by omega) R.arg13.view _ (fun j : Fin 1024 => ⟨1024 + j.val, by omega⟩) (buf_a2 H)
  have hb := rows (A := A) (g := g) (n := 256) (by omega) R.arg14.view _ (fun j : Fin 1024 => ⟨3840 + j.val, by omega⟩) (buf_b2 H)
  simp only [Run.r_11, kernelRun0_A.sl.r_11, kernelRun0_A.sl.r_8, kernelRun0_A.sl.r_9, kernelRun0_A.sl.r_10, View.readAt_eq_ld,
    Memref.IsWhole.read_unread]
  pointwise [k0_pay28, k0_pay25, k0_pay26, k0_pay27]
  simp only [kernelRun0_A.sl.v190, kernelRun0_A.sl.v197, kernelRun0_A.sl.v203, kernelRun0_A.sl.v211, kernelRun0_A.sl.v218, kernelRun0_A.sl.v224, ha, hb, H.x4, H.x5, act, conv]
  have e : 3840 + j.val = 1024 + j.val + 2816 := by omega
  simp only [Nat.zero_add, Nat.add_comm 8, Nat.add_comm 16, e]

/-- The activation of the first half of the rows at the third tile. -/
theorem act_lo3 (r : Fin 256) (j : Fin 768) : R.r_18 (ix2 r j) = act 1 A g ⟨r.val, by omega⟩ ⟨2048 + j.val, by omega⟩ := by
  have ha := rows (A := A) (g := g) (n := 256) (by omega) R.arg13.view _ (fun j : Fin 768 => ⟨2048 + j.val, by omega⟩) (buf_a3 H)
  have hb := rows (A := A) (g := g) (n := 256) (by omega) R.arg14.view _ (fun j : Fin 768 => ⟨4864 + j.val, by omega⟩) (buf_b3 H)
  simp only [Run.r_18, kernelRun0_A.sl.r_18, kernelRun0_A.sl.r_16, kernelRun0_A.sl.r_17, View.readAt_eq_ld,
    Memref.IsWhole.read_unread]
  pointwise [k0_pay40, k0_pay38, k0_pay39]
  simp only [kernelRun0_A.sl.v319, kernelRun0_A.sl.v326, kernelRun0_A.sl.v332, kernelRun0_A.sl.v340, kernelRun0_A.sl.v347, kernelRun0_A.sl.v353, ha, hb, H.x4, H.x5, act, conv]
  have e : 4864 + j.val = 2048 + j.val + 2816 := by omega
  simp only [Nat.zero_add, Nat.add_comm 8, Nat.add_comm 16, e]

/-- The input plus the first tile's share of the output product. -/
theorem acc1 (r : Fin 512) (d : Fin 1024) :
    R.r_6 (ix2 r d) = A.x (ix3 g r d) + ∑ j : Fin 1024, act 1 A g r ⟨j.val, by omega⟩ * A.dn (ix3 1 ⟨j.val, by omega⟩ d) := by
  have ha := rows (A := A) (g := g) (n := 256) (by omega) R.arg13.view _ (fun j : Fin 1024 => ⟨j.val, by omega⟩) (buf_a1 H)
  have hb := rows (A := A) (g := g) (n := 256) (by omega) R.arg14.view _ (fun j : Fin 1024 => ⟨2816 + j.val, by omega⟩) (buf_b1 H)
  have hl := act_lo1 H
  simp only [Run.r_4] at hl
  simp only [Run.r_6, kernelRun0_A.sl.r_6, kernelRun0_A.sl.r_5, kernelRun0_A.sl.r, View.readAt_eq_ld, Memref.IsWhole.read_unread]
  pointwise [k0_pay17, k0_pay16, k0_pay5]
  rw [H.x0]
  refine congrArg _ (Finset.sum_congr rfl fun j _ => ?_)
  rw [H.x6]
  refine congrArg (· * _) ?_
  split
  · rw [hl]
  · have e0 : 256 + (r.val - 256) = r.val := by omega
    have e8 : 264 + (r.val - 256) = r.val + 8 := by omega
    have e16 : 272 + (r.val - 256) = r.val + 16 := by omega
    have e : 2816 + j.val = j.val + 2816 := by omega
    simp only [kernelRun0_A.sl.v107, kernelRun0_A.sl.v114, kernelRun0_A.sl.v120, kernelRun0_A.sl.v128, kernelRun0_A.sl.v135, kernelRun0_A.sl.v141, ha, hb, H.x4, H.x5, act, conv, e0, e8, e16, e]

/-- The sum after the second tile. -/
theorem acc2 (r : Fin 512) (d : Fin 1024) :
    R.r_14 (ix2 r d) = A.x (ix3 g r d) + ∑ j : Fin 1024, act 1 A g r ⟨j.val, by omega⟩ * A.dn (ix3 1 ⟨j.val, by omega⟩ d)
      + ∑ j : Fin 1024, act 1 A g r ⟨1024 + j.val, by omega⟩ * A.dn (ix3 1 ⟨1024 + j.val, by omega⟩ d) := by
  have h1 := acc1 H
  simp only [Run.r_6] at h1
  have ha := rows (A := A) (g := g) (n := 256) (by omega) R.arg13.view _ (fun j : Fin 1024 => ⟨1024 + j.val, by omega⟩) (buf_a2 H)
  have hb := rows (A := A) (g := g) (n := 256) (by omega) R.arg14.view _ (fun j : Fin 1024 => ⟨3840 + j.val, by omega⟩) (buf_b2 H)
  have hl := act_lo2 H
  simp only [Run.r_11] at hl
  simp only [Run.r_14, kernelRun0_A.sl.r_14, kernelRun0_A.sl.r_12, kernelRun0_A.sl.r_13, View.readAt_eq_ld, Memref.IsWhole.read_unread]
  pointwise [k0_pay30, k0_pay29]
  rw [h1]
  refine congrArg _ (Finset.sum_congr rfl fun j _ => ?_)
  rw [H.x6]
  refine congrArg (· * _) ?_
  split
  · rw [hl]
  · have e0 : 256 + (r.val - 256) = r.val := by omega
    have e8 : 264 + (r.val - 256) = r.val + 8 := by omega
    have e16 : 272 + (r.val - 256) = r.val + 16 := by omega
    have e : 3840 + j.val = 1024 + j.val + 2816 := by omega
    simp only [kernelRun0_A.sl.v236, kernelRun0_A.sl.v243, kernelRun0_A.sl.v249, kernelRun0_A.sl.v257, kernelRun0_A.sl.v264, kernelRun0_A.sl.v270, ha, hb, H.x4, H.x5, act, conv, e0, e8, e16, e]

/-- The activation at the third tile. -/
theorem act3 (r : Fin 512) (j : Fin 768) : R.r_21 (ix2 r j) = act 1 A g r ⟨2048 + j.val, by omega⟩ := by
  have ha := rows (A := A) (g := g) (n := 256) (by omega) R.arg13.view _ (fun j : Fin 768 => ⟨2048 + j.val, by omega⟩) (buf_a3 H)
  have hb := rows (A := A) (g := g) (n := 256) (by omega) R.arg14.view _ (fun j : Fin 768 => ⟨4864 + j.val, by omega⟩) (buf_b3 H)
  have hl := act_lo3 H
  simp only [Run.r_18] at hl
  simp only [Run.r_21, kernelRun0_A.sl.r_21, kernelRun0_A.sl.r_19, kernelRun0_A.sl.r_20, View.readAt_eq_ld, Memref.IsWhole.read_unread]
  pointwise [k0_pay43, k0_pay42, k0_pay41]
  split
  · rw [hl]
  · have e0 : 256 + (r.val - 256) = r.val := by omega
    have e8 : 264 + (r.val - 256) = r.val + 8 := by omega
    have e16 : 272 + (r.val - 256) = r.val + 16 := by omega
    have e : 4864 + j.val = 2048 + j.val + 2816 := by omega
    simp only [kernelRun0_A.sl.v365, kernelRun0_A.sl.v372, kernelRun0_A.sl.v378, kernelRun0_A.sl.v386, kernelRun0_A.sl.v393, kernelRun0_A.sl.v399, ha, hb, H.x4, H.x5, act, conv, e0, e8, e16, e]

omit H in
/-- A sum over the channels is the sum of the three tiles' sums. -/
theorem sum_tiles (f : Fin 2816 → EReal) :
    ∑ c, f c = ∑ j : Fin 1024, f ⟨j.val, by omega⟩ + ∑ j : Fin 1024, f ⟨1024 + j.val, by omega⟩
      + ∑ j : Fin 768, f ⟨2048 + j.val, by omega⟩ := by
  refine (Fin.sum_univ_add (a := 2048) (b := 768) f).trans (congrArg (· + _) ?_)
  exact Fin.sum_univ_add (a := 1024) (b := 1024) fun j => f ⟨j.val, by omega⟩

/-- The rows through the final norm. -/
theorem last_at (r : Fin 512) (d : Fin 1024) : R.r_22 (ix2 r d) = last 1 A g r d := by
  have h2 := acc2 H
  have h3 := act3 H
  simp only [Run.r_22, kernelRun0_A.sl.r_22, View.readAt_eq_ld, Memref.IsWhole.read_unread]
  pointwise [k0_pay44]
  simp only [h2, h3, H.x6, H.x7, last, out, sum_tiles, ← add_assoc]

/-- The buffer the rows are kept in, column tile by column tile. -/
theorem slab_at (j : Fin 8) (q : Fin 512) (c : Fin 128) :
    View.canon R.HS3_8 (ix3 j q c) = last 1 A g q ⟨j.val * 128 + c.val, by omega⟩ := by
  have h := last_at H
  simp only [Run.r_22, kernelRun0_A.sl.r_22] at h
  simp only [Run.HS3_8, kernelRun0_A.sl.HS3_8, kernelRun0_A.sl.r_22, kernelRun0_A.sl.r_23, Stores.plane]
  repeat' split
  · pointwise [k0_pay53]
    refine (h q _).trans (congrArg _ (Fin.ext ?_))
    show _ + c.val = j.val * 128 + c.val
    omega
  · pointwise [k0_pay52]
    refine (h q _).trans (congrArg _ (Fin.ext ?_))
    show _ + c.val = j.val * 128 + c.val
    omega
  · pointwise [k0_pay51]
    refine (h q _).trans (congrArg _ (Fin.ext ?_))
    show _ + c.val = j.val * 128 + c.val
    omega
  · pointwise [k0_pay50, k0_pay49]
    refine (h q _).trans (congrArg _ (Fin.ext ?_))
    show _ + c.val = j.val * 128 + c.val
    omega
  · pointwise [k0_pay48]
    refine (h q _).trans (congrArg _ (Fin.ext ?_))
    show _ + c.val = j.val * 128 + c.val
    omega
  · pointwise [k0_pay47]
    refine (h q _).trans (congrArg _ (Fin.ext ?_))
    show _ + c.val = j.val * 128 + c.val
    omega
  · pointwise [k0_pay46]
    refine (h q _).trans (congrArg _ (Fin.ext ?_))
    show _ + c.val = j.val * 128 + c.val
    omega
  · pointwise [k0_pay45]
    refine (h q _).trans (congrArg _ (Fin.ext ?_))
    show c.val = j.val * 128 + c.val
    omega
  · exact absurd j.isLt (by omega)

end Cert.LastIdeal
-- ==== Proof.LastStreams.lean ====
/- The last layer's stores into the result's block: sixty-four boxes, one for each stream of the group and each tile of
   128 columns.  The rows of one stream lie eight rows apart in the buffer they are kept in. -/
module

public import proofs.«01_k».proof.Proof.LastStages

@[expose] public section
set_option maxRecDepth 16384
noncomputable section
open Idealize.ShloMosaic Idealize.ShloMosaic.TcCoe Idealize.SL.Sem

namespace Cert.LastIdeal
open Cert.LastIdeal.Gen Cert.FfnSpec

/-- A group's block of the model's output: stream, position, column. -/
def block (A : Args) (g : Fin 4) : FVec Ideal S8x64x1024 .f32 :=
  fun i => last 1 A g ⟨(i 1).val * 8 + (i 0).val, by have := (i 0).isLt; have := (i 1).isLt; simp at *; omega⟩ (i 2)

/-- A store that puts there what the block holds in its box. -/
def Good (A : Args) (g : Fin 4) (p : View.Piece (Elt Ideal) S8x64x1024 .f32) : Prop := ∀ x, p.2 x = block A g (p.1.emb x)

variable {A : Args} {g : Fin 4} {R : Run} (H : Holds A g R)
include H

/-- Stream 7, column tile 7. -/
theorem store_7_7 : Good A g ⟨Rect.unit (s := S8x64x1024) ![7, 0, 896] ![1, 64, 128] inb_S8x64x1024_S1x64x128_7_0_896, k0_pay2 (F := Ideal) (kernelRun0_A.sl.v773 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 7) (p := 896) (inb := inb_S8x64x1024_S1x64x128_7_0_896) (v := R.arg15.view) (slab_at H) (by decide) (by decide) rfl
    (show _ = kernelRun0_A.sl.v773 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v773 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 7, column tile 6. -/
theorem store_7_6 : Good A g ⟨Rect.unit (s := S8x64x1024) ![7, 0, 768] ![1, 64, 128] inb_S8x64x1024_S1x64x128_7_0_768, k0_pay1 (F := Ideal) (kernelRun0_A.sl.r_36 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 6) (p := 768) (inb := inb_S8x64x1024_S1x64x128_7_0_768) (v := R.arg15.view) (slab_at H) (by decide) (by decide) rfl
    (show _ = kernelRun0_A.sl.v768 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v768 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 7, column tile 5. -/
theorem store_7_5 : Good A g ⟨Rect.unit (s := S8x64x1024) ![7, 0, 640] S1x64x128.size inb_S8x64x1024_S1x64x128_7_0_640, k0_pay127 (F := Ideal) (kernelRun0_A.sl.v763 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 5) (p := 640) (inb := inb_S8x64x1024_S1x64x128_7_0_640) (v := R.arg15.view) (slab_at H) (by decide) (by decide) rfl
    (show _ = kernelRun0_A.sl.v763 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v763 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 7, column tile 4. -/
theorem store_7_4 : Good A g ⟨Rect.unit (s := S8x64x1024) ![7, 0, 512] S1x64x128.size inb_S8x64x1024_S1x64x128_7_0_512, k0_pay126 (F := Ideal) (kernelRun0_A.sl.v758 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 4) (p := 512) (inb := inb_S8x64x1024_S1x64x128_7_0_512) (v := R.arg15.view) (slab_at H) (by decide) (by decide) rfl
    (show _ = kernelRun0_A.sl.v758 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v758 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 7, column tile 3. -/
theorem store_7_3 : Good A g ⟨Rect.unit (s := S8x64x1024) ![7, 0, 384] S1x64x128.size inb_S8x64x1024_S1x64x128_7_0_384, k0_pay125 (F := Ideal) (kernelRun0_A.sl.v753 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 3) (p := 384) (inb := inb_S8x64x1024_S1x64x128_7_0_384) (v := R.arg15.view) (slab_at H) (by decide) (by decide) rfl
    (show _ = kernelRun0_A.sl.v753 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v753 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 7, column tile 2. -/
theorem store_7_2 : Good A g ⟨Rect.unit (s := S8x64x1024) ![7, 0, 256] S1x64x128.size inb_S8x64x1024_S1x64x128_7_0_256, k0_pay124 (F := Ideal) (kernelRun0_A.sl.v748 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 2) (p := 256) (inb := inb_S8x64x1024_S1x64x128_7_0_256) (v := R.arg15.view) (slab_at H) (by decide) (by decide) rfl
    (show _ = kernelRun0_A.sl.v748 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v748 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 7, column tile 1. -/
theorem store_7_1 : Good A g ⟨Rect.unit (s := S8x64x1024) ![7, 0, 128] S1x64x128.size inb_S8x64x1024_S1x64x128_7_0_128, k0_pay123 (F := Ideal) (kernelRun0_A.sl.r_35 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 1) (p := 128) (inb := inb_S8x64x1024_S1x64x128_7_0_128) (v := R.arg15.view) (slab_at H) (by decide) (by decide) rfl
    (show _ = kernelRun0_A.sl.v743 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v743 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 7, column tile 0. -/
theorem store_7_0 : Good A g ⟨Rect.unit (s := S8x64x1024) ![7, 0, 0] S1x64x128.size inb_S8x64x1024_S1x64x128_7_0_0, k0_pay121 (F := Ideal) (kernelRun0_A.sl.v738 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 0) (p := 0) (inb := inb_S8x64x1024_S1x64x128_7_0_0) (v := R.arg15.view) (slab_at H) (by decide) (by decide) rfl
    (show _ = kernelRun0_A.sl.v738 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v738 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 6, column tile 7. -/
theorem store_6_7 : Good A g ⟨Rect.unit (s := S8x64x1024) ![6, 0, 896] S1x64x128.size inb_S8x64x1024_S1x64x128_6_0_896, k0_pay120 (F := Ideal) (kernelRun0_A.sl.v733 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 7) (p := 896) (inb := inb_S8x64x1024_S1x64x128_6_0_896) (v := R.arg15.view) (slab_at H) (by decide) (by decide) rfl
    (show _ = kernelRun0_A.sl.v733 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v733 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 6, column tile 6. -/
theorem store_6_6 : Good A g ⟨Rect.unit (s := S8x64x1024) ![6, 0, 768] S1x64x128.size inb_S8x64x1024_S1x64x128_6_0_768, k0_pay119 (F := Ideal) (kernelRun0_A.sl.v728 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 6) (p := 768) (inb := inb_S8x64x1024_S1x64x128_6_0_768) (v := R.arg15.view) (slab_at H) (by decide) (by decide) rfl
    (show _ = kernelRun0_A.sl.v728 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v728 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 6, column tile 5. -/
theorem store_6_5 : Good A g ⟨Rect.unit (s := S8x64x1024) ![6, 0, 640] S1x64x128.size inb_S8x64x1024_S1x64x128_6_0_640, k0_pay118 (F := Ideal) (kernelRun0_A.sl.v723 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 5) (p := 640) (inb := inb_S8x64x1024_S1x64x128_6_0_640) (v := R.arg15.view) (slab_at H) (by decide) (by decide) rfl
    (show _ = kernelRun0_A.sl.v723 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v723 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 6, column tile 4. -/
theorem store_6_4 : Good A g ⟨Rect.unit (s := S8x64x1024) ![6, 0, 512] S1x64x128.size inb_S8x64x1024_S1x64x128_6_0_512, k0_pay117 (F := Ideal) (kernelRun0_A.sl.r_34 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 4) (p := 512) (inb := inb_S8x64x1024_S1x64x128_6_0_512) (v := R.arg15.view) (slab_at H) (by decide) (by decide) rfl
    (show _ = kernelRun0_A.sl.v718 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v718 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 6, column tile 3. -/
theorem store_6_3 : Good A g ⟨Rect.unit (s := S8x64x1024) ![6, 0, 384] S1x64x128.size inb_S8x64x1024_S1x64x128_6_0_384, k0_pay115 (F := Ideal) (kernelRun0_A.sl.v713 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 3) (p := 384) (inb := inb_S8x64x1024_S1x64x128_6_0_384) (v := R.arg15.view) (slab_at H) (by decide) (by decide) rfl
    (show _ = kernelRun0_A.sl.v713 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v713 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 6, column tile 2. -/
theorem store_6_2 : Good A g ⟨Rect.unit (s := S8x64x1024) ![6, 0, 256] S1x64x128.size inb_S8x64x1024_S1x64x128_6_0_256, k0_pay114 (F := Ideal) (kernelRun0_A.sl.v708 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 2) (p := 256) (inb := inb_S8x64x1024_S1x64x128_6_0_256) (v := R.arg15.view) (slab_at H) (by decide) (by decide) rfl
    (show _ = kernelRun0_A.sl.v708 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v708 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 6, column tile 1. -/
theorem store_6_1 : Good A g ⟨Rect.unit (s := S8x64x1024) ![6, 0, 128] S1x64x128.size inb_S8x64x1024_S1x64x128_6_0_128, k0_pay113 (F := Ideal) (kernelRun0_A.sl.v703 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 1) (p := 128) (inb := inb_S8x64x1024_S1x64x128_6_0_128) (v := R.arg15.view) (slab_at H) (by decide) (by decide) rfl
    (show _ = kernelRun0_A.sl.v703 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v703 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 6, column tile 0. -/
theorem store_6_0 : Good A g ⟨Rect.unit (s := S8x64x1024) ![6, 0, 0] S1x64x128.size inb_S8x64x1024_S1x64x128_6_0_0, k0_pay112 (F := Ideal) (kernelRun0_A.sl.v698 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 0) (p := 0) (inb := inb_S8x64x1024_S1x64x128_6_0_0) (v := R.arg15.view) (slab_at H) (by decide) (by decide) rfl
    (show _ = kernelRun0_A.sl.v698 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v698 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 5, column tile 7. -/
theorem store_5_7 : Good A g ⟨Rect.unit (s := S8x64x1024) ![5, 0, 896] S1x64x128.size inb_S8x64x1024_S1x64x128_5_0_896, k0_pay111 (F := Ideal) (kernelRun0_A.sl.r_33 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 7) (p := 896) (inb := inb_S8x64x1024_S1x64x128_5_0_896) (v := R.arg15.view) (slab_at H) (by decide) (by decide) rfl
    (show _ = kernelRun0_A.sl.v693 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v693 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 5, column tile 6. -/
theorem store_5_6 : Good A g ⟨Rect.unit (s := S8x64x1024) ![5, 0, 768] S1x64x128.size inb_S8x64x1024_S1x64x128_5_0_768, k0_pay109 (F := Ideal) (kernelRun0_A.sl.v688 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 6) (p := 768) (inb := inb_S8x64x1024_S1x64x128_5_0_768) (v := R.arg15.view) (slab_at H) (by decide) (by decide) rfl
    (show _ = kernelRun0_A.sl.v688 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v688 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 5, column tile 5. -/
theorem store_5_5 : Good A g ⟨Rect.unit (s := S8x64x1024) ![5, 0, 640] S1x64x128.size inb_S8x64x1024_S1x64x128_5_0_640, k0_pay108 (F := Ideal) (kernelRun0_A.sl.v683 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 5) (p := 640) (inb := inb_S8x64x1024_S1x64x128_5_0_640) (v := R.arg15.view) (slab_at H) (by decide) (by decide) rfl
    (show _ = kernelRun0_A.sl.v683 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v683 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 5, column tile 4. -/
theorem store_5_4 : Good A g ⟨Rect.unit (s := S8x64x1024) ![5, 0, 512] S1x64x128.size inb_S8x64x1024_S1x64x128_5_0_512, k0_pay107 (F := Ideal) (kernelRun0_A.sl.v678 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 4) (p := 512) (inb := inb_S8x64x1024_S1x64x128_5_0_512) (v := R.arg15.view) (slab_at H) (by decide) (by decide) rfl
    (show _ = kernelRun0_A.sl.v678 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v678 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 5, column tile 3. -/
theorem store_5_3 : Good A g ⟨Rect.unit (s := S8x64x1024) ![5, 0, 384] S1x64x128.size inb_S8x64x1024_S1x64x128_5_0_384, k0_pay106 (F := Ideal) (kernelRun0_A.sl.v673 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 3) (p := 384) (inb := inb_S8x64x1024_S1x64x128_5_0_384) (v := R.arg15.view) (slab_at H) (by decide) (by decide) rfl
    (show _ = kernelRun0_A.sl.v673 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v673 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 5, column tile 2. -/
theorem store_5_2 : Good A g ⟨Rect.unit (s := S8x64x1024) ![5, 0, 256] S1x64x128.size inb_S8x64x1024_S1x64x128_5_0_256, k0_pay105 (F := Ideal) (kernelRun0_A.sl.r_32 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 2) (p := 256) (inb := inb_S8x64x1024_S1x64x128_5_0_256) (v := R.arg15.view) (slab_at H) (by decide) (by decide) rfl
    (show _ = kernelRun0_A.sl.v668 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v668 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 5, column tile 1. -/
theorem store_5_1 : Good A g ⟨Rect.unit (s := S8x64x1024) ![5, 0, 128] S1x64x128.size inb_S8x64x1024_S1x64x128_5_0_128, k0_pay103 (F := Ideal) (kernelRun0_A.sl.v663 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 1) (p := 128) (inb := inb_S8x64x1024_S1x64x128_5_0_128) (v := R.arg15.view) (slab_at H) (by decide) (by decide) rfl
    (show _ = kernelRun0_A.sl.v663 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v663 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 5, column tile 0. -/
theorem store_5_0 : Good A g ⟨Rect.unit (s := S8x64x1024) ![5, 0, 0] S1x64x128.size inb_S8x64x1024_S1x64x128_5_0_0, k0_pay102 (F := Ideal) (kernelRun0_A.sl.v658 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 0) (p := 0) (inb := inb_S8x64x1024_S1x64x128_5_0_0) (v := R.arg15.view) (slab_at H) (by decide) (by decide) rfl
    (show _ = kernelRun0_A.sl.v658 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v658 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 4, column tile 7. -/
theorem store_4_7 : Good A g ⟨Rect.unit (s := S8x64x1024) ![4, 0, 896] S1x64x128.size inb_S8x64x1024_S1x64x128_4_0_896, k0_pay101 (F := Ideal) (kernelRun0_A.sl.v653 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 7) (p := 896) (inb := inb_S8x64x1024_S1x64x128_4_0_896) (v := R.arg15.view) (slab_at H) (by decide) (by decide) rfl
    (show _ = kernelRun0_A.sl.v653 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v653 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 4, column tile 6. -/
theorem store_4_6 : Good A g ⟨Rect.unit (s := S8x64x1024) ![4, 0, 768] S1x64x128.size inb_S8x64x1024_S1x64x128_4_0_768, k0_pay100 (F := Ideal) (kernelRun0_A.sl.v648 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 6) (p := 768) (inb := inb_S8x64x1024_S1x64x128_4_0_768) (v := R.arg15.view) (slab_at H) (by decide) (by decide) rfl
    (show _ = kernelRun0_A.sl.v648 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v648 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 4, column tile 5. -/
theorem store_4_5 : Good A g ⟨Rect.unit (s := S8x64x1024) ![4, 0, 640] S1x64x128.size inb_S8x64x1024_S1x64x128_4_0_640, k0_pay99 (F := Ideal) (kernelRun0_A.sl.r_31 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 5) (p := 640) (inb := inb_S8x64x1024_S1x64x128_4_0_640) (v := R.arg15.view) (slab_at H) (by decide) (by decide) rfl
    (show _ = kernelRun0_A.sl.v643 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v643 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 4, column tile 4. -/
theorem store_4_4 : Good A g ⟨Rect.unit (s := S8x64x1024) ![4, 0, 512] S1x64x128.size inb_S8x64x1024_S1x64x128_4_0_512, k0_pay97 (F := Ideal) (kernelRun0_A.sl.v638 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 4) (p := 512) (inb := inb_S8x64x1024_S1x64x128_4_0_512) (v := R.arg15.view) (slab_at H) (by decide) (by decide) rfl
    (show _ = kernelRun0_A.sl.v638 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v638 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 4, column tile 3. -/
theorem store_4_3 : Good A g ⟨Rect.unit (s := S8x64x1024) ![4, 0, 384] S1x64x128.size inb_S8x64x1024_S1x64x128_4_0_384, k0_pay96 (F := Ideal) (kernelRun0_A.sl.v633 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 3) (p := 384) (inb := inb_S8x64x1024_S1x64x128_4_0_384) (v := R.arg15.view) (slab_at H) (by decide) (by decide) rfl
    (show _ = kernelRun0_A.sl.v633 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v633 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 4, column tile 2. -/
theorem store_4_2 : Good A g ⟨Rect.unit (s := S8x64x1024) ![4, 0, 256] S1x64x128.size inb_S8x64x1024_S1x64x128_4_0_256, k0_pay95 (F := Ideal) (kernelRun0_A.sl.v628 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 2) (p := 256) (inb := inb_S8x64x1024_S1x64x128_4_0_256) (v := R.arg15.view) (slab_at H) (by decide) (by decide) rfl
    (show _ = kernelRun0_A.sl.v628 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v628 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 4, column tile 1. -/
theorem store_4_1 : Good A g ⟨Rect.unit (s := S8x64x1024) ![4, 0, 128] S1x64x128.size inb_S8x64x1024_S1x64x128_4_0_128, k0_pay94 (F := Ideal) (kernelRun0_A.sl.v623 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 1) (p := 128) (inb := inb_S8x64x1024_S1x64x128_4_0_128) (v := R.arg15.view) (slab_at H) (by decide) (by decide) rfl
    (show _ = kernelRun0_A.sl.v623 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v623 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 4, column tile 0. -/
theorem store_4_0 : Good A g ⟨Rect.unit (s := S8x64x1024) ![4, 0, 0] S1x64x128.size inb_S8x64x1024_S1x64x128_4_0_0, k0_pay93 (F := Ideal) (kernelRun0_A.sl.r_30 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 0) (p := 0) (inb := inb_S8x64x1024_S1x64x128_4_0_0) (v := R.arg15.view) (slab_at H) (by decide) (by decide) rfl
    (show _ = kernelRun0_A.sl.v618 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v618 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 3, column tile 7. -/
theorem store_3_7 : Good A g ⟨Rect.unit (s := S8x64x1024) ![3, 0, 896] S1x64x128.size inb_S8x64x1024_S1x64x128_3_0_896, k0_pay91 (F := Ideal) (kernelRun0_A.sl.v613 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 7) (p := 896) (inb := inb_S8x64x1024_S1x64x128_3_0_896) (v := R.arg15.view) (slab_at H) (by decide) (by decide) rfl
    (show _ = kernelRun0_A.sl.v613 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v613 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 3, column tile 6. -/
theorem store_3_6 : Good A g ⟨Rect.unit (s := S8x64x1024) ![3, 0, 768] S1x64x128.size inb_S8x64x1024_S1x64x128_3_0_768, k0_pay90 (F := Ideal) (kernelRun0_A.sl.v608 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 6) (p := 768) (inb := inb_S8x64x1024_S1x64x128_3_0_768) (v := R.arg15.view) (slab_at H) (by decide) (by decide) rfl
    (show _ = kernelRun0_A.sl.v608 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v608 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 3, column tile 5. -/
theorem store_3_5 : Good A g ⟨Rect.unit (s := S8x64x1024) ![3, 0, 640] S1x64x128.size inb_S8x64x1024_S1x64x128_3_0_640, k0_pay89 (F := Ideal) (kernelRun0_A.sl.v603 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 5) (p := 640) (inb := inb_S8x64x1024_S1x64x128_3_0_640) (v := R.arg15.view) (slab_at H) (by decide) (by decide) rfl
    (show _ = kernelRun0_A.sl.v603 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v603 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 3, column tile 4. -/
theorem store_3_4 : Good A g ⟨Rect.unit (s := S8x64x1024) ![3, 0, 512] S1x64x128.size inb_S8x64x1024_S1x64x128_3_0_512, k0_pay88 (F := Ideal) (kernelRun0_A.sl.v598 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 4) (p := 512) (inb := inb_S8x64x1024_S1x64x128_3_0_512) (v := R.arg15.view) (slab_at H) (by decide) (by decide) rfl
    (show _ = kernelRun0_A.sl.v598 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v598 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 3, column tile 3. -/
theorem store_3_3 : Good A g ⟨Rect.unit (s := S8x64x1024) ![3, 0, 384] S1x64x128.size inb_S8x64x1024_S1x64x128_3_0_384, k0_pay87 (F := Ideal) (kernelRun0_A.sl.r_29 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 3) (p := 384) (inb := inb_S8x64x1024_S1x64x128_3_0_384) (v := R.arg15.view) (slab_at H) (by decide) (by decide) rfl
    (show _ = kernelRun0_A.sl.v593 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v593 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 3, column tile 2. -/
theorem store_3_2 : Good A g ⟨Rect.unit (s := S8x64x1024) ![3, 0, 256] S1x64x128.size inb_S8x64x1024_S1x64x128_3_0_256, k0_pay85 (F := Ideal) (kernelRun0_A.sl.v588 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 2) (p := 256) (inb := inb_S8x64x1024_S1x64x128_3_0_256) (v := R.arg15.view) (slab_at H) (by decide) (by decide) rfl
    (show _ = kernelRun0_A.sl.v588 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v588 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 3, column tile 1. -/
theorem store_3_1 : Good A g ⟨Rect.unit (s := S8x64x1024) ![3, 0, 128] S1x64x128.size inb_S8x64x1024_S1x64x128_3_0_128, k0_pay84 (F := Ideal) (kernelRun0_A.sl.v583 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 1) (p := 128) (inb := inb_S8x64x1024_S1x64x128_3_0_128) (v := R.arg15.view) (slab_at H) (by decide) (by decide) rfl
    (show _ = kernelRun0_A.sl.v583 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v583 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 3, column tile 0. -/
theorem store_3_0 : Good A g ⟨Rect.unit (s := S8x64x1024) ![3, 0, 0] S1x64x128.size inb_S8x64x1024_S1x64x128_3_0_0, k0_pay83 (F := Ideal) (kernelRun0_A.sl.v578 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 0) (p := 0) (inb := inb_S8x64x1024_S1x64x128_3_0_0) (v := R.arg15.view) (slab_at H) (by decide) (by decide) rfl
    (show _ = kernelRun0_A.sl.v578 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v578 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 2, column tile 7. -/
theorem store_2_7 : Good A g ⟨Rect.unit (s := S8x64x1024) ![2, 0, 896] S1x64x128.size inb_S8x64x1024_S1x64x128_2_0_896, k0_pay82 (F := Ideal) (kernelRun0_A.sl.v573 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 7) (p := 896) (inb := inb_S8x64x1024_S1x64x128_2_0_896) (v := R.arg15.view) (slab_at H) (by decide) (by decide) rfl
    (show _ = kernelRun0_A.sl.v573 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v573 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 2, column tile 6. -/
theorem store_2_6 : Good A g ⟨Rect.unit (s := S8x64x1024) ![2, 0, 768] S1x64x128.size inb_S8x64x1024_S1x64x128_2_0_768, k0_pay81 (F := Ideal) (kernelRun0_A.sl.r_28 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 6) (p := 768) (inb := inb_S8x64x1024_S1x64x128_2_0_768) (v := R.arg15.view) (slab_at H) (by decide) (by decide) rfl
    (show _ = kernelRun0_A.sl.v568 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v568 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 2, column tile 5. -/
theorem store_2_5 : Good A g ⟨Rect.unit (s := S8x64x1024) ![2, 0, 640] S1x64x128.size inb_S8x64x1024_S1x64x128_2_0_640, k0_pay79 (F := Ideal) (kernelRun0_A.sl.v563 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 5) (p := 640) (inb := inb_S8x64x1024_S1x64x128_2_0_640) (v := R.arg15.view) (slab_at H) (by decide) (by decide) rfl
    (show _ = kernelRun0_A.sl.v563 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v563 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 2, column tile 4. -/
theorem store_2_4 : Good A g ⟨Rect.unit (s := S8x64x1024) ![2, 0, 512] S1x64x128.size inb_S8x64x1024_S1x64x128_2_0_512, k0_pay78 (F := Ideal) (kernelRun0_A.sl.v558 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 4) (p := 512) (inb := inb_S8x64x1024_S1x64x128_2_0_512) (v := R.arg15.view) (slab_at H) (by decide) (by decide) rfl
    (show _ = kernelRun0_A.sl.v558 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v558 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 2, column tile 3. -/
theorem store_2_3 : Good A g ⟨Rect.unit (s := S8x64x1024) ![2, 0, 384] S1x64x128.size inb_S8x64x1024_S1x64x128_2_0_384, k0_pay77 (F := Ideal) (kernelRun0_A.sl.v553 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 3) (p := 384) (inb := inb_S8x64x1024_S1x64x128_2_0_384) (v := R.arg15.view) (slab_at H) (by decide) (by decide) rfl
    (show _ = kernelRun0_A.sl.v553 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v553 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 2, column tile 2. -/
theorem store_2_2 : Good A g ⟨Rect.unit (s := S8x64x1024) ![2, 0, 256] S1x64x128.size inb_S8x64x1024_S1x64x128_2_0_256, k0_pay76 (F := Ideal) (kernelRun0_A.sl.v548 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 2) (p := 256) (inb := inb_S8x64x1024_S1x64x128_2_0_256) (v := R.arg15.view) (slab_at H) (by decide) (by decide) rfl
    (show _ = kernelRun0_A.sl.v548 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v548 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 2, column tile 1. -/
theorem store_2_1 : Good A g ⟨Rect.unit (s := S8x64x1024) ![2, 0, 128] S1x64x128.size inb_S8x64x1024_S1x64x128_2_0_128, k0_pay75 (F := Ideal) (kernelRun0_A.sl.r_27 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 1) (p := 128) (inb := inb_S8x64x1024_S1x64x128_2_0_128) (v := R.arg15.view) (slab_at H) (by decide) (by decide) rfl
    (show _ = kernelRun0_A.sl.v543 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v543 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 2, column tile 0. -/
theorem store_2_0 : Good A g ⟨Rect.unit (s := S8x64x1024) ![2, 0, 0] S1x64x128.size inb_S8x64x1024_S1x64x128_2_0_0, k0_pay73 (F := Ideal) (kernelRun0_A.sl.v538 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 0) (p := 0) (inb := inb_S8x64x1024_S1x64x128_2_0_0) (v := R.arg15.view) (slab_at H) (by decide) (by decide) rfl
    (show _ = kernelRun0_A.sl.v538 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v538 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 1, column tile 7. -/
theorem store_1_7 : Good A g ⟨Rect.unit (s := S8x64x1024) ![1, 0, 896] S1x64x128.size inb_S8x64x1024_S1x64x128_1_0_896, k0_pay72 (F := Ideal) (kernelRun0_A.sl.v533 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 7) (p := 896) (inb := inb_S8x64x1024_S1x64x128_1_0_896) (v := R.arg15.view) (slab_at H) (by decide) (by decide) rfl
    (show _ = kernelRun0_A.sl.v533 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v533 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 1, column tile 6. -/
theorem store_1_6 : Good A g ⟨Rect.unit (s := S8x64x1024) ![1, 0, 768] S1x64x128.size inb_S8x64x1024_S1x64x128_1_0_768, k0_pay71 (F := Ideal) (kernelRun0_A.sl.v528 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 6) (p := 768) (inb := inb_S8x64x1024_S1x64x128_1_0_768) (v := R.arg15.view) (slab_at H) (by decide) (by decide) rfl
    (show _ = kernelRun0_A.sl.v528 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v528 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 1, column tile 5. -/
theorem store_1_5 : Good A g ⟨Rect.unit (s := S8x64x1024) ![1, 0, 640] S1x64x128.size inb_S8x64x1024_S1x64x128_1_0_640, k0_pay70 (F := Ideal) (kernelRun0_A.sl.v523 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 5) (p := 640) (inb := inb_S8x64x1024_S1x64x128_1_0_640) (v := R.arg15.view) (slab_at H) (by decide) (by decide) rfl
    (show _ = kernelRun0_A.sl.v523 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v523 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 1, column tile 4. -/
theorem store_1_4 : Good A g ⟨Rect.unit (s := S8x64x1024) ![1, 0, 512] S1x64x128.size inb_S8x64x1024_S1x64x128_1_0_512, k0_pay69 (F := Ideal) (kernelRun0_A.sl.r_26 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 4) (p := 512) (inb := inb_S8x64x1024_S1x64x128_1_0_512) (v := R.arg15.view) (slab_at H) (by decide) (by decide) rfl
    (show _ = kernelRun0_A.sl.v518 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v518 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 1, column tile 3. -/
theorem store_1_3 : Good A g ⟨Rect.unit (s := S8x64x1024) ![1, 0, 384] S1x64x128.size inb_S8x64x1024_S1x64x128_1_0_384, k0_pay67 (F := Ideal) (kernelRun0_A.sl.v513 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 3) (p := 384) (inb := inb_S8x64x1024_S1x64x128_1_0_384) (v := R.arg15.view) (slab_at H) (by decide) (by decide) rfl
    (show _ = kernelRun0_A.sl.v513 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v513 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 1, column tile 2. -/
theorem store_1_2 : Good A g ⟨Rect.unit (s := S8x64x1024) ![1, 0, 256] S1x64x128.size inb_S8x64x1024_S1x64x128_1_0_256, k0_pay66 (F := Ideal) (kernelRun0_A.sl.v508 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 2) (p := 256) (inb := inb_S8x64x1024_S1x64x128_1_0_256) (v := R.arg15.view) (slab_at H) (by decide) (by decide) rfl
    (show _ = kernelRun0_A.sl.v508 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v508 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 1, column tile 1. -/
theorem store_1_1 : Good A g ⟨Rect.unit (s := S8x64x1024) ![1, 0, 128] S1x64x128.size inb_S8x64x1024_S1x64x128_1_0_128, k0_pay65 (F := Ideal) (kernelRun0_A.sl.v503 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 1) (p := 128) (inb := inb_S8x64x1024_S1x64x128_1_0_128) (v := R.arg15.view) (slab_at H) (by decide) (by decide) rfl
    (show _ = kernelRun0_A.sl.v503 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v503 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 1, column tile 0. -/
theorem store_1_0 : Good A g ⟨Rect.unit (s := S8x64x1024) ![1, 0, 0] S1x64x128.size inb_S8x64x1024_S1x64x128_1_0_0, k0_pay64 (F := Ideal) (kernelRun0_A.sl.v498 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 0) (p := 0) (inb := inb_S8x64x1024_S1x64x128_1_0_0) (v := R.arg15.view) (slab_at H) (by decide) (by decide) rfl
    (show _ = kernelRun0_A.sl.v498 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v498 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 0, column tile 7. -/
theorem store_0_7 : Good A g ⟨Rect.unit (s := S8x64x1024) ![0, 0, 896] S1x64x128.size inb_S8x64x1024_S1x64x128_0_0_896, k0_pay63 (F := Ideal) (kernelRun0_A.sl.r_25 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 7) (p := 896) (inb := inb_S8x64x1024_S1x64x128_0_0_896) (v := R.arg15.view) (slab_at H) (by decide) (by decide) rfl
    (show _ = kernelRun0_A.sl.v493 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v493 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 0, column tile 6. -/
theorem store_0_6 : Good A g ⟨Rect.unit (s := S8x64x1024) ![0, 0, 768] S1x64x128.size inb_S8x64x1024_S1x64x128_0_0_768, k0_pay61 (F := Ideal) (kernelRun0_A.sl.v488 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 6) (p := 768) (inb := inb_S8x64x1024_S1x64x128_0_0_768) (v := R.arg15.view) (slab_at H) (by decide) (by decide) rfl
    (show _ = kernelRun0_A.sl.v488 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v488 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 0, column tile 5. -/
theorem store_0_5 : Good A g ⟨Rect.unit (s := S8x64x1024) ![0, 0, 640] S1x64x128.size inb_S8x64x1024_S1x64x128_0_0_640, k0_pay60 (F := Ideal) (kernelRun0_A.sl.v483 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 5) (p := 640) (inb := inb_S8x64x1024_S1x64x128_0_0_640) (v := R.arg15.view) (slab_at H) (by decide) (by decide) rfl
    (show _ = kernelRun0_A.sl.v483 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v483 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 0, column tile 4. -/
theorem store_0_4 : Good A g ⟨Rect.unit (s := S8x64x1024) ![0, 0, 512] S1x64x128.size inb_S8x64x1024_S1x64x128_0_0_512, k0_pay59 (F := Ideal) (kernelRun0_A.sl.v478 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 4) (p := 512) (inb := inb_S8x64x1024_S1x64x128_0_0_512) (v := R.arg15.view) (slab_at H) (by decide) (by decide) rfl
    (show _ = kernelRun0_A.sl.v478 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v478 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 0, column tile 3. -/
theorem store_0_3 : Good A g ⟨Rect.unit (s := S8x64x1024) ![0, 0, 384] S1x64x128.size inb_S8x64x1024_S1x64x128_0_0_384, k0_pay58 (F := Ideal) (kernelRun0_A.sl.v473 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 3) (p := 384) (inb := inb_S8x64x1024_S1x64x128_0_0_384) (v := R.arg15.view) (slab_at H) (by decide) (by decide) rfl
    (show _ = kernelRun0_A.sl.v473 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v473 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 0, column tile 2. -/
theorem store_0_2 : Good A g ⟨Rect.unit (s := S8x64x1024) ![0, 0, 256] S1x64x128.size inb_S8x64x1024_S1x64x128_0_0_256, k0_pay57 (F := Ideal) (kernelRun0_A.sl.r_24 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 2) (p := 256) (inb := inb_S8x64x1024_S1x64x128_0_0_256) (v := R.arg15.view) (slab_at H) (by decide) (by decide) rfl
    (show _ = kernelRun0_A.sl.v468 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v468 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 0, column tile 1. -/
theorem store_0_1 : Good A g ⟨Rect.unit (s := S8x64x1024) ![0, 0, 128] S1x64x128.size inb_S8x64x1024_S1x64x128_0_0_128, k0_pay55 (F := Ideal) (kernelRun0_A.sl.v463 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 1) (p := 128) (inb := inb_S8x64x1024_S1x64x128_0_0_128) (v := R.arg15.view) (slab_at H) (by decide) (by decide) rfl
    (show _ = kernelRun0_A.sl.v463 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v463 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 0, column tile 0. -/
theorem store_0_0 : Good A g ⟨Rect.unit (s := S8x64x1024) ![0, 0, 0] S1x64x128.size inb_S8x64x1024_S1x64x128_0_0_0, k0_pay54 (F := Ideal) (kernelRun0_A.sl.v458 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 0) (p := 0) (inb := inb_S8x64x1024_S1x64x128_0_0_0) (v := R.arg15.view) (slab_at H) (by decide) (by decide) rfl
    (show _ = kernelRun0_A.sl.v458 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v458 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Every store into the block puts there what the block holds. -/
theorem stores_good (i : grid0.Coords) (arg10 : Memref sig .tc .vmem S8x64x1024 .f32) (harg10 : arg10.IsWhole) (harg11 : R.arg11.IsWhole) (harg12 : R.arg12.IsWhole) (harg13 : R.arg13.IsWhole) (harg14 : R.arg14.IsWhole) (harg15 : R.arg15.IsWhole) (hc0 : cond0_0 i) :
    ∀ p ∈ (kernelRun0_A (F := Ideal) R.c i R.arg2 R.harg2 R.arg3 R.harg3 R.arg4 R.harg4 R.arg5 R.harg5 R.arg6 R.harg6 R.arg7 R.harg7 R.arg8 R.harg8 R.arg9 R.harg9 arg10 harg10 R.arg11 harg11 R.arg12 harg12 R.arg13 harg13 R.arg14 harg14 R.arg15 harg15 hc0 R.x0 R.x1 R.x2 R.x3 R.x4 R.x5 R.x6 R.x7).1, Good A g p := by
  rw [kernelRun0_A]
  refine List.forall_mem_cons.2 ⟨store_7_7 H, ?_⟩
  refine List.forall_mem_cons.2 ⟨store_7_6 H, ?_⟩
  refine List.forall_mem_cons.2 ⟨store_7_5 H, ?_⟩
  refine List.forall_mem_cons.2 ⟨store_7_4 H, ?_⟩
  refine List.forall_mem_cons.2 ⟨store_7_3 H, ?_⟩
  refine List.forall_mem_cons.2 ⟨store_7_2 H, ?_⟩
  refine List.forall_mem_cons.2 ⟨store_7_1 H, ?_⟩
  refine List.forall_mem_cons.2 ⟨store_7_0 H, ?_⟩
  refine List.forall_mem_cons.2 ⟨store_6_7 H, ?_⟩
  refine List.forall_mem_cons.2 ⟨store_6_6 H, ?_⟩
  refine List.forall_mem_cons.2 ⟨store_6_5 H, ?_⟩
  refine List.forall_mem_cons.2 ⟨store_6_4 H, ?_⟩
  refine List.forall_mem_cons.2 ⟨store_6_3 H, ?_⟩
  refine List.forall_mem_cons.2 ⟨store_6_2 H, ?_⟩
  refine List.forall_mem_cons.2 ⟨store_6_1 H, ?_⟩
  refine List.forall_mem_cons.2 ⟨store_6_0 H, ?_⟩
  refine List.forall_mem_cons.2 ⟨store_5_7 H, ?_⟩
  refine List.forall_mem_cons.2 ⟨store_5_6 H, ?_⟩
  refine List.forall_mem_cons.2 ⟨store_5_5 H, ?_⟩
  refine List.forall_mem_cons.2 ⟨store_5_4 H, ?_⟩
  refine List.forall_mem_cons.2 ⟨store_5_3 H, ?_⟩
  refine List.forall_mem_cons.2 ⟨store_5_2 H, ?_⟩
  refine List.forall_mem_cons.2 ⟨store_5_1 H, ?_⟩
  refine List.forall_mem_cons.2 ⟨store_5_0 H, ?_⟩
  refine List.forall_mem_cons.2 ⟨store_4_7 H, ?_⟩
  refine List.forall_mem_cons.2 ⟨store_4_6 H, ?_⟩
  refine List.forall_mem_cons.2 ⟨store_4_5 H, ?_⟩
  refine List.forall_mem_cons.2 ⟨store_4_4 H, ?_⟩
  refine List.forall_mem_cons.2 ⟨store_4_3 H, ?_⟩
  refine List.forall_mem_cons.2 ⟨store_4_2 H, ?_⟩
  refine List.forall_mem_cons.2 ⟨store_4_1 H, ?_⟩
  refine List.forall_mem_cons.2 ⟨store_4_0 H, ?_⟩
  refine List.forall_mem_cons.2 ⟨store_3_7 H, ?_⟩
  refine List.forall_mem_cons.2 ⟨store_3_6 H, ?_⟩
  refine List.forall_mem_cons.2 ⟨store_3_5 H, ?_⟩
  refine List.forall_mem_cons.2 ⟨store_3_4 H, ?_⟩
  refine List.forall_mem_cons.2 ⟨store_3_3 H, ?_⟩
  refine List.forall_mem_cons.2 ⟨store_3_2 H, ?_⟩
  refine List.forall_mem_cons.2 ⟨store_3_1 H, ?_⟩
  refine List.forall_mem_cons.2 ⟨store_3_0 H, ?_⟩
  refine List.forall_mem_cons.2 ⟨store_2_7 H, ?_⟩
  refine List.forall_mem_cons.2 ⟨store_2_6 H, ?_⟩
  refine List.forall_mem_cons.2 ⟨store_2_5 H, ?_⟩
  refine List.forall_mem_cons.2 ⟨store_2_4 H, ?_⟩
  refine List.forall_mem_cons.2 ⟨store_2_3 H, ?_⟩
  refine List.forall_mem_cons.2 ⟨store_2_2 H, ?_⟩
  refine List.forall_mem_cons.2 ⟨store_2_1 H, ?_⟩
  refine List.forall_mem_cons.2 ⟨store_2_0 H, ?_⟩
  refine List.forall_mem_cons.2 ⟨store_1_7 H, ?_⟩
  refine List.forall_mem_cons.2 ⟨store_1_6 H, ?_⟩
  refine List.forall_mem_cons.2 ⟨store_1_5 H, ?_⟩
  refine List.forall_mem_cons.2 ⟨store_1_4 H, ?_⟩
  refine List.forall_mem_cons.2 ⟨store_1_3 H, ?_⟩
  refine List.forall_mem_cons.2 ⟨store_1_2 H, ?_⟩
  refine List.forall_mem_cons.2 ⟨store_1_1 H, ?_⟩
  refine List.forall_mem_cons.2 ⟨store_1_0 H, ?_⟩
  refine List.forall_mem_cons.2 ⟨store_0_7 H, ?_⟩
  refine List.forall_mem_cons.2 ⟨store_0_6 H, ?_⟩
  refine List.forall_mem_cons.2 ⟨store_0_5 H, ?_⟩
  refine List.forall_mem_cons.2 ⟨store_0_4 H, ?_⟩
  refine List.forall_mem_cons.2 ⟨store_0_3 H, ?_⟩
  refine List.forall_mem_cons.2 ⟨store_0_2 H, ?_⟩
  refine List.forall_mem_cons.2 ⟨store_0_1 H, ?_⟩
  refine List.forall_mem_cons.2 ⟨store_0_0 H, ?_⟩
  exact fun p hp => absurd hp List.not_mem_nil

/-- So the stores leave the block. -/
theorem stored_block (i : grid0.Coords) (arg10 : Memref sig .tc .vmem S8x64x1024 .f32) (harg10 : arg10.IsWhole) (harg11 : R.arg11.IsWhole) (harg12 : R.arg12.IsWhole) (harg13 : R.arg13.IsWhole) (harg14 : R.arg14.IsWhole) (harg15 : R.arg15.IsWhole) (hc0 : cond0_0 i) (b : Fin 8) (s : Fin 64) (e : Fin 1024) :
    View.canon (kernelRun0_A (F := Ideal) R.c i R.arg2 R.harg2 R.arg3 R.harg3 R.arg4 R.harg4 R.arg5 R.harg5 R.arg6 R.harg6 R.arg7 R.harg7 R.arg8 R.harg8 R.arg9 R.harg9 arg10 harg10 R.arg11 harg11 R.arg12 harg12 R.arg13 harg13 R.arg14 harg14 R.arg15 harg15 hc0 R.x0 R.x1 R.x2 R.x3 R.x4 R.x5 R.x6 R.x7).1 (ix3 b s e) = last 1 A g ⟨s.val * 8 + b.val, by omega⟩ e :=
  View.canon_apply_of_pieces (Val := Elt Ideal) (e := .f32) (block A g) _ (stores_good H i arg10 harg10 harg11 harg12 harg13 harg14 harg15 hc0) (ix3 b s e) (cover0_A_8 ..)

end Cert.LastIdeal
-- ==== Proof.LastValue.lean ====
/- From one run of the feed-forward kernel's body to its two result arrays: at every grid point the input blocks are
   those of one group of streams, so what the point stores is the sublayer's output and carried rows of that group, and
   the four points' blocks make up the arrays. -/
module

public import proofs.«01_k».proof.Proof.Gen.LastIdeal.Value
public import proofs.«01_k».proof.Proof.LastStreams

@[expose] public section
set_option maxRecDepth 16384
noncomputable section
open Idealize.ShloMosaic Idealize.ShloMosaic.TcCoe Idealize.SL.Sem
open Idealize.ShloMosaic.Pipeline (Dat)

namespace Cert.LastIdeal.Arrays
open Cert.LastIdeal Cert.LastIdeal.Gen Cert.FfnSpec

variable (m : (ℓ : Loc nD τ sig) → Buf (Elt Ideal) ℓ)

/-- The sublayer's operands, as device `c` is launched with them. -/
def args (c : Dev nD) : Args where
  x := m ((c : Thread nD τ).loc main_arg0)
  st := m ((c : Thread nD τ).loc main_arg1)
  nw := m ((c : Thread nD τ).loc main_arg2)
  u := m ((c : Thread nD τ).loc main_arg3)
  cw := m ((c : Thread nD τ).loc main_arg4)
  cb := m ((c : Thread nD τ).loc main_arg5)
  dn := m ((c : Thread nD τ).loc main_arg6)
  fw := m ((c : Thread nD τ).loc main_arg7)

/-- The run of the body at grid point `t`. -/
def runAt (c : Dev nD) (t : Fin cfg0.N) : Run where
  c := c
  arg2 := ms0_0 t
  harg2 := hs0_0 t
  arg3 := ms0_1 t
  harg3 := hs0_1 t
  arg4 := ms0_2 t
  harg4 := hs0_2 t
  arg5 := ms0_3 t
  harg5 := hs0_3 t
  arg6 := ms0_4 t
  harg6 := hs0_4 t
  arg7 := ms0_5 t
  harg7 := hs0_5 t
  arg8 := ms0_6 t
  harg8 := hs0_6 t
  arg9 := ms0_7 t
  harg9 := hs0_7 t
  arg11 := ms0_9 t
  arg12 := scM0_0
  arg13 := scM0_1
  arg14 := scM0_2
  arg15 := scM0_3
  x0 := iblk m c 0 t
  x1 := iblk m c 1 t
  x2 := iblk m c 2 t
  x3 := iblk m c 3 t
  x4 := iblk m c 4 t
  x5 := iblk m c 5 t
  x6 := iblk m c 6 t
  x7 := iblk m c 7 t

/-- Where the blocks of point `t` lie: tokens, carried rows and results at group `t`, everything else at the layer. -/
theorem idx : ∀ t : Fin cfg0.N, win0_0.index t = ![t.val, 0, 0] ∧ win0_1.index t = ![1, t.val, 0, 0]
    ∧ win0_2.index t = ![1, 0, 0] ∧ win0_3.index t = ![1, 0, 0] ∧ win0_4.index t = ![1, 0, 0]
    ∧ win0_5.index t = ![1, 0, 0] ∧ win0_6.index t = ![1, 0, 0] ∧ win0_7.index t = ![0, 0]
    ∧ win0_8.index t = ![t.val, 0, 0] ∧ win0_9.index t = ![t.val, 0, 0] :=
  (by decide +kernel : ∀ t : Fin grid0.N, _)

/-- The group a grid point works on. -/
abbrev grp (t : Fin cfg0.N) : Fin 4 := ⟨t.val, t.isLt⟩

/-- Block `t` of the regrouped carried rows: row `r` is position `r / 8` of stream `r % 8` of the group. -/
theorem carried (c : Dev nD) (t : Fin cfg0.N) (r : Fin 16) (k : Fin 5632) :
    iblk m c 1 t (ix4 0 0 r k) = ext 1 (args m c) (grp t) ⟨r.val, by omega⟩ k := by
  have h : iblk m c 1 t (ix4 0 0 r k) = V m c main_v2 (ix4 1 (grp t) r k) := by blk_ext [iblk, idx t]
  refine h.trans ?_
  entry_read
  pointwise
  rw [ext, dif_pos r.isLt]
  rfl

set_option maxHeartbeats 1600000 in
/-- The body's input blocks at point `t` are group `t`'s operands. -/
theorem holds (c : Dev nD) (t : Fin cfg0.N) : Holds (args m c) (grp t) (runAt m c t) where
  x0 r d := by
    show iblk m c 0 t (ix3 0 r d) = (m ((c : Thread nD τ).loc main_arg0)) (ix3 (grp t) r d)
    blk_point [iblk, V, idx t]
  x1 r k := carried m c t r k
  x2 d := by
    show iblk m c 2 t (ix3 0 0 d) = (m ((c : Thread nD τ).loc main_arg2)) (ix2 1 d)
    blk_point [iblk, V, idx t]
  x3 d k := by
    show iblk m c 3 t (ix3 0 d k) = (m ((c : Thread nD τ).loc main_arg3)) (ix3 1 d k)
    blk_point [iblk, V, idx t]
  x4 k j := by
    show iblk m c 4 t (ix3 0 k j) = (m ((c : Thread nD τ).loc main_arg4)) (ix3 1 k j)
    blk_point [iblk, V, idx t]
  x5 j := by
    show iblk m c 5 t (ix3 0 0 j) = (m ((c : Thread nD τ).loc main_arg5)) (ix2 1 j)
    blk_point [iblk, V, idx t]
  x6 j e := by
    show iblk m c 6 t (ix3 0 j e) = (m ((c : Thread nD τ).loc main_arg6)) (ix3 1 j e)
    blk_point [iblk, V, idx t]
  x7 e := by
    show iblk m c 7 t (ix2 0 e) = (m ((c : Thread nD τ).loc main_arg7)) (ix1 e)
    blk_point [iblk, V, idx t]

/-- What point `t` stores in the first result's block: sixty-four boxes, one for each stream and column tile. -/
theorem stored8 (c : Dev nD) (t : Fin cfg0.N) (b : Fin 8) (s : Fin 64) (e : Fin 1024) :
    (outsAt0 m c t).1 (ix3 b s e) = last 1 (args m c) (grp t) ⟨s.val * 8 + b.val, by omega⟩ e := by
  simp only [outsAt0, out0_A_8, View.read_writes_junk_eq_canon]
  exact stored_block (holds m c t) _ _ _ _ _ _ _ _ _ b s e

/-- What point `t` stores in the second result's block. -/
theorem stored9 (c : Dev nD) (t : Fin cfg0.N) (r : Fin 16) (k : Fin 5632) :
    (outsAt0 m c t).2 (ix3 0 r k) = carry 1 (args m c) (grp t) r k := by
  refine Eq.trans ?_ (carry_at (holds m c t) inb_S1x16x5632_S1x16x768_0_0_4864 r k)
  simp only [outsAt0, out0_A_9, View.read_writes_junk_eq_canon]
  rw [kernelRun0_A]
  rfl

/-- Stream `b` of group `g` is stream `g * 8 + b` of all. -/
theorem regroup (A : Args) (g : Fin 4) (b : Fin 8) (q : Fin 64) (e : Fin 1024) (n s : ℕ) (e' : Fin 1024)
    (h0 : n = g.val * 8 + b.val) (h1 : s = q.val) (h2 : e' = e) (p : n / 8 < 4) (p' : s * 8 + n % 8 < 512) :
    last 1 A g ⟨q.val * 8 + b.val, by omega⟩ e = last 1 A ⟨n / 8, p⟩ ⟨s * 8 + n % 8, p'⟩ e' := by
  subst h0 h1 h2
  congr 1 <;> apply Fin.ext <;> simp <;> omega

/-- The first result array is the model's output: stream `n` is stream `n % 8` of group `n / 8`. -/
theorem final8 (c : Dev nD) : (dats m 0 c).arrAt 8 cfg0.N
    = (fun i => last 1 (args m c) ⟨(i 0).val / 8, by have := (i 0).isLt; simp at this; omega⟩
        ⟨(i 1).val * 8 + (i 0).val % 8, by have := (i 1).isLt; simp at this; omega⟩ (i 2) : FVec Ideal S32x64x1024 .f32) := by
  refine (dats m 0 c).arrAt_eq_of_covers 8 _ (by decide +kernel) fun t _ y => ?_
  blk_simp
  rw [after0_8]
  have e : y = ix3 (y 0) (y 1) (y 2) := eq_ix3 y
  refine Eq.trans (congrArg _ e) ((stored8 m c t (y 0) (y 1) (y 2)).trans ?_)
  refine regroup (args m c) (grp t) (y 0) (y 1) (y 2) _ _ _ ?_ ?_ ?_ _ _
  · blk_simp [idx t]
  · blk_simp [idx t]
  · apply Fin.ext
    blk_simp [idx t]

/-- The second result array is the rows carried on. -/
theorem final9 (c : Dev nD) : (dats m 0 c).arrAt 9 cfg0.N
    = (fun i => carry 1 (args m c) (i 0) (i 1) (i 2) : FVec Ideal S4x16x5632 .f32) := by
  refine (dats m 0 c).arrAt_eq_of_covers 9 _ (by decide +kernel) fun t _ y => ?_
  blk_simp
  rw [after0_9]
  have e : y = ix3 0 (y 1) (y 2) := by blk_ext
  refine Eq.trans (congrArg _ e) ((stored9 m c t (y 1) (y 2)).trans ?_)
  have h0 : (win0_9.blk t).view.emb y 0 = grp t := by
    apply Fin.ext
    blk_simp [idx t]
  have h1 : (win0_9.blk t).view.emb y 1 = y 1 := by
    apply Fin.ext
    blk_simp [idx t]
  have h2 : (win0_9.blk t).view.emb y 2 = y 2 := by
    apply Fin.ext
    blk_simp [idx t]
  rw [h0, h1, h2]

end Cert.LastIdeal.Arrays
-- ==== Proof.LastClaim.lean ====
/- The last layer's two value facts joined: the kernel's result arrays and the reference's results are the
   same functions of the same operands. -/
module

public import proofs.«01_k».proof.Defs
public import proofs.«01_k».proof.Proof.LastRef
public import proofs.«01_k».proof.Proof.LastValue
public import Idealize.ShloMosaic.Lib.Claim

@[expose] public section
set_option maxRecDepth 16384
noncomputable section
open Idealize.ShloMosaic Idealize.ShloMosaic.TcCoe Idealize.SL.Sem

namespace Cert.LastClaim
open Cert.FfnSpec

/-- A tensor is known by its entries. -/
theorem ext3 {a b c : ℕ} {f h : (⟨3, ![a, b, c]⟩ : Shape).Idx → EReal} (e : ∀ i j k, f (ix3 i j k) = h (ix3 i j k)) : f = h := by
  funext i
  rw [eq_ix3 i]
  exact e _ _ _

/-- The reference's first result, whole. -/
theorem ref1 (A : Args) : Cert.LastRefIdeal.Read.val_main_v72 (F := Ideal) A.x A.st A.nw A.u A.cw A.cb A.dn A.fw
    = (fun i => last 1 A ⟨(i 0).val / 8, by have := (i 0).isLt; simp at this; omega⟩
        ⟨(i 1).val * 8 + (i 0).val % 8, by have := (i 1).isLt; simp at this; omega⟩ (i 2) : FVec Ideal ⟨3, ![32, 64, 1024]⟩ .f32) := by
  refine ext3 fun n t c => ?_
  have e : n = Cert.LastRefIdeal.Read.sq ⟨n.val / 8, by omega⟩ ⟨n.val % 8, by omega⟩ := by
    apply Fin.ext
    show n.val = n.val / 8 * 8 + n.val % 8
    omega
  refine (congrArg (fun k => Cert.LastRefIdeal.Read.val_main_v72 (F := Ideal) A.x A.st A.nw A.u A.cw A.cb A.dn A.fw (ix3 k t c)) e).trans ?_
  exact Cert.LastRefIdeal.Read.res1_at A _ _ t c

/-- The reference's second result, whole. -/
theorem ref2 (A : Args) : Cert.LastRefIdeal.Read.val_main_v75 (F := Ideal) A.x A.st A.nw A.u
    = (fun i => carry 1 A (i 0) (i 1) (i 2) : FVec Ideal ⟨3, ![4, 16, 5632]⟩ .f32) :=
  ext3 fun g r c => Cert.LastRefIdeal.Read.res2_at A g r c

/-- The claim: both programs run, end with equal results, and leave their arguments as they were. -/
theorem algebraic : Cert.algebraic_LastIdeal_LastRefIdeal := by
  pair_intro
  · run_from Cert.LastIdeal.Gen.run_main m g
  · run_from Cert.LastRefIdeal.Value.run m' g'
    · obtain ⟨h0, h1, h2, h3, h4, h5, h6, h7⟩ := hagree c
      rw [Cert.LastRefIdeal.Read.val_main_v72_eq, h0, h1, h2, h3, h4, h5, h6, h7]
      exact (ref1 (Cert.LastIdeal.Arrays.args m c)).trans (Cert.LastIdeal.Arrays.final8 m c).symm
    · exact (ref2 (Cert.LastIdeal.Arrays.args m c)).trans (Cert.LastIdeal.Arrays.final9 m c).symm

/-- The reference runs to the end and leaves its arguments as they were. -/
theorem ref_frame : Cert.quiescent_LastRefIdeal := by
  intro m ρ _
  exact (θ_run Cert.LastRefIdeal.defs _ _).mono (fun r h => ⟨fun c => (h c).2.2, sem_eq_zero_of_no_sems (by decide) r.2⟩)
    (Cert.LastRefIdeal.Value.run m ρ)

end Cert.LastClaim
-- ==== Proof.PromptSpec.lean ====
/- What the convolutional feed-forward sublayer computes of the prompt batch, entry by entry, over the extended reals: no program appears
   here.  Rows of a group of eight streams are time-major: row `8 * t + i` is position `t` of stream `i` of the group.  The kernel
   takes a group in sixteen steps of 1024 rows; what one step computes is stated too, and is that part of the whole. -/
module

public import Idealize.ShloMosaic.Lib.Pipeline.ValueKit
public import Idealize.ShloMosaic.Lib.Pointwise

@[expose] public section
noncomputable section
open Idealize.ShloMosaic

namespace Cert.PromptSpec

/-- The operands of the sublayer: the tokens, the convolution's carried rows, the norm's gain, the up-projection, the
    convolution's taps and bias, the down-projection, each for both layers; the final norm's gain. -/
structure Args where
  x : FVec Ideal ⟨3, ![4, 16384, 1024]⟩ .f32
  st : FVec Ideal ⟨4, ![2, 32, 2, 5632]⟩ .f32
  nw : FVec Ideal ⟨2, ![2, 1024]⟩ .f32
  u : FVec Ideal ⟨3, ![2, 1024, 5632]⟩ .f32
  cw : FVec Ideal ⟨3, ![2, 3, 5632]⟩ .f32
  cb : FVec Ideal ⟨2, ![2, 5632]⟩ .f32
  dn : FVec Ideal ⟨3, ![2, 2816, 1024]⟩ .f32
  fw : FVec Ideal ⟨1, ![1024]⟩ .f32

variable (l : Fin 2) (A : Args)

/-- The normalised token: entry `d` of row `r` of group `g`, divided by the root of the row's mean square, times the gain. -/
def hn (g : Fin 4) (r : Fin 16384) (d : Fin 1024) : EReal :=
  A.x (ix3 g r d)
      * Ideal.rsqrt (Ideal.div (∑ k : Fin 1024, A.x (ix3 g r k) * A.x (ix3 g r k)) (Ideal.ofBits .f32 0x44800000#32)
          + Ideal.ofBits .f32 0x358637BD#32)
    * A.nw (ix2 l d)

/-- The up-projection of the normalised row. -/
def up (g : Fin 4) (r : Fin 16384) (c : Fin 5632) : EReal := ∑ d : Fin 1024, hn l A g r d * A.u (ix3 l d c)

/-- The rows the convolution runs over: the sixteen carried ones (two positions of eight streams), then the projected ones. -/
def ext (g : Fin 4) (r : Fin 16400) (c : Fin 5632) : EReal :=
  if h : r.val < 16 then A.st (ix4 l ⟨g.val * 8 + r.val % 8, by omega⟩ ⟨r.val / 8, by omega⟩ c)
  else up l A g ⟨r.val - 16, by omega⟩ c

/-- The causal convolution of three taps along time, with its bias. -/
def conv (g : Fin 4) (r : Fin 16384) (c : Fin 5632) : EReal :=
  A.cb (ix2 l c) + A.cw (ix3 l 0 c) * ext l A g ⟨r.val, by omega⟩ c + A.cw (ix3 l 1 c) * ext l A g ⟨r.val + 8, by omega⟩ c
    + A.cw (ix3 l 2 c) * ext l A g ⟨r.val + 16, by omega⟩ c

/-- The gated activation: the first half of the channels through `z * logistic z`, times the second half. -/
def act (g : Fin 4) (r : Fin 16384) (c : Fin 2816) : EReal :=
  conv l A g r ⟨c.val, by omega⟩ * Ideal.logistic (conv l A g r ⟨c.val, by omega⟩) * conv l A g r ⟨c.val + 2816, by omega⟩

/-- The first result: the token plus the down-projection of its activation. -/
def out (g : Fin 4) (r : Fin 16384) (e : Fin 1024) : EReal :=
  A.x (ix3 g r e) + ∑ c : Fin 2816, act l A g r c * A.dn (ix3 l c e)

/-- The second result: the rows the convolution carries on, the last sixteen. -/
def carry (g : Fin 4) (r : Fin 16) (c : Fin 5632) : EReal := ext l A g ⟨r.val + 16384, by omega⟩ c

/-- The model's output: the first result through the final norm. -/
def last (g : Fin 4) (r : Fin 16384) (e : Fin 1024) : EReal :=
  out l A g r e
      * Ideal.rsqrt (Ideal.div (∑ k : Fin 1024, out l A g r k * out l A g r k) (Ideal.ofBits .f32 0x44800000#32)
          + Ideal.ofBits .f32 0x358637BD#32)
    * A.fw (ix1 e)

/-- One step's operands: its 1024 rows of tokens, the sixteen rows carried into it, one layer's weights. -/
structure Step where
  x : Fin 1024 → Fin 1024 → EReal
  cr : Fin 16 → Fin 5632 → EReal
  nw : Fin 1024 → EReal
  u : Fin 1024 → Fin 5632 → EReal
  cw : Fin 3 → Fin 5632 → EReal
  cb : Fin 5632 → EReal
  dn : Fin 2816 → Fin 1024 → EReal
  fw : Fin 1024 → EReal

namespace Step
variable (S : Step)

/-- The step's normalised rows. -/
def hn (r : Fin 1024) (d : Fin 1024) : EReal :=
  S.x r d * Ideal.rsqrt (Ideal.div (∑ k : Fin 1024, S.x r k * S.x r k) (Ideal.ofBits .f32 0x44800000#32)
      + Ideal.ofBits .f32 0x358637BD#32) * S.nw d

/-- Their up-projection. -/
def up (r : Fin 1024) (c : Fin 5632) : EReal := ∑ d : Fin 1024, S.hn r d * S.u d c

/-- The rows the step's convolution runs over: the carried ones, then the projected ones. -/
def ext (r : Fin 1040) (c : Fin 5632) : EReal :=
  if h : r.val < 16 then S.cr ⟨r.val, h⟩ c else S.up ⟨r.val - 16, by omega⟩ c

/-- The step's convolution. -/
def conv (r : Fin 1024) (c : Fin 5632) : EReal :=
  S.cb c + S.cw 0 c * S.ext ⟨r.val, by omega⟩ c + S.cw 1 c * S.ext ⟨r.val + 8, by omega⟩ c
    + S.cw 2 c * S.ext ⟨r.val + 16, by omega⟩ c

/-- The step's gated activation. -/
def act (r : Fin 1024) (c : Fin 2816) : EReal :=
  S.conv r ⟨c.val, by omega⟩ * Ideal.logistic (S.conv r ⟨c.val, by omega⟩) * S.conv r ⟨c.val + 2816, by omega⟩

/-- The step's rows of the first result. -/
def out (r : Fin 1024) (e : Fin 1024) : EReal := S.x r e + ∑ c : Fin 2816, S.act r c * S.dn c e

/-- The rows the step carries on. -/
def carry (r : Fin 16) (c : Fin 5632) : EReal := S.ext ⟨r.val + 1024, by omega⟩ c

/-- The step's rows of the first result through the final norm. -/
def last (r : Fin 1024) (e : Fin 1024) : EReal :=
  S.out r e * Ideal.rsqrt (Ideal.div (∑ k : Fin 1024, S.out r k * S.out r k) (Ideal.ofBits .f32 0x44800000#32)
      + Ideal.ofBits .f32 0x358637BD#32) * S.fw e

end Step

/-- Step `s` of group `g`: the group's rows from `1024 * s` on, and the sixteen rows before them that the convolution needs. -/
def step (g : Fin 4) (s : Fin 16) : Step where
  x r d := A.x (ix3 g ⟨s.val * 1024 + r.val, by omega⟩ d)
  cr r c := ext l A g ⟨s.val * 1024 + r.val, by omega⟩ c
  nw d := A.nw (ix2 l d)
  u d c := A.u (ix3 l d c)
  cw k c := A.cw (ix3 l k c)
  cb c := A.cb (ix2 l c)
  dn c e := A.dn (ix3 l c e)
  fw e := A.fw (ix1 e)

variable (g : Fin 4) (s : Fin 16)

/-- A step's extended rows are the whole sequence's, from `1024 * s` on. -/
theorem step_ext (r : Fin 1040) (c : Fin 5632) : (step l A g s).ext r c = ext l A g ⟨s.val * 1024 + r.val, by omega⟩ c := by
  by_cases h : r.val < 16
  · rw [Step.ext, dif_pos h]; rfl
  · have h' : ¬ s.val * 1024 + r.val < 16 := by omega
    have e : s.val * 1024 + (r.val - 16) = s.val * 1024 + r.val - 16 := by omega
    rw [Step.ext, dif_neg h, ext, dif_neg h']
    simp only [Step.up, Step.hn, up, hn, step, e]

/-- A step's convolution is the whole sequence's, from `1024 * s` on. -/
theorem step_conv (r : Fin 1024) (c : Fin 5632) : (step l A g s).conv r c = conv l A g ⟨s.val * 1024 + r.val, by omega⟩ c := by
  simp only [Step.conv, step_ext, conv, Nat.add_assoc]
  simp only [step]

/-- So are its rows of the first result. -/
theorem step_out (r : Fin 1024) (e : Fin 1024) : (step l A g s).out r e = out l A g ⟨s.val * 1024 + r.val, by omega⟩ e := by
  simp only [Step.out, Step.act, step_conv, out, act]
  simp only [step]

/-- And through the final norm. -/
theorem step_last (r : Fin 1024) (e : Fin 1024) : (step l A g s).last r e = last l A g ⟨s.val * 1024 + r.val, by omega⟩ e := by
  simp only [Step.last, step_out, last]
  simp only [step]

/-- What a step carries on is what the next one is carried. -/
theorem step_carry (r : Fin 16) (c : Fin 5632) :
    (step l A g s).carry r c = ext l A g ⟨(s.val + 1) * 1024 + r.val, by omega⟩ c := by
  have e : s.val * 1024 + (r.val + 1024) = (s.val + 1) * 1024 + r.val := by omega
  simp only [Step.carry, step_ext, e]

end Cert.PromptSpec
-- ==== Proof.PromptRef.lean ====
/- The reference of the last layer's feed-forward sublayer with the final norm for the prompt batch, read entry by entry: each stage of the plain program is the
   corresponding function of `Cert.PromptSpec`, and so are its two results. -/
module

public import proofs.«01_k».proof.Proof.Gen.PromptRefIdeal.Run
public import proofs.«01_k».proof.Proof.Gen.PromptRefIdeal.Read
public import proofs.«01_k».proof.Proof.PromptSpec

@[expose] public section
set_option maxRecDepth 16384
noncomputable section
open Idealize.ShloMosaic Idealize.ShloMosaic.TcCoe Idealize.SL.Sem

namespace Cert.PromptRefIdeal.Read
open Cert.PromptSpec

variable (A : Args)

/-- Stream `i` of group `g` among all thirty-two. -/
abbrev sq (g : Fin 4) (i : Fin 8) : Fin 32 := ⟨g.val * 8 + i.val, by omega⟩
/-- The row of position `t` of stream `i` in its group. -/
abbrev rw8 (t : Fin 2048) (i : Fin 8) : Fin 16384 := ⟨t.val * 8 + i.val, by omega⟩

/-- The tokens of one stream, taken out of their group. -/
theorem streams_at (g : Fin 4) (i : Fin 8) (t : Fin 2048) (d : Fin 1024) :
    val_main_v2 (F := Ideal) A.x (ix3 (sq g i) t d) = A.x (ix3 g (rw8 t i) d) := by
  pointwise [val_main_v2, val_main_v1, val_main_v0]
  congr 2 <;> apply Fin.ext <;> simp <;> omega

/-- The norm's output is `hn`. -/
theorem norm_at (g : Fin 4) (i : Fin 8) (t : Fin 2048) (d : Fin 1024) :
    val_main_v17 (F := Ideal) A.x A.nw (ix3 (sq g i) t d) = hn 1 A g (rw8 t i) d := by
  have hs := streams_at A g i t
  pointwise [val_main_v17, val_main_v16, val_main_v15, val_main_v14, val_main_v13, val_main_v12, val_main_v11,
    val_main_v10, val_main_v9, val_main_v8, val_main_v7, val_main_v6, val_main_v5, val_main_v4, val_main_v3,
    val_main_cst, val_main_cst_0, val_main_cst_1]
  simp only [hs, hn]

/-- The up-projection is `up`. -/
theorem up_at (g : Fin 4) (i : Fin 8) (t : Fin 2048) (c : Fin 5632) :
    val_main_v20 (F := Ideal) A.x A.nw A.u (ix3 (sq g i) t c) = up 1 A g (rw8 t i) c := by
  have hs := norm_at A g i t
  pointwise [val_main_v20, val_main_v19, val_main_v18]
  simp only [hs, up]

/-- The carried rows followed by the projected ones are `ext`. -/
theorem ext_at (g : Fin 4) (i : Fin 8) (s : Fin 2050) (c : Fin 5632) :
    val_main_v27 (F := Ideal) A.x A.st A.nw A.u (ix3 (sq g i) s c) = ext 1 A g ⟨s.val * 8 + i.val, by omega⟩ c := by
  have hu := up_at A g i
  pointwise [val_main_v27, val_main_v22, val_main_v21]
  simp only [ext]
  by_cases h : s.val < 2
  · rw [dif_pos h, dif_pos (by omega)]
    congr 2 <;> apply Fin.ext <;> simp <;> omega
  · rw [dif_neg h, dif_neg (by omega), hu]
    congr 1; apply Fin.ext; simp; omega

theorem conv_at (g : Fin 4) (i : Fin 8) (t : Fin 2048) (c : Fin 5632) :
    val_main_v50 (F := Ideal) A.x A.st A.nw A.u A.cw A.cb (ix3 (sq g i) t c) = conv 1 A g (rw8 t i) c := by
  have hs := ext_at A g i
  pointwise [val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v26, val_main_v25, val_main_v24, val_main_v23]
  simp only [hs, conv]
  have e1 : (1 + t.val) * 8 + i.val = t.val * 8 + i.val + 8 := by omega
  have e2 : (2 + t.val) * 8 + i.val = t.val * 8 + i.val + 16 := by omega
  simp only [e1, e2]
  rw [add_comm, ← add_assoc, ← add_assoc]

theorem act_at (g : Fin 4) (i : Fin 8) (t : Fin 2048) (c : Fin 2816) :
    val_main_v55 (F := Ideal) A.x A.st A.nw A.u A.cw A.cb (ix3 (sq g i) t c) = act 1 A g (rw8 t i) c := by
  have hs := conv_at A g i t
  pointwise [val_main_v55, val_main_v54, val_main_v53, val_main_v52, val_main_call0_v0, val_main_call0_v1, val_main_call0_v2, val_main_call0_v3, val_main_call0_v4, val_main_call0_v5, val_main_call0_cst, val_main_call0_cst_0]
  simp only [hs, act, Ideal.logistic, Nat.add_comm 2816]

theorem out_at (g : Fin 4) (i : Fin 8) (t : Fin 2048) (c : Fin 1024) :
    val_main_v59 (F := Ideal) A.x A.st A.nw A.u A.cw A.cb A.dn (ix3 (sq g i) t c) = out 1 A g (rw8 t i) c := by
  have hs := act_at A g i t
  have h2 := streams_at A g i t
  pointwise [val_main_v59, val_main_v58, val_main_v57, val_main_v56]
  simp only [hs, h2, out]

/-- The first result: the residual sum through the final norm. -/
theorem res1_at (g : Fin 4) (i : Fin 8) (t : Fin 2048) (c : Fin 1024) :
    val_main_v72 (F := Ideal) A.x A.st A.nw A.u A.cw A.cb A.dn A.fw (ix3 (sq g i) t c) = last 1 A g (rw8 t i) c := by
  have hs := out_at A g i t
  pointwise [val_main_v72, val_main_v71, val_main_v70, val_main_v69, val_main_v68, val_main_v67, val_main_v66, val_main_v65,
    val_main_v64, val_main_v63, val_main_v62, val_main_v61, val_main_v60, val_main_cst_2, val_main_cst_3, val_main_cst_4]
  simp only [hs, last]

theorem res2_at (g : Fin 4) (r : Fin 16) (c : Fin 5632) :
    val_main_v75 (F := Ideal) A.x A.st A.nw A.u  (ix3 g r c) = carry 1 A g r c := by
  have hs := ext_at A g ⟨r.val % 8, by omega⟩ ⟨2048 + r.val / 8, by omega⟩ c
  pointwise [val_main_v75, val_main_v74, val_main_v73, val_main_v51]
  refine Eq.trans hs ?_
  rw [carry]
  congr 1; apply Fin.ext; simp; omega

end Cert.PromptRefIdeal.Read
-- ==== Proof.PromptFirst.lean ====
/- The feed-forward kernel's run at the first step of a group of the prompt batch (its carried rows are those handed in), read stage by stage: the normalised rows, the rows its two
   scratch buffers hold for each tile of channels, the gated activations, and the rows it carries on.  Every stage is
   the corresponding function of `Cert.PromptSpec.Step`. -/
module

public import proofs.«01_k».proof.Proof.Gen.PromptIdeal.Frame
public import proofs.«01_k».proof.Proof.PromptSpec
public import proofs.«01_k».proof.Proof.Stores

@[expose] public section
set_option maxRecDepth 16384
noncomputable section
open Idealize.ShloMosaic Idealize.ShloMosaic.TcCoe Idealize.SL.Sem

namespace Cert.PromptIdeal.First
open Cert.PromptIdeal Cert.PromptIdeal.Gen
open Cert.PromptSpec (Step)
open Cert.PromptSpec.Step

/-- One run of the body: the buffers it is handed and the input blocks they hold. -/
structure Run where
  c : Dev nD
  arg2 : Memref sig .tc .vmem S1x1024x1024 .f32
  harg2 : arg2.IsWhole
  arg3 : Memref sig .tc .vmem S1x1x16x5632 .f32
  harg3 : arg3.IsWhole
  arg4 : Memref sig .tc .vmem S1x1x1024 .f32
  harg4 : arg4.IsWhole
  arg5 : Memref sig .tc .vmem S1x1024x5632 .bf16
  harg5 : arg5.IsWhole
  arg6 : Memref sig .tc .vmem S1x3x5632 .f32
  harg6 : arg6.IsWhole
  arg7 : Memref sig .tc .vmem S1x1x5632 .f32
  harg7 : arg7.IsWhole
  arg8 : Memref sig .tc .vmem S1x2816x1024 .bf16
  harg8 : arg8.IsWhole
  arg9 : Memref sig .tc .vmem S1x1024 .f32
  harg9 : arg9.IsWhole
  arg11 : Memref sig .tc .vmem S1x16x5632 .f32
  arg12 : Memref sig .tc .vmem S1024x1024 .bf16
  arg13 : Memref sig .tc .vmem S1040x1024 .f32
  arg14 : Memref sig .tc .vmem S1040x1024 .f32
  arg15 : Memref sig .tc .vmem S8x1024x128 .f32
  x0 : Vec Ideal S1x1024x1024 .f32
  x1 : Vec Ideal S1x1x16x5632 .f32
  x2 : Vec Ideal S1x1x1024 .f32
  x3 : Vec Ideal S1x1024x5632 .bf16
  x4 : Vec Ideal S1x3x5632 .f32
  x5 : Vec Ideal S1x1x5632 .f32
  x6 : Vec Ideal S1x2816x1024 .bf16
  x7 : Vec Ideal S1x1024 .f32

/-- The run's input blocks are the operands of the step `S`. -/
structure Holds (S : Step) (R : Run) : Prop where
  x0 : ∀ r d, R.x0 (ix3 0 r d) = S.x r d
  x1 : ∀ (r : Fin 16) (c : Fin 5632), R.x1 (ix4 0 0 r c) = ext S ⟨r.val, by omega⟩ c
  x2 : ∀ d, R.x2 (ix3 0 0 d) = S.nw d
  x3 : ∀ d c, R.x3 (ix3 0 d c) = S.u d c
  x4 : ∀ k c, R.x4 (ix3 0 k c) = S.cw k c
  x5 : ∀ c, R.x5 (ix3 0 0 c) = S.cb c
  x6 : ∀ c e, R.x6 (ix3 0 c e) = S.dn c e
  x7 : ∀ e, R.x7 (ix2 0 e) = S.fw e

namespace Run
variable (R : Run)

abbrev v30 := kernelRun0_A.sl.v30 (F := Ideal) R.c R.arg2 R.harg2 R.arg4 R.harg4 R.arg12 R.x0 R.x2
abbrev HS1_2 := kernelRun0_A.sl.HS1_2 (F := Ideal) R.c R.arg2 R.harg2 R.arg3 R.harg3 R.arg4 R.harg4 R.arg5 R.harg5 R.arg11 R.arg12 R.x0 R.x1 R.x2 R.x3
abbrev HS1_4 := kernelRun0_A.sl.HS1_4 (F := Ideal) R.c R.arg2 R.harg2 R.arg3 R.harg3 R.arg4 R.harg4 R.arg5 R.harg5 R.arg11 R.arg12 R.arg13 R.arg14 R.x0 R.x1 R.x2 R.x3
abbrev HS1_6 := kernelRun0_A.sl.HS1_6 (F := Ideal) R.c R.arg2 R.harg2 R.arg3 R.harg3 R.arg4 R.harg4 R.arg5 R.harg5 R.arg11 R.arg12 R.arg13 R.arg14 R.x0 R.x1 R.x2 R.x3
abbrev HS2_2 := kernelRun0_A.sl.HS2_2 (F := Ideal) R.c R.arg2 R.harg2 R.arg3 R.harg3 R.arg4 R.harg4 R.arg5 R.harg5 R.arg11 R.arg12 R.arg13 R.x0 R.x1 R.x2 R.x3
abbrev HS2_4 := kernelRun0_A.sl.HS2_4 (F := Ideal) R.c R.arg2 R.harg2 R.arg3 R.harg3 R.arg4 R.harg4 R.arg5 R.harg5 R.arg11 R.arg12 R.arg13 R.arg14 R.x0 R.x1 R.x2 R.x3
abbrev HS2_5 := kernelRun0_A.sl.HS2_5 (F := Ideal) R.c R.arg2 R.harg2 R.arg3 R.harg3 R.arg4 R.harg4 R.arg5 R.harg5 R.arg11 R.arg12 R.arg13 R.arg14 R.x0 R.x1 R.x2 R.x3
abbrev HS2_6 := kernelRun0_A.sl.HS2_6 (F := Ideal) R.c R.arg2 R.harg2 R.arg3 R.harg3 R.arg4 R.harg4 R.arg5 R.harg5 R.arg11 R.arg12 R.arg13 R.arg14 R.x0 R.x1 R.x2 R.x3
abbrev H9_1 := kernelRun0_A.sl.H9_1 (F := Ideal) R.c R.arg3 R.harg3 R.x1
abbrev H9_2 := kernelRun0_A.sl.H9_2 (F := Ideal) R.c R.arg2 R.harg2 R.arg3 R.harg3 R.arg4 R.harg4 R.arg5 R.harg5 R.arg11 R.arg12 R.arg13 R.x0 R.x1 R.x2 R.x3
abbrev H9_3 := kernelRun0_A.sl.H9_3 (F := Ideal) R.c R.arg2 R.harg2 R.arg3 R.harg3 R.arg4 R.harg4 R.arg5 R.harg5 R.arg11 R.arg12 R.arg13 R.arg14 R.x0 R.x1 R.x2 R.x3
abbrev H9_4 := kernelRun0_A.sl.H9_4 (F := Ideal) R.c R.arg2 R.harg2 R.arg3 R.harg3 R.arg4 R.harg4 R.arg5 R.harg5 R.arg11 R.arg12 R.arg13 R.arg14 R.x0 R.x1 R.x2 R.x3
abbrev H9_5 := kernelRun0_A.sl.H9_5 (F := Ideal) R.c R.arg2 R.harg2 R.arg3 R.harg3 R.arg4 R.harg4 R.arg5 R.harg5 R.arg11 R.arg12 R.arg13 R.arg14 R.x0 R.x1 R.x2 R.x3
abbrev H9_6 := kernelRun0_A.sl.H9_6 (F := Ideal) R.c R.arg2 R.harg2 R.arg3 R.harg3 R.arg4 R.harg4 R.arg5 R.harg5 R.arg11 R.arg12 R.arg13 R.arg14 R.x0 R.x1 R.x2 R.x3
abbrev r := kernelRun0_A.sl.r (F := Ideal) R.c R.arg2 R.harg2 R.x0
abbrev r_4 := kernelRun0_A.sl.r_4 (F := Ideal) R.c R.arg2 R.harg2 R.arg3 R.harg3 R.arg4 R.harg4 R.arg5 R.harg5 R.arg6 R.harg6 R.arg7 R.harg7 R.arg11 R.arg12 R.arg13 R.arg14 R.x0 R.x1 R.x2 R.x3 R.x4 R.x5
abbrev r_5 := kernelRun0_A.sl.r_5 (F := Ideal) R.c R.arg2 R.harg2 R.arg3 R.harg3 R.arg4 R.harg4 R.arg5 R.harg5 R.arg6 R.harg6 R.arg7 R.harg7 R.arg11 R.arg12 R.arg13 R.x0 R.x1 R.x2 R.x3 R.x4 R.x5
abbrev r_6 := kernelRun0_A.sl.r_6 (F := Ideal) R.c R.arg2 R.harg2 R.arg3 R.harg3 R.arg4 R.harg4 R.arg5 R.harg5 R.arg6 R.harg6 R.arg7 R.harg7 R.arg8 R.harg8 R.arg11 R.arg12 R.arg13 R.arg14 R.x0 R.x1 R.x2 R.x3 R.x4 R.x5 R.x6
abbrev r_11 := kernelRun0_A.sl.r_11 (F := Ideal) R.c R.arg2 R.harg2 R.arg3 R.harg3 R.arg4 R.harg4 R.arg5 R.harg5 R.arg6 R.harg6 R.arg7 R.harg7 R.arg11 R.arg12 R.arg13 R.arg14 R.x0 R.x1 R.x2 R.x3 R.x4 R.x5
abbrev r_12 := kernelRun0_A.sl.r_12 (F := Ideal) R.c R.arg2 R.harg2 R.arg3 R.harg3 R.arg4 R.harg4 R.arg5 R.harg5 R.arg6 R.harg6 R.arg7 R.harg7 R.arg11 R.arg12 R.arg13 R.arg14 R.x0 R.x1 R.x2 R.x3 R.x4 R.x5
abbrev r_14 := kernelRun0_A.sl.r_14 (F := Ideal) R.c R.arg2 R.harg2 R.arg3 R.harg3 R.arg4 R.harg4 R.arg5 R.harg5 R.arg6 R.harg6 R.arg7 R.harg7 R.arg8 R.harg8 R.arg11 R.arg12 R.arg13 R.arg14 R.x0 R.x1 R.x2 R.x3 R.x4 R.x5 R.x6
abbrev r_15 := kernelRun0_A.sl.r_15 (F := Ideal) R.c R.arg2 R.harg2 R.arg4 R.harg4 R.arg5 R.harg5 R.arg12 R.x0 R.x2 R.x3
abbrev r_18 := kernelRun0_A.sl.r_18 (F := Ideal) R.c R.arg2 R.harg2 R.arg3 R.harg3 R.arg4 R.harg4 R.arg5 R.harg5 R.arg6 R.harg6 R.arg7 R.harg7 R.arg11 R.arg12 R.arg13 R.arg14 R.x0 R.x1 R.x2 R.x3 R.x4 R.x5
abbrev r_19 := kernelRun0_A.sl.r_19 (F := Ideal) R.c R.arg2 R.harg2 R.arg3 R.harg3 R.arg4 R.harg4 R.arg5 R.harg5 R.arg6 R.harg6 R.arg7 R.harg7 R.arg11 R.arg12 R.arg13 R.arg14 R.x0 R.x1 R.x2 R.x3 R.x4 R.x5
abbrev v311 := kernelRun0_A.sl.v311 (F := Ideal) R.c R.arg2 R.harg2 R.arg3 R.harg3 R.arg4 R.harg4 R.arg5 R.harg5 R.arg11 R.arg12 R.arg13 R.arg14 R.x0 R.x1 R.x2 R.x3
abbrev r_21 := kernelRun0_A.sl.r_21 (F := Ideal) R.c R.arg2 R.harg2 R.arg3 R.harg3 R.arg4 R.harg4 R.arg5 R.harg5 R.arg6 R.harg6 R.arg7 R.harg7 R.arg11 R.arg12 R.arg13 R.arg14 R.x0 R.x1 R.x2 R.x3 R.x4 R.x5
abbrev r_22 := kernelRun0_A.sl.r_22 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.x0 R.x1 R.x2 R.x3 R.x4 R.x5 R.x6 R.x7
abbrev r_23 := kernelRun0_A.sl.r_23 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.x0 R.x1 R.x2 R.x3 R.x4 R.x5 R.x6 R.x7
abbrev HS3_8 := kernelRun0_A.sl.HS3_8 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.x0 R.x1 R.x2 R.x3 R.x4 R.x5 R.x6 R.x7

end Run

variable {S : Step} {R : Run} (H : Holds S R)
include H

/-- The normalised rows, as the up-projections load them. -/
theorem h_at (r : Fin 1024) (d : Fin 1024) : R.v30 (ix2 r d) = hn S r d := by
  simp (disch := decide) only [Run.v30, kernelRun0_A.sl.v30, kernelRun0_A.sl.HS0_1, View.readCov_unit_lit', View.readAt_eq_ld,
    Memref.IsWhole.read_unread]
  pointwise [k0_pay4]
  simp only [H.x0, H.x2, hn]

/-- The first store into the carried rows' buffer: the rows carried in. -/
theorem carry1 (r : Fin 16) (c : Fin 5632) : View.canon R.H9_1 (ix3 0 r c) = ext S ⟨r.val, by omega⟩ c := by
  simp (disch := decide) only [Run.H9_1, kernelRun0_A.sl.H9_1, View.canon_cons_unit_lit', View.readAt_eq_ld,
    Memref.IsWhole.read_unread]
  pointwise [k0_pay3]
  simp only [H.x1]

omit H in
/-- A scratch buffer filled for one tile of channels: sixteen carried rows over the rows projected onto the tile. -/
theorem buf {k : ℕ} (hk : k ≤ 1024) (col : Fin k → Fin 5632)
    (inbP : ∀ a, (![16, 0] : Fin 2 → ℕ) a + (![1024, k] : Fin 2 → ℕ) a ≤ S1040x1024.size a)
    (inbQ : ∀ a, (![0, 0] : Fin 2 → ℕ) a + (![16, k] : Fin 2 → ℕ) a ≤ S1040x1024.size a)
    (P : (⟨2, ![1024, k]⟩ : Shape).Idx → Elt Ideal .f32) (Q : (⟨2, ![16, k]⟩ : Shape).Idx → Elt Ideal .f32)
    (L : List (View.Piece (Elt Ideal) S1040x1024 .f32))
    (hP : ∀ (r : Fin 1024) (j : Fin k), P (ix2 r j) = up S r (col j))
    (hQ : ∀ (r : Fin 16) (j : Fin k), Q (ix2 r j) = ext S ⟨r.val, by omega⟩ (col j)) (r : Fin 1040) (j : Fin k) :
    View.canon ((⟨Rect.unit (s := S1040x1024) ![16, 0] ![1024, k] inbP, P⟩ : View.Piece (Elt Ideal) S1040x1024 .f32)
      :: (⟨Rect.unit (s := S1040x1024) ![0, 0] ![16, k] inbQ, Q⟩ : View.Piece (Elt Ideal) S1040x1024 .f32) :: L)
      (ix2 r ⟨j.val, by omega⟩) = ext S r (col j) := by
  by_cases h : r.val < 16
  · rw [Stores.miss2 inbP P _ r _ (by omega), Stores.hit2 inbQ Q L r _ ⟨r.val, h⟩ j (by simp) (by simp), hQ]
  · rw [Stores.hit2 inbP P _ r _ ⟨r.val - 16, by omega⟩ j (by simp; omega) (by simp), hP, ext, dif_neg h]

/-- The first buffer at the first tile: channels `0` to `1023`. -/
theorem buf_a1 (r : Fin 1040) (j : Fin 1024) :
    View.canon R.HS1_2 (ix2 r j) = ext S r ⟨j.val, by omega⟩ := by
  have hh := h_at H
  have hc := carry1 H
  simp (disch := decide) only [Run.HS1_2, kernelRun0_A.sl.HS1_2, View.readAt_eq_ld, Memref.IsWhole.read_unread]
  refine buf (by omega) (fun j => ⟨j.val, by omega⟩) _ _ _ _ _ (fun r j => ?_) (fun r j => ?_) r j
  · pointwise [k0_pay7]
    simp only [hh, H.x3, up]
  · pointwise [k0_pay6]
    rw [kernelRun0_A.sl.v25, Stores.load3 _ _ _ _ _ _ 0 r ⟨j.val, by omega⟩ (by simp) (by simp) (by simp)]
    exact hc _ _

/-- The second tile onward still holds the rows carried in. -/
theorem carry2 (r : Fin 16) (c : Fin 5632) (h : 1024 ≤ c.val) : View.canon R.H9_2 (ix3 0 r c) = ext S ⟨r.val, by omega⟩ c := by
  rw [Run.H9_2, kernelRun0_A.sl.H9_2, Stores.miss3 _ _ _ _ _ _ (by omega)]
  exact carry1 H r c

/-- The second buffer at the first tile: channels `2816` to `3839`. -/
theorem buf_b1 (r : Fin 1040) (j : Fin 1024) :
    View.canon R.HS2_2 (ix2 r ⟨j.val, by omega⟩) = ext S r ⟨2816 + j.val, by omega⟩ := by
  have hh := h_at H
  simp (disch := decide) only [Run.HS2_2, kernelRun0_A.sl.HS2_2, View.readAt_eq_ld, Memref.IsWhole.read_unread]
  refine buf (by omega) (fun j => ⟨2816 + j.val, by omega⟩) _ _ _ _ _ (fun r j => ?_) (fun r j => ?_) r j
  · pointwise [k0_pay10]
    simp only [hh, H.x3, up]
  · pointwise [k0_pay9]
    rw [kernelRun0_A.sl.v41, Stores.load3 _ _ _ _ _ _ 0 r ⟨2816 + j.val, by omega⟩ (by simp) (by simp) (by simp)]
    exact carry2 H _ _ (by simp; omega)

/-- So do the channels not yet stored after two stores. -/
theorem carry3 (r : Fin 16) (c : Fin 5632) (h : 1024 ≤ c.val ∧ (c.val < 2816 ∨ 3840 ≤ c.val)) : View.canon R.H9_3 (ix3 0 r c) = ext S ⟨r.val, by omega⟩ c := by
  rw [Run.H9_3, kernelRun0_A.sl.H9_3, Stores.miss3 _ _ _ _ _ _ (by omega)]
  exact carry2 H r c (by omega)

/-- The first buffer at the second tile: channels `1024` to `2047`. -/
theorem buf_a2 (r : Fin 1040) (j : Fin 1024) :
    View.canon R.HS1_4 (ix2 r ⟨j.val, by omega⟩) = ext S r ⟨1024 + j.val, by omega⟩ := by
  have hh := h_at H
  simp (disch := decide) only [Run.HS1_4, kernelRun0_A.sl.HS1_4, View.readAt_eq_ld, Memref.IsWhole.read_unread]
  refine buf (by omega) (fun j => ⟨1024 + j.val, by omega⟩) _ _ _ _ _ (fun r j => ?_) (fun r j => ?_) r j
  · pointwise [k0_pay20]
    simp only [hh, H.x3, up]
  · pointwise [k0_pay19, kernelRun0_A.sl.r_7, k0_pay18]
    rw [kernelRun0_A.sl.v154, Stores.load3 _ _ _ _ _ _ 0 r ⟨1024 + j.val, by omega⟩ (by simp) (by simp) (by simp)]
    exact carry3 H _ _ (by simp; omega)

/-- So do the channels not yet stored after three stores. -/
theorem carry4 (r : Fin 16) (c : Fin 5632) (h : 2048 ≤ c.val ∧ (c.val < 2816 ∨ 3840 ≤ c.val)) : View.canon R.H9_4 (ix3 0 r c) = ext S ⟨r.val, by omega⟩ c := by
  rw [Run.H9_4, kernelRun0_A.sl.H9_4, Stores.miss3 _ _ _ _ _ _ (by omega)]
  exact carry3 H r c (by omega)

/-- The second buffer at the second tile: channels `3840` to `4863`. -/
theorem buf_b2 (r : Fin 1040) (j : Fin 1024) :
    View.canon R.HS2_4 (ix2 r ⟨j.val, by omega⟩) = ext S r ⟨3840 + j.val, by omega⟩ := by
  have hh := h_at H
  simp (disch := decide) only [Run.HS2_4, kernelRun0_A.sl.HS2_4, View.readAt_eq_ld, Memref.IsWhole.read_unread]
  refine buf (by omega) (fun j => ⟨3840 + j.val, by omega⟩) _ _ _ _ _ (fun r j => ?_) (fun r j => ?_) r j
  · pointwise [k0_pay23]
    simp only [hh, H.x3, up]
  · pointwise [k0_pay22]
    rw [kernelRun0_A.sl.v170, Stores.load3 _ _ _ _ _ _ 0 r ⟨3840 + j.val, by omega⟩ (by simp) (by simp) (by simp)]
    exact carry4 H _ _ (by simp; omega)

/-- So do the channels not yet stored after four stores. -/
theorem carry5 (r : Fin 16) (c : Fin 5632) (h : 2048 ≤ c.val ∧ (c.val < 2816 ∨ 4864 ≤ c.val)) : View.canon R.H9_5 (ix3 0 r c) = ext S ⟨r.val, by omega⟩ c := by
  rw [Run.H9_5, kernelRun0_A.sl.H9_5, Stores.miss3 _ _ _ _ _ _ (by omega)]
  exact carry4 H r c (by omega)

/-- The first buffer at the third tile: channels `2048` to `2815`. -/
theorem buf_a3 (r : Fin 1040) (j : Fin 768) :
    View.canon R.HS1_6 (ix2 r ⟨j.val, by omega⟩) = ext S r ⟨2048 + j.val, by omega⟩ := by
  have hh := h_at H
  simp (disch := decide) only [Run.HS1_6, kernelRun0_A.sl.HS1_6, View.readAt_eq_ld, Memref.IsWhole.read_unread]
  refine buf (by omega) (fun j => ⟨2048 + j.val, by omega⟩) _ _ _ _ _ (fun r j => ?_) (fun r j => ?_) r j
  · pointwise [k0_pay32]
    simp only [hh, H.x3, up]
  · pointwise [k0_pay31]
    rw [kernelRun0_A.sl.v283, Stores.load3 _ _ _ _ _ _ 0 r ⟨2048 + j.val, by omega⟩ (by simp) (by simp) (by simp)]
    exact carry5 H _ _ (by simp; omega)

/-- So do the channels not yet stored after five stores. -/
theorem carry6 (r : Fin 16) (c : Fin 5632) (h : 4864 ≤ c.val) : View.canon R.H9_6 (ix3 0 r c) = ext S ⟨r.val, by omega⟩ c := by
  rw [Run.H9_6, kernelRun0_A.sl.H9_6, Stores.miss3 _ _ _ _ _ _ (by omega)]
  exact carry5 H r c (by omega)

/-- The second buffer at the third tile: channels `4864` to `5631`. -/
theorem buf_b3 (r : Fin 1040) (j : Fin 768) :
    View.canon R.HS2_6 (ix2 r ⟨j.val, by omega⟩) = ext S r ⟨4864 + j.val, by omega⟩ := by
  have hh := h_at H
  simp (disch := decide) only [Run.HS2_6, kernelRun0_A.sl.HS2_6, kernelRun0_A.sl.HS2_5, View.readAt_eq_ld, Memref.IsWhole.read_unread]
  refine buf (by omega) (fun j => ⟨4864 + j.val, by omega⟩) _ _ _ _ _ (fun r j => ?_) (fun r j => ?_) r j
  · simp only [kernelRun0_A.sl.r_15, View.readAt_eq_ld, Memref.IsWhole.read_unread]
    pointwise [k0_pay36, k0_pay35]
    simp only [hh, H.x3, up]
  · pointwise [k0_pay34]
    rw [kernelRun0_A.sl.v299, Stores.load3 _ _ _ _ _ _ 0 r ⟨4864 + j.val, by omega⟩ (by simp) (by simp) (by simp)]
    exact carry6 H _ _ (by simp)

omit H in
/-- Row `1024 + r` of the extended projection is carried row `r`. -/
theorem carry_of {a : ℕ} {r : Fin 16} (c : Fin 5632) (h : a ≤ c.val) (h1 : 1024 + r.val < 1040) (h2 : a + (c.val - a) < 5632) :
    ext S ⟨1024 + r.val, h1⟩ ⟨a + (c.val - a), h2⟩ = carry S r c := by
  have e : a + (c.val - a) = c.val := by omega
  simp only [carry, e, Nat.add_comm 1024]

/-- The carried rows at the end of the run: each tile's last sixteen rows, stored tile by tile. -/
theorem carry_at (inb : ∀ a, (![0, 0, 4864] : Fin 3 → ℕ) a + S1x16x768.size a ≤ S1x16x5632.size a) (r : Fin 16) (c : Fin 5632) :
    View.canon ((⟨Rect.unit (s := S1x16x5632) ![0, 0, 4864] S1x16x768.size inb, k0_pay37 R.v311⟩
      : View.Piece (Elt Ideal) S1x16x5632 .f32) :: R.H9_6) (ix3 0 r c) = carry S r c := by
  by_cases h6 : 4864 ≤ c.val
  · rw [Stores.hit3 _ _ _ _ _ _ 0 r ⟨c.val - 4864, by omega⟩ (by simp) (by simp) (by simp; omega)]
    pointwise [k0_pay37]
    rw [Run.v311, kernelRun0_A.sl.v311, Stores.load2 _ _ _ _ _ ⟨1024 + r.val, by omega⟩ ⟨c.val - 4864, by omega⟩ (by simp) (by simp)]
    exact (buf_b3 H _ ⟨c.val - 4864, by omega⟩).trans (carry_of c h6 _ _)
  rw [Stores.miss3 _ _ _ _ _ _ (by omega), Run.H9_6, kernelRun0_A.sl.H9_6]
  by_cases h5 : 2048 ≤ c.val ∧ c.val < 2816
  · rw [Stores.hit3 _ _ _ _ _ _ 0 r ⟨c.val - 2048, by omega⟩ (by simp) (by simp) (by simp; omega)]
    pointwise [k0_pay33]
    rw [kernelRun0_A.sl.v295, Stores.load2 _ _ _ _ _ ⟨1024 + r.val, by omega⟩ ⟨c.val - 2048, by omega⟩ (by simp) (by simp)]
    exact (buf_a3 H _ ⟨c.val - 2048, by omega⟩).trans (carry_of c h5.1 _ _)
  rw [Stores.miss3 _ _ _ _ _ _ (by omega), kernelRun0_A.sl.H9_5]
  by_cases h4 : 3840 ≤ c.val
  · rw [Stores.hit3 _ _ _ _ _ _ 0 r ⟨c.val - 3840, by omega⟩ (by simp) (by simp) (by simp; omega)]
    pointwise [k0_pay24]
    rw [kernelRun0_A.sl.v182, Stores.load2 _ _ _ _ _ ⟨1024 + r.val, by omega⟩ ⟨c.val - 3840, by omega⟩ (by simp) (by simp)]
    exact (buf_b2 H _ ⟨c.val - 3840, by omega⟩).trans (carry_of c h4 _ _)
  rw [Stores.miss3 _ _ _ _ _ _ (by omega), kernelRun0_A.sl.H9_4]
  by_cases h3 : 1024 ≤ c.val ∧ c.val < 2048
  · rw [Stores.hit3 _ _ _ _ _ _ 0 r ⟨c.val - 1024, by omega⟩ (by simp) (by simp) (by simp; omega)]
    pointwise [k0_pay21]
    rw [kernelRun0_A.sl.v166, Stores.load2 _ _ _ _ _ ⟨1024 + r.val, by omega⟩ ⟨c.val - 1024, by omega⟩ (by simp) (by simp)]
    exact (buf_a2 H _ ⟨c.val - 1024, by omega⟩).trans (carry_of c h3.1 _ _)
  rw [Stores.miss3 _ _ _ _ _ _ (by omega), kernelRun0_A.sl.H9_3]
  by_cases h2 : 2816 ≤ c.val
  · rw [Stores.hit3 _ _ _ _ _ _ 0 r ⟨c.val - 2816, by omega⟩ (by simp) (by simp) (by simp; omega)]
    pointwise [k0_pay11]
    rw [kernelRun0_A.sl.v53, Stores.load2 _ _ _ _ _ ⟨1024 + r.val, by omega⟩ ⟨c.val - 2816, by omega⟩ (by simp) (by simp)]
    exact (buf_b1 H _ ⟨c.val - 2816, by omega⟩).trans (carry_of c h2 _ _)
  rw [Stores.miss3 _ _ _ _ _ _ (by omega), kernelRun0_A.sl.H9_2]
  rw [Stores.hit3 _ _ _ _ _ _ 0 r ⟨c.val, by omega⟩ (by simp) (by simp) (by simp)]
  pointwise [k0_pay8]
  rw [kernelRun0_A.sl.v37, Stores.load2 _ _ _ _ _ ⟨1024 + r.val, by omega⟩ ⟨c.val, by omega⟩ (by simp) (by simp)]
  refine (buf_a1 H _ ⟨c.val, by omega⟩).trans ?_
  rw [carry]; congr 1 <;> apply Fin.ext <;> simp <;> omega

omit H in
/-- A load of whole rows of a scratch buffer filled for one tile of channels. -/
theorem rows {k n : ℕ} (hk : k ≤ 1024) (v : View sig .tc .vmem S1040x1024 .f32) (L : List (View.Piece (Elt Ideal) S1040x1024 .f32))
    (col : Fin k → Fin 5632) (hL : ∀ (r : Fin 1040) (j : Fin k), View.canon L (ix2 r ⟨j.val, by omega⟩) = ext S r (col j))
    (o : ℕ) (inb : ∀ a, (![o, 0] : Fin 2 → ℕ) a + (![n, k] : Fin 2 → ℕ) a ≤ S1040x1024.size a) (r : Fin n) (j : Fin k) :
    v.readCov L (Rect.unit (s := S1040x1024) ![o, 0] ![n, k] inb).toLoadRect (ix2 r j)
      = ext S ⟨o + r.val, by have h : o + n ≤ 1040 := inb 0; omega⟩ (col j) := by
  have h : o + n ≤ 1040 := inb 0
  rw [Stores.load2 v L inb r j ⟨o + r.val, by omega⟩ ⟨j.val, by omega⟩ rfl (by simp), hL]

/-- The activation of the first half of the rows at the first tile. -/
theorem act_lo1 (r : Fin 512) (j : Fin 1024) : R.r_4 (ix2 r j) = act S ⟨r.val, by omega⟩ ⟨j.val, by omega⟩ := by
  have ha := rows (S := S) (n := 512) (by omega) R.arg13.view _ (fun j : Fin 1024 => ⟨j.val, by omega⟩) (buf_a1 H)
  have hb := rows (S := S) (n := 512) (by omega) R.arg14.view _ (fun j : Fin 1024 => ⟨2816 + j.val, by omega⟩) (buf_b1 H)
  simp only [Run.r_4, kernelRun0_A.sl.r_4, kernelRun0_A.sl.r_1, kernelRun0_A.sl.r_2, kernelRun0_A.sl.r_3, View.readAt_eq_ld,
    Memref.IsWhole.read_unread]
  pointwise [k0_pay15, k0_pay12, k0_pay13, k0_pay14]
  simp only [kernelRun0_A.sl.v61, kernelRun0_A.sl.v68, kernelRun0_A.sl.v74, kernelRun0_A.sl.v82, kernelRun0_A.sl.v89, kernelRun0_A.sl.v95, ha, hb, H.x4, H.x5, act, conv]
  have e : 2816 + j.val = j.val + 2816 := by omega
  simp only [Nat.zero_add, Nat.add_comm 8, Nat.add_comm 16, e]

/-- The activation of the first half of the rows at the second tile. -/
theorem act_lo2 (r : Fin 512) (j : Fin 1024) : R.r_11 (ix2 r j) = act S ⟨r.val, by omega⟩ ⟨1024 + j.val, by omega⟩ := by
  have ha := rows (S := S) (n := 512) (by omega) R.arg13.view _ (fun j : Fin 1024 => ⟨1024 + j.val, by omega⟩) (buf_a2 H)
  have hb := rows (S := S) (n := 512) (by omega) R.arg14.view _ (fun j : Fin 1024 => ⟨3840 + j.val, by omega⟩) (buf_b2 H)
  simp only [Run.r_11, kernelRun0_A.sl.r_11, kernelRun0_A.sl.r_8, kernelRun0_A.sl.r_9, kernelRun0_A.sl.r_10, View.readAt_eq_ld,
    Memref.IsWhole.read_unread]
  pointwise [k0_pay28, k0_pay25, k0_pay26, k0_pay27]
  simp only [kernelRun0_A.sl.v190, kernelRun0_A.sl.v197, kernelRun0_A.sl.v203, kernelRun0_A.sl.v211, kernelRun0_A.sl.v218, kernelRun0_A.sl.v224, ha, hb, H.x4, H.x5, act, conv]
  have e : 3840 + j.val = 1024 + j.val + 2816 := by omega
  simp only [Nat.zero_add, Nat.add_comm 8, Nat.add_comm 16, e]

/-- The activation of the first half of the rows at the third tile. -/
theorem act_lo3 (r : Fin 512) (j : Fin 768) : R.r_18 (ix2 r j) = act S ⟨r.val, by omega⟩ ⟨2048 + j.val, by omega⟩ := by
  have ha := rows (S := S) (n := 512) (by omega) R.arg13.view _ (fun j : Fin 768 => ⟨2048 + j.val, by omega⟩) (buf_a3 H)
  have hb := rows (S := S) (n := 512) (by omega) R.arg14.view _ (fun j : Fin 768 => ⟨4864 + j.val, by omega⟩) (buf_b3 H)
  simp only [Run.r_18, kernelRun0_A.sl.r_18, kernelRun0_A.sl.r_16, kernelRun0_A.sl.r_17, View.readAt_eq_ld,
    Memref.IsWhole.read_unread]
  pointwise [k0_pay40, k0_pay38, k0_pay39]
  simp only [kernelRun0_A.sl.v319, kernelRun0_A.sl.v326, kernelRun0_A.sl.v332, kernelRun0_A.sl.v340, kernelRun0_A.sl.v347, kernelRun0_A.sl.v353, ha, hb, H.x4, H.x5, act, conv]
  have e : 4864 + j.val = 2048 + j.val + 2816 := by omega
  simp only [Nat.zero_add, Nat.add_comm 8, Nat.add_comm 16, e]

/-- The input plus the first tile's share of the output product. -/
theorem acc1 (r : Fin 1024) (d : Fin 1024) :
    R.r_6 (ix2 r d) = S.x r d + ∑ j : Fin 1024, act S r ⟨j.val, by omega⟩ * S.dn ⟨j.val, by omega⟩ d := by
  have ha := rows (S := S) (n := 512) (by omega) R.arg13.view _ (fun j : Fin 1024 => ⟨j.val, by omega⟩) (buf_a1 H)
  have hb := rows (S := S) (n := 512) (by omega) R.arg14.view _ (fun j : Fin 1024 => ⟨2816 + j.val, by omega⟩) (buf_b1 H)
  have hl := act_lo1 H
  simp only [Run.r_4] at hl
  simp only [Run.r_6, kernelRun0_A.sl.r_6, kernelRun0_A.sl.r_5, kernelRun0_A.sl.r, View.readAt_eq_ld, Memref.IsWhole.read_unread]
  pointwise [k0_pay17, k0_pay16, k0_pay5]
  rw [H.x0]
  refine congrArg _ (Finset.sum_congr rfl fun j _ => ?_)
  rw [H.x6]
  refine congrArg (· * _) ?_
  split
  · rw [hl]
  · have e0 : 512 + (r.val - 512) = r.val := by omega
    have e8 : 520 + (r.val - 512) = r.val + 8 := by omega
    have e16 : 528 + (r.val - 512) = r.val + 16 := by omega
    have e : 2816 + j.val = j.val + 2816 := by omega
    simp only [kernelRun0_A.sl.v107, kernelRun0_A.sl.v114, kernelRun0_A.sl.v120, kernelRun0_A.sl.v128, kernelRun0_A.sl.v135, kernelRun0_A.sl.v141, ha, hb, H.x4, H.x5, act, conv, e0, e8, e16, e]

/-- The sum after the second tile. -/
theorem acc2 (r : Fin 1024) (d : Fin 1024) :
    R.r_14 (ix2 r d) = S.x r d + ∑ j : Fin 1024, act S r ⟨j.val, by omega⟩ * S.dn ⟨j.val, by omega⟩ d
      + ∑ j : Fin 1024, act S r ⟨1024 + j.val, by omega⟩ * S.dn ⟨1024 + j.val, by omega⟩ d := by
  have h1 := acc1 H
  simp only [Run.r_6] at h1
  have ha := rows (S := S) (n := 512) (by omega) R.arg13.view _ (fun j : Fin 1024 => ⟨1024 + j.val, by omega⟩) (buf_a2 H)
  have hb := rows (S := S) (n := 512) (by omega) R.arg14.view _ (fun j : Fin 1024 => ⟨3840 + j.val, by omega⟩) (buf_b2 H)
  have hl := act_lo2 H
  simp only [Run.r_11] at hl
  simp only [Run.r_14, kernelRun0_A.sl.r_14, kernelRun0_A.sl.r_12, kernelRun0_A.sl.r_13, View.readAt_eq_ld, Memref.IsWhole.read_unread]
  pointwise [k0_pay30, k0_pay29]
  rw [h1]
  refine congrArg _ (Finset.sum_congr rfl fun j _ => ?_)
  rw [H.x6]
  refine congrArg (· * _) ?_
  split
  · rw [hl]
  · have e0 : 512 + (r.val - 512) = r.val := by omega
    have e8 : 520 + (r.val - 512) = r.val + 8 := by omega
    have e16 : 528 + (r.val - 512) = r.val + 16 := by omega
    have e : 3840 + j.val = 1024 + j.val + 2816 := by omega
    simp only [kernelRun0_A.sl.v236, kernelRun0_A.sl.v243, kernelRun0_A.sl.v249, kernelRun0_A.sl.v257, kernelRun0_A.sl.v264, kernelRun0_A.sl.v270, ha, hb, H.x4, H.x5, act, conv, e0, e8, e16, e]

/-- The activation at the third tile. -/
theorem act3 (r : Fin 1024) (j : Fin 768) : R.r_21 (ix2 r j) = act S r ⟨2048 + j.val, by omega⟩ := by
  have ha := rows (S := S) (n := 512) (by omega) R.arg13.view _ (fun j : Fin 768 => ⟨2048 + j.val, by omega⟩) (buf_a3 H)
  have hb := rows (S := S) (n := 512) (by omega) R.arg14.view _ (fun j : Fin 768 => ⟨4864 + j.val, by omega⟩) (buf_b3 H)
  have hl := act_lo3 H
  simp only [Run.r_18] at hl
  simp only [Run.r_21, kernelRun0_A.sl.r_21, kernelRun0_A.sl.r_19, kernelRun0_A.sl.r_20, View.readAt_eq_ld, Memref.IsWhole.read_unread]
  pointwise [k0_pay43, k0_pay42, k0_pay41]
  split
  · rw [hl]
  · have e0 : 512 + (r.val - 512) = r.val := by omega
    have e8 : 520 + (r.val - 512) = r.val + 8 := by omega
    have e16 : 528 + (r.val - 512) = r.val + 16 := by omega
    have e : 4864 + j.val = 2048 + j.val + 2816 := by omega
    simp only [kernelRun0_A.sl.v365, kernelRun0_A.sl.v372, kernelRun0_A.sl.v378, kernelRun0_A.sl.v386, kernelRun0_A.sl.v393, kernelRun0_A.sl.v399, ha, hb, H.x4, H.x5, act, conv, e0, e8, e16, e]

omit H in
/-- A sum over the channels is the sum of the three tiles' sums. -/
theorem sum_tiles (f : Fin 2816 → EReal) :
    ∑ c, f c = ∑ j : Fin 1024, f ⟨j.val, by omega⟩ + ∑ j : Fin 1024, f ⟨1024 + j.val, by omega⟩
      + ∑ j : Fin 768, f ⟨2048 + j.val, by omega⟩ := by
  refine (Fin.sum_univ_add (a := 2048) (b := 768) f).trans (congrArg (· + _) ?_)
  exact Fin.sum_univ_add (a := 1024) (b := 1024) fun j => f ⟨j.val, by omega⟩

/-- The rows through the final norm. -/
theorem last_at (r : Fin 1024) (d : Fin 1024) : R.r_22 (ix2 r d) = last S r d := by
  have h2 := acc2 H
  have h3 := act3 H
  simp only [Run.r_22, kernelRun0_A.sl.r_22, View.readAt_eq_ld, Memref.IsWhole.read_unread]
  pointwise [k0_pay44]
  simp only [h2, h3, H.x6, H.x7, last, out, sum_tiles, ← add_assoc]

/-- The buffer the rows are kept in, column tile by column tile. -/
theorem slab_at (j : Fin 8) (q : Fin 1024) (c : Fin 128) :
    View.canon R.HS3_8 (ix3 j q c) = last S q ⟨j.val * 128 + c.val, by omega⟩ := by
  have h := last_at H
  simp only [Run.r_22, kernelRun0_A.sl.r_22] at h
  simp only [Run.HS3_8, kernelRun0_A.sl.HS3_8, kernelRun0_A.sl.r_22, kernelRun0_A.sl.r_23, Stores.plane]
  repeat' split
  · pointwise [k0_pay53]
    refine (h q _).trans (congrArg _ (Fin.ext ?_))
    show _ + c.val = j.val * 128 + c.val
    omega
  · pointwise [k0_pay52]
    refine (h q _).trans (congrArg _ (Fin.ext ?_))
    show _ + c.val = j.val * 128 + c.val
    omega
  · pointwise [k0_pay51]
    refine (h q _).trans (congrArg _ (Fin.ext ?_))
    show _ + c.val = j.val * 128 + c.val
    omega
  · pointwise [k0_pay50, k0_pay49]
    refine (h q _).trans (congrArg _ (Fin.ext ?_))
    show _ + c.val = j.val * 128 + c.val
    omega
  · pointwise [k0_pay48]
    refine (h q _).trans (congrArg _ (Fin.ext ?_))
    show _ + c.val = j.val * 128 + c.val
    omega
  · pointwise [k0_pay47]
    refine (h q _).trans (congrArg _ (Fin.ext ?_))
    show _ + c.val = j.val * 128 + c.val
    omega
  · pointwise [k0_pay46]
    refine (h q _).trans (congrArg _ (Fin.ext ?_))
    show _ + c.val = j.val * 128 + c.val
    omega
  · pointwise [k0_pay45]
    refine (h q _).trans (congrArg _ (Fin.ext ?_))
    show c.val = j.val * 128 + c.val
    omega
  · exact absurd j.isLt (by omega)

end Cert.PromptIdeal.First
-- ==== Proof.PromptFirstStreams.lean ====
/- The stores of a first step of the prompt batch into the result's block: sixty-four boxes, one for each stream of the group and each tile of
   128 columns.  The rows of one stream lie eight rows apart in the buffer they are kept in. -/
module

public import proofs.«01_k».proof.Proof.PromptFirst

@[expose] public section
set_option maxRecDepth 16384
noncomputable section
open Idealize.ShloMosaic Idealize.ShloMosaic.TcCoe Idealize.SL.Sem

namespace Cert.PromptIdeal.First
open Cert.PromptIdeal Cert.PromptIdeal.Gen
open Cert.PromptSpec (Step)
open Cert.PromptSpec.Step

/-- A step's block of the model's output: stream, position, column. -/
def block (S : Step) : FVec Ideal S8x128x1024 .f32 :=
  fun i => last S ⟨(i 1).val * 8 + (i 0).val, by have := (i 0).isLt; have := (i 1).isLt; simp at *; omega⟩ (i 2)

/-- A store that puts there what the block holds in its box. -/
def Good (S : Step) (p : View.Piece (Elt Ideal) S8x128x1024 .f32) : Prop := ∀ x, p.2 x = block S (p.1.emb x)

variable {S : Step} {R : Run} (H : Holds S R)
include H

/-- Stream 7, column tile 7. -/
theorem store_7_7 : Good S ⟨Rect.unit (s := S8x128x1024) ![7, 0, 896] ![1, 128, 128] inb_S8x128x1024_S1x128x128_7_0_896, k0_pay2 (F := Ideal) (kernelRun0_A.sl.v773 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 7) (p := 896) (inb := inb_S8x128x1024_S1x128x128_7_0_896) (v := R.arg15.view) (slab_at H) (by decide) (by decide) rfl
    (show _ = kernelRun0_A.sl.v773 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v773 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 7, column tile 6. -/
theorem store_7_6 : Good S ⟨Rect.unit (s := S8x128x1024) ![7, 0, 768] ![1, 128, 128] inb_S8x128x1024_S1x128x128_7_0_768, k0_pay1 (F := Ideal) (kernelRun0_A.sl.r_36 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 6) (p := 768) (inb := inb_S8x128x1024_S1x128x128_7_0_768) (v := R.arg15.view) (slab_at H) (by decide) (by decide) rfl
    (show _ = kernelRun0_A.sl.v768 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v768 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 7, column tile 5. -/
theorem store_7_5 : Good S ⟨Rect.unit (s := S8x128x1024) ![7, 0, 640] S1x128x128.size inb_S8x128x1024_S1x128x128_7_0_640, k0_pay127 (F := Ideal) (kernelRun0_A.sl.v763 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 5) (p := 640) (inb := inb_S8x128x1024_S1x128x128_7_0_640) (v := R.arg15.view) (slab_at H) (by decide) (by decide) rfl
    (show _ = kernelRun0_A.sl.v763 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v763 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 7, column tile 4. -/
theorem store_7_4 : Good S ⟨Rect.unit (s := S8x128x1024) ![7, 0, 512] S1x128x128.size inb_S8x128x1024_S1x128x128_7_0_512, k0_pay126 (F := Ideal) (kernelRun0_A.sl.v758 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 4) (p := 512) (inb := inb_S8x128x1024_S1x128x128_7_0_512) (v := R.arg15.view) (slab_at H) (by decide) (by decide) rfl
    (show _ = kernelRun0_A.sl.v758 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v758 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 7, column tile 3. -/
theorem store_7_3 : Good S ⟨Rect.unit (s := S8x128x1024) ![7, 0, 384] S1x128x128.size inb_S8x128x1024_S1x128x128_7_0_384, k0_pay125 (F := Ideal) (kernelRun0_A.sl.v753 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 3) (p := 384) (inb := inb_S8x128x1024_S1x128x128_7_0_384) (v := R.arg15.view) (slab_at H) (by decide) (by decide) rfl
    (show _ = kernelRun0_A.sl.v753 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v753 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 7, column tile 2. -/
theorem store_7_2 : Good S ⟨Rect.unit (s := S8x128x1024) ![7, 0, 256] S1x128x128.size inb_S8x128x1024_S1x128x128_7_0_256, k0_pay124 (F := Ideal) (kernelRun0_A.sl.v748 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 2) (p := 256) (inb := inb_S8x128x1024_S1x128x128_7_0_256) (v := R.arg15.view) (slab_at H) (by decide) (by decide) rfl
    (show _ = kernelRun0_A.sl.v748 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v748 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 7, column tile 1. -/
theorem store_7_1 : Good S ⟨Rect.unit (s := S8x128x1024) ![7, 0, 128] S1x128x128.size inb_S8x128x1024_S1x128x128_7_0_128, k0_pay123 (F := Ideal) (kernelRun0_A.sl.r_35 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 1) (p := 128) (inb := inb_S8x128x1024_S1x128x128_7_0_128) (v := R.arg15.view) (slab_at H) (by decide) (by decide) rfl
    (show _ = kernelRun0_A.sl.v743 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v743 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 7, column tile 0. -/
theorem store_7_0 : Good S ⟨Rect.unit (s := S8x128x1024) ![7, 0, 0] S1x128x128.size inb_S8x128x1024_S1x128x128_7_0_0, k0_pay121 (F := Ideal) (kernelRun0_A.sl.v738 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 0) (p := 0) (inb := inb_S8x128x1024_S1x128x128_7_0_0) (v := R.arg15.view) (slab_at H) (by decide) (by decide) rfl
    (show _ = kernelRun0_A.sl.v738 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v738 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 6, column tile 7. -/
theorem store_6_7 : Good S ⟨Rect.unit (s := S8x128x1024) ![6, 0, 896] S1x128x128.size inb_S8x128x1024_S1x128x128_6_0_896, k0_pay120 (F := Ideal) (kernelRun0_A.sl.v733 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 7) (p := 896) (inb := inb_S8x128x1024_S1x128x128_6_0_896) (v := R.arg15.view) (slab_at H) (by decide) (by decide) rfl
    (show _ = kernelRun0_A.sl.v733 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v733 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 6, column tile 6. -/
theorem store_6_6 : Good S ⟨Rect.unit (s := S8x128x1024) ![6, 0, 768] S1x128x128.size inb_S8x128x1024_S1x128x128_6_0_768, k0_pay119 (F := Ideal) (kernelRun0_A.sl.v728 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 6) (p := 768) (inb := inb_S8x128x1024_S1x128x128_6_0_768) (v := R.arg15.view) (slab_at H) (by decide) (by decide) rfl
    (show _ = kernelRun0_A.sl.v728 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v728 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 6, column tile 5. -/
theorem store_6_5 : Good S ⟨Rect.unit (s := S8x128x1024) ![6, 0, 640] S1x128x128.size inb_S8x128x1024_S1x128x128_6_0_640, k0_pay118 (F := Ideal) (kernelRun0_A.sl.v723 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 5) (p := 640) (inb := inb_S8x128x1024_S1x128x128_6_0_640) (v := R.arg15.view) (slab_at H) (by decide) (by decide) rfl
    (show _ = kernelRun0_A.sl.v723 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v723 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 6, column tile 4. -/
theorem store_6_4 : Good S ⟨Rect.unit (s := S8x128x1024) ![6, 0, 512] S1x128x128.size inb_S8x128x1024_S1x128x128_6_0_512, k0_pay117 (F := Ideal) (kernelRun0_A.sl.r_34 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 4) (p := 512) (inb := inb_S8x128x1024_S1x128x128_6_0_512) (v := R.arg15.view) (slab_at H) (by decide) (by decide) rfl
    (show _ = kernelRun0_A.sl.v718 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v718 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 6, column tile 3. -/
theorem store_6_3 : Good S ⟨Rect.unit (s := S8x128x1024) ![6, 0, 384] S1x128x128.size inb_S8x128x1024_S1x128x128_6_0_384, k0_pay115 (F := Ideal) (kernelRun0_A.sl.v713 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 3) (p := 384) (inb := inb_S8x128x1024_S1x128x128_6_0_384) (v := R.arg15.view) (slab_at H) (by decide) (by decide) rfl
    (show _ = kernelRun0_A.sl.v713 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v713 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 6, column tile 2. -/
theorem store_6_2 : Good S ⟨Rect.unit (s := S8x128x1024) ![6, 0, 256] S1x128x128.size inb_S8x128x1024_S1x128x128_6_0_256, k0_pay114 (F := Ideal) (kernelRun0_A.sl.v708 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 2) (p := 256) (inb := inb_S8x128x1024_S1x128x128_6_0_256) (v := R.arg15.view) (slab_at H) (by decide) (by decide) rfl
    (show _ = kernelRun0_A.sl.v708 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v708 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 6, column tile 1. -/
theorem store_6_1 : Good S ⟨Rect.unit (s := S8x128x1024) ![6, 0, 128] S1x128x128.size inb_S8x128x1024_S1x128x128_6_0_128, k0_pay113 (F := Ideal) (kernelRun0_A.sl.v703 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 1) (p := 128) (inb := inb_S8x128x1024_S1x128x128_6_0_128) (v := R.arg15.view) (slab_at H) (by decide) (by decide) rfl
    (show _ = kernelRun0_A.sl.v703 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v703 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 6, column tile 0. -/
theorem store_6_0 : Good S ⟨Rect.unit (s := S8x128x1024) ![6, 0, 0] S1x128x128.size inb_S8x128x1024_S1x128x128_6_0_0, k0_pay112 (F := Ideal) (kernelRun0_A.sl.v698 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 0) (p := 0) (inb := inb_S8x128x1024_S1x128x128_6_0_0) (v := R.arg15.view) (slab_at H) (by decide) (by decide) rfl
    (show _ = kernelRun0_A.sl.v698 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v698 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 5, column tile 7. -/
theorem store_5_7 : Good S ⟨Rect.unit (s := S8x128x1024) ![5, 0, 896] S1x128x128.size inb_S8x128x1024_S1x128x128_5_0_896, k0_pay111 (F := Ideal) (kernelRun0_A.sl.r_33 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 7) (p := 896) (inb := inb_S8x128x1024_S1x128x128_5_0_896) (v := R.arg15.view) (slab_at H) (by decide) (by decide) rfl
    (show _ = kernelRun0_A.sl.v693 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v693 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 5, column tile 6. -/
theorem store_5_6 : Good S ⟨Rect.unit (s := S8x128x1024) ![5, 0, 768] S1x128x128.size inb_S8x128x1024_S1x128x128_5_0_768, k0_pay109 (F := Ideal) (kernelRun0_A.sl.v688 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 6) (p := 768) (inb := inb_S8x128x1024_S1x128x128_5_0_768) (v := R.arg15.view) (slab_at H) (by decide) (by decide) rfl
    (show _ = kernelRun0_A.sl.v688 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v688 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 5, column tile 5. -/
theorem store_5_5 : Good S ⟨Rect.unit (s := S8x128x1024) ![5, 0, 640] S1x128x128.size inb_S8x128x1024_S1x128x128_5_0_640, k0_pay108 (F := Ideal) (kernelRun0_A.sl.v683 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 5) (p := 640) (inb := inb_S8x128x1024_S1x128x128_5_0_640) (v := R.arg15.view) (slab_at H) (by decide) (by decide) rfl
    (show _ = kernelRun0_A.sl.v683 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v683 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 5, column tile 4. -/
theorem store_5_4 : Good S ⟨Rect.unit (s := S8x128x1024) ![5, 0, 512] S1x128x128.size inb_S8x128x1024_S1x128x128_5_0_512, k0_pay107 (F := Ideal) (kernelRun0_A.sl.v678 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 4) (p := 512) (inb := inb_S8x128x1024_S1x128x128_5_0_512) (v := R.arg15.view) (slab_at H) (by decide) (by decide) rfl
    (show _ = kernelRun0_A.sl.v678 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v678 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 5, column tile 3. -/
theorem store_5_3 : Good S ⟨Rect.unit (s := S8x128x1024) ![5, 0, 384] S1x128x128.size inb_S8x128x1024_S1x128x128_5_0_384, k0_pay106 (F := Ideal) (kernelRun0_A.sl.v673 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 3) (p := 384) (inb := inb_S8x128x1024_S1x128x128_5_0_384) (v := R.arg15.view) (slab_at H) (by decide) (by decide) rfl
    (show _ = kernelRun0_A.sl.v673 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v673 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 5, column tile 2. -/
theorem store_5_2 : Good S ⟨Rect.unit (s := S8x128x1024) ![5, 0, 256] S1x128x128.size inb_S8x128x1024_S1x128x128_5_0_256, k0_pay105 (F := Ideal) (kernelRun0_A.sl.r_32 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 2) (p := 256) (inb := inb_S8x128x1024_S1x128x128_5_0_256) (v := R.arg15.view) (slab_at H) (by decide) (by decide) rfl
    (show _ = kernelRun0_A.sl.v668 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v668 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 5, column tile 1. -/
theorem store_5_1 : Good S ⟨Rect.unit (s := S8x128x1024) ![5, 0, 128] S1x128x128.size inb_S8x128x1024_S1x128x128_5_0_128, k0_pay103 (F := Ideal) (kernelRun0_A.sl.v663 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 1) (p := 128) (inb := inb_S8x128x1024_S1x128x128_5_0_128) (v := R.arg15.view) (slab_at H) (by decide) (by decide) rfl
    (show _ = kernelRun0_A.sl.v663 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v663 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 5, column tile 0. -/
theorem store_5_0 : Good S ⟨Rect.unit (s := S8x128x1024) ![5, 0, 0] S1x128x128.size inb_S8x128x1024_S1x128x128_5_0_0, k0_pay102 (F := Ideal) (kernelRun0_A.sl.v658 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 0) (p := 0) (inb := inb_S8x128x1024_S1x128x128_5_0_0) (v := R.arg15.view) (slab_at H) (by decide) (by decide) rfl
    (show _ = kernelRun0_A.sl.v658 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v658 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 4, column tile 7. -/
theorem store_4_7 : Good S ⟨Rect.unit (s := S8x128x1024) ![4, 0, 896] S1x128x128.size inb_S8x128x1024_S1x128x128_4_0_896, k0_pay101 (F := Ideal) (kernelRun0_A.sl.v653 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 7) (p := 896) (inb := inb_S8x128x1024_S1x128x128_4_0_896) (v := R.arg15.view) (slab_at H) (by decide) (by decide) rfl
    (show _ = kernelRun0_A.sl.v653 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v653 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 4, column tile 6. -/
theorem store_4_6 : Good S ⟨Rect.unit (s := S8x128x1024) ![4, 0, 768] S1x128x128.size inb_S8x128x1024_S1x128x128_4_0_768, k0_pay100 (F := Ideal) (kernelRun0_A.sl.v648 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 6) (p := 768) (inb := inb_S8x128x1024_S1x128x128_4_0_768) (v := R.arg15.view) (slab_at H) (by decide) (by decide) rfl
    (show _ = kernelRun0_A.sl.v648 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v648 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 4, column tile 5. -/
theorem store_4_5 : Good S ⟨Rect.unit (s := S8x128x1024) ![4, 0, 640] S1x128x128.size inb_S8x128x1024_S1x128x128_4_0_640, k0_pay99 (F := Ideal) (kernelRun0_A.sl.r_31 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 5) (p := 640) (inb := inb_S8x128x1024_S1x128x128_4_0_640) (v := R.arg15.view) (slab_at H) (by decide) (by decide) rfl
    (show _ = kernelRun0_A.sl.v643 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v643 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 4, column tile 4. -/
theorem store_4_4 : Good S ⟨Rect.unit (s := S8x128x1024) ![4, 0, 512] S1x128x128.size inb_S8x128x1024_S1x128x128_4_0_512, k0_pay97 (F := Ideal) (kernelRun0_A.sl.v638 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 4) (p := 512) (inb := inb_S8x128x1024_S1x128x128_4_0_512) (v := R.arg15.view) (slab_at H) (by decide) (by decide) rfl
    (show _ = kernelRun0_A.sl.v638 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v638 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 4, column tile 3. -/
theorem store_4_3 : Good S ⟨Rect.unit (s := S8x128x1024) ![4, 0, 384] S1x128x128.size inb_S8x128x1024_S1x128x128_4_0_384, k0_pay96 (F := Ideal) (kernelRun0_A.sl.v633 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 3) (p := 384) (inb := inb_S8x128x1024_S1x128x128_4_0_384) (v := R.arg15.view) (slab_at H) (by decide) (by decide) rfl
    (show _ = kernelRun0_A.sl.v633 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v633 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 4, column tile 2. -/
theorem store_4_2 : Good S ⟨Rect.unit (s := S8x128x1024) ![4, 0, 256] S1x128x128.size inb_S8x128x1024_S1x128x128_4_0_256, k0_pay95 (F := Ideal) (kernelRun0_A.sl.v628 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 2) (p := 256) (inb := inb_S8x128x1024_S1x128x128_4_0_256) (v := R.arg15.view) (slab_at H) (by decide) (by decide) rfl
    (show _ = kernelRun0_A.sl.v628 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v628 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 4, column tile 1. -/
theorem store_4_1 : Good S ⟨Rect.unit (s := S8x128x1024) ![4, 0, 128] S1x128x128.size inb_S8x128x1024_S1x128x128_4_0_128, k0_pay94 (F := Ideal) (kernelRun0_A.sl.v623 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 1) (p := 128) (inb := inb_S8x128x1024_S1x128x128_4_0_128) (v := R.arg15.view) (slab_at H) (by decide) (by decide) rfl
    (show _ = kernelRun0_A.sl.v623 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v623 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 4, column tile 0. -/
theorem store_4_0 : Good S ⟨Rect.unit (s := S8x128x1024) ![4, 0, 0] S1x128x128.size inb_S8x128x1024_S1x128x128_4_0_0, k0_pay93 (F := Ideal) (kernelRun0_A.sl.r_30 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 0) (p := 0) (inb := inb_S8x128x1024_S1x128x128_4_0_0) (v := R.arg15.view) (slab_at H) (by decide) (by decide) rfl
    (show _ = kernelRun0_A.sl.v618 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v618 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 3, column tile 7. -/
theorem store_3_7 : Good S ⟨Rect.unit (s := S8x128x1024) ![3, 0, 896] S1x128x128.size inb_S8x128x1024_S1x128x128_3_0_896, k0_pay91 (F := Ideal) (kernelRun0_A.sl.v613 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 7) (p := 896) (inb := inb_S8x128x1024_S1x128x128_3_0_896) (v := R.arg15.view) (slab_at H) (by decide) (by decide) rfl
    (show _ = kernelRun0_A.sl.v613 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v613 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 3, column tile 6. -/
theorem store_3_6 : Good S ⟨Rect.unit (s := S8x128x1024) ![3, 0, 768] S1x128x128.size inb_S8x128x1024_S1x128x128_3_0_768, k0_pay90 (F := Ideal) (kernelRun0_A.sl.v608 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 6) (p := 768) (inb := inb_S8x128x1024_S1x128x128_3_0_768) (v := R.arg15.view) (slab_at H) (by decide) (by decide) rfl
    (show _ = kernelRun0_A.sl.v608 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v608 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 3, column tile 5. -/
theorem store_3_5 : Good S ⟨Rect.unit (s := S8x128x1024) ![3, 0, 640] S1x128x128.size inb_S8x128x1024_S1x128x128_3_0_640, k0_pay89 (F := Ideal) (kernelRun0_A.sl.v603 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 5) (p := 640) (inb := inb_S8x128x1024_S1x128x128_3_0_640) (v := R.arg15.view) (slab_at H) (by decide) (by decide) rfl
    (show _ = kernelRun0_A.sl.v603 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v603 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 3, column tile 4. -/
theorem store_3_4 : Good S ⟨Rect.unit (s := S8x128x1024) ![3, 0, 512] S1x128x128.size inb_S8x128x1024_S1x128x128_3_0_512, k0_pay88 (F := Ideal) (kernelRun0_A.sl.v598 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 4) (p := 512) (inb := inb_S8x128x1024_S1x128x128_3_0_512) (v := R.arg15.view) (slab_at H) (by decide) (by decide) rfl
    (show _ = kernelRun0_A.sl.v598 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v598 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 3, column tile 3. -/
theorem store_3_3 : Good S ⟨Rect.unit (s := S8x128x1024) ![3, 0, 384] S1x128x128.size inb_S8x128x1024_S1x128x128_3_0_384, k0_pay87 (F := Ideal) (kernelRun0_A.sl.r_29 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 3) (p := 384) (inb := inb_S8x128x1024_S1x128x128_3_0_384) (v := R.arg15.view) (slab_at H) (by decide) (by decide) rfl
    (show _ = kernelRun0_A.sl.v593 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v593 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 3, column tile 2. -/
theorem store_3_2 : Good S ⟨Rect.unit (s := S8x128x1024) ![3, 0, 256] S1x128x128.size inb_S8x128x1024_S1x128x128_3_0_256, k0_pay85 (F := Ideal) (kernelRun0_A.sl.v588 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 2) (p := 256) (inb := inb_S8x128x1024_S1x128x128_3_0_256) (v := R.arg15.view) (slab_at H) (by decide) (by decide) rfl
    (show _ = kernelRun0_A.sl.v588 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v588 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 3, column tile 1. -/
theorem store_3_1 : Good S ⟨Rect.unit (s := S8x128x1024) ![3, 0, 128] S1x128x128.size inb_S8x128x1024_S1x128x128_3_0_128, k0_pay84 (F := Ideal) (kernelRun0_A.sl.v583 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 1) (p := 128) (inb := inb_S8x128x1024_S1x128x128_3_0_128) (v := R.arg15.view) (slab_at H) (by decide) (by decide) rfl
    (show _ = kernelRun0_A.sl.v583 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v583 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 3, column tile 0. -/
theorem store_3_0 : Good S ⟨Rect.unit (s := S8x128x1024) ![3, 0, 0] S1x128x128.size inb_S8x128x1024_S1x128x128_3_0_0, k0_pay83 (F := Ideal) (kernelRun0_A.sl.v578 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 0) (p := 0) (inb := inb_S8x128x1024_S1x128x128_3_0_0) (v := R.arg15.view) (slab_at H) (by decide) (by decide) rfl
    (show _ = kernelRun0_A.sl.v578 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v578 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 2, column tile 7. -/
theorem store_2_7 : Good S ⟨Rect.unit (s := S8x128x1024) ![2, 0, 896] S1x128x128.size inb_S8x128x1024_S1x128x128_2_0_896, k0_pay82 (F := Ideal) (kernelRun0_A.sl.v573 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 7) (p := 896) (inb := inb_S8x128x1024_S1x128x128_2_0_896) (v := R.arg15.view) (slab_at H) (by decide) (by decide) rfl
    (show _ = kernelRun0_A.sl.v573 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v573 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 2, column tile 6. -/
theorem store_2_6 : Good S ⟨Rect.unit (s := S8x128x1024) ![2, 0, 768] S1x128x128.size inb_S8x128x1024_S1x128x128_2_0_768, k0_pay81 (F := Ideal) (kernelRun0_A.sl.r_28 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 6) (p := 768) (inb := inb_S8x128x1024_S1x128x128_2_0_768) (v := R.arg15.view) (slab_at H) (by decide) (by decide) rfl
    (show _ = kernelRun0_A.sl.v568 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v568 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 2, column tile 5. -/
theorem store_2_5 : Good S ⟨Rect.unit (s := S8x128x1024) ![2, 0, 640] S1x128x128.size inb_S8x128x1024_S1x128x128_2_0_640, k0_pay79 (F := Ideal) (kernelRun0_A.sl.v563 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 5) (p := 640) (inb := inb_S8x128x1024_S1x128x128_2_0_640) (v := R.arg15.view) (slab_at H) (by decide) (by decide) rfl
    (show _ = kernelRun0_A.sl.v563 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v563 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 2, column tile 4. -/
theorem store_2_4 : Good S ⟨Rect.unit (s := S8x128x1024) ![2, 0, 512] S1x128x128.size inb_S8x128x1024_S1x128x128_2_0_512, k0_pay78 (F := Ideal) (kernelRun0_A.sl.v558 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 4) (p := 512) (inb := inb_S8x128x1024_S1x128x128_2_0_512) (v := R.arg15.view) (slab_at H) (by decide) (by decide) rfl
    (show _ = kernelRun0_A.sl.v558 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v558 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 2, column tile 3. -/
theorem store_2_3 : Good S ⟨Rect.unit (s := S8x128x1024) ![2, 0, 384] S1x128x128.size inb_S8x128x1024_S1x128x128_2_0_384, k0_pay77 (F := Ideal) (kernelRun0_A.sl.v553 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 3) (p := 384) (inb := inb_S8x128x1024_S1x128x128_2_0_384) (v := R.arg15.view) (slab_at H) (by decide) (by decide) rfl
    (show _ = kernelRun0_A.sl.v553 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v553 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 2, column tile 2. -/
theorem store_2_2 : Good S ⟨Rect.unit (s := S8x128x1024) ![2, 0, 256] S1x128x128.size inb_S8x128x1024_S1x128x128_2_0_256, k0_pay76 (F := Ideal) (kernelRun0_A.sl.v548 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 2) (p := 256) (inb := inb_S8x128x1024_S1x128x128_2_0_256) (v := R.arg15.view) (slab_at H) (by decide) (by decide) rfl
    (show _ = kernelRun0_A.sl.v548 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v548 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 2, column tile 1. -/
theorem store_2_1 : Good S ⟨Rect.unit (s := S8x128x1024) ![2, 0, 128] S1x128x128.size inb_S8x128x1024_S1x128x128_2_0_128, k0_pay75 (F := Ideal) (kernelRun0_A.sl.r_27 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 1) (p := 128) (inb := inb_S8x128x1024_S1x128x128_2_0_128) (v := R.arg15.view) (slab_at H) (by decide) (by decide) rfl
    (show _ = kernelRun0_A.sl.v543 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v543 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 2, column tile 0. -/
theorem store_2_0 : Good S ⟨Rect.unit (s := S8x128x1024) ![2, 0, 0] S1x128x128.size inb_S8x128x1024_S1x128x128_2_0_0, k0_pay73 (F := Ideal) (kernelRun0_A.sl.v538 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 0) (p := 0) (inb := inb_S8x128x1024_S1x128x128_2_0_0) (v := R.arg15.view) (slab_at H) (by decide) (by decide) rfl
    (show _ = kernelRun0_A.sl.v538 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v538 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 1, column tile 7. -/
theorem store_1_7 : Good S ⟨Rect.unit (s := S8x128x1024) ![1, 0, 896] S1x128x128.size inb_S8x128x1024_S1x128x128_1_0_896, k0_pay72 (F := Ideal) (kernelRun0_A.sl.v533 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 7) (p := 896) (inb := inb_S8x128x1024_S1x128x128_1_0_896) (v := R.arg15.view) (slab_at H) (by decide) (by decide) rfl
    (show _ = kernelRun0_A.sl.v533 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v533 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 1, column tile 6. -/
theorem store_1_6 : Good S ⟨Rect.unit (s := S8x128x1024) ![1, 0, 768] S1x128x128.size inb_S8x128x1024_S1x128x128_1_0_768, k0_pay71 (F := Ideal) (kernelRun0_A.sl.v528 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 6) (p := 768) (inb := inb_S8x128x1024_S1x128x128_1_0_768) (v := R.arg15.view) (slab_at H) (by decide) (by decide) rfl
    (show _ = kernelRun0_A.sl.v528 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v528 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 1, column tile 5. -/
theorem store_1_5 : Good S ⟨Rect.unit (s := S8x128x1024) ![1, 0, 640] S1x128x128.size inb_S8x128x1024_S1x128x128_1_0_640, k0_pay70 (F := Ideal) (kernelRun0_A.sl.v523 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 5) (p := 640) (inb := inb_S8x128x1024_S1x128x128_1_0_640) (v := R.arg15.view) (slab_at H) (by decide) (by decide) rfl
    (show _ = kernelRun0_A.sl.v523 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v523 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 1, column tile 4. -/
theorem store_1_4 : Good S ⟨Rect.unit (s := S8x128x1024) ![1, 0, 512] S1x128x128.size inb_S8x128x1024_S1x128x128_1_0_512, k0_pay69 (F := Ideal) (kernelRun0_A.sl.r_26 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 4) (p := 512) (inb := inb_S8x128x1024_S1x128x128_1_0_512) (v := R.arg15.view) (slab_at H) (by decide) (by decide) rfl
    (show _ = kernelRun0_A.sl.v518 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v518 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 1, column tile 3. -/
theorem store_1_3 : Good S ⟨Rect.unit (s := S8x128x1024) ![1, 0, 384] S1x128x128.size inb_S8x128x1024_S1x128x128_1_0_384, k0_pay67 (F := Ideal) (kernelRun0_A.sl.v513 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 3) (p := 384) (inb := inb_S8x128x1024_S1x128x128_1_0_384) (v := R.arg15.view) (slab_at H) (by decide) (by decide) rfl
    (show _ = kernelRun0_A.sl.v513 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v513 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 1, column tile 2. -/
theorem store_1_2 : Good S ⟨Rect.unit (s := S8x128x1024) ![1, 0, 256] S1x128x128.size inb_S8x128x1024_S1x128x128_1_0_256, k0_pay66 (F := Ideal) (kernelRun0_A.sl.v508 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 2) (p := 256) (inb := inb_S8x128x1024_S1x128x128_1_0_256) (v := R.arg15.view) (slab_at H) (by decide) (by decide) rfl
    (show _ = kernelRun0_A.sl.v508 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v508 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 1, column tile 1. -/
theorem store_1_1 : Good S ⟨Rect.unit (s := S8x128x1024) ![1, 0, 128] S1x128x128.size inb_S8x128x1024_S1x128x128_1_0_128, k0_pay65 (F := Ideal) (kernelRun0_A.sl.v503 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 1) (p := 128) (inb := inb_S8x128x1024_S1x128x128_1_0_128) (v := R.arg15.view) (slab_at H) (by decide) (by decide) rfl
    (show _ = kernelRun0_A.sl.v503 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v503 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 1, column tile 0. -/
theorem store_1_0 : Good S ⟨Rect.unit (s := S8x128x1024) ![1, 0, 0] S1x128x128.size inb_S8x128x1024_S1x128x128_1_0_0, k0_pay64 (F := Ideal) (kernelRun0_A.sl.v498 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 0) (p := 0) (inb := inb_S8x128x1024_S1x128x128_1_0_0) (v := R.arg15.view) (slab_at H) (by decide) (by decide) rfl
    (show _ = kernelRun0_A.sl.v498 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v498 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 0, column tile 7. -/
theorem store_0_7 : Good S ⟨Rect.unit (s := S8x128x1024) ![0, 0, 896] S1x128x128.size inb_S8x128x1024_S1x128x128_0_0_896, k0_pay63 (F := Ideal) (kernelRun0_A.sl.r_25 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 7) (p := 896) (inb := inb_S8x128x1024_S1x128x128_0_0_896) (v := R.arg15.view) (slab_at H) (by decide) (by decide) rfl
    (show _ = kernelRun0_A.sl.v493 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v493 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 0, column tile 6. -/
theorem store_0_6 : Good S ⟨Rect.unit (s := S8x128x1024) ![0, 0, 768] S1x128x128.size inb_S8x128x1024_S1x128x128_0_0_768, k0_pay61 (F := Ideal) (kernelRun0_A.sl.v488 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 6) (p := 768) (inb := inb_S8x128x1024_S1x128x128_0_0_768) (v := R.arg15.view) (slab_at H) (by decide) (by decide) rfl
    (show _ = kernelRun0_A.sl.v488 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v488 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 0, column tile 5. -/
theorem store_0_5 : Good S ⟨Rect.unit (s := S8x128x1024) ![0, 0, 640] S1x128x128.size inb_S8x128x1024_S1x128x128_0_0_640, k0_pay60 (F := Ideal) (kernelRun0_A.sl.v483 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 5) (p := 640) (inb := inb_S8x128x1024_S1x128x128_0_0_640) (v := R.arg15.view) (slab_at H) (by decide) (by decide) rfl
    (show _ = kernelRun0_A.sl.v483 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v483 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 0, column tile 4. -/
theorem store_0_4 : Good S ⟨Rect.unit (s := S8x128x1024) ![0, 0, 512] S1x128x128.size inb_S8x128x1024_S1x128x128_0_0_512, k0_pay59 (F := Ideal) (kernelRun0_A.sl.v478 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 4) (p := 512) (inb := inb_S8x128x1024_S1x128x128_0_0_512) (v := R.arg15.view) (slab_at H) (by decide) (by decide) rfl
    (show _ = kernelRun0_A.sl.v478 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v478 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 0, column tile 3. -/
theorem store_0_3 : Good S ⟨Rect.unit (s := S8x128x1024) ![0, 0, 384] S1x128x128.size inb_S8x128x1024_S1x128x128_0_0_384, k0_pay58 (F := Ideal) (kernelRun0_A.sl.v473 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 3) (p := 384) (inb := inb_S8x128x1024_S1x128x128_0_0_384) (v := R.arg15.view) (slab_at H) (by decide) (by decide) rfl
    (show _ = kernelRun0_A.sl.v473 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v473 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 0, column tile 2. -/
theorem store_0_2 : Good S ⟨Rect.unit (s := S8x128x1024) ![0, 0, 256] S1x128x128.size inb_S8x128x1024_S1x128x128_0_0_256, k0_pay57 (F := Ideal) (kernelRun0_A.sl.r_24 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 2) (p := 256) (inb := inb_S8x128x1024_S1x128x128_0_0_256) (v := R.arg15.view) (slab_at H) (by decide) (by decide) rfl
    (show _ = kernelRun0_A.sl.v468 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v468 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 0, column tile 1. -/
theorem store_0_1 : Good S ⟨Rect.unit (s := S8x128x1024) ![0, 0, 128] S1x128x128.size inb_S8x128x1024_S1x128x128_0_0_128, k0_pay55 (F := Ideal) (kernelRun0_A.sl.v463 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 1) (p := 128) (inb := inb_S8x128x1024_S1x128x128_0_0_128) (v := R.arg15.view) (slab_at H) (by decide) (by decide) rfl
    (show _ = kernelRun0_A.sl.v463 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v463 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Stream 0, column tile 0. -/
theorem store_0_0 : Good S ⟨Rect.unit (s := S8x128x1024) ![0, 0, 0] S1x128x128.size inb_S8x128x1024_S1x128x128_0_0_0, k0_pay54 (F := Ideal) (kernelRun0_A.sl.v458 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7)⟩ :=
  Cert.Stores.stream (j := 0) (p := 0) (inb := inb_S8x128x1024_S1x128x128_0_0_0) (v := R.arg15.view) (slab_at H) (by decide) (by decide) rfl
    (show _ = kernelRun0_A.sl.v458 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7 from shapeCast_shapeCast (kernelRun0_A.sl.v458 (F := Ideal) R.c R.arg2 R.harg2 R.arg3 R.harg3 R.arg4 R.harg4 R.arg5 R.harg5 R.arg6 R.harg6 R.arg7 R.harg7 R.arg8 R.harg8 R.arg9 R.harg9 R.arg11 R.arg12 R.arg13 R.arg14 R.arg15 R.x0 R.x1 R.x2 R.x3 R.x4 R.x5 R.x6 R.x7) _ _)

/-- Every store into the block puts there what the block holds. -/
theorem stores_good (i : grid0.Coords) (arg10 : Memref sig .tc .vmem S8x128x1024 .f32) (harg10 : arg10.IsWhole) (harg11 : R.arg11.IsWhole) (harg12 : R.arg12.IsWhole) (harg13 : R.arg13.IsWhole) (harg14 : R.arg14.IsWhole) (harg15 : R.arg15.IsWhole) (hc0 : cond0_0 i) :
    ∀ p ∈ (kernelRun0_A (F := Ideal) R.c i R.arg2 R.harg2 R.arg3 R.harg3 R.arg4 R.harg4 R.arg5 R.harg5 R.arg6 R.harg6 R.arg7 R.harg7 R.arg8 R.harg8 R.arg9 R.harg9 arg10 harg10 R.arg11 harg11 R.arg12 harg12 R.arg13 harg13 R.arg14 harg14 R.arg15 harg15 hc0 R.x0 R.x1 R.x2 R.x3 R.x4 R.x5 R.x6 R.x7).1, Good S p := by
  rw [kernelRun0_A]
  refine List.forall_mem_cons.2 ⟨store_7_7 H, ?_⟩
  refine List.forall_mem_cons.2 ⟨store_7_6 H, ?_⟩
  refine List.forall_mem_cons.2 ⟨store_7_5 H, ?_⟩
  refine List.forall_mem_cons.2 ⟨store_7_4 H, ?_⟩
  refine List.forall_mem_cons.2 ⟨store_7_3 H, ?_⟩
  refine List.forall_mem_cons.2 ⟨store_7_2 H, ?_⟩
  refine List.forall_mem_cons.2 ⟨store_7_1 H, ?_⟩
  refine List.forall_mem_cons.2 ⟨store_7_0 H, ?_⟩
  refine List.forall_mem_cons.2 ⟨store_6_7 H, ?_⟩
  refine List.forall_mem_cons.2 ⟨store_6_6 H, ?_⟩
  refine List.forall_mem_cons.2 ⟨store_6_5 H, ?_⟩
  refine List.forall_mem_cons.2 ⟨store_6_4 H, ?_⟩
  refine List.forall_mem_cons.2 ⟨store_6_3 H, ?_⟩
  refine List.forall_mem_cons.2 ⟨store_6_2 H, ?_⟩
  refine List.forall_mem_cons.2 ⟨store_6_1 H, ?_⟩
  refine List.forall_mem_cons.2 ⟨store_6_0 H, ?_⟩
  refine List.forall_mem_cons.2 ⟨store_5_7 H, ?_⟩
  refine List.forall_mem_cons.2 ⟨store_5_6 H, ?_⟩
  refine List.forall_mem_cons.2 ⟨store_5_5 H, ?_⟩
  refine List.forall_mem_cons.2 ⟨store_5_4 H, ?_⟩
  refine List.forall_mem_cons.2 ⟨store_5_3 H, ?_⟩
  refine List.forall_mem_cons.2 ⟨store_5_2 H, ?_⟩
  refine List.forall_mem_cons.2 ⟨store_5_1 H, ?_⟩
  refine List.forall_mem_cons.2 ⟨store_5_0 H, ?_⟩
  refine List.forall_mem_cons.2 ⟨store_4_7 H, ?_⟩
  refine List.forall_mem_cons.2 ⟨store_4_6 H, ?_⟩
  refine List.forall_mem_cons.2 ⟨store_4_5 H, ?_⟩
  refine List.forall_mem_cons.2 ⟨store_4_4 H, ?_⟩
  refine List.forall_mem_cons.2 ⟨store_4_3 H, ?_⟩
  refine List.forall_mem_cons.2 ⟨store_4_2 H, ?_⟩
  refine List.forall_mem_cons.2 ⟨store_4_1 H, ?_⟩
  refine List.forall_mem_cons.2 ⟨store_4_0 H, ?_⟩
  refine List.forall_mem_cons.2 ⟨store_3_7 H, ?_⟩
  refine List.forall_mem_cons.2 ⟨store_3_6 H, ?_⟩
  refine List.forall_mem_cons.2 ⟨store_3_5 H, ?_⟩
  refine List.forall_mem_cons.2 ⟨store_3_4 H, ?_⟩
  refine List.forall_mem_cons.2 ⟨store_3_3 H, ?_⟩
  refine List.forall_mem_cons.2 ⟨store_3_2 H, ?_⟩
  refine List.forall_mem_cons.2 ⟨store_3_1 H, ?_⟩
  refine List.forall_mem_cons.2 ⟨store_3_0 H, ?_⟩
  refine List.forall_mem_cons.2 ⟨store_2_7 H, ?_⟩
  refine List.forall_mem_cons.2 ⟨store_2_6 H, ?_⟩
  refine List.forall_mem_cons.2 ⟨store_2_5 H, ?_⟩
  refine List.forall_mem_cons.2 ⟨store_2_4 H, ?_⟩
  refine List.forall_mem_cons.2 ⟨store_2_3 H, ?_⟩
  refine List.forall_mem_cons.2 ⟨store_2_2 H, ?_⟩
  refine List.forall_mem_cons.2 ⟨store_2_1 H, ?_⟩
  refine List.forall_mem_cons.2 ⟨store_2_0 H, ?_⟩
  refine List.forall_mem_cons.2 ⟨store_1_7 H, ?_⟩
  refine List.forall_mem_cons.2 ⟨store_1_6 H, ?_⟩
  refine List.forall_mem_cons.2 ⟨store_1_5 H, ?_⟩
  refine List.forall_mem_cons.2 ⟨store_1_4 H, ?_⟩
  refine List.forall_mem_cons.2 ⟨store_1_3 H, ?_⟩
  refine List.forall_mem_cons.2 ⟨store_1_2 H, ?_⟩
  refine List.forall_mem_cons.2 ⟨store_1_1 H, ?_⟩
  refine List.forall_mem_cons.2 ⟨store_1_0 H, ?_⟩
  refine List.forall_mem_cons.2 ⟨store_0_7 H, ?_⟩
  refine List.forall_mem_cons.2 ⟨store_0_6 H, ?_⟩
  refine List.forall_mem_cons.2 ⟨store_0_5 H, ?_⟩
  refine List.forall_mem_cons.2 ⟨store_0_4 H, ?_⟩
  refine List.forall_mem_cons.2 ⟨store_0_3 H, ?_⟩
  refine List.forall_mem_cons.2 ⟨store_0_2 H, ?_⟩
  refine List.forall_mem_cons.2 ⟨store_0_1 H, ?_⟩
  refine List.forall_mem_cons.2 ⟨store_0_0 H, ?_⟩
  exact fun p hp => absurd hp List.not_mem_nil

/-- So the stores leave the block. -/
theorem stored_block (i : grid0.Coords) (arg10 : Memref sig .tc .vmem S8x128x1024 .f32) (harg10 : arg10.IsWhole) (harg11 : R.arg11.IsWhole) (harg12 : R.arg12.IsWhole) (harg13 : R.arg13.IsWhole) (harg14 : R.arg14.IsWhole) (harg15 : R.arg15.IsWhole) (hc0 : cond0_0 i) (b : Fin 8) (s : Fin 128) (e : Fin 1024) :
    View.canon (kernelRun0_A (F := Ideal) R.c i R.arg2 R.harg2 R.arg3 R.harg3 R.arg4 R.harg4 R.arg5 R.harg5 R.arg6 R.harg6 R.arg7 R.harg7 R.arg8 R.harg8 R.arg9 R.harg9 arg10 harg10 R.arg11 harg11 R.arg12 harg12 R.arg13 harg13 R.arg14 harg14 R.arg15 harg15 hc0 R.x0 R.x1 R.x2 R.x3 R.x4 R.x5 R.x6 R.x7).1 (ix3 b s e) = last S ⟨s.val * 8 + b.val, by omega⟩ e :=
  View.canon_apply_of_pieces (Val := Elt Ideal) (e := .f32) (block S) _ (stores_good H i arg10 harg10 harg11 harg12 harg13 harg14 harg15 hc0) (ix3 b s e) (cover0_A_8 ..)

end Cert.PromptIdeal.First
-- ==== Proof.PromptLater.lean ====
/- The feed-forward kernel's run at a later step of a group of the prompt batch (its carried rows are those the step before left), read stage by stage: the normalised rows, the rows its two
   scratch buffers hold for each tile of channels, the gated activations, and the rows it carries on.  Every stage is
   the corresponding function of `Cert.PromptSpec.Step`. -/
module

public import proofs.«01_k».proof.Proof.Gen.PromptIdeal.Frame
public import proofs.«01_k».proof.Proof.PromptSpec
public import proofs.«01_k».proof.Proof.Stores

@[expose] public section
set_option maxRecDepth 16384
noncomputable section
open Idealize.ShloMosaic Idealize.ShloMosaic.TcCoe Idealize.SL.Sem

namespace Cert.PromptIdeal.Later
open Cert.PromptIdeal Cert.PromptIdeal.Gen
open Cert.PromptSpec (Step)
open Cert.PromptSpec.Step

/-- One run of the body: the buffers it is handed and the input blocks they hold. -/
structure Run where
  c : Dev nD
  arg2 : Memref sig .tc .vmem S1x1024x1024 .f32
  harg2 : arg2.IsWhole
  arg3 : Memref sig .tc .vmem S1x1x16x5632 .f32
  harg3 : arg3.IsWhole
  arg4 : Memref sig .tc .vmem S1x1x1024 .f32
  harg4 : arg4.IsWhole
  arg5 : Memref sig .tc .vmem S1x1024x5632 .bf16
  harg5 : arg5.IsWhole
  arg6 : Memref sig .tc .vmem S1x3x5632 .f32
  harg6 : arg6.IsWhole
  arg7 : Memref sig .tc .vmem S1x1x5632 .f32
  harg7 : arg7.IsWhole
  arg8 : Memref sig .tc .vmem S1x2816x1024 .bf16
  harg8 : arg8.IsWhole
  arg9 : Memref sig .tc .vmem S1x1024 .f32
  harg9 : arg9.IsWhole
  arg11 : Memref sig .tc .vmem S1x16x5632 .f32
  harg11 : arg11.IsWhole
  arg12 : Memref sig .tc .vmem S1024x1024 .bf16
  arg13 : Memref sig .tc .vmem S1040x1024 .f32
  arg14 : Memref sig .tc .vmem S1040x1024 .f32
  arg15 : Memref sig .tc .vmem S8x1024x128 .f32
  x0 : Vec Ideal S1x1024x1024 .f32
  x1 : Vec Ideal S1x1x16x5632 .f32
  x2 : Vec Ideal S1x1x1024 .f32
  x3 : Vec Ideal S1x1024x5632 .bf16
  x4 : Vec Ideal S1x3x5632 .f32
  x5 : Vec Ideal S1x1x5632 .f32
  x6 : Vec Ideal S1x2816x1024 .bf16
  x7 : Vec Ideal S1x1024 .f32
  x9 : Vec Ideal S1x16x5632 .f32

/-- The run's input blocks are the operands of the step `S`. -/
structure Holds (S : Step) (R : Run) : Prop where
  x0 : ∀ r d, R.x0 (ix3 0 r d) = S.x r d
  x9 : ∀ (r : Fin 16) (c : Fin 5632), R.x9 (ix3 0 r c) = ext S ⟨r.val, by omega⟩ c
  x2 : ∀ d, R.x2 (ix3 0 0 d) = S.nw d
  x3 : ∀ d c, R.x3 (ix3 0 d c) = S.u d c
  x4 : ∀ k c, R.x4 (ix3 0 k c) = S.cw k c
  x5 : ∀ c, R.x5 (ix3 0 0 c) = S.cb c
  x6 : ∀ c e, R.x6 (ix3 0 c e) = S.dn c e
  x7 : ∀ e, R.x7 (ix2 0 e) = S.fw e

namespace Run
variable (R : Run)

abbrev v30 := kernelRun0_B.sl.v30 (F := Ideal) R.c R.arg2 R.harg2 R.arg4 R.harg4 R.arg12 R.x0 R.x2
abbrev HS1_2 := kernelRun0_B.sl.HS1_2 (F := Ideal) R.c R.arg2 R.harg2 R.arg4 R.harg4 R.arg5 R.harg5 R.arg11 R.harg11 R.arg12 R.x0 R.x2 R.x3 R.x9
abbrev HS1_4 := kernelRun0_B.sl.HS1_4 (F := Ideal) R.c R.arg2 R.harg2 R.arg4 R.harg4 R.arg5 R.harg5 R.arg11 R.harg11 R.arg12 R.x0 R.x2 R.x3 R.x9
abbrev HS1_6 := kernelRun0_B.sl.HS1_6 (F := Ideal) R.c R.arg2 R.harg2 R.arg4 R.harg4 R.arg5 R.harg5 R.arg11 R.harg11 R.arg12 R.x0 R.x2 R.x3 R.x9
abbrev HS2_2 := kernelRun0_B.sl.HS2_2 (F := Ideal) R.c R.arg2 R.harg2 R.arg4 R.harg4 R.arg5 R.harg5 R.arg11 R.harg11 R.arg12 R.x0 R.x2 R.x3 R.x9
abbrev HS2_4 := kernelRun0_B.sl.HS2_4 (F := Ideal) R.c R.arg2 R.harg2 R.arg4 R.harg4 R.arg5 R.harg5 R.arg11 R.harg11 R.arg12 R.x0 R.x2 R.x3 R.x9
abbrev HS2_5 := kernelRun0_B.sl.HS2_5 (F := Ideal) R.c R.arg2 R.harg2 R.arg4 R.harg4 R.arg5 R.harg5 R.arg11 R.harg11 R.arg12 R.x0 R.x2 R.x3 R.x9
abbrev HS2_6 := kernelRun0_B.sl.HS2_6 (F := Ideal) R.c R.arg2 R.harg2 R.arg4 R.harg4 R.arg5 R.harg5 R.arg11 R.harg11 R.arg12 R.x0 R.x2 R.x3 R.x9
abbrev r := kernelRun0_B.sl.r (F := Ideal) R.c R.arg2 R.harg2 R.x0
abbrev r_4 := kernelRun0_B.sl.r_4 (F := Ideal) R.c R.arg2 R.harg2 R.arg4 R.harg4 R.arg5 R.harg5 R.arg6 R.harg6 R.arg7 R.harg7 R.arg11 R.harg11 R.arg12 R.arg13 R.arg14 R.x0 R.x2 R.x3 R.x4 R.x5 R.x9
abbrev r_5 := kernelRun0_B.sl.r_5 (F := Ideal) R.c R.arg2 R.harg2 R.arg4 R.harg4 R.arg5 R.harg5 R.arg6 R.harg6 R.arg7 R.harg7 R.arg11 R.harg11 R.arg12 R.arg13 R.x0 R.x2 R.x3 R.x4 R.x5 R.x9
abbrev r_6 := kernelRun0_B.sl.r_6 (F := Ideal) R.c R.arg2 R.harg2 R.arg4 R.harg4 R.arg5 R.harg5 R.arg6 R.harg6 R.arg7 R.harg7 R.arg8 R.harg8 R.arg11 R.harg11 R.arg12 R.arg13 R.arg14 R.x0 R.x2 R.x3 R.x4 R.x5 R.x6 R.x9
abbrev r_11 := kernelRun0_B.sl.r_11 (F := Ideal) R.c R.arg2 R.harg2 R.arg4 R.harg4 R.arg5 R.harg5 R.arg6 R.harg6 R.arg7 R.harg7 R.arg11 R.harg11 R.arg12 R.arg13 R.arg14 R.x0 R.x2 R.x3 R.x4 R.x5 R.x9
abbrev r_12 := kernelRun0_B.sl.r_12 (F := Ideal) R.c R.arg2 R.harg2 R.arg4 R.harg4 R.arg5 R.harg5 R.arg6 R.harg6 R.arg7 R.harg7 R.arg11 R.harg11 R.arg12 R.arg13 R.x0 R.x2 R.x3 R.x4 R.x5 R.x9
abbrev r_14 := kernelRun0_B.sl.r_14 (F := Ideal) R.c R.arg2 R.harg2 R.arg4 R.harg4 R.arg5 R.harg5 R.arg6 R.harg6 R.arg7 R.harg7 R.arg8 R.harg8 R.arg11 R.harg11 R.arg12 R.arg13 R.arg14 R.x0 R.x2 R.x3 R.x4 R.x5 R.x6 R.x9
abbrev r_15 := kernelRun0_B.sl.r_15 (F := Ideal) R.c R.arg2 R.harg2 R.arg4 R.harg4 R.arg5 R.harg5 R.arg12 R.x0 R.x2 R.x3
abbrev r_18 := kernelRun0_B.sl.r_18 (F := Ideal) R.c R.arg2 R.harg2 R.arg4 R.harg4 R.arg5 R.harg5 R.arg6 R.harg6 R.arg7 R.harg7 R.arg11 R.harg11 R.arg12 R.arg13 R.arg14 R.x0 R.x2 R.x3 R.x4 R.x5 R.x9
abbrev r_19 := kernelRun0_B.sl.r_19 (F := Ideal) R.c R.arg2 R.harg2 R.arg4 R.harg4 R.arg5 R.harg5 R.arg6 R.harg6 R.arg7 R.harg7 R.arg11 R.harg11 R.arg12 R.arg13 R.x0 R.x2 R.x3 R.x4 R.x5 R.x9
abbrev v311 := kernelRun0_B.sl.v311 (F := Ideal) R.c R.arg2 R.harg2 R.arg4 R.harg4 R.arg5 R.harg5 R.arg11 R.harg11 R.arg12 R.arg14 R.x0 R.x2 R.x3 R.x9
abbrev r_21 := kernelRun0_B.sl.r_21 (F := Ideal) R.c R.arg2 R.harg2 R.arg4 R.harg4 R.arg5 R.harg5 R.arg6 R.harg6 R.arg7 R.harg7 R.arg11 R.harg11 R.arg12 R.arg13 R.arg14 R.x0 R.x2 R.x3 R.x4 R.x5 R.x9
abbrev r_22 := kernelRun0_B.sl.r_22 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.x0 R.x2 R.x3 R.x4 R.x5 R.x6 R.x7 R.x9
abbrev r_23 := kernelRun0_B.sl.r_23 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.x0 R.x2 R.x3 R.x4 R.x5 R.x6 R.x7 R.x9
abbrev HS3_8 := kernelRun0_B.sl.HS3_8 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.x0 R.x2 R.x3 R.x4 R.x5 R.x6 R.x7 R.x9

end Run

variable {S : Step} {R : Run} (H : Holds S R)
include H

/-- The normalised rows, as the up-projections load them. -/
theorem h_at (r : Fin 1024) (d : Fin 1024) : R.v30 (ix2 r d) = hn S r d := by
  simp (disch := decide) only [Run.v30, kernelRun0_B.sl.v30, kernelRun0_B.sl.HS0_1, View.readCov_unit_lit', View.readAt_eq_ld,
    Memref.IsWhole.read_unread]
  pointwise [k0_pay4]
  simp only [H.x0, H.x2, hn]

omit H in
/-- A scratch buffer filled for one tile of channels: sixteen carried rows over the rows projected onto the tile. -/
theorem buf {k : ℕ} (hk : k ≤ 1024) (col : Fin k → Fin 5632)
    (inbP : ∀ a, (![16, 0] : Fin 2 → ℕ) a + (![1024, k] : Fin 2 → ℕ) a ≤ S1040x1024.size a)
    (inbQ : ∀ a, (![0, 0] : Fin 2 → ℕ) a + (![16, k] : Fin 2 → ℕ) a ≤ S1040x1024.size a)
    (P : (⟨2, ![1024, k]⟩ : Shape).Idx → Elt Ideal .f32) (Q : (⟨2, ![16, k]⟩ : Shape).Idx → Elt Ideal .f32)
    (L : List (View.Piece (Elt Ideal) S1040x1024 .f32))
    (hP : ∀ (r : Fin 1024) (j : Fin k), P (ix2 r j) = up S r (col j))
    (hQ : ∀ (r : Fin 16) (j : Fin k), Q (ix2 r j) = ext S ⟨r.val, by omega⟩ (col j)) (r : Fin 1040) (j : Fin k) :
    View.canon ((⟨Rect.unit (s := S1040x1024) ![16, 0] ![1024, k] inbP, P⟩ : View.Piece (Elt Ideal) S1040x1024 .f32)
      :: (⟨Rect.unit (s := S1040x1024) ![0, 0] ![16, k] inbQ, Q⟩ : View.Piece (Elt Ideal) S1040x1024 .f32) :: L)
      (ix2 r ⟨j.val, by omega⟩) = ext S r (col j) := by
  by_cases h : r.val < 16
  · rw [Stores.miss2 inbP P _ r _ (by omega), Stores.hit2 inbQ Q L r _ ⟨r.val, h⟩ j (by simp) (by simp), hQ]
  · rw [Stores.hit2 inbP P _ r _ ⟨r.val - 16, by omega⟩ j (by simp; omega) (by simp), hP, ext, dif_neg h]

/-- The first buffer at the first tile: channels `0` to `1023`. -/
theorem buf_a1 (r : Fin 1040) (j : Fin 1024) :
    View.canon R.HS1_2 (ix2 r j) = ext S r ⟨j.val, by omega⟩ := by
  have hh := h_at H
  simp (disch := decide) only [Run.HS1_2, kernelRun0_B.sl.HS1_2, View.readAt_eq_ld, Memref.IsWhole.read_unread]
  refine buf (by omega) (fun j => ⟨j.val, by omega⟩) _ _ _ _ _ (fun r j => ?_) (fun r j => ?_) r j
  · pointwise [k0_pay7]
    simp only [hh, H.x3, up]
  · pointwise [k0_pay6]
    exact H.x9 _ _

/-- The second buffer at the first tile: channels `2816` to `3839`. -/
theorem buf_b1 (r : Fin 1040) (j : Fin 1024) :
    View.canon R.HS2_2 (ix2 r ⟨j.val, by omega⟩) = ext S r ⟨2816 + j.val, by omega⟩ := by
  have hh := h_at H
  simp (disch := decide) only [Run.HS2_2, kernelRun0_B.sl.HS2_2, View.readAt_eq_ld, Memref.IsWhole.read_unread]
  refine buf (by omega) (fun j => ⟨2816 + j.val, by omega⟩) _ _ _ _ _ (fun r j => ?_) (fun r j => ?_) r j
  · pointwise [k0_pay10]
    simp only [hh, H.x3, up]
  · simp only [kernelRun0_B.sl.v41, View.readAt_eq_ld, Memref.IsWhole.read_unread]
    pointwise [k0_pay9]
    exact H.x9 _ _

/-- The first buffer at the second tile: channels `1024` to `2047`. -/
theorem buf_a2 (r : Fin 1040) (j : Fin 1024) :
    View.canon R.HS1_4 (ix2 r ⟨j.val, by omega⟩) = ext S r ⟨1024 + j.val, by omega⟩ := by
  have hh := h_at H
  simp (disch := decide) only [Run.HS1_4, kernelRun0_B.sl.HS1_4, View.readAt_eq_ld, Memref.IsWhole.read_unread]
  refine buf (by omega) (fun j => ⟨1024 + j.val, by omega⟩) _ _ _ _ _ (fun r j => ?_) (fun r j => ?_) r j
  · pointwise [k0_pay20]
    simp only [hh, H.x3, up]
  · simp only [kernelRun0_B.sl.r_7, kernelRun0_B.sl.v154, View.readAt_eq_ld, Memref.IsWhole.read_unread]
    pointwise [k0_pay19, k0_pay18]
    exact H.x9 _ _

/-- The second buffer at the second tile: channels `3840` to `4863`. -/
theorem buf_b2 (r : Fin 1040) (j : Fin 1024) :
    View.canon R.HS2_4 (ix2 r ⟨j.val, by omega⟩) = ext S r ⟨3840 + j.val, by omega⟩ := by
  have hh := h_at H
  simp (disch := decide) only [Run.HS2_4, kernelRun0_B.sl.HS2_4, View.readAt_eq_ld, Memref.IsWhole.read_unread]
  refine buf (by omega) (fun j => ⟨3840 + j.val, by omega⟩) _ _ _ _ _ (fun r j => ?_) (fun r j => ?_) r j
  · pointwise [k0_pay23]
    simp only [hh, H.x3, up]
  · simp only [kernelRun0_B.sl.v170, View.readAt_eq_ld, Memref.IsWhole.read_unread]
    pointwise [k0_pay22]
    exact H.x9 _ _

/-- The first buffer at the third tile: channels `2048` to `2815`. -/
theorem buf_a3 (r : Fin 1040) (j : Fin 768) :
    View.canon R.HS1_6 (ix2 r ⟨j.val, by omega⟩) = ext S r ⟨2048 + j.val, by omega⟩ := by
  have hh := h_at H
  simp (disch := decide) only [Run.HS1_6, kernelRun0_B.sl.HS1_6, View.readAt_eq_ld, Memref.IsWhole.read_unread]
  refine buf (by omega) (fun j => ⟨2048 + j.val, by omega⟩) _ _ _ _ _ (fun r j => ?_) (fun r j => ?_) r j
  · pointwise [k0_pay32]
    simp only [hh, H.x3, up]
  · simp only [kernelRun0_B.sl.v283, View.readAt_eq_ld, Memref.IsWhole.read_unread]
    pointwise [k0_pay31]
    exact H.x9 _ _

/-- The second buffer at the third tile: channels `4864` to `5631`. -/
theorem buf_b3 (r : Fin 1040) (j : Fin 768) :
    View.canon R.HS2_6 (ix2 r ⟨j.val, by omega⟩) = ext S r ⟨4864 + j.val, by omega⟩ := by
  have hh := h_at H
  simp (disch := decide) only [Run.HS2_6, kernelRun0_B.sl.HS2_6, kernelRun0_B.sl.HS2_5, View.readAt_eq_ld, Memref.IsWhole.read_unread]
  refine buf (by omega) (fun j => ⟨4864 + j.val, by omega⟩) _ _ _ _ _ (fun r j => ?_) (fun r j => ?_) r j
  · simp only [kernelRun0_B.sl.r_15, View.readAt_eq_ld, Memref.IsWhole.read_unread]
    pointwise [k0_pay36, k0_pay35]
    simp only [hh, H.x3, up]
  · simp only [kernelRun0_B.sl.v299, View.readAt_eq_ld, Memref.IsWhole.read_unread]
    pointwise [k0_pay34]
    exact H.x9 _ _

omit H in
/-- Row `1024 + r` of the extended projection is carried row `r`. -/
theorem carry_of {a : ℕ} {r : Fin 16} (c : Fin 5632) (h : a ≤ c.val) (h1 : 1024 + r.val < 1040) (h2 : a + (c.val - a) < 5632) :
    ext S ⟨1024 + r.val, h1⟩ ⟨a + (c.val - a), h2⟩ = carry S r c := by
  have e : a + (c.val - a) = c.val := by omega
  simp only [carry, e, Nat.add_comm 1024]

/-- The carried rows at the end of the run: each tile's last sixteen rows, stored tile by tile. -/
theorem carry_at (r : Fin 16) (c : Fin 5632) :
    View.canon ([
      ⟨Rect.unit (s := S1x16x5632) ![0, 0, 4864] S1x16x768.size inb_S1x16x5632_S1x16x768_0_0_4864, k0_pay37 (F := Ideal) (kernelRun0_B.sl.v311 (F := Ideal) R.c R.arg2 R.harg2 R.arg4 R.harg4 R.arg5 R.harg5 R.arg11 R.harg11 R.arg12 R.arg14 R.x0 R.x2 R.x3 R.x9)⟩,
      ⟨Rect.unit (s := S1x16x5632) ![0, 0, 2048] S1x16x768.size inb_S1x16x5632_S1x16x768_0_0_2048, k0_pay33 (F := Ideal) (kernelRun0_B.sl.v295 (F := Ideal) R.c R.arg2 R.harg2 R.arg4 R.harg4 R.arg5 R.harg5 R.arg11 R.harg11 R.arg12 R.arg13 R.x0 R.x2 R.x3 R.x9)⟩,
      ⟨Rect.unit (s := S1x16x5632) ![0, 0, 3840] S1x16x1024.size inb_S1x16x5632_S1x16x1024_0_0_3840, k0_pay24 (F := Ideal) (kernelRun0_B.sl.v182 (F := Ideal) R.c R.arg2 R.harg2 R.arg4 R.harg4 R.arg5 R.harg5 R.arg11 R.harg11 R.arg12 R.arg14 R.x0 R.x2 R.x3 R.x9)⟩,
      ⟨Rect.unit (s := S1x16x5632) ![0, 0, 1024] S1x16x1024.size inb_S1x16x5632_S1x16x1024_0_0_1024, k0_pay21 (F := Ideal) (kernelRun0_B.sl.v166 (F := Ideal) R.c R.arg2 R.harg2 R.arg4 R.harg4 R.arg5 R.harg5 R.arg11 R.harg11 R.arg12 R.arg13 R.x0 R.x2 R.x3 R.x9)⟩,
      ⟨Rect.unit (s := S1x16x5632) ![0, 0, 2816] S1x16x1024.size inb_S1x16x5632_S1x16x1024_0_0_2816, k0_pay11 (F := Ideal) (kernelRun0_B.sl.v53 (F := Ideal) R.c R.arg2 R.harg2 R.arg4 R.harg4 R.arg5 R.harg5 R.arg11 R.harg11 R.arg12 R.arg14 R.x0 R.x2 R.x3 R.x9)⟩,
      ⟨Rect.unit (s := S1x16x5632) ![0, 0, 0] S1x16x1024.size inb_S1x16x5632_S1x16x1024_0_0_0, k0_pay8 (F := Ideal) (kernelRun0_B.sl.v37 (F := Ideal) R.c R.arg2 R.harg2 R.arg4 R.harg4 R.arg5 R.harg5 R.arg11 R.harg11 R.arg12 R.arg13 R.x0 R.x2 R.x3 R.x9)⟩] : List (View.Piece (Elt Ideal) S1x16x5632 .f32)) (ix3 0 r c) = carry S r c := by
  by_cases h6 : 4864 ≤ c.val
  · rw [Stores.hit3 _ _ _ _ _ _ 0 r ⟨c.val - 4864, by omega⟩ (by simp) (by simp) (by simp; omega)]
    pointwise [k0_pay37]
    rw [kernelRun0_B.sl.v311, Stores.load2 _ _ _ _ _ ⟨1024 + r.val, by omega⟩ ⟨c.val - 4864, by omega⟩ (by simp) (by simp)]
    exact (buf_b3 H _ ⟨c.val - 4864, by omega⟩).trans (carry_of c h6 _ _)
  rw [Stores.miss3 _ _ _ _ _ _ (by omega)]
  by_cases h5 : 2048 ≤ c.val ∧ c.val < 2816
  · rw [Stores.hit3 _ _ _ _ _ _ 0 r ⟨c.val - 2048, by omega⟩ (by simp) (by simp) (by simp; omega)]
    pointwise [k0_pay33]
    rw [kernelRun0_B.sl.v295, Stores.load2 _ _ _ _ _ ⟨1024 + r.val, by omega⟩ ⟨c.val - 2048, by omega⟩ (by simp) (by simp)]
    exact (buf_a3 H _ ⟨c.val - 2048, by omega⟩).trans (carry_of c h5.1 _ _)
  rw [Stores.miss3 _ _ _ _ _ _ (by omega)]
  by_cases h4 : 3840 ≤ c.val
  · rw [Stores.hit3 _ _ _ _ _ _ 0 r ⟨c.val - 3840, by omega⟩ (by simp) (by simp) (by simp; omega)]
    pointwise [k0_pay24]
    rw [kernelRun0_B.sl.v182, Stores.load2 _ _ _ _ _ ⟨1024 + r.val, by omega⟩ ⟨c.val - 3840, by omega⟩ (by simp) (by simp)]
    exact (buf_b2 H _ ⟨c.val - 3840, by omega⟩).trans (carry_of c h4 _ _)
  rw [Stores.miss3 _ _ _ _ _ _ (by omega)]
  by_cases h3 : 1024 ≤ c.val ∧ c.val < 2048
  · rw [Stores.hit3 _ _ _ _ _ _ 0 r ⟨c.val - 1024, by omega⟩ (by simp) (by simp) (by simp; omega)]
    pointwise [k0_pay21]
    rw [kernelRun0_B.sl.v166, Stores.load2 _ _ _ _ _ ⟨1024 + r.val, by omega⟩ ⟨c.val - 1024, by omega⟩ (by simp) (by simp)]
    exact (buf_a2 H _ ⟨c.val - 1024, by omega⟩).trans (carry_of c h3.1 _ _)
  rw [Stores.miss3 _ _ _ _ _ _ (by omega)]
  by_cases h2 : 2816 ≤ c.val
  · rw [Stores.hit3 _ _ _ _ _ _ 0 r ⟨c.val - 2816, by omega⟩ (by simp) (by simp) (by simp; omega)]
    pointwise [k0_pay11]
    rw [kernelRun0_B.sl.v53, Stores.load2 _ _ _ _ _ ⟨1024 + r.val, by omega⟩ ⟨c.val - 2816, by omega⟩ (by simp) (by simp)]
    exact (buf_b1 H _ ⟨c.val - 2816, by omega⟩).trans (carry_of c h2 _ _)
  rw [Stores.miss3 _ _ _ _ _ _ (by omega)]
  rw [Stores.hit3 _ _ _ _ _ _ 0 r ⟨c.val, by omega⟩ (by simp) (by simp) (by simp)]
  pointwise [k0_pay8]
  rw [kernelRun0_B.sl.v37, Stores.load2 _ _ _ _ _ ⟨1024 + r.val, by omega⟩ ⟨c.val, by omega⟩ (by simp) (by simp)]
  refine (buf_a1 H _ ⟨c.val, by omega⟩).trans ?_
  rw [carry]; congr 1 <;> apply Fin.ext <;> simp <;> omega

omit H in
/-- A load of whole rows of a scratch buffer filled for one tile of channels. -/
theorem rows {k n : ℕ} (hk : k ≤ 1024) (v : View sig .tc .vmem S1040x1024 .f32) (L : List (View.Piece (Elt Ideal) S1040x1024 .f32))
    (col : Fin k → Fin 5632) (hL : ∀ (r : Fin 1040) (j : Fin k), View.canon L (ix2 r ⟨j.val, by omega⟩) = ext S r (col j))
    (o : ℕ) (inb : ∀ a, (![o, 0] : Fin 2 → ℕ) a + (![n, k] : Fin 2 → ℕ) a ≤ S1040x1024.size a) (r : Fin n) (j : Fin k) :
    v.readCov L (Rect.unit (s := S1040x1024) ![o, 0] ![n, k] inb).toLoadRect (ix2 r j)
      = ext S ⟨o + r.val, by have h : o + n ≤ 1040 := inb 0; omega⟩ (col j) := by
  have h : o + n ≤ 1040 := inb 0
  rw [Stores.load2 v L inb r j ⟨o + r.val, by omega⟩ ⟨j.val, by omega⟩ rfl (by simp), hL]

/-- The activation of the first half of the rows at the first tile. -/
theorem act_lo1 (r : Fin 512) (j : Fin 1024) : R.r_4 (ix2 r j) = act S ⟨r.val, by omega⟩ ⟨j.val, by omega⟩ := by
  have ha := rows (S := S) (n := 512) (by omega) R.arg13.view _ (fun j : Fin 1024 => ⟨j.val, by omega⟩) (buf_a1 H)
  have hb := rows (S := S) (n := 512) (by omega) R.arg14.view _ (fun j : Fin 1024 => ⟨2816 + j.val, by omega⟩) (buf_b1 H)
  simp only [Run.r_4, kernelRun0_B.sl.r_4, kernelRun0_B.sl.r_1, kernelRun0_B.sl.r_2, kernelRun0_B.sl.r_3, View.readAt_eq_ld,
    Memref.IsWhole.read_unread]
  pointwise [k0_pay15, k0_pay12, k0_pay13, k0_pay14]
  simp only [kernelRun0_B.sl.v61, kernelRun0_B.sl.v68, kernelRun0_B.sl.v74, kernelRun0_B.sl.v82, kernelRun0_B.sl.v89, kernelRun0_B.sl.v95, ha, hb, H.x4, H.x5, act, conv]
  have e : 2816 + j.val = j.val + 2816 := by omega
  simp only [Nat.zero_add, Nat.add_comm 8, Nat.add_comm 16, e]

/-- The activation of the first half of the rows at the second tile. -/
theorem act_lo2 (r : Fin 512) (j : Fin 1024) : R.r_11 (ix2 r j) = act S ⟨r.val, by omega⟩ ⟨1024 + j.val, by omega⟩ := by
  have ha := rows (S := S) (n := 512) (by omega) R.arg13.view _ (fun j : Fin 1024 => ⟨1024 + j.val, by omega⟩) (buf_a2 H)
  have hb := rows (S := S) (n := 512) (by omega) R.arg14.view _ (fun j : Fin 1024 => ⟨3840 + j.val, by omega⟩) (buf_b2 H)
  simp only [Run.r_11, kernelRun0_B.sl.r_11, kernelRun0_B.sl.r_8, kernelRun0_B.sl.r_9, kernelRun0_B.sl.r_10, View.readAt_eq_ld,
    Memref.IsWhole.read_unread]
  pointwise [k0_pay28, k0_pay25, k0_pay26, k0_pay27]
  simp only [kernelRun0_B.sl.v190, kernelRun0_B.sl.v197, kernelRun0_B.sl.v203, kernelRun0_B.sl.v211, kernelRun0_B.sl.v218, kernelRun0_B.sl.v224, ha, hb, H.x4, H.x5, act, conv]
  have e : 3840 + j.val = 1024 + j.val + 2816 := by omega
  simp only [Nat.zero_add, Nat.add_comm 8, Nat.add_comm 16, e]

/-- The activation of the first half of the rows at the third tile. -/
theorem act_lo3 (r : Fin 512) (j : Fin 768) : R.r_18 (ix2 r j) = act S ⟨r.val, by omega⟩ ⟨2048 + j.val, by omega⟩ := by
  have ha := rows (S := S) (n := 512) (by omega) R.arg13.view _ (fun j : Fin 768 => ⟨2048 + j.val, by omega⟩) (buf_a3 H)
  have hb := rows (S := S) (n := 512) (by omega) R.arg14.view _ (fun j : Fin 768 => ⟨4864 + j.val, by omega⟩) (buf_b3 H)
  simp only [Run.r_18, kernelRun0_B.sl.r_18, kernelRun0_B.sl.r_16, kernelRun0_B.sl.r_17, View.readAt_eq_ld,
    Memref.IsWhole.read_unread]
  pointwise [k0_pay40, k0_pay38, k0_pay39]
  simp only [kernelRun0_B.sl.v319, kernelRun0_B.sl.v326, kernelRun0_B.sl.v332, kernelRun0_B.sl.v340, kernelRun0_B.sl.v347, kernelRun0_B.sl.v353, ha, hb, H.x4, H.x5, act, conv]
  have e : 4864 + j.val = 2048 + j.val + 2816 := by omega
  simp only [Nat.zero_add, Nat.add_comm 8, Nat.add_comm 16, e]

/-- The input plus the first tile's share of the output product. -/
theorem acc1 (r : Fin 1024) (d : Fin 1024) :
    R.r_6 (ix2 r d) = S.x r d + ∑ j : Fin 1024, act S r ⟨j.val, by omega⟩ * S.dn ⟨j.val, by omega⟩ d := by
  have ha := rows (S := S) (n := 512) (by omega) R.arg13.view _ (fun j : Fin 1024 => ⟨j.val, by omega⟩) (buf_a1 H)
  have hb := rows (S := S) (n := 512) (by omega) R.arg14.view _ (fun j : Fin 1024 => ⟨2816 + j.val, by omega⟩) (buf_b1 H)
  have hl := act_lo1 H
  simp only [Run.r_4] at hl
  simp only [Run.r_6, kernelRun0_B.sl.r_6, kernelRun0_B.sl.r_5, kernelRun0_B.sl.r, View.readAt_eq_ld, Memref.IsWhole.read_unread]
  pointwise [k0_pay17, k0_pay16, k0_pay5]
  rw [H.x0]
  refine congrArg _ (Finset.sum_congr rfl fun j _ => ?_)
  rw [H.x6]
  refine congrArg (· * _) ?_
  split
  · rw [hl]
  · have e0 : 512 + (r.val - 512) = r.val := by omega
    have e8 : 520 + (r.val - 512) = r.val + 8 := by omega
    have e16 : 528 + (r.val - 512) = r.val + 16 := by omega
    have e : 2816 + j.val = j.val + 2816 := by omega
    simp only [kernelRun0_B.sl.v107, kernelRun0_B.sl.v114, kernelRun0_B.sl.v120, kernelRun0_B.sl.v128, kernelRun0_B.sl.v135, kernelRun0_B.sl.v141, ha, hb, H.x4, H.x5, act, conv, e0, e8, e16, e]

/-- The sum after the second tile. -/
theorem acc2 (r : Fin 1024) (d : Fin 1024) :
    R.r_14 (ix2 r d) = S.x r d + ∑ j : Fin 1024, act S r ⟨j.val, by omega⟩ * S.dn ⟨j.val, by omega⟩ d
      + ∑ j : Fin 1024, act S r ⟨1024 + j.val, by omega⟩ * S.dn ⟨1024 + j.val, by omega⟩ d := by
  have h1 := acc1 H
  simp only [Run.r_6] at h1
  have ha := rows (S := S) (n := 512) (by omega) R.arg13.view _ (fun j : Fin 1024 => ⟨1024 + j.val, by omega⟩) (buf_a2 H)
  have hb := rows (S := S) (n := 512) (by omega) R.arg14.view _ (fun j : Fin 1024 => ⟨3840 + j.val, by omega⟩) (buf_b2 H)
  have hl := act_lo2 H
  simp only [Run.r_11] at hl
  simp only [Run.r_14, kernelRun0_B.sl.r_14, kernelRun0_B.sl.r_12, kernelRun0_B.sl.r_13, View.readAt_eq_ld, Memref.IsWhole.read_unread]
  pointwise [k0_pay30, k0_pay29]
  rw [h1]
  refine congrArg _ (Finset.sum_congr rfl fun j _ => ?_)
  rw [H.x6]
  refine congrArg (· * _) ?_
  split
  · rw [hl]
  · have e0 : 512 + (r.val - 512) = r.val := by omega
    have e8 : 520 + (r.val - 512) = r.val + 8 := by omega
    have e16 : 528 + (r.val - 512) = r.val + 16 := by omega
    have e : 3840 + j.val = 1024 + j.val + 2816 := by omega
    simp only [kernelRun0_B.sl.v236, kernelRun0_B.sl.v243, kernelRun0_B.sl.v249, kernelRun0_B.sl.v257, kernelRun0_B.sl.v264, kernelRun0_B.sl.v270, ha, hb, H.x4, H.x5, act, conv, e0, e8, e16, e]

/-- The activation at the third tile. -/
theorem act3 (r : Fin 1024) (j : Fin 768) : R.r_21 (ix2 r j) = act S r ⟨2048 + j.val, by omega⟩ := by
  have ha := rows (S := S) (n := 512) (by omega) R.arg13.view _ (fun j : Fin 768 => ⟨2048 + j.val, by omega⟩) (buf_a3 H)
  have hb := rows (S := S) (n := 512) (by omega) R.arg14.view _ (fun j : Fin 768 => ⟨4864 + j.val, by omega⟩) (buf_b3 H)
  have hl := act_lo3 H
  simp only [Run.r_18] at hl
  simp only [Run.r_21, kernelRun0_B.sl.r_21, kernelRun0_B.sl.r_19, kernelRun0_B.sl.r_20, View.readAt_eq_ld, Memref.IsWhole.read_unread]
  pointwise [k0_pay43, k0_pay42, k0_pay41]
  split
  · rw [hl]
  · have e0 : 512 + (r.val - 512) = r.val := by omega
    have e8 : 520 + (r.val - 512) = r.val + 8 := by omega
    have e16 : 528 + (r.val - 512) = r.val + 16 := by omega
    have e : 4864 + j.val = 2048 + j.val + 2816 := by omega
    simp only [kernelRun0_B.sl.v365, kernelRun0_B.sl.v372, kernelRun0_B.sl.v378, kernelRun0_B.sl.v386, kernelRun0_B.sl.v393, kernelRun0_B.sl.v399, ha, hb, H.x4, H.x5, act, conv, e0, e8, e16, e]

omit H in
/-- A sum over the channels is the sum of the three tiles' sums. -/
theorem sum_tiles (f : Fin 2816 → EReal) :
    ∑ c, f c = ∑ j : Fin 1024, f ⟨j.val, by omega⟩ + ∑ j : Fin 1024, f ⟨1024 + j.val, by omega⟩
      + ∑ j : Fin 768, f ⟨2048 + j.val, by omega⟩ := by
  refine (Fin.sum_univ_add (a := 2048) (b := 768) f).trans (congrArg (· + _) ?_)
  exact Fin.sum_univ_add (a := 1024) (b := 1024) fun j => f ⟨j.val, by omega⟩

/-- The rows through the final norm. -/
theorem last_at (r : Fin 1024) (d : Fin 1024) : R.r_22 (ix2 r d) = last S r d := by
  have h2 := acc2 H
  have h3 := act3 H
  simp only [Run.r_22, kernelRun0_B.sl.r_22, View.readAt_eq_ld, Memref.IsWhole.read_unread]
  pointwise [k0_pay44]
  simp only [h2, h3, H.x6, H.x7, last, out, sum_tiles, ← add_assoc]

/-- The buffer the rows are kept in, column tile by column tile. -/
theorem slab_at (j : Fin 8) (q : Fin 1024) (c : Fin 128) :
    View.canon R.HS3_8 (ix3 j q c) = last S q ⟨j.val * 128 + c.val, by omega⟩ := by
  have h := last_at H
  simp only [Run.r_22, kernelRun0_B.sl.r_22] at h
  simp only [Run.HS3_8, kernelRun0_B.sl.HS3_8, kernelRun0_B.sl.r_22, kernelRun0_B.sl.r_23, Stores.plane]
  repeat' split
  · pointwise [k0_pay53]
    refine (h q _).trans (congrArg _ (Fin.ext ?_))
    show _ + c.val = j.val * 128 + c.val
    omega
  · pointwise [k0_pay52]
    refine (h q _).trans (congrArg _ (Fin.ext ?_))
    show _ + c.val = j.val * 128 + c.val
    omega
  · pointwise [k0_pay51]
    refine (h q _).trans (congrArg _ (Fin.ext ?_))
    show _ + c.val = j.val * 128 + c.val
    omega
  · pointwise [k0_pay50, k0_pay49]
    refine (h q _).trans (congrArg _ (Fin.ext ?_))
    show _ + c.val = j.val * 128 + c.val
    omega
  · pointwise [k0_pay48]
    refine (h q _).trans (congrArg _ (Fin.ext ?_))
    show _ + c.val = j.val * 128 + c.val
    omega
  · pointwise [k0_pay47]
    refine (h q _).trans (congrArg _ (Fin.ext ?_))
    show _ + c.val = j.val * 128 + c.val
    omega
  · pointwise [k0_pay46]
    refine (h q _).trans (congrArg _ (Fin.ext ?_))
    show _ + c.val = j.val * 128 + c.val
    omega
  · pointwise [k0_pay45]
    refine (h q _).trans (congrArg _ (Fin.ext ?_))
    show c.val = j.val * 128 + c.val
    omega
  · exact absurd j.isLt (by omega)

end Cert.PromptIdeal.Later
-- ==== Proof.PromptLaterStreams.lean ====
/- The stores of a later step of the prompt batch into the result's block: sixty-four boxes, one for each stream of the group and each tile of
   128 columns.  The rows of one stream lie eight rows apart in the buffer they are kept in. -/
module

public import proofs.«01_k».proof.Proof.PromptLater

@[expose] public section
set_option maxRecDepth 16384
noncomputable section
open Idealize.ShloMosaic Idealize.ShloMosaic.TcCoe Idealize.SL.Sem

namespace Cert.PromptIdeal.Later
open Cert.PromptIdeal Cert.PromptIdeal.Gen
open Cert.PromptSpec (Step)
open Cert.PromptSpec.Step

/-- A step's block of the model's output: stream, position, column. -/
def block (S : Step) : FVec Ideal S8x128x1024 .f32 :=
  fun i => last S ⟨(i 1).val * 8 + (i 0).val, by have := (i 0).isLt; have := (i 1).isLt; simp at *; omega⟩ (i 2)

/-- A store that puts there what the block holds in its box. -/
def Good (S : Step) (p : View.Piece (Elt Ideal) S8x128x1024 .f32) : Prop := ∀ x, p.2 x = block S (p.1.emb x)

variable {S : Step} {R : Run} (H : Holds S R)
include H

/-- Stream 7, column tile 7. -/
theorem store_7_7 : Good S ⟨Rect.unit (s := S8x128x1024) ![7, 0, 896] ![1, 128, 128] inb_S8x128x1024_S1x128x128_7_0_896, k0_pay2 (F := Ideal) (kernelRun0_B.sl.v773 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 7) (p := 896) (inb := inb_S8x128x1024_S1x128x128_7_0_896) (v := R.arg15.view) (slab_at H) (by decide) (by decide) rfl
    (show _ = kernelRun0_B.sl.v773 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v773 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 7, column tile 6. -/
theorem store_7_6 : Good S ⟨Rect.unit (s := S8x128x1024) ![7, 0, 768] ![1, 128, 128] inb_S8x128x1024_S1x128x128_7_0_768, k0_pay1 (F := Ideal) (kernelRun0_B.sl.r_36 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 6) (p := 768) (inb := inb_S8x128x1024_S1x128x128_7_0_768) (v := R.arg15.view) (slab_at H) (by decide) (by decide) rfl
    (show _ = kernelRun0_B.sl.v768 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v768 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 7, column tile 5. -/
theorem store_7_5 : Good S ⟨Rect.unit (s := S8x128x1024) ![7, 0, 640] S1x128x128.size inb_S8x128x1024_S1x128x128_7_0_640, k0_pay127 (F := Ideal) (kernelRun0_B.sl.v763 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 5) (p := 640) (inb := inb_S8x128x1024_S1x128x128_7_0_640) (v := R.arg15.view) (slab_at H) (by decide) (by decide) rfl
    (show _ = kernelRun0_B.sl.v763 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v763 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 7, column tile 4. -/
theorem store_7_4 : Good S ⟨Rect.unit (s := S8x128x1024) ![7, 0, 512] S1x128x128.size inb_S8x128x1024_S1x128x128_7_0_512, k0_pay126 (F := Ideal) (kernelRun0_B.sl.v758 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 4) (p := 512) (inb := inb_S8x128x1024_S1x128x128_7_0_512) (v := R.arg15.view) (slab_at H) (by decide) (by decide) rfl
    (show _ = kernelRun0_B.sl.v758 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v758 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 7, column tile 3. -/
theorem store_7_3 : Good S ⟨Rect.unit (s := S8x128x1024) ![7, 0, 384] S1x128x128.size inb_S8x128x1024_S1x128x128_7_0_384, k0_pay125 (F := Ideal) (kernelRun0_B.sl.v753 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 3) (p := 384) (inb := inb_S8x128x1024_S1x128x128_7_0_384) (v := R.arg15.view) (slab_at H) (by decide) (by decide) rfl
    (show _ = kernelRun0_B.sl.v753 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v753 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 7, column tile 2. -/
theorem store_7_2 : Good S ⟨Rect.unit (s := S8x128x1024) ![7, 0, 256] S1x128x128.size inb_S8x128x1024_S1x128x128_7_0_256, k0_pay124 (F := Ideal) (kernelRun0_B.sl.v748 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 2) (p := 256) (inb := inb_S8x128x1024_S1x128x128_7_0_256) (v := R.arg15.view) (slab_at H) (by decide) (by decide) rfl
    (show _ = kernelRun0_B.sl.v748 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v748 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 7, column tile 1. -/
theorem store_7_1 : Good S ⟨Rect.unit (s := S8x128x1024) ![7, 0, 128] S1x128x128.size inb_S8x128x1024_S1x128x128_7_0_128, k0_pay123 (F := Ideal) (kernelRun0_B.sl.r_35 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 1) (p := 128) (inb := inb_S8x128x1024_S1x128x128_7_0_128) (v := R.arg15.view) (slab_at H) (by decide) (by decide) rfl
    (show _ = kernelRun0_B.sl.v743 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v743 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 7, column tile 0. -/
theorem store_7_0 : Good S ⟨Rect.unit (s := S8x128x1024) ![7, 0, 0] S1x128x128.size inb_S8x128x1024_S1x128x128_7_0_0, k0_pay121 (F := Ideal) (kernelRun0_B.sl.v738 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 0) (p := 0) (inb := inb_S8x128x1024_S1x128x128_7_0_0) (v := R.arg15.view) (slab_at H) (by decide) (by decide) rfl
    (show _ = kernelRun0_B.sl.v738 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v738 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 6, column tile 7. -/
theorem store_6_7 : Good S ⟨Rect.unit (s := S8x128x1024) ![6, 0, 896] S1x128x128.size inb_S8x128x1024_S1x128x128_6_0_896, k0_pay120 (F := Ideal) (kernelRun0_B.sl.v733 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 7) (p := 896) (inb := inb_S8x128x1024_S1x128x128_6_0_896) (v := R.arg15.view) (slab_at H) (by decide) (by decide) rfl
    (show _ = kernelRun0_B.sl.v733 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v733 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 6, column tile 6. -/
theorem store_6_6 : Good S ⟨Rect.unit (s := S8x128x1024) ![6, 0, 768] S1x128x128.size inb_S8x128x1024_S1x128x128_6_0_768, k0_pay119 (F := Ideal) (kernelRun0_B.sl.v728 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 6) (p := 768) (inb := inb_S8x128x1024_S1x128x128_6_0_768) (v := R.arg15.view) (slab_at H) (by decide) (by decide) rfl
    (show _ = kernelRun0_B.sl.v728 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v728 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 6, column tile 5. -/
theorem store_6_5 : Good S ⟨Rect.unit (s := S8x128x1024) ![6, 0, 640] S1x128x128.size inb_S8x128x1024_S1x128x128_6_0_640, k0_pay118 (F := Ideal) (kernelRun0_B.sl.v723 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 5) (p := 640) (inb := inb_S8x128x1024_S1x128x128_6_0_640) (v := R.arg15.view) (slab_at H) (by decide) (by decide) rfl
    (show _ = kernelRun0_B.sl.v723 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v723 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 6, column tile 4. -/
theorem store_6_4 : Good S ⟨Rect.unit (s := S8x128x1024) ![6, 0, 512] S1x128x128.size inb_S8x128x1024_S1x128x128_6_0_512, k0_pay117 (F := Ideal) (kernelRun0_B.sl.r_34 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 4) (p := 512) (inb := inb_S8x128x1024_S1x128x128_6_0_512) (v := R.arg15.view) (slab_at H) (by decide) (by decide) rfl
    (show _ = kernelRun0_B.sl.v718 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v718 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 6, column tile 3. -/
theorem store_6_3 : Good S ⟨Rect.unit (s := S8x128x1024) ![6, 0, 384] S1x128x128.size inb_S8x128x1024_S1x128x128_6_0_384, k0_pay115 (F := Ideal) (kernelRun0_B.sl.v713 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 3) (p := 384) (inb := inb_S8x128x1024_S1x128x128_6_0_384) (v := R.arg15.view) (slab_at H) (by decide) (by decide) rfl
    (show _ = kernelRun0_B.sl.v713 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v713 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 6, column tile 2. -/
theorem store_6_2 : Good S ⟨Rect.unit (s := S8x128x1024) ![6, 0, 256] S1x128x128.size inb_S8x128x1024_S1x128x128_6_0_256, k0_pay114 (F := Ideal) (kernelRun0_B.sl.v708 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 2) (p := 256) (inb := inb_S8x128x1024_S1x128x128_6_0_256) (v := R.arg15.view) (slab_at H) (by decide) (by decide) rfl
    (show _ = kernelRun0_B.sl.v708 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v708 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 6, column tile 1. -/
theorem store_6_1 : Good S ⟨Rect.unit (s := S8x128x1024) ![6, 0, 128] S1x128x128.size inb_S8x128x1024_S1x128x128_6_0_128, k0_pay113 (F := Ideal) (kernelRun0_B.sl.v703 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 1) (p := 128) (inb := inb_S8x128x1024_S1x128x128_6_0_128) (v := R.arg15.view) (slab_at H) (by decide) (by decide) rfl
    (show _ = kernelRun0_B.sl.v703 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v703 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 6, column tile 0. -/
theorem store_6_0 : Good S ⟨Rect.unit (s := S8x128x1024) ![6, 0, 0] S1x128x128.size inb_S8x128x1024_S1x128x128_6_0_0, k0_pay112 (F := Ideal) (kernelRun0_B.sl.v698 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 0) (p := 0) (inb := inb_S8x128x1024_S1x128x128_6_0_0) (v := R.arg15.view) (slab_at H) (by decide) (by decide) rfl
    (show _ = kernelRun0_B.sl.v698 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v698 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 5, column tile 7. -/
theorem store_5_7 : Good S ⟨Rect.unit (s := S8x128x1024) ![5, 0, 896] S1x128x128.size inb_S8x128x1024_S1x128x128_5_0_896, k0_pay111 (F := Ideal) (kernelRun0_B.sl.r_33 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 7) (p := 896) (inb := inb_S8x128x1024_S1x128x128_5_0_896) (v := R.arg15.view) (slab_at H) (by decide) (by decide) rfl
    (show _ = kernelRun0_B.sl.v693 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v693 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 5, column tile 6. -/
theorem store_5_6 : Good S ⟨Rect.unit (s := S8x128x1024) ![5, 0, 768] S1x128x128.size inb_S8x128x1024_S1x128x128_5_0_768, k0_pay109 (F := Ideal) (kernelRun0_B.sl.v688 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 6) (p := 768) (inb := inb_S8x128x1024_S1x128x128_5_0_768) (v := R.arg15.view) (slab_at H) (by decide) (by decide) rfl
    (show _ = kernelRun0_B.sl.v688 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v688 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 5, column tile 5. -/
theorem store_5_5 : Good S ⟨Rect.unit (s := S8x128x1024) ![5, 0, 640] S1x128x128.size inb_S8x128x1024_S1x128x128_5_0_640, k0_pay108 (F := Ideal) (kernelRun0_B.sl.v683 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 5) (p := 640) (inb := inb_S8x128x1024_S1x128x128_5_0_640) (v := R.arg15.view) (slab_at H) (by decide) (by decide) rfl
    (show _ = kernelRun0_B.sl.v683 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v683 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 5, column tile 4. -/
theorem store_5_4 : Good S ⟨Rect.unit (s := S8x128x1024) ![5, 0, 512] S1x128x128.size inb_S8x128x1024_S1x128x128_5_0_512, k0_pay107 (F := Ideal) (kernelRun0_B.sl.v678 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 4) (p := 512) (inb := inb_S8x128x1024_S1x128x128_5_0_512) (v := R.arg15.view) (slab_at H) (by decide) (by decide) rfl
    (show _ = kernelRun0_B.sl.v678 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v678 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 5, column tile 3. -/
theorem store_5_3 : Good S ⟨Rect.unit (s := S8x128x1024) ![5, 0, 384] S1x128x128.size inb_S8x128x1024_S1x128x128_5_0_384, k0_pay106 (F := Ideal) (kernelRun0_B.sl.v673 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 3) (p := 384) (inb := inb_S8x128x1024_S1x128x128_5_0_384) (v := R.arg15.view) (slab_at H) (by decide) (by decide) rfl
    (show _ = kernelRun0_B.sl.v673 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v673 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 5, column tile 2. -/
theorem store_5_2 : Good S ⟨Rect.unit (s := S8x128x1024) ![5, 0, 256] S1x128x128.size inb_S8x128x1024_S1x128x128_5_0_256, k0_pay105 (F := Ideal) (kernelRun0_B.sl.r_32 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 2) (p := 256) (inb := inb_S8x128x1024_S1x128x128_5_0_256) (v := R.arg15.view) (slab_at H) (by decide) (by decide) rfl
    (show _ = kernelRun0_B.sl.v668 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v668 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 5, column tile 1. -/
theorem store_5_1 : Good S ⟨Rect.unit (s := S8x128x1024) ![5, 0, 128] S1x128x128.size inb_S8x128x1024_S1x128x128_5_0_128, k0_pay103 (F := Ideal) (kernelRun0_B.sl.v663 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 1) (p := 128) (inb := inb_S8x128x1024_S1x128x128_5_0_128) (v := R.arg15.view) (slab_at H) (by decide) (by decide) rfl
    (show _ = kernelRun0_B.sl.v663 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v663 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 5, column tile 0. -/
theorem store_5_0 : Good S ⟨Rect.unit (s := S8x128x1024) ![5, 0, 0] S1x128x128.size inb_S8x128x1024_S1x128x128_5_0_0, k0_pay102 (F := Ideal) (kernelRun0_B.sl.v658 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 0) (p := 0) (inb := inb_S8x128x1024_S1x128x128_5_0_0) (v := R.arg15.view) (slab_at H) (by decide) (by decide) rfl
    (show _ = kernelRun0_B.sl.v658 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v658 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 4, column tile 7. -/
theorem store_4_7 : Good S ⟨Rect.unit (s := S8x128x1024) ![4, 0, 896] S1x128x128.size inb_S8x128x1024_S1x128x128_4_0_896, k0_pay101 (F := Ideal) (kernelRun0_B.sl.v653 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 7) (p := 896) (inb := inb_S8x128x1024_S1x128x128_4_0_896) (v := R.arg15.view) (slab_at H) (by decide) (by decide) rfl
    (show _ = kernelRun0_B.sl.v653 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v653 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 4, column tile 6. -/
theorem store_4_6 : Good S ⟨Rect.unit (s := S8x128x1024) ![4, 0, 768] S1x128x128.size inb_S8x128x1024_S1x128x128_4_0_768, k0_pay100 (F := Ideal) (kernelRun0_B.sl.v648 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 6) (p := 768) (inb := inb_S8x128x1024_S1x128x128_4_0_768) (v := R.arg15.view) (slab_at H) (by decide) (by decide) rfl
    (show _ = kernelRun0_B.sl.v648 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v648 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 4, column tile 5. -/
theorem store_4_5 : Good S ⟨Rect.unit (s := S8x128x1024) ![4, 0, 640] S1x128x128.size inb_S8x128x1024_S1x128x128_4_0_640, k0_pay99 (F := Ideal) (kernelRun0_B.sl.r_31 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 5) (p := 640) (inb := inb_S8x128x1024_S1x128x128_4_0_640) (v := R.arg15.view) (slab_at H) (by decide) (by decide) rfl
    (show _ = kernelRun0_B.sl.v643 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v643 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 4, column tile 4. -/
theorem store_4_4 : Good S ⟨Rect.unit (s := S8x128x1024) ![4, 0, 512] S1x128x128.size inb_S8x128x1024_S1x128x128_4_0_512, k0_pay97 (F := Ideal) (kernelRun0_B.sl.v638 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 4) (p := 512) (inb := inb_S8x128x1024_S1x128x128_4_0_512) (v := R.arg15.view) (slab_at H) (by decide) (by decide) rfl
    (show _ = kernelRun0_B.sl.v638 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v638 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 4, column tile 3. -/
theorem store_4_3 : Good S ⟨Rect.unit (s := S8x128x1024) ![4, 0, 384] S1x128x128.size inb_S8x128x1024_S1x128x128_4_0_384, k0_pay96 (F := Ideal) (kernelRun0_B.sl.v633 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 3) (p := 384) (inb := inb_S8x128x1024_S1x128x128_4_0_384) (v := R.arg15.view) (slab_at H) (by decide) (by decide) rfl
    (show _ = kernelRun0_B.sl.v633 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v633 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 4, column tile 2. -/
theorem store_4_2 : Good S ⟨Rect.unit (s := S8x128x1024) ![4, 0, 256] S1x128x128.size inb_S8x128x1024_S1x128x128_4_0_256, k0_pay95 (F := Ideal) (kernelRun0_B.sl.v628 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 2) (p := 256) (inb := inb_S8x128x1024_S1x128x128_4_0_256) (v := R.arg15.view) (slab_at H) (by decide) (by decide) rfl
    (show _ = kernelRun0_B.sl.v628 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v628 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 4, column tile 1. -/
theorem store_4_1 : Good S ⟨Rect.unit (s := S8x128x1024) ![4, 0, 128] S1x128x128.size inb_S8x128x1024_S1x128x128_4_0_128, k0_pay94 (F := Ideal) (kernelRun0_B.sl.v623 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 1) (p := 128) (inb := inb_S8x128x1024_S1x128x128_4_0_128) (v := R.arg15.view) (slab_at H) (by decide) (by decide) rfl
    (show _ = kernelRun0_B.sl.v623 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v623 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 4, column tile 0. -/
theorem store_4_0 : Good S ⟨Rect.unit (s := S8x128x1024) ![4, 0, 0] S1x128x128.size inb_S8x128x1024_S1x128x128_4_0_0, k0_pay93 (F := Ideal) (kernelRun0_B.sl.r_30 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 0) (p := 0) (inb := inb_S8x128x1024_S1x128x128_4_0_0) (v := R.arg15.view) (slab_at H) (by decide) (by decide) rfl
    (show _ = kernelRun0_B.sl.v618 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v618 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 3, column tile 7. -/
theorem store_3_7 : Good S ⟨Rect.unit (s := S8x128x1024) ![3, 0, 896] S1x128x128.size inb_S8x128x1024_S1x128x128_3_0_896, k0_pay91 (F := Ideal) (kernelRun0_B.sl.v613 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 7) (p := 896) (inb := inb_S8x128x1024_S1x128x128_3_0_896) (v := R.arg15.view) (slab_at H) (by decide) (by decide) rfl
    (show _ = kernelRun0_B.sl.v613 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v613 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 3, column tile 6. -/
theorem store_3_6 : Good S ⟨Rect.unit (s := S8x128x1024) ![3, 0, 768] S1x128x128.size inb_S8x128x1024_S1x128x128_3_0_768, k0_pay90 (F := Ideal) (kernelRun0_B.sl.v608 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 6) (p := 768) (inb := inb_S8x128x1024_S1x128x128_3_0_768) (v := R.arg15.view) (slab_at H) (by decide) (by decide) rfl
    (show _ = kernelRun0_B.sl.v608 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v608 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 3, column tile 5. -/
theorem store_3_5 : Good S ⟨Rect.unit (s := S8x128x1024) ![3, 0, 640] S1x128x128.size inb_S8x128x1024_S1x128x128_3_0_640, k0_pay89 (F := Ideal) (kernelRun0_B.sl.v603 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 5) (p := 640) (inb := inb_S8x128x1024_S1x128x128_3_0_640) (v := R.arg15.view) (slab_at H) (by decide) (by decide) rfl
    (show _ = kernelRun0_B.sl.v603 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v603 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 3, column tile 4. -/
theorem store_3_4 : Good S ⟨Rect.unit (s := S8x128x1024) ![3, 0, 512] S1x128x128.size inb_S8x128x1024_S1x128x128_3_0_512, k0_pay88 (F := Ideal) (kernelRun0_B.sl.v598 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 4) (p := 512) (inb := inb_S8x128x1024_S1x128x128_3_0_512) (v := R.arg15.view) (slab_at H) (by decide) (by decide) rfl
    (show _ = kernelRun0_B.sl.v598 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v598 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 3, column tile 3. -/
theorem store_3_3 : Good S ⟨Rect.unit (s := S8x128x1024) ![3, 0, 384] S1x128x128.size inb_S8x128x1024_S1x128x128_3_0_384, k0_pay87 (F := Ideal) (kernelRun0_B.sl.r_29 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 3) (p := 384) (inb := inb_S8x128x1024_S1x128x128_3_0_384) (v := R.arg15.view) (slab_at H) (by decide) (by decide) rfl
    (show _ = kernelRun0_B.sl.v593 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v593 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 3, column tile 2. -/
theorem store_3_2 : Good S ⟨Rect.unit (s := S8x128x1024) ![3, 0, 256] S1x128x128.size inb_S8x128x1024_S1x128x128_3_0_256, k0_pay85 (F := Ideal) (kernelRun0_B.sl.v588 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 2) (p := 256) (inb := inb_S8x128x1024_S1x128x128_3_0_256) (v := R.arg15.view) (slab_at H) (by decide) (by decide) rfl
    (show _ = kernelRun0_B.sl.v588 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v588 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 3, column tile 1. -/
theorem store_3_1 : Good S ⟨Rect.unit (s := S8x128x1024) ![3, 0, 128] S1x128x128.size inb_S8x128x1024_S1x128x128_3_0_128, k0_pay84 (F := Ideal) (kernelRun0_B.sl.v583 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 1) (p := 128) (inb := inb_S8x128x1024_S1x128x128_3_0_128) (v := R.arg15.view) (slab_at H) (by decide) (by decide) rfl
    (show _ = kernelRun0_B.sl.v583 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v583 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 3, column tile 0. -/
theorem store_3_0 : Good S ⟨Rect.unit (s := S8x128x1024) ![3, 0, 0] S1x128x128.size inb_S8x128x1024_S1x128x128_3_0_0, k0_pay83 (F := Ideal) (kernelRun0_B.sl.v578 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 0) (p := 0) (inb := inb_S8x128x1024_S1x128x128_3_0_0) (v := R.arg15.view) (slab_at H) (by decide) (by decide) rfl
    (show _ = kernelRun0_B.sl.v578 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v578 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 2, column tile 7. -/
theorem store_2_7 : Good S ⟨Rect.unit (s := S8x128x1024) ![2, 0, 896] S1x128x128.size inb_S8x128x1024_S1x128x128_2_0_896, k0_pay82 (F := Ideal) (kernelRun0_B.sl.v573 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 7) (p := 896) (inb := inb_S8x128x1024_S1x128x128_2_0_896) (v := R.arg15.view) (slab_at H) (by decide) (by decide) rfl
    (show _ = kernelRun0_B.sl.v573 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v573 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 2, column tile 6. -/
theorem store_2_6 : Good S ⟨Rect.unit (s := S8x128x1024) ![2, 0, 768] S1x128x128.size inb_S8x128x1024_S1x128x128_2_0_768, k0_pay81 (F := Ideal) (kernelRun0_B.sl.r_28 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 6) (p := 768) (inb := inb_S8x128x1024_S1x128x128_2_0_768) (v := R.arg15.view) (slab_at H) (by decide) (by decide) rfl
    (show _ = kernelRun0_B.sl.v568 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v568 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 2, column tile 5. -/
theorem store_2_5 : Good S ⟨Rect.unit (s := S8x128x1024) ![2, 0, 640] S1x128x128.size inb_S8x128x1024_S1x128x128_2_0_640, k0_pay79 (F := Ideal) (kernelRun0_B.sl.v563 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 5) (p := 640) (inb := inb_S8x128x1024_S1x128x128_2_0_640) (v := R.arg15.view) (slab_at H) (by decide) (by decide) rfl
    (show _ = kernelRun0_B.sl.v563 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v563 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 2, column tile 4. -/
theorem store_2_4 : Good S ⟨Rect.unit (s := S8x128x1024) ![2, 0, 512] S1x128x128.size inb_S8x128x1024_S1x128x128_2_0_512, k0_pay78 (F := Ideal) (kernelRun0_B.sl.v558 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 4) (p := 512) (inb := inb_S8x128x1024_S1x128x128_2_0_512) (v := R.arg15.view) (slab_at H) (by decide) (by decide) rfl
    (show _ = kernelRun0_B.sl.v558 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v558 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 2, column tile 3. -/
theorem store_2_3 : Good S ⟨Rect.unit (s := S8x128x1024) ![2, 0, 384] S1x128x128.size inb_S8x128x1024_S1x128x128_2_0_384, k0_pay77 (F := Ideal) (kernelRun0_B.sl.v553 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 3) (p := 384) (inb := inb_S8x128x1024_S1x128x128_2_0_384) (v := R.arg15.view) (slab_at H) (by decide) (by decide) rfl
    (show _ = kernelRun0_B.sl.v553 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v553 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 2, column tile 2. -/
theorem store_2_2 : Good S ⟨Rect.unit (s := S8x128x1024) ![2, 0, 256] S1x128x128.size inb_S8x128x1024_S1x128x128_2_0_256, k0_pay76 (F := Ideal) (kernelRun0_B.sl.v548 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 2) (p := 256) (inb := inb_S8x128x1024_S1x128x128_2_0_256) (v := R.arg15.view) (slab_at H) (by decide) (by decide) rfl
    (show _ = kernelRun0_B.sl.v548 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v548 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 2, column tile 1. -/
theorem store_2_1 : Good S ⟨Rect.unit (s := S8x128x1024) ![2, 0, 128] S1x128x128.size inb_S8x128x1024_S1x128x128_2_0_128, k0_pay75 (F := Ideal) (kernelRun0_B.sl.r_27 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 1) (p := 128) (inb := inb_S8x128x1024_S1x128x128_2_0_128) (v := R.arg15.view) (slab_at H) (by decide) (by decide) rfl
    (show _ = kernelRun0_B.sl.v543 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v543 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 2, column tile 0. -/
theorem store_2_0 : Good S ⟨Rect.unit (s := S8x128x1024) ![2, 0, 0] S1x128x128.size inb_S8x128x1024_S1x128x128_2_0_0, k0_pay73 (F := Ideal) (kernelRun0_B.sl.v538 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 0) (p := 0) (inb := inb_S8x128x1024_S1x128x128_2_0_0) (v := R.arg15.view) (slab_at H) (by decide) (by decide) rfl
    (show _ = kernelRun0_B.sl.v538 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v538 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 1, column tile 7. -/
theorem store_1_7 : Good S ⟨Rect.unit (s := S8x128x1024) ![1, 0, 896] S1x128x128.size inb_S8x128x1024_S1x128x128_1_0_896, k0_pay72 (F := Ideal) (kernelRun0_B.sl.v533 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 7) (p := 896) (inb := inb_S8x128x1024_S1x128x128_1_0_896) (v := R.arg15.view) (slab_at H) (by decide) (by decide) rfl
    (show _ = kernelRun0_B.sl.v533 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v533 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 1, column tile 6. -/
theorem store_1_6 : Good S ⟨Rect.unit (s := S8x128x1024) ![1, 0, 768] S1x128x128.size inb_S8x128x1024_S1x128x128_1_0_768, k0_pay71 (F := Ideal) (kernelRun0_B.sl.v528 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 6) (p := 768) (inb := inb_S8x128x1024_S1x128x128_1_0_768) (v := R.arg15.view) (slab_at H) (by decide) (by decide) rfl
    (show _ = kernelRun0_B.sl.v528 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v528 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 1, column tile 5. -/
theorem store_1_5 : Good S ⟨Rect.unit (s := S8x128x1024) ![1, 0, 640] S1x128x128.size inb_S8x128x1024_S1x128x128_1_0_640, k0_pay70 (F := Ideal) (kernelRun0_B.sl.v523 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 5) (p := 640) (inb := inb_S8x128x1024_S1x128x128_1_0_640) (v := R.arg15.view) (slab_at H) (by decide) (by decide) rfl
    (show _ = kernelRun0_B.sl.v523 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v523 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 1, column tile 4. -/
theorem store_1_4 : Good S ⟨Rect.unit (s := S8x128x1024) ![1, 0, 512] S1x128x128.size inb_S8x128x1024_S1x128x128_1_0_512, k0_pay69 (F := Ideal) (kernelRun0_B.sl.r_26 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 4) (p := 512) (inb := inb_S8x128x1024_S1x128x128_1_0_512) (v := R.arg15.view) (slab_at H) (by decide) (by decide) rfl
    (show _ = kernelRun0_B.sl.v518 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v518 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 1, column tile 3. -/
theorem store_1_3 : Good S ⟨Rect.unit (s := S8x128x1024) ![1, 0, 384] S1x128x128.size inb_S8x128x1024_S1x128x128_1_0_384, k0_pay67 (F := Ideal) (kernelRun0_B.sl.v513 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 3) (p := 384) (inb := inb_S8x128x1024_S1x128x128_1_0_384) (v := R.arg15.view) (slab_at H) (by decide) (by decide) rfl
    (show _ = kernelRun0_B.sl.v513 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v513 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 1, column tile 2. -/
theorem store_1_2 : Good S ⟨Rect.unit (s := S8x128x1024) ![1, 0, 256] S1x128x128.size inb_S8x128x1024_S1x128x128_1_0_256, k0_pay66 (F := Ideal) (kernelRun0_B.sl.v508 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 2) (p := 256) (inb := inb_S8x128x1024_S1x128x128_1_0_256) (v := R.arg15.view) (slab_at H) (by decide) (by decide) rfl
    (show _ = kernelRun0_B.sl.v508 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v508 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 1, column tile 1. -/
theorem store_1_1 : Good S ⟨Rect.unit (s := S8x128x1024) ![1, 0, 128] S1x128x128.size inb_S8x128x1024_S1x128x128_1_0_128, k0_pay65 (F := Ideal) (kernelRun0_B.sl.v503 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 1) (p := 128) (inb := inb_S8x128x1024_S1x128x128_1_0_128) (v := R.arg15.view) (slab_at H) (by decide) (by decide) rfl
    (show _ = kernelRun0_B.sl.v503 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v503 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 1, column tile 0. -/
theorem store_1_0 : Good S ⟨Rect.unit (s := S8x128x1024) ![1, 0, 0] S1x128x128.size inb_S8x128x1024_S1x128x128_1_0_0, k0_pay64 (F := Ideal) (kernelRun0_B.sl.v498 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 0) (p := 0) (inb := inb_S8x128x1024_S1x128x128_1_0_0) (v := R.arg15.view) (slab_at H) (by decide) (by decide) rfl
    (show _ = kernelRun0_B.sl.v498 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v498 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 0, column tile 7. -/
theorem store_0_7 : Good S ⟨Rect.unit (s := S8x128x1024) ![0, 0, 896] S1x128x128.size inb_S8x128x1024_S1x128x128_0_0_896, k0_pay63 (F := Ideal) (kernelRun0_B.sl.r_25 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 7) (p := 896) (inb := inb_S8x128x1024_S1x128x128_0_0_896) (v := R.arg15.view) (slab_at H) (by decide) (by decide) rfl
    (show _ = kernelRun0_B.sl.v493 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v493 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 0, column tile 6. -/
theorem store_0_6 : Good S ⟨Rect.unit (s := S8x128x1024) ![0, 0, 768] S1x128x128.size inb_S8x128x1024_S1x128x128_0_0_768, k0_pay61 (F := Ideal) (kernelRun0_B.sl.v488 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 6) (p := 768) (inb := inb_S8x128x1024_S1x128x128_0_0_768) (v := R.arg15.view) (slab_at H) (by decide) (by decide) rfl
    (show _ = kernelRun0_B.sl.v488 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v488 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 0, column tile 5. -/
theorem store_0_5 : Good S ⟨Rect.unit (s := S8x128x1024) ![0, 0, 640] S1x128x128.size inb_S8x128x1024_S1x128x128_0_0_640, k0_pay60 (F := Ideal) (kernelRun0_B.sl.v483 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 5) (p := 640) (inb := inb_S8x128x1024_S1x128x128_0_0_640) (v := R.arg15.view) (slab_at H) (by decide) (by decide) rfl
    (show _ = kernelRun0_B.sl.v483 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v483 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 0, column tile 4. -/
theorem store_0_4 : Good S ⟨Rect.unit (s := S8x128x1024) ![0, 0, 512] S1x128x128.size inb_S8x128x1024_S1x128x128_0_0_512, k0_pay59 (F := Ideal) (kernelRun0_B.sl.v478 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 4) (p := 512) (inb := inb_S8x128x1024_S1x128x128_0_0_512) (v := R.arg15.view) (slab_at H) (by decide) (by decide) rfl
    (show _ = kernelRun0_B.sl.v478 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v478 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 0, column tile 3. -/
theorem store_0_3 : Good S ⟨Rect.unit (s := S8x128x1024) ![0, 0, 384] S1x128x128.size inb_S8x128x1024_S1x128x128_0_0_384, k0_pay58 (F := Ideal) (kernelRun0_B.sl.v473 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 3) (p := 384) (inb := inb_S8x128x1024_S1x128x128_0_0_384) (v := R.arg15.view) (slab_at H) (by decide) (by decide) rfl
    (show _ = kernelRun0_B.sl.v473 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v473 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 0, column tile 2. -/
theorem store_0_2 : Good S ⟨Rect.unit (s := S8x128x1024) ![0, 0, 256] S1x128x128.size inb_S8x128x1024_S1x128x128_0_0_256, k0_pay57 (F := Ideal) (kernelRun0_B.sl.r_24 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 2) (p := 256) (inb := inb_S8x128x1024_S1x128x128_0_0_256) (v := R.arg15.view) (slab_at H) (by decide) (by decide) rfl
    (show _ = kernelRun0_B.sl.v468 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v468 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 0, column tile 1. -/
theorem store_0_1 : Good S ⟨Rect.unit (s := S8x128x1024) ![0, 0, 128] S1x128x128.size inb_S8x128x1024_S1x128x128_0_0_128, k0_pay55 (F := Ideal) (kernelRun0_B.sl.v463 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 1) (p := 128) (inb := inb_S8x128x1024_S1x128x128_0_0_128) (v := R.arg15.view) (slab_at H) (by decide) (by decide) rfl
    (show _ = kernelRun0_B.sl.v463 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v463 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Stream 0, column tile 0. -/
theorem store_0_0 : Good S ⟨Rect.unit (s := S8x128x1024) ![0, 0, 0] S1x128x128.size inb_S8x128x1024_S1x128x128_0_0_0, k0_pay54 (F := Ideal) (kernelRun0_B.sl.v458 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9)⟩ :=
  Cert.Stores.stream (j := 0) (p := 0) (inb := inb_S8x128x1024_S1x128x128_0_0_0) (v := R.arg15.view) (slab_at H) (by decide) (by decide) rfl
    (show _ = kernelRun0_B.sl.v458 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9 from shapeCast_shapeCast (kernelRun0_B.sl.v458 (F := Ideal) R.c R.arg2 R.harg2 R.arg4 R.harg4 R.arg5 R.harg5 R.arg6 R.harg6 R.arg7 R.harg7 R.arg8 R.harg8 R.arg9 R.harg9 R.arg11 R.harg11 R.arg12 R.arg13 R.arg14 R.arg15 R.x0 R.x2 R.x3 R.x4 R.x5 R.x6 R.x7 R.x9) _ _)

/-- Every store into the block puts there what the block holds. -/
theorem stores_good (i : grid0.Coords) (arg10 : Memref sig .tc .vmem S8x128x1024 .f32) (harg10 : arg10.IsWhole) (harg12 : R.arg12.IsWhole) (harg13 : R.arg13.IsWhole) (harg14 : R.arg14.IsWhole) (harg15 : R.arg15.IsWhole) (hc0 : ¬cond0_0 i) :
    ∀ p ∈ (kernelRun0_B (F := Ideal) R.c i R.arg2 R.harg2 R.arg3 R.harg3 R.arg4 R.harg4 R.arg5 R.harg5 R.arg6 R.harg6 R.arg7 R.harg7 R.arg8 R.harg8 R.arg9 R.harg9 arg10 harg10 R.arg11 R.harg11 R.arg12 harg12 R.arg13 harg13 R.arg14 harg14 R.arg15 harg15 hc0 R.x0 R.x1 R.x2 R.x3 R.x4 R.x5 R.x6 R.x7 R.x9).1, Good S p := by
  rw [kernelRun0_B]
  refine List.forall_mem_cons.2 ⟨store_7_7 H, ?_⟩
  refine List.forall_mem_cons.2 ⟨store_7_6 H, ?_⟩
  refine List.forall_mem_cons.2 ⟨store_7_5 H, ?_⟩
  refine List.forall_mem_cons.2 ⟨store_7_4 H, ?_⟩
  refine List.forall_mem_cons.2 ⟨store_7_3 H, ?_⟩
  refine List.forall_mem_cons.2 ⟨store_7_2 H, ?_⟩
  refine List.forall_mem_cons.2 ⟨store_7_1 H, ?_⟩
  refine List.forall_mem_cons.2 ⟨store_7_0 H, ?_⟩
  refine List.forall_mem_cons.2 ⟨store_6_7 H, ?_⟩
  refine List.forall_mem_cons.2 ⟨store_6_6 H, ?_⟩
  refine List.forall_mem_cons.2 ⟨store_6_5 H, ?_⟩
  refine List.forall_mem_cons.2 ⟨store_6_4 H, ?_⟩
  refine List.forall_mem_cons.2 ⟨store_6_3 H, ?_⟩
  refine List.forall_mem_cons.2 ⟨store_6_2 H, ?_⟩
  refine List.forall_mem_cons.2 ⟨store_6_1 H, ?_⟩
  refine List.forall_mem_cons.2 ⟨store_6_0 H, ?_⟩
  refine List.forall_mem_cons.2 ⟨store_5_7 H, ?_⟩
  refine List.forall_mem_cons.2 ⟨store_5_6 H, ?_⟩
  refine List.forall_mem_cons.2 ⟨store_5_5 H, ?_⟩
  refine List.forall_mem_cons.2 ⟨store_5_4 H, ?_⟩
  refine List.forall_mem_cons.2 ⟨store_5_3 H, ?_⟩
  refine List.forall_mem_cons.2 ⟨store_5_2 H, ?_⟩
  refine List.forall_mem_cons.2 ⟨store_5_1 H, ?_⟩
  refine List.forall_mem_cons.2 ⟨store_5_0 H, ?_⟩
  refine List.forall_mem_cons.2 ⟨store_4_7 H, ?_⟩
  refine List.forall_mem_cons.2 ⟨store_4_6 H, ?_⟩
  refine List.forall_mem_cons.2 ⟨store_4_5 H, ?_⟩
  refine List.forall_mem_cons.2 ⟨store_4_4 H, ?_⟩
  refine List.forall_mem_cons.2 ⟨store_4_3 H, ?_⟩
  refine List.forall_mem_cons.2 ⟨store_4_2 H, ?_⟩
  refine List.forall_mem_cons.2 ⟨store_4_1 H, ?_⟩
  refine List.forall_mem_cons.2 ⟨store_4_0 H, ?_⟩
  refine List.forall_mem_cons.2 ⟨store_3_7 H, ?_⟩
  refine List.forall_mem_cons.2 ⟨store_3_6 H, ?_⟩
  refine List.forall_mem_cons.2 ⟨store_3_5 H, ?_⟩
  refine List.forall_mem_cons.2 ⟨store_3_4 H, ?_⟩
  refine List.forall_mem_cons.2 ⟨store_3_3 H, ?_⟩
  refine List.forall_mem_cons.2 ⟨store_3_2 H, ?_⟩
  refine List.forall_mem_cons.2 ⟨store_3_1 H, ?_⟩
  refine List.forall_mem_cons.2 ⟨store_3_0 H, ?_⟩
  refine List.forall_mem_cons.2 ⟨store_2_7 H, ?_⟩
  refine List.forall_mem_cons.2 ⟨store_2_6 H, ?_⟩
  refine List.forall_mem_cons.2 ⟨store_2_5 H, ?_⟩
  refine List.forall_mem_cons.2 ⟨store_2_4 H, ?_⟩
  refine List.forall_mem_cons.2 ⟨store_2_3 H, ?_⟩
  refine List.forall_mem_cons.2 ⟨store_2_2 H, ?_⟩
  refine List.forall_mem_cons.2 ⟨store_2_1 H, ?_⟩
  refine List.forall_mem_cons.2 ⟨store_2_0 H, ?_⟩
  refine List.forall_mem_cons.2 ⟨store_1_7 H, ?_⟩
  refine List.forall_mem_cons.2 ⟨store_1_6 H, ?_⟩
  refine List.forall_mem_cons.2 ⟨store_1_5 H, ?_⟩
  refine List.forall_mem_cons.2 ⟨store_1_4 H, ?_⟩
  refine List.forall_mem_cons.2 ⟨store_1_3 H, ?_⟩
  refine List.forall_mem_cons.2 ⟨store_1_2 H, ?_⟩
  refine List.forall_mem_cons.2 ⟨store_1_1 H, ?_⟩
  refine List.forall_mem_cons.2 ⟨store_1_0 H, ?_⟩
  refine List.forall_mem_cons.2 ⟨store_0_7 H, ?_⟩
  refine List.forall_mem_cons.2 ⟨store_0_6 H, ?_⟩
  refine List.forall_mem_cons.2 ⟨store_0_5 H, ?_⟩
  refine List.forall_mem_cons.2 ⟨store_0_4 H, ?_⟩
  refine List.forall_mem_cons.2 ⟨store_0_3 H, ?_⟩
  refine List.forall_mem_cons.2 ⟨store_0_2 H, ?_⟩
  refine List.forall_mem_cons.2 ⟨store_0_1 H, ?_⟩
  refine List.forall_mem_cons.2 ⟨store_0_0 H, ?_⟩
  exact fun p hp => absurd hp List.not_mem_nil

/-- So the stores leave the block. -/
theorem stored_block (i : grid0.Coords) (arg10 : Memref sig .tc .vmem S8x128x1024 .f32) (harg10 : arg10.IsWhole) (harg12 : R.arg12.IsWhole) (harg13 : R.arg13.IsWhole) (harg14 : R.arg14.IsWhole) (harg15 : R.arg15.IsWhole) (hc0 : ¬cond0_0 i) (b : Fin 8) (s : Fin 128) (e : Fin 1024) :
    View.canon (kernelRun0_B (F := Ideal) R.c i R.arg2 R.harg2 R.arg3 R.harg3 R.arg4 R.harg4 R.arg5 R.harg5 R.arg6 R.harg6 R.arg7 R.harg7 R.arg8 R.harg8 R.arg9 R.harg9 arg10 harg10 R.arg11 R.harg11 R.arg12 harg12 R.arg13 harg13 R.arg14 harg14 R.arg15 harg15 hc0 R.x0 R.x1 R.x2 R.x3 R.x4 R.x5 R.x6 R.x7 R.x9).1 (ix3 b s e) = last S ⟨s.val * 8 + b.val, by omega⟩ e :=
  View.canon_apply_of_pieces (Val := Elt Ideal) (e := .f32) (block S) _ (stores_good H i arg10 harg10 harg12 harg13 harg14 harg15 hc0) (ix3 b s e) (cover0_B_8 ..)

end Cert.PromptIdeal.Later
-- ==== Proof.PromptValue.lean ====
/- From the steps of the feed-forward kernel to its two result arrays, for the prompt batch: at grid point `t` the body
   runs step `t % 16` of group `t / 16`.  The rows a step is carried are the ones handed in at the first step of a group,
   and those the point before left at every other; so, point after point, each step computes its part of the whole
   sequence, and the sixty-four points' blocks make up the arrays. -/
module

public import proofs.«01_k».proof.Proof.Gen.PromptIdeal.Value
public import proofs.«01_k».proof.Proof.PromptFirstStreams
public import proofs.«01_k».proof.Proof.PromptLaterStreams

@[expose] public section
set_option maxRecDepth 16384
noncomputable section
open Idealize.ShloMosaic Idealize.ShloMosaic.TcCoe Idealize.SL.Sem
open Idealize.ShloMosaic.Pipeline (Dat)

namespace Cert.PromptIdeal.Arrays
open Cert.PromptIdeal Cert.PromptIdeal.Gen Cert.PromptSpec

variable (m : (ℓ : Loc nD τ sig) → Buf (Elt Ideal) ℓ)

/-- The sublayer's operands, as device `c` is launched with them. -/
def args (c : Dev nD) : Args where
  x := m ((c : Thread nD τ).loc main_arg0)
  st := m ((c : Thread nD τ).loc main_arg1)
  nw := m ((c : Thread nD τ).loc main_arg2)
  u := m ((c : Thread nD τ).loc main_arg3)
  cw := m ((c : Thread nD τ).loc main_arg4)
  cb := m ((c : Thread nD τ).loc main_arg5)
  dn := m ((c : Thread nD τ).loc main_arg6)
  fw := m ((c : Thread nD τ).loc main_arg7)

/-- The group a grid point works on. -/
abbrev grp (t : Fin cfg0.N) : Fin 4 := ⟨t.val / 16, by have := lt_of_lt_of_eq t.isLt (show cfg0.N = 64 from N_0); omega⟩
/-- The step of its group. -/
abbrev stp (t : Fin cfg0.N) : Fin 16 := ⟨t.val % 16, Nat.mod_lt _ (by decide)⟩
/-- What that step works on. -/
abbrev stepAt (c : Dev nD) (t : Fin cfg0.N) : Step := step 1 (args m c) (grp t) (stp t)

/-- The run of the body at the first point of a group. -/
def firstAt (c : Dev nD) (t : Fin cfg0.N) : First.Run where
  c := c
  arg2 := ms0_0 t
  harg2 := hs0_0 t
  arg3 := ms0_1 t
  harg3 := hs0_1 t
  arg4 := ms0_2 t
  harg4 := hs0_2 t
  arg5 := ms0_3 t
  harg5 := hs0_3 t
  arg6 := ms0_4 t
  harg6 := hs0_4 t
  arg7 := ms0_5 t
  harg7 := hs0_5 t
  arg8 := ms0_6 t
  harg8 := hs0_6 t
  arg9 := ms0_7 t
  harg9 := hs0_7 t
  arg11 := ms0_9 t
  arg12 := scM0_0
  arg13 := scM0_1
  arg14 := scM0_2
  arg15 := scM0_3
  x0 := iblk m c 0 t
  x1 := iblk m c 1 t
  x2 := iblk m c 2 t
  x3 := iblk m c 3 t
  x4 := iblk m c 4 t
  x5 := iblk m c 5 t
  x6 := iblk m c 6 t
  x7 := iblk m c 7 t

/-- The run of the body at a later point, over what the point before left. -/
def laterAt (c : Dev nD) (t : Fin cfg0.N) (x9 : Vec Ideal S1x16x5632 .f32) : Later.Run where
  c := c
  arg2 := ms0_0 t
  harg2 := hs0_0 t
  arg3 := ms0_1 t
  harg3 := hs0_1 t
  arg4 := ms0_2 t
  harg4 := hs0_2 t
  arg5 := ms0_3 t
  harg5 := hs0_3 t
  arg6 := ms0_4 t
  harg6 := hs0_4 t
  arg7 := ms0_5 t
  harg7 := hs0_5 t
  arg8 := ms0_6 t
  harg8 := hs0_6 t
  arg9 := ms0_7 t
  harg9 := hs0_7 t
  arg11 := ms0_9 t
  harg11 := hs0_9 t
  arg12 := scM0_0
  arg13 := scM0_1
  arg14 := scM0_2
  arg15 := scM0_3
  x0 := iblk m c 0 t
  x1 := iblk m c 1 t
  x2 := iblk m c 2 t
  x3 := iblk m c 3 t
  x4 := iblk m c 4 t
  x5 := iblk m c 5 t
  x6 := iblk m c 6 t
  x7 := iblk m c 7 t
  x9 := x9

/-- Where the blocks of point `t` lie. -/
theorem idx : ∀ t : Fin cfg0.N, win0_0.index t = ![t.val / 16, t.val % 16, 0] ∧ win0_1.index t = ![1, t.val / 16, 0, 0]
    ∧ win0_2.index t = ![1, 0, 0] ∧ win0_3.index t = ![1, 0, 0] ∧ win0_4.index t = ![1, 0, 0]
    ∧ win0_5.index t = ![1, 0, 0] ∧ win0_6.index t = ![1, 0, 0] ∧ win0_7.index t = ![0, 0]
    ∧ win0_8.index t = ![t.val / 16, t.val % 16, 0] ∧ win0_9.index t = ![t.val / 16, 0, 0] :=
  (by decide +kernel : ∀ t : Fin grid0.N, _)

/-- Block `t` of the tokens: the step's 1024 rows of its group. -/
theorem block0 (c : Dev nD) (t : Fin cfg0.N) (r : Fin 1024) (d : Fin 1024) : iblk m c 0 t (ix3 0 r d) = (stepAt m c t).x r d := by
  show _ = (m ((c : Thread nD τ).loc main_arg0)) (ix3 (grp t) ⟨t.val % 16 * 1024 + r.val, by omega⟩ d)
  blk_point [iblk, V, idx t]

/-- The regrouped rows handed in: row `r` is position `r / 8` of stream `r % 8` of the group. -/
theorem block1 (c : Dev nD) (t : Fin cfg0.N) (r : Fin 16) (k : Fin 5632) :
    iblk m c 1 t (ix4 0 0 r k) = ext 1 (args m c) (grp t) ⟨r.val, by omega⟩ k := by
  have h : iblk m c 1 t (ix4 0 0 r k) = V m c main_v2 (ix4 1 (grp t) r k) := by blk_ext [iblk, idx t]
  refine h.trans ?_
  entry_read
  pointwise
  rw [ext, dif_pos r.isLt]
  rfl

theorem block2 (c : Dev nD) (t : Fin cfg0.N) (d : Fin 1024) : iblk m c 2 t (ix3 0 0 d) = (stepAt m c t).nw d := by
  show _ = (m ((c : Thread nD τ).loc main_arg2)) (ix2 1 d)
  blk_point [iblk, V, idx t]

theorem block3 (c : Dev nD) (t : Fin cfg0.N) (d : Fin 1024) (k : Fin 5632) : iblk m c 3 t (ix3 0 d k) = (stepAt m c t).u d k := by
  show _ = (m ((c : Thread nD τ).loc main_arg3)) (ix3 1 d k)
  blk_point [iblk, V, idx t]

theorem block4 (c : Dev nD) (t : Fin cfg0.N) (k : Fin 3) (j : Fin 5632) : iblk m c 4 t (ix3 0 k j) = (stepAt m c t).cw k j := by
  show _ = (m ((c : Thread nD τ).loc main_arg4)) (ix3 1 k j)
  blk_point [iblk, V, idx t]

theorem block5 (c : Dev nD) (t : Fin cfg0.N) (j : Fin 5632) : iblk m c 5 t (ix3 0 0 j) = (stepAt m c t).cb j := by
  show _ = (m ((c : Thread nD τ).loc main_arg5)) (ix2 1 j)
  blk_point [iblk, V, idx t]

theorem block6 (c : Dev nD) (t : Fin cfg0.N) (j : Fin 2816) (e : Fin 1024) : iblk m c 6 t (ix3 0 j e) = (stepAt m c t).dn j e := by
  show _ = (m ((c : Thread nD τ).loc main_arg6)) (ix3 1 j e)
  blk_point [iblk, V, idx t]

theorem block7 (c : Dev nD) (t : Fin cfg0.N) (e : Fin 1024) : iblk m c 7 t (ix2 0 e) = (stepAt m c t).fw e := by
  show _ = (m ((c : Thread nD τ).loc main_arg7)) (ix1 e)
  blk_point [iblk, V, idx t]

/-- At the first point of a group the body's input blocks are the step's operands. -/
theorem first_holds (c : Dev nD) (t : Fin cfg0.N) (h0 : t.val % 16 = 0) : First.Holds (stepAt m c t) (firstAt m c t) where
  x0 r d := block0 m c t r d
  x1 r k := by
    refine (block1 m c t r k).trans ((step_ext 1 (args m c) (grp t) (stp t) _ k).trans ?_).symm
    congr 1; apply Fin.ext; simp [h0]
  x2 d := block2 m c t d
  x3 d k := block3 m c t d k
  x4 k j := block4 m c t k j
  x5 j := block5 m c t j
  x6 j e := block6 m c t j e
  x7 e := block7 m c t e

/-- So they are at a later point, when the rows carried into it are the step's. -/
theorem later_holds (c : Dev nD) (t : Fin cfg0.N) (x9 : Vec Ideal S1x16x5632 .f32)
    (h9 : ∀ (r : Fin 16) (k : Fin 5632), x9 (ix3 0 r k) = (stepAt m c t).ext ⟨r.val, by omega⟩ k) :
    Later.Holds (stepAt m c t) (laterAt m c t x9) where
  x0 r d := block0 m c t r d
  x9 r k := h9 r k
  x2 d := block2 m c t d
  x3 d k := block3 m c t d k
  x4 k j := block4 m c t k j
  x5 j := block5 m c t j
  x6 j e := block6 m c t j e
  x7 e := block7 m c t e

/-- What the first point of a group leaves in the second result's block. -/
theorem first_carry (c : Dev nD) (t : Fin cfg0.N) (h0 : t.val % 16 = 0) (r : Fin 16) (k : Fin 5632) :
    (outsAt0 m c t.val t.isLt).2 (ix3 0 r k) = (stepAt m c t).carry r k := by
  refine Eq.trans ?_ (First.carry_at (first_holds m c t h0) inb_S1x16x5632_S1x16x768_0_0_4864 r k)
  rw [outsAt0_A m c t h0]
  simp only [out0_A_9, View.read_writes_junk_eq_canon]
  rw [kernelRun0_A]
  rfl

/-- What a later one leaves there. -/
theorem later_carry (c : Dev nD) (t : Fin cfg0.N) (h0 : ¬t.val % 16 = 0)
    (h9 : ∀ (r : Fin 16) (k : Fin 5632), (outsAt0 m c (t.val - 1) (Nat.lt_of_le_of_lt (Nat.sub_le _ _) t.isLt)).2 (ix3 0 r k)
      = (stepAt m c t).ext ⟨r.val, by omega⟩ k) (r : Fin 16) (k : Fin 5632) :
    (outsAt0 m c t.val t.isLt).2 (ix3 0 r k) = (stepAt m c t).carry r k := by
  refine Eq.trans ?_ (Later.carry_at (later_holds m c t _ h9) r k)
  rw [outsAt0_B m c t h0]
  simp only [out0_B_9, View.read_writes_junk_eq_canon]
  rw [kernelRun0_B]
  rfl

/-- If the point before left the rows its step carries on, they are the ones this step's convolution starts from. -/
theorem handed (A : Args) (t t' : Fin cfg0.N) (e : t'.val = t.val - 1) (h0 : ¬t.val % 16 = 0) (r : Fin 16) (k : Fin 5632) :
    (step 1 A (grp t') (stp t')).carry r k = (step 1 A (grp t) (stp t)).ext ⟨r.val, by omega⟩ k := by
  rw [step_carry, step_ext]
  congr 1 <;> apply Fin.ext <;> simp [e] <;> omega

/-- Every point leaves the rows its step carries on. -/
theorem left9 (c : Dev nD) (n : ℕ) : ∀ (h : n < cfg0.N) (r : Fin 16) (k : Fin 5632),
    (outsAt0 m c n h).2 (ix3 0 r k) = (stepAt m c ⟨n, h⟩).carry r k := by
  induction n with
  | zero => intro h r k; exact first_carry m c ⟨0, h⟩ rfl r k
  | succ n ih =>
    intro h r k
    by_cases h0 : (n + 1) % 16 = 0
    · exact first_carry m c ⟨n + 1, h⟩ h0 r k
    · exact later_carry m c ⟨n + 1, h⟩ h0 (fun r k => (ih (Nat.lt_of_succ_lt h) r k).trans
        (handed (args m c) ⟨n + 1, h⟩ ⟨n, Nat.lt_of_succ_lt h⟩ rfl h0 r k)) r k

/-- What the first point of a group stores in the first result's block. -/
theorem first_stored (c : Dev nD) (t : Fin cfg0.N) (h0 : t.val % 16 = 0) (b : Fin 8) (s : Fin 128) (e : Fin 1024) :
    (outsAt0 m c t.val t.isLt).1 (ix3 b s e) = (stepAt m c t).last ⟨s.val * 8 + b.val, by omega⟩ e := by
  rw [outsAt0_A m c t h0]
  simp only [out0_A_8, View.read_writes_junk_eq_canon]
  exact First.stored_block (first_holds m c t h0) _ _ _ _ _ _ _ _ _ b s e

/-- What a later one stores there. -/
theorem later_stored (c : Dev nD) (t : Fin cfg0.N) (h0 : ¬t.val % 16 = 0)
    (h9 : ∀ (r : Fin 16) (k : Fin 5632), (outsAt0 m c (t.val - 1) (Nat.lt_of_le_of_lt (Nat.sub_le _ _) t.isLt)).2 (ix3 0 r k)
      = (stepAt m c t).ext ⟨r.val, by omega⟩ k) (b : Fin 8) (s : Fin 128) (e : Fin 1024) :
    (outsAt0 m c t.val t.isLt).1 (ix3 b s e) = (stepAt m c t).last ⟨s.val * 8 + b.val, by omega⟩ e := by
  rw [outsAt0_B m c t h0]
  generalize (outsAt0 m c (t.val - 1) (Nat.lt_of_le_of_lt (Nat.sub_le _ _) t.isLt)).2 = x9 at h9
  simp only [out0_B_8, View.read_writes_junk_eq_canon]
  exact Later.stored_block (later_holds m c t x9 h9) _ _ _ _ _ _ _ _ b s e

/-- What point `t` stores in the first result's block: its step's rows through the final norm. -/
theorem stored8 (c : Dev nD) (t : Fin cfg0.N) (b : Fin 8) (s : Fin 128) (e : Fin 1024) :
    (outsAt0 m c t.val t.isLt).1 (ix3 b s e) = (stepAt m c t).last ⟨s.val * 8 + b.val, by omega⟩ e := by
  by_cases h0 : t.val % 16 = 0
  · exact first_stored m c t h0 b s e
  · have hp : t.val - 1 < cfg0.N := Nat.lt_of_le_of_lt (Nat.sub_le _ _) t.isLt
    exact later_stored m c t h0 (fun r k => (left9 m c (t.val - 1) hp r k).trans
      (handed (args m c) t ⟨t.val - 1, hp⟩ rfl h0 r k)) b s e

/-- Stream `b` of group `g` is stream `g * 8 + b` of all; position `q` of step `s` is position `s * 128 + q`. -/
theorem regroup (A : Args) (g : Fin 4) (s : Fin 16) (b : Fin 8) (q : Fin 128) (e : Fin 1024) (n p : ℕ) (e' : Fin 1024)
    (h0 : n = g.val * 8 + b.val) (h1 : p = s.val * 128 + q.val) (h2 : e' = e) (hn : n / 8 < 4) (hp : p * 8 + n % 8 < 16384) :
    (step 1 A g s).last ⟨q.val * 8 + b.val, by omega⟩ e = last 1 A ⟨n / 8, hn⟩ ⟨p * 8 + n % 8, hp⟩ e' := by
  subst h0 h1 h2
  rw [step_last]
  congr 1 <;> apply Fin.ext <;> simp <;> omega

/-- The first result array is the model's output: stream `n` is stream `n % 8` of group `n / 8`. -/
theorem final8 (c : Dev nD) : (dats m 0 c).arrAt 8 cfg0.N
    = (fun i => last 1 (args m c) ⟨(i 0).val / 8, by have := (i 0).isLt; simp at this; omega⟩
        ⟨(i 1).val * 8 + (i 0).val % 8, by have := (i 1).isLt; simp at this; omega⟩ (i 2) : FVec Ideal S32x2048x1024 .f32) := by
  refine (dats m 0 c).arrAt_eq_of_covers 8 _ (by decide +kernel) fun t _ y => ?_
  blk_simp
  rw [after0_8]
  have e : y = ix3 (y 0) (y 1) (y 2) := eq_ix3 y
  refine Eq.trans (congrArg _ e) ((stored8 m c t (y 0) (y 1) (y 2)).trans ?_)
  refine regroup (args m c) (grp t) (stp t) (y 0) (y 1) (y 2) _ _ _ ?_ ?_ ?_ _ _
  · blk_simp [idx t]
  · blk_simp [idx t]
  · apply Fin.ext
    blk_simp [idx t]

/-- The second result's block is written back after the last step of its group. -/
theorem flush9 : ∀ t : Fin cfg0.N, (cfg0.win 9).flush t = true → t.val % 16 = 15 :=
  (by decide +kernel : ∀ t : Fin grid0.N, _)

/-- What the last step of a group carries on is what the whole sequence does. -/
theorem last_carry (A : Args) (t : Fin cfg0.N) (h : t.val % 16 = 15) (r : Fin 16) (k : Fin 5632) :
    (step 1 A (grp t) (stp t)).carry r k = carry 1 A (grp t) r k := by
  rw [step_carry, carry]
  congr 1; apply Fin.ext; simp [h]; omega

/-- The second result array is the rows carried on. -/
theorem final9 (c : Dev nD) : (dats m 0 c).arrAt 9 cfg0.N
    = (fun i => carry 1 (args m c) (i 0) (i 1) (i 2) : FVec Ideal S4x16x5632 .f32) := by
  refine (dats m 0 c).arrAt_eq_of_covers 9 _ (by decide +kernel) fun t hf y => ?_
  blk_simp
  rw [after0_9]
  have e : y = ix3 0 (y 1) (y 2) := by blk_ext
  refine Eq.trans (congrArg _ e) ((left9 m c t.val t.isLt (y 1) (y 2)).trans ((last_carry (args m c) t (flush9 t hf) (y 1) (y 2)).trans ?_))
  have h0 : (win0_9.blk t).view.emb y 0 = grp t := by
    apply Fin.ext
    blk_simp [idx t]
  have h1 : (win0_9.blk t).view.emb y 1 = y 1 := by
    apply Fin.ext
    blk_simp [idx t]
  have h2 : (win0_9.blk t).view.emb y 2 = y 2 := by
    apply Fin.ext
    blk_simp [idx t]
  rw [h0, h1, h2]

end Cert.PromptIdeal.Arrays
-- ==== Proof.PromptClaim.lean ====
/- The last layer's two value facts for the prompt batch joined: the kernel's result arrays and the reference's results are the
   same functions of the same operands. -/
module

public import proofs.«01_k».proof.Defs
public import proofs.«01_k».proof.Proof.PromptRef
public import proofs.«01_k».proof.Proof.PromptValue
public import Idealize.ShloMosaic.Lib.Claim

@[expose] public section
set_option maxRecDepth 16384
noncomputable section
open Idealize.ShloMosaic Idealize.ShloMosaic.TcCoe Idealize.SL.Sem

namespace Cert.PromptClaim
open Cert.PromptSpec

/-- A tensor is known by its entries. -/
theorem ext3 {a b c : ℕ} {f h : (⟨3, ![a, b, c]⟩ : Shape).Idx → EReal} (e : ∀ i j k, f (ix3 i j k) = h (ix3 i j k)) : f = h := by
  funext i
  rw [eq_ix3 i]
  exact e _ _ _

/-- The reference's first result, whole. -/
theorem ref1 (A : Args) : Cert.PromptRefIdeal.Read.val_main_v72 (F := Ideal) A.x A.st A.nw A.u A.cw A.cb A.dn A.fw
    = (fun i => last 1 A ⟨(i 0).val / 8, by have := (i 0).isLt; simp at this; omega⟩
        ⟨(i 1).val * 8 + (i 0).val % 8, by have := (i 1).isLt; simp at this; omega⟩ (i 2) : FVec Ideal ⟨3, ![32, 2048, 1024]⟩ .f32) := by
  refine ext3 fun n t c => ?_
  have e : n = Cert.PromptRefIdeal.Read.sq ⟨n.val / 8, by omega⟩ ⟨n.val % 8, by omega⟩ := by
    apply Fin.ext
    show n.val = n.val / 8 * 8 + n.val % 8
    omega
  refine (congrArg (fun k => Cert.PromptRefIdeal.Read.val_main_v72 (F := Ideal) A.x A.st A.nw A.u A.cw A.cb A.dn A.fw (ix3 k t c)) e).trans ?_
  exact Cert.PromptRefIdeal.Read.res1_at A _ _ t c

/-- The reference's second result, whole. -/
theorem ref2 (A : Args) : Cert.PromptRefIdeal.Read.val_main_v75 (F := Ideal) A.x A.st A.nw A.u
    = (fun i => carry 1 A (i 0) (i 1) (i 2) : FVec Ideal ⟨3, ![4, 16, 5632]⟩ .f32) :=
  ext3 fun g r c => Cert.PromptRefIdeal.Read.res2_at A g r c

/-- The claim: both programs run, end with equal results, and leave their arguments as they were. -/
theorem algebraic : Cert.algebraic_PromptIdeal_PromptRefIdeal := by
  pair_intro
  · run_from Cert.PromptIdeal.Gen.run_main m g
  · run_from Cert.PromptRefIdeal.Value.run m' g'
    · obtain ⟨h0, h1, h2, h3, h4, h5, h6, h7⟩ := hagree c
      rw [Cert.PromptRefIdeal.Read.val_main_v72_eq, h0, h1, h2, h3, h4, h5, h6, h7]
      exact (ref1 (Cert.PromptIdeal.Arrays.args m c)).trans (Cert.PromptIdeal.Arrays.final8 m c).symm
    · exact (ref2 (Cert.PromptIdeal.Arrays.args m c)).trans (Cert.PromptIdeal.Arrays.final9 m c).symm

/-- The reference runs to the end and leaves its arguments as they were. -/
theorem ref_frame : Cert.quiescent_PromptRefIdeal := by
  intro m ρ _
  exact (θ_run Cert.PromptRefIdeal.defs _ _).mono (fun r h => ⟨fun c => (h c).2.2, sem_eq_zero_of_no_sems (by decide) r.2⟩)
    (Cert.PromptRefIdeal.Value.run m ρ)

end Cert.PromptClaim
-- ==== Proof.PromptFfnRef.lean ====
/- The reference of the feed-forward sublayer for the prompt batch, read entry by entry: each stage of the plain program is the
   corresponding function of `Cert.PromptSpec`, and so are its two results. -/
module

public import proofs.«01_k».proof.Proof.Gen.PromptFfnRefIdeal.Run
public import proofs.«01_k».proof.Proof.Gen.PromptFfnRefIdeal.Read
public import proofs.«01_k».proof.Proof.PromptSpec

@[expose] public section
set_option maxRecDepth 16384
noncomputable section
open Idealize.ShloMosaic Idealize.ShloMosaic.TcCoe Idealize.SL.Sem

namespace Cert.PromptFfnRefIdeal.Read
open Cert.PromptSpec

variable (A : Args)

/-- Stream `i` of group `g` among all thirty-two. -/
abbrev sq (g : Fin 4) (i : Fin 8) : Fin 32 := ⟨g.val * 8 + i.val, by omega⟩
/-- The row of position `t` of stream `i` in its group. -/
abbrev rw8 (t : Fin 2048) (i : Fin 8) : Fin 16384 := ⟨t.val * 8 + i.val, by omega⟩

/-- The tokens of one stream, taken out of their group. -/
theorem streams_at (g : Fin 4) (i : Fin 8) (t : Fin 2048) (d : Fin 1024) :
    val_main_v2 (F := Ideal) A.x (ix3 (sq g i) t d) = A.x (ix3 g (rw8 t i) d) := by
  pointwise [val_main_v2, val_main_v1, val_main_v0]
  congr 2 <;> apply Fin.ext <;> simp <;> omega

/-- The norm's output is `hn`. -/
theorem norm_at (g : Fin 4) (i : Fin 8) (t : Fin 2048) (d : Fin 1024) :
    val_main_v17 (F := Ideal) A.x A.nw (ix3 (sq g i) t d) = hn 0 A g (rw8 t i) d := by
  have hs := streams_at A g i t
  pointwise [val_main_v17, val_main_v16, val_main_v15, val_main_v14, val_main_v13, val_main_v12, val_main_v11,
    val_main_v10, val_main_v9, val_main_v8, val_main_v7, val_main_v6, val_main_v5, val_main_v4, val_main_v3,
    val_main_cst, val_main_cst_0, val_main_cst_1]
  simp only [hs, hn]

/-- The up-projection is `up`. -/
theorem up_at (g : Fin 4) (i : Fin 8) (t : Fin 2048) (c : Fin 5632) :
    val_main_v20 (F := Ideal) A.x A.nw A.u (ix3 (sq g i) t c) = up 0 A g (rw8 t i) c := by
  have hs := norm_at A g i t
  pointwise [val_main_v20, val_main_v19, val_main_v18]
  simp only [hs, up]

/-- The carried rows followed by the projected ones are `ext`. -/
theorem ext_at (g : Fin 4) (i : Fin 8) (s : Fin 2050) (c : Fin 5632) :
    val_main_v27 (F := Ideal) A.x A.st A.nw A.u (ix3 (sq g i) s c) = ext 0 A g ⟨s.val * 8 + i.val, by omega⟩ c := by
  have hu := up_at A g i
  pointwise [val_main_v27, val_main_v22, val_main_v21]
  simp only [ext]
  by_cases h : s.val < 2
  · rw [dif_pos h, dif_pos (by omega)]
    congr 2 <;> apply Fin.ext <;> simp <;> omega
  · rw [dif_neg h, dif_neg (by omega), hu]
    congr 1; apply Fin.ext; simp; omega

theorem conv_at (g : Fin 4) (i : Fin 8) (t : Fin 2048) (c : Fin 5632) :
    val_main_v50 (F := Ideal) A.x A.st A.nw A.u A.cw A.cb (ix3 (sq g i) t c) = conv 0 A g (rw8 t i) c := by
  have hs := ext_at A g i
  pointwise [val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v26, val_main_v25, val_main_v24, val_main_v23]
  simp only [hs, conv]
  have e1 : (1 + t.val) * 8 + i.val = t.val * 8 + i.val + 8 := by omega
  have e2 : (2 + t.val) * 8 + i.val = t.val * 8 + i.val + 16 := by omega
  simp only [e1, e2]
  rw [add_comm, ← add_assoc, ← add_assoc]

theorem act_at (g : Fin 4) (i : Fin 8) (t : Fin 2048) (c : Fin 2816) :
    val_main_v55 (F := Ideal) A.x A.st A.nw A.u A.cw A.cb (ix3 (sq g i) t c) = act 0 A g (rw8 t i) c := by
  have hs := conv_at A g i t
  pointwise [val_main_v55, val_main_v54, val_main_v53, val_main_v52, val_main_call0_v0, val_main_call0_v1, val_main_call0_v2, val_main_call0_v3, val_main_call0_v4, val_main_call0_v5, val_main_call0_cst, val_main_call0_cst_0]
  simp only [hs, act, Ideal.logistic, Nat.add_comm 2816]

theorem out_at (g : Fin 4) (i : Fin 8) (t : Fin 2048) (c : Fin 1024) :
    val_main_v59 (F := Ideal) A.x A.st A.nw A.u A.cw A.cb A.dn (ix3 (sq g i) t c) = out 0 A g (rw8 t i) c := by
  have hs := act_at A g i t
  have h2 := streams_at A g i t
  pointwise [val_main_v59, val_main_v58, val_main_v57, val_main_v56]
  simp only [hs, h2, out]

theorem res1_at (g : Fin 4) (r : Fin 16384) (c : Fin 1024) :
    val_main_v62 (F := Ideal) A.x A.st A.nw A.u A.cw A.cb A.dn (ix3 g r c) = out 0 A g r c := by
  have hs := out_at A g ⟨r.val % 8, by omega⟩ ⟨r.val / 8, by omega⟩ c
  pointwise [val_main_v62, val_main_v61, val_main_v60]
  refine Eq.trans hs ?_
  congr 1; apply Fin.ext; simp; omega

theorem res2_at (g : Fin 4) (r : Fin 16) (c : Fin 5632) :
    val_main_v65 (F := Ideal) A.x A.st A.nw A.u  (ix3 g r c) = carry 0 A g r c := by
  have hs := ext_at A g ⟨r.val % 8, by omega⟩ ⟨2048 + r.val / 8, by omega⟩ c
  pointwise [val_main_v65, val_main_v64, val_main_v63, val_main_v51]
  refine Eq.trans hs ?_
  rw [carry]
  congr 1; apply Fin.ext; simp; omega

end Cert.PromptFfnRefIdeal.Read
-- ==== Proof.PromptFfnFirst.lean ====
/- The first layer's run at the first step of a group of the prompt batch (its carried rows are those handed in),
   read stage by stage: the normalised rows, the rows its two scratch buffers hold for each tile of channels, the gated activations, and the rows it carries on.  Every stage is
   the corresponding function of `Cert.PromptSpec.Step`. -/
module

public import proofs.«01_k».proof.Proof.Gen.PromptFfnIdeal.Frame
public import proofs.«01_k».proof.Proof.PromptSpec
public import proofs.«01_k».proof.Proof.Stores

@[expose] public section
set_option maxRecDepth 16384
noncomputable section
open Idealize.ShloMosaic Idealize.ShloMosaic.TcCoe Idealize.SL.Sem

namespace Cert.PromptFfnIdeal.First
open Cert.PromptFfnIdeal Cert.PromptFfnIdeal.Gen
open Cert.PromptSpec (Step)
open Cert.PromptSpec.Step

/-- One run of the body: the buffers it is handed and the input blocks they hold. -/
structure Run where
  c : Dev nD
  arg2 : Memref sig .tc .vmem S1x1024x1024 .f32
  harg2 : arg2.IsWhole
  arg3 : Memref sig .tc .vmem S1x1x16x5632 .f32
  harg3 : arg3.IsWhole
  arg4 : Memref sig .tc .vmem S1x1x1024 .f32
  harg4 : arg4.IsWhole
  arg5 : Memref sig .tc .vmem S1x1024x5632 .bf16
  harg5 : arg5.IsWhole
  arg6 : Memref sig .tc .vmem S1x3x5632 .f32
  harg6 : arg6.IsWhole
  arg7 : Memref sig .tc .vmem S1x1x5632 .f32
  harg7 : arg7.IsWhole
  arg8 : Memref sig .tc .vmem S1x2816x1024 .bf16
  harg8 : arg8.IsWhole
  arg11 : Memref sig .tc .vmem S1x16x5632 .f32
  arg12 : Memref sig .tc .vmem S1024x1024 .bf16
  arg13 : Memref sig .tc .vmem S1040x1024 .f32
  arg14 : Memref sig .tc .vmem S1040x1024 .f32
  x0 : Vec Ideal S1x1024x1024 .f32
  x1 : Vec Ideal S1x1x16x5632 .f32
  x2 : Vec Ideal S1x1x1024 .f32
  x3 : Vec Ideal S1x1024x5632 .bf16
  x4 : Vec Ideal S1x3x5632 .f32
  x5 : Vec Ideal S1x1x5632 .f32
  x6 : Vec Ideal S1x2816x1024 .bf16

/-- The run's input blocks are the operands of the step `S`. -/
structure Holds (S : Step) (R : Run) : Prop where
  x0 : ∀ r d, R.x0 (ix3 0 r d) = S.x r d
  x1 : ∀ (r : Fin 16) (c : Fin 5632), R.x1 (ix4 0 0 r c) = ext S ⟨r.val, by omega⟩ c
  x2 : ∀ d, R.x2 (ix3 0 0 d) = S.nw d
  x3 : ∀ d c, R.x3 (ix3 0 d c) = S.u d c
  x4 : ∀ k c, R.x4 (ix3 0 k c) = S.cw k c
  x5 : ∀ c, R.x5 (ix3 0 0 c) = S.cb c
  x6 : ∀ c e, R.x6 (ix3 0 c e) = S.dn c e

namespace Run
variable (R : Run)

abbrev v30 := kernelRun0_A.sl.v30 (F := Ideal) R.c R.arg2 R.harg2 R.arg4 R.harg4 R.arg12 R.x0 R.x2
abbrev HS1_2 := kernelRun0_A.sl.HS1_2 (F := Ideal) R.c R.arg2 R.harg2 R.arg3 R.harg3 R.arg4 R.harg4 R.arg5 R.harg5 R.arg11 R.arg12 R.x0 R.x1 R.x2 R.x3
abbrev HS1_4 := kernelRun0_A.sl.HS1_4 (F := Ideal) R.c R.arg2 R.harg2 R.arg3 R.harg3 R.arg4 R.harg4 R.arg5 R.harg5 R.arg11 R.arg12 R.arg13 R.arg14 R.x0 R.x1 R.x2 R.x3
abbrev HS1_6 := kernelRun0_A.sl.HS1_6 (F := Ideal) R.c R.arg2 R.harg2 R.arg3 R.harg3 R.arg4 R.harg4 R.arg5 R.harg5 R.arg11 R.arg12 R.arg13 R.arg14 R.x0 R.x1 R.x2 R.x3
abbrev HS2_2 := kernelRun0_A.sl.HS2_2 (F := Ideal) R.c R.arg2 R.harg2 R.arg3 R.harg3 R.arg4 R.harg4 R.arg5 R.harg5 R.arg11 R.arg12 R.arg13 R.x0 R.x1 R.x2 R.x3
abbrev HS2_4 := kernelRun0_A.sl.HS2_4 (F := Ideal) R.c R.arg2 R.harg2 R.arg3 R.harg3 R.arg4 R.harg4 R.arg5 R.harg5 R.arg11 R.arg12 R.arg13 R.arg14 R.x0 R.x1 R.x2 R.x3
abbrev HS2_5 := kernelRun0_A.sl.HS2_5 (F := Ideal) R.c R.arg2 R.harg2 R.arg3 R.harg3 R.arg4 R.harg4 R.arg5 R.harg5 R.arg11 R.arg12 R.arg13 R.arg14 R.x0 R.x1 R.x2 R.x3
abbrev HS2_6 := kernelRun0_A.sl.HS2_6 (F := Ideal) R.c R.arg2 R.harg2 R.arg3 R.harg3 R.arg4 R.harg4 R.arg5 R.harg5 R.arg11 R.arg12 R.arg13 R.arg14 R.x0 R.x1 R.x2 R.x3
abbrev H9_1 := kernelRun0_A.sl.H9_1 (F := Ideal) R.c R.arg3 R.harg3 R.x1
abbrev H9_2 := kernelRun0_A.sl.H9_2 (F := Ideal) R.c R.arg2 R.harg2 R.arg3 R.harg3 R.arg4 R.harg4 R.arg5 R.harg5 R.arg11 R.arg12 R.arg13 R.x0 R.x1 R.x2 R.x3
abbrev H9_3 := kernelRun0_A.sl.H9_3 (F := Ideal) R.c R.arg2 R.harg2 R.arg3 R.harg3 R.arg4 R.harg4 R.arg5 R.harg5 R.arg11 R.arg12 R.arg13 R.arg14 R.x0 R.x1 R.x2 R.x3
abbrev H9_4 := kernelRun0_A.sl.H9_4 (F := Ideal) R.c R.arg2 R.harg2 R.arg3 R.harg3 R.arg4 R.harg4 R.arg5 R.harg5 R.arg11 R.arg12 R.arg13 R.arg14 R.x0 R.x1 R.x2 R.x3
abbrev H9_5 := kernelRun0_A.sl.H9_5 (F := Ideal) R.c R.arg2 R.harg2 R.arg3 R.harg3 R.arg4 R.harg4 R.arg5 R.harg5 R.arg11 R.arg12 R.arg13 R.arg14 R.x0 R.x1 R.x2 R.x3
abbrev H9_6 := kernelRun0_A.sl.H9_6 (F := Ideal) R.c R.arg2 R.harg2 R.arg3 R.harg3 R.arg4 R.harg4 R.arg5 R.harg5 R.arg11 R.arg12 R.arg13 R.arg14 R.x0 R.x1 R.x2 R.x3
abbrev r := kernelRun0_A.sl.r (F := Ideal) R.c R.arg2 R.harg2 R.x0
abbrev r_4 := kernelRun0_A.sl.r_4 (F := Ideal) R.c R.arg2 R.harg2 R.arg3 R.harg3 R.arg4 R.harg4 R.arg5 R.harg5 R.arg6 R.harg6 R.arg7 R.harg7 R.arg11 R.arg12 R.arg13 R.arg14 R.x0 R.x1 R.x2 R.x3 R.x4 R.x5
abbrev r_5 := kernelRun0_A.sl.r_5 (F := Ideal) R.c R.arg2 R.harg2 R.arg3 R.harg3 R.arg4 R.harg4 R.arg5 R.harg5 R.arg6 R.harg6 R.arg7 R.harg7 R.arg11 R.arg12 R.arg13 R.x0 R.x1 R.x2 R.x3 R.x4 R.x5
abbrev r_6 := kernelRun0_A.sl.r_6 (F := Ideal) R.c R.arg2 R.harg2 R.arg3 R.harg3 R.arg4 R.harg4 R.arg5 R.harg5 R.arg6 R.harg6 R.arg7 R.harg7 R.arg8 R.harg8 R.arg11 R.arg12 R.arg13 R.arg14 R.x0 R.x1 R.x2 R.x3 R.x4 R.x5 R.x6
abbrev r_11 := kernelRun0_A.sl.r_11 (F := Ideal) R.c R.arg2 R.harg2 R.arg3 R.harg3 R.arg4 R.harg4 R.arg5 R.harg5 R.arg6 R.harg6 R.arg7 R.harg7 R.arg11 R.arg12 R.arg13 R.arg14 R.x0 R.x1 R.x2 R.x3 R.x4 R.x5
abbrev r_12 := kernelRun0_A.sl.r_12 (F := Ideal) R.c R.arg2 R.harg2 R.arg3 R.harg3 R.arg4 R.harg4 R.arg5 R.harg5 R.arg6 R.harg6 R.arg7 R.harg7 R.arg11 R.arg12 R.arg13 R.arg14 R.x0 R.x1 R.x2 R.x3 R.x4 R.x5
abbrev r_14 := kernelRun0_A.sl.r_14 (F := Ideal) R.c R.arg2 R.harg2 R.arg3 R.harg3 R.arg4 R.harg4 R.arg5 R.harg5 R.arg6 R.harg6 R.arg7 R.harg7 R.arg8 R.harg8 R.arg11 R.arg12 R.arg13 R.arg14 R.x0 R.x1 R.x2 R.x3 R.x4 R.x5 R.x6
abbrev r_15 := kernelRun0_A.sl.r_15 (F := Ideal) R.c R.arg2 R.harg2 R.arg4 R.harg4 R.arg5 R.harg5 R.arg12 R.x0 R.x2 R.x3
abbrev r_18 := kernelRun0_A.sl.r_18 (F := Ideal) R.c R.arg2 R.harg2 R.arg3 R.harg3 R.arg4 R.harg4 R.arg5 R.harg5 R.arg6 R.harg6 R.arg7 R.harg7 R.arg11 R.arg12 R.arg13 R.arg14 R.x0 R.x1 R.x2 R.x3 R.x4 R.x5
abbrev r_19 := kernelRun0_A.sl.r_19 (F := Ideal) R.c R.arg2 R.harg2 R.arg3 R.harg3 R.arg4 R.harg4 R.arg5 R.harg5 R.arg6 R.harg6 R.arg7 R.harg7 R.arg11 R.arg12 R.arg13 R.arg14 R.x0 R.x1 R.x2 R.x3 R.x4 R.x5
abbrev v311 := kernelRun0_A.sl.v311 (F := Ideal) R.c R.arg2 R.harg2 R.arg3 R.harg3 R.arg4 R.harg4 R.arg5 R.harg5 R.arg11 R.arg12 R.arg13 R.arg14 R.x0 R.x1 R.x2 R.x3
abbrev r_21 := kernelRun0_A.sl.r_21 (F := Ideal) R.c R.arg2 R.harg2 R.arg3 R.harg3 R.arg4 R.harg4 R.arg5 R.harg5 R.arg6 R.harg6 R.arg7 R.harg7 R.arg11 R.arg12 R.arg13 R.arg14 R.x0 R.x1 R.x2 R.x3 R.x4 R.x5

end Run

variable {S : Step} {R : Run} (H : Holds S R)
include H

/-- The normalised rows, as the up-projections load them. -/
theorem h_at (r : Fin 1024) (d : Fin 1024) : R.v30 (ix2 r d) = hn S r d := by
  simp (disch := decide) only [Run.v30, kernelRun0_A.sl.v30, kernelRun0_A.sl.HS0_1, View.readCov_unit_lit', View.readAt_eq_ld,
    Memref.IsWhole.read_unread]
  pointwise [k0_pay3]
  simp only [H.x0, H.x2, hn]

/-- The first store into the carried rows' buffer: the rows carried in. -/
theorem carry1 (r : Fin 16) (c : Fin 5632) : View.canon R.H9_1 (ix3 0 r c) = ext S ⟨r.val, by omega⟩ c := by
  simp (disch := decide) only [Run.H9_1, kernelRun0_A.sl.H9_1, View.canon_cons_unit_lit', View.readAt_eq_ld,
    Memref.IsWhole.read_unread]
  pointwise [k0_pay2]
  simp only [H.x1]

omit H in
/-- A scratch buffer filled for one tile of channels: sixteen carried rows over the rows projected onto the tile. -/
theorem buf {k : ℕ} (hk : k ≤ 1024) (col : Fin k → Fin 5632)
    (inbP : ∀ a, (![16, 0] : Fin 2 → ℕ) a + (![1024, k] : Fin 2 → ℕ) a ≤ S1040x1024.size a)
    (inbQ : ∀ a, (![0, 0] : Fin 2 → ℕ) a + (![16, k] : Fin 2 → ℕ) a ≤ S1040x1024.size a)
    (P : (⟨2, ![1024, k]⟩ : Shape).Idx → Elt Ideal .f32) (Q : (⟨2, ![16, k]⟩ : Shape).Idx → Elt Ideal .f32)
    (L : List (View.Piece (Elt Ideal) S1040x1024 .f32))
    (hP : ∀ (r : Fin 1024) (j : Fin k), P (ix2 r j) = up S r (col j))
    (hQ : ∀ (r : Fin 16) (j : Fin k), Q (ix2 r j) = ext S ⟨r.val, by omega⟩ (col j)) (r : Fin 1040) (j : Fin k) :
    View.canon ((⟨Rect.unit (s := S1040x1024) ![16, 0] ![1024, k] inbP, P⟩ : View.Piece (Elt Ideal) S1040x1024 .f32)
      :: (⟨Rect.unit (s := S1040x1024) ![0, 0] ![16, k] inbQ, Q⟩ : View.Piece (Elt Ideal) S1040x1024 .f32) :: L)
      (ix2 r ⟨j.val, by omega⟩) = ext S r (col j) := by
  by_cases h : r.val < 16
  · rw [Stores.miss2 inbP P _ r _ (by omega), Stores.hit2 inbQ Q L r _ ⟨r.val, h⟩ j (by simp) (by simp), hQ]
  · rw [Stores.hit2 inbP P _ r _ ⟨r.val - 16, by omega⟩ j (by simp; omega) (by simp), hP, ext, dif_neg h]

/-- The first buffer at the first tile: channels `0` to `1023`. -/
theorem buf_a1 (r : Fin 1040) (j : Fin 1024) :
    View.canon R.HS1_2 (ix2 r j) = ext S r ⟨j.val, by omega⟩ := by
  have hh := h_at H
  have hc := carry1 H
  simp (disch := decide) only [Run.HS1_2, kernelRun0_A.sl.HS1_2, View.readAt_eq_ld, Memref.IsWhole.read_unread]
  refine buf (by omega) (fun j => ⟨j.val, by omega⟩) _ _ _ _ _ (fun r j => ?_) (fun r j => ?_) r j
  · pointwise [k0_pay6]
    simp only [hh, H.x3, up]
  · pointwise [k0_pay5]
    rw [kernelRun0_A.sl.v25, Stores.load3 _ _ _ _ _ _ 0 r ⟨j.val, by omega⟩ (by simp) (by simp) (by simp)]
    exact hc _ _

/-- The second tile onward still holds the rows carried in. -/
theorem carry2 (r : Fin 16) (c : Fin 5632) (h : 1024 ≤ c.val) : View.canon R.H9_2 (ix3 0 r c) = ext S ⟨r.val, by omega⟩ c := by
  rw [Run.H9_2, kernelRun0_A.sl.H9_2, Stores.miss3 _ _ _ _ _ _ (by omega)]
  exact carry1 H r c

/-- The second buffer at the first tile: channels `2816` to `3839`. -/
theorem buf_b1 (r : Fin 1040) (j : Fin 1024) :
    View.canon R.HS2_2 (ix2 r ⟨j.val, by omega⟩) = ext S r ⟨2816 + j.val, by omega⟩ := by
  have hh := h_at H
  simp (disch := decide) only [Run.HS2_2, kernelRun0_A.sl.HS2_2, View.readAt_eq_ld, Memref.IsWhole.read_unread]
  refine buf (by omega) (fun j => ⟨2816 + j.val, by omega⟩) _ _ _ _ _ (fun r j => ?_) (fun r j => ?_) r j
  · pointwise [k0_pay9]
    simp only [hh, H.x3, up]
  · pointwise [k0_pay8]
    rw [kernelRun0_A.sl.v41, Stores.load3 _ _ _ _ _ _ 0 r ⟨2816 + j.val, by omega⟩ (by simp) (by simp) (by simp)]
    exact carry2 H _ _ (by simp; omega)

/-- So do the channels not yet stored after two stores. -/
theorem carry3 (r : Fin 16) (c : Fin 5632) (h : 1024 ≤ c.val ∧ (c.val < 2816 ∨ 3840 ≤ c.val)) : View.canon R.H9_3 (ix3 0 r c) = ext S ⟨r.val, by omega⟩ c := by
  rw [Run.H9_3, kernelRun0_A.sl.H9_3, Stores.miss3 _ _ _ _ _ _ (by omega)]
  exact carry2 H r c (by omega)

/-- The first buffer at the second tile: channels `1024` to `2047`. -/
theorem buf_a2 (r : Fin 1040) (j : Fin 1024) :
    View.canon R.HS1_4 (ix2 r ⟨j.val, by omega⟩) = ext S r ⟨1024 + j.val, by omega⟩ := by
  have hh := h_at H
  simp (disch := decide) only [Run.HS1_4, kernelRun0_A.sl.HS1_4, View.readAt_eq_ld, Memref.IsWhole.read_unread]
  refine buf (by omega) (fun j => ⟨1024 + j.val, by omega⟩) _ _ _ _ _ (fun r j => ?_) (fun r j => ?_) r j
  · pointwise [k0_pay19]
    simp only [hh, H.x3, up]
  · pointwise [k0_pay18, kernelRun0_A.sl.r_7, k0_pay17]
    rw [kernelRun0_A.sl.v154, Stores.load3 _ _ _ _ _ _ 0 r ⟨1024 + j.val, by omega⟩ (by simp) (by simp) (by simp)]
    exact carry3 H _ _ (by simp; omega)

/-- So do the channels not yet stored after three stores. -/
theorem carry4 (r : Fin 16) (c : Fin 5632) (h : 2048 ≤ c.val ∧ (c.val < 2816 ∨ 3840 ≤ c.val)) : View.canon R.H9_4 (ix3 0 r c) = ext S ⟨r.val, by omega⟩ c := by
  rw [Run.H9_4, kernelRun0_A.sl.H9_4, Stores.miss3 _ _ _ _ _ _ (by omega)]
  exact carry3 H r c (by omega)

/-- The second buffer at the second tile: channels `3840` to `4863`. -/
theorem buf_b2 (r : Fin 1040) (j : Fin 1024) :
    View.canon R.HS2_4 (ix2 r ⟨j.val, by omega⟩) = ext S r ⟨3840 + j.val, by omega⟩ := by
  have hh := h_at H
  simp (disch := decide) only [Run.HS2_4, kernelRun0_A.sl.HS2_4, View.readAt_eq_ld, Memref.IsWhole.read_unread]
  refine buf (by omega) (fun j => ⟨3840 + j.val, by omega⟩) _ _ _ _ _ (fun r j => ?_) (fun r j => ?_) r j
  · pointwise [k0_pay22]
    simp only [hh, H.x3, up]
  · pointwise [k0_pay21]
    rw [kernelRun0_A.sl.v170, Stores.load3 _ _ _ _ _ _ 0 r ⟨3840 + j.val, by omega⟩ (by simp) (by simp) (by simp)]
    exact carry4 H _ _ (by simp; omega)

/-- So do the channels not yet stored after four stores. -/
theorem carry5 (r : Fin 16) (c : Fin 5632) (h : 2048 ≤ c.val ∧ (c.val < 2816 ∨ 4864 ≤ c.val)) : View.canon R.H9_5 (ix3 0 r c) = ext S ⟨r.val, by omega⟩ c := by
  rw [Run.H9_5, kernelRun0_A.sl.H9_5, Stores.miss3 _ _ _ _ _ _ (by omega)]
  exact carry4 H r c (by omega)

/-- The first buffer at the third tile: channels `2048` to `2815`. -/
theorem buf_a3 (r : Fin 1040) (j : Fin 768) :
    View.canon R.HS1_6 (ix2 r ⟨j.val, by omega⟩) = ext S r ⟨2048 + j.val, by omega⟩ := by
  have hh := h_at H
  simp (disch := decide) only [Run.HS1_6, kernelRun0_A.sl.HS1_6, View.readAt_eq_ld, Memref.IsWhole.read_unread]
  refine buf (by omega) (fun j => ⟨2048 + j.val, by omega⟩) _ _ _ _ _ (fun r j => ?_) (fun r j => ?_) r j
  · pointwise [k0_pay31]
    simp only [hh, H.x3, up]
  · pointwise [k0_pay30]
    rw [kernelRun0_A.sl.v283, Stores.load3 _ _ _ _ _ _ 0 r ⟨2048 + j.val, by omega⟩ (by simp) (by simp) (by simp)]
    exact carry5 H _ _ (by simp; omega)

/-- So do the channels not yet stored after five stores. -/
theorem carry6 (r : Fin 16) (c : Fin 5632) (h : 4864 ≤ c.val) : View.canon R.H9_6 (ix3 0 r c) = ext S ⟨r.val, by omega⟩ c := by
  rw [Run.H9_6, kernelRun0_A.sl.H9_6, Stores.miss3 _ _ _ _ _ _ (by omega)]
  exact carry5 H r c (by omega)

/-- The second buffer at the third tile: channels `4864` to `5631`. -/
theorem buf_b3 (r : Fin 1040) (j : Fin 768) :
    View.canon R.HS2_6 (ix2 r ⟨j.val, by omega⟩) = ext S r ⟨4864 + j.val, by omega⟩ := by
  have hh := h_at H
  simp (disch := decide) only [Run.HS2_6, kernelRun0_A.sl.HS2_6, kernelRun0_A.sl.HS2_5, View.readAt_eq_ld, Memref.IsWhole.read_unread]
  refine buf (by omega) (fun j => ⟨4864 + j.val, by omega⟩) _ _ _ _ _ (fun r j => ?_) (fun r j => ?_) r j
  · simp only [kernelRun0_A.sl.r_15, View.readAt_eq_ld, Memref.IsWhole.read_unread]
    pointwise [k0_pay35, k0_pay34]
    simp only [hh, H.x3, up]
  · pointwise [k0_pay33]
    rw [kernelRun0_A.sl.v299, Stores.load3 _ _ _ _ _ _ 0 r ⟨4864 + j.val, by omega⟩ (by simp) (by simp) (by simp)]
    exact carry6 H _ _ (by simp)

omit H in
/-- Row `1024 + r` of the extended projection is carried row `r`. -/
theorem carry_of {a : ℕ} {r : Fin 16} (c : Fin 5632) (h : a ≤ c.val) (h1 : 1024 + r.val < 1040) (h2 : a + (c.val - a) < 5632) :
    ext S ⟨1024 + r.val, h1⟩ ⟨a + (c.val - a), h2⟩ = carry S r c := by
  have e : a + (c.val - a) = c.val := by omega
  simp only [carry, e, Nat.add_comm 1024]

/-- The carried rows at the end of the run: each tile's last sixteen rows, stored tile by tile. -/
theorem carry_at (inb : ∀ a, (![0, 0, 4864] : Fin 3 → ℕ) a + S1x16x768.size a ≤ S1x16x5632.size a) (r : Fin 16) (c : Fin 5632) :
    View.canon ((⟨Rect.unit (s := S1x16x5632) ![0, 0, 4864] S1x16x768.size inb, k0_pay36 R.v311⟩
      : View.Piece (Elt Ideal) S1x16x5632 .f32) :: R.H9_6) (ix3 0 r c) = carry S r c := by
  by_cases h6 : 4864 ≤ c.val
  · rw [Stores.hit3 _ _ _ _ _ _ 0 r ⟨c.val - 4864, by omega⟩ (by simp) (by simp) (by simp; omega)]
    pointwise [k0_pay36]
    rw [Run.v311, kernelRun0_A.sl.v311, Stores.load2 _ _ _ _ _ ⟨1024 + r.val, by omega⟩ ⟨c.val - 4864, by omega⟩ (by simp) (by simp)]
    exact (buf_b3 H _ ⟨c.val - 4864, by omega⟩).trans (carry_of c h6 _ _)
  rw [Stores.miss3 _ _ _ _ _ _ (by omega), Run.H9_6, kernelRun0_A.sl.H9_6]
  by_cases h5 : 2048 ≤ c.val ∧ c.val < 2816
  · rw [Stores.hit3 _ _ _ _ _ _ 0 r ⟨c.val - 2048, by omega⟩ (by simp) (by simp) (by simp; omega)]
    pointwise [k0_pay32]
    rw [kernelRun0_A.sl.v295, Stores.load2 _ _ _ _ _ ⟨1024 + r.val, by omega⟩ ⟨c.val - 2048, by omega⟩ (by simp) (by simp)]
    exact (buf_a3 H _ ⟨c.val - 2048, by omega⟩).trans (carry_of c h5.1 _ _)
  rw [Stores.miss3 _ _ _ _ _ _ (by omega), kernelRun0_A.sl.H9_5]
  by_cases h4 : 3840 ≤ c.val
  · rw [Stores.hit3 _ _ _ _ _ _ 0 r ⟨c.val - 3840, by omega⟩ (by simp) (by simp) (by simp; omega)]
    pointwise [k0_pay23]
    rw [kernelRun0_A.sl.v182, Stores.load2 _ _ _ _ _ ⟨1024 + r.val, by omega⟩ ⟨c.val - 3840, by omega⟩ (by simp) (by simp)]
    exact (buf_b2 H _ ⟨c.val - 3840, by omega⟩).trans (carry_of c h4 _ _)
  rw [Stores.miss3 _ _ _ _ _ _ (by omega), kernelRun0_A.sl.H9_4]
  by_cases h3 : 1024 ≤ c.val ∧ c.val < 2048
  · rw [Stores.hit3 _ _ _ _ _ _ 0 r ⟨c.val - 1024, by omega⟩ (by simp) (by simp) (by simp; omega)]
    pointwise [k0_pay20]
    rw [kernelRun0_A.sl.v166, Stores.load2 _ _ _ _ _ ⟨1024 + r.val, by omega⟩ ⟨c.val - 1024, by omega⟩ (by simp) (by simp)]
    exact (buf_a2 H _ ⟨c.val - 1024, by omega⟩).trans (carry_of c h3.1 _ _)
  rw [Stores.miss3 _ _ _ _ _ _ (by omega), kernelRun0_A.sl.H9_3]
  by_cases h2 : 2816 ≤ c.val
  · rw [Stores.hit3 _ _ _ _ _ _ 0 r ⟨c.val - 2816, by omega⟩ (by simp) (by simp) (by simp; omega)]
    pointwise [k0_pay10]
    rw [kernelRun0_A.sl.v53, Stores.load2 _ _ _ _ _ ⟨1024 + r.val, by omega⟩ ⟨c.val - 2816, by omega⟩ (by simp) (by simp)]
    exact (buf_b1 H _ ⟨c.val - 2816, by omega⟩).trans (carry_of c h2 _ _)
  rw [Stores.miss3 _ _ _ _ _ _ (by omega), kernelRun0_A.sl.H9_2]
  rw [Stores.hit3 _ _ _ _ _ _ 0 r ⟨c.val, by omega⟩ (by simp) (by simp) (by simp)]
  pointwise [k0_pay7]
  rw [kernelRun0_A.sl.v37, Stores.load2 _ _ _ _ _ ⟨1024 + r.val, by omega⟩ ⟨c.val, by omega⟩ (by simp) (by simp)]
  refine (buf_a1 H _ ⟨c.val, by omega⟩).trans ?_
  rw [carry]; congr 1 <;> apply Fin.ext <;> simp <;> omega

omit H in
/-- A load of whole rows of a scratch buffer filled for one tile of channels. -/
theorem rows {k n : ℕ} (hk : k ≤ 1024) (v : View sig .tc .vmem S1040x1024 .f32) (L : List (View.Piece (Elt Ideal) S1040x1024 .f32))
    (col : Fin k → Fin 5632) (hL : ∀ (r : Fin 1040) (j : Fin k), View.canon L (ix2 r ⟨j.val, by omega⟩) = ext S r (col j))
    (o : ℕ) (inb : ∀ a, (![o, 0] : Fin 2 → ℕ) a + (![n, k] : Fin 2 → ℕ) a ≤ S1040x1024.size a) (r : Fin n) (j : Fin k) :
    v.readCov L (Rect.unit (s := S1040x1024) ![o, 0] ![n, k] inb).toLoadRect (ix2 r j)
      = ext S ⟨o + r.val, by have h : o + n ≤ 1040 := inb 0; omega⟩ (col j) := by
  have h : o + n ≤ 1040 := inb 0
  rw [Stores.load2 v L inb r j ⟨o + r.val, by omega⟩ ⟨j.val, by omega⟩ rfl (by simp), hL]

/-- The activation of the first half of the rows at the first tile. -/
theorem act_lo1 (r : Fin 512) (j : Fin 1024) : R.r_4 (ix2 r j) = act S ⟨r.val, by omega⟩ ⟨j.val, by omega⟩ := by
  have ha := rows (S := S) (n := 512) (by omega) R.arg13.view _ (fun j : Fin 1024 => ⟨j.val, by omega⟩) (buf_a1 H)
  have hb := rows (S := S) (n := 512) (by omega) R.arg14.view _ (fun j : Fin 1024 => ⟨2816 + j.val, by omega⟩) (buf_b1 H)
  simp only [Run.r_4, kernelRun0_A.sl.r_4, kernelRun0_A.sl.r_1, kernelRun0_A.sl.r_2, kernelRun0_A.sl.r_3, View.readAt_eq_ld,
    Memref.IsWhole.read_unread]
  pointwise [k0_pay14, k0_pay11, k0_pay12, k0_pay13]
  simp only [kernelRun0_A.sl.v61, kernelRun0_A.sl.v68, kernelRun0_A.sl.v74, kernelRun0_A.sl.v82, kernelRun0_A.sl.v89, kernelRun0_A.sl.v95, ha, hb, H.x4, H.x5, act, conv]
  have e : 2816 + j.val = j.val + 2816 := by omega
  simp only [Nat.zero_add, Nat.add_comm 8, Nat.add_comm 16, e]

/-- The activation of the first half of the rows at the second tile. -/
theorem act_lo2 (r : Fin 512) (j : Fin 1024) : R.r_11 (ix2 r j) = act S ⟨r.val, by omega⟩ ⟨1024 + j.val, by omega⟩ := by
  have ha := rows (S := S) (n := 512) (by omega) R.arg13.view _ (fun j : Fin 1024 => ⟨1024 + j.val, by omega⟩) (buf_a2 H)
  have hb := rows (S := S) (n := 512) (by omega) R.arg14.view _ (fun j : Fin 1024 => ⟨3840 + j.val, by omega⟩) (buf_b2 H)
  simp only [Run.r_11, kernelRun0_A.sl.r_11, kernelRun0_A.sl.r_8, kernelRun0_A.sl.r_9, kernelRun0_A.sl.r_10, View.readAt_eq_ld,
    Memref.IsWhole.read_unread]
  pointwise [k0_pay27, k0_pay24, k0_pay25, k0_pay26]
  simp only [kernelRun0_A.sl.v190, kernelRun0_A.sl.v197, kernelRun0_A.sl.v203, kernelRun0_A.sl.v211, kernelRun0_A.sl.v218, kernelRun0_A.sl.v224, ha, hb, H.x4, H.x5, act, conv]
  have e : 3840 + j.val = 1024 + j.val + 2816 := by omega
  simp only [Nat.zero_add, Nat.add_comm 8, Nat.add_comm 16, e]

/-- The activation of the first half of the rows at the third tile. -/
theorem act_lo3 (r : Fin 512) (j : Fin 768) : R.r_18 (ix2 r j) = act S ⟨r.val, by omega⟩ ⟨2048 + j.val, by omega⟩ := by
  have ha := rows (S := S) (n := 512) (by omega) R.arg13.view _ (fun j : Fin 768 => ⟨2048 + j.val, by omega⟩) (buf_a3 H)
  have hb := rows (S := S) (n := 512) (by omega) R.arg14.view _ (fun j : Fin 768 => ⟨4864 + j.val, by omega⟩) (buf_b3 H)
  simp only [Run.r_18, kernelRun0_A.sl.r_18, kernelRun0_A.sl.r_16, kernelRun0_A.sl.r_17, View.readAt_eq_ld,
    Memref.IsWhole.read_unread]
  pointwise [k0_pay39, k0_pay37, k0_pay38]
  simp only [kernelRun0_A.sl.v319, kernelRun0_A.sl.v326, kernelRun0_A.sl.v332, kernelRun0_A.sl.v340, kernelRun0_A.sl.v347, kernelRun0_A.sl.v353, ha, hb, H.x4, H.x5, act, conv]
  have e : 4864 + j.val = 2048 + j.val + 2816 := by omega
  simp only [Nat.zero_add, Nat.add_comm 8, Nat.add_comm 16, e]

/-- The input plus the first tile's share of the output product. -/
theorem acc1 (r : Fin 1024) (d : Fin 1024) :
    R.r_6 (ix2 r d) = S.x r d + ∑ j : Fin 1024, act S r ⟨j.val, by omega⟩ * S.dn ⟨j.val, by omega⟩ d := by
  have ha := rows (S := S) (n := 512) (by omega) R.arg13.view _ (fun j : Fin 1024 => ⟨j.val, by omega⟩) (buf_a1 H)
  have hb := rows (S := S) (n := 512) (by omega) R.arg14.view _ (fun j : Fin 1024 => ⟨2816 + j.val, by omega⟩) (buf_b1 H)
  have hl := act_lo1 H
  simp only [Run.r_4] at hl
  simp only [Run.r_6, kernelRun0_A.sl.r_6, kernelRun0_A.sl.r_5, kernelRun0_A.sl.r, View.readAt_eq_ld, Memref.IsWhole.read_unread]
  pointwise [k0_pay16, k0_pay15, k0_pay4]
  rw [H.x0]
  refine congrArg _ (Finset.sum_congr rfl fun j _ => ?_)
  rw [H.x6]
  refine congrArg (· * _) ?_
  split
  · rw [hl]
  · have e0 : 512 + (r.val - 512) = r.val := by omega
    have e8 : 520 + (r.val - 512) = r.val + 8 := by omega
    have e16 : 528 + (r.val - 512) = r.val + 16 := by omega
    have e : 2816 + j.val = j.val + 2816 := by omega
    simp only [kernelRun0_A.sl.v107, kernelRun0_A.sl.v114, kernelRun0_A.sl.v120, kernelRun0_A.sl.v128, kernelRun0_A.sl.v135, kernelRun0_A.sl.v141, ha, hb, H.x4, H.x5, act, conv, e0, e8, e16, e]

/-- The sum after the second tile. -/
theorem acc2 (r : Fin 1024) (d : Fin 1024) :
    R.r_14 (ix2 r d) = S.x r d + ∑ j : Fin 1024, act S r ⟨j.val, by omega⟩ * S.dn ⟨j.val, by omega⟩ d
      + ∑ j : Fin 1024, act S r ⟨1024 + j.val, by omega⟩ * S.dn ⟨1024 + j.val, by omega⟩ d := by
  have h1 := acc1 H
  simp only [Run.r_6] at h1
  have ha := rows (S := S) (n := 512) (by omega) R.arg13.view _ (fun j : Fin 1024 => ⟨1024 + j.val, by omega⟩) (buf_a2 H)
  have hb := rows (S := S) (n := 512) (by omega) R.arg14.view _ (fun j : Fin 1024 => ⟨3840 + j.val, by omega⟩) (buf_b2 H)
  have hl := act_lo2 H
  simp only [Run.r_11] at hl
  simp only [Run.r_14, kernelRun0_A.sl.r_14, kernelRun0_A.sl.r_12, kernelRun0_A.sl.r_13, View.readAt_eq_ld, Memref.IsWhole.read_unread]
  pointwise [k0_pay29, k0_pay28]
  rw [h1]
  refine congrArg _ (Finset.sum_congr rfl fun j _ => ?_)
  rw [H.x6]
  refine congrArg (· * _) ?_
  split
  · rw [hl]
  · have e0 : 512 + (r.val - 512) = r.val := by omega
    have e8 : 520 + (r.val - 512) = r.val + 8 := by omega
    have e16 : 528 + (r.val - 512) = r.val + 16 := by omega
    have e : 3840 + j.val = 1024 + j.val + 2816 := by omega
    simp only [kernelRun0_A.sl.v236, kernelRun0_A.sl.v243, kernelRun0_A.sl.v249, kernelRun0_A.sl.v257, kernelRun0_A.sl.v264, kernelRun0_A.sl.v270, ha, hb, H.x4, H.x5, act, conv, e0, e8, e16, e]

/-- The activation at the third tile. -/
theorem act3 (r : Fin 1024) (j : Fin 768) : R.r_21 (ix2 r j) = act S r ⟨2048 + j.val, by omega⟩ := by
  have ha := rows (S := S) (n := 512) (by omega) R.arg13.view _ (fun j : Fin 768 => ⟨2048 + j.val, by omega⟩) (buf_a3 H)
  have hb := rows (S := S) (n := 512) (by omega) R.arg14.view _ (fun j : Fin 768 => ⟨4864 + j.val, by omega⟩) (buf_b3 H)
  have hl := act_lo3 H
  simp only [Run.r_18] at hl
  simp only [Run.r_21, kernelRun0_A.sl.r_21, kernelRun0_A.sl.r_19, kernelRun0_A.sl.r_20, View.readAt_eq_ld, Memref.IsWhole.read_unread]
  pointwise [k0_pay42, k0_pay41, k0_pay40]
  split
  · rw [hl]
  · have e0 : 512 + (r.val - 512) = r.val := by omega
    have e8 : 520 + (r.val - 512) = r.val + 8 := by omega
    have e16 : 528 + (r.val - 512) = r.val + 16 := by omega
    have e : 4864 + j.val = 2048 + j.val + 2816 := by omega
    simp only [kernelRun0_A.sl.v365, kernelRun0_A.sl.v372, kernelRun0_A.sl.v378, kernelRun0_A.sl.v386, kernelRun0_A.sl.v393, kernelRun0_A.sl.v399, ha, hb, H.x4, H.x5, act, conv, e0, e8, e16, e]

omit H in
/-- A sum over the channels is the sum of the three tiles' sums. -/
theorem sum_tiles (f : Fin 2816 → EReal) :
    ∑ c, f c = ∑ j : Fin 1024, f ⟨j.val, by omega⟩ + ∑ j : Fin 1024, f ⟨1024 + j.val, by omega⟩
      + ∑ j : Fin 768, f ⟨2048 + j.val, by omega⟩ := by
  refine (Fin.sum_univ_add (a := 2048) (b := 768) f).trans (congrArg (· + _) ?_)
  exact Fin.sum_univ_add (a := 1024) (b := 1024) fun j => f ⟨j.val, by omega⟩

/-- The stored block is the step's rows of the first result. -/
theorem out_at (r : Fin 1024) (d : Fin 1024) :
    k0_pay1 R.r_14 R.r_21 (View.readAt (Elt Ideal) R.arg8.view (Rect.unit (s := S1x2816x1024) ![0, 2048, 0] ![1, 768, 1024] inb_S1x2816x1024_S1x768x1024_0_2048_0).toLoadRect (R.harg8.unread R.x6)) (ix3 0 r d) = out S r d := by
  have h2 := acc2 H
  have h3 := act3 H
  simp only [View.readAt_eq_ld, Memref.IsWhole.read_unread]
  pointwise [k0_pay1]
  simp only [h2, h3, H.x6, out, sum_tiles, ← add_assoc]

end Cert.PromptFfnIdeal.First
-- ==== Proof.PromptFfnLater.lean ====
/- The first layer's run at a later step of a group of the prompt batch (its carried rows are those the step before left),
   read stage by stage: the normalised rows, the rows its two scratch buffers hold for each tile of channels, the gated activations, and the rows it carries on.  Every stage is
   the corresponding function of `Cert.PromptSpec.Step`. -/
module

public import proofs.«01_k».proof.Proof.Gen.PromptFfnIdeal.Frame
public import proofs.«01_k».proof.Proof.PromptSpec
public import proofs.«01_k».proof.Proof.Stores

@[expose] public section
set_option maxRecDepth 16384
noncomputable section
open Idealize.ShloMosaic Idealize.ShloMosaic.TcCoe Idealize.SL.Sem

namespace Cert.PromptFfnIdeal.Later
open Cert.PromptFfnIdeal Cert.PromptFfnIdeal.Gen
open Cert.PromptSpec (Step)
open Cert.PromptSpec.Step

/-- One run of the body: the buffers it is handed and the input blocks they hold. -/
structure Run where
  c : Dev nD
  arg2 : Memref sig .tc .vmem S1x1024x1024 .f32
  harg2 : arg2.IsWhole
  arg4 : Memref sig .tc .vmem S1x1x1024 .f32
  harg4 : arg4.IsWhole
  arg5 : Memref sig .tc .vmem S1x1024x5632 .bf16
  harg5 : arg5.IsWhole
  arg6 : Memref sig .tc .vmem S1x3x5632 .f32
  harg6 : arg6.IsWhole
  arg7 : Memref sig .tc .vmem S1x1x5632 .f32
  harg7 : arg7.IsWhole
  arg8 : Memref sig .tc .vmem S1x2816x1024 .bf16
  harg8 : arg8.IsWhole
  arg11 : Memref sig .tc .vmem S1x16x5632 .f32
  harg11 : arg11.IsWhole
  arg12 : Memref sig .tc .vmem S1024x1024 .bf16
  arg13 : Memref sig .tc .vmem S1040x1024 .f32
  arg14 : Memref sig .tc .vmem S1040x1024 .f32
  x0 : Vec Ideal S1x1024x1024 .f32
  x2 : Vec Ideal S1x1x1024 .f32
  x3 : Vec Ideal S1x1024x5632 .bf16
  x4 : Vec Ideal S1x3x5632 .f32
  x5 : Vec Ideal S1x1x5632 .f32
  x6 : Vec Ideal S1x2816x1024 .bf16
  x9 : Vec Ideal S1x16x5632 .f32

/-- The run's input blocks are the operands of the step `S`. -/
structure Holds (S : Step) (R : Run) : Prop where
  x0 : ∀ r d, R.x0 (ix3 0 r d) = S.x r d
  x9 : ∀ (r : Fin 16) (c : Fin 5632), R.x9 (ix3 0 r c) = ext S ⟨r.val, by omega⟩ c
  x2 : ∀ d, R.x2 (ix3 0 0 d) = S.nw d
  x3 : ∀ d c, R.x3 (ix3 0 d c) = S.u d c
  x4 : ∀ k c, R.x4 (ix3 0 k c) = S.cw k c
  x5 : ∀ c, R.x5 (ix3 0 0 c) = S.cb c
  x6 : ∀ c e, R.x6 (ix3 0 c e) = S.dn c e

namespace Run
variable (R : Run)

abbrev v30 := kernelRun0_B.sl.v30 (F := Ideal) R.c R.arg2 R.harg2 R.arg4 R.harg4 R.arg12 R.x0 R.x2
abbrev HS1_2 := kernelRun0_B.sl.HS1_2 (F := Ideal) R.c R.arg2 R.harg2 R.arg4 R.harg4 R.arg5 R.harg5 R.arg11 R.harg11 R.arg12 R.x0 R.x2 R.x3 R.x9
abbrev HS1_4 := kernelRun0_B.sl.HS1_4 (F := Ideal) R.c R.arg2 R.harg2 R.arg4 R.harg4 R.arg5 R.harg5 R.arg11 R.harg11 R.arg12 R.x0 R.x2 R.x3 R.x9
abbrev HS1_6 := kernelRun0_B.sl.HS1_6 (F := Ideal) R.c R.arg2 R.harg2 R.arg4 R.harg4 R.arg5 R.harg5 R.arg11 R.harg11 R.arg12 R.x0 R.x2 R.x3 R.x9
abbrev HS2_2 := kernelRun0_B.sl.HS2_2 (F := Ideal) R.c R.arg2 R.harg2 R.arg4 R.harg4 R.arg5 R.harg5 R.arg11 R.harg11 R.arg12 R.x0 R.x2 R.x3 R.x9
abbrev HS2_4 := kernelRun0_B.sl.HS2_4 (F := Ideal) R.c R.arg2 R.harg2 R.arg4 R.harg4 R.arg5 R.harg5 R.arg11 R.harg11 R.arg12 R.x0 R.x2 R.x3 R.x9
abbrev HS2_5 := kernelRun0_B.sl.HS2_5 (F := Ideal) R.c R.arg2 R.harg2 R.arg4 R.harg4 R.arg5 R.harg5 R.arg11 R.harg11 R.arg12 R.x0 R.x2 R.x3 R.x9
abbrev HS2_6 := kernelRun0_B.sl.HS2_6 (F := Ideal) R.c R.arg2 R.harg2 R.arg4 R.harg4 R.arg5 R.harg5 R.arg11 R.harg11 R.arg12 R.x0 R.x2 R.x3 R.x9
abbrev r := kernelRun0_B.sl.r (F := Ideal) R.c R.arg2 R.harg2 R.x0
abbrev r_4 := kernelRun0_B.sl.r_4 (F := Ideal) R.c R.arg2 R.harg2 R.arg4 R.harg4 R.arg5 R.harg5 R.arg6 R.harg6 R.arg7 R.harg7 R.arg11 R.harg11 R.arg12 R.arg13 R.arg14 R.x0 R.x2 R.x3 R.x4 R.x5 R.x9
abbrev r_5 := kernelRun0_B.sl.r_5 (F := Ideal) R.c R.arg2 R.harg2 R.arg4 R.harg4 R.arg5 R.harg5 R.arg6 R.harg6 R.arg7 R.harg7 R.arg11 R.harg11 R.arg12 R.arg13 R.x0 R.x2 R.x3 R.x4 R.x5 R.x9
abbrev r_6 := kernelRun0_B.sl.r_6 (F := Ideal) R.c R.arg2 R.harg2 R.arg4 R.harg4 R.arg5 R.harg5 R.arg6 R.harg6 R.arg7 R.harg7 R.arg8 R.harg8 R.arg11 R.harg11 R.arg12 R.arg13 R.arg14 R.x0 R.x2 R.x3 R.x4 R.x5 R.x6 R.x9
abbrev r_11 := kernelRun0_B.sl.r_11 (F := Ideal) R.c R.arg2 R.harg2 R.arg4 R.harg4 R.arg5 R.harg5 R.arg6 R.harg6 R.arg7 R.harg7 R.arg11 R.harg11 R.arg12 R.arg13 R.arg14 R.x0 R.x2 R.x3 R.x4 R.x5 R.x9
abbrev r_12 := kernelRun0_B.sl.r_12 (F := Ideal) R.c R.arg2 R.harg2 R.arg4 R.harg4 R.arg5 R.harg5 R.arg6 R.harg6 R.arg7 R.harg7 R.arg11 R.harg11 R.arg12 R.arg13 R.x0 R.x2 R.x3 R.x4 R.x5 R.x9
abbrev r_14 := kernelRun0_B.sl.r_14 (F := Ideal) R.c R.arg2 R.harg2 R.arg4 R.harg4 R.arg5 R.harg5 R.arg6 R.harg6 R.arg7 R.harg7 R.arg8 R.harg8 R.arg11 R.harg11 R.arg12 R.arg13 R.arg14 R.x0 R.x2 R.x3 R.x4 R.x5 R.x6 R.x9
abbrev r_15 := kernelRun0_B.sl.r_15 (F := Ideal) R.c R.arg2 R.harg2 R.arg4 R.harg4 R.arg5 R.harg5 R.arg12 R.x0 R.x2 R.x3
abbrev r_18 := kernelRun0_B.sl.r_18 (F := Ideal) R.c R.arg2 R.harg2 R.arg4 R.harg4 R.arg5 R.harg5 R.arg6 R.harg6 R.arg7 R.harg7 R.arg11 R.harg11 R.arg12 R.arg13 R.arg14 R.x0 R.x2 R.x3 R.x4 R.x5 R.x9
abbrev r_19 := kernelRun0_B.sl.r_19 (F := Ideal) R.c R.arg2 R.harg2 R.arg4 R.harg4 R.arg5 R.harg5 R.arg6 R.harg6 R.arg7 R.harg7 R.arg11 R.harg11 R.arg12 R.arg13 R.x0 R.x2 R.x3 R.x4 R.x5 R.x9
abbrev v311 := kernelRun0_B.sl.v311 (F := Ideal) R.c R.arg2 R.harg2 R.arg4 R.harg4 R.arg5 R.harg5 R.arg11 R.harg11 R.arg12 R.arg14 R.x0 R.x2 R.x3 R.x9
abbrev r_21 := kernelRun0_B.sl.r_21 (F := Ideal) R.c R.arg2 R.harg2 R.arg4 R.harg4 R.arg5 R.harg5 R.arg6 R.harg6 R.arg7 R.harg7 R.arg11 R.harg11 R.arg12 R.arg13 R.arg14 R.x0 R.x2 R.x3 R.x4 R.x5 R.x9

end Run

variable {S : Step} {R : Run} (H : Holds S R)
include H

/-- The normalised rows, as the up-projections load them. -/
theorem h_at (r : Fin 1024) (d : Fin 1024) : R.v30 (ix2 r d) = hn S r d := by
  simp (disch := decide) only [Run.v30, kernelRun0_B.sl.v30, kernelRun0_B.sl.HS0_1, View.readCov_unit_lit', View.readAt_eq_ld,
    Memref.IsWhole.read_unread]
  pointwise [k0_pay3]
  simp only [H.x0, H.x2, hn]

omit H in
/-- A scratch buffer filled for one tile of channels: sixteen carried rows over the rows projected onto the tile. -/
theorem buf {k : ℕ} (hk : k ≤ 1024) (col : Fin k → Fin 5632)
    (inbP : ∀ a, (![16, 0] : Fin 2 → ℕ) a + (![1024, k] : Fin 2 → ℕ) a ≤ S1040x1024.size a)
    (inbQ : ∀ a, (![0, 0] : Fin 2 → ℕ) a + (![16, k] : Fin 2 → ℕ) a ≤ S1040x1024.size a)
    (P : (⟨2, ![1024, k]⟩ : Shape).Idx → Elt Ideal .f32) (Q : (⟨2, ![16, k]⟩ : Shape).Idx → Elt Ideal .f32)
    (L : List (View.Piece (Elt Ideal) S1040x1024 .f32))
    (hP : ∀ (r : Fin 1024) (j : Fin k), P (ix2 r j) = up S r (col j))
    (hQ : ∀ (r : Fin 16) (j : Fin k), Q (ix2 r j) = ext S ⟨r.val, by omega⟩ (col j)) (r : Fin 1040) (j : Fin k) :
    View.canon ((⟨Rect.unit (s := S1040x1024) ![16, 0] ![1024, k] inbP, P⟩ : View.Piece (Elt Ideal) S1040x1024 .f32)
      :: (⟨Rect.unit (s := S1040x1024) ![0, 0] ![16, k] inbQ, Q⟩ : View.Piece (Elt Ideal) S1040x1024 .f32) :: L)
      (ix2 r ⟨j.val, by omega⟩) = ext S r (col j) := by
  by_cases h : r.val < 16
  · rw [Stores.miss2 inbP P _ r _ (by omega), Stores.hit2 inbQ Q L r _ ⟨r.val, h⟩ j (by simp) (by simp), hQ]
  · rw [Stores.hit2 inbP P _ r _ ⟨r.val - 16, by omega⟩ j (by simp; omega) (by simp), hP, ext, dif_neg h]

/-- The first buffer at the first tile: channels `0` to `1023`. -/
theorem buf_a1 (r : Fin 1040) (j : Fin 1024) :
    View.canon R.HS1_2 (ix2 r j) = ext S r ⟨j.val, by omega⟩ := by
  have hh := h_at H
  simp (disch := decide) only [Run.HS1_2, kernelRun0_B.sl.HS1_2, View.readAt_eq_ld, Memref.IsWhole.read_unread]
  refine buf (by omega) (fun j => ⟨j.val, by omega⟩) _ _ _ _ _ (fun r j => ?_) (fun r j => ?_) r j
  · pointwise [k0_pay6]
    simp only [hh, H.x3, up]
  · pointwise [k0_pay5]
    exact H.x9 _ _

/-- The second buffer at the first tile: channels `2816` to `3839`. -/
theorem buf_b1 (r : Fin 1040) (j : Fin 1024) :
    View.canon R.HS2_2 (ix2 r ⟨j.val, by omega⟩) = ext S r ⟨2816 + j.val, by omega⟩ := by
  have hh := h_at H
  simp (disch := decide) only [Run.HS2_2, kernelRun0_B.sl.HS2_2, View.readAt_eq_ld, Memref.IsWhole.read_unread]
  refine buf (by omega) (fun j => ⟨2816 + j.val, by omega⟩) _ _ _ _ _ (fun r j => ?_) (fun r j => ?_) r j
  · pointwise [k0_pay9]
    simp only [hh, H.x3, up]
  · simp only [kernelRun0_B.sl.v41, View.readAt_eq_ld, Memref.IsWhole.read_unread]
    pointwise [k0_pay8]
    exact H.x9 _ _

/-- The first buffer at the second tile: channels `1024` to `2047`. -/
theorem buf_a2 (r : Fin 1040) (j : Fin 1024) :
    View.canon R.HS1_4 (ix2 r ⟨j.val, by omega⟩) = ext S r ⟨1024 + j.val, by omega⟩ := by
  have hh := h_at H
  simp (disch := decide) only [Run.HS1_4, kernelRun0_B.sl.HS1_4, View.readAt_eq_ld, Memref.IsWhole.read_unread]
  refine buf (by omega) (fun j => ⟨1024 + j.val, by omega⟩) _ _ _ _ _ (fun r j => ?_) (fun r j => ?_) r j
  · pointwise [k0_pay19]
    simp only [hh, H.x3, up]
  · simp only [kernelRun0_B.sl.r_7, kernelRun0_B.sl.v154, View.readAt_eq_ld, Memref.IsWhole.read_unread]
    pointwise [k0_pay18, k0_pay17]
    exact H.x9 _ _

/-- The second buffer at the second tile: channels `3840` to `4863`. -/
theorem buf_b2 (r : Fin 1040) (j : Fin 1024) :
    View.canon R.HS2_4 (ix2 r ⟨j.val, by omega⟩) = ext S r ⟨3840 + j.val, by omega⟩ := by
  have hh := h_at H
  simp (disch := decide) only [Run.HS2_4, kernelRun0_B.sl.HS2_4, View.readAt_eq_ld, Memref.IsWhole.read_unread]
  refine buf (by omega) (fun j => ⟨3840 + j.val, by omega⟩) _ _ _ _ _ (fun r j => ?_) (fun r j => ?_) r j
  · pointwise [k0_pay22]
    simp only [hh, H.x3, up]
  · simp only [kernelRun0_B.sl.v170, View.readAt_eq_ld, Memref.IsWhole.read_unread]
    pointwise [k0_pay21]
    exact H.x9 _ _

/-- The first buffer at the third tile: channels `2048` to `2815`. -/
theorem buf_a3 (r : Fin 1040) (j : Fin 768) :
    View.canon R.HS1_6 (ix2 r ⟨j.val, by omega⟩) = ext S r ⟨2048 + j.val, by omega⟩ := by
  have hh := h_at H
  simp (disch := decide) only [Run.HS1_6, kernelRun0_B.sl.HS1_6, View.readAt_eq_ld, Memref.IsWhole.read_unread]
  refine buf (by omega) (fun j => ⟨2048 + j.val, by omega⟩) _ _ _ _ _ (fun r j => ?_) (fun r j => ?_) r j
  · pointwise [k0_pay31]
    simp only [hh, H.x3, up]
  · simp only [kernelRun0_B.sl.v283, View.readAt_eq_ld, Memref.IsWhole.read_unread]
    pointwise [k0_pay30]
    exact H.x9 _ _

/-- The second buffer at the third tile: channels `4864` to `5631`. -/
theorem buf_b3 (r : Fin 1040) (j : Fin 768) :
    View.canon R.HS2_6 (ix2 r ⟨j.val, by omega⟩) = ext S r ⟨4864 + j.val, by omega⟩ := by
  have hh := h_at H
  simp (disch := decide) only [Run.HS2_6, kernelRun0_B.sl.HS2_6, kernelRun0_B.sl.HS2_5, View.readAt_eq_ld, Memref.IsWhole.read_unread]
  refine buf (by omega) (fun j => ⟨4864 + j.val, by omega⟩) _ _ _ _ _ (fun r j => ?_) (fun r j => ?_) r j
  · simp only [kernelRun0_B.sl.r_15, View.readAt_eq_ld, Memref.IsWhole.read_unread]
    pointwise [k0_pay35, k0_pay34]
    simp only [hh, H.x3, up]
  · simp only [kernelRun0_B.sl.v299, View.readAt_eq_ld, Memref.IsWhole.read_unread]
    pointwise [k0_pay33]
    exact H.x9 _ _

omit H in
/-- Row `1024 + r` of the extended projection is carried row `r`. -/
theorem carry_of {a : ℕ} {r : Fin 16} (c : Fin 5632) (h : a ≤ c.val) (h1 : 1024 + r.val < 1040) (h2 : a + (c.val - a) < 5632) :
    ext S ⟨1024 + r.val, h1⟩ ⟨a + (c.val - a), h2⟩ = carry S r c := by
  have e : a + (c.val - a) = c.val := by omega
  simp only [carry, e, Nat.add_comm 1024]

/-- The carried rows at the end of the run: each tile's last sixteen rows, stored tile by tile. -/
theorem carry_at (r : Fin 16) (c : Fin 5632) :
    View.canon ([
      ⟨Rect.unit (s := S1x16x5632) ![0, 0, 4864] S1x16x768.size inb_S1x16x5632_S1x16x768_0_0_4864, k0_pay36 (F := Ideal) (kernelRun0_B.sl.v311 (F := Ideal) R.c R.arg2 R.harg2 R.arg4 R.harg4 R.arg5 R.harg5 R.arg11 R.harg11 R.arg12 R.arg14 R.x0 R.x2 R.x3 R.x9)⟩,
      ⟨Rect.unit (s := S1x16x5632) ![0, 0, 2048] S1x16x768.size inb_S1x16x5632_S1x16x768_0_0_2048, k0_pay32 (F := Ideal) (kernelRun0_B.sl.v295 (F := Ideal) R.c R.arg2 R.harg2 R.arg4 R.harg4 R.arg5 R.harg5 R.arg11 R.harg11 R.arg12 R.arg13 R.x0 R.x2 R.x3 R.x9)⟩,
      ⟨Rect.unit (s := S1x16x5632) ![0, 0, 3840] S1x16x1024.size inb_S1x16x5632_S1x16x1024_0_0_3840, k0_pay23 (F := Ideal) (kernelRun0_B.sl.v182 (F := Ideal) R.c R.arg2 R.harg2 R.arg4 R.harg4 R.arg5 R.harg5 R.arg11 R.harg11 R.arg12 R.arg14 R.x0 R.x2 R.x3 R.x9)⟩,
      ⟨Rect.unit (s := S1x16x5632) ![0, 0, 1024] S1x16x1024.size inb_S1x16x5632_S1x16x1024_0_0_1024, k0_pay20 (F := Ideal) (kernelRun0_B.sl.v166 (F := Ideal) R.c R.arg2 R.harg2 R.arg4 R.harg4 R.arg5 R.harg5 R.arg11 R.harg11 R.arg12 R.arg13 R.x0 R.x2 R.x3 R.x9)⟩,
      ⟨Rect.unit (s := S1x16x5632) ![0, 0, 2816] S1x16x1024.size inb_S1x16x5632_S1x16x1024_0_0_2816, k0_pay10 (F := Ideal) (kernelRun0_B.sl.v53 (F := Ideal) R.c R.arg2 R.harg2 R.arg4 R.harg4 R.arg5 R.harg5 R.arg11 R.harg11 R.arg12 R.arg14 R.x0 R.x2 R.x3 R.x9)⟩,
      ⟨Rect.unit (s := S1x16x5632) ![0, 0, 0] S1x16x1024.size inb_S1x16x5632_S1x16x1024_0_0_0, k0_pay7 (F := Ideal) (kernelRun0_B.sl.v37 (F := Ideal) R.c R.arg2 R.harg2 R.arg4 R.harg4 R.arg5 R.harg5 R.arg11 R.harg11 R.arg12 R.arg13 R.x0 R.x2 R.x3 R.x9)⟩] : List (View.Piece (Elt Ideal) S1x16x5632 .f32)) (ix3 0 r c) = carry S r c := by
  by_cases h6 : 4864 ≤ c.val
  · rw [Stores.hit3 _ _ _ _ _ _ 0 r ⟨c.val - 4864, by omega⟩ (by simp) (by simp) (by simp; omega)]
    pointwise [k0_pay36]
    rw [kernelRun0_B.sl.v311, Stores.load2 _ _ _ _ _ ⟨1024 + r.val, by omega⟩ ⟨c.val - 4864, by omega⟩ (by simp) (by simp)]
    exact (buf_b3 H _ ⟨c.val - 4864, by omega⟩).trans (carry_of c h6 _ _)
  rw [Stores.miss3 _ _ _ _ _ _ (by omega)]
  by_cases h5 : 2048 ≤ c.val ∧ c.val < 2816
  · rw [Stores.hit3 _ _ _ _ _ _ 0 r ⟨c.val - 2048, by omega⟩ (by simp) (by simp) (by simp; omega)]
    pointwise [k0_pay32]
    rw [kernelRun0_B.sl.v295, Stores.load2 _ _ _ _ _ ⟨1024 + r.val, by omega⟩ ⟨c.val - 2048, by omega⟩ (by simp) (by simp)]
    exact (buf_a3 H _ ⟨c.val - 2048, by omega⟩).trans (carry_of c h5.1 _ _)
  rw [Stores.miss3 _ _ _ _ _ _ (by omega)]
  by_cases h4 : 3840 ≤ c.val
  · rw [Stores.hit3 _ _ _ _ _ _ 0 r ⟨c.val - 3840, by omega⟩ (by simp) (by simp) (by simp; omega)]
    pointwise [k0_pay23]
    rw [kernelRun0_B.sl.v182, Stores.load2 _ _ _ _ _ ⟨1024 + r.val, by omega⟩ ⟨c.val - 3840, by omega⟩ (by simp) (by simp)]
    exact (buf_b2 H _ ⟨c.val - 3840, by omega⟩).trans (carry_of c h4 _ _)
  rw [Stores.miss3 _ _ _ _ _ _ (by omega)]
  by_cases h3 : 1024 ≤ c.val ∧ c.val < 2048
  · rw [Stores.hit3 _ _ _ _ _ _ 0 r ⟨c.val - 1024, by omega⟩ (by simp) (by simp) (by simp; omega)]
    pointwise [k0_pay20]
    rw [kernelRun0_B.sl.v166, Stores.load2 _ _ _ _ _ ⟨1024 + r.val, by omega⟩ ⟨c.val - 1024, by omega⟩ (by simp) (by simp)]
    exact (buf_a2 H _ ⟨c.val - 1024, by omega⟩).trans (carry_of c h3.1 _ _)
  rw [Stores.miss3 _ _ _ _ _ _ (by omega)]
  by_cases h2 : 2816 ≤ c.val
  · rw [Stores.hit3 _ _ _ _ _ _ 0 r ⟨c.val - 2816, by omega⟩ (by simp) (by simp) (by simp; omega)]
    pointwise [k0_pay10]
    rw [kernelRun0_B.sl.v53, Stores.load2 _ _ _ _ _ ⟨1024 + r.val, by omega⟩ ⟨c.val - 2816, by omega⟩ (by simp) (by simp)]
    exact (buf_b1 H _ ⟨c.val - 2816, by omega⟩).trans (carry_of c h2 _ _)
  rw [Stores.miss3 _ _ _ _ _ _ (by omega)]
  rw [Stores.hit3 _ _ _ _ _ _ 0 r ⟨c.val, by omega⟩ (by simp) (by simp) (by simp)]
  pointwise [k0_pay7]
  rw [kernelRun0_B.sl.v37, Stores.load2 _ _ _ _ _ ⟨1024 + r.val, by omega⟩ ⟨c.val, by omega⟩ (by simp) (by simp)]
  refine (buf_a1 H _ ⟨c.val, by omega⟩).trans ?_
  rw [carry]; congr 1 <;> apply Fin.ext <;> simp <;> omega

omit H in
/-- A load of whole rows of a scratch buffer filled for one tile of channels. -/
theorem rows {k n : ℕ} (hk : k ≤ 1024) (v : View sig .tc .vmem S1040x1024 .f32) (L : List (View.Piece (Elt Ideal) S1040x1024 .f32))
    (col : Fin k → Fin 5632) (hL : ∀ (r : Fin 1040) (j : Fin k), View.canon L (ix2 r ⟨j.val, by omega⟩) = ext S r (col j))
    (o : ℕ) (inb : ∀ a, (![o, 0] : Fin 2 → ℕ) a + (![n, k] : Fin 2 → ℕ) a ≤ S1040x1024.size a) (r : Fin n) (j : Fin k) :
    v.readCov L (Rect.unit (s := S1040x1024) ![o, 0] ![n, k] inb).toLoadRect (ix2 r j)
      = ext S ⟨o + r.val, by have h : o + n ≤ 1040 := inb 0; omega⟩ (col j) := by
  have h : o + n ≤ 1040 := inb 0
  rw [Stores.load2 v L inb r j ⟨o + r.val, by omega⟩ ⟨j.val, by omega⟩ rfl (by simp), hL]

/-- The activation of the first half of the rows at the first tile. -/
theorem act_lo1 (r : Fin 512) (j : Fin 1024) : R.r_4 (ix2 r j) = act S ⟨r.val, by omega⟩ ⟨j.val, by omega⟩ := by
  have ha := rows (S := S) (n := 512) (by omega) R.arg13.view _ (fun j : Fin 1024 => ⟨j.val, by omega⟩) (buf_a1 H)
  have hb := rows (S := S) (n := 512) (by omega) R.arg14.view _ (fun j : Fin 1024 => ⟨2816 + j.val, by omega⟩) (buf_b1 H)
  simp only [Run.r_4, kernelRun0_B.sl.r_4, kernelRun0_B.sl.r_1, kernelRun0_B.sl.r_2, kernelRun0_B.sl.r_3, View.readAt_eq_ld,
    Memref.IsWhole.read_unread]
  pointwise [k0_pay14, k0_pay11, k0_pay12, k0_pay13]
  simp only [kernelRun0_B.sl.v61, kernelRun0_B.sl.v68, kernelRun0_B.sl.v74, kernelRun0_B.sl.v82, kernelRun0_B.sl.v89, kernelRun0_B.sl.v95, ha, hb, H.x4, H.x5, act, conv]
  have e : 2816 + j.val = j.val + 2816 := by omega
  simp only [Nat.zero_add, Nat.add_comm 8, Nat.add_comm 16, e]

/-- The activation of the first half of the rows at the second tile. -/
theorem act_lo2 (r : Fin 512) (j : Fin 1024) : R.r_11 (ix2 r j) = act S ⟨r.val, by omega⟩ ⟨1024 + j.val, by omega⟩ := by
  have ha := rows (S := S) (n := 512) (by omega) R.arg13.view _ (fun j : Fin 1024 => ⟨1024 + j.val, by omega⟩) (buf_a2 H)
  have hb := rows (S := S) (n := 512) (by omega) R.arg14.view _ (fun j : Fin 1024 => ⟨3840 + j.val, by omega⟩) (buf_b2 H)
  simp only [Run.r_11, kernelRun0_B.sl.r_11, kernelRun0_B.sl.r_8, kernelRun0_B.sl.r_9, kernelRun0_B.sl.r_10, View.readAt_eq_ld,
    Memref.IsWhole.read_unread]
  pointwise [k0_pay27, k0_pay24, k0_pay25, k0_pay26]
  simp only [kernelRun0_B.sl.v190, kernelRun0_B.sl.v197, kernelRun0_B.sl.v203, kernelRun0_B.sl.v211, kernelRun0_B.sl.v218, kernelRun0_B.sl.v224, ha, hb, H.x4, H.x5, act, conv]
  have e : 3840 + j.val = 1024 + j.val + 2816 := by omega
  simp only [Nat.zero_add, Nat.add_comm 8, Nat.add_comm 16, e]

/-- The activation of the first half of the rows at the third tile. -/
theorem act_lo3 (r : Fin 512) (j : Fin 768) : R.r_18 (ix2 r j) = act S ⟨r.val, by omega⟩ ⟨2048 + j.val, by omega⟩ := by
  have ha := rows (S := S) (n := 512) (by omega) R.arg13.view _ (fun j : Fin 768 => ⟨2048 + j.val, by omega⟩) (buf_a3 H)
  have hb := rows (S := S) (n := 512) (by omega) R.arg14.view _ (fun j : Fin 768 => ⟨4864 + j.val, by omega⟩) (buf_b3 H)
  simp only [Run.r_18, kernelRun0_B.sl.r_18, kernelRun0_B.sl.r_16, kernelRun0_B.sl.r_17, View.readAt_eq_ld,
    Memref.IsWhole.read_unread]
  pointwise [k0_pay39, k0_pay37, k0_pay38]
  simp only [kernelRun0_B.sl.v319, kernelRun0_B.sl.v326, kernelRun0_B.sl.v332, kernelRun0_B.sl.v340, kernelRun0_B.sl.v347, kernelRun0_B.sl.v353, ha, hb, H.x4, H.x5, act, conv]
  have e : 4864 + j.val = 2048 + j.val + 2816 := by omega
  simp only [Nat.zero_add, Nat.add_comm 8, Nat.add_comm 16, e]

/-- The input plus the first tile's share of the output product. -/
theorem acc1 (r : Fin 1024) (d : Fin 1024) :
    R.r_6 (ix2 r d) = S.x r d + ∑ j : Fin 1024, act S r ⟨j.val, by omega⟩ * S.dn ⟨j.val, by omega⟩ d := by
  have ha := rows (S := S) (n := 512) (by omega) R.arg13.view _ (fun j : Fin 1024 => ⟨j.val, by omega⟩) (buf_a1 H)
  have hb := rows (S := S) (n := 512) (by omega) R.arg14.view _ (fun j : Fin 1024 => ⟨2816 + j.val, by omega⟩) (buf_b1 H)
  have hl := act_lo1 H
  simp only [Run.r_4] at hl
  simp only [Run.r_6, kernelRun0_B.sl.r_6, kernelRun0_B.sl.r_5, kernelRun0_B.sl.r, View.readAt_eq_ld, Memref.IsWhole.read_unread]
  pointwise [k0_pay16, k0_pay15, k0_pay4]
  rw [H.x0]
  refine congrArg _ (Finset.sum_congr rfl fun j _ => ?_)
  rw [H.x6]
  refine congrArg (· * _) ?_
  split
  · rw [hl]
  · have e0 : 512 + (r.val - 512) = r.val := by omega
    have e8 : 520 + (r.val - 512) = r.val + 8 := by omega
    have e16 : 528 + (r.val - 512) = r.val + 16 := by omega
    have e : 2816 + j.val = j.val + 2816 := by omega
    simp only [kernelRun0_B.sl.v107, kernelRun0_B.sl.v114, kernelRun0_B.sl.v120, kernelRun0_B.sl.v128, kernelRun0_B.sl.v135, kernelRun0_B.sl.v141, ha, hb, H.x4, H.x5, act, conv, e0, e8, e16, e]

/-- The sum after the second tile. -/
theorem acc2 (r : Fin 1024) (d : Fin 1024) :
    R.r_14 (ix2 r d) = S.x r d + ∑ j : Fin 1024, act S r ⟨j.val, by omega⟩ * S.dn ⟨j.val, by omega⟩ d
      + ∑ j : Fin 1024, act S r ⟨1024 + j.val, by omega⟩ * S.dn ⟨1024 + j.val, by omega⟩ d := by
  have h1 := acc1 H
  simp only [Run.r_6] at h1
  have ha := rows (S := S) (n := 512) (by omega) R.arg13.view _ (fun j : Fin 1024 => ⟨1024 + j.val, by omega⟩) (buf_a2 H)
  have hb := rows (S := S) (n := 512) (by omega) R.arg14.view _ (fun j : Fin 1024 => ⟨3840 + j.val, by omega⟩) (buf_b2 H)
  have hl := act_lo2 H
  simp only [Run.r_11] at hl
  simp only [Run.r_14, kernelRun0_B.sl.r_14, kernelRun0_B.sl.r_12, kernelRun0_B.sl.r_13, View.readAt_eq_ld, Memref.IsWhole.read_unread]
  pointwise [k0_pay29, k0_pay28]
  rw [h1]
  refine congrArg _ (Finset.sum_congr rfl fun j _ => ?_)
  rw [H.x6]
  refine congrArg (· * _) ?_
  split
  · rw [hl]
  · have e0 : 512 + (r.val - 512) = r.val := by omega
    have e8 : 520 + (r.val - 512) = r.val + 8 := by omega
    have e16 : 528 + (r.val - 512) = r.val + 16 := by omega
    have e : 3840 + j.val = 1024 + j.val + 2816 := by omega
    simp only [kernelRun0_B.sl.v236, kernelRun0_B.sl.v243, kernelRun0_B.sl.v249, kernelRun0_B.sl.v257, kernelRun0_B.sl.v264, kernelRun0_B.sl.v270, ha, hb, H.x4, H.x5, act, conv, e0, e8, e16, e]

/-- The activation at the third tile. -/
theorem act3 (r : Fin 1024) (j : Fin 768) : R.r_21 (ix2 r j) = act S r ⟨2048 + j.val, by omega⟩ := by
  have ha := rows (S := S) (n := 512) (by omega) R.arg13.view _ (fun j : Fin 768 => ⟨2048 + j.val, by omega⟩) (buf_a3 H)
  have hb := rows (S := S) (n := 512) (by omega) R.arg14.view _ (fun j : Fin 768 => ⟨4864 + j.val, by omega⟩) (buf_b3 H)
  have hl := act_lo3 H
  simp only [Run.r_18] at hl
  simp only [Run.r_21, kernelRun0_B.sl.r_21, kernelRun0_B.sl.r_19, kernelRun0_B.sl.r_20, View.readAt_eq_ld, Memref.IsWhole.read_unread]
  pointwise [k0_pay42, k0_pay41, k0_pay40]
  split
  · rw [hl]
  · have e0 : 512 + (r.val - 512) = r.val := by omega
    have e8 : 520 + (r.val - 512) = r.val + 8 := by omega
    have e16 : 528 + (r.val - 512) = r.val + 16 := by omega
    have e : 4864 + j.val = 2048 + j.val + 2816 := by omega
    simp only [kernelRun0_B.sl.v365, kernelRun0_B.sl.v372, kernelRun0_B.sl.v378, kernelRun0_B.sl.v386, kernelRun0_B.sl.v393, kernelRun0_B.sl.v399, ha, hb, H.x4, H.x5, act, conv, e0, e8, e16, e]

omit H in
/-- A sum over the channels is the sum of the three tiles' sums. -/
theorem sum_tiles (f : Fin 2816 → EReal) :
    ∑ c, f c = ∑ j : Fin 1024, f ⟨j.val, by omega⟩ + ∑ j : Fin 1024, f ⟨1024 + j.val, by omega⟩
      + ∑ j : Fin 768, f ⟨2048 + j.val, by omega⟩ := by
  refine (Fin.sum_univ_add (a := 2048) (b := 768) f).trans (congrArg (· + _) ?_)
  exact Fin.sum_univ_add (a := 1024) (b := 1024) fun j => f ⟨j.val, by omega⟩

/-- The stored block is the step's rows of the first result. -/
theorem out_at (r : Fin 1024) (d : Fin 1024) :
    k0_pay1 R.r_14 R.r_21 (View.readAt (Elt Ideal) R.arg8.view (Rect.unit (s := S1x2816x1024) ![0, 2048, 0] ![1, 768, 1024] inb_S1x2816x1024_S1x768x1024_0_2048_0).toLoadRect (R.harg8.unread R.x6)) (ix3 0 r d) = out S r d := by
  have h2 := acc2 H
  have h3 := act3 H
  simp only [View.readAt_eq_ld, Memref.IsWhole.read_unread]
  pointwise [k0_pay1]
  simp only [h2, h3, H.x6, out, sum_tiles, ← add_assoc]

end Cert.PromptFfnIdeal.Later
-- ==== Proof.PromptFfnValue.lean ====
/- From the steps of the feed-forward kernel to its two result arrays, for the prompt batch of the first layer: at grid point `t` the body
   runs step `t % 16` of group `t / 16`.  The rows a step is carried are the ones handed in at the first step of a group,
   and those the point before left at every other; so, point after point, each step computes its part of the whole
   sequence, and the sixty-four points' blocks make up the arrays. -/
module

public import proofs.«01_k».proof.Proof.Gen.PromptFfnIdeal.Value
public import proofs.«01_k».proof.Proof.PromptFfnFirst
public import proofs.«01_k».proof.Proof.PromptFfnLater

@[expose] public section
set_option maxRecDepth 16384
noncomputable section
open Idealize.ShloMosaic Idealize.ShloMosaic.TcCoe Idealize.SL.Sem
open Idealize.ShloMosaic.Pipeline (Dat)

namespace Cert.PromptFfnIdeal.Arrays
open Cert.PromptFfnIdeal Cert.PromptFfnIdeal.Gen Cert.PromptSpec

variable (m : (ℓ : Loc nD τ sig) → Buf (Elt Ideal) ℓ)

/-- The sublayer's operands, as device `c` is launched with them. -/
def args (c : Dev nD) : Args where
  x := m ((c : Thread nD τ).loc main_arg0)
  st := m ((c : Thread nD τ).loc main_arg1)
  nw := m ((c : Thread nD τ).loc main_arg2)
  u := m ((c : Thread nD τ).loc main_arg3)
  cw := m ((c : Thread nD τ).loc main_arg4)
  cb := m ((c : Thread nD τ).loc main_arg5)
  dn := m ((c : Thread nD τ).loc main_arg6)
  fw := m ((c : Thread nD τ).loc main_arg7)

/-- The group a grid point works on. -/
abbrev grp (t : Fin cfg0.N) : Fin 4 := ⟨t.val / 16, by have := lt_of_lt_of_eq t.isLt (show cfg0.N = 64 from N_0); omega⟩
/-- The step of its group. -/
abbrev stp (t : Fin cfg0.N) : Fin 16 := ⟨t.val % 16, Nat.mod_lt _ (by decide)⟩
/-- What that step works on. -/
abbrev stepAt (c : Dev nD) (t : Fin cfg0.N) : Step := step 0 (args m c) (grp t) (stp t)

/-- The run of the body at the first point of a group. -/
def firstAt (c : Dev nD) (t : Fin cfg0.N) : First.Run where
  c := c
  arg2 := ms0_0 t
  harg2 := hs0_0 t
  arg3 := ms0_1 t
  harg3 := hs0_1 t
  arg4 := ms0_2 t
  harg4 := hs0_2 t
  arg5 := ms0_3 t
  harg5 := hs0_3 t
  arg6 := ms0_4 t
  harg6 := hs0_4 t
  arg7 := ms0_5 t
  harg7 := hs0_5 t
  arg8 := ms0_6 t
  harg8 := hs0_6 t
  arg11 := ms0_9 t
  arg12 := scM0_0
  arg13 := scM0_1
  arg14 := scM0_2
  x0 := iblk m c 0 t
  x1 := iblk m c 1 t
  x2 := iblk m c 2 t
  x3 := iblk m c 3 t
  x4 := iblk m c 4 t
  x5 := iblk m c 5 t
  x6 := iblk m c 6 t

/-- The run of the body at a later point, over what the point before left. -/
def laterAt (c : Dev nD) (t : Fin cfg0.N) (x9 : Vec Ideal S1x16x5632 .f32) : Later.Run where
  c := c
  arg2 := ms0_0 t
  harg2 := hs0_0 t
  arg4 := ms0_2 t
  harg4 := hs0_2 t
  arg5 := ms0_3 t
  harg5 := hs0_3 t
  arg6 := ms0_4 t
  harg6 := hs0_4 t
  arg7 := ms0_5 t
  harg7 := hs0_5 t
  arg8 := ms0_6 t
  harg8 := hs0_6 t
  arg11 := ms0_9 t
  harg11 := hs0_9 t
  arg12 := scM0_0
  arg13 := scM0_1
  arg14 := scM0_2
  x0 := iblk m c 0 t
  x2 := iblk m c 2 t
  x3 := iblk m c 3 t
  x4 := iblk m c 4 t
  x5 := iblk m c 5 t
  x6 := iblk m c 6 t
  x9 := x9

/-- Where the blocks of point `t` lie. -/
theorem idx : ∀ t : Fin cfg0.N, win0_0.index t = ![t.val / 16, t.val % 16, 0] ∧ win0_1.index t = ![0, t.val / 16, 0, 0]
    ∧ win0_2.index t = ![0, 0, 0] ∧ win0_3.index t = ![0, 0, 0] ∧ win0_4.index t = ![0, 0, 0]
    ∧ win0_5.index t = ![0, 0, 0] ∧ win0_6.index t = ![0, 0, 0]
    ∧ win0_8.index t = ![t.val / 16, t.val % 16, 0] ∧ win0_9.index t = ![t.val / 16, 0, 0] :=
  (by decide +kernel : ∀ t : Fin grid0.N, _)

/-- Block `t` of the tokens: the step's 1024 rows of its group. -/
theorem block0 (c : Dev nD) (t : Fin cfg0.N) (r : Fin 1024) (d : Fin 1024) : iblk m c 0 t (ix3 0 r d) = (stepAt m c t).x r d := by
  show _ = (m ((c : Thread nD τ).loc main_arg0)) (ix3 (grp t) ⟨t.val % 16 * 1024 + r.val, by omega⟩ d)
  blk_point [iblk, V, idx t]

/-- The regrouped rows handed in: row `r` is position `r / 8` of stream `r % 8` of the group. -/
theorem block1 (c : Dev nD) (t : Fin cfg0.N) (r : Fin 16) (k : Fin 5632) :
    iblk m c 1 t (ix4 0 0 r k) = ext 0 (args m c) (grp t) ⟨r.val, by omega⟩ k := by
  have h : iblk m c 1 t (ix4 0 0 r k) = V m c main_v2 (ix4 0 (grp t) r k) := by blk_ext [iblk, idx t]
  refine h.trans ?_
  entry_read
  pointwise
  rw [ext, dif_pos r.isLt]
  rfl

theorem block2 (c : Dev nD) (t : Fin cfg0.N) (d : Fin 1024) : iblk m c 2 t (ix3 0 0 d) = (stepAt m c t).nw d := by
  show _ = (m ((c : Thread nD τ).loc main_arg2)) (ix2 0 d)
  blk_point [iblk, V, idx t]

theorem block3 (c : Dev nD) (t : Fin cfg0.N) (d : Fin 1024) (k : Fin 5632) : iblk m c 3 t (ix3 0 d k) = (stepAt m c t).u d k := by
  show _ = (m ((c : Thread nD τ).loc main_arg3)) (ix3 0 d k)
  blk_point [iblk, V, idx t]

theorem block4 (c : Dev nD) (t : Fin cfg0.N) (k : Fin 3) (j : Fin 5632) : iblk m c 4 t (ix3 0 k j) = (stepAt m c t).cw k j := by
  show _ = (m ((c : Thread nD τ).loc main_arg4)) (ix3 0 k j)
  blk_point [iblk, V, idx t]

theorem block5 (c : Dev nD) (t : Fin cfg0.N) (j : Fin 5632) : iblk m c 5 t (ix3 0 0 j) = (stepAt m c t).cb j := by
  show _ = (m ((c : Thread nD τ).loc main_arg5)) (ix2 0 j)
  blk_point [iblk, V, idx t]

theorem block6 (c : Dev nD) (t : Fin cfg0.N) (j : Fin 2816) (e : Fin 1024) : iblk m c 6 t (ix3 0 j e) = (stepAt m c t).dn j e := by
  show _ = (m ((c : Thread nD τ).loc main_arg6)) (ix3 0 j e)
  blk_point [iblk, V, idx t]

/-- At the first point of a group the body's input blocks are the step's operands. -/
theorem first_holds (c : Dev nD) (t : Fin cfg0.N) (h0 : t.val % 16 = 0) : First.Holds (stepAt m c t) (firstAt m c t) where
  x0 r d := block0 m c t r d
  x1 r k := by
    refine (block1 m c t r k).trans ((step_ext 0 (args m c) (grp t) (stp t) _ k).trans ?_).symm
    congr 1; apply Fin.ext; simp [h0]
  x2 d := block2 m c t d
  x3 d k := block3 m c t d k
  x4 k j := block4 m c t k j
  x5 j := block5 m c t j
  x6 j e := block6 m c t j e

/-- So they are at a later point, when the rows carried into it are the step's. -/
theorem later_holds (c : Dev nD) (t : Fin cfg0.N) (x9 : Vec Ideal S1x16x5632 .f32)
    (h9 : ∀ (r : Fin 16) (k : Fin 5632), x9 (ix3 0 r k) = (stepAt m c t).ext ⟨r.val, by omega⟩ k) :
    Later.Holds (stepAt m c t) (laterAt m c t x9) where
  x0 r d := block0 m c t r d
  x9 r k := h9 r k
  x2 d := block2 m c t d
  x3 d k := block3 m c t d k
  x4 k j := block4 m c t k j
  x5 j := block5 m c t j
  x6 j e := block6 m c t j e

/-- What the first point of a group leaves in the second result's block. -/
theorem first_carry (c : Dev nD) (t : Fin cfg0.N) (h0 : t.val % 16 = 0) (r : Fin 16) (k : Fin 5632) :
    (outsAt0 m c t.val t.isLt).2 (ix3 0 r k) = (stepAt m c t).carry r k := by
  refine Eq.trans ?_ (First.carry_at (first_holds m c t h0) inb_S1x16x5632_S1x16x768_0_0_4864 r k)
  rw [outsAt0_A m c t h0]
  simp only [out0_A_9, View.read_writes_junk_eq_canon]
  rw [kernelRun0_A]
  rfl

/-- What a later one leaves there. -/
theorem later_carry (c : Dev nD) (t : Fin cfg0.N) (h0 : ¬t.val % 16 = 0)
    (h9 : ∀ (r : Fin 16) (k : Fin 5632), (outsAt0 m c (t.val - 1) (Nat.lt_of_le_of_lt (Nat.sub_le _ _) t.isLt)).2 (ix3 0 r k)
      = (stepAt m c t).ext ⟨r.val, by omega⟩ k) (r : Fin 16) (k : Fin 5632) :
    (outsAt0 m c t.val t.isLt).2 (ix3 0 r k) = (stepAt m c t).carry r k := by
  refine Eq.trans ?_ (Later.carry_at (later_holds m c t _ h9) r k)
  rw [outsAt0_B m c t h0]
  simp only [out0_B_9, View.read_writes_junk_eq_canon]
  rw [kernelRun0_B]
  rfl

/-- If the point before left the rows its step carries on, they are the ones this step's convolution starts from. -/
theorem handed (A : Args) (t t' : Fin cfg0.N) (e : t'.val = t.val - 1) (h0 : ¬t.val % 16 = 0) (r : Fin 16) (k : Fin 5632) :
    (step 0 A (grp t') (stp t')).carry r k = (step 0 A (grp t) (stp t)).ext ⟨r.val, by omega⟩ k := by
  rw [step_carry, step_ext]
  congr 1 <;> apply Fin.ext <;> simp [e] <;> omega

/-- Every point leaves the rows its step carries on. -/
theorem left9 (c : Dev nD) (n : ℕ) : ∀ (h : n < cfg0.N) (r : Fin 16) (k : Fin 5632),
    (outsAt0 m c n h).2 (ix3 0 r k) = (stepAt m c ⟨n, h⟩).carry r k := by
  induction n with
  | zero => intro h r k; exact first_carry m c ⟨0, h⟩ rfl r k
  | succ n ih =>
    intro h r k
    by_cases h0 : (n + 1) % 16 = 0
    · exact first_carry m c ⟨n + 1, h⟩ h0 r k
    · exact later_carry m c ⟨n + 1, h⟩ h0 (fun r k => (ih (Nat.lt_of_succ_lt h) r k).trans
        (handed (args m c) ⟨n + 1, h⟩ ⟨n, Nat.lt_of_succ_lt h⟩ rfl h0 r k)) r k

/-- What the first point of a group stores in the first result's block. -/
theorem first_stored (c : Dev nD) (t : Fin cfg0.N) (h0 : t.val % 16 = 0) (r : Fin 1024) (e : Fin 1024) :
    (outsAt0 m c t.val t.isLt).1 (ix3 0 r e) = (stepAt m c t).out r e := by
  refine Eq.trans ?_ (First.out_at (first_holds m c t h0) r e)
  rw [outsAt0_A m c t h0]
  simp only [out0_A_8, View.read_writes_junk_eq_canon]
  rw [kernelRun0_A]
  simp (disch := decide) only [View.canon_cons_unit_lit']
  rfl

/-- What a later one stores there. -/
theorem later_stored (c : Dev nD) (t : Fin cfg0.N) (h0 : ¬t.val % 16 = 0)
    (h9 : ∀ (r : Fin 16) (k : Fin 5632), (outsAt0 m c (t.val - 1) (Nat.lt_of_le_of_lt (Nat.sub_le _ _) t.isLt)).2 (ix3 0 r k)
      = (stepAt m c t).ext ⟨r.val, by omega⟩ k) (r : Fin 1024) (e : Fin 1024) :
    (outsAt0 m c t.val t.isLt).1 (ix3 0 r e) = (stepAt m c t).out r e := by
  rw [outsAt0_B m c t h0]
  generalize (outsAt0 m c (t.val - 1) (Nat.lt_of_le_of_lt (Nat.sub_le _ _) t.isLt)).2 = x9 at h9
  refine Eq.trans ?_ (Later.out_at (later_holds m c t x9 h9) r e)
  simp only [out0_B_8, View.read_writes_junk_eq_canon]
  rw [kernelRun0_B]
  simp (disch := decide) only [View.canon_cons_unit_lit']
  rfl

/-- What point `t` stores in the first result's block: its step's rows. -/
theorem stored8 (c : Dev nD) (t : Fin cfg0.N) (r : Fin 1024) (e : Fin 1024) :
    (outsAt0 m c t.val t.isLt).1 (ix3 0 r e) = (stepAt m c t).out r e := by
  by_cases h0 : t.val % 16 = 0
  · exact first_stored m c t h0 r e
  · have hp : t.val - 1 < cfg0.N := Nat.lt_of_le_of_lt (Nat.sub_le _ _) t.isLt
    exact later_stored m c t h0 (fun r k => (left9 m c (t.val - 1) hp r k).trans
      (handed (args m c) t ⟨t.val - 1, hp⟩ rfl h0 r k)) r e

/-- Row `q` of step `s` is row `s * 1024 + q` of its group. -/
theorem place (A : Args) (g : Fin 4) (s : Fin 16) (q : Fin 1024) (e : Fin 1024) (g' : Fin 4) (p : Fin 16384) (e' : Fin 1024)
    (h0 : g' = g) (h1 : p.val = s.val * 1024 + q.val) (h2 : e' = e) : (step 0 A g s).out q e = out 0 A g' p e' := by
  subst h0 h2
  rw [step_out]
  congr 1; exact Fin.ext h1.symm

/-- The first result array is the sublayer's output. -/
theorem final8 (c : Dev nD) : (dats m 0 c).arrAt 8 cfg0.N
    = (fun i => out 0 (args m c) (i 0) (i 1) (i 2) : FVec Ideal S4x16384x1024 .f32) := by
  refine (dats m 0 c).arrAt_eq_of_covers 8 _ (by decide +kernel) fun t _ y => ?_
  blk_simp
  rw [after0_8]
  have e : y = ix3 0 (y 1) (y 2) := by blk_ext
  refine Eq.trans (congrArg _ e) ((stored8 m c t (y 1) (y 2)).trans ?_)
  refine place (args m c) (grp t) (stp t) (y 1) (y 2) _ _ _ ?_ ?_ ?_
  · apply Fin.ext
    blk_simp [idx t]
  · blk_simp [idx t]
  · apply Fin.ext
    blk_simp [idx t]

/-- The second result's block is written back after the last step of its group. -/
theorem flush9 : ∀ t : Fin cfg0.N, (cfg0.win 9).flush t = true → t.val % 16 = 15 :=
  (by decide +kernel : ∀ t : Fin grid0.N, _)

/-- What the last step of a group carries on is what the whole sequence does. -/
theorem last_carry (A : Args) (t : Fin cfg0.N) (h : t.val % 16 = 15) (r : Fin 16) (k : Fin 5632) :
    (step 0 A (grp t) (stp t)).carry r k = carry 0 A (grp t) r k := by
  rw [step_carry, carry]
  congr 1; apply Fin.ext; simp [h]; omega

/-- The second result array is the rows carried on. -/
theorem final9 (c : Dev nD) : (dats m 0 c).arrAt 9 cfg0.N
    = (fun i => carry 0 (args m c) (i 0) (i 1) (i 2) : FVec Ideal S4x16x5632 .f32) := by
  refine (dats m 0 c).arrAt_eq_of_covers 9 _ (by decide +kernel) fun t hf y => ?_
  blk_simp
  rw [after0_9]
  have e : y = ix3 0 (y 1) (y 2) := by blk_ext
  refine Eq.trans (congrArg _ e) ((left9 m c t.val t.isLt (y 1) (y 2)).trans ((last_carry (args m c) t (flush9 t hf) (y 1) (y 2)).trans ?_))
  have h0 : (win0_9.blk t).view.emb y 0 = grp t := by
    apply Fin.ext
    blk_simp [idx t]
  have h1 : (win0_9.blk t).view.emb y 1 = y 1 := by
    apply Fin.ext
    blk_simp [idx t]
  have h2 : (win0_9.blk t).view.emb y 2 = y 2 := by
    apply Fin.ext
    blk_simp [idx t]
  rw [h0, h1, h2]

end Cert.PromptFfnIdeal.Arrays
-- ==== Proof.PromptFfnClaim.lean ====
/- The first layer's two value facts for the prompt batch joined: the kernel's result arrays and the reference's results are the
   same functions of the same operands. -/
module

public import proofs.«01_k».proof.Defs
public import proofs.«01_k».proof.Proof.PromptFfnRef
public import proofs.«01_k».proof.Proof.PromptFfnValue
public import Idealize.ShloMosaic.Lib.Claim

@[expose] public section
set_option maxRecDepth 16384
noncomputable section
open Idealize.ShloMosaic Idealize.ShloMosaic.TcCoe Idealize.SL.Sem

namespace Cert.PromptFfnClaim
open Cert.PromptSpec

/-- A tensor is known by its entries. -/
theorem ext3 {a b c : ℕ} {f h : (⟨3, ![a, b, c]⟩ : Shape).Idx → EReal} (e : ∀ i j k, f (ix3 i j k) = h (ix3 i j k)) : f = h := by
  funext i
  rw [eq_ix3 i]
  exact e _ _ _

/-- The reference's first result, whole. -/
theorem ref1 (A : Args) : Cert.PromptFfnRefIdeal.Read.val_main_v62 (F := Ideal) A.x A.st A.nw A.u A.cw A.cb A.dn
    = (fun i => out 0 A (i 0) (i 1) (i 2) : FVec Ideal ⟨3, ![4, 16384, 1024]⟩ .f32) :=
  ext3 fun g r c => Cert.PromptFfnRefIdeal.Read.res1_at A g r c

/-- The reference's second result, whole. -/
theorem ref2 (A : Args) : Cert.PromptFfnRefIdeal.Read.val_main_v65 (F := Ideal) A.x A.st A.nw A.u
    = (fun i => carry 0 A (i 0) (i 1) (i 2) : FVec Ideal ⟨3, ![4, 16, 5632]⟩ .f32) :=
  ext3 fun g r c => Cert.PromptFfnRefIdeal.Read.res2_at A g r c

/-- The claim: both programs run, end with equal results, and leave their arguments as they were. -/
theorem algebraic : Cert.algebraic_PromptFfnIdeal_PromptFfnRefIdeal := by
  pair_intro
  · run_from Cert.PromptFfnIdeal.Gen.run_main m g
  · run_from Cert.PromptFfnRefIdeal.Value.run m' g'
    · obtain ⟨h0, h1, h2, h3, h4, h5, h6, -⟩ := hagree c
      rw [Cert.PromptFfnRefIdeal.Read.val_main_v62_eq, h0, h1, h2, h3, h4, h5, h6]
      exact (ref1 (Cert.PromptFfnIdeal.Arrays.args m c)).trans (Cert.PromptFfnIdeal.Arrays.final8 m c).symm
    · exact (ref2 (Cert.PromptFfnIdeal.Arrays.args m c)).trans (Cert.PromptFfnIdeal.Arrays.final9 m c).symm

/-- The reference runs to the end and leaves its arguments as they were. -/
theorem ref_frame : Cert.quiescent_PromptFfnRefIdeal := by
  intro m ρ _
  exact (θ_run Cert.PromptFfnRefIdeal.defs _ _).mono (fun r h => ⟨fun c => (h c).2.2, sem_eq_zero_of_no_sems (by decide) r.2⟩)
    (Cert.PromptFfnRefIdeal.Value.run m ρ)

end Cert.PromptFfnClaim
-- ==== Proof.DiscSpec.lean ====
/- What the discretisation of the state-space branch computes, entry by entry, over the extended reals: no program appears
   here.  State `s` of a layer is state `s % 64` of group `s / 64`. -/
module

public import Idealize.ShloMosaic.Lib.Pipeline.ValueKit
public import Idealize.ShloMosaic.Lib.Pointwise

@[expose] public section
noncomputable section
open Idealize.ShloMosaic

namespace Cert.DiscSpec

/-- The operands: the eigenvalues' real and imaginary parts, the logarithms of the step sizes, the input matrices. -/
structure Args where
  lre : FVec Ideal ⟨3, ![2, 16, 64]⟩ .f32
  lim : FVec Ideal ⟨3, ![2, 16, 64]⟩ .f32
  ldt : FVec Ideal ⟨2, ![2, 16]⟩ .f32
  b : FVec Ideal ⟨5, ![2, 16, 64, 16, 2]⟩ .f32

/-- The group of a state. -/
abbrev gr (s : Fin 1024) : Fin 16 := ⟨s.val / 64, by omega⟩
/-- The place of a state in its group. -/
abbrev pl (s : Fin 1024) : Fin 64 := ⟨s.val % 64, by omega⟩

variable (A : Args) (l : Fin 2) (s : Fin 1024)

/-- The eigenvalue's real part. -/
def re : EReal := A.lre (ix3 l (gr s) (pl s))
/-- The eigenvalue's imaginary part. -/
def im : EReal := A.lim (ix3 l (gr s) (pl s))
/-- The step size of the state's group. -/
def dt : EReal := Ideal.exp (A.ldt (ix2 l (gr s)))
/-- The discrete eigenvalue's real part. -/
def abr : EReal := Ideal.exp (re A l s * dt A l s) * Ideal.cos (im A l s * dt A l s)
/-- The discrete eigenvalue's imaginary part. -/
def abi : EReal := Ideal.exp (re A l s * dt A l s) * Ideal.sin (im A l s * dt A l s)
/-- The eigenvalue's squared modulus. -/
def den : EReal := re A l s * re A l s + im A l s * im A l s
/-- The discrete eigenvalue's real part less one. -/
def num : EReal := abr A l s - 1
/-- The input factor's real part. -/
def fre : EReal := Ideal.div (num A l s * re A l s + abi A l s * im A l s) (den A l s)
/-- The input factor's imaginary part. -/
def fim : EReal := Ideal.div (abi A l s * re A l s - num A l s * im A l s) (den A l s)

/-- The input matrix's entry at channel `r`: its real part (`k = 0`) or its imaginary part (`k = 1`). -/
def inp (k : Fin 2) (r : Fin 16) : EReal := A.b (ix5 l (gr s) (pl s) r k)

/-- The first result: both parts of the discrete eigenvalues. -/
def ab (k : Fin 2) : EReal := if k.val < 1 then abr A l s else abi A l s
/-- The second result: the discrete input matrix's real part. -/
def bbr (r : Fin 16) : EReal := fre A l s * inp A l s 0 r - fim A l s * inp A l s 1 r
/-- The third result: the discrete input matrix's imaginary part. -/
def bbi (r : Fin 16) : EReal := fre A l s * inp A l s 1 r + fim A l s * inp A l s 0 r

end Cert.DiscSpec
-- ==== Proof.DiscRef.lean ====
/- The reference of the discretisation, read entry by entry: its three results are the functions of `Cert.DiscSpec`. -/
module

public import proofs.«01_k».proof.Proof.Gen.DiscRefIdeal.Run
public import proofs.«01_k».proof.Proof.Gen.DiscRefIdeal.Read
public import proofs.«01_k».proof.Proof.DiscSpec

@[expose] public section
set_option maxRecDepth 16384
noncomputable section
open Idealize.ShloMosaic Idealize.ShloMosaic.TcCoe Idealize.SL.Sem

namespace Cert.DiscRefIdeal.Read
open Cert.DiscSpec

variable (A : Args) (l : Fin 2) (s : Fin 1024)

/-- The discrete eigenvalue's real part. -/
theorem abr_at : val_main_v8 (F := Ideal) A.lre A.lim A.ldt (ix3 l (gr s) (pl s)) = abr A l s := by
  pointwise [val_main_v8, val_main_v7, val_main_v6, val_main_v5, val_main_v4, val_main_v3, val_main_v2, val_main_v1, val_main_v0]
  rfl

/-- The discrete eigenvalue's imaginary part. -/
theorem abi_at : val_main_v10 (F := Ideal) A.lre A.lim A.ldt (ix3 l (gr s) (pl s)) = abi A l s := by
  pointwise [val_main_v10, val_main_v9, val_main_v6, val_main_v5, val_main_v4, val_main_v3, val_main_v2, val_main_v1, val_main_v0]
  rfl

/-- The input factor's real part. -/
theorem fre_at : val_main_v19 (F := Ideal) A.lre A.lim A.ldt (ix3 l (gr s) (pl s)) = fre A l s := by
  have h1 := abr_at A l s
  have h2 := abi_at A l s
  pointwise [val_main_v19, val_main_v18, val_main_v17, val_main_v16, val_main_v15, val_main_v14, val_main_v13, val_main_v12,
    val_main_v11, val_main_cst]
  rw [h1, h2]
  rfl

/-- The input factor's imaginary part. -/
theorem fim_at : val_main_v23 (F := Ideal) A.lre A.lim A.ldt (ix3 l (gr s) (pl s)) = fim A l s := by
  have h1 := abr_at A l s
  have h2 := abi_at A l s
  pointwise [val_main_v23, val_main_v22, val_main_v21, val_main_v20, val_main_v15, val_main_v14, val_main_v13, val_main_v12,
    val_main_v11, val_main_cst]
  rw [h1, h2]
  rfl

/-- The first result. -/
theorem res1_at (k : Fin 2) : val_main_v44 (F := Ideal) A.lre A.lim A.ldt (ix3 l k s) = ab A l s k := by
  have h1 := abr_at A l s
  have h2 := abi_at A l s
  pointwise [val_main_v44, val_main_v43, val_main_v42]
  rw [ab]
  split_ifs
  · exact h1
  · exact h2

/-- The second result. -/
theorem res2_at (r : Fin 16) : val_main_v46 (F := Ideal) A.lre A.lim A.ldt A.b (ix3 l r s) = bbr A l s r := by
  have h1 := fre_at A l s
  have h2 := fim_at A l s
  pointwise [val_main_v46, val_main_v45, val_main_v34, val_main_v33, val_main_v32, val_main_v31, val_main_v30, val_main_v29,
    val_main_v28, val_main_v27, val_main_v26, val_main_v25, val_main_v24]
  rw [h1, h2]
  rfl

/-- The third result. -/
theorem res3_at (r : Fin 16) : val_main_v48 (F := Ideal) A.lre A.lim A.ldt A.b (ix3 l r s) = bbi A l s r := by
  have h1 := fre_at A l s
  have h2 := fim_at A l s
  pointwise [val_main_v48, val_main_v47, val_main_v41, val_main_v40, val_main_v39, val_main_v38, val_main_v37, val_main_v36,
    val_main_v35, val_main_v27, val_main_v26, val_main_v25, val_main_v24]
  rw [h1, h2]
  rfl

end Cert.DiscRefIdeal.Read
-- ==== Proof.DiscValue.lean ====
/- From the discretisation kernel's body to its three result arrays: at grid point `t` the input blocks are those of layer
   `t`, so what the point stores is that layer's part of each result, and the two points' blocks make up the arrays. -/
module

public import proofs.«01_k».proof.Proof.Gen.DiscIdeal.Value
public import proofs.«01_k».proof.Proof.DiscSpec

@[expose] public section
set_option maxRecDepth 16384
noncomputable section
open Idealize.ShloMosaic Idealize.ShloMosaic.TcCoe Idealize.SL.Sem
open Idealize.ShloMosaic.Pipeline (Dat)

namespace Cert.DiscIdeal.Arrays
open Cert.DiscIdeal Cert.DiscIdeal.Gen Cert.DiscSpec

/-- The body's input blocks are layer `l`'s operands. -/
structure Holds (A : Args) (l : Fin 2) (x0 x1 x2 : Vec Ideal S1x1x1024 .f32) (x3 x4 : Vec Ideal S1x16x1024 .f32) : Prop where
  x0 : ∀ s, x0 (ix3 0 0 s) = re A l s
  x1 : ∀ s, x1 (ix3 0 0 s) = im A l s
  x2 : ∀ s, x2 (ix3 0 0 s) = A.ldt (ix2 l (gr s))
  x3 : ∀ r s, x3 (ix3 0 r s) = inp A l s 0 r
  x4 : ∀ r s, x4 (ix3 0 r s) = inp A l s 1 r

section body
variable {A : Args} {l : Fin 2} {x0 x1 x2 : Vec Ideal S1x1x1024 .f32} {x3 x4 : Vec Ideal S1x16x1024 .f32}
variable (H : Holds A l x0 x1 x2 x3 x4) (s : Fin 1024)
include H

theorem abr_at : k0_pay9 (F := Ideal) x2 x0 x1 (ix2 0 s) = abr A l s := by
  pointwise [k0_pay9, k0_pay8, k0_pay7, k0_pay6, k0_pay5, k0_pay4]
  rw [H.x0, H.x1, H.x2]
  rfl

theorem abi_at : k0_pay10 (F := Ideal) x2 x0 x1 (ix2 0 s) = abi A l s := by
  pointwise [k0_pay10, k0_pay8, k0_pay7, k0_pay6, k0_pay5, k0_pay4]
  rw [H.x0, H.x1, H.x2]
  rfl

theorem fre_at : k0_pay13 (F := Ideal) x2 x0 x1 (ix2 0 s) = fre A l s := by
  have h1 := abr_at H s
  have h2 := abi_at H s
  pointwise [k0_pay13, k0_pay12, k0_pay11, k0_pay6, k0_pay5]
  rw [h1, h2, H.x0, H.x1]
  rfl

theorem fim_at : k0_pay14 (F := Ideal) x2 x0 x1 (ix2 0 s) = fim A l s := by
  have h1 := abr_at H s
  have h2 := abi_at H s
  pointwise [k0_pay14, k0_pay12, k0_pay11, k0_pay6, k0_pay5]
  rw [h1, h2, H.x0, H.x1]
  rfl

/-- The first result's block. -/
theorem out5_at (k : Fin 2) : out0_5 x0 x1 x2 x3 x4 (ix3 0 k s) = ab A l s k := by
  simp (disch := decide) only [out0_5, View.ld_unit_lit']
  refine View.canon_apply_of_pieces (Val := Elt Ideal) (S := S1x2x1024) (e := .f32)
    (fun y => (ab A l (y 2) (y 1) : EReal)) _ ?_ _ (cover0_5 _ _ _)
  intro pc hpc
  rcases List.mem_cons.mp hpc with rfl | hpc
  · intro x
    have e : x = ix3 0 0 (x 2) := by blk_ext
    refine (congrArg _ e).trans ?_
    pointwise [k0_pay16]
    refine (abi_at H (x 2)).trans ?_
    show abi A l (x 2) = ab A l (r0_2.emb x 2) (r0_2.emb x 1)
    have hx : (x 1).val < 1 := (x 1).isLt
    have h1 : r0_2.emb x 1 = (⟨1, by decide⟩ : Fin 2) := by
      apply Fin.ext
      show 1 + 1 * (x 1).val = 1
      omega
    have h2 : r0_2.emb x 2 = x 2 := by
      apply Fin.ext
      blk_simp
    rw [h1, h2]
    rfl
  rcases List.mem_cons.mp hpc with rfl | hpc
  · intro x
    have e : x = ix3 0 0 (x 2) := by blk_ext
    refine (congrArg _ e).trans ?_
    pointwise [k0_pay15]
    refine (abr_at H (x 2)).trans ?_
    show abr A l (x 2) = ab A l (r0_1.emb x 2) (r0_1.emb x 1)
    have hx : (x 1).val < 1 := (x 1).isLt
    have h1 : r0_1.emb x 1 = (⟨0, by decide⟩ : Fin 2) := by
      apply Fin.ext
      show 0 + 1 * (x 1).val = 0
      omega
    have h2 : r0_1.emb x 2 = x 2 := by
      apply Fin.ext
      blk_simp
    rw [h1, h2]
    rfl
  nomatch hpc

/-- The second result's block. -/
theorem out6_at (r : Fin 16) : out0_6 x0 x1 x2 x3 x4 (ix3 0 r s) = bbr A l s r := by
  have h1 := fre_at H s
  have h2 := fim_at H s
  simp (disch := decide) only [out0_6, k0_pay20, k0_pay19, k0_pay18, View.ld_unit_lit', View.canon_cons_unit_lit']
  pointwise [k0_pay17, k0_pay2, k0_pay1]
  rw [h1, h2, H.x3, H.x4]
  rfl

/-- The third result's block. -/
theorem out7_at (r : Fin 16) : out0_7 x0 x1 x2 x3 x4 (ix3 0 r s) = bbi A l s r := by
  have h1 := fre_at H s
  have h2 := fim_at H s
  simp (disch := decide) only [out0_7, k0_pay20, k0_pay19, k0_pay18, View.ld_unit_lit', View.canon_cons_unit_lit']
  pointwise [k0_pay17, k0_pay3, k0_pay1]
  rw [h1, h2, H.x3, H.x4]
  rfl

end body

variable (m : (ℓ : Loc nD τ sig) → Buf (Elt Ideal) ℓ)

/-- The operands, as device `c` is launched with them. -/
def args (c : Dev nD) : Args where
  lre := m ((c : Thread nD τ).loc main_arg0)
  lim := m ((c : Thread nD τ).loc main_arg1)
  ldt := m ((c : Thread nD τ).loc main_arg2)
  b := m ((c : Thread nD τ).loc main_arg3)

/-- Every block of point `t` lies at layer `t`. -/
theorem idx : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![t.val, 0, 0]
    ∧ win0_5.index t = ![t.val, 0, 0] ∧ win0_6.index t = ![t.val, 0, 0] ∧ win0_7.index t = ![t.val, 0, 0] :=
  (by decide +kernel : ∀ t : Fin grid0.N, _)

/-- The layer a grid point works on. -/
abbrev ly (t : Fin cfg0.N) : Fin 2 := ⟨t.val, t.isLt⟩

/-- The body's input blocks at point `t` are layer `t`'s operands. -/
theorem holds (c : Dev nD) (t : Fin cfg0.N) :
    Holds (args m c) (ly t) (iblk m c 0 t) (iblk m c 1 t) (iblk m c 2 t) (iblk m c 3 t) (iblk m c 4 t) where
  x0 s := by
    have h : iblk m c 0 t (ix3 0 0 s) = V m c main_v0 (ix3 (ly t) 0 s) := by blk_ext [iblk, idx t]
    refine h.trans ?_
    entry_read
    pointwise
    rfl
  x1 s := by
    have h : iblk m c 1 t (ix3 0 0 s) = V m c main_v1 (ix3 (ly t) 0 s) := by blk_ext [iblk, idx t]
    refine h.trans ?_
    entry_read
    pointwise
    rfl
  x2 s := by
    have h : iblk m c 2 t (ix3 0 0 s) = V m c main_v4 (ix3 (ly t) 0 s) := by blk_ext [iblk, idx t]
    refine h.trans ?_
    entry_read
    pointwise
    rfl
  x3 r s := by
    have h : iblk m c 3 t (ix3 0 r s) = V m c main_v8 (ix3 (ly t) r s) := by blk_ext [iblk, idx t]
    refine h.trans ?_
    entry_read
    pointwise
    rfl
  x4 r s := by
    have h : iblk m c 4 t (ix3 0 r s) = V m c main_v10 (ix3 (ly t) r s) := by blk_ext [iblk, idx t]
    refine h.trans ?_
    entry_read
    pointwise
    rfl

/-- The first result array. -/
theorem final5 (c : Dev nD) : (dats m 0 c).arrAt 5 cfg0.N
    = (fun i => ab (args m c) (i 0) (i 2) (i 1) : FVec Ideal S2x2x1024 .f32) := by
  refine (dats m 0 c).arrAt_eq_of_covers 5 _ (by decide +kernel) fun t _ y => ?_
  blk_simp
  rw [after0_5]
  have e : y = ix3 0 (y 1) (y 2) := by blk_ext
  refine Eq.trans (congrArg _ e) ((out5_at (holds m c t) (y 2) (y 1)).trans ?_)
  have h0 : (win0_5.blk t).view.emb y 0 = ly t := by
    apply Fin.ext
    blk_simp [idx t]
  have h1 : (win0_5.blk t).view.emb y 1 = y 1 := by
    apply Fin.ext
    blk_simp [idx t]
  have h2 : (win0_5.blk t).view.emb y 2 = y 2 := by
    apply Fin.ext
    blk_simp [idx t]
  rw [h0, h1, h2]

/-- The second result array. -/
theorem final6 (c : Dev nD) : (dats m 0 c).arrAt 6 cfg0.N
    = (fun i => bbr (args m c) (i 0) (i 2) (i 1) : FVec Ideal S2x16x1024 .f32) := by
  refine (dats m 0 c).arrAt_eq_of_covers 6 _ (by decide +kernel) fun t _ y => ?_
  blk_simp
  rw [after0_6]
  have e : y = ix3 0 (y 1) (y 2) := by blk_ext
  refine Eq.trans (congrArg _ e) ((out6_at (holds m c t) (y 2) (y 1)).trans ?_)
  have h0 : (win0_6.blk t).view.emb y 0 = ly t := by
    apply Fin.ext
    blk_simp [idx t]
  have h1 : (win0_6.blk t).view.emb y 1 = y 1 := by
    apply Fin.ext
    blk_simp [idx t]
  have h2 : (win0_6.blk t).view.emb y 2 = y 2 := by
    apply Fin.ext
    blk_simp [idx t]
  rw [h0, h1, h2]

/-- The third result array. -/
theorem final7 (c : Dev nD) : (dats m 0 c).arrAt 7 cfg0.N
    = (fun i => bbi (args m c) (i 0) (i 2) (i 1) : FVec Ideal S2x16x1024 .f32) := by
  refine (dats m 0 c).arrAt_eq_of_covers 7 _ (by decide +kernel) fun t _ y => ?_
  blk_simp
  rw [after0_7]
  have e : y = ix3 0 (y 1) (y 2) := by blk_ext
  refine Eq.trans (congrArg _ e) ((out7_at (holds m c t) (y 2) (y 1)).trans ?_)
  have h0 : (win0_7.blk t).view.emb y 0 = ly t := by
    apply Fin.ext
    blk_simp [idx t]
  have h1 : (win0_7.blk t).view.emb y 1 = y 1 := by
    apply Fin.ext
    blk_simp [idx t]
  have h2 : (win0_7.blk t).view.emb y 2 = y 2 := by
    apply Fin.ext
    blk_simp [idx t]
  rw [h0, h1, h2]

end Cert.DiscIdeal.Arrays
-- ==== Proof.DiscClaim.lean ====
/- The discretisation's value facts joined: the kernel's result arrays and the reference's results are the same functions
   of the same operands. -/
module

public import proofs.«01_k».proof.Defs
public import proofs.«01_k».proof.Proof.FfnClaim
public import proofs.«01_k».proof.Proof.DiscRef
public import proofs.«01_k».proof.Proof.DiscValue
public import Idealize.ShloMosaic.Lib.Claim

@[expose] public section
set_option maxRecDepth 16384
noncomputable section
open Idealize.ShloMosaic Idealize.ShloMosaic.TcCoe Idealize.SL.Sem

namespace Cert.DiscClaim
open Cert.DiscSpec
open Cert.FfnClaim (ext3)

/-- The reference's first result, whole. -/
theorem ref1 (A : Args) : Cert.DiscRefIdeal.Read.val_main_v44 (F := Ideal) A.lre A.lim A.ldt
    = (fun i => ab A (i 0) (i 2) (i 1) : FVec Ideal ⟨3, ![2, 2, 1024]⟩ .f32) :=
  ext3 fun l k s => Cert.DiscRefIdeal.Read.res1_at A l s k

/-- The reference's second result, whole. -/
theorem ref2 (A : Args) : Cert.DiscRefIdeal.Read.val_main_v46 (F := Ideal) A.lre A.lim A.ldt A.b
    = (fun i => bbr A (i 0) (i 2) (i 1) : FVec Ideal ⟨3, ![2, 16, 1024]⟩ .f32) :=
  ext3 fun l r s => Cert.DiscRefIdeal.Read.res2_at A l s r

/-- The reference's third result, whole. -/
theorem ref3 (A : Args) : Cert.DiscRefIdeal.Read.val_main_v48 (F := Ideal) A.lre A.lim A.ldt A.b
    = (fun i => bbi A (i 0) (i 2) (i 1) : FVec Ideal ⟨3, ![2, 16, 1024]⟩ .f32) :=
  ext3 fun l r s => Cert.DiscRefIdeal.Read.res3_at A l s r

/-- The claim: both programs run, end with equal results, and leave their arguments as they were. -/
theorem algebraic : Cert.algebraic_DiscIdeal_DiscRefIdeal := by
  pair_intro
  · run_from Cert.DiscIdeal.Gen.run_main m g
  · run_from Cert.DiscRefIdeal.Value.run m' g'
    · exact (ref1 (Cert.DiscIdeal.Arrays.args m c)).trans (Cert.DiscIdeal.Arrays.final5 m c).symm
    · exact (ref2 (Cert.DiscIdeal.Arrays.args m c)).trans (Cert.DiscIdeal.Arrays.final6 m c).symm
    · exact (ref3 (Cert.DiscIdeal.Arrays.args m c)).trans (Cert.DiscIdeal.Arrays.final7 m c).symm

/-- The reference runs to the end and leaves its arguments as they were. -/
theorem ref_frame : Cert.quiescent_DiscRefIdeal := by
  intro m ρ _
  exact (θ_run Cert.DiscRefIdeal.defs _ _).mono (fun r h => ⟨fun c => (h c).2.2.2, sem_eq_zero_of_no_sems (by decide) r.2⟩)
    (Cert.DiscRefIdeal.Value.run m ρ)

end Cert.DiscClaim
-- ==== Proof.RopeSpec.lean ====
/- The rotary tables, entry by entry, over the extended reals: no program appears here.  Half a row of a table has
   sixty-four frequencies; frequency `j` turns by `10000 ^ (-j / 64)` per position. -/
module

public import Idealize.ShloMosaic.Lib.Pipeline.ValueKit
public import Idealize.ShloMosaic.Lib.Pointwise

@[expose] public section
noncomputable section
open Idealize.ShloMosaic

namespace Cert.RopeSpec

/-- The logarithm of the ratio of two neighbouring frequencies. -/
def step : EReal := (((-(Real.log 10000)) * 64⁻¹ : ℝ) : EReal)

/-- The angle of frequency `j` at position `p`. -/
def ang (p j : ℕ) : EReal := (((p : ℤ) : ℝ) : EReal) * Ideal.exp ((((j : ℤ) : ℝ) : EReal) * step)

/-- The table of cosines: both halves of a row are the same. -/
def cosT (p : ℕ) (d : Fin 128) : EReal := Ideal.cos (ang p (d.val % 64))

/-- The table of sines: the first half of a row is negated. -/
def sinT (p : ℕ) (d : Fin 128) : EReal :=
  if d.val < 64 then -Ideal.sin (ang p (d.val % 64)) else Ideal.sin (ang p (d.val % 64))

/-- A small word, read as an integer. -/
theorem int_of_small (n : ℕ) (h : n < 2 ^ 31) : (BitVec.ofNat 32 n).toInt = (n : ℤ) := by
  rw [BitVec.toInt_ofNat']
  simp only [Int.bmod_def]
  omega

/-- A small word, read as a number. -/
theorem read_of_small (n : ℕ) (h : n < 2 ^ 31) :
    FloatOps.sitofp (F := Ideal) .f32 (BitVec.ofNat 32 n) = ((((n : ℤ) : ℝ)) : EReal) := by
  show (((BitVec.ofNat 32 n).toInt : ℝ) : EReal) = _
  rw [int_of_small n h]

/-- A position's word: a step's first position, moved by the start, plus the row. -/
theorem position (r t b q : ℕ) :
    IntOp.addi (BitVec.ofNat 32 r) (Scalar.addi (Scalar.muli (BitVec.ofNat 32 t) (BitVec.ofNat 32 b)) (BitVec.ofNat 32 q))
      = BitVec.ofNat 32 (r + (t * b + q)) := by
  show BitVec.ofNat 32 r + (BitVec.ofNat 32 t * BitVec.ofNat 32 b + BitVec.ofNat 32 q) = _
  rw [BitVec.ofNat_add, BitVec.ofNat_add, BitVec.ofNat_mul]

/-- A lane's frequency. -/
theorem lane : ∀ d : Fin 128,
    Scalar.select (IntOp.cmpi CmpIPredicate.sge (BitVec.ofNat 32 d.val) 64#32) (IntOp.subi (BitVec.ofNat 32 d.val) 64#32)
      (BitVec.ofNat 32 d.val) = BitVec.ofNat 32 (d.val % 64) := by
  decide +kernel

/-- Which half of the row a lane lies in. -/
theorem half : ∀ d : Fin 128, IntOp.cmpi CmpIPredicate.sge (BitVec.ofNat 32 d.val) 64#32 = if d.val < 64 then 0#1 else 1#1 := by
  decide +kernel

/-- The choice between the two halves. -/
theorem choose (d : Fin 128) (a b : EReal) :
    Scalar.select (IntOp.cmpi CmpIPredicate.sge (BitVec.ofNat 32 d.val) 64#32) a b = if d.val < 64 then b else a := by
  rw [half]
  split <;> rfl

theorem base_val : Ideal.ofBits .f32 1176256512#32 = ((10000 : ℝ) : EReal) := by
  simp [Ideal.ofBits, Ideal.ieee, -EReal.coe_mul]
  norm_num

theorem half_val : Ideal.ofBits .f32 1115684864#32 = ((64 : ℝ) : EReal) := by
  simp [Ideal.ofBits, Ideal.ieee, -EReal.coe_mul]
  norm_num

/-- The reference's power is the kernel's exponential. -/
theorem freq (j : ℕ) :
    Ideal.pow (Ideal.ofBits .f32 1176256512#32) (Ideal.div (-(((j : ℤ) : ℝ) : EReal)) (Ideal.ofBits .f32 1115684864#32))
      = Ideal.exp ((((j : ℤ) : ℝ) : EReal) * step) := by
  rw [base_val, half_val, ← EReal.coe_neg, Ideal.div_coe (by norm_num), step, ← EReal.coe_mul]
  show ((Real.rpow 10000 (_ : ℝ) : ℝ) : EReal) = ((Real.exp _ : ℝ) : EReal)
  congr 1
  rw [Real.rpow_eq_pow, Real.rpow_def_of_pos (by norm_num)]
  congr 1
  ring

end Cert.RopeSpec
-- ==== Proof.RopeRef.lean ====
/- The references of the rotary tables, read entry by entry: the results are the tables of `Cert.RopeSpec`, of the prompt
   batch's positions and of the sample batch's, which come 2048 later. -/
module

public import proofs.«01_k».proof.Proof.Gen.RopeRefIdeal.Run
public import proofs.«01_k».proof.Proof.Gen.RopeRefIdeal.Read
public import proofs.«01_k».proof.Proof.Gen.RopeSampleRefIdeal.Run
public import proofs.«01_k».proof.Proof.Gen.RopeSampleRefIdeal.Read
public import proofs.«01_k».proof.Proof.RopeSpec

@[expose] public section
set_option maxRecDepth 16384
noncomputable section
open Idealize.ShloMosaic Idealize.ShloMosaic.TcCoe Idealize.SL.Sem

namespace Cert.RopeSpec

/-- A row whose two halves come from the same frequencies, the first half negated, is a row of `sinT`. -/
theorem sin_halves (p : ℕ) (d : Fin 128) (f : Fin 64 → EReal) (hf : ∀ j : Fin 64, f j = ang p j.val) :
    (if h : d.val < 64 then -Ideal.sin (f ⟨d.val, h⟩) else Ideal.sin (f ⟨d.val - 64, by omega⟩)) = sinT p d := by
  unfold sinT
  split
  · rename_i h
    rw [hf, Nat.mod_eq_of_lt h]
  · rename_i h
    rw [hf, show d.val % 64 = d.val - 64 by omega]

/-- Likewise for `cosT`. -/
theorem cos_halves (p : ℕ) (d : Fin 128) (f : Fin 64 → EReal) (hf : ∀ j : Fin 64, f j = ang p j.val) :
    (if h : d.val < 64 then Ideal.cos (f ⟨d.val, h⟩) else Ideal.cos (f ⟨d.val - 64, by omega⟩)) = cosT p d := by
  unfold cosT
  split
  · rename_i h
    rw [hf, Nat.mod_eq_of_lt h]
  · rename_i h
    rw [hf, show d.val % 64 = d.val - 64 by omega]

end Cert.RopeSpec

namespace Cert.RopeRefIdeal.Read
open Cert.RopeSpec

/-- The angles of the prompt batch's reference. -/
theorem ang_at (r : Fin 2048) (j : Fin 64) : val_main_v12 (F := Ideal) (ix2 r j) = ang r.val j.val := by
  pointwise [val_main_v12, val_main_v11, val_main_v10, val_main_v9, val_main_v8, val_main_v7, val_main_v6, val_main_v5,
    val_main_v4, val_main_v3, val_main_v2, val_main_v1, val_main_v0, val_main_cst, val_main_cst_0]
  rw [read_of_small r.val (by omega), read_of_small j.val (by omega), freq]
  rfl

theorem res1_at (r : Fin 2048) (d : Fin 128) : val_main_v15 (F := Ideal) (ix2 r d) = cosT r.val d := by
  pointwise [val_main_v15, val_main_v13]
  exact cos_halves r.val d (fun j => val_main_v12 (F := Ideal) (ix2 r j)) (ang_at r)

theorem res2_at (r : Fin 2048) (d : Fin 128) : val_main_v17 (F := Ideal) (ix2 r d) = sinT r.val d := by
  pointwise [val_main_v17, val_main_v16, val_main_v14]
  exact sin_halves r.val d (fun j => val_main_v12 (F := Ideal) (ix2 r j)) (ang_at r)

end Cert.RopeRefIdeal.Read

namespace Cert.RopeSampleRefIdeal.Read
open Cert.RopeSpec

/-- The angles of the sample batch's reference. -/
theorem ang_at (r : Fin 64) (j : Fin 64) : val_main_v14 (F := Ideal) (ix2 r j) = ang (2048 + r.val) j.val := by
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_c]
  rw [show IntOp.addi 2048#32 (BitVec.ofNat 32 r.val) = BitVec.ofNat 32 (2048 + r.val) from (BitVec.ofNat_add ..).symm,
    read_of_small (2048 + r.val) (by omega), read_of_small j.val (by omega), freq]
  rfl

theorem res1_at (r : Fin 64) (d : Fin 128) : val_main_v17 (F := Ideal) (ix2 r d) = cosT (2048 + r.val) d := by
  pointwise [val_main_v17, val_main_v15]
  exact cos_halves (2048 + r.val) d (fun j => val_main_v14 (F := Ideal) (ix2 r j)) (ang_at r)

theorem res2_at (r : Fin 64) (d : Fin 128) : val_main_v19 (F := Ideal) (ix2 r d) = sinT (2048 + r.val) d := by
  pointwise [val_main_v19, val_main_v18, val_main_v16]
  exact sin_halves (2048 + r.val) d (fun j => val_main_v14 (F := Ideal) (ix2 r j)) (ang_at r)

end Cert.RopeSampleRefIdeal.Read
-- ==== Proof.RopeValue.lean ====
/- From the table kernel's body to its two result arrays, of the prompt batch: step `t` of the grid writes rows
   `256 * t` to `256 * t + 255`. -/
module

public import proofs.«01_k».proof.Proof.RopeIdealFrame
public import proofs.«01_k».proof.Proof.RopeSpec

@[expose] public section
set_option maxRecDepth 16384
noncomputable section
open Idealize.ShloMosaic Idealize.ShloMosaic.TcCoe Idealize.SL.Sem
open Idealize.ShloMosaic.Pipeline (Dat)

namespace Cert.RopeIdeal.Arrays
open Cert.RopeIdeal Cert.RopeIdeal.Gen Cert.RopeIdeal.Body Cert.RopeSpec

/-- The named constant is `step`. -/
theorem step_val : Named.named (F := Ideal) κ "rope_step" (φ := .f32) 0xBE135D8E#32 = step :=
  IdealRules.named_const.ideal_named_scalar _ _ _ _ rfl

variable (i : grid0.Coords) (r : Fin 256) (d : Fin 128)

/-- The position of a row of a step's block. -/
abbrev pos : ℕ := r.val + ((i 0).val * 256 + 0)

theorem ang_at : k0_pay1 (F := Ideal) i (ix2 r d) = ang (pos i r) (d.val % 64) := by
  have hi : (i 0).val < 8 := (i 0).isLt
  have hp : pos i r < 2 ^ 31 := by
    show r.val + ((i 0).val * 256 + 0) < _
    omega
  pointwise [k0_pay1]
  rw [position r.val (i 0).val 256 0, lane, read_of_small (pos i r) hp, read_of_small (d.val % 64) (by omega), step_val]
  rfl

theorem cos_at : out0_0 (F := Ideal) i (ix2 r d) = cosT (pos i r) d := by
  have h := ang_at i r d
  simp (disch := decide) only [out0_0, k0_pay2, View.canon_cons_unit_lit']
  pointwise
  rw [h]
  rfl

theorem sin_at : out0_1 (F := Ideal) i (ix2 r d) = sinT (pos i r) d := by
  have h := ang_at i r d
  simp (disch := decide) only [out0_1, View.canon_cons_unit_lit']
  pointwise [k0_pay3]
  rw [choose, h, zero_sub]
  rfl

variable (m : (ℓ : Loc nD τ sig) → Buf (Elt Ideal) ℓ)

/-- The blocks of point `t` lie at block row `t`, and the point's coordinate is `t`. -/
theorem idx : ∀ t : Fin cfg0.N, win0_0.index t = ![t.val, 0] ∧ win0_1.index t = ![t.val, 0] ∧ (grid0.coords t 0).val = t.val :=
  (by decide +kernel : ∀ t : Fin grid0.N, _)

/-- The table of cosines, whole. -/
theorem final0 (c : Dev nD) : (dats m 0 c).arrAt 0 cfg0.N = (fun i => cosT (i 0).val (i 1) : FVec Ideal S2048x128 .f32) := by
  refine (dats m 0 c).arrAt_eq_of_covers 0 _ (by decide +kernel) fun t _ y => ?_
  blk_simp
  rw [after0_0]
  have e : y = ix2 (y 0) (y 1) := by blk_ext
  refine Eq.trans (congrArg _ e) ((cos_at (grid0.coords t) (y 0) (y 1)).trans ?_)
  have h0 : win0_0.index t 0 * 256 + (y 0).val = pos (grid0.coords t) (y 0) := by
    show _ = (y 0).val + ((grid0.coords t 0).val * 256 + 0)
    rw [congrFun (idx t).1 0, (idx t).2.2]
    show t.val * 256 + _ = _
    omega
  have h1 : (win0_0.blk t).view.emb y 1 = y 1 := by
    apply Fin.ext
    blk_simp [idx t]
  rw [h1]
  exact congrArg (fun p => cosT p (y 1)) h0.symm

/-- The table of sines, whole. -/
theorem final1 (c : Dev nD) : (dats m 0 c).arrAt 1 cfg0.N = (fun i => sinT (i 0).val (i 1) : FVec Ideal S2048x128 .f32) := by
  refine (dats m 0 c).arrAt_eq_of_covers 1 _ (by decide +kernel) fun t _ y => ?_
  blk_simp
  rw [after0_1]
  have e : y = ix2 (y 0) (y 1) := by blk_ext
  refine Eq.trans (congrArg _ e) ((sin_at (grid0.coords t) (y 0) (y 1)).trans ?_)
  have h0 : win0_1.index t 0 * 256 + (y 0).val = pos (grid0.coords t) (y 0) := by
    show _ = (y 0).val + ((grid0.coords t 0).val * 256 + 0)
    rw [congrFun (idx t).2.1 0, (idx t).2.2]
    show t.val * 256 + _ = _
    omega
  have h1 : (win0_1.blk t).view.emb y 1 = y 1 := by
    apply Fin.ext
    blk_simp [idx t]
  rw [h1]
  exact congrArg (fun p => sinT p (y 1)) h0.symm

end Cert.RopeIdeal.Arrays
-- ==== Proof.RopeSampleValue.lean ====
/- From the table kernel's body to its two result arrays, of the sample batch: the grid has one step, which
   writes all sixty-four rows; row `r` is position `2048 + r`. -/
module

public import proofs.«01_k».proof.Proof.RopeSampleIdealFrame
public import proofs.«01_k».proof.Proof.RopeSpec

@[expose] public section
set_option maxRecDepth 16384
noncomputable section
open Idealize.ShloMosaic Idealize.ShloMosaic.TcCoe Idealize.SL.Sem
open Idealize.ShloMosaic.Pipeline (Dat)

namespace Cert.RopeSampleIdeal.Arrays
open Cert.RopeSampleIdeal Cert.RopeSampleIdeal.Gen Cert.RopeSampleIdeal.Body Cert.RopeSpec

/-- The named constant is `step`. -/
theorem step_val : Named.named (F := Ideal) κ "rope_step" (φ := .f32) 0xBE135D8E#32 = step :=
  IdealRules.named_const.ideal_named_scalar _ _ _ _ rfl

variable (i : grid0.Coords) (r : Fin 64) (d : Fin 128)

theorem ang_at : k0_pay1 (F := Ideal) i (ix2 r d) = ang (2048 + r.val) (d.val % 64) := by
  pointwise [k0_pay1]
  rw [position r.val 0 64 2048, show r.val + (0 * 64 + 2048) = 2048 + r.val by omega, lane,
    read_of_small (2048 + r.val) (by omega), read_of_small (d.val % 64) (by omega), step_val]
  rfl

theorem cos_at : out0_0 (F := Ideal) i (ix2 r d) = cosT (2048 + r.val) d := by
  have h := ang_at i r d
  simp (disch := decide) only [out0_0, k0_pay2, View.canon_cons_unit_lit']
  pointwise
  rw [h]
  rfl

theorem sin_at : out0_1 (F := Ideal) i (ix2 r d) = sinT (2048 + r.val) d := by
  have h := ang_at i r d
  simp (disch := decide) only [out0_1, View.canon_cons_unit_lit']
  pointwise [k0_pay3]
  rw [choose, h, zero_sub]
  rfl

variable (m : (ℓ : Loc nD τ sig) → Buf (Elt Ideal) ℓ)

/-- The one block of each result is the whole array. -/
theorem idx : ∀ t : Fin cfg0.N, win0_0.index t = ![0, 0] ∧ win0_1.index t = ![0, 0] :=
  (by decide +kernel : ∀ t : Fin grid0.N, _)

/-- The table of cosines, whole. -/
theorem final0 (c : Dev nD) :
    (dats m 0 c).arrAt 0 cfg0.N = (fun i => cosT (2048 + (i 0).val) (i 1) : FVec Ideal S64x128 .f32) := by
  refine (dats m 0 c).arrAt_eq_of_covers 0 _ (by decide +kernel) fun t _ y => ?_
  blk_simp
  rw [after0_0]
  have e : y = ix2 (y 0) (y 1) := by blk_ext
  refine Eq.trans (congrArg _ e) ((cos_at (grid0.coords t) (y 0) (y 1)).trans ?_)
  have h0 : win0_0.index t 0 * 64 + (y 0).val = (y 0).val := by
    rw [congrFun (idx t).1 0]
    show 0 * 64 + _ = _
    omega
  have h1 : (win0_0.blk t).view.emb y 1 = y 1 := by
    apply Fin.ext
    blk_simp [idx t]
  rw [h1]
  exact congrArg (fun p => cosT (2048 + p) (y 1)) h0.symm

/-- The table of sines, whole. -/
theorem final1 (c : Dev nD) :
    (dats m 0 c).arrAt 1 cfg0.N = (fun i => sinT (2048 + (i 0).val) (i 1) : FVec Ideal S64x128 .f32) := by
  refine (dats m 0 c).arrAt_eq_of_covers 1 _ (by decide +kernel) fun t _ y => ?_
  blk_simp
  rw [after0_1]
  have e : y = ix2 (y 0) (y 1) := by blk_ext
  refine Eq.trans (congrArg _ e) ((sin_at (grid0.coords t) (y 0) (y 1)).trans ?_)
  have h0 : win0_1.index t 0 * 64 + (y 0).val = (y 0).val := by
    rw [congrFun (idx t).2 0]
    show 0 * 64 + _ = _
    omega
  have h1 : (win0_1.blk t).view.emb y 1 = y 1 := by
    apply Fin.ext
    blk_simp [idx t]
  rw [h1]
  exact congrArg (fun p => sinT (2048 + p) (y 1)) h0.symm

end Cert.RopeSampleIdeal.Arrays
-- ==== Proof.RopeClaim.lean ====
/- The rotary tables' value facts joined: for either batch the kernel's result arrays and the reference's results are the
   same tables. -/
module

public import proofs.«01_k».proof.Defs
public import proofs.«01_k».proof.Proof.RopeRef
public import proofs.«01_k».proof.Proof.RopeValue
public import proofs.«01_k».proof.Proof.RopeSampleValue
public import Idealize.ShloMosaic.Lib.Claim

@[expose] public section
set_option maxRecDepth 16384
noncomputable section
open Idealize.ShloMosaic Idealize.ShloMosaic.TcCoe Idealize.SL.Sem

namespace Cert.RopeClaim
open Cert.RopeSpec

/-- Two tables with the same entries are the same. -/
theorem ext2 {N M : ℕ} {f g : FVec Ideal ⟨2, ![N, M]⟩ .f32} (h : ∀ (r : Fin N) (d : Fin M), f (ix2 r d) = g (ix2 r d)) :
    f = g := by
  funext x
  have e : x = ix2 (x 0) (x 1) := by blk_ext
  rw [e]
  exact h _ _

/-- The prompt batch's reference tables, whole. -/
theorem prompt_cos : Cert.RopeRefIdeal.Read.val_main_v15 (F := Ideal)
    = (fun i => cosT (i 0).val (i 1) : FVec Ideal ⟨2, ![2048, 128]⟩ .f32) := ext2 Cert.RopeRefIdeal.Read.res1_at

theorem prompt_sin : Cert.RopeRefIdeal.Read.val_main_v17 (F := Ideal)
    = (fun i => sinT (i 0).val (i 1) : FVec Ideal ⟨2, ![2048, 128]⟩ .f32) := ext2 Cert.RopeRefIdeal.Read.res2_at

/-- The sample batch's reference tables, whole. -/
theorem sample_cos : Cert.RopeSampleRefIdeal.Read.val_main_v17 (F := Ideal)
    = (fun i => cosT (2048 + (i 0).val) (i 1) : FVec Ideal ⟨2, ![64, 128]⟩ .f32) := ext2 Cert.RopeSampleRefIdeal.Read.res1_at

theorem sample_sin : Cert.RopeSampleRefIdeal.Read.val_main_v19 (F := Ideal)
    = (fun i => sinT (2048 + (i 0).val) (i 1) : FVec Ideal ⟨2, ![64, 128]⟩ .f32) := ext2 Cert.RopeSampleRefIdeal.Read.res2_at

/-- The constant's name stands for its value, in either program. -/
theorem prompt_preserves : Cert.preserves_Rope_RopeIdeal :=
  IdealRules.named_const.statement Cert.RopeIdeal.κ "rope_step" .f32 0xBE135D8E#32
    (((-(Real.log 10000)) * 64⁻¹ : ℝ) : EReal) rfl

theorem sample_preserves : Cert.preserves_RopeSample_RopeSampleIdeal :=
  IdealRules.named_const.statement Cert.RopeSampleIdeal.κ "rope_step" .f32 0xBE135D8E#32
    (((-(Real.log 10000)) * 64⁻¹ : ℝ) : EReal) rfl

/-- The claim for the prompt batch: both programs run and end with equal tables. -/
theorem prompt_algebraic : Cert.algebraic_RopeIdeal_RopeRefIdeal := by
  pair_intro
  · run_from Cert.RopeIdeal.Body.run_main m g
  · run_from Cert.RopeRefIdeal.Value.run m' g'
    · exact prompt_cos.trans (Cert.RopeIdeal.Arrays.final0 m c).symm
    · exact prompt_sin.trans (Cert.RopeIdeal.Arrays.final1 m c).symm

/-- The claim for the sample batch. -/
theorem sample_algebraic : Cert.algebraic_RopeSampleIdeal_RopeSampleRefIdeal := by
  pair_intro
  · run_from Cert.RopeSampleIdeal.Body.run_main m g
  · run_from Cert.RopeSampleRefIdeal.Value.run m' g'
    · exact sample_cos.trans (Cert.RopeSampleIdeal.Arrays.final0 m c).symm
    · exact sample_sin.trans (Cert.RopeSampleIdeal.Arrays.final1 m c).symm

/-- The references run to the end. -/
theorem prompt_frame : Cert.quiescent_RopeRefIdeal := by
  intro m ρ _
  exact (θ_run Cert.RopeRefIdeal.defs _ _).mono (fun r _ => ⟨fun _ => trivial, sem_eq_zero_of_no_sems (by decide) r.2⟩)
    (Cert.RopeRefIdeal.Value.run m ρ)

theorem sample_frame : Cert.quiescent_RopeSampleRefIdeal := by
  intro m ρ _
  exact (θ_run Cert.RopeSampleRefIdeal.defs _ _).mono (fun r _ => ⟨fun _ => trivial, sem_eq_zero_of_no_sems (by decide) r.2⟩)
    (Cert.RopeSampleRefIdeal.Value.run m ρ)

end Cert.RopeClaim
-- ==== Proof.CarryRef.lean ====
/- The rows the mixer's convolution carries on: what they are, as a function of the operands, and the reference read
   entry by entry as that function. -/
module

public import proofs.«01_k».proof.Proof.Gen.CarryRefIdeal.Run
public import proofs.«01_k».proof.Proof.Gen.CarryRefIdeal.Read
public import proofs.«01_k».proof.Proof.FfnSpec

@[expose] public section
set_option maxRecDepth 16384
noncomputable section
open Idealize.ShloMosaic Idealize.ShloMosaic.TcCoe Idealize.SL.Sem

namespace Cert.CarrySpec

/-- The operands the carried rows depend on: tokens, the norm's gains and the input projection. -/
structure Args where
  x : FVec Ideal ⟨3, ![4, 512, 1024]⟩ .f32
  nw : FVec Ideal ⟨2, ![2, 1024]⟩ .f32
  w : FVec Ideal ⟨3, ![2, 1024, 2816]⟩ .f32

variable (A : Args)

/-- The normalised token: divided by the root of the row's mean square, times the gain of layer 1. -/
def hn (g : Fin 4) (r : Fin 512) (d : Fin 1024) : EReal :=
  A.x (ix3 g r d)
      * Ideal.rsqrt (Ideal.div (∑ k : Fin 1024, A.x (ix3 g r k) * A.x (ix3 g r k)) (Ideal.ofBits .f32 0x44800000#32)
          + Ideal.ofBits .f32 0x358637BD#32)
    * A.nw (ix2 1 d)

/-- The convolution's input: the normalised row through columns 2048 to 2303 of the input projection. -/
def proj (g : Fin 4) (r : Fin 512) (c : Fin 256) : EReal := ∑ d : Fin 1024, hn A g r d * A.w (ix3 1 d ⟨2048 + c.val, by omega⟩)

/-- The rows carried on: the last twenty-four, three positions of eight streams. -/
def carry (g : Fin 4) (r : Fin 24) (c : Fin 256) : EReal := proj A g ⟨488 + r.val, by omega⟩ c

end Cert.CarrySpec

namespace Cert.CarryRefIdeal.Read
open Cert.CarrySpec

variable (A : Args) (st : FVec Ideal ⟨4, ![2, 32, 3, 256]⟩ .f32)

/-- Stream `i` of group `g` among all thirty-two. -/
abbrev sq (g : Fin 4) (i : Fin 8) : Fin 32 := ⟨g.val * 8 + i.val, by omega⟩
/-- The row of position `t` of stream `i` in its group. -/
abbrev rw8 (t : Fin 64) (i : Fin 8) : Fin 512 := ⟨t.val * 8 + i.val, by omega⟩

/-- The tokens of one stream, taken out of their group. -/
theorem streams_at (g : Fin 4) (i : Fin 8) (t : Fin 64) (d : Fin 1024) :
    val_main_v2 (F := Ideal) A.x (ix3 (sq g i) t d) = A.x (ix3 g (rw8 t i) d) := by
  pointwise [val_main_v2, val_main_v1, val_main_v0]
  congr 2 <;> apply Fin.ext <;> simp <;> omega

/-- The norm's output is `hn`. -/
theorem norm_at (g : Fin 4) (i : Fin 8) (t : Fin 64) (d : Fin 1024) :
    val_main_v17 (F := Ideal) A.x A.nw (ix3 (sq g i) t d) = hn A g (rw8 t i) d := by
  have hs := streams_at A g i t
  pointwise [val_main_v17, val_main_v16, val_main_v15, val_main_v14, val_main_v13, val_main_v12, val_main_v11,
    val_main_v10, val_main_v9, val_main_v8, val_main_v7, val_main_v6, val_main_v5, val_main_v4, val_main_v3,
    val_main_cst, val_main_cst_0, val_main_cst_1]
  simp only [hs, hn]

/-- The projection is `proj`. -/
theorem proj_at (g : Fin 4) (i : Fin 8) (t : Fin 64) (c : Fin 256) :
    val_main_v21 (F := Ideal) A.x A.nw A.w (ix3 (sq g i) t c) = proj A g (rw8 t i) c := by
  have hs := norm_at A g i t
  pointwise [val_main_v21, val_main_v20, val_main_v19, val_main_v18]
  simp only [hs, proj]

/-- The result, entry by entry. -/
theorem res_at (g : Fin 4) (r : Fin 24) (c : Fin 256) :
    val_main_v28 (F := Ideal) A.x st A.nw A.w (ix3 g r c) = carry A g r c := by
  have hs := proj_at A g ⟨r.val % 8, by omega⟩ ⟨61 + r.val / 8, by omega⟩ c
  pointwise [val_main_v28, val_main_v27, val_main_v26, val_main_v25, val_main_v24]
  rw [dif_neg (by simp; omega)]
  refine (Eq.trans ?_ hs).trans ?_
  · congr 2 <;> apply Fin.ext <;> simp <;> omega
  · rw [carry]
    congr 1; apply Fin.ext; simp; omega

/-- The result, whole. -/
theorem res : val_main_v28 (F := Ideal) A.x st A.nw A.w = (fun i => carry A (i 0) (i 1) (i 2) : FVec Ideal ⟨3, ![4, 24, 256]⟩ .f32) := by
  funext i
  have e : i = ix3 (i 0) (i 1) (i 2) := eq_ix3 i
  exact (congrArg _ e).trans (res_at A st _ _ _)

end Cert.CarryRefIdeal.Read
-- ==== Proof.CarryValue.lean ====
/- From one run of the mixer's body to the rows its convolution carries on: what a grid point stores is the last rows of
   its group's projection, and the four points' blocks make up the result. -/
module

public import proofs.«01_k».proof.Proof.CarryIdealFrame
public import proofs.«01_k».proof.Proof.CarryRef
public import proofs.«01_k».proof.Proof.Stores
public import Idealize.ShloMosaic.Lib.Pipeline.Value

@[expose] public section
set_option maxRecDepth 16384
noncomputable section
open Idealize.ShloMosaic Idealize.ShloMosaic.TcCoe Idealize.SL.Sem
open Idealize.ShloMosaic.Pipeline (Dat)

namespace Cert.CarryIdeal.Arrays
open Cert.CarryIdeal Cert.CarryIdeal.Gen Cert.CarrySpec

variable (m : (ℓ : Loc nD τ sig) → Buf (Elt Ideal) ℓ)

/-- The operands, as device `c` is launched with them. -/
def args (c : Dev nD) : Args where
  x := m ((c : Thread nD τ).loc main_arg0)
  nw := m ((c : Thread nD τ).loc main_arg10)
  w := m ((c : Thread nD τ).loc main_arg11)

/-- The group a grid point works on. -/
abbrev grp (t : Fin cfg0.N) : Fin 4 := ⟨t.val, t.isLt⟩

/-- Where the blocks of point `t` lie: tokens and carried rows at group `t`, gains and projection at the layer. -/
theorem idx : ∀ t : Fin cfg0.N, win0_0.index t = ![t.val, 0, 0] ∧ win0_10.index t = ![1, 0, 0]
    ∧ win0_11.index t = ![1, 0, 0] ∧ win0_29.index t = ![t.val, 0, 0] :=
  (by decide +kernel : ∀ t : Fin grid0.N, _)

/-- The tokens handed to the body at point `t`. -/
theorem x_at (c : Dev nD) (t : Fin cfg0.N) (r : Fin 512) (d : Fin 1024) :
    iblk m c 0 t (ix3 0 r d) = (args m c).x (ix3 (grp t) r d) := by
  show iblk m c 0 t (ix3 0 r d) = (m ((c : Thread nD τ).loc main_arg0)) (ix3 (grp t) r d)
  blk_point [iblk, V, idx t]

/-- The norm's gains handed to it. -/
theorem nw_at (c : Dev nD) (t : Fin cfg0.N) (d : Fin 1024) : iblk m c 10 t (ix3 0 0 d) = (args m c).nw (ix2 1 d) := by
  show iblk m c 10 t (ix3 0 0 d) = (m ((c : Thread nD τ).loc main_arg10)) (ix2 1 d)
  blk_point [iblk, V, idx t]

/-- The input projection handed to it. -/
theorem w_at (c : Dev nD) (t : Fin cfg0.N) (d : Fin 1024) (k : Fin 2816) :
    iblk m c 11 t (ix3 0 d k) = (args m c).w (ix3 1 d k) := by
  show iblk m c 11 t (ix3 0 d k) = (m ((c : Thread nD τ).loc main_arg11)) (ix3 1 d k)
  blk_point [iblk, V, idx t]

section Body
variable {A : Args} {g : Fin 4} (c : Dev nD) (arg2 : Memref sig .tc .vmem S1x512x1024 .f32) (harg2 : arg2.IsWhole)
  (arg7 : Memref sig .tc .vmem S1x1x24x256 .f32) (harg7 : arg7.IsWhole)
  (arg12 : Memref sig .tc .vmem S1x1x1024 .f32) (harg12 : arg12.IsWhole)
  (arg13 : Memref sig .tc .vmem S1x1024x2816 .bf16) (harg13 : arg13.IsWhole)
  (arg33 : Memref sig .tc .vmem S512x1024 .bf16) (arg40 : Memref sig .tc .vmem S536x256 .f32)
  (x0 : Vec Ideal S1x512x1024 .f32) (x5 : Vec Ideal S1x1x24x256 .f32) (x10 : Vec Ideal S1x1x1024 .f32)
  (x11 : Vec Ideal S1x1024x2816 .bf16)

/-- The normalised rows, as the projection loads them. -/
theorem h_at (h0 : ∀ r d, x0 (ix3 0 r d) = A.x (ix3 g r d)) (h10 : ∀ d, x10 (ix3 0 0 d) = A.nw (ix2 1 d))
    (r : Fin 512) (d : Fin 1024) :
    kernelRun0_A.sl.v25 (F := Ideal) c arg2 harg2 arg12 harg12 arg33 x0 x10 (ix2 r d) = hn A g r d := by
  simp (disch := decide) only [kernelRun0_A.sl.v25, kernelRun0_A.sl.HS0_1, View.readCov_unit_lit', View.readAt_eq_ld,
    Memref.IsWhole.read_unread]
  pointwise [k0_pay72]
  simp only [h0, h10, hn]

/-- The last twenty-four rows of the convolution's buffer: the last rows of the projection. -/
theorem rows_at (h0 : ∀ r d, x0 (ix3 0 r d) = A.x (ix3 g r d)) (h10 : ∀ d, x10 (ix3 0 0 d) = A.nw (ix2 1 d))
    (h11 : ∀ d k, x11 (ix3 0 d k) = A.w (ix3 1 d k)) (r : Fin 24) (k : Fin 256) :
    kernelRun0_A.sl.v99 (F := Ideal) c arg2 harg2 arg7 harg7 arg12 harg12 arg13 harg13 arg33 arg40 x0 x5 x10 x11 (ix2 r k)
      = carry A g r k := by
  have hh := h_at c arg2 harg2 arg12 harg12 arg33 x0 x10 h0 h10
  rw [kernelRun0_A.sl.v99, Stores.load2 _ _ _ _ _ ⟨512 + r.val, by omega⟩ k (by simp) (by simp), kernelRun0_A.sl.HS7_2,
    Stores.hit2 _ _ _ _ _ ⟨488 + r.val, by omega⟩ k (by simp; omega) (by simp)]
  simp (disch := decide) only [kernelRun0_A.sl.r_2, View.readAt_eq_ld, Memref.IsWhole.read_unread]
  pointwise [k0_pay75, k0_pay74, k0_pay73]
  simp only [hh, h11, carry, proj]

end Body

/-- What point `t` stores in its block of the carried rows. -/
theorem stored29 (c : Dev nD) (t : Fin cfg0.N) (r : Fin 24) (k : Fin 256) :
    Body.out29 m c t (ix3 0 r k) = carry (args m c) (grp t) r k := by
  refine Eq.trans ?_ (rows_at c (ms0_0 t) (hs0_0 t) (ms0_5 t) (hs0_5 t) (ms0_10 t) (hs0_10 t) (ms0_11 t) (hs0_11 t)
    scM0_0 scM0_7 (iblk m c 0 t) (iblk m c 5 t) (iblk m c 10 t) (iblk m c 11 t) (x_at m c t) (nw_at m c t) (w_at m c t) r k)
  have e : (Body.run m c t).2.2.2.1 = [⟨Rect.unit (s := S1x24x256) ![0, 0, 0] S1x24x256.size inb_S1x24x256_S1x24x256_0_0_0,
      k0_pay89 (kernelRun0_A.sl.v99 (F := Ideal) c (ms0_0 t) (hs0_0 t) (ms0_5 t) (hs0_5 t) (ms0_10 t) (hs0_10 t) (ms0_11 t)
        (hs0_11 t) scM0_0 scM0_7 (iblk m c 0 t) (iblk m c 5 t) (iblk m c 10 t) (iblk m c 11 t))⟩] := by
    rfl
  rw [Body.out29, View.read_writes_junk_eq_canon, e, Stores.hit3 _ _ _ _ _ _ 0 r k (by simp) (by simp) (by simp)]
  pointwise [k0_pay89]

set_option maxHeartbeats 2000000 in
/-- The result array is the rows carried on. -/
theorem final29 (c : Dev nD) : (Body.dats m 0 c).arrAt 29 cfg0.N
    = (fun i => carry (args m c) (i 0) (i 1) (i 2) : FVec Ideal S4x24x256 .f32) := by
  refine (Body.dats m 0 c).arrAt_eq_of_covers 29 _ (by decide +kernel) fun t _ y => ?_
  blk_simp
  have e : y = ix3 0 (y 1) (y 2) := by blk_ext
  refine Eq.trans (congrArg (Body.out29 m c t) e) ((stored29 m c t (y 1) (y 2)).trans ?_)
  have h0 : (win0_29.blk t).view.emb y 0 = grp t := by
    apply Fin.ext
    blk_simp [idx t]
  have h1 : (win0_29.blk t).view.emb y 1 = y 1 := by
    apply Fin.ext
    blk_simp [idx t]
  have h2 : (win0_29.blk t).view.emb y 2 = y 2 := by
    apply Fin.ext
    blk_simp [idx t]
  rw [h0, h1, h2]

end Cert.CarryIdeal.Arrays
-- ==== Proof.CarryClaim.lean ====
/- The mixer's carried rows: the kernel's result array and the reference's result are the same function of the same
   operands. -/
module

public import proofs.«01_k».proof.Defs
public import proofs.«01_k».proof.Proof.CarryValue
public import Idealize.ShloMosaic.Lib.Claim

@[expose] public section
set_option maxRecDepth 16384
noncomputable section
open Idealize.ShloMosaic Idealize.ShloMosaic.TcCoe Idealize.SL.Sem

namespace Cert.CarryClaim

/-- The claim: both programs run, end with equal results, and leave their arguments as they were. -/
theorem algebraic : Cert.algebraic_CarryIdeal_CarryRefIdeal := by
  intro m g m' g' _ hagree
  refine ⟨fun c => (Cert.CarryIdeal.Body.dats m 0 c).arrAt 29 Cert.CarryIdeal.cfg0.N, ?_, ?_⟩
  · exact θ_run_mono (θ_run_and (Cert.CarryIdeal.Body.run_main m g) (Cert.CarryIdeal.Gen.frame_of m g (Cert.CarryIdeal.Body.dats m)
      (Cert.CarryIdeal.Body.A_eq m) (Cert.CarryIdeal.Body.run_main m g))) fun r h c => ⟨(h.1 c).1 29, h.2 c⟩
  · refine θ_run_mono (Cert.CarryRefIdeal.Value.run m' g') fun r h c => ⟨(h c).1.trans ?_, (h c).2⟩
    obtain ⟨h0, h1, h2, h3, h4, h5, h6, h7, h8, h9, h10, h11, h12⟩ := hagree c
    rw [Cert.CarryRefIdeal.Read.val_main_v28_eq, h0, h5, h10, h11]
    exact (Cert.CarryRefIdeal.Read.res (Cert.CarryIdeal.Arrays.args m c) _).trans (Cert.CarryIdeal.Arrays.final29 m c).symm

/-- The reference runs to the end and leaves its arguments as they were. -/
theorem ref_frame : Cert.quiescent_CarryRefIdeal := by
  intro m ρ _
  exact (θ_run Cert.CarryRefIdeal.defs _ _).mono (fun r h => ⟨fun c => (h c).2, sem_eq_zero_of_no_sems (by decide) r.2⟩)
    (Cert.CarryRefIdeal.Value.run m ρ)

end Cert.CarryClaim
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.FfnIdeal.Value
public import proofs.«01_k».proof.Proof.Gen.LastIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.LastRefIdeal
public import proofs.«01_k».proof.Proof.Gen.LastRefIdeal.Run
public import proofs.«01_k».proof.Proof.Gen.LastRefIdeal.Read
public import proofs.«01_k».proof.Proof.Gen.Prompt
public import proofs.«01_k».proof.Proof.Gen.Prompt.Skeleton
public import proofs.«01_k».proof.Proof.Gen.Prompt.Launch
public import proofs.«01_k».proof.Proof.Gen.Prompt.Points
public import proofs.«01_k».proof.Proof.Gen.Prompt.Frame
public import proofs.«01_k».proof.Proof.Gen.PromptIdeal
public import proofs.«01_k».proof.Proof.Gen.PromptIdeal.Skeleton
public import proofs.«01_k».proof.Proof.Gen.PromptIdeal.Launch
public import proofs.«01_k».proof.Proof.Gen.PromptIdeal.Points
public import proofs.«01_k».proof.Proof.Gen.PromptIdeal.Frame
public import proofs.«01_k».proof.Proof.Gen.PromptIdeal.Value
public import proofs.«01_k».proof.Proof.Gen.PromptRefIdeal
public import proofs.«01_k».proof.Proof.Gen.PromptRefIdeal.Run
public import proofs.«01_k».proof.Proof.Gen.PromptRefIdeal.Read
public import proofs.«01_k».proof.Proof.Gen.PromptFfn
public import proofs.«01_k».proof.Proof.Gen.PromptFfn.Skeleton
public import proofs.«01_k».proof.Proof.Gen.PromptFfn.Launch
public import proofs.«01_k».proof.Proof.Gen.PromptFfn.Points
public import proofs.«01_k».proof.Proof.Gen.PromptFfn.Frame
public import proofs.«01_k».proof.Proof.Gen.PromptFfnIdeal
public import proofs.«01_k».proof.Proof.Gen.PromptFfnIdeal.Skeleton
public import proofs.«01_k».proof.Proof.Gen.PromptFfnIdeal.Launch
public import proofs.«01_k».proof.Proof.Gen.PromptFfnIdeal.Points
public import proofs.«01_k».proof.Proof.Gen.PromptFfnIdeal.Frame
public import proofs.«01_k».proof.Proof.Gen.PromptFfnIdeal.Value
public import proofs.«01_k».proof.Proof.Gen.PromptFfnRefIdeal
public import proofs.«01_k».proof.Proof.Gen.PromptFfnRefIdeal.Run
public import proofs.«01_k».proof.Proof.Gen.PromptFfnRefIdeal.Read
public import proofs.«01_k».proof.Proof.Gen.Disc
public import proofs.«01_k».proof.Proof.Gen.Disc.Skeleton
public import proofs.«01_k».proof.Proof.Gen.Disc.Launch
public import proofs.«01_k».proof.Proof.Gen.Disc.Points
public import proofs.«01_k».proof.Proof.Gen.Disc.Frame
public import proofs.«01_k».proof.Proof.Gen.DiscIdeal
public import proofs.«01_k».proof.Proof.Gen.DiscIdeal.Skeleton
public import proofs.«01_k».proof.Proof.Gen.DiscIdeal.Launch
public import proofs.«01_k».proof.Proof.Gen.DiscIdeal.Points
public import proofs.«01_k».proof.Proof.Gen.DiscIdeal.Frame
public import proofs.«01_k».proof.Proof.Gen.DiscIdeal.Value
public import proofs.«01_k».proof.Proof.Gen.DiscRefIdeal
public import proofs.«01_k».proof.Proof.Gen.DiscRefIdeal.Run
public import proofs.«01_k».proof.Proof.Gen.DiscRefIdeal.Read
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.RopeFrame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.RopeIdealFrame
public import proofs.«01_k».proof.Proof.Gen.RopeRefIdeal
public import proofs.«01_k».proof.Proof.Gen.RopeRefIdeal.Run
public import proofs.«01_k».proof.Proof.Gen.RopeRefIdeal.Read
public import proofs.«01_k».proof.Proof.Gen.RopeSample
public import proofs.«01_k».proof.Proof.Gen.RopeSample.Skeleton
public import proofs.«01_k».proof.Proof.Gen.RopeSample.Launch
public import proofs.«01_k».proof.Proof.Gen.RopeSample.Points
public import proofs.«01_k».proof.Proof.RopeSampleFrame
public import proofs.«01_k».proof.Proof.Gen.RopeSampleIdeal
public import proofs.«01_k».proof.Proof.Gen.RopeSampleIdeal.Skeleton
public import proofs.«01_k».proof.Proof.Gen.RopeSampleIdeal.Launch
public import proofs.«01_k».proof.Proof.Gen.RopeSampleIdeal.Points
public import proofs.«01_k».proof.Proof.RopeSampleIdealFrame
public import proofs.«01_k».proof.Proof.Gen.RopeSampleRefIdeal
public import proofs.«01_k».proof.Proof.Gen.RopeSampleRefIdeal.Run
public import proofs.«01_k».proof.Proof.Gen.RopeSampleRefIdeal.Read
public import proofs.«01_k».proof.Proof.Gen.Carry
public import proofs.«01_k».proof.Proof.Gen.Carry.Skeleton
public import proofs.«01_k».proof.Proof.Gen.Carry.Launch
public import proofs.«01_k».proof.Proof.Gen.Carry.Points
public import proofs.«01_k».proof.Proof.CarryFrame
public import proofs.«01_k».proof.Proof.Gen.CarryIdeal
public import proofs.«01_k».proof.Proof.Gen.CarryIdeal.Skeleton
public import proofs.«01_k».proof.Proof.Gen.CarryIdeal.Launch
public import proofs.«01_k».proof.Proof.Gen.CarryIdeal.Points
public import proofs.«01_k».proof.Proof.CarryIdealFrame
public import proofs.«01_k».proof.Proof.Gen.CarryRefIdeal
public import proofs.«01_k».proof.Proof.Gen.CarryRefIdeal.Run
public import proofs.«01_k».proof.Proof.Gen.CarryRefIdeal.Read
public import proofs.«01_k».proof.Proof.FfnClaim
public import proofs.«01_k».proof.Proof.LastClaim
public import proofs.«01_k».proof.Proof.PromptClaim
public import proofs.«01_k».proof.Proof.PromptFfnClaim
public import proofs.«01_k».proof.Proof.DiscClaim
public import proofs.«01_k».proof.Proof.RopeClaim
public import proofs.«01_k».proof.Proof.CarryClaim
public import Idealize.ShloMosaic.Adequacy
public import Idealize.ShloMosaic.Init

@[expose] public section

noncomputable section

namespace Cert.Proof

open Idealize.ShloMosaic Idealize.SL.Sem Cert.Ffn

theorem claim : Cert.Claim := ⟨Cert.Ffn.Gen.facts, Cert.FfnIdeal.Gen.facts, Cert.FfnRefIdeal.Gen.facts,
  Cert.Last.Gen.facts, Cert.LastIdeal.Gen.facts, Cert.LastRefIdeal.Gen.facts,
  Cert.Prompt.Gen.facts, Cert.PromptIdeal.Gen.facts, Cert.PromptRefIdeal.Gen.facts,
  Cert.PromptFfn.Gen.facts, Cert.PromptFfnIdeal.Gen.facts, Cert.PromptFfnRefIdeal.Gen.facts,
  Cert.Disc.Gen.facts, Cert.DiscIdeal.Gen.facts, Cert.DiscRefIdeal.Gen.facts,
  Cert.Rope.Gen.facts, Cert.RopeIdeal.Gen.facts, Cert.RopeRefIdeal.Gen.facts,
  Cert.RopeSample.Gen.facts, Cert.RopeSampleIdeal.Gen.facts, Cert.RopeSampleRefIdeal.Gen.facts,
  Cert.Carry.Gen.facts, Cert.CarryIdeal.Gen.facts, Cert.CarryRefIdeal.Gen.facts,
  fun m ρ _ => Cert.Ffn.Gen.frame m ρ, fun m ρ _ => Cert.FfnIdeal.Gen.frame m ρ, Cert.FfnClaim.ref_frame,
  fun m ρ _ => Cert.Last.Gen.frame m ρ, fun m ρ _ => Cert.LastIdeal.Gen.frame m ρ, Cert.LastClaim.ref_frame,
  fun m ρ _ => Cert.Prompt.Gen.frame m ρ, fun m ρ _ => Cert.PromptIdeal.Gen.frame m ρ, Cert.PromptClaim.ref_frame,
  fun m ρ _ => Cert.PromptFfn.Gen.frame m ρ, fun m ρ _ => Cert.PromptFfnIdeal.Gen.frame m ρ, Cert.PromptFfnClaim.ref_frame,
  fun m ρ _ => Cert.Disc.Gen.frame m ρ, fun m ρ _ => Cert.DiscIdeal.Gen.frame m ρ, Cert.DiscClaim.ref_frame,
  fun m ρ _ => Cert.Rope.Body.frame m ρ, fun m ρ _ => Cert.RopeIdeal.Body.frame m ρ, Cert.RopeClaim.prompt_frame,
  fun m ρ _ => Cert.RopeSample.Body.frame m ρ, fun m ρ _ => Cert.RopeSampleIdeal.Body.frame m ρ, Cert.RopeClaim.sample_frame,
  fun m ρ _ => Cert.Carry.Body.frame m ρ, fun m ρ _ => Cert.CarryIdeal.Body.frame m ρ, Cert.CarryClaim.ref_frame,
  trivial, Cert.FfnClaim.algebraic, trivial, Cert.LastClaim.algebraic, trivial, Cert.PromptClaim.algebraic,
  trivial, Cert.PromptFfnClaim.algebraic, trivial, Cert.DiscClaim.algebraic,
  Cert.RopeClaim.prompt_preserves, Cert.RopeClaim.prompt_algebraic, Cert.RopeClaim.sample_preserves, Cert.RopeClaim.sample_algebraic,
  trivial, Cert.CarryClaim.algebraic⟩

end Cert.Proof

end
